-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_layer [hPre_finite_layer : Cert.Pre_finite_layer.Facts] (m : (ℓ : Loc Cert.FfnIdeal.nD Cert.FfnIdeal.τ Cert.FfnIdeal.sig) → Buf (Elt Ideal) ℓ) : Prop :=
  ∀ c : Dev Cert.FfnIdeal.nD,
    (Cert.Pre_finite_layer.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_layer [hPre_finite_layer : Cert.Pre_finite_layer.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_layer.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInReferenceIdeal (m : (ℓ : Loc Cert.EvInReferenceIdeal.nD Cert.EvInReferenceIdeal.τ Cert.EvInReferenceIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInReferenceIdeal (m : (ℓ : Loc Cert.OdInReferenceIdeal.nD Cert.OdInReferenceIdeal.τ Cert.OdInReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OdOut (m : (ℓ : Loc Cert.OdOut.nD Cert.OdOut.τ Cert.OdOut.sig) → Buf (Elt Bits) ℓ) : Prop :=
  True

def Pre_OdOutIdeal (m : (ℓ : Loc Cert.OdOutIdeal.nD Cert.OdOutIdeal.τ Cert.OdOutIdeal.sig) → Buf (Elt Ideal) ℓ) : Prop :=
  True

def Pre_OdOutReferenceIdeal (m : (ℓ : Loc Cert.OdOutReferenceIdeal.nD Cert.OdOutReferenceIdeal.τ Cert.OdOutReferenceIdeal.sig) → Buf (Elt Ideal) ℓ) : Prop :=
  True

def Pre_OdOutB (m : (ℓ : Loc Cert.OdOutB.nD Cert.OdOutB.τ Cert.OdOutB.sig) → Buf (Elt Bits) ℓ) : Prop :=
  True

def Pre_OdOutBIdeal (m : (ℓ : Loc Cert.OdOutBIdeal.nD Cert.OdOutBIdeal.τ Cert.OdOutBIdeal.sig) → Buf (Elt Ideal) ℓ) : Prop :=
  True

def Pre_OdOutBReferenceIdeal (m : (ℓ : Loc Cert.OdOutBReferenceIdeal.nD Cert.OdOutBReferenceIdeal.τ Cert.OdOutBReferenceIdeal.sig) → Buf (Elt Ideal) ℓ) : Prop :=
  True

def Pre_OdQkv (m : (ℓ : Loc Cert.OdQkv.nD Cert.OdQkv.τ Cert.OdQkv.sig) → Buf (Elt Bits) ℓ) : Prop :=
  True

def Pre_OdQkvIdeal (m : (ℓ : Loc Cert.OdQkvIdeal.nD Cert.OdQkvIdeal.τ Cert.OdQkvIdeal.sig) → Buf (Elt Ideal) ℓ) : Prop :=
  True

def Pre_OdQkvReferenceIdeal (m : (ℓ : Loc Cert.OdQkvReferenceIdeal.nD Cert.OdQkvReferenceIdeal.τ Cert.OdQkvReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_layer [hFfnIdeal : Cert.FfnIdeal.Facts] [hPre_finite_layer : Cert.Pre_finite_layer.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_layer m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_layer [hFfnReferenceIdeal : Cert.FfnReferenceIdeal.Facts] [hPre_finite_layer : Cert.Pre_finite_layer.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_layer m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1)
      ∧ r.2.mem ((c.tc : Thread Cert.Tn.nD Cert.Tn.τ).loc Cert.Tn.main_arg2) = m ((c.tc : Thread Cert.Tn.nD Cert.Tn.τ).loc Cert.Tn.main_arg2))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
      ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1)
      ∧ r.2.mem ((c.tc : Thread Cert.TnReferenceIdeal.nD Cert.TnReferenceIdeal.τ).loc Cert.TnReferenceIdeal.main_arg2) = m ((c.tc : Thread Cert.TnReferenceIdeal.nD Cert.TnReferenceIdeal.τ).loc Cert.TnReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1)
      ∧ r.2.mem ((c.tc : Thread Cert.EvIn.nD Cert.EvIn.τ).loc Cert.EvIn.main_arg2) = m ((c.tc : Thread Cert.EvIn.nD Cert.EvIn.τ).loc Cert.EvIn.main_arg2))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1)
      ∧ r.2.mem ((c.tc : Thread Cert.EvInIdeal.nD Cert.EvInIdeal.τ).loc Cert.EvInIdeal.main_arg2) = m ((c.tc : Thread Cert.EvInIdeal.nD Cert.EvInIdeal.τ).loc Cert.EvInIdeal.main_arg2))
      ∧ r.2.sem = fun _ => 0)

def quiescent_EvInReferenceIdeal [hEvInReferenceIdeal : Cert.EvInReferenceIdeal.Facts] : Prop :=
  ∀ (m : (ℓ : Loc Cert.EvInReferenceIdeal.nD Cert.EvInReferenceIdeal.τ Cert.EvInReferenceIdeal.sig) → Buf (Elt Ideal) ℓ) (g : Dev Cert.EvInReferenceIdeal.nD → PrngReg), Pre_EvInReferenceIdeal m →
    θ_run (Cert.EvInReferenceIdeal.defs (F := Ideal)) (onTc (τ := Cert.EvInReferenceIdeal.τ) (Cert.EvInReferenceIdeal.main (F := Ideal))) ⟨m, fun _ => 0, g⟩ (fun r => (∀ c : Dev Cert.EvInReferenceIdeal.nD,
      r.2.mem ((c.tc : Thread Cert.EvInReferenceIdeal.nD Cert.EvInReferenceIdeal.τ).loc Cert.EvInReferenceIdeal.main_arg0) = m ((c.tc : Thread Cert.EvInReferenceIdeal.nD Cert.EvInReferenceIdeal.τ).loc Cert.EvInReferenceIdeal.main_arg0)
      ∧ r.2.mem ((c.tc : Thread Cert.EvInReferenceIdeal.nD Cert.EvInReferenceIdeal.τ).loc Cert.EvInReferenceIdeal.main_arg1) = m ((c.tc : Thread Cert.EvInReferenceIdeal.nD Cert.EvInReferenceIdeal.τ).loc Cert.EvInReferenceIdeal.main_arg1)
      ∧ r.2.mem ((c.tc : Thread Cert.EvInReferenceIdeal.nD Cert.EvInReferenceIdeal.τ).loc Cert.EvInReferenceIdeal.main_arg2) = m ((c.tc : Thread Cert.EvInReferenceIdeal.nD Cert.EvInReferenceIdeal.τ).loc Cert.EvInReferenceIdeal.main_arg2))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1)
      ∧ r.2.mem ((c.tc : Thread Cert.OdIn.nD Cert.OdIn.τ).loc Cert.OdIn.main_arg2) = m ((c.tc : Thread Cert.OdIn.nD Cert.OdIn.τ).loc Cert.OdIn.main_arg2))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1)
      ∧ r.2.mem ((c.tc : Thread Cert.OdInIdeal.nD Cert.OdInIdeal.τ).loc Cert.OdInIdeal.main_arg2) = m ((c.tc : Thread Cert.OdInIdeal.nD Cert.OdInIdeal.τ).loc Cert.OdInIdeal.main_arg2))
      ∧ r.2.sem = fun _ => 0)

def quiescent_OdInReferenceIdeal [hOdInReferenceIdeal : Cert.OdInReferenceIdeal.Facts] : Prop :=
  ∀ (m : (ℓ : Loc Cert.OdInReferenceIdeal.nD Cert.OdInReferenceIdeal.τ Cert.OdInReferenceIdeal.sig) → Buf (Elt Ideal) ℓ) (g : Dev Cert.OdInReferenceIdeal.nD → PrngReg), Pre_OdInReferenceIdeal m →
    θ_run (Cert.OdInReferenceIdeal.defs (F := Ideal)) (onTc (τ := Cert.OdInReferenceIdeal.τ) (Cert.OdInReferenceIdeal.main (F := Ideal))) ⟨m, fun _ => 0, g⟩ (fun r => (∀ c : Dev Cert.OdInReferenceIdeal.nD,
      r.2.mem ((c.tc : Thread Cert.OdInReferenceIdeal.nD Cert.OdInReferenceIdeal.τ).loc Cert.OdInReferenceIdeal.main_arg0) = m ((c.tc : Thread Cert.OdInReferenceIdeal.nD Cert.OdInReferenceIdeal.τ).loc Cert.OdInReferenceIdeal.main_arg0)
      ∧ r.2.mem ((c.tc : Thread Cert.OdInReferenceIdeal.nD Cert.OdInReferenceIdeal.τ).loc Cert.OdInReferenceIdeal.main_arg1) = m ((c.tc : Thread Cert.OdInReferenceIdeal.nD Cert.OdInReferenceIdeal.τ).loc Cert.OdInReferenceIdeal.main_arg1)
      ∧ r.2.mem ((c.tc : Thread Cert.OdInReferenceIdeal.nD Cert.OdInReferenceIdeal.τ).loc Cert.OdInReferenceIdeal.main_arg2) = m ((c.tc : Thread Cert.OdInReferenceIdeal.nD Cert.OdInReferenceIdeal.τ).loc Cert.OdInReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_OdOut [hOdOut : Cert.OdOut.Facts] : Prop :=
  ∀ (m : (ℓ : Loc Cert.OdOut.nD Cert.OdOut.τ Cert.OdOut.sig) → Buf (Elt Bits) ℓ) (g : Dev Cert.OdOut.nD → PrngReg), Pre_OdOut m →
    θ_run (Cert.OdOut.defs (F := Bits)) (onTc (τ := Cert.OdOut.τ) (Cert.OdOut.main (F := Bits))) ⟨m, fun _ => 0, g⟩ (fun r => (∀ c : Dev Cert.OdOut.nD,
      r.2.mem ((c.tc : Thread Cert.OdOut.nD Cert.OdOut.τ).loc Cert.OdOut.main_arg0) = m ((c.tc : Thread Cert.OdOut.nD Cert.OdOut.τ).loc Cert.OdOut.main_arg0)
      ∧ r.2.mem ((c.tc : Thread Cert.OdOut.nD Cert.OdOut.τ).loc Cert.OdOut.main_arg1) = m ((c.tc : Thread Cert.OdOut.nD Cert.OdOut.τ).loc Cert.OdOut.main_arg1)
      ∧ r.2.mem ((c.tc : Thread Cert.OdOut.nD Cert.OdOut.τ).loc Cert.OdOut.main_arg2) = m ((c.tc : Thread Cert.OdOut.nD Cert.OdOut.τ).loc Cert.OdOut.main_arg2)
      ∧ r.2.mem ((c.tc : Thread Cert.OdOut.nD Cert.OdOut.τ).loc Cert.OdOut.main_arg3) = m ((c.tc : Thread Cert.OdOut.nD Cert.OdOut.τ).loc Cert.OdOut.main_arg3))
      ∧ r.2.sem = fun _ => 0)

def quiescent_OdOutIdeal [hOdOutIdeal : Cert.OdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg), Pre_OdOutIdeal m →
    θ_run (Cert.OdOutIdeal.defs (F := Ideal)) (onTc (τ := Cert.OdOutIdeal.τ) (Cert.OdOutIdeal.main (F := Ideal))) ⟨m, fun _ => 0, g⟩ (fun r => (∀ c : Dev Cert.OdOutIdeal.nD,
      r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
      ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
      ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2)
      ∧ r.2.mem ((c.tc : Thread Cert.OdOutIdeal.nD Cert.OdOutIdeal.τ).loc Cert.OdOutIdeal.main_arg3) = m ((c.tc : Thread Cert.OdOutIdeal.nD Cert.OdOutIdeal.τ).loc Cert.OdOutIdeal.main_arg3))
      ∧ r.2.sem = fun _ => 0)

def quiescent_OdOutReferenceIdeal [hOdOutReferenceIdeal : Cert.OdOutReferenceIdeal.Facts] : Prop :=
  ∀ (m : (ℓ : Loc Cert.OdOutReferenceIdeal.nD Cert.OdOutReferenceIdeal.τ Cert.OdOutReferenceIdeal.sig) → Buf (Elt Ideal) ℓ) (g : Dev Cert.OdOutReferenceIdeal.nD → PrngReg), Pre_OdOutReferenceIdeal m →
    θ_run (Cert.OdOutReferenceIdeal.defs (F := Ideal)) (onTc (τ := Cert.OdOutReferenceIdeal.τ) (Cert.OdOutReferenceIdeal.main (F := Ideal))) ⟨m, fun _ => 0, g⟩ (fun r => (∀ c : Dev Cert.OdOutReferenceIdeal.nD,
      r.2.mem ((c.tc : Thread Cert.OdOutReferenceIdeal.nD Cert.OdOutReferenceIdeal.τ).loc Cert.OdOutReferenceIdeal.main_arg0) = m ((c.tc : Thread Cert.OdOutReferenceIdeal.nD Cert.OdOutReferenceIdeal.τ).loc Cert.OdOutReferenceIdeal.main_arg0)
      ∧ r.2.mem ((c.tc : Thread Cert.OdOutReferenceIdeal.nD Cert.OdOutReferenceIdeal.τ).loc Cert.OdOutReferenceIdeal.main_arg1) = m ((c.tc : Thread Cert.OdOutReferenceIdeal.nD Cert.OdOutReferenceIdeal.τ).loc Cert.OdOutReferenceIdeal.main_arg1)
      ∧ r.2.mem ((c.tc : Thread Cert.OdOutReferenceIdeal.nD Cert.OdOutReferenceIdeal.τ).loc Cert.OdOutReferenceIdeal.main_arg2) = m ((c.tc : Thread Cert.OdOutReferenceIdeal.nD Cert.OdOutReferenceIdeal.τ).loc Cert.OdOutReferenceIdeal.main_arg2)
      ∧ r.2.mem ((c.tc : Thread Cert.OdOutReferenceIdeal.nD Cert.OdOutReferenceIdeal.τ).loc Cert.OdOutReferenceIdeal.main_arg3) = m ((c.tc : Thread Cert.OdOutReferenceIdeal.nD Cert.OdOutReferenceIdeal.τ).loc Cert.OdOutReferenceIdeal.main_arg3))
      ∧ r.2.sem = fun _ => 0)

def quiescent_OdOutB [hOdOutB : Cert.OdOutB.Facts] : Prop :=
  ∀ (m : (ℓ : Loc Cert.OdOutB.nD Cert.OdOutB.τ Cert.OdOutB.sig) → Buf (Elt Bits) ℓ) (g : Dev Cert.OdOutB.nD → PrngReg), Pre_OdOutB m →
    θ_run (Cert.OdOutB.defs (F := Bits)) (onTc (τ := Cert.OdOutB.τ) (Cert.OdOutB.main (F := Bits))) ⟨m, fun _ => 0, g⟩ (fun r => (∀ c : Dev Cert.OdOutB.nD,
      r.2.mem ((c.tc : Thread Cert.OdOutB.nD Cert.OdOutB.τ).loc Cert.OdOutB.main_arg0) = m ((c.tc : Thread Cert.OdOutB.nD Cert.OdOutB.τ).loc Cert.OdOutB.main_arg0)
      ∧ r.2.mem ((c.tc : Thread Cert.OdOutB.nD Cert.OdOutB.τ).loc Cert.OdOutB.main_arg1) = m ((c.tc : Thread Cert.OdOutB.nD Cert.OdOutB.τ).loc Cert.OdOutB.main_arg1)
      ∧ r.2.mem ((c.tc : Thread Cert.OdOutB.nD Cert.OdOutB.τ).loc Cert.OdOutB.main_arg2) = m ((c.tc : Thread Cert.OdOutB.nD Cert.OdOutB.τ).loc Cert.OdOutB.main_arg2)
      ∧ r.2.mem ((c.tc : Thread Cert.OdOutB.nD Cert.OdOutB.τ).loc Cert.OdOutB.main_arg3) = m ((c.tc : Thread Cert.OdOutB.nD Cert.OdOutB.τ).loc Cert.OdOutB.main_arg3))
      ∧ r.2.sem = fun _ => 0)

def quiescent_OdOutBIdeal [hOdOutBIdeal : Cert.OdOutBIdeal.Facts] : Prop :=
  ∀ (m : (ℓ : Loc Cert.OdOutBIdeal.nD Cert.OdOutBIdeal.τ Cert.OdOutBIdeal.sig) → Buf (Elt Ideal) ℓ) (g : Dev Cert.OdOutBIdeal.nD → PrngReg), Pre_OdOutBIdeal m →
    θ_run (Cert.OdOutBIdeal.defs (F := Ideal)) (onTc (τ := Cert.OdOutBIdeal.τ) (Cert.OdOutBIdeal.main (F := Ideal))) ⟨m, fun _ => 0, g⟩ (fun r => (∀ c : Dev Cert.OdOutBIdeal.nD,
      r.2.mem ((c.tc : Thread Cert.OdOutBIdeal.nD Cert.OdOutBIdeal.τ).loc Cert.OdOutBIdeal.main_arg0) = m ((c.tc : Thread Cert.OdOutBIdeal.nD Cert.OdOutBIdeal.τ).loc Cert.OdOutBIdeal.main_arg0)
      ∧ r.2.mem ((c.tc : Thread Cert.OdOutBIdeal.nD Cert.OdOutBIdeal.τ).loc Cert.OdOutBIdeal.main_arg1) = m ((c.tc : Thread Cert.OdOutBIdeal.nD Cert.OdOutBIdeal.τ).loc Cert.OdOutBIdeal.main_arg1)
      ∧ r.2.mem ((c.tc : Thread Cert.OdOutBIdeal.nD Cert.OdOutBIdeal.τ).loc Cert.OdOutBIdeal.main_arg2) = m ((c.tc : Thread Cert.OdOutBIdeal.nD Cert.OdOutBIdeal.τ).loc Cert.OdOutBIdeal.main_arg2)
      ∧ r.2.mem ((c.tc : Thread Cert.OdOutBIdeal.nD Cert.OdOutBIdeal.τ).loc Cert.OdOutBIdeal.main_arg3) = m ((c.tc : Thread Cert.OdOutBIdeal.nD Cert.OdOutBIdeal.τ).loc Cert.OdOutBIdeal.main_arg3))
      ∧ r.2.sem = fun _ => 0)

def quiescent_OdOutBReferenceIdeal [hOdOutBReferenceIdeal : Cert.OdOutBReferenceIdeal.Facts] : Prop :=
  ∀ (m : (ℓ : Loc Cert.OdOutBReferenceIdeal.nD Cert.OdOutBReferenceIdeal.τ Cert.OdOutBReferenceIdeal.sig) → Buf (Elt Ideal) ℓ) (g : Dev Cert.OdOutBReferenceIdeal.nD → PrngReg), Pre_OdOutBReferenceIdeal m →
    θ_run (Cert.OdOutBReferenceIdeal.defs (F := Ideal)) (onTc (τ := Cert.OdOutBReferenceIdeal.τ) (Cert.OdOutBReferenceIdeal.main (F := Ideal))) ⟨m, fun _ => 0, g⟩ (fun r => (∀ c : Dev Cert.OdOutBReferenceIdeal.nD,
      r.2.mem ((c.tc : Thread Cert.OdOutBReferenceIdeal.nD Cert.OdOutBReferenceIdeal.τ).loc Cert.OdOutBReferenceIdeal.main_arg0) = m ((c.tc : Thread Cert.OdOutBReferenceIdeal.nD Cert.OdOutBReferenceIdeal.τ).loc Cert.OdOutBReferenceIdeal.main_arg0)
      ∧ r.2.mem ((c.tc : Thread Cert.OdOutBReferenceIdeal.nD Cert.OdOutBReferenceIdeal.τ).loc Cert.OdOutBReferenceIdeal.main_arg1) = m ((c.tc : Thread Cert.OdOutBReferenceIdeal.nD Cert.OdOutBReferenceIdeal.τ).loc Cert.OdOutBReferenceIdeal.main_arg1)
      ∧ r.2.mem ((c.tc : Thread Cert.OdOutBReferenceIdeal.nD Cert.OdOutBReferenceIdeal.τ).loc Cert.OdOutBReferenceIdeal.main_arg2) = m ((c.tc : Thread Cert.OdOutBReferenceIdeal.nD Cert.OdOutBReferenceIdeal.τ).loc Cert.OdOutBReferenceIdeal.main_arg2)
      ∧ r.2.mem ((c.tc : Thread Cert.OdOutBReferenceIdeal.nD Cert.OdOutBReferenceIdeal.τ).loc Cert.OdOutBReferenceIdeal.main_arg3) = m ((c.tc : Thread Cert.OdOutBReferenceIdeal.nD Cert.OdOutBReferenceIdeal.τ).loc Cert.OdOutBReferenceIdeal.main_arg3))
      ∧ r.2.sem = fun _ => 0)

def quiescent_OdQkv [hOdQkv : Cert.OdQkv.Facts] : Prop :=
  ∀ (m : (ℓ : Loc Cert.OdQkv.nD Cert.OdQkv.τ Cert.OdQkv.sig) → Buf (Elt Bits) ℓ) (g : Dev Cert.OdQkv.nD → PrngReg), Pre_OdQkv m →
    θ_run (Cert.OdQkv.defs (F := Bits)) (onTc (τ := Cert.OdQkv.τ) (Cert.OdQkv.main (F := Bits))) ⟨m, fun _ => 0, g⟩ (fun r => (∀ c : Dev Cert.OdQkv.nD,
      r.2.mem ((c.tc : Thread Cert.OdQkv.nD Cert.OdQkv.τ).loc Cert.OdQkv.main_arg0) = m ((c.tc : Thread Cert.OdQkv.nD Cert.OdQkv.τ).loc Cert.OdQkv.main_arg0)
      ∧ r.2.mem ((c.tc : Thread Cert.OdQkv.nD Cert.OdQkv.τ).loc Cert.OdQkv.main_arg1) = m ((c.tc : Thread Cert.OdQkv.nD Cert.OdQkv.τ).loc Cert.OdQkv.main_arg1)
      ∧ r.2.mem ((c.tc : Thread Cert.OdQkv.nD Cert.OdQkv.τ).loc Cert.OdQkv.main_arg2) = m ((c.tc : Thread Cert.OdQkv.nD Cert.OdQkv.τ).loc Cert.OdQkv.main_arg2)
      ∧ r.2.mem ((c.tc : Thread Cert.OdQkv.nD Cert.OdQkv.τ).loc Cert.OdQkv.main_arg3) = m ((c.tc : Thread Cert.OdQkv.nD Cert.OdQkv.τ).loc Cert.OdQkv.main_arg3))
      ∧ r.2.sem = fun _ => 0)

def quiescent_OdQkvIdeal [hOdQkvIdeal : Cert.OdQkvIdeal.Facts] : Prop :=
  ∀ (m : (ℓ : Loc Cert.OdQkvIdeal.nD Cert.OdQkvIdeal.τ Cert.OdQkvIdeal.sig) → Buf (Elt Ideal) ℓ) (g : Dev Cert.OdQkvIdeal.nD → PrngReg), Pre_OdQkvIdeal m →
    θ_run (Cert.OdQkvIdeal.defs (F := Ideal)) (onTc (τ := Cert.OdQkvIdeal.τ) (Cert.OdQkvIdeal.main (F := Ideal))) ⟨m, fun _ => 0, g⟩ (fun r => (∀ c : Dev Cert.OdQkvIdeal.nD,
      r.2.mem ((c.tc : Thread Cert.OdQkvIdeal.nD Cert.OdQkvIdeal.τ).loc Cert.OdQkvIdeal.main_arg0) = m ((c.tc : Thread Cert.OdQkvIdeal.nD Cert.OdQkvIdeal.τ).loc Cert.OdQkvIdeal.main_arg0)
      ∧ r.2.mem ((c.tc : Thread Cert.OdQkvIdeal.nD Cert.OdQkvIdeal.τ).loc Cert.OdQkvIdeal.main_arg1) = m ((c.tc : Thread Cert.OdQkvIdeal.nD Cert.OdQkvIdeal.τ).loc Cert.OdQkvIdeal.main_arg1)
      ∧ r.2.mem ((c.tc : Thread Cert.OdQkvIdeal.nD Cert.OdQkvIdeal.τ).loc Cert.OdQkvIdeal.main_arg2) = m ((c.tc : Thread Cert.OdQkvIdeal.nD Cert.OdQkvIdeal.τ).loc Cert.OdQkvIdeal.main_arg2)
      ∧ r.2.mem ((c.tc : Thread Cert.OdQkvIdeal.nD Cert.OdQkvIdeal.τ).loc Cert.OdQkvIdeal.main_arg3) = m ((c.tc : Thread Cert.OdQkvIdeal.nD Cert.OdQkvIdeal.τ).loc Cert.OdQkvIdeal.main_arg3))
      ∧ r.2.sem = fun _ => 0)

def quiescent_OdQkvReferenceIdeal [hOdQkvReferenceIdeal : Cert.OdQkvReferenceIdeal.Facts] : Prop :=
  ∀ (m : (ℓ : Loc Cert.OdQkvReferenceIdeal.nD Cert.OdQkvReferenceIdeal.τ Cert.OdQkvReferenceIdeal.sig) → Buf (Elt Ideal) ℓ) (g : Dev Cert.OdQkvReferenceIdeal.nD → PrngReg), Pre_OdQkvReferenceIdeal m →
    θ_run (Cert.OdQkvReferenceIdeal.defs (F := Ideal)) (onTc (τ := Cert.OdQkvReferenceIdeal.τ) (Cert.OdQkvReferenceIdeal.main (F := Ideal))) ⟨m, fun _ => 0, g⟩ (fun r => (∀ c : Dev Cert.OdQkvReferenceIdeal.nD,
      r.2.mem ((c.tc : Thread Cert.OdQkvReferenceIdeal.nD Cert.OdQkvReferenceIdeal.τ).loc Cert.OdQkvReferenceIdeal.main_arg0) = m ((c.tc : Thread Cert.OdQkvReferenceIdeal.nD Cert.OdQkvReferenceIdeal.τ).loc Cert.OdQkvReferenceIdeal.main_arg0)
      ∧ r.2.mem ((c.tc : Thread Cert.OdQkvReferenceIdeal.nD Cert.OdQkvReferenceIdeal.τ).loc Cert.OdQkvReferenceIdeal.main_arg1) = m ((c.tc : Thread Cert.OdQkvReferenceIdeal.nD Cert.OdQkvReferenceIdeal.τ).loc Cert.OdQkvReferenceIdeal.main_arg1)
      ∧ r.2.mem ((c.tc : Thread Cert.OdQkvReferenceIdeal.nD Cert.OdQkvReferenceIdeal.τ).loc Cert.OdQkvReferenceIdeal.main_arg2) = m ((c.tc : Thread Cert.OdQkvReferenceIdeal.nD Cert.OdQkvReferenceIdeal.τ).loc Cert.OdQkvReferenceIdeal.main_arg2)
      ∧ r.2.mem ((c.tc : Thread Cert.OdQkvReferenceIdeal.nD Cert.OdQkvReferenceIdeal.τ).loc Cert.OdQkvReferenceIdeal.main_arg3) = m ((c.tc : Thread Cert.OdQkvReferenceIdeal.nD Cert.OdQkvReferenceIdeal.τ).loc Cert.OdQkvReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal_pre_finite_layer [hFfnIdeal : Cert.FfnIdeal.Facts] [hFfnReferenceIdeal : Cert.FfnReferenceIdeal.Facts] [hPre_finite_layer : Cert.Pre_finite_layer.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_layer m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v1_0)) (v2 : (c : Dev Cert.FfnIdeal.nD) → Buf (Elt Ideal) ((c.tc : Thread Cert.FfnIdeal.nD Cert.FfnIdeal.τ).loc Cert.FfnIdeal.main_v1_1)) (v3 : (c : Dev Cert.FfnIdeal.nD) → Buf (Elt Ideal) ((c.tc : Thread Cert.FfnIdeal.nD Cert.FfnIdeal.τ).loc Cert.FfnIdeal.main_v1_2)) (v4 : (c : Dev Cert.FfnIdeal.nD) → Buf (Elt Ideal) ((c.tc : Thread Cert.FfnIdeal.nD Cert.FfnIdeal.τ).loc Cert.FfnIdeal.main_v1_3)) (v5 : (c : Dev Cert.FfnIdeal.nD) → Buf (Elt Ideal) ((c.tc : Thread Cert.FfnIdeal.nD Cert.FfnIdeal.τ).loc Cert.FfnIdeal.main_v1_4)) (v6 : (c : Dev Cert.FfnIdeal.nD) → Buf (Elt Ideal) ((c.tc : Thread Cert.FfnIdeal.nD Cert.FfnIdeal.τ).loc Cert.FfnIdeal.main_v1_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v1_0) = v1 c
          ∧ r.2.mem ((c.tc : Thread Cert.FfnIdeal.nD Cert.FfnIdeal.τ).loc Cert.FfnIdeal.main_v1_1) = v2 c
          ∧ r.2.mem ((c.tc : Thread Cert.FfnIdeal.nD Cert.FfnIdeal.τ).loc Cert.FfnIdeal.main_v1_2) = v3 c
          ∧ r.2.mem ((c.tc : Thread Cert.FfnIdeal.nD Cert.FfnIdeal.τ).loc Cert.FfnIdeal.main_v1_3) = v4 c
          ∧ r.2.mem ((c.tc : Thread Cert.FfnIdeal.nD Cert.FfnIdeal.τ).loc Cert.FfnIdeal.main_v1_4) = v5 c
          ∧ r.2.mem ((c.tc : Thread Cert.FfnIdeal.nD Cert.FfnIdeal.τ).loc Cert.FfnIdeal.main_v1_5) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v54) = v0 c
          ∧ r.2.mem ((c.tc : Thread Cert.FfnReferenceIdeal.nD Cert.FfnReferenceIdeal.τ).loc Cert.FfnReferenceIdeal.main_v108) = v1 c
          ∧ r.2.mem ((c.tc : Thread Cert.FfnReferenceIdeal.nD Cert.FfnReferenceIdeal.τ).loc Cert.FfnReferenceIdeal.main_v110) = v2 c
          ∧ r.2.mem ((c.tc : Thread Cert.FfnReferenceIdeal.nD Cert.FfnReferenceIdeal.τ).loc Cert.FfnReferenceIdeal.main_v111) = v3 c
          ∧ r.2.mem ((c.tc : Thread Cert.FfnReferenceIdeal.nD Cert.FfnReferenceIdeal.τ).loc Cert.FfnReferenceIdeal.main_v112) = v4 c
          ∧ r.2.mem ((c.tc : Thread Cert.FfnReferenceIdeal.nD Cert.FfnReferenceIdeal.τ).loc Cert.FfnReferenceIdeal.main_v113) = v5 c
          ∧ r.2.mem ((c.tc : Thread Cert.FfnReferenceIdeal.nD Cert.FfnReferenceIdeal.τ).loc Cert.FfnReferenceIdeal.main_v107) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Tn_TnIdeal : Prop :=
  True

def algebraic_TnIdeal_TnReferenceIdeal [hTnIdeal : Cert.TnIdeal.Facts] [hTnReferenceIdeal : Cert.TnReferenceIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnIdeal m →
    (∀ c : Dev Cert.TnIdeal.nD,
      m' ((c.tc : Thread Cert.TnReferenceIdeal.nD Cert.TnReferenceIdeal.τ).loc Cert.TnReferenceIdeal.main_arg0) = m ((c.tc : Thread Cert.TnIdeal.nD Cert.TnIdeal.τ).loc Cert.TnIdeal.main_arg0)
      ∧ m' ((c.tc : Thread Cert.TnReferenceIdeal.nD Cert.TnReferenceIdeal.τ).loc Cert.TnReferenceIdeal.main_arg1) = m ((c.tc : Thread Cert.TnIdeal.nD Cert.TnIdeal.τ).loc Cert.TnIdeal.main_arg1)
      ∧ m' ((c.tc : Thread Cert.TnReferenceIdeal.nD Cert.TnReferenceIdeal.τ).loc Cert.TnReferenceIdeal.main_arg2) = m ((c.tc : Thread Cert.TnIdeal.nD Cert.TnIdeal.τ).loc Cert.TnIdeal.main_arg2)) →
    ∃ (v0 : (c : Dev Cert.TnIdeal.nD) → Buf (Elt Ideal) ((c.tc : Thread Cert.TnIdeal.nD Cert.TnIdeal.τ).loc Cert.TnIdeal.main_v0)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v0) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
          ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v9) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1)
          ∧ r.2.mem ((c.tc : Thread Cert.TnReferenceIdeal.nD Cert.TnReferenceIdeal.τ).loc Cert.TnReferenceIdeal.main_arg2) = m' ((c.tc : Thread Cert.TnReferenceIdeal.nD Cert.TnReferenceIdeal.τ).loc Cert.TnReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v11) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v12) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_EvIn_EvInIdeal : Prop :=
  True

def algebraic_EvInIdeal_EvInReferenceIdeal [hEvInIdeal : Cert.EvInIdeal.Facts] [hEvInReferenceIdeal : Cert.EvInReferenceIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInReferenceIdeal.nD Cert.EvInReferenceIdeal.τ Cert.EvInReferenceIdeal.sig) → Buf (Elt Ideal) ℓ) (g' : Dev Cert.EvInReferenceIdeal.nD → PrngReg), Pre_EvInIdeal m →
    (∀ c : Dev Cert.EvInIdeal.nD,
      m' ((c.tc : Thread Cert.EvInReferenceIdeal.nD Cert.EvInReferenceIdeal.τ).loc Cert.EvInReferenceIdeal.main_arg0) = m ((c.tc : Thread Cert.EvInIdeal.nD Cert.EvInIdeal.τ).loc Cert.EvInIdeal.main_arg0)
      ∧ m' ((c.tc : Thread Cert.EvInReferenceIdeal.nD Cert.EvInReferenceIdeal.τ).loc Cert.EvInReferenceIdeal.main_arg1) = m ((c.tc : Thread Cert.EvInIdeal.nD Cert.EvInIdeal.τ).loc Cert.EvInIdeal.main_arg1)
      ∧ m' ((c.tc : Thread Cert.EvInReferenceIdeal.nD Cert.EvInReferenceIdeal.τ).loc Cert.EvInReferenceIdeal.main_arg2) = m ((c.tc : Thread Cert.EvInIdeal.nD Cert.EvInIdeal.τ).loc Cert.EvInIdeal.main_arg2)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1)
          ∧ r.2.mem ((c.tc : Thread Cert.EvInIdeal.nD Cert.EvInIdeal.τ).loc Cert.EvInIdeal.main_arg2) = m ((c.tc : Thread Cert.EvInIdeal.nD Cert.EvInIdeal.τ).loc Cert.EvInIdeal.main_arg2))
      ∧ θ_run (Cert.EvInReferenceIdeal.defs (F := Ideal)) (onTc (τ := Cert.EvInReferenceIdeal.τ) (Cert.EvInReferenceIdeal.main (F := Ideal))) ⟨m', fun _ => 0, g'⟩ (fun r => ∀ c : Dev Cert.EvInReferenceIdeal.nD,
          r.2.mem ((c.tc : Thread Cert.EvInReferenceIdeal.nD Cert.EvInReferenceIdeal.τ).loc Cert.EvInReferenceIdeal.main_v8) = v0 c
          ∧ r.2.mem ((c.tc : Thread Cert.EvInReferenceIdeal.nD Cert.EvInReferenceIdeal.τ).loc Cert.EvInReferenceIdeal.main_arg0) = m' ((c.tc : Thread Cert.EvInReferenceIdeal.nD Cert.EvInReferenceIdeal.τ).loc Cert.EvInReferenceIdeal.main_arg0)
          ∧ r.2.mem ((c.tc : Thread Cert.EvInReferenceIdeal.nD Cert.EvInReferenceIdeal.τ).loc Cert.EvInReferenceIdeal.main_arg1) = m' ((c.tc : Thread Cert.EvInReferenceIdeal.nD Cert.EvInReferenceIdeal.τ).loc Cert.EvInReferenceIdeal.main_arg1)
          ∧ r.2.mem ((c.tc : Thread Cert.EvInReferenceIdeal.nD Cert.EvInReferenceIdeal.τ).loc Cert.EvInReferenceIdeal.main_arg2) = m' ((c.tc : Thread Cert.EvInReferenceIdeal.nD Cert.EvInReferenceIdeal.τ).loc Cert.EvInReferenceIdeal.main_arg2))

def preserves_OdIn_OdInIdeal : Prop :=
  True

def algebraic_OdInIdeal_OdInReferenceIdeal [hOdInIdeal : Cert.OdInIdeal.Facts] [hOdInReferenceIdeal : Cert.OdInReferenceIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInReferenceIdeal.nD Cert.OdInReferenceIdeal.τ Cert.OdInReferenceIdeal.sig) → Buf (Elt Ideal) ℓ) (g' : Dev Cert.OdInReferenceIdeal.nD → PrngReg), Pre_OdInIdeal m →
    (∀ c : Dev Cert.OdInIdeal.nD,
      m' ((c.tc : Thread Cert.OdInReferenceIdeal.nD Cert.OdInReferenceIdeal.τ).loc Cert.OdInReferenceIdeal.main_arg0) = m ((c.tc : Thread Cert.OdInIdeal.nD Cert.OdInIdeal.τ).loc Cert.OdInIdeal.main_arg0)
      ∧ m' ((c.tc : Thread Cert.OdInReferenceIdeal.nD Cert.OdInReferenceIdeal.τ).loc Cert.OdInReferenceIdeal.main_arg1) = m ((c.tc : Thread Cert.OdInIdeal.nD Cert.OdInIdeal.τ).loc Cert.OdInIdeal.main_arg1)
      ∧ m' ((c.tc : Thread Cert.OdInReferenceIdeal.nD Cert.OdInReferenceIdeal.τ).loc Cert.OdInReferenceIdeal.main_arg2) = m ((c.tc : Thread Cert.OdInIdeal.nD Cert.OdInIdeal.τ).loc Cert.OdInIdeal.main_arg2)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1)
          ∧ r.2.mem ((c.tc : Thread Cert.OdInIdeal.nD Cert.OdInIdeal.τ).loc Cert.OdInIdeal.main_arg2) = m ((c.tc : Thread Cert.OdInIdeal.nD Cert.OdInIdeal.τ).loc Cert.OdInIdeal.main_arg2))
      ∧ θ_run (Cert.OdInReferenceIdeal.defs (F := Ideal)) (onTc (τ := Cert.OdInReferenceIdeal.τ) (Cert.OdInReferenceIdeal.main (F := Ideal))) ⟨m', fun _ => 0, g'⟩ (fun r => ∀ c : Dev Cert.OdInReferenceIdeal.nD,
          r.2.mem ((c.tc : Thread Cert.OdInReferenceIdeal.nD Cert.OdInReferenceIdeal.τ).loc Cert.OdInReferenceIdeal.main_v8) = v0 c
          ∧ r.2.mem ((c.tc : Thread Cert.OdInReferenceIdeal.nD Cert.OdInReferenceIdeal.τ).loc Cert.OdInReferenceIdeal.main_arg0) = m' ((c.tc : Thread Cert.OdInReferenceIdeal.nD Cert.OdInReferenceIdeal.τ).loc Cert.OdInReferenceIdeal.main_arg0)
          ∧ r.2.mem ((c.tc : Thread Cert.OdInReferenceIdeal.nD Cert.OdInReferenceIdeal.τ).loc Cert.OdInReferenceIdeal.main_arg1) = m' ((c.tc : Thread Cert.OdInReferenceIdeal.nD Cert.OdInReferenceIdeal.τ).loc Cert.OdInReferenceIdeal.main_arg1)
          ∧ r.2.mem ((c.tc : Thread Cert.OdInReferenceIdeal.nD Cert.OdInReferenceIdeal.τ).loc Cert.OdInReferenceIdeal.main_arg2) = m' ((c.tc : Thread Cert.OdInReferenceIdeal.nD Cert.OdInReferenceIdeal.τ).loc Cert.OdInReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_OdOut_OdOutIdeal : Prop :=
  True

def algebraic_OdOutIdeal_OdOutReferenceIdeal [hOdOutIdeal : Cert.OdOutIdeal.Facts] [hOdOutReferenceIdeal : Cert.OdOutReferenceIdeal.Facts] : Prop :=
  ∀ (m : (ℓ : Loc Cert.OdOutIdeal.nD Cert.OdOutIdeal.τ Cert.OdOutIdeal.sig) → Buf (Elt Ideal) ℓ) (g : Dev Cert.OdOutIdeal.nD → PrngReg)
    (m' : (ℓ : Loc Cert.OdOutReferenceIdeal.nD Cert.OdOutReferenceIdeal.τ Cert.OdOutReferenceIdeal.sig) → Buf (Elt Ideal) ℓ) (g' : Dev Cert.OdOutReferenceIdeal.nD → PrngReg), Pre_OdOutIdeal m →
    (∀ c : Dev Cert.OdOutIdeal.nD,
      m' ((c.tc : Thread Cert.OdOutReferenceIdeal.nD Cert.OdOutReferenceIdeal.τ).loc Cert.OdOutReferenceIdeal.main_arg0) = m ((c.tc : Thread Cert.OdOutIdeal.nD Cert.OdOutIdeal.τ).loc Cert.OdOutIdeal.main_arg0)
      ∧ m' ((c.tc : Thread Cert.OdOutReferenceIdeal.nD Cert.OdOutReferenceIdeal.τ).loc Cert.OdOutReferenceIdeal.main_arg1) = m ((c.tc : Thread Cert.OdOutIdeal.nD Cert.OdOutIdeal.τ).loc Cert.OdOutIdeal.main_arg1)
      ∧ m' ((c.tc : Thread Cert.OdOutReferenceIdeal.nD Cert.OdOutReferenceIdeal.τ).loc Cert.OdOutReferenceIdeal.main_arg2) = m ((c.tc : Thread Cert.OdOutIdeal.nD Cert.OdOutIdeal.τ).loc Cert.OdOutIdeal.main_arg2)
      ∧ m' ((c.tc : Thread Cert.OdOutReferenceIdeal.nD Cert.OdOutReferenceIdeal.τ).loc Cert.OdOutReferenceIdeal.main_arg3) = m ((c.tc : Thread Cert.OdOutIdeal.nD Cert.OdOutIdeal.τ).loc Cert.OdOutIdeal.main_arg3)) →
    ∃ (v0 : (c : Dev Cert.OdOutIdeal.nD) → Buf (Elt Ideal) ((c.tc : Thread Cert.OdOutIdeal.nD Cert.OdOutIdeal.τ).loc Cert.OdOutIdeal.main_v0_0)) (v1 : (c : Dev Cert.OdOutIdeal.nD) → Buf (Elt Ideal) ((c.tc : Thread Cert.OdOutIdeal.nD Cert.OdOutIdeal.τ).loc Cert.OdOutIdeal.main_v0_1)),
      θ_run (Cert.OdOutIdeal.defs (F := Ideal)) (onTc (τ := Cert.OdOutIdeal.τ) (Cert.OdOutIdeal.main (F := Ideal))) ⟨m, fun _ => 0, g⟩ (fun r => ∀ c : Dev Cert.OdOutIdeal.nD,
          r.2.mem ((c.tc : Thread Cert.OdOutIdeal.nD Cert.OdOutIdeal.τ).loc Cert.OdOutIdeal.main_v0_0) = v0 c
          ∧ r.2.mem ((c.tc : Thread Cert.OdOutIdeal.nD Cert.OdOutIdeal.τ).loc Cert.OdOutIdeal.main_v0_1) = v1 c
          ∧ r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
          ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
          ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2)
          ∧ r.2.mem ((c.tc : Thread Cert.OdOutIdeal.nD Cert.OdOutIdeal.τ).loc Cert.OdOutIdeal.main_arg3) = m ((c.tc : Thread Cert.OdOutIdeal.nD Cert.OdOutIdeal.τ).loc Cert.OdOutIdeal.main_arg3))
      ∧ θ_run (Cert.OdOutReferenceIdeal.defs (F := Ideal)) (onTc (τ := Cert.OdOutReferenceIdeal.τ) (Cert.OdOutReferenceIdeal.main (F := Ideal))) ⟨m', fun _ => 0, g'⟩ (fun r => ∀ c : Dev Cert.OdOutReferenceIdeal.nD,
          r.2.mem ((c.tc : Thread Cert.OdOutReferenceIdeal.nD Cert.OdOutReferenceIdeal.τ).loc Cert.OdOutReferenceIdeal.main_v10) = v0 c
          ∧ r.2.mem ((c.tc : Thread Cert.OdOutReferenceIdeal.nD Cert.OdOutReferenceIdeal.τ).loc Cert.OdOutReferenceIdeal.main_v4) = v1 c
          ∧ r.2.mem ((c.tc : Thread Cert.OdOutReferenceIdeal.nD Cert.OdOutReferenceIdeal.τ).loc Cert.OdOutReferenceIdeal.main_arg0) = m' ((c.tc : Thread Cert.OdOutReferenceIdeal.nD Cert.OdOutReferenceIdeal.τ).loc Cert.OdOutReferenceIdeal.main_arg0)
          ∧ r.2.mem ((c.tc : Thread Cert.OdOutReferenceIdeal.nD Cert.OdOutReferenceIdeal.τ).loc Cert.OdOutReferenceIdeal.main_arg1) = m' ((c.tc : Thread Cert.OdOutReferenceIdeal.nD Cert.OdOutReferenceIdeal.τ).loc Cert.OdOutReferenceIdeal.main_arg1)
          ∧ r.2.mem ((c.tc : Thread Cert.OdOutReferenceIdeal.nD Cert.OdOutReferenceIdeal.τ).loc Cert.OdOutReferenceIdeal.main_arg2) = m' ((c.tc : Thread Cert.OdOutReferenceIdeal.nD Cert.OdOutReferenceIdeal.τ).loc Cert.OdOutReferenceIdeal.main_arg2)
          ∧ r.2.mem ((c.tc : Thread Cert.OdOutReferenceIdeal.nD Cert.OdOutReferenceIdeal.τ).loc Cert.OdOutReferenceIdeal.main_arg3) = m' ((c.tc : Thread Cert.OdOutReferenceIdeal.nD Cert.OdOutReferenceIdeal.τ).loc Cert.OdOutReferenceIdeal.main_arg3))

def preserves_OdOutB_OdOutBIdeal : Prop :=
  True

def algebraic_OdOutBIdeal_OdOutBReferenceIdeal [hOdOutBIdeal : Cert.OdOutBIdeal.Facts] [hOdOutBReferenceIdeal : Cert.OdOutBReferenceIdeal.Facts] : Prop :=
  ∀ (m : (ℓ : Loc Cert.OdOutBIdeal.nD Cert.OdOutBIdeal.τ Cert.OdOutBIdeal.sig) → Buf (Elt Ideal) ℓ) (g : Dev Cert.OdOutBIdeal.nD → PrngReg)
    (m' : (ℓ : Loc Cert.OdOutBReferenceIdeal.nD Cert.OdOutBReferenceIdeal.τ Cert.OdOutBReferenceIdeal.sig) → Buf (Elt Ideal) ℓ) (g' : Dev Cert.OdOutBReferenceIdeal.nD → PrngReg), Pre_OdOutBIdeal m →
    (∀ c : Dev Cert.OdOutBIdeal.nD,
      m' ((c.tc : Thread Cert.OdOutBReferenceIdeal.nD Cert.OdOutBReferenceIdeal.τ).loc Cert.OdOutBReferenceIdeal.main_arg0) = m ((c.tc : Thread Cert.OdOutBIdeal.nD Cert.OdOutBIdeal.τ).loc Cert.OdOutBIdeal.main_arg0)
      ∧ m' ((c.tc : Thread Cert.OdOutBReferenceIdeal.nD Cert.OdOutBReferenceIdeal.τ).loc Cert.OdOutBReferenceIdeal.main_arg1) = m ((c.tc : Thread Cert.OdOutBIdeal.nD Cert.OdOutBIdeal.τ).loc Cert.OdOutBIdeal.main_arg1)
      ∧ m' ((c.tc : Thread Cert.OdOutBReferenceIdeal.nD Cert.OdOutBReferenceIdeal.τ).loc Cert.OdOutBReferenceIdeal.main_arg2) = m ((c.tc : Thread Cert.OdOutBIdeal.nD Cert.OdOutBIdeal.τ).loc Cert.OdOutBIdeal.main_arg2)
      ∧ m' ((c.tc : Thread Cert.OdOutBReferenceIdeal.nD Cert.OdOutBReferenceIdeal.τ).loc Cert.OdOutBReferenceIdeal.main_arg3) = m ((c.tc : Thread Cert.OdOutBIdeal.nD Cert.OdOutBIdeal.τ).loc Cert.OdOutBIdeal.main_arg3)) →
    ∃ (v0 : (c : Dev Cert.OdOutBIdeal.nD) → Buf (Elt Ideal) ((c.tc : Thread Cert.OdOutBIdeal.nD Cert.OdOutBIdeal.τ).loc Cert.OdOutBIdeal.main_v0_0)) (v1 : (c : Dev Cert.OdOutBIdeal.nD) → Buf (Elt Ideal) ((c.tc : Thread Cert.OdOutBIdeal.nD Cert.OdOutBIdeal.τ).loc Cert.OdOutBIdeal.main_v0_1)) (v2 : (c : Dev Cert.OdOutBIdeal.nD) → Buf (Elt Ideal) ((c.tc : Thread Cert.OdOutBIdeal.nD Cert.OdOutBIdeal.τ).loc Cert.OdOutBIdeal.main_v0_2)),
      θ_run (Cert.OdOutBIdeal.defs (F := Ideal)) (onTc (τ := Cert.OdOutBIdeal.τ) (Cert.OdOutBIdeal.main (F := Ideal))) ⟨m, fun _ => 0, g⟩ (fun r => ∀ c : Dev Cert.OdOutBIdeal.nD,
          r.2.mem ((c.tc : Thread Cert.OdOutBIdeal.nD Cert.OdOutBIdeal.τ).loc Cert.OdOutBIdeal.main_v0_0) = v0 c
          ∧ r.2.mem ((c.tc : Thread Cert.OdOutBIdeal.nD Cert.OdOutBIdeal.τ).loc Cert.OdOutBIdeal.main_v0_1) = v1 c
          ∧ r.2.mem ((c.tc : Thread Cert.OdOutBIdeal.nD Cert.OdOutBIdeal.τ).loc Cert.OdOutBIdeal.main_v0_2) = v2 c
          ∧ r.2.mem ((c.tc : Thread Cert.OdOutBIdeal.nD Cert.OdOutBIdeal.τ).loc Cert.OdOutBIdeal.main_arg0) = m ((c.tc : Thread Cert.OdOutBIdeal.nD Cert.OdOutBIdeal.τ).loc Cert.OdOutBIdeal.main_arg0)
          ∧ r.2.mem ((c.tc : Thread Cert.OdOutBIdeal.nD Cert.OdOutBIdeal.τ).loc Cert.OdOutBIdeal.main_arg1) = m ((c.tc : Thread Cert.OdOutBIdeal.nD Cert.OdOutBIdeal.τ).loc Cert.OdOutBIdeal.main_arg1)
          ∧ r.2.mem ((c.tc : Thread Cert.OdOutBIdeal.nD Cert.OdOutBIdeal.τ).loc Cert.OdOutBIdeal.main_arg2) = m ((c.tc : Thread Cert.OdOutBIdeal.nD Cert.OdOutBIdeal.τ).loc Cert.OdOutBIdeal.main_arg2)
          ∧ r.2.mem ((c.tc : Thread Cert.OdOutBIdeal.nD Cert.OdOutBIdeal.τ).loc Cert.OdOutBIdeal.main_arg3) = m ((c.tc : Thread Cert.OdOutBIdeal.nD Cert.OdOutBIdeal.τ).loc Cert.OdOutBIdeal.main_arg3))
      ∧ θ_run (Cert.OdOutBReferenceIdeal.defs (F := Ideal)) (onTc (τ := Cert.OdOutBReferenceIdeal.τ) (Cert.OdOutBReferenceIdeal.main (F := Ideal))) ⟨m', fun _ => 0, g'⟩ (fun r => ∀ c : Dev Cert.OdOutBReferenceIdeal.nD,
          r.2.mem ((c.tc : Thread Cert.OdOutBReferenceIdeal.nD Cert.OdOutBReferenceIdeal.τ).loc Cert.OdOutBReferenceIdeal.main_v20) = v0 c
          ∧ r.2.mem ((c.tc : Thread Cert.OdOutBReferenceIdeal.nD Cert.OdOutBReferenceIdeal.τ).loc Cert.OdOutBReferenceIdeal.main_v21) = v1 c
          ∧ r.2.mem ((c.tc : Thread Cert.OdOutBReferenceIdeal.nD Cert.OdOutBReferenceIdeal.τ).loc Cert.OdOutBReferenceIdeal.main_v25) = v2 c
          ∧ r.2.mem ((c.tc : Thread Cert.OdOutBReferenceIdeal.nD Cert.OdOutBReferenceIdeal.τ).loc Cert.OdOutBReferenceIdeal.main_arg0) = m' ((c.tc : Thread Cert.OdOutBReferenceIdeal.nD Cert.OdOutBReferenceIdeal.τ).loc Cert.OdOutBReferenceIdeal.main_arg0)
          ∧ r.2.mem ((c.tc : Thread Cert.OdOutBReferenceIdeal.nD Cert.OdOutBReferenceIdeal.τ).loc Cert.OdOutBReferenceIdeal.main_arg1) = m' ((c.tc : Thread Cert.OdOutBReferenceIdeal.nD Cert.OdOutBReferenceIdeal.τ).loc Cert.OdOutBReferenceIdeal.main_arg1)
          ∧ r.2.mem ((c.tc : Thread Cert.OdOutBReferenceIdeal.nD Cert.OdOutBReferenceIdeal.τ).loc Cert.OdOutBReferenceIdeal.main_arg2) = m' ((c.tc : Thread Cert.OdOutBReferenceIdeal.nD Cert.OdOutBReferenceIdeal.τ).loc Cert.OdOutBReferenceIdeal.main_arg2)
          ∧ r.2.mem ((c.tc : Thread Cert.OdOutBReferenceIdeal.nD Cert.OdOutBReferenceIdeal.τ).loc Cert.OdOutBReferenceIdeal.main_arg3) = m' ((c.tc : Thread Cert.OdOutBReferenceIdeal.nD Cert.OdOutBReferenceIdeal.τ).loc Cert.OdOutBReferenceIdeal.main_arg3))

def preserves_OdQkv_OdQkvIdeal : Prop :=
  True

def algebraic_OdQkvIdeal_OdQkvReferenceIdeal [hOdQkvIdeal : Cert.OdQkvIdeal.Facts] [hOdQkvReferenceIdeal : Cert.OdQkvReferenceIdeal.Facts] : Prop :=
  ∀ (m : (ℓ : Loc Cert.OdQkvIdeal.nD Cert.OdQkvIdeal.τ Cert.OdQkvIdeal.sig) → Buf (Elt Ideal) ℓ) (g : Dev Cert.OdQkvIdeal.nD → PrngReg)
    (m' : (ℓ : Loc Cert.OdQkvReferenceIdeal.nD Cert.OdQkvReferenceIdeal.τ Cert.OdQkvReferenceIdeal.sig) → Buf (Elt Ideal) ℓ) (g' : Dev Cert.OdQkvReferenceIdeal.nD → PrngReg), Pre_OdQkvIdeal m →
    (∀ c : Dev Cert.OdQkvIdeal.nD,
      m' ((c.tc : Thread Cert.OdQkvReferenceIdeal.nD Cert.OdQkvReferenceIdeal.τ).loc Cert.OdQkvReferenceIdeal.main_arg0) = m ((c.tc : Thread Cert.OdQkvIdeal.nD Cert.OdQkvIdeal.τ).loc Cert.OdQkvIdeal.main_arg0)
      ∧ m' ((c.tc : Thread Cert.OdQkvReferenceIdeal.nD Cert.OdQkvReferenceIdeal.τ).loc Cert.OdQkvReferenceIdeal.main_arg1) = m ((c.tc : Thread Cert.OdQkvIdeal.nD Cert.OdQkvIdeal.τ).loc Cert.OdQkvIdeal.main_arg1)
      ∧ m' ((c.tc : Thread Cert.OdQkvReferenceIdeal.nD Cert.OdQkvReferenceIdeal.τ).loc Cert.OdQkvReferenceIdeal.main_arg2) = m ((c.tc : Thread Cert.OdQkvIdeal.nD Cert.OdQkvIdeal.τ).loc Cert.OdQkvIdeal.main_arg2)
      ∧ m' ((c.tc : Thread Cert.OdQkvReferenceIdeal.nD Cert.OdQkvReferenceIdeal.τ).loc Cert.OdQkvReferenceIdeal.main_arg3) = m ((c.tc : Thread Cert.OdQkvIdeal.nD Cert.OdQkvIdeal.τ).loc Cert.OdQkvIdeal.main_arg3)) →
    ∃ (v0 : (c : Dev Cert.OdQkvIdeal.nD) → Buf (Elt Ideal) ((c.tc : Thread Cert.OdQkvIdeal.nD Cert.OdQkvIdeal.τ).loc Cert.OdQkvIdeal.main_v0_0)) (v1 : (c : Dev Cert.OdQkvIdeal.nD) → Buf (Elt Ideal) ((c.tc : Thread Cert.OdQkvIdeal.nD Cert.OdQkvIdeal.τ).loc Cert.OdQkvIdeal.main_v0_1)),
      θ_run (Cert.OdQkvIdeal.defs (F := Ideal)) (onTc (τ := Cert.OdQkvIdeal.τ) (Cert.OdQkvIdeal.main (F := Ideal))) ⟨m, fun _ => 0, g⟩ (fun r => ∀ c : Dev Cert.OdQkvIdeal.nD,
          r.2.mem ((c.tc : Thread Cert.OdQkvIdeal.nD Cert.OdQkvIdeal.τ).loc Cert.OdQkvIdeal.main_v0_0) = v0 c
          ∧ r.2.mem ((c.tc : Thread Cert.OdQkvIdeal.nD Cert.OdQkvIdeal.τ).loc Cert.OdQkvIdeal.main_v0_1) = v1 c
          ∧ r.2.mem ((c.tc : Thread Cert.OdQkvIdeal.nD Cert.OdQkvIdeal.τ).loc Cert.OdQkvIdeal.main_arg0) = m ((c.tc : Thread Cert.OdQkvIdeal.nD Cert.OdQkvIdeal.τ).loc Cert.OdQkvIdeal.main_arg0)
          ∧ r.2.mem ((c.tc : Thread Cert.OdQkvIdeal.nD Cert.OdQkvIdeal.τ).loc Cert.OdQkvIdeal.main_arg1) = m ((c.tc : Thread Cert.OdQkvIdeal.nD Cert.OdQkvIdeal.τ).loc Cert.OdQkvIdeal.main_arg1)
          ∧ r.2.mem ((c.tc : Thread Cert.OdQkvIdeal.nD Cert.OdQkvIdeal.τ).loc Cert.OdQkvIdeal.main_arg2) = m ((c.tc : Thread Cert.OdQkvIdeal.nD Cert.OdQkvIdeal.τ).loc Cert.OdQkvIdeal.main_arg2)
          ∧ r.2.mem ((c.tc : Thread Cert.OdQkvIdeal.nD Cert.OdQkvIdeal.τ).loc Cert.OdQkvIdeal.main_arg3) = m ((c.tc : Thread Cert.OdQkvIdeal.nD Cert.OdQkvIdeal.τ).loc Cert.OdQkvIdeal.main_arg3))
      ∧ θ_run (Cert.OdQkvReferenceIdeal.defs (F := Ideal)) (onTc (τ := Cert.OdQkvReferenceIdeal.τ) (Cert.OdQkvReferenceIdeal.main (F := Ideal))) ⟨m', fun _ => 0, g'⟩ (fun r => ∀ c : Dev Cert.OdQkvReferenceIdeal.nD,
          r.2.mem ((c.tc : Thread Cert.OdQkvReferenceIdeal.nD Cert.OdQkvReferenceIdeal.τ).loc Cert.OdQkvReferenceIdeal.main_v70) = v0 c
          ∧ r.2.mem ((c.tc : Thread Cert.OdQkvReferenceIdeal.nD Cert.OdQkvReferenceIdeal.τ).loc Cert.OdQkvReferenceIdeal.main_v71) = v1 c
          ∧ r.2.mem ((c.tc : Thread Cert.OdQkvReferenceIdeal.nD Cert.OdQkvReferenceIdeal.τ).loc Cert.OdQkvReferenceIdeal.main_arg0) = m' ((c.tc : Thread Cert.OdQkvReferenceIdeal.nD Cert.OdQkvReferenceIdeal.τ).loc Cert.OdQkvReferenceIdeal.main_arg0)
          ∧ r.2.mem ((c.tc : Thread Cert.OdQkvReferenceIdeal.nD Cert.OdQkvReferenceIdeal.τ).loc Cert.OdQkvReferenceIdeal.main_arg1) = m' ((c.tc : Thread Cert.OdQkvReferenceIdeal.nD Cert.OdQkvReferenceIdeal.τ).loc Cert.OdQkvReferenceIdeal.main_arg1)
          ∧ r.2.mem ((c.tc : Thread Cert.OdQkvReferenceIdeal.nD Cert.OdQkvReferenceIdeal.τ).loc Cert.OdQkvReferenceIdeal.main_arg2) = m' ((c.tc : Thread Cert.OdQkvReferenceIdeal.nD Cert.OdQkvReferenceIdeal.τ).loc Cert.OdQkvReferenceIdeal.main_arg2)
          ∧ r.2.mem ((c.tc : Thread Cert.OdQkvReferenceIdeal.nD Cert.OdQkvReferenceIdeal.τ).loc Cert.OdQkvReferenceIdeal.main_arg3) = m' ((c.tc : Thread Cert.OdQkvReferenceIdeal.nD Cert.OdQkvReferenceIdeal.τ).loc Cert.OdQkvReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v7) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hTn : Cert.Tn.Facts) (hTnIdeal : Cert.TnIdeal.Facts) (hTnReferenceIdeal : Cert.TnReferenceIdeal.Facts) (hGate : Cert.Gate.Facts) (hGateIdeal : Cert.GateIdeal.Facts) (hGateReferenceIdeal : Cert.GateReferenceIdeal.Facts) (hUp : Cert.Up.Facts) (hUpIdeal : Cert.UpIdeal.Facts) (hUpReferenceIdeal : Cert.UpReferenceIdeal.Facts) (hEvIn : Cert.EvIn.Facts) (hEvInIdeal : Cert.EvInIdeal.Facts) (hEvInReferenceIdeal : Cert.EvInReferenceIdeal.Facts) (hOdIn : Cert.OdIn.Facts) (hOdInIdeal : Cert.OdInIdeal.Facts) (hOdInReferenceIdeal : Cert.OdInReferenceIdeal.Facts) (hOut : Cert.Out.Facts) (hOutIdeal : Cert.OutIdeal.Facts) (hOutReferenceIdeal : Cert.OutReferenceIdeal.Facts) (hOdOut : Cert.OdOut.Facts) (hOdOutIdeal : Cert.OdOutIdeal.Facts) (hOdOutReferenceIdeal : Cert.OdOutReferenceIdeal.Facts) (hOdOutB : Cert.OdOutB.Facts) (hOdOutBIdeal : Cert.OdOutBIdeal.Facts) (hOdOutBReferenceIdeal : Cert.OdOutBReferenceIdeal.Facts) (hOdQkv : Cert.OdQkv.Facts) (hOdQkvIdeal : Cert.OdQkvIdeal.Facts) (hOdQkvReferenceIdeal : Cert.OdQkvReferenceIdeal.Facts) (hLoss : Cert.Loss.Facts) (hLossIdeal : Cert.LossIdeal.Facts) (hLossReferenceIdeal : Cert.LossReferenceIdeal.Facts) (hMod : Cert.Mod.Facts) (hModIdeal : Cert.ModIdeal.Facts) (hModReferenceIdeal : Cert.ModReferenceIdeal.Facts) (hAda : Cert.Ada.Facts) (hAdaIdeal : Cert.AdaIdeal.Facts) (hAdaReferenceIdeal : Cert.AdaReferenceIdeal.Facts) (hPre_finite : Cert.Pre_finite.Facts) (hPre_finite_layer : Cert.Pre_finite_layer.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_layer (hFfnIdeal := hFfnIdeal) (hPre_finite_layer := hPre_finite_layer)
    ∧ quiescent_FfnReferenceIdeal (hFfnReferenceIdeal := hFfnReferenceIdeal)
    ∧ quiescent_FfnReferenceIdeal_pre_finite_layer (hFfnReferenceIdeal := hFfnReferenceIdeal) (hPre_finite_layer := hPre_finite_layer)
    ∧ quiescent_Tn (hTn := hTn)
    ∧ quiescent_TnIdeal (hTnIdeal := hTnIdeal)
    ∧ quiescent_TnReferenceIdeal (hTnReferenceIdeal := hTnReferenceIdeal)
    ∧ quiescent_Gate (hGate := hGate)
    ∧ quiescent_GateIdeal (hGateIdeal := hGateIdeal)
    ∧ quiescent_GateReferenceIdeal (hGateReferenceIdeal := hGateReferenceIdeal)
    ∧ quiescent_Up (hUp := hUp)
    ∧ quiescent_UpIdeal (hUpIdeal := hUpIdeal)
    ∧ quiescent_UpReferenceIdeal (hUpReferenceIdeal := hUpReferenceIdeal)
    ∧ quiescent_EvIn (hEvIn := hEvIn)
    ∧ quiescent_EvInIdeal (hEvInIdeal := hEvInIdeal)
    ∧ quiescent_EvInReferenceIdeal (hEvInReferenceIdeal := hEvInReferenceIdeal)
    ∧ quiescent_OdIn (hOdIn := hOdIn)
    ∧ quiescent_OdInIdeal (hOdInIdeal := hOdInIdeal)
    ∧ quiescent_OdInReferenceIdeal (hOdInReferenceIdeal := hOdInReferenceIdeal)
    ∧ quiescent_Out (hOut := hOut)
    ∧ quiescent_OutIdeal (hOutIdeal := hOutIdeal)
    ∧ quiescent_OutReferenceIdeal (hOutReferenceIdeal := hOutReferenceIdeal)
    ∧ quiescent_OdOut (hOdOut := hOdOut)
    ∧ quiescent_OdOutIdeal (hOdOutIdeal := hOdOutIdeal)
    ∧ quiescent_OdOutReferenceIdeal (hOdOutReferenceIdeal := hOdOutReferenceIdeal)
    ∧ quiescent_OdOutB (hOdOutB := hOdOutB)
    ∧ quiescent_OdOutBIdeal (hOdOutBIdeal := hOdOutBIdeal)
    ∧ quiescent_OdOutBReferenceIdeal (hOdOutBReferenceIdeal := hOdOutBReferenceIdeal)
    ∧ quiescent_OdQkv (hOdQkv := hOdQkv)
    ∧ quiescent_OdQkvIdeal (hOdQkvIdeal := hOdQkvIdeal)
    ∧ quiescent_OdQkvReferenceIdeal (hOdQkvReferenceIdeal := hOdQkvReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Mod (hMod := hMod)
    ∧ quiescent_ModIdeal (hModIdeal := hModIdeal)
    ∧ quiescent_ModReferenceIdeal (hModReferenceIdeal := hModReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_layer (hFfnIdeal := hFfnIdeal) (hFfnReferenceIdeal := hFfnReferenceIdeal) (hPre_finite_layer := hPre_finite_layer)
    ∧ preserves_Tn_TnIdeal
    ∧ algebraic_TnIdeal_TnReferenceIdeal (hTnIdeal := hTnIdeal) (hTnReferenceIdeal := hTnReferenceIdeal)
    ∧ preserves_Gate_GateIdeal
    ∧ algebraic_GateIdeal_GateReferenceIdeal (hGateIdeal := hGateIdeal) (hGateReferenceIdeal := hGateReferenceIdeal)
    ∧ preserves_Up_UpIdeal
    ∧ algebraic_UpIdeal_UpReferenceIdeal (hUpIdeal := hUpIdeal) (hUpReferenceIdeal := hUpReferenceIdeal)
    ∧ preserves_EvIn_EvInIdeal
    ∧ algebraic_EvInIdeal_EvInReferenceIdeal (hEvInIdeal := hEvInIdeal) (hEvInReferenceIdeal := hEvInReferenceIdeal)
    ∧ preserves_OdIn_OdInIdeal
    ∧ algebraic_OdInIdeal_OdInReferenceIdeal (hOdInIdeal := hOdInIdeal) (hOdInReferenceIdeal := hOdInReferenceIdeal)
    ∧ preserves_Out_OutIdeal
    ∧ algebraic_OutIdeal_OutReferenceIdeal (hOutIdeal := hOutIdeal) (hOutReferenceIdeal := hOutReferenceIdeal)
    ∧ preserves_OdOut_OdOutIdeal
    ∧ algebraic_OdOutIdeal_OdOutReferenceIdeal (hOdOutIdeal := hOdOutIdeal) (hOdOutReferenceIdeal := hOdOutReferenceIdeal)
    ∧ preserves_OdOutB_OdOutBIdeal
    ∧ algebraic_OdOutBIdeal_OdOutBReferenceIdeal (hOdOutBIdeal := hOdOutBIdeal) (hOdOutBReferenceIdeal := hOdOutBReferenceIdeal)
    ∧ preserves_OdQkv_OdQkvIdeal
    ∧ algebraic_OdQkvIdeal_OdQkvReferenceIdeal (hOdQkvIdeal := hOdQkvIdeal) (hOdQkvReferenceIdeal := hOdQkvReferenceIdeal)
    ∧ preserves_Loss_LossIdeal
    ∧ algebraic_LossIdeal_LossReferenceIdeal (hLossIdeal := hLossIdeal) (hLossReferenceIdeal := hLossReferenceIdeal)
    ∧ preserves_Mod_ModIdeal
    ∧ algebraic_ModIdeal_ModReferenceIdeal (hModIdeal := hModIdeal) (hModReferenceIdeal := hModReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .bf16) (main_arg1 : FVec F S4096x1024 .bf16) : IVec S_ 1 :=
  let main_v0 : FVec F S4096x3072 .bf16 := Host.absf main_arg0
  let main_cst : FVec F S_ .bf16 := constant S_ .bf16 0x7F80#16
  let main_v1 : FVec F S4096x3072 .bf16 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_finite_layer.lean ====
abbrev S4096x1024 : Shape := ⟨2, ![4096, 1024]⟩
abbrev S8x1024 : Shape := ⟨2, ![8, 1024]⟩
abbrev S8x3x352x1024 : Shape := ⟨4, ![8, 3, 352, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x3x352x1024 : S_.BroadcastsInDim S8x3x352x1024 (![] : Fin 0 → Fin S8x3x352x1024.rank)
  reducesTo_S8x3x352x1024_S_d0_1_2_3 : S8x3x352x1024.ReducesTo [0, 1, 2, 3] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S8x1024 .f32) (main_arg2 : FVec F S8x3x352x1024 .bf16) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x3x352x1024 .bf16 := Host.absf main_arg2
  let main_cst_2 : FVec F S_ .bf16 := constant S_ .bf16 0x7F80#16
  let main_v10 : FVec F S8x3x352x1024 .bf16 := broadcastInDim S8x3x352x1024 ![] bcast_S_S8x3x352x1024 main_cst_2
  let main_v11 : IVec S8x3x352x1024 1 := cmpf .olt main_v9 main_v10
  let main_c_3 : IVec S_ 1 := constantI S_ 1 1#1
  let main_v12 : IVec S_ 1 := (fun x v => Host.reduce IntOp.andi x v reducesTo_S8x3x352x1024_S_d0_1_2_3 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4096x3072 : Shape := ⟨2, ![4096, 3072]⟩
abbrev S4096x1024 : Shape := ⟨2, ![4096, 1024]⟩
abbrev S8x4096x1 : Shape := ⟨3, ![8, 4096, 1]⟩
abbrev S512x128 : Shape := ⟨2, ![512, 128]⟩
abbrev S4096x128 : Shape := ⟨2, ![4096, 128]⟩
abbrev S1x512x1 : Shape := ⟨3, ![1, 512, 1]⟩
abbrev S512x1 : Shape := ⟨2, ![512, 1]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S512x256 : Shape := ⟨2, ![512, 256]⟩
abbrev S512 : Shape := ⟨1, ![512]⟩
abbrev S512x512 : Shape := ⟨2, ![512, 512]⟩
abbrev S1x256x1 : Shape := ⟨3, ![1, 256, 1]⟩

abbrev nBuf : Space → Nat
  | .hbm => 7
  | .vmem => 30
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S8x4096x1, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S512x128, .f32⟩
  | .local _ .vmem, ⟨11, _⟩ => ⟨S512x1, .f32⟩
  | .local _ .vmem, ⟨12, _⟩ => ⟨S512x128, .bf16⟩
  | .local _ .vmem, ⟨13, _⟩ => ⟨S512x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S512x128, .bf16⟩
  | .local _ .vmem, ⟨19, _⟩ => ⟨S512x128, .bf16⟩
  | .local _ .vmem, ⟨20, _⟩ => ⟨S1x512x1, .f32⟩
  | .local _ .vmem, ⟨21, _⟩ => ⟨S1x512x1, .f32⟩
  | .local _ .vmem, ⟨22, _⟩ => ⟨S512x128, .f32⟩
  | .local _ .vmem, ⟨23, _⟩ => ⟨S512x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S512x1, .f32⟩
  | .local _ .vmem, ⟨29, _⟩ => ⟨S512x1, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c256_i32 : BitVec 32 := 256#32
  let v15 : BitVec 32 := Scalar.addi v0 c256_i32
  v15
def k0_off1 (i : grid0.Coords) (c256_i32 : BitVec 32) : Fin 2 → Nat :=
  let arg1 : BitVec 32 := BitVec.ofNat 32 (i 1).val
  let c512_i32 : BitVec 32 := 512#32
  let v0 : BitVec 32 := Scalar.muli arg1 c512_i32
  let v15 : BitVec 32 := Scalar.addi v0 c256_i32
  let v16 : BitVec 32 := v15
  let v26 : Index := Scalar.indexCast v16
  let c0_6 : Index := 0#32
  ![v26.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v73 : BitVec 32 := Scalar.addi v0 c0_i32
  v73
@[reducible] def k0_t1_loop (i : grid0.Coords) : Scf.Loop 32 :=
  let c0_i32_52 : BitVec 32 := 0#32
  let arg1 : BitVec 32 := BitVec.ofNat 32 (i 1).val
  let c1_i32 : BitVec 32 := 1#32
  let v131 : BitVec 32 := Scalar.muli arg1 c1_i32
  let v132 : BitVec 32 := Scalar.subi v131 c0_i32_52
  let c1_i32_53 : BitVec 32 := 1#32
  let v134 : BitVec 32 := Scalar.divsi v132 c1_i32_53
  let v135 : BitVec 32 := Scalar.muli v134 c1_i32_53
  let v136 : BitVec 32 := Scalar.addi c0_i32_52 v135
  let c1_i32_54 : BitVec 32 := 1#32
  ⟨c0_i32_52, v136, c1_i32_54⟩
def k0_mult3 (i : grid0.Coords) (k0_t1 : Fin (k0_t1_loop i).trips) : BitVec 32 :=
  let arg1 : BitVec 32 := BitVec.ofNat 32 (i 1).val
  let c1_i32 : BitVec 32 := 1#32
  let v131 : BitVec 32 := Scalar.muli arg1 c1_i32
  let c1_i32_65 : BitVec 32 := 1#32
  let v144 : BitVec 32 := Scalar.subi v131 c1_i32_65
  let c0_i32_52 : BitVec 32 := 0#32
  let c1_i32_54 : BitVec 32 := 1#32
  let arg9 : BitVec 32 := Scf.iv c0_i32_52 c1_i32_54 k0_t1
  let v145 : BitVec 32 := Scalar.subi v144 arg9
  let c512_i32_66 : BitVec 32 := 512#32
  let v146 : BitVec 32 := Scalar.muli v145 c512_i32_66
  v146
def k0_off2 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.muli arg1 c1_i32
  let c1_i32_65 : BitVec 32 := 1#32
  let v144 : BitVec 32 := Scalar.subi v131 c1_i32_65
  let c0_i32_52 : BitVec 32 := 0#32
  let c1_i32_54 : BitVec 32 := 1#32
  let arg9 : BitVec 32 := Scf.iv c0_i32_52 c1_i32_54 k0_t1
  let v145 : BitVec 32 := Scalar.subi v144 arg9
  let c512_i32_66 : BitVec 32 := 512#32
  let v146 : BitVec 32 := Scalar.muli v145 c512_i32_66
  let v147 : BitVec 32 := v146
  let v149 : Index := Scalar.indexCast v147
  let c0_69 : Index := 0#32
  ![v149.toNat, 0]
@[reducible] def k0_t2_loop (i : grid0.Coords) : Scf.Loop 32 :=
  let c0_i32_52 : BitVec 32 := 0#32
  let arg1 : BitVec 32 := BitVec.ofNat 32 (i 1).val
  let c1_i32 : BitVec 32 := 1#32
  let v131 : BitVec 32 := Scalar.muli arg1 c1_i32
  let v132 : BitVec 32 := Scalar.subi v131 c0_i32_52
  let c1_i32_53 : BitVec 32 := 1#32
  let v134 : BitVec 32 := Scalar.divsi v132 c1_i32_53
  let v135 : BitVec 32 := Scalar.muli v134 c1_i32_53
  let v136 : BitVec 32 := Scalar.addi c0_i32_52 v135
  let v133 : BitVec 32 := Scalar.addi c0_i32_52 v132
  let c1_i32_55 : BitVec 32 := 1#32
  ⟨v136, v133, c1_i32_55⟩
def k0_mult4 (i : grid0.Coords) (k0_t2 : Fin (k0_t2_loop i).trips) : BitVec 32 :=
  let arg1 : BitVec 32 := BitVec.ofNat 32 (i 1).val
  let c1_i32 : BitVec 32 := 1#32
  let v131 : BitVec 32 := Scalar.muli arg1 c1_i32
  let c1_i32_65 : BitVec 32 := 1#32
  let v144 : BitVec 32 := Scalar.subi v131 c1_i32_65
  let c0_i32_52 : BitVec 32 := 0#32
  let v132 : BitVec 32 := Scalar.subi v131 c0_i32_52
  let c1_i32_53 : BitVec 32 := 1#32
  let v134 : BitVec 32 := Scalar.divsi v132 c1_i32_53
  let v135 : BitVec 32 := Scalar.muli v134 c1_i32_53
  let v136 : BitVec 32 := Scalar.addi c0_i32_52 v135
  let c1_i32_55 : BitVec 32 := 1#32
  let arg9 : BitVec 32 := Scf.iv v136 c1_i32_55 k0_t2
  let v145 : BitVec 32 := Scalar.subi v144 arg9
  let c512_i32_66 : BitVec 32 := 512#32
  let v146 : BitVec 32 := Scalar.muli v145 c512_i32_66
  v146
def k0_off3 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.muli arg1 c1_i32
  let c1_i32_65 : BitVec 32 := 1#32
  let v144 : BitVec 32 := Scalar.subi v131 c1_i32_65
  let c0_i32_52 : BitVec 32 := 0#32
  let v132 : BitVec 32 := Scalar.subi v131 c0_i32_52
  let c1_i32_53 : BitVec 32 := 1#32
  let v134 : BitVec 32 := Scalar.divsi v132 c1_i32_53
  let v135 : BitVec 32 := Scalar.muli v134 c1_i32_53
  let v136 : BitVec 32 := Scalar.addi c0_i32_52 v135
  let c1_i32_55 : BitVec 32 := 1#32
  let arg9 : BitVec 32 := Scf.iv v136 c1_i32_55 k0_t2
  let v145 : BitVec 32 := Scalar.subi v144 arg9
  let c512_i32_66 : BitVec 32 := 512#32
  let v146 : BitVec 32 := Scalar.muli v145 c512_i32_66
  let v147 : BitVec 32 := v146
  let v149 : Index := Scalar.indexCast v147
  let c0_69 : Index := 0#32
  ![v149.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let c1_i32_11 : BitVec 32 := 1#32
  ⟨c0_i32_9, v31, c1_i32_11⟩
def k1_mult1 (i : grid1.Coords) (k1_t1 : Fin (k1_t1_loop i).trips) : BitVec 32 :=
  let c0_i32_9 : BitVec 32 := 0#32
  let c1_i32_11 : BitVec 32 := 1#32
  let arg12 : BitVec 32 := Scf.iv c0_i32_9 c1_i32_11 k1_t1
  let c512_i32_111 : BitVec 32 := 512#32
  let v240 : BitVec 32 := Scalar.muli arg12 c512_i32_111
  v240
def k1_off1 (i : grid1.Coords) (k1_t1 : Fin (k1_t1_loop i).trips) : Fin 2 → Nat :=
  let c0_i32_9 : BitVec 32 := 0#32
  let c1_i32_11 : BitVec 32 := 1#32
  let arg12 : BitVec 32 := Scf.iv c0_i32_9 c1_i32_11 k1_t1
  let c512_i32_111 : BitVec 32 := 512#32
  let v240 : BitVec 32 := Scalar.muli arg12 c512_i32_111
  let v241 : BitVec 32 := v240
  let v242 : Index := Scalar.indexCast v241
  let c0_112 : Index := 0#32
  ![v242.toNat, 0]
@[reducible] def k1_t2_loop (i : grid1.Coords) : Scf.Loop 32 :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let v28 : BitVec 32 := Scalar.addi c0_i32_9 v27
  let c1_i32_12 : BitVec 32 := 1#32
  ⟨v31, v28, c1_i32_12⟩
def k1_mult2 (i : grid1.Coords) (k1_t2 : Fin (k1_t2_loop i).trips) : BitVec 32 :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let c1_i32_12 : BitVec 32 := 1#32
  let arg12 : BitVec 32 := Scf.iv v31 c1_i32_12 k1_t2
  let c512_i32_111 : BitVec 32 := 512#32
  let v240 : BitVec 32 := Scalar.muli arg12 c512_i32_111
  v240
def k1_off2 (i : grid1.Coords) (k1_t2 : Fin (k1_t2_loop i).trips) : Fin 2 → Nat :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let c1_i32_12 : BitVec 32 := 1#32
  let arg12 : BitVec 32 := Scf.iv v31 c1_i32_12 k1_t2
  let c512_i32_111 : BitVec 32 := 512#32
  let v240 : BitVec 32 := Scalar.muli arg12 c512_i32_111
  let v241 : BitVec 32 := v240
  let v242 : Index := Scalar.indexCast v241
  let c0_112 : Index := 0#32
  ![v242.toNat, 0]
def k1_mult3 (i : grid1.Coords) : BitVec 32 :=
  let arg1 : BitVec 32 := BitVec.ofNat 32 (i 1).val
  let c512_i32 : BitVec 32 := 512#32
  let v3 : BitVec 32 := Scalar.muli arg1 c512_i32
  let c0_i32_13 : BitVec 32 := 0#32
  let v32 : BitVec 32 := Scalar.addi v3 c0_i32_13
  v32
def k1_off3 (i : grid1.Coords) (c0_i32_13 : BitVec 32) : Fin 2 → Nat :=
  let arg1 : BitVec 32 := BitVec.ofNat 32 (i 1).val
  let c512_i32 : BitVec 32 := 512#32
  let v3 : BitVec 32 := Scalar.muli arg1 c512_i32
  let v32 : BitVec 32 := Scalar.addi v3 c0_i32_13
  let v33 : BitVec 32 := v32
  let v42 : Index := Scalar.indexCast v33
  let c0_15 : Index := 0#32
  ![v42.toNat, 0]
def k1_mult4 (i : grid1.Coords) : BitVec 32 :=
  let arg1 : BitVec 32 := BitVec.ofNat 32 (i 1).val
  let c512_i32 : BitVec 32 := 512#32
  let v3 : BitVec 32 := Scalar.muli arg1 c512_i32
  let c256_i32 : BitVec 32 := 256#32
  let v136 : BitVec 32 := Scalar.addi v3 c256_i32
  v136
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 180
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x3072, .f32⟩
  | 3 => ⟨S4096x1024, .f32⟩
  | 4 => ⟨S4096x1024, .f32⟩
  | 5 => ⟨S4096x1024, .f32⟩
  | 6 => ⟨S4096x8x128, .f32⟩
  | 7 => ⟨S8x4096x128, .f32⟩
  | 8 => ⟨S4096x8x128, .f32⟩
  | 9 => ⟨S8x4096x128, .f32⟩
  | 10 => ⟨S4096x8x128, .f32⟩
  | 11 => ⟨S8x4096x128, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S_, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .i1⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .i1⟩
  | 40 => ⟨S_, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .i1⟩
  | 46 => ⟨S_, .f32⟩
  | 47 => ⟨S8x4096x4096, .f32⟩
  | 48 => ⟨S8x4096x4096, .f32⟩
  | 49 => ⟨S8x4096x4096, .f32⟩
  | 50 => ⟨S8x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x4096x4096, .f32⟩
  | 59 => ⟨S8x4096x4096, .i1⟩
  | 60 => ⟨S_, .f32⟩
  | 61 => ⟨S8x4096x4096, .f32⟩
  | 62 => ⟨S8x4096x4096, .f32⟩
  | 63 => ⟨S8x4096x4096, .f32⟩
  | 64 => ⟨S8x4096x4096, .f32⟩
  | 65 => ⟨S8x4096x4096, .f32⟩
  | 66 => ⟨S_, .f32⟩
  | 67 => ⟨S8x4096x4096, .f32⟩
  | 68 => ⟨S8x4096x4096, .f32⟩
  | 69 => ⟨S8x4096x4096, .f32⟩
  | 70 => ⟨S8x4096x4096, .f32⟩
  | 71 => ⟨S8x4096x4096, .f32⟩
  | 72 => ⟨S_, .f32⟩
  | 73 => ⟨S8x4096x4096, .f32⟩
  | 74 => ⟨S8x4096x4096, .f32⟩
  | 75 => ⟨S8x4096x4096, .f32⟩
  | 76 => ⟨S8x4096x4096, .f32⟩
  | 77 => ⟨S8x4096x4096, .i1⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S_, .f32⟩
  | 87 => ⟨S8x4096x4096, .f32⟩
  | 88 => ⟨S8x4096x4096, .i1⟩
  | 89 => ⟨S_, .f32⟩
  | 90 => ⟨S8x4096x4096, .f32⟩
  | 91 => ⟨S8x4096x4096, .f32⟩
  | 92 => ⟨S_, .f32⟩
  | 93 => ⟨S8x4096x4096, .f32⟩
  | 94 => ⟨S8x4096x4096, .i1⟩
  | 95 => ⟨S_, .f32⟩
  | 96 => ⟨S8x4096x4096, .f32⟩
  | 97 => ⟨S8x4096x4096, .f32⟩
  | 98 => ⟨S8x4096x4096, .f32⟩
  | 99 => ⟨S8x4096x4096, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S8x4096x4096, .f32⟩
  | 108 => ⟨S8x4096x4096, .i1⟩
  | 109 => ⟨S_, .f32⟩
  | 110 => ⟨S8x4096x4096, .f32⟩
  | 111 => ⟨S8x4096x4096, .f32⟩
  | 112 => ⟨S8x4096x4096, .f32⟩
  | 113 => ⟨S8x4096x4096, .f32⟩
  | 114 => ⟨S8x4096x4096, .f32⟩
  | 115 => ⟨S_, .f32⟩
  | 116 => ⟨S8x4096x4096, .f32⟩
  | 117 => ⟨S8x4096x4096, .f32⟩
  | 118 => ⟨S8x4096x4096, .f32⟩
  | 119 => ⟨S_, .f32⟩
  | 120 => ⟨S_, .f32⟩
  | 121 => ⟨S8x4096x4096, .i1⟩
  | 122 => ⟨S8x4096x4096, .f32⟩
  | 123 => ⟨S8x4096x4096, .f32⟩
  | 124 => ⟨S_, .f32⟩
  | 125 => ⟨S8x4096x4096, .f32⟩
  | 126 => ⟨S_, .f32⟩
  | 127 => ⟨S_, .f32⟩
  | _ => ⟨S4096x3072, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x4096x128, .f32⟩
  | 12 => ⟨S4096x8x128, .f32⟩
  | 13 => ⟨S4096x1024, .f32⟩
  | 14 => ⟨S4096x1024, .bf16⟩
  | 15 => ⟨S4096x1024, .f32⟩
  | 16 => ⟨S4096x8x128, .f32⟩
  | 17 => ⟨S8x4096x128, .f32⟩
  | 18 => ⟨S8x128x4096, .f32⟩
  | 19 => ⟨S8x4096x128, .f32⟩
  | 20 => ⟨S8x4096x4096, .f32⟩
  | 21 => ⟨S_, .f32⟩
  | 22 => ⟨S8x4096x4096, .f32⟩
  | 23 => ⟨S8x4096x4096, .f32⟩
  | 24 => ⟨S8x4096x4096, .f32⟩
  | 25 => ⟨S8x4096x4096, .f32⟩
  | 26 => ⟨S_, .f32⟩
  | 27 => ⟨S_, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .f32⟩
  | 44 => ⟨S8x4096x128, .f32⟩
  | 45 => ⟨S8x4096x128, .f32⟩
  | 46 => ⟨S4096x8x128, .f32⟩
  | 47 => ⟨S4096x1024, .f32⟩
  | 48 => ⟨S4096x8x128, .f32⟩
  | 49 => ⟨S4096x1024, .f32⟩
  | 50 => ⟨S4096x8x128, .f32⟩
  | 51 => ⟨S4096x1024, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_call6_cst : Ref sig .tc := ⟨.hbm, 154, rfl⟩
abbrev main_call6_v0 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_call8_v0 : Ref sig .tc := ⟨.hbm, 161, rfl⟩
abbrev main_call8_v1 : Ref sig .tc := ⟨.hbm, 162, rfl⟩
abbrev main_v44 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Ffn.lean ====
abbrev S4096x1024 : Shape := ⟨2, ![4096, 1024]⟩
abbrev S8x1024 : Shape := ⟨2, ![8, 1024]⟩
abbrev S8x3x352x1024 : Shape := ⟨4, ![8, 3, 352, 1024]⟩
abbrev S4096x5632 : Shape := ⟨2, ![4096, 5632]⟩
abbrev S256x1024 : Shape := ⟨2, ![256, 1024]⟩
abbrev S8x1x352x1024 : Shape := ⟨4, ![8, 1, 352, 1024]⟩
abbrev S256x5632 : Shape := ⟨2, ![256, 5632]⟩
abbrev S1x1024 : Shape := ⟨2, ![1, 1024]⟩
abbrev S256 : Shape := ⟨1, ![256]⟩
abbrev S256x1 : Shape := ⟨2, ![256, 1]⟩
abbrev S4x1x352x1024 : Shape := ⟨4, ![4, 1, 352, 1024]⟩
abbrev S4x352x1024 : Shape := ⟨3, ![4, 352, 1024]⟩
abbrev S1408x1024 : Shape := ⟨2, ![1408, 1024]⟩
abbrev S256x1408 : Shape := ⟨2, ![256, 1408]⟩
abbrev S4096x2816 : Shape := ⟨2, ![4096, 2816]⟩
abbrev S256x2816 : Shape := ⟨2, ![256, 2816]⟩
abbrev S1024 : Shape := ⟨1, ![1024]⟩

abbrev nBuf : Space → Nat
  | .hbm => 13
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S8x3x352x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x5632, .f32⟩
  | .hbm, ⟨7, _⟩ => ⟨S4096x1024, .f32⟩
  | .hbm, ⟨8, _⟩ => ⟨S4096x5632, .bf16⟩
  | .hbm, ⟨9, _⟩ => ⟨S4096x1024, .bf16⟩
  | .hbm, ⟨10, _⟩ => ⟨S4096x2816, .bf16⟩
  | .hbm, ⟨11, _⟩ => ⟨S4096x1024, .bf16⟩
  | .hbm, ⟨12, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1x352x1024, .bf16⟩
  | .local _ .vmem, ⟨4, _⟩ => ⟨S8x1x352x1024, .bf16⟩
  | .local _ .vmem, ⟨5, _⟩ => ⟨S8x1x352x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .f32⟩
  | .local _ .vmem, ⟨11, _⟩ => ⟨S256x5632, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x5632, .f32⟩
  | .local _ .vmem, ⟨17, _⟩ => ⟨S256x5632, .f32⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S8x1x352x1024, .bf16⟩
  | .local _ .vmem, ⟨22, _⟩ => ⟨S8x1x352x1024, .bf16⟩
  | .local _ .vmem, ⟨23, _⟩ => ⟨S8x1x352x1024, .bf16⟩
  | .local _ .vmem, ⟨24, _⟩ => ⟨S256x1024, .f32⟩
  | .local _ .vmem, ⟨25, _⟩ => ⟨S256x1024, .f32⟩
  | .local _ .vmem, ⟨26, _⟩ => ⟨S256x5632, .bf16⟩
  | .local _ .vmem, ⟨27, _⟩ => ⟨S256x5632, .bf16⟩
  | .local _ .vmem, ⟨28, _⟩ => ⟨S256x1024, .bf16⟩
  | .local _ .vmem, ⟨29, _⟩ => ⟨S256x1024, .bf16⟩
  | .local _ .vmem, ⟨30, _⟩ => ⟨S256x2816, .bf16⟩
  | .local _ .vmem, ⟨31, _⟩ => ⟨S256x2816, .bf16⟩
  | .local _ .vmem, ⟨32, _⟩ => ⟨S256x1024, .bf16⟩
  | .local _ .vmem, ⟨33, _⟩ => ⟨S256x1024, .bf16⟩
  | .local _ .vmem, ⟨34, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x5632 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1x352x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1x352x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x1x352x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x5632 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== FfnReferenceIdeal.lean ====
abbrev S4096x1024 : Shape := ⟨2, ![4096, 1024]⟩
abbrev S8x1024 : Shape := ⟨2, ![8, 1024]⟩
abbrev S8x3x352x1024 : Shape := ⟨4, ![8, 3, 352, 1024]⟩
abbrev S1x1024 : Shape := ⟨2, ![1, 1024]⟩
abbrev S1024 : Shape := ⟨1, ![1024]⟩
abbrev S8x1x352x1024 : Shape := ⟨4, ![8, 1, 352, 1024]⟩
abbrev S8x352x1024 : Shape := ⟨3, ![8, 352, 1024]⟩
abbrev S2816x1024 : Shape := ⟨2, ![2816, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4x1024 : Shape := ⟨2, ![4, 1024]⟩
abbrev S4096x5632 : Shape := ⟨2, ![4096, 5632]⟩

abbrev nBuf : Space → Nat
  | .hbm => 150
  | .vmem => 0
  | .smem => 0
  | _ => 0

abbrev hbmTy0_0 (i : Nat) : BufTy := match i % 128 with
  | 0 => ⟨S4096x1024, .f32⟩
  | 1 => ⟨S8x1024, .f32⟩
  | 2 => ⟨S8x3x352x1024, .bf16⟩
  | 3 => ⟨S4096x1024, .f32⟩
  | 4 => ⟨S1x1024, .f32⟩
  | 5 => ⟨S1024, .f32⟩
  | 6 => ⟨S1x1024, .f32⟩
  | 7 => ⟨S1024, .f32⟩
  | 8 => ⟨S1x1024, .f32⟩
  | 9 => ⟨S1024, .f32⟩
  | 10 => ⟨S1x1024, .f32⟩
  | 11 => ⟨S1024, .f32⟩
  | 12 => ⟨S8x1x352x1024, .bf16⟩
  | 13 => ⟨S8x352x1024, .bf16⟩
  | 14 => ⟨S8x352x1024, .f32⟩
  | 15 => ⟨S2816x1024, .f32⟩
  | 16 => ⟨S1024x2816, .f32⟩
  | 17 => ⟨S8x1x352x1024, .bf16⟩
  | 18 => ⟨S8x352x1024, .bf16⟩
  | 19 => ⟨S8x352x1024, .f32⟩
  | 20 => ⟨S2816x1024, .f32⟩
  | 21 => ⟨S1024x2816, .f32⟩
  | 22 => ⟨S8x1x352x1024, .bf16⟩
  | 23 => ⟨S8x352x1024, .bf16⟩
  | 24 => ⟨S8x352x1024, .f32⟩
  | 25 => ⟨S2816x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S_, .f32⟩
  | 47 => ⟨S1024, .f32⟩
  | 48 => ⟨S1024, .f32⟩
  | 49 => ⟨S1x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S4096x2816, .f32⟩
  | 56 => ⟨S4096x2816, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S1024x2816, .f32⟩
  | 86 => ⟨S4096x2816, .f32⟩
  | 87 => ⟨S4096x2816, .f32⟩
  | 88 => ⟨S4096x2816, .f32⟩
  | 89 => ⟨S4096x2816, .f32⟩
  | 90 => ⟨S4096x2816, .f32⟩
  | 91 => ⟨S4096x2816, .f32⟩
  | 92 => ⟨S4096x2816, .f32⟩
  | 93 => ⟨S2816x1024, .f32⟩
  | 94 => ⟨S4096x1024, .f32⟩
  | 95 => ⟨S2816x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S4096x1024, .f32⟩
  | 104 => ⟨S_, .f32⟩
  | 105 => ⟨S1024, .f32⟩
  | 106 => ⟨S1x1024, .f32⟩
  | 107 => ⟨S4096x1024, .f32⟩
  | 108 => ⟨S4096x1024, .f32⟩
  | 109 => ⟨S_, .f32⟩
  | 110 => ⟨S1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S_, .f32⟩
  | 118 => ⟨S1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S1x1024, .f32⟩
  | 9 => ⟨S1x1024, .f32⟩
  | 10 => ⟨S1x1024, .f32⟩
  | 11 => ⟨S1x1024, .f32⟩
  | 12 => ⟨S4x1024, .f32⟩
  | 13 => ⟨S_, .f32⟩
  | 14 => ⟨S4x1024, .f32⟩
  | 15 => ⟨S8x1024, .f32⟩
  | 16 => ⟨S4096x1024, .f32⟩
  | 17 => ⟨S4096x5632, .f32⟩
  | 18 => ⟨S4096x5632, .bf16⟩
  | 19 => ⟨S4096x1024, .bf16⟩
  | 20 => ⟨S4096x2816, .bf16⟩
  | 21 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v48_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v48_1 : Ref sig .tc := ⟨.hbm, 68, rfl⟩
abbrev main_v48_0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_6 : Ref sig .tc := ⟨.hbm, 98, rfl⟩
abbrev main_v72 : Ref sig .tc := ⟨.hbm, 99, rfl⟩
abbrev main_v73 : Ref sig .tc := ⟨.hbm, 100, rfl⟩
abbrev main_cst_7 : Ref sig .tc := ⟨.hbm, 101, rfl⟩
abbrev main_v74 : Ref sig .tc := ⟨.hbm, 102, rfl⟩
abbrev main_v75 : Ref sig .tc := ⟨.hbm, 103, rfl⟩
abbrev main_cst_8 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_9 : Ref sig .tc := ⟨.hbm, 109, rfl⟩
abbrev main_v80 : Ref sig .tc := ⟨.hbm, 110, rfl⟩
abbrev main_v81 : Ref sig .tc := ⟨.hbm, 111, rfl⟩
abbrev main_cst_10 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_13 : Ref sig .tc := ⟨.hbm, 126, rfl⟩
abbrev main_v93 : Ref sig .tc := ⟨.hbm, 127, rfl⟩
abbrev main_v94 : Ref sig .tc := ⟨.hbm, 128, rfl⟩
abbrev main_cst_14 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_15 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]
-- ==== Tn.lean ====
abbrev S4096x2816 : Shape := ⟨2, ![4096, 2816]⟩
abbrev S4096x1024 : Shape := ⟨2, ![4096, 1024]⟩
abbrev S8x3x352x1024 : Shape := ⟨4, ![8, 3, 352, 1024]⟩
abbrev S1024x2816 : Shape := ⟨2, ![1024, 2816]⟩
abbrev S1024x1024 : Shape := ⟨2, ![1024, 1024]⟩
abbrev S8x1x352x1024 : Shape := ⟨4, ![8, 1, 352, 1024]⟩
abbrev S2816x1024 : Shape := ⟨2, ![2816, 1024]⟩
abbrev S8x352x1024 : Shape := ⟨3, ![8, 352, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x3x352x1024, .bf16⟩
  | .hbm, ⟨3, _⟩ => ⟨S8x3x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x352x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TnReferenceIdeal.lean ====
abbrev S4096x2816 : Shape := ⟨2, ![4096, 2816]⟩
abbrev S4096x1024 : Shape := ⟨2, ![4096, 1024]⟩
abbrev S8x3x352x1024 : Shape := ⟨4, ![8, 3, 352, 1024]⟩
abbrev S_ : Shape := ⟨0, ![]⟩
abbrev S2816x1024 : Shape := ⟨2, ![2816, 1024]⟩
abbrev S1024x2816 : Shape := ⟨2, ![1024, 2816]⟩
abbrev S8x1x352x1024 : Shape := ⟨4, ![8, 1, 352, 1024]⟩
abbrev S8x2x352x1024 : Shape := ⟨4, ![8, 2, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x3x352x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S8x1x352x1024, .f32⟩
  | .hbm, ⟨11, _⟩ => ⟨S8x2x352x1024, .bf16⟩
  | .hbm, ⟨12, _⟩ => ⟨S8x1x352x1024, .bf16⟩
  | .hbm, ⟨13, _⟩ => ⟨S8x3x352x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Gate.lean ====
abbrev S4096x5632 : Shape := ⟨2, ![4096, 5632]⟩
abbrev S4096x1024 : Shape := ⟨2, ![4096, 1024]⟩
abbrev S8x3x352x1024 : Shape := ⟨4, ![8, 3, 352, 1024]⟩
abbrev S1024x2816 : Shape := ⟨2, ![1024, 2816]⟩
abbrev S1024x1024 : Shape := ⟨2, ![1024, 1024]⟩
abbrev S8x1x352x1024 : Shape := ⟨4, ![8, 1, 352, 1024]⟩
abbrev S2816x1024 : Shape := ⟨2, ![2816, 1024]⟩
abbrev S8x352x1024 : Shape := ⟨3, ![8, 352, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S8x3x352x1024, .bf16⟩
  | .hbm, ⟨3, _⟩ => ⟨S8x3x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x352x1024, .bf16⟩
  | .local _ .vmem, ⟨5, _⟩ => ⟨S2816x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GateReferenceIdeal.lean ====
abbrev S4096x5632 : Shape := ⟨2, ![4096, 5632]⟩
abbrev S4096x1024 : Shape := ⟨2, ![4096, 1024]⟩
abbrev S8x3x352x1024 : Shape := ⟨4, ![8, 3, 352, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S8x1x352x1024 : Shape := ⟨4, ![8, 1, 352, 1024]⟩
abbrev S8x2x352x1024 : Shape := ⟨4, ![8, 2, 352, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S8x3x352x1024, .bf16⟩
  | .hbm, ⟨3, _⟩ => ⟨S4096x2816, .bf16⟩
  | .hbm, ⟨4, _⟩ => ⟨S_, .f32⟩
  | .hbm, ⟨5, _⟩ => ⟨S1024x2816, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S8x1x352x1024, .f32⟩
  | .hbm, ⟨13, _⟩ => ⟨S8x1x352x1024, .bf16⟩
  | .hbm, ⟨14, _⟩ => ⟨S8x2x352x1024, .bf16⟩
  | .hbm, ⟨15, _⟩ => ⟨S8x3x352x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Up.lean ====
abbrev S4096x5632 : Shape := ⟨2, ![4096, 5632]⟩
abbrev S4096x1024 : Shape := ⟨2, ![4096, 1024]⟩
abbrev S8x3x352x1024 : Shape := ⟨4, ![8, 3, 352, 1024]⟩
abbrev S1024x2816 : Shape := ⟨2, ![1024, 2816]⟩
abbrev S1024x1024 : Shape := ⟨2, ![1024, 1024]⟩
abbrev S8x1x352x1024 : Shape := ⟨4, ![8, 1, 352, 1024]⟩
abbrev S2816x1024 : Shape := ⟨2, ![2816, 1024]⟩
abbrev S8x352x1024 : Shape := ⟨3, ![8, 352, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S8x3x352x1024, .bf16⟩
  | .hbm, ⟨3, _⟩ => ⟨S8x3x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x352x1024, .bf16⟩
  | .local _ .vmem, ⟨5, _⟩ => ⟨S2816x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== UpReferenceIdeal.lean ====
abbrev S4096x5632 : Shape := ⟨2, ![4096, 5632]⟩
abbrev S4096x1024 : Shape := ⟨2, ![4096, 1024]⟩
abbrev S8x3x352x1024 : Shape := ⟨4, ![8, 3, 352, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S8x1x352x1024 : Shape := ⟨4, ![8, 1, 352, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S8x3x352x1024, .bf16⟩
  | .hbm, ⟨3, _⟩ => ⟨S4096x2816, .bf16⟩
  | .hbm, ⟨4, _⟩ => ⟨S_, .f32⟩
  | .hbm, ⟨5, _⟩ => ⟨S1024x2816, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S8x1x352x1024, .f32⟩
  | .hbm, ⟨13, _⟩ => ⟨S8x1x352x1024, .bf16⟩
  | .hbm, ⟨14, _⟩ => ⟨S8x1x352x1024, .bf16⟩
  | .hbm, ⟨15, _⟩ => ⟨S8x1x352x1024, .bf16⟩
  | .hbm, ⟨16, _⟩ => ⟨S8x3x352x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== EvIn.lean ====
abbrev S4096x3584 : Shape := ⟨2, ![4096, 3584]⟩
abbrev S4096x1024 : Shape := ⟨2, ![4096, 1024]⟩
abbrev S8x1x448x1024 : Shape := ⟨4, ![8, 1, 448, 1024]⟩
abbrev S1024x3584 : Shape := ⟨2, ![1024, 3584]⟩
abbrev S1024x1024 : Shape := ⟨2, ![1024, 1024]⟩
abbrev S3584x1024 : Shape := ⟨2, ![3584, 1024]⟩
abbrev S8x448x1024 : Shape := ⟨3, ![8, 448, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S8x1x448x1024, .bf16⟩
  | .hbm, ⟨3, _⟩ => ⟨S8x1x448x1024, .bf16⟩
  | .local _ .vmem, ⟨0, _⟩ => ⟨S1024x3584, .bf16⟩
  | .local _ .vmem, ⟨1, _⟩ => ⟨S1024x3584, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x448x1024, .bf16⟩
  | .local _ .vmem, ⟨5, _⟩ => ⟨S3584x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x448x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== EvInReferenceIdeal.lean ====
abbrev S4096x3584 : Shape := ⟨2, ![4096, 3584]⟩
abbrev S4096x1024 : Shape := ⟨2, ![4096, 1024]⟩
abbrev S8x1x448x1024 : Shape := ⟨4, ![8, 1, 448, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S8x1x448x1024, .bf16⟩
  | .hbm, ⟨3, _⟩ => ⟨S_, .f32⟩
  | .hbm, ⟨4, _⟩ => ⟨S1024x3584, .f32⟩
  | .hbm, ⟨5, _⟩ => ⟨S4096x1024, .f32⟩
  | .hbm, ⟨6, _⟩ => ⟨S4096x3584, .f32⟩
  | .hbm, ⟨7, _⟩ => ⟨S4096x3584, .f32⟩
  | .hbm, ⟨8, _⟩ => ⟨S3584x1024, .f32⟩
  | .hbm, ⟨9, _⟩ => ⟨S1024x3584, .f32⟩
  | .hbm, ⟨10, _⟩ => ⟨S3584x1024, .f32⟩
  | .hbm, ⟨11, _⟩ => ⟨S8x1x448x1024, .f32⟩
  | .hbm, ⟨12, _⟩ => ⟨S8x1x448x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OdIn.lean ====
abbrev S4096x3072 : Shape := ⟨2, ![4096, 3072]⟩
abbrev S4096x1024 : Shape := ⟨2, ![4096, 1024]⟩
abbrev S8x1x384x1024 : Shape := ⟨4, ![8, 1, 384, 1024]⟩
abbrev S1024x3072 : Shape := ⟨2, ![1024, 3072]⟩
abbrev S1024x1024 : Shape := ⟨2, ![1024, 1024]⟩
abbrev S3072x1024 : Shape := ⟨2, ![3072, 1024]⟩
abbrev S8x384x1024 : Shape := ⟨3, ![8, 384, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8x1x384x1024, .bf16⟩
  | .hbm, ⟨3, _⟩ => ⟨S8x1x384x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x384x1024, .bf16⟩
  | .local _ .vmem, ⟨5, _⟩ => ⟨S3072x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OdInReferenceIdeal.lean ====
abbrev S4096x3072 : Shape := ⟨2, ![4096, 3072]⟩
abbrev S4096x1024 : Shape := ⟨2, ![4096, 1024]⟩
abbrev S8x1x384x1024 : Shape := ⟨4, ![8, 1, 384, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8x1x384x1024, .bf16⟩
  | .hbm, ⟨3, _⟩ => ⟨S_, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S8x1x384x1024, .f32⟩
  | .hbm, ⟨12, _⟩ => ⟨S8x1x384x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Out.lean ====
abbrev S4096x1024 : Shape := ⟨2, ![4096, 1024]⟩
abbrev S8x1x128x1024 : Shape := ⟨4, ![8, 1, 128, 1024]⟩
abbrev S1024x1024 : Shape := ⟨2, ![1024, 1024]⟩
abbrev S8x128x1024 : Shape := ⟨3, ![8, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x1x128x1024, .bf16⟩
  | .hbm, ⟨3, _⟩ => ⟨S8x1x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutReferenceIdeal.lean ====
abbrev S4096x1024 : Shape := ⟨2, ![4096, 1024]⟩
abbrev S8x1x128x1024 : Shape := ⟨4, ![8, 1, 128, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x1x128x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S8x1x128x1024, .f32⟩
  | .hbm, ⟨11, _⟩ => ⟨S8x1x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OdOut.lean ====
abbrev S4096x1024 : Shape := ⟨2, ![4096, 1024]⟩
abbrev S8x1024 : Shape := ⟨2, ![8, 1024]⟩
abbrev S8x1x128x1024 : Shape := ⟨4, ![8, 1, 128, 1024]⟩
abbrev S256x1024 : Shape := ⟨2, ![256, 1024]⟩
abbrev S8x128x1024 : Shape := ⟨3, ![8, 128, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x1024, .f32⟩
  | .hbm, ⟨3, _⟩ => ⟨S8x1x128x1024, .bf16⟩
  | .hbm, ⟨4, _⟩ => ⟨S4096x1024, .f32⟩
  | .hbm, ⟨5, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1x128x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OdOutReferenceIdeal.lean ====
abbrev S4096x1024 : Shape := ⟨2, ![4096, 1024]⟩
abbrev S8x1024 : Shape := ⟨2, ![8, 1024]⟩
abbrev S8x1x128x1024 : Shape := ⟨4, ![8, 1, 128, 1024]⟩
abbrev S8x128x1024 : Shape := ⟨3, ![8, 128, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x1024, .f32⟩
  | .hbm, ⟨3, _⟩ => ⟨S8x1x128x1024, .bf16⟩
  | .hbm, ⟨4, _⟩ => ⟨S4096x1024, .f32⟩
  | .hbm, ⟨5, _⟩ => ⟨S8x128x1024, .bf16⟩
  | .hbm, ⟨6, _⟩ => ⟨S8x128x1024, .f32⟩
  | .hbm, ⟨7, _⟩ => ⟨S1024x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== OdOutB.lean ====
abbrev S4096x1024 : Shape := ⟨2, ![4096, 1024]⟩
abbrev S8x1024 : Shape := ⟨2, ![8, 1024]⟩
abbrev S8x1x128x1024 : Shape := ⟨4, ![8, 1, 128, 1024]⟩
abbrev S256x1024 : Shape := ⟨2, ![256, 1024]⟩
abbrev S1x1024 : Shape := ⟨2, ![1, 1024]⟩
abbrev S8x128x1024 : Shape := ⟨3, ![8, 128, 1024]⟩
abbrev S1024x1024 : Shape := ⟨2, ![1024, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024, .f32⟩
  | .hbm, ⟨3, _⟩ => ⟨S8x1x128x1024, .bf16⟩
  | .hbm, ⟨4, _⟩ => ⟨S4096x1024, .bf16⟩
  | .hbm, ⟨5, _⟩ => ⟨S4096x1024, .bf16⟩
  | .hbm, ⟨6, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1x128x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OdOutBReferenceIdeal.lean ====
abbrev S4096x1024 : Shape := ⟨2, ![4096, 1024]⟩
abbrev S8x1024 : Shape := ⟨2, ![8, 1024]⟩
abbrev S8x1x128x1024 : Shape := ⟨4, ![8, 1, 128, 1024]⟩
abbrev S_ : Shape := ⟨0, ![]⟩
abbrev S1x1024 : Shape := ⟨2, ![1, 1024]⟩
abbrev S1024 : Shape := ⟨1, ![1024]⟩
abbrev S8x128x1024 : Shape := ⟨3, ![8, 128, 1024]⟩
abbrev S1024x1024 : Shape := ⟨2, ![1024, 1024]⟩
abbrev S2x1024 : Shape := ⟨2, ![2, 1024]⟩
abbrev S5x1024 : Shape := ⟨2, ![5, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024, .f32⟩
  | .hbm, ⟨3, _⟩ => ⟨S8x1x128x1024, .bf16⟩
  | .hbm, ⟨4, _⟩ => ⟨S_, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S_, .f32⟩
  | .hbm, ⟨21, _⟩ => ⟨S1024, .f32⟩
  | .hbm, ⟨22, _⟩ => ⟨S8x128x1024, .bf16⟩
  | .hbm, ⟨23, _⟩ => ⟨S8x128x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S2x1024, .f32⟩
  | .hbm, ⟨30, _⟩ => ⟨S1x1024, .f32⟩
  | .hbm, ⟨31, _⟩ => ⟨S5x1024, .f32⟩
  | .hbm, ⟨32, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== OdQkv.lean ====
abbrev S4096x1024 : Shape := ⟨2, ![4096, 1024]⟩
abbrev S8x1024 : Shape := ⟨2, ![8, 1024]⟩
abbrev S8x1x384x1024 : Shape := ⟨4, ![8, 1, 384, 1024]⟩
abbrev S8x128 : Shape := ⟨2, ![8, 128]⟩
abbrev S4096x3072 : Shape := ⟨2, ![4096, 3072]⟩
abbrev S4096x2048 : Shape := ⟨2, ![4096, 2048]⟩
abbrev S256x1024 : Shape := ⟨2, ![256, 1024]⟩
abbrev S256x3072 : Shape := ⟨2, ![256, 3072]⟩
abbrev S256x2048 : Shape := ⟨2, ![256, 2048]⟩
abbrev S1x1024 : Shape := ⟨2, ![1, 1024]⟩
abbrev S256 : Shape := ⟨1, ![256]⟩
abbrev S256x1 : Shape := ⟨2, ![256, 1]⟩
abbrev S8x384x1024 : Shape := ⟨3, ![8, 384, 1024]⟩
abbrev S3072x1024 : Shape := ⟨2, ![3072, 1024]⟩
abbrev S256x128 : Shape := ⟨2, ![256, 128]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S8x1x384x1024, .bf16⟩
  | .hbm, ⟨3, _⟩ => ⟨S8x128, .f32⟩
  | .hbm, ⟨4, _⟩ => ⟨S4096x3072, .bf16⟩
  | .hbm, ⟨5, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1x384x1024, .bf16⟩
  | .local _ .vmem, ⟨4, _⟩ => ⟨S8x128, .f32⟩
  | .local _ .vmem, ⟨5, _⟩ => ⟨S256x3072, .bf16⟩
  | .local _ .vmem, ⟨6, _⟩ => ⟨S256x3072, .bf16⟩
  | .local _ .vmem, ⟨7, _⟩ => ⟨S256x2048, .f32⟩
  | .local _ .vmem, ⟨8, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OdQkvReferenceIdeal.lean ====
abbrev S4096x1024 : Shape := ⟨2, ![4096, 1024]⟩
abbrev S8x1024 : Shape := ⟨2, ![8, 1024]⟩
abbrev S8x1x384x1024 : Shape := ⟨4, ![8, 1, 384, 1024]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x384x1024 : Shape := ⟨3, ![8, 384, 1024]⟩
abbrev S3072x1024 : Shape := ⟨2, ![3072, 1024]⟩
abbrev S1024x3072 : Shape := ⟨2, ![1024, 3072]⟩
abbrev S4096x3072 : Shape := ⟨2, ![4096, 3072]⟩
abbrev S1x128 : Shape := ⟨2, ![1, 128]⟩
abbrev S128 : Shape := ⟨1, ![128]⟩
abbrev S4096x8x128 : Shape := ⟨3, ![4096, 8, 128]⟩
abbrev S4096x8 : Shape := ⟨2, ![4096, 8]⟩
abbrev S4096x8x1 : Shape := ⟨3, ![4096, 8, 1]⟩
abbrev S1x1x128 : Shape := ⟨3, ![1, 1, 128]⟩
abbrev S4096x2048 : Shape := ⟨2, ![4096, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S8x1x384x1024, .bf16⟩
  | .hbm, ⟨3, _⟩ => ⟨S8x128, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S8x384x1024, .bf16⟩
  | .hbm, ⟨36, _⟩ => ⟨S8x384x1024, .f32⟩
  | .hbm, ⟨37, _⟩ => ⟨S3072x1024, .f32⟩
  | .hbm, ⟨38, _⟩ => ⟨S1024x3072, .f32⟩
  | .hbm, ⟨39, _⟩ => ⟨S4096x3072, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1x128, .f32⟩
  | .hbm, ⟨44, _⟩ => ⟨S128, .f32⟩
  | .hbm, ⟨45, _⟩ => ⟨S4096x8x128, .f32⟩
  | .hbm, ⟨46, _⟩ => ⟨S4096x8x128, .f32⟩
  | .hbm, ⟨47, _⟩ => ⟨S_, .f32⟩
  | .hbm, ⟨48, _⟩ => ⟨S4096x8, .f32⟩
  | .hbm, ⟨49, _⟩ => ⟨S4096x8x1, .f32⟩
  | .hbm, ⟨50, _⟩ => ⟨S_, .f32⟩
  | .hbm, ⟨51, _⟩ => ⟨S4096x8x1, .f32⟩
  | .hbm, ⟨52, _⟩ => ⟨S4096x8x1, .f32⟩
  | .hbm, ⟨53, _⟩ => ⟨S_, .f32⟩
  | .hbm, ⟨54, _⟩ => ⟨S4096x8x1, .f32⟩
  | .hbm, ⟨55, _⟩ => ⟨S4096x8x1, .f32⟩
  | .hbm, ⟨56, _⟩ => ⟨S4096x8x1, .f32⟩
  | .hbm, ⟨57, _⟩ => ⟨S4096x8x128, .f32⟩
  | .hbm, ⟨58, _⟩ => ⟨S4096x8x128, .f32⟩
  | .hbm, ⟨59, _⟩ => ⟨S1x1x128, .f32⟩
  | .hbm, ⟨60, _⟩ => ⟨S4096x8x128, .f32⟩
  | .hbm, ⟨61, _⟩ => ⟨S4096x8x128, .f32⟩
  | .hbm, ⟨62, _⟩ => ⟨S4096x1024, .f32⟩
  | .hbm, ⟨63, _⟩ => ⟨S1x128, .f32⟩
  | .hbm, ⟨64, _⟩ => ⟨S128, .f32⟩
  | .hbm, ⟨65, _⟩ => ⟨S4096x8x128, .f32⟩
  | .hbm, ⟨66, _⟩ => ⟨S4096x8x128, .f32⟩
  | .hbm, ⟨67, _⟩ => ⟨S_, .f32⟩
  | .hbm, ⟨68, _⟩ => ⟨S4096x8, .f32⟩
  | .hbm, ⟨69, _⟩ => ⟨S4096x8x1, .f32⟩
  | .hbm, ⟨70, _⟩ => ⟨S_, .f32⟩
  | .hbm, ⟨71, _⟩ => ⟨S4096x8x1, .f32⟩
  | .hbm, ⟨72, _⟩ => ⟨S4096x8x1, .f32⟩
  | .hbm, ⟨73, _⟩ => ⟨S_, .f32⟩
  | .hbm, ⟨74, _⟩ => ⟨S4096x8x1, .f32⟩
  | .hbm, ⟨75, _⟩ => ⟨S4096x8x1, .f32⟩
  | .hbm, ⟨76, _⟩ => ⟨S4096x8x1, .f32⟩
  | .hbm, ⟨77, _⟩ => ⟨S4096x8x128, .f32⟩
  | .hbm, ⟨78, _⟩ => ⟨S4096x8x128, .f32⟩
  | .hbm, ⟨79, _⟩ => ⟨S1x1x128, .f32⟩
  | .hbm, ⟨80, _⟩ => ⟨S4096x8x128, .f32⟩
  | .hbm, ⟨81, _⟩ => ⟨S4096x8x128, .f32⟩
  | .hbm, ⟨82, _⟩ => ⟨S4096x1024, .f32⟩
  | .hbm, ⟨83, _⟩ => ⟨S4096x3072, .f32⟩
  | .hbm, ⟨84, _⟩ => ⟨S4096x3072, .bf16⟩
  | .hbm, ⟨85, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Loss.lean ====
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Mod.lean ====
abbrev S1024x8 : Shape := ⟨2, ![1024, 8]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x1 : Shape := ⟨2, ![1024, 1]⟩
abbrev S1x768 : Shape := ⟨2, ![1, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModReferenceIdeal.lean ====
abbrev S1024x8 : Shape := ⟨2, ![1024, 8]⟩
abbrev S4x8x768 : Shape := ⟨3, ![4, 8, 768]⟩
abbrev S_ : Shape := ⟨0, ![]⟩
abbrev S4x1024x768 : Shape := ⟨3, ![4, 1024, 768]⟩
abbrev S8x1024 : Shape := ⟨2, ![8, 1024]⟩
abbrev S4x768x8 : Shape := ⟨3, ![4, 768, 8]⟩
abbrev S4x768x1024 : Shape := ⟨3, ![4, 768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S_, .f32⟩
  | .hbm, ⟨3, _⟩ => ⟨S4x1024x768, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S4x768x8, .f32⟩
  | .hbm, ⟨15, _⟩ => ⟨S4x8x768, .f32⟩
  | .hbm, ⟨16, _⟩ => ⟨S4x768x8, .f32⟩
  | .hbm, ⟨17, _⟩ => ⟨S4x768x1024, .f32⟩
  | .hbm, ⟨18, _⟩ => ⟨S4x1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Ada.lean ====
abbrev S8x1024 : Shape := ⟨2, ![8, 1024]⟩
abbrev S4x1024x768 : Shape := ⟨3, ![4, 1024, 768]⟩
abbrev S4x768 : Shape := ⟨2, ![4, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S4x1024x768 : Shape := ⟨3, ![4, 1024, 768]⟩
abbrev S4x768 : Shape := ⟨2, ![4, 768]⟩
abbrev S_ : Shape := ⟨0, ![]⟩
abbrev S4x768x8 : Shape := ⟨3, ![4, 768, 8]⟩
abbrev S4x8x768 : Shape := ⟨3, ![4, 8, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x768x8, .f32⟩
  | .hbm, ⟨13, _⟩ => ⟨S4x8x768, .f32⟩
  | .hbm, ⟨14, _⟩ => ⟨S4x1x768, .f32⟩
  | .hbm, ⟨15, _⟩ => ⟨S4x8x768, .f32⟩
  | .hbm, ⟨16, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Math.lean ====
/- Stick-breaking attention over the reals, one head at a time: the weights, the output and the gradients of q, k and v as
   finite sums, and the partial sums both a right-to-left and a left-to-right sweep over blocks of columns keep. -/
module

public import Idealize.ShloMosaic.PureOps.Ideal
public import Idealize.ShloMosaic.PureOps.Ideal.Laws

@[expose] public section

noncomputable section

namespace Cert.Sb

open Finset

/-- The logarithm of the logistic function. -/
def ls (x : ℝ) : ℝ := min x 0 - Real.log (1 + Real.exp (-|x|))

/-- The logarithm of one minus the logistic function. -/
def lr (x : ℝ) : ℝ := ls x - x

theorem one_add_exp_pos (x : ℝ) : 0 < 1 + Real.exp x := by positivity

theorem lr_eq (x : ℝ) : lr x = ls (-x) := by
  unfold lr ls
  rw [abs_neg]
  rcases le_total x 0 with h | h
  · rw [min_eq_left h, min_eq_right (by linarith)]; ring
  · rw [min_eq_right h, min_eq_left (by linarith)]; ring

theorem exp_ls (x : ℝ) : Real.exp (ls x) = Real.exp (min x 0) / (1 + Real.exp (-|x|)) := by
  unfold ls
  rw [Real.exp_sub, Real.exp_log (one_add_exp_pos _)]

theorem exp_ls_add_exp_lr (x : ℝ) : Real.exp (ls x) + Real.exp (lr x) = 1 := by
  rw [lr_eq, exp_ls, exp_ls, abs_neg, ← add_div, div_eq_one_iff_eq (one_add_exp_pos _).ne']
  rcases le_total x 0 with h | h
  · rw [min_eq_left h, min_eq_right (by linarith), abs_of_nonpos h]; simp [add_comm]
  · rw [min_eq_right h, min_eq_left (by linarith), abs_of_nonneg h]; simp

/-- The softplus function as the larger of its argument and zero, plus a logarithm, is minus `ls` of the opposite. -/
theorem softplus_eq (x : ℝ) : max x 0 + Real.log (1 + Real.exp (-|x|)) = - ls (-x) := by
  unfold ls
  rw [abs_neg]
  rcases le_total x 0 with h | h
  · rw [max_eq_right h, min_eq_right (by linarith)]; ring
  · rw [max_eq_left h, min_eq_left (by linarith)]; ring

/-- One head's data: the scale, and q, k, v and the output's cotangent by row and column. -/
structure Head where
  c : ℝ
  q : ℕ → ℕ → ℝ
  k : ℕ → ℕ → ℝ
  v : ℕ → ℕ → ℝ
  g : ℕ → ℕ → ℝ

namespace Head

variable (H : Head)

def z (t s : ℕ) : ℝ := (∑ d ∈ range 128, H.q t d * H.k s d) * H.c
def lb (t s : ℕ) : ℝ := ls (H.z t s)
def lk (t s : ℕ) : ℝ := if s < t then lr (H.z t s) else 0
/-- The weight of column `s` in row `t`. -/
def W (t s : ℕ) : ℝ := if s < t then Real.exp (H.lb t s + ∑ j ∈ Ico (s + 1) 4096, H.lk t j) else 0
def O (t d : ℕ) : ℝ := ∑ s ∈ range 4096, H.W t s * H.v s d
def tot (t : ℕ) : ℝ := ∑ s ∈ range 4096, H.lk t s
def gv (t s : ℕ) : ℝ := ∑ d ∈ range 128, H.g t d * H.v s d
def de (t s : ℕ) : ℝ := H.gv t s * H.W t s
def dz (t s : ℕ) : ℝ :=
  if s < t then (H.de t s - Real.exp (H.lb t s) * (H.de t s + ∑ j ∈ range s, H.de t j)) * H.c else 0
def dq (t d : ℕ) : ℝ := ∑ s ∈ range 4096, H.dz t s * H.k s d
def dk (s d : ℕ) : ℝ := ∑ t ∈ range 4096, H.dz t s * H.q t d
def dv (s d : ℕ) : ℝ := ∑ t ∈ range 4096, H.W t s * H.g t d

theorem lk_of_le {t s : ℕ} (h : t ≤ s) : H.lk t s = 0 := by
  unfold lk; rw [if_neg (by omega)]
theorem W_of_le {t s : ℕ} (h : t ≤ s) : H.W t s = 0 := by
  unfold W; rw [if_neg (by omega)]
theorem de_of_le {t s : ℕ} (h : t ≤ s) : H.de t s = 0 := by
  unfold de; rw [H.W_of_le h, mul_zero]
theorem dz_of_le {t s : ℕ} (h : t ≤ s) : H.dz t s = 0 := by
  unfold dz; rw [if_neg (by omega)]
theorem lk_of_lt {t s : ℕ} (h : s < t) : H.lk t s = lr (H.z t s) := by
  unfold lk; rw [if_pos h]

/-- Columns at or past a row's own add nothing to a sum of `lk`, so the sum's upper end may be any bound of the row. -/
theorem sum_lk_top {t a m n : ℕ} (hm : t ≤ m) (hn : m ≤ n) : ∑ j ∈ Ico a n, H.lk t j = ∑ j ∈ Ico a m, H.lk t j := by
  symm
  apply sum_subset
  · intro j hj; simp only [mem_Ico] at *; omega
  · intro j hj hj'; simp only [mem_Ico] at *; exact H.lk_of_le (by omega)

theorem W_top {t s m : ℕ} (hm : t ≤ m) (hn : m ≤ 4096) :
    H.W t s = if s < t then Real.exp (H.lb t s + ∑ j ∈ Ico (s + 1) m, H.lk t j) else 0 := by
  unfold W; rw [H.sum_lk_top hm hn]

theorem sum_mul_top {f : ℕ → ℝ} {w : ℕ → ℝ} {t a m n : ℕ} (hw : ∀ s, t ≤ s → w s = 0) (hm : t ≤ m) (hn : m ≤ n) :
    ∑ j ∈ Ico a n, w j * f j = ∑ j ∈ Ico a m, w j * f j := by
  symm
  apply sum_subset
  · intro j hj; simp only [mem_Ico] at *; omega
  · intro j hj hj'; simp only [mem_Ico] at *; rw [hw _ (by omega), zero_mul]

end Head

/-- A sum over a block of `n` columns from `a` on, the block's columns counted from zero. -/
theorem sum_block (f : ℕ → ℝ) (a n : ℕ) : ∑ k ∈ range n, f (a + k) = ∑ j ∈ Ico a (a + n), f j := by
  rw [sum_Ico_eq_sum_range]; simp

/-- Within a block, the columns to the right of `b`. -/
theorem sum_block_right (f : ℕ → ℝ) (a n b : ℕ) (hb : b < n) :
    ∑ k ∈ range n, f (a + k) * (if b < k then 1 else 0) = ∑ j ∈ Ico (a + b + 1) (a + n), f j := by
  rw [sum_Ico_eq_sum_range]
  have : a + n - (a + b + 1) = n - (b + 1) := by omega
  rw [this]
  simp only [mul_ite, mul_one, mul_zero]
  rw [← sum_filter]
  have e : (range n).filter (fun k => b < k) = Ico (b + 1) n := by ext k; simp; omega
  rw [e, sum_Ico_eq_sum_range]
  exact sum_congr rfl fun k _ => by congr 1; omega

/-- Within a block, the columns to the left of `b`. -/
theorem sum_block_left (f : ℕ → ℝ) (a n b : ℕ) (hb : b < n) :
    ∑ k ∈ range n, f (a + k) * (if k < b then 1 else 0) = ∑ j ∈ Ico a (a + b), f j := by
  rw [← sum_block]
  simp only [mul_ite, mul_one, mul_zero]
  rw [← sum_filter]
  have e : (range n).filter (fun k => k < b) = range b := by ext k; simp; omega
  rw [e]

end Cert.Sb

end
-- ==== Proof.Lift.lean ====
/- Matrices of extended reals that hold real numbers, and what the operations of the kernels leave in them: `Rd x f` says that the
   matrix `x` holds the real number `f a b` at row `a` and column `b`. -/
module

public import proofs.«01_k».proof.Proof.Math
public import Idealize.ShloMosaic.Lib.Pointwise
public import Idealize.ShloMosaic.Lib.MatmulPlain
public import Idealize.ShloMosaic.Lib.IdealHost
public import Idealize.ShloMosaic.Lib.ValueLayoutCasts
public import Idealize.ShloMosaic.Lib.WritesUnit
public import Idealize.ShloMosaic.Lib.Pipeline.Value

@[expose] public section

noncomputable section

namespace Cert.Sb

open Idealize.ShloMosaic hiding ix0 ix1 ix2 ix3 eq_ix1 eq_ix2 eq_ix3
open Idealize.ShloMosaic.ValueIdx Finset

/-- The matrix `x` holds the real number `f a b` at row `a` and column `b`. -/
def Rd {n m : ℕ} (x : (⟨2, ![n, m]⟩ : Shape).Idx → EReal) (f : ℕ → ℕ → ℝ) : Prop :=
  ∀ (a : Fin n) (b : Fin m), x (ix2 a b) = ((f a.val b.val : ℝ) : EReal)

/-- The bit matrix `x` is set at row `a` and column `b` exactly if `P a b`. -/
def Mk {n m : ℕ} (x : (⟨2, ![n, m]⟩ : Shape).Idx → BitVec 1) (P : ℕ → ℕ → Prop) : Prop :=
  ∀ (a : Fin n) (b : Fin m), x (ix2 a b) = 1#1 ↔ P a.val b.val

/-- The sum of real numbers, taken among the extended reals. -/
theorem coe_sum {n : ℕ} (f : ℕ → ℝ) : ∑ k : Fin n, ((f k.val : ℝ) : EReal) = ((∑ k ∈ range n, f k : ℝ) : EReal) := by
  rw [Finset.sum_range]
  have h : ∀ s : Finset (Fin n), ∑ k ∈ s, ((f k.val : ℝ) : EReal) = ((∑ k ∈ s, f k.val : ℝ) : EReal) := by
    intro s
    induction s using Finset.induction_on with
    | empty => simp
    | insert a s ha ih => rw [Finset.sum_insert ha, Finset.sum_insert ha, ih, EReal.coe_add]
  exact h _

namespace Rd

variable {n m k l : ℕ} {φ ψ : FTy}

theorem congr {x : (⟨2, ![n, m]⟩ : Shape).Idx → EReal} {f g : ℕ → ℕ → ℝ} (h : Rd x f)
    (e : ∀ a b, a < n → b < m → f a b = g a b) : Rd x g := fun a b => by
  rw [h a b, e _ _ a.isLt b.isLt]

theorem cast {x y : (⟨2, ![n, m]⟩ : Shape).Idx → EReal} {f : ℕ → ℕ → ℝ} (h : Rd x f) (e : y = x) : Rd y f := e ▸ h

theorem ext {x y : (⟨2, ![n, m]⟩ : Shape).Idx → EReal} {f : ℕ → ℕ → ℝ} (h : Rd x f) (h' : Rd y f) : x = y := by
  funext j
  rw [eq_ix2 j]
  exact (h _ _).trans (h' _ _).symm

theorem zero : Rd (constant (F := Ideal) ⟨2, ![n, m]⟩ .f32 0x00000000#32) (fun _ _ => 0) := fun a b => by
  show Ideal.ofBits .f32 0x00000000#32 = _
  rw [Ideal.ofBits_zero_f32]; rfl

theorem splat {r : EReal} {v : ℝ} (h : r = (v : EReal)) : Rd (broadcast ⟨2, ![n, m]⟩ r) (fun _ _ => v) := fun _ _ => h

theorem add {x y : FVec Ideal ⟨2, ![n, m]⟩ φ} {f g : ℕ → ℕ → ℝ} (h : Rd x f) (h' : Rd y g) :
    Rd (addf x y) (fun a b => f a b + g a b) := fun a b => by
  show x _ + y _ = _
  rw [h a b, h' a b, EReal.coe_add]

theorem sub {x y : FVec Ideal ⟨2, ![n, m]⟩ φ} {f g : ℕ → ℕ → ℝ} (h : Rd x f) (h' : Rd y g) :
    Rd (subf x y) (fun a b => f a b - g a b) := fun a b => by
  show x _ - y _ = _
  rw [h a b, h' a b, EReal.coe_sub]

theorem mul {x y : FVec Ideal ⟨2, ![n, m]⟩ φ} {f g : ℕ → ℕ → ℝ} (h : Rd x f) (h' : Rd y g) :
    Rd (mulf x y) (fun a b => f a b * g a b) := fun a b => by
  show x _ * y _ = _
  rw [h a b, h' a b, EReal.coe_mul]

theorem exp {x : FVec Ideal ⟨2, ![n, m]⟩ φ} {f : ℕ → ℕ → ℝ} (h : Rd x f) :
    Rd (Idealize.ShloMosaic.exp x) (fun a b => Real.exp (f a b)) := fun a b => by
  show Ideal.exp (x _) = _
  rw [h a b, Ideal.exp_coe]

theorem log {x : FVec Ideal ⟨2, ![n, m]⟩ φ} {f : ℕ → ℕ → ℝ} (h : Rd x f) (hp : ∀ a b, 0 < f a b) :
    Rd (Idealize.ShloMosaic.log x) (fun a b => Real.log (f a b)) := fun a b => by
  show Ideal.log (x _) = _
  rw [h a b, Ideal.log_coe, if_neg (not_le.mpr (hp _ _))]

theorem abs {x : FVec Ideal ⟨2, ![n, m]⟩ φ} {f : ℕ → ℕ → ℝ} (h : Rd x f) :
    Rd (absf x) (fun a b => |f a b|) := fun a b => by
  show max (x _) (-(x _)) = _
  rw [h a b, ← EReal.coe_neg, ← (EReal.coe_strictMono.monotone).map_max]; rfl

theorem min {x y : FVec Ideal ⟨2, ![n, m]⟩ φ} {f g : ℕ → ℕ → ℝ} (h : Rd x f) (h' : Rd y g) :
    Rd (minimumf x y) (fun a b => Min.min (f a b) (g a b)) := fun a b => by
  show Min.min (x _) (y _) = _
  rw [h a b, h' a b, ← (EReal.coe_strictMono.monotone).map_min]

theorem trunc {x : FVec Ideal ⟨2, ![n, m]⟩ φ} {f : ℕ → ℕ → ℝ} (h : Rd x f) (hb : ψ.bits < φ.bits) :
    Rd (truncf ψ x hb) f := h

theorem extend {x : FVec Ideal ⟨2, ![n, m]⟩ φ} {f : ℕ → ℕ → ℝ} (h : Rd x f) (hb : φ.bits < ψ.bits) :
    Rd (extf ψ x hb) f := h

theorem sel {c : IVec ⟨2, ![n, m]⟩ 1} {P : ℕ → ℕ → Prop} [∀ a b, Decidable (P a b)] {x y : FVec Ideal ⟨2, ![n, m]⟩ φ} {f g : ℕ → ℕ → ℝ}
    (hc : Mk c P) (h : Rd x f) (h' : Rd y g) : Rd (select c x y) (fun a b => if P a b then f a b else g a b) := fun a b => by
  show (if c (ix2 a b) = 1#1 then x _ else y _) = (((if P a.val b.val then f a.val b.val else g a.val b.val) : ℝ) : EReal)
  by_cases hP : P a.val b.val
  · rw [if_pos ((hc a b).2 hP), if_pos hP, h a b]
  · rw [if_neg (fun e => hP ((hc a b).1 e)), if_neg hP, h' a b]

theorem same {x : (⟨2, ![n, m]⟩ : Shape).Idx → EReal} {f : ℕ → ℕ → ℝ} (h : Rd x f)
    (hs : (⟨2, ![n, m]⟩ : Shape).ShapeCasts ⟨2, ![n, m]⟩) : Rd (shapeCast ⟨2, ![n, m]⟩ x hs) f := by
  rw [shapeCast_self]; exact h

theorem slice {x : (⟨2, ![n, m]⟩ : Shape).Idx → EReal} {f : ℕ → ℕ → ℝ} (h : Rd x f) (o p : ℕ)
    (hs : (⟨2, ![n, m]⟩ : Shape).Slices ![o, p] ⟨2, ![k, l]⟩) :
    Rd (extractStridedSlice ⟨2, ![k, l]⟩ ![o, p] x hs) (fun a b => f (o + a) (p + b)) := fun a b => by
  have ha : o + k ≤ n := hs.2 0
  have hb : p + l ≤ m := hs.2 1
  have e : extractStridedSlice ⟨2, ![k, l]⟩ ![o, p] x hs (ix2 a b) = x (ix2 ⟨o + a.val, by omega⟩ ⟨p + b.val, by omega⟩) := by
    refine congrArg x ?_
    funext i; match i with | ⟨0, _⟩ => rfl | ⟨1, _⟩ => rfl
  rw [e, h]

theorem bcol {x : (⟨2, ![n, 1]⟩ : Shape).Idx → EReal} {f : ℕ → ℕ → ℝ} (h : Rd x f)
    (hs : (⟨2, ![n, 1]⟩ : Shape).Broadcasts ⟨2, ![n, m]⟩) :
    Rd (broadcastTo ⟨2, ![n, m]⟩ x hs) (fun a _ => f a 0) := fun a b => by
  have e : broadcastTo ⟨2, ![n, m]⟩ x hs (ix2 a b) = x (ix2 a 0) := by
    rw [Pointwise.broadcastTo_apply]
    refine congrArg x ?_
    funext i; apply Fin.ext
    match i with
    | ⟨0, _⟩ =>
      by_cases h1 : n = 1
      · refine (congrArg Fin.val (dif_pos h1)).trans ?_
        have := a.isLt
        show 0 = a.val
        omega
      · exact congrArg Fin.val (dif_neg h1)
    | ⟨1, _⟩ => rfl
  rw [e, h]; rfl

theorem rowsum {x : FVec Ideal ⟨2, ![n, m]⟩ .f32} {f : ℕ → ℕ → ℝ} (h : Rd x f)
    (hr : (⟨2, ![n, m]⟩ : Shape).Reduces [1] ⟨1, ![n]⟩) (hφ hacc)
    (hs : (⟨1, ![n]⟩ : Shape).ShapeCasts ⟨2, ![n, 1]⟩) :
    Rd (shapeCast ⟨2, ![n, 1]⟩ (multiReduction .add [1] ⟨1, ![n]⟩ x 0x00000000#32 hr hφ hacc) hs)
      (fun a _ => ∑ j ∈ range m, f a j) := fun a b => by
  rw [shapeCast_a_a1_apply]
  show Ideal.reduceAdd hr x (ix1 a) = _
  rw [Ideal.reduceAdd_r2_a1, ← coe_sum]
  exact Finset.sum_congr rfl fun j _ => h a j

theorem cat {x : (⟨2, ![n, k]⟩ : Shape).Idx → EReal} {y : (⟨2, ![n, l]⟩ : Shape).Idx → EReal} {f g : ℕ → ℕ → ℝ}
    (h : Rd x f) (h' : Rd y g) (hs : Shape.Concatenates [⟨2, ![n, k]⟩, ⟨2, ![n, l]⟩] ⟨2, ![n, m]⟩ 1) :
    Rd (concatenate ⟨2, ![n, m]⟩ 1 [⟨⟨2, ![n, k]⟩, x⟩, ⟨⟨2, ![n, l]⟩, y⟩] hs) (fun a b => if b < k then f a b else g a (b - k)) := fun a b => by
  have hm : k + l = m := by have := hs.size_axis; simpa using this
  rw [concatenate_pair_apply]
  show _ = (((if b.val < k then f a.val b.val else g a.val (b.val - k)) : ℝ) : EReal)
  by_cases hb : b.val < k
  · rw [if_pos hb]
    refine (dif_pos (show (ix2 a b (1 : Fin 2)).val < k from hb)).trans ?_
    refine Eq.trans (congrArg x ?_) (h a ⟨b.val, hb⟩)
    funext i; apply Fin.ext; match i with | ⟨0, _⟩ => rfl | ⟨1, _⟩ => rfl
  · rw [if_neg hb]
    have := b.isLt
    refine (dif_neg (show ¬ (ix2 a b (1 : Fin 2)).val < k from hb)).trans ?_
    refine Eq.trans (congrArg y ?_) (h' a ⟨b.val - k, by omega⟩)
    funext i; apply Fin.ext; match i with | ⟨0, _⟩ => rfl | ⟨1, _⟩ => rfl

theorem mm {d : DotDims ⟨2, ![n, k]⟩ ⟨2, ![k, m]⟩ ⟨2, ![n, m]⟩} (hd : d = DotDims.plain n k m)
    {x : FVec Ideal ⟨2, ![n, k]⟩ φ} {y : FVec Ideal ⟨2, ![k, m]⟩ ψ} {f g : ℕ → ℕ → ℝ} (h : Rd x f) (h' : Rd y g) (prec) :
    Rd (matmul d prec x y (constant ⟨2, ![n, m]⟩ .f32 0x00000000#32)) (fun a b => ∑ j ∈ range k, f a j * g j b) := fun a b => by
  subst hd
  show FloatOps.matmul (DotDims.plain n k m) prec x y _ (ix2 a b) = _
  rw [Ideal.matmul_plain_apply, zero a b, EReal.coe_zero, zero_add, ← coe_sum]
  exact Finset.sum_congr rfl fun j _ => by rw [h a j, h' j b, EReal.coe_mul]

theorem mmT {d : DotDims ⟨2, ![n, k]⟩ ⟨2, ![m, k]⟩ ⟨2, ![n, m]⟩} (hd : d = DotDims.transposedRhs n k m)
    {x : FVec Ideal ⟨2, ![n, k]⟩ φ} {y : FVec Ideal ⟨2, ![m, k]⟩ ψ} {f g : ℕ → ℕ → ℝ} (h : Rd x f) (h' : Rd y g) (prec) :
    Rd (matmul d prec x y (constant ⟨2, ![n, m]⟩ .f32 0x00000000#32)) (fun a b => ∑ j ∈ range k, f a j * g b j) := fun a b => by
  subst hd
  show FloatOps.matmul (DotDims.transposedRhs n k m) prec x y _ (ix2 a b) = _
  rw [Ideal.matmul_transposedRhs_apply, zero a b, EReal.coe_zero, zero_add, ← coe_sum]
  exact Finset.sum_congr rfl fun j _ => by rw [h a j, h' b j, EReal.coe_mul]

/-- The product of a transposed matrix and a matrix. -/
theorem Tmm {d : DotDims ⟨2, ![k, n]⟩ ⟨2, ![k, m]⟩ ⟨2, ![n, m]⟩} (h1 : d.lhsContracting = [0]) (h2 : d.rhsContracting = [0])
    (h3 : d.lhsNonContracting = [1]) (h4 : d.rhsNonContracting = [1]) (h5 : d.lhsBatch = []) (h6 : d.rhsBatch = [])
    {x : FVec Ideal ⟨2, ![k, n]⟩ φ} {y : FVec Ideal ⟨2, ![k, m]⟩ ψ} {f g : ℕ → ℕ → ℝ} (h : Rd x f) (h' : Rd y g) (prec) :
    Rd (matmul d prec x y (constant ⟨2, ![n, m]⟩ .f32 0x00000000#32)) (fun a b => ∑ j ∈ range k, f j a * g j b) := fun a b => by
  obtain ⟨_, _, _, _, _, _, wf⟩ := d
  subst h1 h2 h3 h4 h5 h6
  show Ideal.matmul _ x y _ (ix2 a b) = _
  rw [Ideal.matmul_apply₁ _ (a := 0) rfl (K := k) rfl, zero a b, EReal.coe_zero, zero_add, ← coe_sum]
  refine Finset.sum_congr rfl fun j _ => ?_
  rw [EReal.coe_mul, ← h j a, ← h' j b]
  congr 1
  · refine congrArg x ?_
    funext i; apply Fin.ext; match i with | ⟨0, _⟩ => rfl | ⟨1, _⟩ => rfl
  · refine congrArg y ?_
    funext i; apply Fin.ext; match i with | ⟨0, _⟩ => rfl | ⟨1, _⟩ => rfl

/-- A box of a matrix. -/
theorem ld {x : (⟨2, ![n, m]⟩ : Shape).Idx → EReal} {f : ℕ → ℕ → ℝ} (h : Rd x f) {off size : Fin 2 → ℕ} (inb)
    (hs : size = ![k, l]) {o p : ℕ} (ho : off = ![o, p]) (w : (⟨2, ![k, l]⟩ : Shape).Idx → EReal)
    (hw : HEq w (fun j => x ((Rect.unit (s := ⟨2, ![n, m]⟩) off size inb).idx j))) :
    Rd w (fun a b => f (o + a) (p + b)) := by
  subst hs ho
  have hw := eq_of_heq hw
  subst hw
  intro a b
  have ha : o + k ≤ n := inb 0
  have hb : p + l ≤ m := inb 1
  refine Eq.trans (congrArg x ?_) (h ⟨o + a.val, by omega⟩ ⟨p + b.val, by omega⟩)
  funext i; apply Fin.ext
  match i with
  | ⟨0, _⟩ => show o + 1 * a.val = _; simp
  | ⟨1, _⟩ => show p + 1 * b.val = _; simp

end Rd

/-- The matrix of words `x` holds the number `p a b` at row `a` and column `b`. -/
def Nt {n m : ℕ} (x : IVec ⟨2, ![n, m]⟩ 32) (p : ℕ → ℕ → ℕ) : Prop :=
  ∀ (a : Fin n) (b : Fin m), x (ix2 a b) = BitVec.ofNat 32 (p a.val b.val)

namespace Nt

variable {n m : ℕ}

theorem rows (h : (⟨2, ![n, m]⟩ : Shape).Iotas .tc 32 [0]) : Nt (iota .tc ⟨2, ![n, m]⟩ 32 [0] h) (fun a _ => a) := fun a b => by
  rw [iota_single_apply]; rfl

theorem cols (h : (⟨2, ![n, m]⟩ : Shape).Iotas .tc 32 [1]) : Nt (iota .tc ⟨2, ![n, m]⟩ 32 [1] h) (fun _ b => b) := fun a b => by
  rw [iota_single_apply]; rfl

theorem splat (v : ℕ) : Nt (broadcast ⟨2, ![n, m]⟩ (BitVec.ofNat 32 v)) (fun _ _ => v) := fun _ _ => rfl

theorem add {x y : IVec ⟨2, ![n, m]⟩ 32} {p q : ℕ → ℕ → ℕ} (h : Nt x p) (h' : Nt y q) :
    Nt (addi x y) (fun a b => p a b + q a b) := fun a b => by
  show x _ + y _ = _
  rw [h a b, h' a b, BitVec.ofNat_add]

theorem slt_ofNat {a b : ℕ} (ha : a < 2 ^ 31) (hb : b < 2 ^ 31) :
    (BitVec.ofNat 32 a).slt (BitVec.ofNat 32 b) = decide (a < b) := by
  rw [BitVec.slt_eq_decide, BitVec.toInt_eq_toNat_of_lt (by simp; omega), BitVec.toInt_eq_toNat_of_lt (by simp; omega)]
  simp only [BitVec.toNat_ofNat, Nat.cast_lt]
  rw [Nat.mod_eq_of_lt (by omega), Nat.mod_eq_of_lt (by omega)]

theorem sgt {x y : IVec ⟨2, ![n, m]⟩ 32} {p q : ℕ → ℕ → ℕ} (h : Nt x p) (h' : Nt y q)
    (hp : ∀ a b, a < n → b < m → p a b < 2 ^ 31) (hq : ∀ a b, a < n → b < m → q a b < 2 ^ 31) :
    Mk (cmpi .sgt x y) (fun a b => q a b < p a b) := fun a b => by
  show BitVec.ofBool ((y (ix2 a b)).slt (x (ix2 a b))) = 1#1 ↔ _
  rw [h a b, h' a b, slt_ofNat (hq _ _ a.isLt b.isLt) (hp _ _ a.isLt b.isLt)]
  by_cases e : q a.val b.val < p a.val b.val <;> simp [e]

theorem slt {x y : IVec ⟨2, ![n, m]⟩ 32} {p q : ℕ → ℕ → ℕ} (h : Nt x p) (h' : Nt y q)
    (hp : ∀ a b, a < n → b < m → p a b < 2 ^ 31) (hq : ∀ a b, a < n → b < m → q a b < 2 ^ 31) :
    Mk (cmpi .slt x y) (fun a b => p a b < q a b) := fun a b => by
  show BitVec.ofBool ((x (ix2 a b)).slt (y (ix2 a b))) = 1#1 ↔ _
  rw [h a b, h' a b, slt_ofNat (hp _ _ a.isLt b.isLt) (hq _ _ a.isLt b.isLt)]
  by_cases e : p a.val b.val < q a.val b.val <;> simp [e]

end Nt

/-- The number a set bit denotes. -/
theorem Rd.bit {n m : ℕ} {φ : FTy} {c : IVec ⟨2, ![n, m]⟩ 1} {P : ℕ → ℕ → Prop} [∀ a b, Decidable (P a b)] (h : Mk c P) (hw) :
    Rd (sitofp (F := Ideal) φ (extui 32 c hw)) (fun a b => if P a b then 1 else 0) := fun a b => by
  show ((((c (ix2 a b)).setWidth 32).toInt : ℝ) : EReal) = (((if P a.val b.val then 1 else 0) : ℝ) : EReal)
  by_cases hP : P a.val b.val
  · rw [(h a b).2 hP, if_pos hP]
    norm_num
  · have e : c (ix2 a b) = 0#1 := by
      rcases bit_eq_zero_or_eq_one (c (ix2 a b)) with e | e
      · exact e
      · exact absurd ((h a b).1 e) hP
    rw [e, if_neg hP]
    norm_num

/-- The scale of the scores: the number the word 0x3DB504F3 denotes, 128 to the power of minus one half rounded. -/
def scale : ℝ := (Ideal.ofBits .f32 0x3DB504F3#32).toReal

theorem ofBits_scale : Ideal.ofBits .f32 0x3DB504F3#32 = ((scale : ℝ) : EReal) := by
  unfold scale
  rw [EReal.coe_toReal]
  · simp [Ideal.ofBits, Ideal.ieee, -EReal.coe_mul]
  · simp [Ideal.ofBits, Ideal.ieee, -EReal.coe_mul]

theorem lit_scale : Scalar.ofBits (F := Ideal) .f32 0x3DB504F3#32 = ((scale : ℝ) : EReal) := ofBits_scale
theorem lit_zero : Scalar.ofBits (F := Ideal) .f32 0x00000000#32 = ((0 : ℝ) : EReal) := Ideal.ofBits_zero_f32
theorem lit_one : Scalar.ofBits (F := Ideal) .f32 0x3F800000#32 = ((1 : ℝ) : EReal) := Ideal.ofBits_one_f32

namespace Rd

variable {n m k : ℕ}

/-- The logarithm of the logistic function, as the kernels compute it. -/
theorem lsOp {z : FVec Ideal ⟨2, ![n, m]⟩ .f32} {f : ℕ → ℕ → ℝ} (h : Rd z f) :
    Rd (subf (minimumf z (broadcast ⟨2, ![n, m]⟩ (Scalar.ofBits (F := Ideal) .f32 0x00000000#32)))
      (Idealize.ShloMosaic.log (addf (broadcast ⟨2, ![n, m]⟩ (Scalar.ofBits (F := Ideal) .f32 0x3F800000#32))
        (Idealize.ShloMosaic.exp (subf (broadcast ⟨2, ![n, m]⟩ (Scalar.ofBits (F := Ideal) .f32 0x00000000#32)) (absf z))))))
      (fun a b => ls (f a b)) :=
  (sub (min h (splat lit_zero)) (log (add (splat lit_one) (exp (sub (splat lit_zero) (abs h))))
    (fun _ _ => by positivity))).congr fun a b _ _ => by unfold ls; rw [zero_sub]

/-- A product taken in two parts, the rounded matrix and what rounding left: over exact numbers the second part is zero. -/
theorem splitDot {d : DotDims ⟨2, ![n, k]⟩ ⟨2, ![k, m]⟩ ⟨2, ![n, m]⟩} (hd : d = DotDims.plain n k m)
    {x : FVec Ideal ⟨2, ![n, k]⟩ .f32} {y : FVec Ideal ⟨2, ![k, m]⟩ .bf16} {f g : ℕ → ℕ → ℝ} (h : Rd x f) (h' : Rd y g) (prec) (h1 h2 h3) :
    Rd (addf (matmul d prec (truncf .bf16 x h1) y (constant ⟨2, ![n, m]⟩ .f32 0x00000000#32))
      (matmul d prec (truncf .bf16 (subf x (extf .f32 (truncf .bf16 x h1) h2)) h3) y (constant ⟨2, ![n, m]⟩ .f32 0x00000000#32)))
      (fun a b => ∑ j ∈ range k, f a j * g j b) :=
  (add (mm hd (h.trunc h1) h' prec) (mm hd ((sub h ((h.trunc h1).extend h2)).trunc h3) h' prec)).congr fun a b _ _ => by
    simp

end Rd

end Cert.Sb

end
-- ==== Proof.Store.lean ====
/- What loads and stores leave in the matrices of a kernel: a load reads a box, a store of whole rows puts a box. -/
module

public import proofs.«01_k».proof.Proof.Lift
public import Idealize.ShloMosaic.Lib.VecWindow
public import Idealize.ShloMosaic.Lib.WritesUnit
public import Idealize.ShloMosaic.Lib.WholeRead

@[expose] public section

noncomputable section

namespace Cert.Sb

open Idealize.ShloMosaic hiding ix0 ix1 ix2 ix3 eq_ix1 eq_ix2 eq_ix3
open Idealize.ShloMosaic.ValueIdx Finset

/-- The real matrix `f` with the rows from `r` to `r + k` replaced by those of `g`. -/
def put (r k : ℕ) (g f : ℕ → ℕ → ℝ) : ℕ → ℕ → ℝ := fun a b => if r ≤ a ∧ a < r + k then g (a - r) b else f a b

namespace Rd

variable {n m k l : ℕ} {sig : RefSig} {κ : Kind} {sp : Space}

/-- A load of a box, of contents that hold a real matrix. -/
theorem rd {v : View sig κ sp ⟨2, ![n, m]⟩ .f32} {G : v.ty.Contents (Elt Ideal)} {f : ℕ → ℕ → ℝ} (h : Rd (v.read (Elt Ideal) G) f)
    {off size : Fin 2 → ℕ} (inb) (hs : size = ![k, l]) {o p : ℕ} (ho : off = ![o, p]) (w : (⟨2, ![k, l]⟩ : Shape).Idx → EReal)
    (hw : HEq w (v.readAt (Elt Ideal) (Rect.unit (s := ⟨2, ![n, m]⟩) off size inb).toLoadRect G)) :
    Rd w (fun a b => f (o + a) (p + b)) := h.ld inb hs ho w hw

/-- A load of the rows from `o` on. -/
theorem rows {v : View sig κ sp ⟨2, ![n, m]⟩ .f32} {G : v.ty.Contents (Elt Ideal)} {f : ℕ → ℕ → ℝ} (h : Rd (v.read (Elt Ideal) G) f)
    {off : Fin 2 → ℕ} {o : ℕ} (ho : off = ![o, 0]) {inb} :
    Rd (n := k) (m := l) (v.readAt (Elt Ideal) (Rect.unit (s := ⟨2, ![n, m]⟩) off ![k, l] inb).toLoadRect G) (fun a b => f (o + a) b) :=
  (h.rd inb rfl ho _ HEq.rfl).congr fun a b _ _ => by rw [Nat.zero_add]

/-- A load of the whole. -/
theorem all {v : View sig κ sp ⟨2, ![n, m]⟩ .f32} {G : v.ty.Contents (Elt Ideal)} {f : ℕ → ℕ → ℝ} (h : Rd (v.read (Elt Ideal) G) f)
    {inb} :
    Rd (n := n) (m := m) (v.readAt (Elt Ideal) (Rect.unit (s := ⟨2, ![n, m]⟩) ![0, 0] ![n, m] inb).toLoadRect G) f :=
  (h.rows rfl).congr fun a b _ _ => by rw [Nat.zero_add]

/-- A load of the rows from `o` on, out of stores. -/
theorem covRows {v : View sig κ sp ⟨2, ![n, m]⟩ .f32} {L : List (View.Piece (Elt Ideal) ⟨2, ![n, m]⟩ .f32)} {f : ℕ → ℕ → ℝ}
    (h : Rd (v.read (Elt Ideal) (v.writes (Elt Ideal) v.junk L)) f) {off : Fin 2 → ℕ} {o : ℕ} (ho : off = ![o, 0]) {inb} :
    Rd (n := k) (m := l) (v.readCov (Val := Elt Ideal) L (Rect.unit (s := ⟨2, ![n, m]⟩) off ![k, l] inb).toLoadRect) (fun a b => f (o + a) b) :=
  h.rows ho

/-- A load of the whole, out of stores. -/
theorem cov {v : View sig κ sp ⟨2, ![n, m]⟩ .f32} {L : List (View.Piece (Elt Ideal) ⟨2, ![n, m]⟩ .f32)} {f : ℕ → ℕ → ℝ}
    (h : Rd (v.read (Elt Ideal) (v.writes (Elt Ideal) v.junk L)) f) {inb} :
    Rd (n := n) (m := m) (v.readCov (Val := Elt Ideal) L (Rect.unit (s := ⟨2, ![n, m]⟩) ![0, 0] ![n, m] inb).toLoadRect) f :=
  h.all

/-- The contents that read `x`. -/
theorem un {x : (⟨2, ![n, m]⟩ : Shape).Idx → EReal} {f : ℕ → ℕ → ℝ} (h : Rd x f) {r : Memref sig κ sp ⟨2, ![n, m]⟩ .f32}
    (hr : r.IsWhole) : Rd (r.view.read (Elt Ideal) (hr.unread (Val := Elt Ideal) x)) f := by
  rw [hr.read_unread]; exact h

/-- A store of the whole. -/
theorem putAll {v : View sig κ sp ⟨2, ![n, m]⟩ .f32} {G : v.ty.Contents (Elt Ideal)} {x : (⟨2, ![n, m]⟩ : Shape).Idx → EReal} {f : ℕ → ℕ → ℝ}
    (h : Rd x f) {inb} {L : List (View.Piece (Elt Ideal) ⟨2, ![n, m]⟩ .f32)} :
    Rd (v.read (Elt Ideal) (v.writes (Elt Ideal) G ((⟨Rect.unit (s := ⟨2, ![n, m]⟩) ![0, 0] ![n, m] inb, x⟩ : View.Piece (Elt Ideal) ⟨2, ![n, m]⟩ .f32) :: L))) f := by
  have e := View.read_writes_full (Val := Elt Ideal) (s := ⟨2, ![n, m]⟩) v G (off := ![0, 0]) inb x L
  exact fun a b => (congrFun e (ix2 a b)).trans (h a b)

/-- A store of the rows from `o` on. -/
theorem putRows {v : View sig κ sp ⟨2, ![n, m]⟩ .f32} {G : v.ty.Contents (Elt Ideal)} {x : (⟨2, ![k, m]⟩ : Shape).Idx → EReal} {f g : ℕ → ℕ → ℝ}
    {L : List (View.Piece (Elt Ideal) ⟨2, ![n, m]⟩ .f32)} (h : Rd x g) (hL : Rd (v.read (Elt Ideal) (v.writes (Elt Ideal) G L)) f)
    {off : Fin 2 → ℕ} {o : ℕ} (ho : off = ![o, 0]) {inb} :
    Rd (v.read (Elt Ideal) (v.writes (Elt Ideal) G ((⟨Rect.unit (s := ⟨2, ![n, m]⟩) off ![k, m] inb, x⟩ : View.Piece (Elt Ideal) ⟨2, ![n, m]⟩ .f32) :: L)))
      (put o k g f) := fun a b => by
  unfold put
  by_cases hab : o ≤ a.val ∧ a.val < o + k
  · rw [if_pos hab]
    refine (View.read_writes_cons_unit_of_mem (Val := Elt Ideal) v G inb x L (ix2 a b) (ix2 (n0 := k) (n1 := m) ⟨a.val - o, by omega⟩ b) ho ?_).trans
      (h ⟨a.val - o, by omega⟩ b)
    intro i
    match i with
    | ⟨0, _⟩ => show a.val = o + (a.val - o); omega
    | ⟨1, _⟩ => show b.val = 0 + b.val; omega
  · rw [if_neg hab]
    refine (View.read_writes_cons_unit_of_not_mem (Val := Elt Ideal) v G inb x L (ix2 a b) ho 0 ?_).trans (hL a b)
    show a.val < o ∨ o + k ≤ a.val
    omega

/-- A load of a box, of contents that hold a real matrix. -/
theorem rdB {v : View sig κ sp ⟨2, ![n, m]⟩ .bf16} {G : v.ty.Contents (Elt Ideal)} {f : ℕ → ℕ → ℝ} (h : Rd (v.read (Elt Ideal) G) f)
    {off size : Fin 2 → ℕ} (inb) (hs : size = ![k, l]) {o p : ℕ} (ho : off = ![o, p]) (w : (⟨2, ![k, l]⟩ : Shape).Idx → EReal)
    (hw : HEq w (v.readAt (Elt Ideal) (Rect.unit (s := ⟨2, ![n, m]⟩) off size inb).toLoadRect G)) :
    Rd w (fun a b => f (o + a) (p + b)) := h.ld inb hs ho w hw

/-- A load of the rows from `o` on. -/
theorem rowsB {v : View sig κ sp ⟨2, ![n, m]⟩ .bf16} {G : v.ty.Contents (Elt Ideal)} {f : ℕ → ℕ → ℝ} (h : Rd (v.read (Elt Ideal) G) f)
    {off : Fin 2 → ℕ} {o : ℕ} (ho : off = ![o, 0]) {inb} :
    Rd (n := k) (m := l) (v.readAt (Elt Ideal) (Rect.unit (s := ⟨2, ![n, m]⟩) off ![k, l] inb).toLoadRect G) (fun a b => f (o + a) b) :=
  (h.rdB inb rfl ho _ HEq.rfl).congr fun a b _ _ => by rw [Nat.zero_add]

/-- A load of the whole. -/
theorem allB {v : View sig κ sp ⟨2, ![n, m]⟩ .bf16} {G : v.ty.Contents (Elt Ideal)} {f : ℕ → ℕ → ℝ} (h : Rd (v.read (Elt Ideal) G) f)
    {inb} :
    Rd (n := n) (m := m) (v.readAt (Elt Ideal) (Rect.unit (s := ⟨2, ![n, m]⟩) ![0, 0] ![n, m] inb).toLoadRect G) f :=
  (h.rowsB rfl).congr fun a b _ _ => by rw [Nat.zero_add]

/-- A load of the rows from `o` on, out of stores. -/
theorem covRowsB {v : View sig κ sp ⟨2, ![n, m]⟩ .bf16} {L : List (View.Piece (Elt Ideal) ⟨2, ![n, m]⟩ .bf16)} {f : ℕ → ℕ → ℝ}
    (h : Rd (v.read (Elt Ideal) (v.writes (Elt Ideal) v.junk L)) f) {off : Fin 2 → ℕ} {o : ℕ} (ho : off = ![o, 0]) {inb} :
    Rd (n := k) (m := l) (v.readCov (Val := Elt Ideal) L (Rect.unit (s := ⟨2, ![n, m]⟩) off ![k, l] inb).toLoadRect) (fun a b => f (o + a) b) :=
  h.rowsB ho

/-- A load of the whole, out of stores. -/
theorem covB {v : View sig κ sp ⟨2, ![n, m]⟩ .bf16} {L : List (View.Piece (Elt Ideal) ⟨2, ![n, m]⟩ .bf16)} {f : ℕ → ℕ → ℝ}
    (h : Rd (v.read (Elt Ideal) (v.writes (Elt Ideal) v.junk L)) f) {inb} :
    Rd (n := n) (m := m) (v.readCov (Val := Elt Ideal) L (Rect.unit (s := ⟨2, ![n, m]⟩) ![0, 0] ![n, m] inb).toLoadRect) f :=
  h.allB

/-- The contents that read `x`. -/
theorem unB {x : (⟨2, ![n, m]⟩ : Shape).Idx → EReal} {f : ℕ → ℕ → ℝ} (h : Rd x f) {r : Memref sig κ sp ⟨2, ![n, m]⟩ .bf16}
    (hr : r.IsWhole) : Rd (r.view.read (Elt Ideal) (hr.unread (Val := Elt Ideal) x)) f := by
  rw [hr.read_unread]; exact h

/-- A store of the whole. -/
theorem putAllB {v : View sig κ sp ⟨2, ![n, m]⟩ .bf16} {G : v.ty.Contents (Elt Ideal)} {x : (⟨2, ![n, m]⟩ : Shape).Idx → EReal} {f : ℕ → ℕ → ℝ}
    (h : Rd x f) {inb} {L : List (View.Piece (Elt Ideal) ⟨2, ![n, m]⟩ .bf16)} :
    Rd (v.read (Elt Ideal) (v.writes (Elt Ideal) G ((⟨Rect.unit (s := ⟨2, ![n, m]⟩) ![0, 0] ![n, m] inb, x⟩ : View.Piece (Elt Ideal) ⟨2, ![n, m]⟩ .bf16) :: L))) f := by
  have e := View.read_writes_full (Val := Elt Ideal) (s := ⟨2, ![n, m]⟩) v G (off := ![0, 0]) inb x L
  exact fun a b => (congrFun e (ix2 a b)).trans (h a b)

/-- A store of the rows from `o` on. -/
theorem putRowsB {v : View sig κ sp ⟨2, ![n, m]⟩ .bf16} {G : v.ty.Contents (Elt Ideal)} {x : (⟨2, ![k, m]⟩ : Shape).Idx → EReal} {f g : ℕ → ℕ → ℝ}
    {L : List (View.Piece (Elt Ideal) ⟨2, ![n, m]⟩ .bf16)} (h : Rd x g) (hL : Rd (v.read (Elt Ideal) (v.writes (Elt Ideal) G L)) f)
    {off : Fin 2 → ℕ} {o : ℕ} (ho : off = ![o, 0]) {inb} :
    Rd (v.read (Elt Ideal) (v.writes (Elt Ideal) G ((⟨Rect.unit (s := ⟨2, ![n, m]⟩) off ![k, m] inb, x⟩ : View.Piece (Elt Ideal) ⟨2, ![n, m]⟩ .bf16) :: L)))
      (put o k g f) := fun a b => by
  unfold put
  by_cases hab : o ≤ a.val ∧ a.val < o + k
  · rw [if_pos hab]
    refine (View.read_writes_cons_unit_of_mem (Val := Elt Ideal) v G inb x L (ix2 a b) (ix2 (n0 := k) (n1 := m) ⟨a.val - o, by omega⟩ b) ho ?_).trans
      (h ⟨a.val - o, by omega⟩ b)
    intro i
    match i with
    | ⟨0, _⟩ => show a.val = o + (a.val - o); omega
    | ⟨1, _⟩ => show b.val = 0 + b.val; omega
  · rw [if_neg hab]
    refine (View.read_writes_cons_unit_of_not_mem (Val := Elt Ideal) v G inb x L (ix2 a b) ho 0 ?_).trans (hL a b)
    show a.val < o ∨ o + k ≤ a.val
    omega

end Rd

end Cert.Sb

end
-- ==== Proof.Blk.lean ====
/- More of what the operations of the kernels leave in matrices of real numbers: rows spread over a matrix, sums of columns, quotients,
   blocks of weights, and stores of some of the columns. -/
module

public import proofs.«01_k».proof.Proof.Store
public import Idealize.ShloMosaic.Lib.ValueLayout
public import Idealize.ShloMosaic.Lib.Pipeline.ValueKit.Basic

@[expose] public section

noncomputable section

namespace Cert.Sb

open Idealize.ShloMosaic hiding ix0 ix1 ix2 ix3 ix4 eq_ix1 eq_ix2 eq_ix3 eq_ix4
open Idealize.ShloMosaic.ValueIdx Finset

/-- The logistic function. -/
def sgm (z : ℝ) : ℝ := (1 + Real.exp (-z))⁻¹

namespace Rd

variable {n m k l : ℕ} {φ ψ : FTy}

/-- A row spread over all rows. -/
theorem brow {x : (⟨2, ![1, m]⟩ : Shape).Idx → EReal} {f : ℕ → ℕ → ℝ} (h : Rd x f)
    (hs : (⟨2, ![1, m]⟩ : Shape).Broadcasts ⟨2, ![n, m]⟩) :
    Rd (broadcastTo ⟨2, ![n, m]⟩ x hs) (fun _ b => f 0 b) := fun a b => by
  have e : broadcastTo ⟨2, ![n, m]⟩ x hs (ix2 a b) = x (ix2 0 b) := by
    rw [Pointwise.broadcastTo_apply]
    refine congrArg x ?_
    funext i; apply Fin.ext
    match i with
    | ⟨0, _⟩ => rfl
    | ⟨1, _⟩ =>
      by_cases h1 : m = 1
      · refine (congrArg Fin.val (dif_pos h1)).trans ?_
        have := b.isLt
        show 0 = b.val
        omega
      · exact congrArg Fin.val (dif_neg h1)
  rw [e, h]; rfl

/-- The sums of the columns. -/
theorem colsum {x : FVec Ideal ⟨2, ![n, m]⟩ .f32} {f : ℕ → ℕ → ℝ} (h : Rd x f)
    (hr : (⟨2, ![n, m]⟩ : Shape).Reduces [0] ⟨1, ![m]⟩) (hφ hacc)
    (hs : (⟨1, ![m]⟩ : Shape).ShapeCasts ⟨2, ![1, m]⟩) :
    Rd (shapeCast ⟨2, ![1, m]⟩ (multiReduction .add [0] ⟨1, ![m]⟩ x 0x00000000#32 hr hφ hacc) hs)
      (fun _ b => ∑ j ∈ range n, f j b) := fun a b => by
  rw [shapeCast_a_1a_apply]
  show Ideal.reduceAdd hr x (ix1 b) = _
  rw [Ideal.reduceAdd_r2_a0, ← coe_sum (fun j => f j b)]
  exact Finset.sum_congr rfl fun j _ => h j b

theorem div {x y : FVec Ideal ⟨2, ![n, m]⟩ φ} {f g : ℕ → ℕ → ℝ} (h : Rd x f) (h' : Rd y g) (hg : ∀ a b, g a b ≠ 0) :
    Rd (divf x y) (fun a b => f a b / g a b) := fun a b => by
  show Ideal.div (x _) (y _) = _
  rw [h a b, h' a b, Ideal.div_coe (hg _ _), ← EReal.coe_mul, mul_one_div]

theorem rsq {x : FVec Ideal ⟨2, ![n, m]⟩ φ} {f : ℕ → ℕ → ℝ} (h : Rd x f) (hp : ∀ a b, 0 < f a b) :
    Rd (rsqrt x) (fun a b => (Real.sqrt (f a b))⁻¹) := fun a b => by
  show Ideal.rsqrt (x _) = _
  rw [h a b, Ideal.rsqrt_coe, if_neg (not_lt.mpr (hp _ _).le), if_neg (hp _ _).ne']

/-- The denominator of the logistic function, as the kernels compute it. -/
theorem sgDen {z : FVec Ideal ⟨2, ![n, m]⟩ .f32} {f : ℕ → ℕ → ℝ} (h : Rd z f) :
    Rd (addf (broadcast ⟨2, ![n, m]⟩ (Scalar.ofBits (F := Ideal) .f32 0x3F800000#32))
        (Idealize.ShloMosaic.exp (subf (broadcast ⟨2, ![n, m]⟩ (Scalar.ofBits (F := Ideal) .f32 0x00000000#32)) z)))
      (fun a b => 1 + Real.exp (-f a b)) :=
  (add (splat lit_one) (exp (sub (splat lit_zero) h))).congr fun a b _ _ => by rw [zero_sub]

theorem sgInv {z : FVec Ideal ⟨2, ![n, m]⟩ .f32} {f : ℕ → ℕ → ℝ} (h : Rd z (fun a b => 1 + Real.exp (-f a b))) :
    Rd (divf (broadcast ⟨2, ![n, m]⟩ (Scalar.ofBits (F := Ideal) .f32 0x3F800000#32)) z) (fun a b => sgm (f a b)) :=
  (div (splat lit_one) h fun a b => by positivity).congr fun a b _ _ => by unfold sgm; rw [one_div]

/-- A load of a box of a block. -/
theorem box {x : (⟨2, ![n, m]⟩ : Shape).Idx → EReal} {f : ℕ → ℕ → ℝ} (h : Rd x f) {o p : ℕ} {inb} :
    Rd (n := k) (m := l) (View.ld (Val := Elt Ideal) (S := ⟨2, ![n, m]⟩) (e' := .f32) x (Rect.unit (s := ⟨2, ![n, m]⟩) ![o, p] ![k, l] inb))
      (fun a b => f (o + a) (p + b)) := h.ld inb rfl rfl _ HEq.rfl

/-- A load of the whole block. -/
theorem boxAll {x : (⟨2, ![n, m]⟩ : Shape).Idx → EReal} {f : ℕ → ℕ → ℝ} (h : Rd x f) {inb} :
    Rd (n := n) (m := m) (View.ld (Val := Elt Ideal) (S := ⟨2, ![n, m]⟩) (e' := .f32) x (Rect.unit (s := ⟨2, ![n, m]⟩) ![0, 0] ![n, m] inb)) f :=
  h.box.congr fun a b _ _ => by rw [Nat.zero_add, Nat.zero_add]

variable {sig : RefSig} {κ : Kind} {sp : Space}

/-- A load of some columns. -/
theorem cols {v : View sig κ sp ⟨2, ![n, m]⟩ .f32} {G : v.ty.Contents (Elt Ideal)} {f : ℕ → ℕ → ℝ} (h : Rd (v.read (Elt Ideal) G) f)
    {p : ℕ} {inb} :
    Rd (n := k) (m := l) (v.readAt (Elt Ideal) (Rect.unit (s := ⟨2, ![n, m]⟩) ![0, p] ![k, l] inb).toLoadRect G) (fun a b => f a (p + b)) :=
  (h.rd inb rfl rfl _ HEq.rfl).congr fun a b _ _ => by rw [Nat.zero_add]

end Rd

/-- The matrix `x` holds the real number `f a b` at the columns `b` where `P b`. -/
def RdOn {n m : ℕ} (x : (⟨2, ![n, m]⟩ : Shape).Idx → EReal) (P : ℕ → Prop) (f : ℕ → ℕ → ℝ) : Prop :=
  ∀ (a : Fin n) (b : Fin m), P b.val → x (ix2 a b) = ((f a.val b.val : ℝ) : EReal)

namespace RdOn

variable {n m k l : ℕ} {sig : RefSig} {κ : Kind} {sp : Space}

theorem none {x : (⟨2, ![n, m]⟩ : Shape).Idx → EReal} {f : ℕ → ℕ → ℝ} : RdOn x (fun _ => False) f := fun _ _ h => h.elim

theorem total {x : (⟨2, ![n, m]⟩ : Shape).Idx → EReal} {P : ℕ → Prop} {f : ℕ → ℕ → ℝ} (h : RdOn x P f) (hP : ∀ b, b < m → P b) :
    Rd x f := fun a b => h a b (hP _ b.isLt)

/-- A store of the columns from `o` on. -/
theorem put {v : View sig κ sp ⟨2, ![n, m]⟩ .f32} {G : v.ty.Contents (Elt Ideal)} {x : (⟨2, ![n, k]⟩ : Shape).Idx → EReal} {f g : ℕ → ℕ → ℝ}
    {L : List (View.Piece (Elt Ideal) ⟨2, ![n, m]⟩ .f32)} {P : ℕ → Prop} {o : ℕ} (h : Rd x g)
    (hL : RdOn (v.read (Elt Ideal) (v.writes (Elt Ideal) G L)) P f) (hg : ∀ a b, b < k → g a b = f a (o + b)) {inb} :
    RdOn (v.read (Elt Ideal) (v.writes (Elt Ideal) G ((⟨Rect.unit (s := ⟨2, ![n, m]⟩) ![0, o] ![n, k] inb, x⟩ : View.Piece (Elt Ideal) ⟨2, ![n, m]⟩ .f32) :: L)))
      (fun b => (o ≤ b ∧ b < o + k) ∨ P b) f := fun a b hb => by
  by_cases hab : o ≤ b.val ∧ b.val < o + k
  · refine (View.read_writes_cons_unit_of_mem (Val := Elt Ideal) v G inb x L (ix2 a b) (ix2 (n0 := n) (n1 := k) a ⟨b.val - o, by omega⟩) rfl ?_).trans
      ((h a ⟨b.val - o, by omega⟩).trans ?_)
    · intro i
      match i with
      | ⟨0, _⟩ => show a.val = 0 + a.val; omega
      | ⟨1, _⟩ => show b.val = o + (b.val - o); omega
    · rw [hg _ _ (show b.val - o < k by omega), show o + (b.val - o) = b.val by omega]
  · refine (View.read_writes_cons_unit_of_not_mem (Val := Elt Ideal) v G inb x L (ix2 a b) rfl 1 ?_).trans (hL a b (hb.resolve_left hab))
    show b.val < o ∨ o + k ≤ b.val
    omega

/-- A store of the columns from `o` on. -/
theorem putB {v : View sig κ sp ⟨2, ![n, m]⟩ .bf16} {G : v.ty.Contents (Elt Ideal)} {x : (⟨2, ![n, k]⟩ : Shape).Idx → EReal} {f g : ℕ → ℕ → ℝ}
    {L : List (View.Piece (Elt Ideal) ⟨2, ![n, m]⟩ .bf16)} {P : ℕ → Prop} {o : ℕ} (h : Rd x g)
    (hL : RdOn (v.read (Elt Ideal) (v.writes (Elt Ideal) G L)) P f) (hg : ∀ a b, b < k → g a b = f a (o + b)) {inb} :
    RdOn (v.read (Elt Ideal) (v.writes (Elt Ideal) G ((⟨Rect.unit (s := ⟨2, ![n, m]⟩) ![0, o] ![n, k] inb, x⟩ : View.Piece (Elt Ideal) ⟨2, ![n, m]⟩ .bf16) :: L)))
      (fun b => (o ≤ b ∧ b < o + k) ∨ P b) f := fun a b hb => by
  by_cases hab : o ≤ b.val ∧ b.val < o + k
  · refine (View.read_writes_cons_unit_of_mem (Val := Elt Ideal) v G inb x L (ix2 a b) (ix2 (n0 := n) (n1 := k) a ⟨b.val - o, by omega⟩) rfl ?_).trans
      ((h a ⟨b.val - o, by omega⟩).trans ?_)
    · intro i
      match i with
      | ⟨0, _⟩ => show a.val = 0 + a.val; omega
      | ⟨1, _⟩ => show b.val = o + (b.val - o); omega
    · rw [hg _ _ (show b.val - o < k by omega), show o + (b.val - o) = b.val by omega]
  · refine (View.read_writes_cons_unit_of_not_mem (Val := Elt Ideal) v G inb x L (ix2 a b) rfl 1 ?_).trans (hL a b (hb.resolve_left hab))
    show b.val < o ∨ o + k ≤ b.val
    omega

end RdOn

/-- The blocks of `x`, one under the other, hold the real number `f a b` at row `a` and column `b`. -/
def RdW {n r m : ℕ} (x : (⟨4, ![n, 1, r, m]⟩ : Shape).Idx → EReal) (f : ℕ → ℕ → ℝ) : Prop :=
  ∀ (d : Fin n) (a : Fin r) (b : Fin m), x (ix4 d (0 : Fin 1) a b) = ((f (d.val * r + a.val) b.val : ℝ) : EReal)

namespace RdW

variable {n r m k : ℕ} {sig : RefSig} {κ : Kind} {sp : Space}

/-- The blocks as one matrix. -/
theorem flat {x : (⟨4, ![n, 1, r, m]⟩ : Shape).Idx → EReal} {f : ℕ → ℕ → ℝ} (h : RdW x f) (h1 h2) (hk : k = n * r) :
    Rd (shapeCast ⟨2, ![k, m]⟩ (shapeCast ⟨3, ![n, r, m]⟩ x h1) h2) f := fun a b => by
  have hr : 0 < r := Nat.pos_of_ne_zero fun e => by
    have ha : a.val < n * r := lt_of_lt_of_eq a.isLt hk
    rw [e, Nat.mul_zero] at ha; omega
  have hd : a.val / r < n := Nat.div_lt_of_lt_mul (by rw [Nat.mul_comm]; exact lt_of_lt_of_eq a.isLt hk)
  have hm : a.val / r * r + a.val % r = a.val := by rw [Nat.mul_comm]; exact Nat.div_add_mod _ _
  rw [shapeCast_apply _ h2 (ix2 a b) (ix3 (n0 := n) (n1 := r) (n2 := m) ⟨a.val / r, hd⟩ ⟨a.val % r, Nat.mod_lt _ hr⟩ b) (by
      rw [Shape.rowMajor_val_three, Shape.rowMajor_val_two]
      show (a.val / r * r + a.val % r) * m + b.val = a.val * m + b.val
      rw [hm]),
    shapeCast_apply _ h1 (ix3 (n0 := n) (n1 := r) (n2 := m) ⟨a.val / r, hd⟩ ⟨a.val % r, Nat.mod_lt _ hr⟩ b)
      (ix4 (n0 := n) (n1 := 1) (n2 := r) (n3 := m) ⟨a.val / r, hd⟩ 0 ⟨a.val % r, Nat.mod_lt _ hr⟩ b) (by
      rw [Shape.rowMajor_val_four, Shape.rowMajor_val_three]
      show ((a.val / r * 1 + 0) * r + a.val % r) * m + b.val = (a.val / r * r + a.val % r) * m + b.val
      rw [Nat.mul_one, Nat.add_zero]),
    h]
  show ((f (a.val / r * r + a.val % r) b.val : ℝ) : EReal) = _
  rw [hm]

/-- A load of some of the blocks. -/
theorem part {x : (⟨4, ![n, 1, r, m]⟩ : Shape).Idx → EReal} {f : ℕ → ℕ → ℝ} (h : RdW x f) {o : ℕ} {inb} :
    RdW (n := k) (r := r) (m := m) (View.ld (Val := Elt Ideal) (S := ⟨4, ![n, 1, r, m]⟩) (e' := .bf16) x
      (Rect.unit (s := ⟨4, ![n, 1, r, m]⟩) ![o, 0, 0, 0] ![k, 1, r, m] inb)) (fun a b => f (o * r + a) b) := fun d a b => by
  have ho : o + k ≤ n := inb 0
  refine Eq.trans (congrArg x ?_) ((h ⟨o + d.val, by omega⟩ a b).trans ?_)
  · funext i; apply Fin.ext
    match i with
    | ⟨0, _⟩ => show o + 1 * d.val = _; simp
    | ⟨1, _⟩ => rfl
    | ⟨2, _⟩ => show 0 + 1 * a.val = _; simp
    | ⟨3, _⟩ => show 0 + 1 * b.val = _; simp
  · show ((f ((o + d.val) * r + a.val) b.val : ℝ) : EReal) = ((f (o * r + (d.val * r + a.val)) b.val : ℝ) : EReal)
    rw [Nat.add_mul, Nat.add_assoc]

/-- A load of some of the blocks, of contents that read `x`. -/
theorem rdPart {v : View sig κ sp ⟨4, ![n, 1, r, m]⟩ .bf16} {G : v.ty.Contents (Elt Ideal)} {f : ℕ → ℕ → ℝ} (h : RdW (v.read (Elt Ideal) G) f)
    {o : ℕ} {inb} :
    RdW (n := k) (r := r) (m := m) (v.readAt (Elt Ideal) (Rect.unit (s := ⟨4, ![n, 1, r, m]⟩) ![o, 0, 0, 0] ![k, 1, r, m] inb).toLoadRect G)
      (fun a b => f (o * r + a) b) := h.part

/-- The contents that read `x`. -/
theorem un {x : (⟨4, ![n, 1, r, m]⟩ : Shape).Idx → EReal} {f : ℕ → ℕ → ℝ} (h : RdW x f) {w : Memref sig κ sp ⟨4, ![n, 1, r, m]⟩ .bf16}
    (hw : w.IsWhole) : RdW (w.view.read (Elt Ideal) (hw.unread (Val := Elt Ideal) x)) f := by
  rw [hw.read_unread]; exact h

end RdW

/-- The small number added to a mean square: what its word denotes. -/
def eps : ℝ := (Ideal.ofBits .f32 0x358637BD#32).toReal

theorem lit_eps : Scalar.ofBits (F := Ideal) .f32 0x358637BD#32 = ((eps : ℝ) : EReal) := by
  show Ideal.ofBits .f32 0x358637BD#32 = _
  unfold eps
  rw [EReal.coe_toReal]
  · simp [Ideal.ofBits, Ideal.ieee, -EReal.coe_mul]
  · simp [Ideal.ofBits, Ideal.ieee, -EReal.coe_mul]

theorem eps_pos : 0 < eps := by
  have h : ((0 : ℝ) : EReal) < ((eps : ℝ) : EReal) := by
    rw [← lit_eps]
    show ((0 : ℝ) : EReal) < Ideal.ofBits .f32 0x358637BD#32
    simp [Ideal.ofBits, Ideal.ieee, -EReal.coe_mul]
  exact EReal.coe_lt_coe_iff.mp h

theorem lit_1024 : Scalar.ofBits (F := Ideal) .f32 0x44800000#32 = ((1024 : ℝ) : EReal) := by
  show Ideal.ofBits .f32 0x44800000#32 = _
  simp [Ideal.ofBits, Ideal.ieee, -EReal.coe_mul]
  norm_num

end Cert.Sb

end
-- ==== Proof.Layer.lean ====
/- The feed-forward layer of the step and its gradient, over the real numbers. -/
module

public import proofs.«01_k».proof.Proof.Blk

@[expose] public section

noncomputable section

namespace Cert.Sb

open Finset

/-- The layer's arguments: the rows `x`, the eight modulation rows `mp`, the three weights (each by hidden unit and feature),
    and the gradient `dy` of the layer's result. -/
structure Layer where
  x : ℕ → ℕ → ℝ
  mp : ℕ → ℕ → ℝ
  wg : ℕ → ℕ → ℝ
  wu : ℕ → ℕ → ℝ
  wd : ℕ → ℕ → ℝ
  dy : ℕ → ℕ → ℝ

namespace Layer

variable (L : Layer)

/-- The mean square of a row, and the small number. -/
def ms (t : ℕ) : ℝ := (∑ j ∈ range 1024, L.x t j * L.x t j) / 1024 + eps
/-- The factor that normalises a row. -/
def r (t : ℕ) : ℝ := (Real.sqrt (L.ms t))⁻¹
/-- The normalised row. -/
def n (t j : ℕ) : ℝ := L.x t j * L.r t
/-- The normalised and modulated row. -/
def h (t j : ℕ) : ℝ := L.n t j * L.mp 7 j * (1 + L.mp 4 j) + L.mp 3 j
/-- The gate. -/
def a (t k : ℕ) : ℝ := ∑ j ∈ range 1024, L.h t j * L.wg k j
/-- What is gated. -/
def b (t k : ℕ) : ℝ := ∑ j ∈ range 1024, L.h t j * L.wu k j
/-- The hidden units. -/
def s (t k : ℕ) : ℝ := L.a t k * sgm (L.a t k) * L.b t k
/-- The layer's product. -/
def f (t j : ℕ) : ℝ := ∑ k ∈ range 2816, L.s t k * L.wd k j
/-- The layer's result. -/
def y (t j : ℕ) : ℝ := L.x t j + L.mp 5 j * L.f t j
/-- The gradient of the layer's product. -/
def df (t j : ℕ) : ℝ := L.mp 5 j * L.dy t j
/-- The gradient of the hidden units. -/
def ds (t k : ℕ) : ℝ := ∑ j ∈ range 1024, L.df t j * L.wd k j
/-- The gradient of the gate. -/
def da (t k : ℕ) : ℝ := L.ds t k * L.b t k * (sgm (L.a t k) * (1 + L.a t k * (1 - sgm (L.a t k))))
/-- The gradient of what is gated. -/
def db (t k : ℕ) : ℝ := L.ds t k * (L.a t k * sgm (L.a t k))
/-- The gradient of the modulated row. -/
def dh (t j : ℕ) : ℝ := (∑ k ∈ range 2816, L.da t k * L.wg k j) + ∑ k ∈ range 2816, L.db t k * L.wu k j
/-- The gradient of the normalised row. -/
def dn (t j : ℕ) : ℝ := L.dh t j * (L.mp 7 j * (1 + L.mp 4 j))
/-- The gradient of the layer's rows. -/
def dx (t j : ℕ) : ℝ := L.dy t j + L.r t * (L.dn t j - L.n t j * ((∑ j ∈ range 1024, L.dn t j * L.n t j) / 1024))
/-- What each row of `x` adds to the gradients of the shift, the scale, the gate and the norm's weights. -/
def q (i t j : ℕ) : ℝ :=
  if i = 0 then L.dh t j else if i = 1 then L.dh t j * (L.n t j * L.mp 7 j) else if i = 2 then L.dy t j * L.f t j
  else if i = 3 then L.dh t j * L.n t j * (1 + L.mp 4 j) else 0
/-- The two gradients of the hidden units side by side. -/
def dab (t k : ℕ) : ℝ := if k < 2816 then L.da t k else L.db t (k - 2816)
/-- The gate and what is gated, side by side. -/
def ab (t k : ℕ) : ℝ := if k < 2816 then L.a t k else L.b t (k - 2816)

theorem ms_pos (t : ℕ) : 0 < L.ms t :=
  add_pos_of_nonneg_of_pos (div_nonneg (sum_nonneg fun _ _ => mul_self_nonneg _) (by norm_num)) eps_pos

/-- A sum over all hidden units, in two halves. -/
theorem halves (g : ℕ → ℝ) : (∑ k ∈ range 1408, g k) + ∑ k ∈ range 1408, g (1408 + k) = ∑ k ∈ range 2816, g k :=
  (sum_range_add g 1408 1408).symm

end Layer

end Cert.Sb

end
-- ==== Proof.FfnPay.lean ====
/- The stored values of the feed-forward kernels, over matrices that hold real numbers. -/
module

public import proofs.«01_k».proof.Proof.Layer
public import proofs.«01_k».proof.Proof.Gen.FfnIdeal.Skeleton

@[expose] public section

noncomputable section

namespace Cert.Sb.Ffn

open Idealize.ShloMosaic hiding ix0 ix1 ix2 ix3 ix4 eq_ix1 eq_ix2 eq_ix3 eq_ix4
open Idealize.ShloMosaic.ValueIdx Finset
open Cert.FfnIdeal Cert.FfnIdeal.Gen

section Norm

variable (L : Layer) {R : ℕ} {x : Vec Ideal S256x1024 .f32} {g sc sh g2 : Vec Ideal S1x1024 .f32}

theorem rstd_rd (hx : Rd x (fun a b => L.x (R + a) b)) : Rd (k1_pay2 x) (fun a _ => L.r (R + a)) :=
  ((((hx.mul hx).rowsum _ _ _ _).div (Rd.splat lit_1024) fun _ _ => by norm_num).add (Rd.splat lit_eps)).rsq fun a _ => L.ms_pos (R + a)

theorem n_rd (hx : Rd x (fun a b => L.x (R + a) b)) : Rd (k1_pay3 x) (fun a b => L.n (R + a) b) :=
  hx.mul ((rstd_rd L hx).bcol _)

theorem h_rd (hx : Rd x (fun a b => L.x (R + a) b)) (hg : Rd g (fun _ b => L.mp 7 b)) (hsc : Rd sc (fun _ b => L.mp 4 b))
    (hsh : Rd sh (fun _ b => L.mp 3 b)) : Rd (k1_pay4 x g sc sh) (fun a b => L.h (R + a) b) :=
  (((((n_rd L hx).mul (hg.brow _)).mul (((Rd.splat lit_one).add hsc).brow _)).add (hsh.brow _))).trunc _

theorem h0_rd (hx : Rd x (fun a b => L.x (R + a) b)) (hg : Rd g (fun _ b => L.mp 7 b)) (hsc : Rd sc (fun _ b => L.mp 4 b))
    (hsh : Rd sh (fun _ b => L.mp 3 b)) : Rd (k0_pay3 x g sc sh) (fun a b => L.h (R + a) b) := h_rd L hx hg hsc hsh

theorem df_rd {dy : Vec Ideal S256x1024 .f32} (hg2 : Rd g2 (fun _ b => L.mp 5 b)) (hdy : Rd dy (fun a b => L.dy (R + a) b)) :
    Rd (k1_pay5 g2 dy) (fun a b => L.df (R + a) b) := ((hg2.brow _).mul hdy).trunc _

end Norm

section Hidden

variable (L : Layer) {R C : ℕ} {h df : Vec Ideal S256x1024 .bf16} {w : Vec Ideal S4x1x352x1024 .bf16} {v a b : Vec Ideal S256x1408 .f32}

theorem wide_rd {p q : ℕ → ℕ → ℝ} (hh : Rd h p) (hw : RdW w q) : Rd (k0_pay8 h w) (fun a b => ∑ j ∈ range 1024, p a j * q b j) :=
  hh.mmT rfl (hw.flat _ _ rfl) none

theorem flat_rd {q : ℕ → ℕ → ℝ} (hw : RdW w q) : Rd (k1_pay7 w) q := hw.flat _ _ rfl

theorem tall_rd {p : ℕ → ℕ → ℝ} {q : ℕ → ℕ → ℝ} {s : FVec Ideal S256x1408 .bf16} {u : FVec Ideal S1408x1024 .bf16} (hs : Rd s p) (hu : Rd u q) :
    Rd (matmul dot_S256x1408_S1408x1024_S256x1024_1_0_0_1_n_n none s u (constant S256x1024 .f32 0x00000000#32))
      (fun a b => ∑ k ∈ range 1408, p a k * q k b) := hs.mm rfl hu none

theorem sg_rd {p : ℕ → ℕ → ℝ} (hv : Rd v p) : Rd (k1_pay11 v) (fun a b => sgm (p a b)) := ((hv.same _).sgDen).sgInv

theorem half0_rd {p q r : ℕ → ℕ → ℝ} (ha : Rd a p) (hb : Rd b q) (hw : RdW w r) :
    Rd (k0_pay7 (k0_pay4 (F := Ideal)) a b w) (fun i j => ∑ k ∈ range 1408, p i k * sgm (p i k) * q i k * r k j) :=
  ((Rd.splat lit_zero).add (tall_rd (((ha.mul ha.sgDen.sgInv).mul hb).trunc _) (flat_rd hw))).congr fun _ _ _ _ => zero_add _

theorem half1_rd {u : FVec Ideal S256x1024 .f32} {c : FVec Ideal S256x1408 .f32} {p q r o : ℕ → ℕ → ℝ} (hu : Rd u o) (ha : Rd a p) (hb : Rd b q)
    (hc : Rd c (fun i j => 1 + Real.exp (-p i j))) (hw : RdW w r) :
    Rd (k0_pay1 u a b c w) (fun i j => o i j + ∑ k ∈ range 1408, p i k * sgm (p i k) * q i k * r k j) :=
  hu.add (tall_rd (((ha.mul hc.sgInv).mul hb).trunc _) (flat_rd hw))

theorem asg_rd {p : ℕ → ℕ → ℝ} (ha : Rd a p) : Rd (k1_pay12 a) (fun i j => p i j * sgm (p i j)) := (ha.same _).mul (sg_rd ha)

theorem s_rd {p q : ℕ → ℕ → ℝ} (ha : Rd a p) (hb : Rd b q) : Rd (k1_pay13 a b) (fun i j => p i j * sgm (p i j) * q i j) :=
  ((asg_rd ha).mul (hb.same _)).trunc _

theorem da_rd {p q d : ℕ → ℕ → ℝ} (ha : Rd a p) (hb : Rd b q) (hd : Rd (k1_pay14 df w) d) :
    Rd (k1_pay15 df a b w) (fun i j => d i j * q i j * (sgm (p i j) * (1 + p i j * (1 - sgm (p i j))))) :=
  ((hd.mul (hb.same _)).mul ((sg_rd ha).mul ((Rd.splat lit_one).add ((ha.same _).mul ((Rd.splat lit_one).sub (sg_rd ha)))))).trunc _

theorem db_rd {p d : ℕ → ℕ → ℝ} (ha : Rd a p) (hd : Rd (k1_pay14 df w) d) :
    Rd (k1_pay16 df a w) (fun i j => d i j * (p i j * sgm (p i j))) := (hd.mul (asg_rd ha)).trunc _

end Hidden

section Back

variable (L : Layer) {R : ℕ} {v73 : FVec Ideal S256x1024 .f32} {v76 v79 : FVec Ideal S1408x1024 .bf16}
  {v81 v90 v91 v98 v99 v101 : FVec Ideal S256x1408 .f32} {g sc : Vec Ideal S1x1024 .f32} {n dy f : Vec Ideal S256x1024 .f32} {r : FVec Ideal S256x1 .f32}

theorem dh_rd (hdh : Rd (k1_pay30 v73 v76 v79 v81 v90 v91 v98 v99 v101) (fun a b => L.dh (R + a) b)) :
    Rd (k1_pay31 v73 v76 v79 v81 v90 v91 v98 v99 v101) (fun _ b => ∑ t ∈ range 256, L.q 0 (R + t) b) := hdh.colsum _ _ _ _

theorem dsc_rd (hdh : Rd (k1_pay30 v73 v76 v79 v81 v90 v91 v98 v99 v101) (fun a b => L.dh (R + a) b)) (hg : Rd g (fun _ b => L.mp 7 b))
    (hn : Rd n (fun a b => L.n (R + a) b)) :
    Rd (k1_pay32 g n v73 v76 v79 v81 v90 v91 v98 v99 v101) (fun _ b => ∑ t ∈ range 256, L.q 1 (R + t) b) :=
  (hdh.mul (hn.mul (hg.brow _))).colsum _ _ _ _

theorem dg_rd (hdh : Rd (k1_pay30 v73 v76 v79 v81 v90 v91 v98 v99 v101) (fun a b => L.dh (R + a) b)) (hsc : Rd sc (fun _ b => L.mp 4 b))
    (hn : Rd n (fun a b => L.n (R + a) b)) :
    Rd (k1_pay33 sc n v73 v76 v79 v81 v90 v91 v98 v99 v101) (fun _ b => ∑ t ∈ range 256, L.q 3 (R + t) b) :=
  ((hdh.mul hn).mul (((Rd.splat lit_one).add hsc).brow _)).colsum _ _ _ _

theorem dx_rd (hdh : Rd (k1_pay30 v73 v76 v79 v81 v90 v91 v98 v99 v101) (fun a b => L.dh (R + a) b)) (hg : Rd g (fun _ b => L.mp 7 b))
    (hsc : Rd sc (fun _ b => L.mp 4 b)) (hn : Rd n (fun a b => L.n (R + a) b)) (hr : Rd r (fun a _ => L.r (R + a)))
    (hdy : Rd dy (fun a b => L.dy (R + a) b)) :
    Rd (k1_pay34 g sc r n dy v73 v76 v79 v81 v90 v91 v98 v99 v101) (fun a b => L.dx (R + a) b) := by
  have hdn : Rd (mulf (k1_pay30 v73 v76 v79 v81 v90 v91 v98 v99 v101)
      (broadcastTo S256x1024 (mulf g (addf (broadcast S1x1024 (Scalar.ofBits (F := Ideal) .f32 0x3F800000#32)) sc)) broadcasts_S1x1024_S256x1024))
      (fun a b => L.dn (R + a) b) := hdh.mul ((hg.mul ((Rd.splat lit_one).add hsc)).brow _)
  exact hdy.add ((hr.bcol _).mul (hdn.sub (hn.mul ((((hdn.mul hn).rowsum _ _ _ _).div (Rd.splat lit_1024) fun _ _ => by norm_num).bcol _))))

/-- A row of sums is added to what is there. -/
theorem acc_rd {u v : FVec Ideal S1x1024 .f32} {p q : ℕ → ℕ → ℝ} (hu : Rd u p) (hv : Rd v q) : Rd (k1_pay35 u v) (fun a b => q a b + p a b) :=
  (hv.same _).add hu

theorem accf_rd {v : FVec Ideal S1x1024 .f32} {q : ℕ → ℕ → ℝ} (hdy : Rd dy (fun a b => L.dy (R + a) b)) (hf : Rd f (fun a b => L.f (R + a) b))
    (hv : Rd v q) : Rd (k1_pay37 dy v f) (fun a b => q a b + ∑ t ∈ range 256, L.q 2 (R + t) b) :=
  (hv.same _).add ((hdy.mul (hf.same _)).colsum _ _ _ _)

end Back

end Cert.Sb.Ffn

end
-- ==== Proof.FfnFwd.lean ====
/- What the forward kernel of the feed-forward layer leaves in its three output blocks. -/
module

public import proofs.«01_k».proof.Proof.FfnPay
public import proofs.«01_k».proof.Proof.Gen.FfnIdeal.Frame

@[expose] public section

set_option maxRecDepth 16384

noncomputable section

namespace Cert.Sb.Ffn

open Idealize.ShloMosaic hiding ix0 ix1 ix2 ix3 ix4 eq_ix1 eq_ix2 eq_ix3 eq_ix4
open Idealize.ShloMosaic.ValueIdx Finset
open Cert.FfnIdeal Cert.FfnIdeal.Gen

/-- A row of the modulation. -/
theorem mprow {x : Vec Ideal S8x1024 .f32} {f : ℕ → ℕ → ℝ} (h : Rd x f) (o : ℕ) {inb} :
    Rd (n := 1) (m := 1024) (View.ld (Val := Elt Ideal) (S := ⟨2, ![8, 1024]⟩) (e' := .f32) x (Rect.unit (s := ⟨2, ![8, 1024]⟩) ![o, 0] ![1, 1024] inb))
      (fun _ b => f o b) := h.box.congr fun a b ha _ => by
  rw [Nat.zero_add, show o + a = o by omega]

section

variable (L : Layer) {R : ℕ} {x0 : Vec Ideal S256x1024 .f32} {x1 : Vec Ideal S8x1024 .f32} {x2 x3 x4 : Vec Ideal S8x1x352x1024 .bf16}
  (hx : Rd x0 (fun a b => L.x (R + a) b)) (hmp : Rd x1 L.mp) (hg : RdW x2 L.wg) (hu : RdW x3 L.wu) (hd : RdW x4 L.wd)

include hx hmp in
theorem fh_rd : Rd (k0_pay11 x0 x1 x2 x3 x4) (fun a b => L.h (R + a) b) :=
  h0_rd L hx.boxAll (mprow hmp 7) (mprow hmp 4) (mprow hmp 3)

include hx hmp hg in
theorem a0_rd : Rd (k0_pay5 (View.ld x0 r0_0) (View.ld x1 r0_1) (View.ld x1 r0_2) (View.ld x1 r0_3) (View.ld x2 r0_4)) (fun a b => L.a (R + a) b) :=
  (wide_rd (h0_rd L hx.boxAll (mprow hmp 7) (mprow hmp 4) (mprow hmp 3)) (hg.part (k := 4) (o := 0))).congr fun a b _ _ => by
    simp only [Nat.zero_mul, Nat.zero_add]; rfl

include hx hmp hu in
theorem b0_rd : Rd (k0_pay12 x0 x1 x2 x3 x4) (fun a b => L.b (R + a) b) :=
  (wide_rd (h0_rd L hx.boxAll (mprow hmp 7) (mprow hmp 4) (mprow hmp 3)) (hu.part (k := 4) (o := 0))).congr fun a b _ _ => by
    simp only [Nat.zero_mul, Nat.zero_add]; rfl

include hx hmp hg in
theorem a1_rd : Rd (k0_pay8 (k0_pay11 x0 x1 x2 x3 x4) (View.ld x2 r0_7)) (fun a b => L.a (R + a) (1408 + b)) :=
  wide_rd (fh_rd L hx hmp) (hg.part (k := 4) (o := 4))

include hx hmp hu in
theorem b1_rd : Rd (k0_pay9 (k0_pay11 x0 x1 x2 x3 x4) (View.ld x3 r0_7)) (fun a b => L.b (R + a) (1408 + b)) :=
  wide_rd (fh_rd L hx hmp) (hu.part (k := 4) (o := 4))

include hx hmp hg hu hd

theorem f_rd : Rd (k0_pay1 (k0_pay13 x0 x1 x2 x3 x4) (k0_pay14 x0 x1 x2 x3 x4) (k0_pay15 x0 x1 x2 x3 x4) (k0_pay16 x0 x1 x2 x3 x4) (View.ld x4 r0_7))
    (fun a b => L.f (R + a) b) :=
  (half1_rd (half0_rd (a0_rd L hx hmp hg) (b0_rd (x2 := x2) (x4 := x4) L hx hmp hu) (hd.part (k := 4) (o := 0))) (a1_rd (x3 := x3) (x4 := x4) L hx hmp hg)
    (b1_rd (x2 := x2) (x4 := x4) L hx hmp hu) (a1_rd (x3 := x3) (x4 := x4) L hx hmp hg).sgDen (hd.part (k := 4) (o := 4))).congr fun a b _ _ => by
    simp only [Nat.zero_mul, Nat.zero_add]
    exact Layer.halves fun k => L.s (R + a) k * L.wd k b

/-- The layer's result. -/
theorem out5_rd : Rd (out0_5 x0 x1 x2 x3 x4) (fun a b => L.y (R + a) b) := by
  unfold out0_5
  rw [← View.read_writes_junk_eq_canon (Val := Elt Ideal) VO1_8]
  exact Rd.putAll (hx.boxAll.add (((mprow hmp 5).brow _).mul (f_rd L hx hmp hg hu hd)))

/-- The layer's product. -/
theorem out6_rd : Rd (out0_6 x0 x1 x2 x3 x4) (fun a b => L.f (R + a) b) := by
  unfold out0_6
  rw [← View.read_writes_junk_eq_canon (Val := Elt Ideal) VO1_8]
  exact Rd.putAll (f_rd L hx hmp hg hu hd)

omit hd

/-- The gate and what is gated. -/
theorem out7_rd : Rd (out0_7 x0 x1 x2 x3 x4) (fun a b => L.ab (R + a) b) := by
  unfold out0_7
  rw [← View.read_writes_junk_eq_canon (Val := Elt Ideal) ((Memref.whole cc0_stg7_0 : Memref sig .tc .vmem S256x5632 .f32).view)]
  have p0 := RdOn.put (v := (Memref.whole cc0_stg7_0 : Memref sig .tc .vmem S256x5632 .f32).view) (f := fun a b => L.ab (R + a) b)
    (G := (Memref.whole cc0_stg7_0 : Memref sig .tc .vmem S256x5632 .f32).view.junk) (L := []) (o := 0) (a0_rd L hx hmp hg) RdOn.none (fun a b hb => by
      rw [Nat.zero_add]; exact (if_pos (by omega)).symm) (inb := inb_S256x5632_S256x1408_0_0)
  have p1 := RdOn.put (o := 2816) (b0_rd (x2 := x2) (x4 := x4) L hx hmp hu) p0 (fun a b hb => ((if_neg (by omega)).trans (by
      rw [Nat.add_sub_cancel_left])).symm) (inb := inb_S256x5632_S256x1408_0_2816)
  have p2 := RdOn.put (o := 1408) (a1_rd (x3 := x3) (x4 := x4) L hx hmp hg) p1 (fun a b hb => (if_pos (by omega)).symm) (inb := inb_S256x5632_S256x1408_0_1408)
  have p3 := RdOn.put (o := 4224) (b1_rd (x2 := x2) (x4 := x4) L hx hmp hu) p2 (fun a b hb => ((if_neg (by omega)).trans (by
      rw [show 4224 + b - 2816 = 1408 + b by omega])).symm) (inb := inb_S256x5632_S256x1408_0_4224)
  exact p3.total fun b hb => by omega

end

end Cert.Sb.Ffn

end
-- ==== Proof.FfnBwd.lean ====
/- What the backward kernel of the feed-forward layer leaves in its six output blocks at a point of its grid. -/
module

public import proofs.«01_k».proof.Proof.FfnFwd

@[expose] public section

set_option maxRecDepth 16384

noncomputable section

namespace Cert.Sb.Ffn

open Idealize.ShloMosaic hiding ix0 ix1 ix2 ix3 ix4 eq_ix1 eq_ix2 eq_ix3 eq_ix4
open Idealize.ShloMosaic.ValueIdx Finset
open Cert.FfnIdeal Cert.FfnIdeal.Gen

/-- A row of the modulation, loaded. -/
theorem mpld {v : View sig .tc .vmem S8x1024 .f32} {G : v.ty.Contents (Elt Ideal)} {f : ℕ → ℕ → ℝ} (h : Rd (v.read (Elt Ideal) G) f) (o : ℕ) {inb} :
    Rd (n := 1) (m := 1024) (v.readAt (Elt Ideal) (Rect.unit (s := ⟨2, ![8, 1024]⟩) ![o, 0] ![1, 1024] inb).toLoadRect G) (fun _ b => f o b) :=
  (Rd.rows h rfl).congr fun a b ha _ => by rw [show o + a = o by omega]

section

variable (L : Layer) {R : ℕ} {v3 v27 : Vec Ideal S256x1024 .f32} {v4 v5 v6 v7 : Vec Ideal S1x1024 .f32}
  {v32 v35 v53 v74 v77 v95 : Vec Ideal S4x1x352x1024 .bf16} {v38 v40 v80 v82 : Vec Ideal S256x1408 .f32}
  (h6 : Rd v6 (fun _ b => L.mp 5 b)) (h27 : Rd v27 (fun a b => L.dy (R + a) b))
  (h38 : Rd v38 (fun a b => L.a (R + a) b)) (h40 : Rd v40 (fun a b => L.b (R + a) b))
  (h80 : Rd v80 (fun a b => L.a (R + a) (1408 + b))) (h82 : Rd v82 (fun a b => L.b (R + a) (1408 + b)))
  (h53 : RdW v53 L.wd) (h95 : RdW v95 (fun a b => L.wd (1408 + a) b))
  (h32 : RdW v32 L.wg) (h74 : RdW v74 (fun a b => L.wg (1408 + a) b))
  (h35 : RdW v35 L.wu) (h77 : RdW v77 (fun a b => L.wu (1408 + a) b))

include h6 h27 h53 in
theorem ds0_rd : Rd (k1_pay14 (k1_pay5 v6 v27) v53) (fun a b => L.ds (R + a) b) := wide_rd (df_rd L h6 h27) h53

include h6 h27 h95 in
theorem ds1_rd : Rd (k1_pay14 (k1_pay5 v6 v27) v95) (fun a b => L.ds (R + a) (1408 + b)) := wide_rd (df_rd L h6 h27) h95

include h6 h27 h53 h38 h40 in
theorem da0_rd : Rd (k1_pay15 (k1_pay5 v6 v27) v38 v40 v53) (fun a b => L.da (R + a) b) := da_rd h38 h40 (ds0_rd L h6 h27 h53)

include h6 h27 h53 h38 in
theorem db0_rd : Rd (k1_pay16 (k1_pay5 v6 v27) v38 v53) (fun a b => L.db (R + a) b) := db_rd h38 (ds0_rd L h6 h27 h53)

include h6 h27 h95 h80 h82 in
theorem da1_rd : Rd (k1_pay28 (k1_pay20 v80) (k1_pay22 v80) (k1_pay26 (k1_pay5 v6 v27) v82 v95) (k1_pay27 v80)) (fun a b => L.da (R + a) (1408 + b)) :=
  da_rd h80 h82 (ds1_rd L h6 h27 h95)

include h6 h27 h95 h80 in
theorem db1_rd : Rd (k1_pay29 (k1_pay23 v80) (k1_pay25 (k1_pay5 v6 v27) v95)) (fun a b => L.db (R + a) (1408 + b)) :=
  db_rd h80 (ds1_rd L h6 h27 h95)

include h6 h27 h38 h40 h80 h82 h53 h95 h32 h74 h35 h77

theorem dhAll_rd : Rd (k1_pay30 (k1_pay17 (k1_pay6 (F := Ideal)) (k1_pay7 v32) (k1_pay8 v35) (k1_pay15 (k1_pay5 v6 v27) v38 v40 v53) (k1_pay16 (k1_pay5 v6 v27) v38 v53))
    (k1_pay18 v74) (k1_pay19 v77) (k1_pay20 v80) (k1_pay22 v80) (k1_pay23 v80) (k1_pay25 (k1_pay5 v6 v27) v95) (k1_pay26 (k1_pay5 v6 v27) v82 v95) (k1_pay27 v80))
    (fun a b => L.dh (R + a) b) :=
  (((((Rd.splat lit_zero).add (tall_rd (da0_rd L h6 h27 h38 h40 h53) (flat_rd h32))).add (tall_rd (db0_rd L h6 h27 h38 h53) (flat_rd h35))).add
    (tall_rd (da1_rd L h6 h27 h80 h82 h95) (flat_rd h74))).add (tall_rd (db1_rd L h6 h27 h80 h95) (flat_rd h77))).congr fun a b _ _ => by
    show _ = L.dh (R + a) b
    unfold Layer.dh
    rw [← Layer.halves, ← Layer.halves]
    ring

end

section

variable (c : Dev nD) (i : grid1.Coords) (arg1 : Memref sig .tc .vmem S256x1024 .f32) (harg1 : arg1.IsWhole) (arg2 : Memref sig .tc .vmem S256x1024 .f32) (harg2 : arg2.IsWhole)
  (arg3 : Memref sig .tc .vmem S256x5632 .f32) (harg3 : arg3.IsWhole) (arg4 : Memref sig .tc .vmem S256x1024 .f32) (harg4 : arg4.IsWhole)
  (arg5 : Memref sig .tc .vmem S8x1024 .f32) (harg5 : arg5.IsWhole) (arg6 : Memref sig .tc .vmem S8x1x352x1024 .bf16) (harg6 : arg6.IsWhole)
  (arg7 : Memref sig .tc .vmem S8x1x352x1024 .bf16) (harg7 : arg7.IsWhole) (arg8 : Memref sig .tc .vmem S8x1x352x1024 .bf16) (harg8 : arg8.IsWhole)
  (arg9 : Memref sig .tc .vmem S256x1024 .f32) (harg9 : arg9.IsWhole) (arg10 : Memref sig .tc .vmem S256x5632 .bf16) (harg10 : arg10.IsWhole)
  (arg11 : Memref sig .tc .vmem S256x1024 .bf16) (harg11 : arg11.IsWhole) (arg12 : Memref sig .tc .vmem S256x2816 .bf16) (harg12 : arg12.IsWhole)
  (arg13 : Memref sig .tc .vmem S256x1024 .bf16) (harg13 : arg13.IsWhole) (arg14 : Memref sig .tc .vmem S8x1024 .f32) (harg14 : arg14.IsWhole)
  (L : Layer) {R : ℕ} {x0 x1 x3 : Vec Ideal S256x1024 .f32} {x2 : Vec Ideal S256x5632 .f32} {x4 : Vec Ideal S8x1024 .f32} {x5 x6 x7 : Vec Ideal S8x1x352x1024 .bf16}
  (hx : Rd x0 (fun a b => L.x (R + a) b)) (hf : Rd x1 (fun a b => L.f (R + a) b)) (hab : Rd x2 (fun a b => L.ab (R + a) b))
  (hdy : Rd x3 (fun a b => L.dy (R + a) b)) (hmp : Rd x4 L.mp) (hg : RdW x5 L.wg) (hu : RdW x6 L.wu) (hd : RdW x7 L.wd)

/-- Stores over nothing read alike through any view. -/
theorem move {n m : ℕ} {κ κ' : Kind} {sp sp' : Space} {v : View sig κ sp ⟨2, ![n, m]⟩ .f32} {v' : View sig κ' sp' ⟨2, ![n, m]⟩ .f32}
    {L : List (View.Piece (Elt Ideal) ⟨2, ![n, m]⟩ .f32)} {f : ℕ → ℕ → ℝ} (h : Rd (v.read (Elt Ideal) (v.writes (Elt Ideal) v.junk L)) f) :
    Rd (v'.read (Elt Ideal) (v'.writes (Elt Ideal) v'.junk L)) f :=
  h.cast ((View.read_writes_junk_eq_canon (Val := Elt Ideal) v' L).trans (View.read_writes_junk_eq_canon (Val := Elt Ideal) v L).symm)

/-- Four rows of a block of eight, each with its sum added to what it held. -/
theorem four (L : Layer) (R : ℕ) (P : ℕ → ℕ → ℝ) (a b : ℕ) :
    let s := fun i b => ∑ t ∈ range 256, L.q i (R + t) b
    let p0 := put 0 1 (fun a b => P (0 + a) b + s 0 b) P
    let p1 := put 1 1 (fun a b => p0 (1 + a) b + s 1 b) p0
    let p2 := put 2 1 (fun a b => p1 (2 + a) b + s 2 b) p1
    put 3 1 (fun a b => p2 (3 + a) b + s 3 b) p2 a b = P a b + s a b := by
  intro s p0 p1 p2
  rcases lt_or_ge a 4 with h | h
  · interval_cases a <;> simp [p2, p1, p0, put]
  · have e : s a b = 0 := sum_eq_zero fun t _ => by
      unfold Layer.q
      rw [if_neg (by omega), if_neg (by omega), if_neg (by omega), if_neg (by omega)]
    rw [e, add_zero]
    simp only [p2, p1, p0, put]
    rw [if_neg (by omega), if_neg (by omega), if_neg (by omega), if_neg (by omega)]

/-- The same, where every sum is added to what the row held at first. -/
theorem fourB (L : Layer) (R : ℕ) (P : ℕ → ℕ → ℝ) (a b : ℕ) :
    let s := fun i b => ∑ t ∈ range 256, L.q i (R + t) b
    let p0 := put 0 1 (fun a b => P (0 + a) b + s 0 b) P
    let p1 := put 1 1 (fun a b => P (1 + a) b + s 1 b) p0
    let p2 := put 2 1 (fun a b => P (2 + a) b + s 2 b) p1
    put 3 1 (fun a b => P (3 + a) b + s 3 b) p2 a b = P a b + s a b := by
  intro s p0 p1 p2
  rcases lt_or_ge a 4 with h | h
  · interval_cases a <;> simp [p2, p1, p0, put]
  · have e : s a b = 0 := sum_eq_zero fun t _ => by
      unfold Layer.q
      rw [if_neg (by omega), if_neg (by omega), if_neg (by omega), if_neg (by omega)]
    rw [e, add_zero]
    simp only [p2, p1, p0, put]
    rw [if_neg (by omega), if_neg (by omega), if_neg (by omega), if_neg (by omega)]

/-- The first half of the gate. -/
theorem la0 (hab : Rd x2 (fun a b => L.ab (R + a) b)) {inb} :
    Rd (n := 256) (m := 1408) (arg3.view.readAt (Elt Ideal) (Rect.unit (s := ⟨2, ![256, 5632]⟩) ![0, 0] ![256, 1408] inb).toLoadRect (harg3.unread (Val := Elt Ideal) x2))
      (fun a b => L.a (R + a) b) := (Rd.cols (hab.un harg3)).congr fun a b _ hb => by rw [Nat.zero_add]; exact if_pos (by omega)

/-- The second half of the gate. -/
theorem la1 (hab : Rd x2 (fun a b => L.ab (R + a) b)) {inb} :
    Rd (n := 256) (m := 1408) (arg3.view.readAt (Elt Ideal) (Rect.unit (s := ⟨2, ![256, 5632]⟩) ![0, 1408] ![256, 1408] inb).toLoadRect (harg3.unread (Val := Elt Ideal) x2))
      (fun a b => L.a (R + a) (1408 + b)) := (Rd.cols (hab.un harg3)).congr fun a b _ hb => if_pos (by omega)

/-- The first half of what is gated. -/
theorem lb0 (hab : Rd x2 (fun a b => L.ab (R + a) b)) {inb} :
    Rd (n := 256) (m := 1408) (arg3.view.readAt (Elt Ideal) (Rect.unit (s := ⟨2, ![256, 5632]⟩) ![0, 2816] ![256, 1408] inb).toLoadRect (harg3.unread (Val := Elt Ideal) x2))
      (fun a b => L.b (R + a) b) := (Rd.cols (hab.un harg3)).congr fun a b _ hb => (if_neg (by omega)).trans (by rw [Nat.add_sub_cancel_left])

/-- The second half of what is gated. -/
theorem lb1 (hab : Rd x2 (fun a b => L.ab (R + a) b)) {inb} :
    Rd (n := 256) (m := 1408) (arg3.view.readAt (Elt Ideal) (Rect.unit (s := ⟨2, ![256, 5632]⟩) ![0, 4224] ![256, 1408] inb).toLoadRect (harg3.unread (Val := Elt Ideal) x2))
      (fun a b => L.b (R + a) (1408 + b)) := (Rd.cols (hab.un harg3)).congr fun a b _ hb => (if_neg (by omega)).trans (by
        rw [show 4224 + b - 2816 = 1408 + b by omega])

/-- The first half of a weight. -/
theorem lw0 {m : Memref sig .tc .vmem S8x1x352x1024 .bf16} (hm : m.IsWhole) {x : Vec Ideal S8x1x352x1024 .bf16} {f : ℕ → ℕ → ℝ} (h : RdW x f) {inb} :
    RdW (n := 4) (r := 352) (m := 1024) (m.view.readAt (Elt Ideal) (Rect.unit (s := ⟨4, ![8, 1, 352, 1024]⟩) ![0, 0, 0, 0] ![4, 1, 352, 1024] inb).toLoadRect
      (hm.unread (Val := Elt Ideal) x)) f := fun d a b => by
  have e := (RdW.rdPart (k := 4) (h.un hm) (inb := inb)) d a b
  dsimp only at e
  rw [Nat.zero_mul, Nat.zero_add] at e
  exact e

/-- The second half of a weight. -/
theorem lw1 {m : Memref sig .tc .vmem S8x1x352x1024 .bf16} (hm : m.IsWhole) {x : Vec Ideal S8x1x352x1024 .bf16} {f : ℕ → ℕ → ℝ} (h : RdW x f) {inb} :
    RdW (n := 4) (r := 352) (m := 1024) (m.view.readAt (Elt Ideal) (Rect.unit (s := ⟨4, ![8, 1, 352, 1024]⟩) ![4, 0, 0, 0] ![4, 1, 352, 1024] inb).toLoadRect
      (hm.unread (Val := Elt Ideal) x)) (fun a b => f (1408 + a) b) := RdW.rdPart (h.un hm)

include hx hab hdy hmp hg hu hd in
/-- The gradient of the layer's rows, at the first block of rows. -/
theorem outA8_rd (hc0 : cond1_0 i) : Rd (out1_A_8 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7) (fun a b => L.dx (R + a) b) := by
  unfold out1_A_8 kernelRun1_A
  dsimp only
  sl_unfold_words
  exact Rd.putAll (dx_rd L
    (dhAll_rd L (mpld (hmp.un harg5) 5) (Rd.all (hdy.un harg4)) (la0 arg3 harg3 L hab) (lb0 arg3 harg3 L hab) (la1 arg3 harg3 L hab) (lb1 arg3 harg3 L hab)
    (lw0 harg8 hd) (lw1 harg8 hd) (lw0 harg6 hg) (lw1 harg6 hg) (lw0 harg7 hu) (lw1 harg7 hu))
    (mpld (hmp.un harg5) 7) (mpld (hmp.un harg5) 4) (n_rd L (Rd.all (hx.un harg1))) (rstd_rd L (Rd.all (hx.un harg1))) (Rd.all (hdy.un harg4)))

include hab hdy hmp hd in
/-- The gradients of the gate and of what is gated, at the first block of rows. -/
theorem outA9_rd (hc0 : cond1_0 i) : Rd (out1_A_9 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7) (fun a b => L.dab (R + a) b) := by
  unfold out1_A_9 kernelRun1_A
  dsimp only
  sl_unfold_words
  refine RdOn.total (f := fun a b => L.dab (R + a) b)
    (RdOn.putB (o := 4224) (db1_rd L (mpld (hmp.un harg5) 5) (Rd.all (hdy.un harg4)) (la1 arg3 harg3 L hab) (lw1 harg8 hd))
      (RdOn.putB (o := 1408) (da1_rd L (mpld (hmp.un harg5) 5) (Rd.all (hdy.un harg4)) (la1 arg3 harg3 L hab) (lb1 arg3 harg3 L hab) (lw1 harg8 hd))
        (RdOn.putB (o := 2816) (db0_rd L (mpld (hmp.un harg5) 5) (Rd.all (hdy.un harg4)) (la0 arg3 harg3 L hab) (lw0 harg8 hd))
          (RdOn.putB (o := 0) (L := []) (da0_rd L (mpld (hmp.un harg5) 5) (Rd.all (hdy.un harg4)) (la0 arg3 harg3 L hab) (lb0 arg3 harg3 L hab) (lw0 harg8 hd)) RdOn.none
            fun a b hb => by rw [Nat.zero_add]; exact (if_pos (by omega)).symm)
          fun a b hb => ((if_neg (by omega)).trans (by rw [Nat.add_sub_cancel_left])).symm)
        fun a b hb => (if_pos (by omega)).symm)
      fun a b hb => ((if_neg (by omega)).trans (by rw [show 4224 + b - 2816 = 1408 + b by omega])).symm)
    fun b hb => by omega

include hx hmp in
/-- The modulated rows, at the first block of rows. -/
theorem outA10_rd (hc0 : cond1_0 i) : Rd (out1_A_10 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7) (fun a b => L.h (R + a) b) := by
  unfold out1_A_10 kernelRun1_A
  dsimp only
  sl_unfold_words
  exact Rd.putAllB (h_rd L (Rd.all (hx.un harg1)) (mpld (hmp.un harg5) 7) (mpld (hmp.un harg5) 4) (mpld (hmp.un harg5) 3))

include hab in
/-- The hidden units, at the first block of rows. -/
theorem outA11_rd (hc0 : cond1_0 i) : Rd (out1_A_11 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7) (fun a b => L.s (R + a) b) := by
  unfold out1_A_11 kernelRun1_A
  dsimp only
  sl_unfold_words
  refine RdOn.total (f := fun a b => L.s (R + a) b)
    (RdOn.putB (o := 1408) (s_rd (la1 arg3 harg3 L hab) (lb1 arg3 harg3 L hab))
      (RdOn.putB (o := 0) (L := []) (s_rd (la0 arg3 harg3 L hab) (lb0 arg3 harg3 L hab)) RdOn.none fun a b hb => by rw [Nat.zero_add]; rfl)
      fun a b hb => rfl)
    fun b hb => by omega

include hdy hmp in
/-- The gradient of the layer's product, at the first block of rows. -/
theorem outA12_rd (hc0 : cond1_0 i) : Rd (out1_A_12 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7) (fun a b => L.df (R + a) b) := by
  unfold out1_A_12 kernelRun1_A
  dsimp only
  sl_unfold_words
  exact Rd.putAllB (df_rd L (mpld (hmp.un harg5) 5) (Rd.all (hdy.un harg4)))

include hx hf hab hdy hmp hg hu hd in
/-- The sums over the rows, at the first block of rows. -/
theorem outA13_rd (hc0 : cond1_0 i) : Rd (out1_A_13 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7) (fun a b => ∑ t ∈ range 256, L.q a (R + t) b) := by
  have hdh := dhAll_rd L (mpld (hmp.un harg5) 5 (inb := inb_S8x1024_S1x1024_5_0)) (Rd.all (hdy.un harg4) (inb := inb_S256x1024_S256x1024_0_0))
    (la0 arg3 harg3 L hab (inb := inb_S256x5632_S256x1408_0_0)) (lb0 arg3 harg3 L hab (inb := inb_S256x5632_S256x1408_0_2816))
    (la1 arg3 harg3 L hab (inb := inb_S256x5632_S256x1408_0_1408)) (lb1 arg3 harg3 L hab (inb := inb_S256x5632_S256x1408_0_4224))
    (lw0 harg8 hd (inb := inb_S8x1x352x1024_S4x1x352x1024_0_0_0_0)) (lw1 harg8 hd (inb := inb_S8x1x352x1024_S4x1x352x1024_4_0_0_0))
    (lw0 harg6 hg (inb := inb_S8x1x352x1024_S4x1x352x1024_0_0_0_0)) (lw1 harg6 hg (inb := inb_S8x1x352x1024_S4x1x352x1024_4_0_0_0))
    (lw0 harg7 hu (inb := inb_S8x1x352x1024_S4x1x352x1024_0_0_0_0)) (lw1 harg7 hu (inb := inb_S8x1x352x1024_S4x1x352x1024_4_0_0_0))
  have hn := n_rd L (Rd.all (hx.un harg1) (inb := inb_S256x1024_S256x1024_0_0))
  have hg7 := (mpld (hmp.un harg5) 7 (inb := inb_S8x1024_S1x1024_7_0))
  have hs4 := (mpld (hmp.un harg5) 4 (inb := inb_S8x1024_S1x1024_4_0))
  have hyl := Rd.all (hdy.un harg4) (inb := inb_S256x1024_S256x1024_0_0)
  have hfl := Rd.all (hf.un harg2) (inb := inb_S256x1024_S256x1024_0_0)
  have e : Rd (arg14.view.read (Elt Ideal) (arg14.view.writes (Elt Ideal) arg14.view.junk
      [⟨Rect.unit (s := S8x1024) ![0, 0] S8x1024.size inb_S8x1024_S8x1024_0_0, k1_pay1 (F := Ideal)⟩])) (fun _ _ => 0) := Rd.putAll (Rd.splat lit_zero)
  have p0 := Rd.putRows (acc_rd (dh_rd L hdh) (Rd.covRows (k := 1) e (o := 0) rfl (inb := inb_S8x1024_S1x1024_0_0))) e (o := 0) rfl (inb := inb_S8x1024_S1x1024_0_0)
  have p1 := Rd.putRows (acc_rd (dsc_rd L hdh hg7 hn) (Rd.covRows (k := 1) p0 (o := 1) rfl (inb := inb_S8x1024_S1x1024_1_0))) p0 (o := 1) rfl (inb := inb_S8x1024_S1x1024_1_0)
  have p2 := Rd.putRows (accf_rd L hyl hfl (Rd.covRows (k := 1) p1 (o := 2) rfl (inb := inb_S8x1024_S1x1024_2_0))) p1 (o := 2) rfl (inb := inb_S8x1024_S1x1024_2_0)
  have p3 := Rd.putRows (acc_rd (dg_rd L hdh hs4 hn) (Rd.covRows (k := 1) p2 (o := 3) rfl (inb := inb_S8x1024_S1x1024_3_0))) p2 (o := 3) rfl (inb := inb_S8x1024_S1x1024_3_0)
  unfold out1_A_13 kernelRun1_A
  dsimp only
  sl_unfold_words
  refine Rd.congr (move p3) fun a b ha _ => ?_
  exact (four L R (fun _ _ => 0) a b).trans (zero_add _)

include hx hab hdy hmp hg hu hd in
/-- The gradient of the layer's rows, at a later block of rows. -/
theorem outB8_rd (hc0 : ¬cond1_0 i) (xo : Vec Ideal S8x1024 .f32) : Rd (out1_B_8 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7 xo) (fun a b => L.dx (R + a) b) := by
  unfold out1_B_8 kernelRun1_B
  dsimp only
  sl_unfold_words
  exact Rd.putAll (dx_rd L
    (dhAll_rd L (mpld (hmp.un harg5) 5) (Rd.all (hdy.un harg4)) (la0 arg3 harg3 L hab) (lb0 arg3 harg3 L hab) (la1 arg3 harg3 L hab) (lb1 arg3 harg3 L hab)
    (lw0 harg8 hd) (lw1 harg8 hd) (lw0 harg6 hg) (lw1 harg6 hg) (lw0 harg7 hu) (lw1 harg7 hu))
    (mpld (hmp.un harg5) 7) (mpld (hmp.un harg5) 4) (n_rd L (Rd.all (hx.un harg1))) (rstd_rd L (Rd.all (hx.un harg1))) (Rd.all (hdy.un harg4)))

include hab hdy hmp hd in
/-- The gradients of the gate and of what is gated, at a later block of rows. -/
theorem outB9_rd (hc0 : ¬cond1_0 i) (xo : Vec Ideal S8x1024 .f32) : Rd (out1_B_9 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7 xo) (fun a b => L.dab (R + a) b) := by
  unfold out1_B_9 kernelRun1_B
  dsimp only
  sl_unfold_words
  refine RdOn.total (f := fun a b => L.dab (R + a) b)
    (RdOn.putB (o := 4224) (db1_rd L (mpld (hmp.un harg5) 5) (Rd.all (hdy.un harg4)) (la1 arg3 harg3 L hab) (lw1 harg8 hd))
      (RdOn.putB (o := 1408) (da1_rd L (mpld (hmp.un harg5) 5) (Rd.all (hdy.un harg4)) (la1 arg3 harg3 L hab) (lb1 arg3 harg3 L hab) (lw1 harg8 hd))
        (RdOn.putB (o := 2816) (db0_rd L (mpld (hmp.un harg5) 5) (Rd.all (hdy.un harg4)) (la0 arg3 harg3 L hab) (lw0 harg8 hd))
          (RdOn.putB (o := 0) (L := []) (da0_rd L (mpld (hmp.un harg5) 5) (Rd.all (hdy.un harg4)) (la0 arg3 harg3 L hab) (lb0 arg3 harg3 L hab) (lw0 harg8 hd)) RdOn.none
            fun a b hb => by rw [Nat.zero_add]; exact (if_pos (by omega)).symm)
          fun a b hb => ((if_neg (by omega)).trans (by rw [Nat.add_sub_cancel_left])).symm)
        fun a b hb => (if_pos (by omega)).symm)
      fun a b hb => ((if_neg (by omega)).trans (by rw [show 4224 + b - 2816 = 1408 + b by omega])).symm)
    fun b hb => by omega

include hx hmp in
/-- The modulated rows, at a later block of rows. -/
theorem outB10_rd (hc0 : ¬cond1_0 i) (xo : Vec Ideal S8x1024 .f32) : Rd (out1_B_10 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7 xo) (fun a b => L.h (R + a) b) := by
  unfold out1_B_10 kernelRun1_B
  dsimp only
  sl_unfold_words
  exact Rd.putAllB (h_rd L (Rd.all (hx.un harg1)) (mpld (hmp.un harg5) 7) (mpld (hmp.un harg5) 4) (mpld (hmp.un harg5) 3))

include hab in
/-- The hidden units, at a later block of rows. -/
theorem outB11_rd (hc0 : ¬cond1_0 i) (xo : Vec Ideal S8x1024 .f32) : Rd (out1_B_11 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7 xo) (fun a b => L.s (R + a) b) := by
  unfold out1_B_11 kernelRun1_B
  dsimp only
  sl_unfold_words
  refine RdOn.total (f := fun a b => L.s (R + a) b)
    (RdOn.putB (o := 1408) (s_rd (la1 arg3 harg3 L hab) (lb1 arg3 harg3 L hab))
      (RdOn.putB (o := 0) (L := []) (s_rd (la0 arg3 harg3 L hab) (lb0 arg3 harg3 L hab)) RdOn.none fun a b hb => by rw [Nat.zero_add]; rfl)
      fun a b hb => rfl)
    fun b hb => by omega

include hdy hmp in
/-- The gradient of the layer's product, at a later block of rows. -/
theorem outB12_rd (hc0 : ¬cond1_0 i) (xo : Vec Ideal S8x1024 .f32) : Rd (out1_B_12 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7 xo) (fun a b => L.df (R + a) b) := by
  unfold out1_B_12 kernelRun1_B
  dsimp only
  sl_unfold_words
  exact Rd.putAllB (df_rd L (mpld (hmp.un harg5) 5) (Rd.all (hdy.un harg4)))

include hx hf hab hdy hmp hg hu hd in
/-- The sums over the rows, at a later block of rows. -/
theorem outB13_rd (hc0 : ¬cond1_0 i) {xo : Vec Ideal S8x1024 .f32} {P : ℕ → ℕ → ℝ} (hP : Rd xo P) : Rd (out1_B_13 c i arg1 harg1 arg2 harg2 arg3 harg3 arg4 harg4 arg5 harg5 arg6 harg6 arg7 harg7 arg8 harg8 arg9 harg9 arg10 harg10 arg11 harg11
    arg12 harg12 arg13 harg13 arg14 harg14 hc0 x0 x1 x2 x3 x4 x5 x6 x7 xo) (fun a b => P a b + ∑ t ∈ range 256, L.q a (R + t) b) := by
  have hdh := dhAll_rd L (mpld (hmp.un harg5) 5 (inb := inb_S8x1024_S1x1024_5_0)) (Rd.all (hdy.un harg4) (inb := inb_S256x1024_S256x1024_0_0))
    (la0 arg3 harg3 L hab (inb := inb_S256x5632_S256x1408_0_0)) (lb0 arg3 harg3 L hab (inb := inb_S256x5632_S256x1408_0_2816))
    (la1 arg3 harg3 L hab (inb := inb_S256x5632_S256x1408_0_1408)) (lb1 arg3 harg3 L hab (inb := inb_S256x5632_S256x1408_0_4224))
    (lw0 harg8 hd (inb := inb_S8x1x352x1024_S4x1x352x1024_0_0_0_0)) (lw1 harg8 hd (inb := inb_S8x1x352x1024_S4x1x352x1024_4_0_0_0))
    (lw0 harg6 hg (inb := inb_S8x1x352x1024_S4x1x352x1024_0_0_0_0)) (lw1 harg6 hg (inb := inb_S8x1x352x1024_S4x1x352x1024_4_0_0_0))
    (lw0 harg7 hu (inb := inb_S8x1x352x1024_S4x1x352x1024_0_0_0_0)) (lw1 harg7 hu (inb := inb_S8x1x352x1024_S4x1x352x1024_4_0_0_0))
  have hn := n_rd L (Rd.all (hx.un harg1) (inb := inb_S256x1024_S256x1024_0_0))
  have hg7 := (mpld (hmp.un harg5) 7 (inb := inb_S8x1024_S1x1024_7_0))
  have hs4 := (mpld (hmp.un harg5) 4 (inb := inb_S8x1024_S1x1024_4_0))
  have hyl := Rd.all (hdy.un harg4) (inb := inb_S256x1024_S256x1024_0_0)
  have hfl := Rd.all (hf.un harg2) (inb := inb_S256x1024_S256x1024_0_0)
  have e : Rd (arg14.view.read (Elt Ideal) (arg14.view.writes (Elt Ideal) (harg14.unread (Val := Elt Ideal) xo) [])) P := hP.un harg14
  have p0 := Rd.putRows (acc_rd (dh_rd L hdh) (Rd.rows (k := 1) (hP.un harg14) (o := 0) rfl (inb := inb_S8x1024_S1x1024_0_0))) e (o := 0) rfl (inb := inb_S8x1024_S1x1024_0_0)
  have p1 := Rd.putRows (acc_rd (dsc_rd L hdh hg7 hn) (Rd.rows (k := 1) (hP.un harg14) (o := 1) rfl (inb := inb_S8x1024_S1x1024_1_0))) p0 (o := 1) rfl (inb := inb_S8x1024_S1x1024_1_0)
  have p2 := Rd.putRows (accf_rd L hyl hfl (Rd.rows (k := 1) (hP.un harg14) (o := 2) rfl (inb := inb_S8x1024_S1x1024_2_0))) p1 (o := 2) rfl (inb := inb_S8x1024_S1x1024_2_0)
  have p3 := Rd.putRows (acc_rd (dg_rd L hdh hs4 hn) (Rd.rows (k := 1) (hP.un harg14) (o := 3) rfl (inb := inb_S8x1024_S1x1024_3_0))) p2 (o := 3) rfl (inb := inb_S8x1024_S1x1024_3_0)
  unfold out1_B_13 kernelRun1_B
  dsimp only
  sl_unfold_words
  refine Rd.congr p3 fun a b ha _ => ?_
  exact fourB L R P a b

end

end Cert.Sb.Ffn

end
-- ==== Proof.FfnArr.lean ====
/- What the arrays hold after the feed-forward layer's two calls: each block's contents placed in its array, and the
   backward call's sums followed over its sixteen row blocks. -/
module

public import proofs.«01_k».proof.Proof.FfnFwd
public import proofs.«01_k».proof.Proof.FfnBwd
public import Idealize.ShloMosaic.Lib.Pipeline.ValueKit.Geometry

@[expose] public section

set_option maxRecDepth 16384

noncomputable section

namespace Cert.Sb.Ffn

open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Idealize.ShloMosaic.Pipeline (Dat Cfg Window)
open Cert.FfnIdeal Cert.FfnIdeal.Gen

/-- The packed weights hold a layer's three matrices, one a part. -/
def W3 (x : (⟨4, ![8, 3, 352, 1024]⟩ : Shape).Idx → EReal) (L : Layer) : Prop :=
  ∀ (d : Fin 8) (a : Fin 352) (b : Fin 1024), x (ix4 d (0 : Fin 3) a b) = ((L.wg (d.val * 352 + a.val) b.val : ℝ) : EReal)
    ∧ x (ix4 d (1 : Fin 3) a b) = ((L.wu (d.val * 352 + a.val) b.val : ℝ) : EReal)
    ∧ x (ix4 d (2 : Fin 3) a b) = ((L.wd (d.val * 352 + a.val) b.val : ℝ) : EReal)

variable (V : (c : Dev nD) → (b : Ref sig .tc) → Buf (Elt Ideal) ((c : Thread nD τ).loc b))

/-- Where each window of call 0 stands at point `t` of its grid. -/
theorem pt0 : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0 ∧ win0_2.index t 3 = 0)
    ∧ (win0_3.index t 0 = 0 ∧ win0_3.index t 1 = 1 ∧ win0_3.index t 2 = 0 ∧ win0_3.index t 3 = 0)
    ∧ (win0_4.index t 0 = 0 ∧ win0_4.index t 1 = 2 ∧ win0_4.index t 2 = 0 ∧ win0_4.index t 3 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

theorem blk0_x {L : Layer} {c : Dev nD} (h : Rd (n := 4096) (m := 1024) (V c main_arg0) L.x) (t : Fin cfg0.N) :
    Rd (n := 256) (m := 1024) (iblk0 (F := Ideal) V c 0 t) (fun a b => L.x (t.val * 256 + a) b) := by
  intro a b
  obtain ⟨⟨e0, e1⟩, -⟩ := pt0 t
  have ha := a.isLt
  have ht : t.val < 16 := t.isLt
  refine Eq.trans ?_ (h ⟨t.val * 256 + a.val, by omega⟩ b)
  unfold iblk0
  rw [View.read_apply]
  show V c main_arg0 _ = V c main_arg0 _
  congr 1
  funext i
  apply Fin.ext
  match i with
  | ⟨0, _⟩ => show win0_0.index t 0 * 256 + 1 * a.val = t.val * 256 + a.val; rw [e0]; omega
  | ⟨1, _⟩ => show win0_0.index t 1 * 1024 + 1 * b.val = b.val; rw [e1]; omega

theorem blk0_mp {L : Layer} {c : Dev nD} (h : Rd (n := 8) (m := 1024) (V c main_arg1) L.mp) (t : Fin cfg0.N) :
    Rd (n := 8) (m := 1024) (iblk0 (F := Ideal) V c 1 t) L.mp := by
  intro a b
  obtain ⟨-, ⟨e0, e1⟩, -⟩ := pt0 t
  refine Eq.trans ?_ (h a b)
  unfold iblk0
  rw [View.read_apply]
  show V c main_arg1 _ = V c main_arg1 _
  congr 1
  funext i
  apply Fin.ext
  match i with
  | ⟨0, _⟩ => show win0_1.index t 0 * 8 + 1 * a.val = a.val; rw [e0]; omega
  | ⟨1, _⟩ => show win0_1.index t 1 * 1024 + 1 * b.val = b.val; rw [e1]; omega

theorem blk0_wg {L : Layer} {c : Dev nD} (h : W3 (V c main_arg2) L) (t : Fin cfg0.N) :
    RdW (n := 8) (r := 352) (m := 1024) (iblk0 (F := Ideal) V c 2 t) L.wg := by
  intro d a b
  obtain ⟨-, -, ⟨e0, e1, e2, e3⟩, -⟩ := pt0 t
  refine Eq.trans ?_ (h d a b).1
  unfold iblk0
  rw [View.read_apply]
  show V c main_arg2 _ = V c main_arg2 _
  congr 1
  funext i
  apply Fin.ext
  match i with
  | ⟨0, _⟩ => show win0_2.index t 0 * 8 + 1 * d.val = d.val; rw [e0]; omega
  | ⟨1, _⟩ => show win0_2.index t 1 * 1 + 1 * 0 = 0; rw [e1]
  | ⟨2, _⟩ => show win0_2.index t 2 * 352 + 1 * a.val = a.val; rw [e2]; omega
  | ⟨3, _⟩ => show win0_2.index t 3 * 1024 + 1 * b.val = b.val; rw [e3]; omega

theorem blk0_wu {L : Layer} {c : Dev nD} (h : W3 (V c main_arg2) L) (t : Fin cfg0.N) :
    RdW (n := 8) (r := 352) (m := 1024) (iblk0 (F := Ideal) V c 3 t) L.wu := by
  intro d a b
  obtain ⟨-, -, -, ⟨e0, e1, e2, e3⟩, -⟩ := pt0 t
  refine Eq.trans ?_ (h d a b).2.1
  unfold iblk0
  rw [View.read_apply]
  show V c main_arg2 _ = V c main_arg2 _
  congr 1
  funext i
  apply Fin.ext
  match i with
  | ⟨0, _⟩ => show win0_3.index t 0 * 8 + 1 * d.val = d.val; rw [e0]; omega
  | ⟨1, _⟩ => show win0_3.index t 1 * 1 + 1 * 0 = 1; rw [e1]
  | ⟨2, _⟩ => show win0_3.index t 2 * 352 + 1 * a.val = a.val; rw [e2]; omega
  | ⟨3, _⟩ => show win0_3.index t 3 * 1024 + 1 * b.val = b.val; rw [e3]; omega

theorem blk0_wd {L : Layer} {c : Dev nD} (h : W3 (V c main_arg2) L) (t : Fin cfg0.N) :
    RdW (n := 8) (r := 352) (m := 1024) (iblk0 (F := Ideal) V c 4 t) L.wd := by
  intro d a b
  obtain ⟨-, -, -, -, ⟨e0, e1, e2, e3⟩, -⟩ := pt0 t
  refine Eq.trans ?_ (h d a b).2.2
  unfold iblk0
  rw [View.read_apply]
  show V c main_arg2 _ = V c main_arg2 _
  congr 1
  funext i
  apply Fin.ext
  match i with
  | ⟨0, _⟩ => show win0_4.index t 0 * 8 + 1 * d.val = d.val; rw [e0]; omega
  | ⟨1, _⟩ => show win0_4.index t 1 * 1 + 1 * 0 = 2; rw [e1]
  | ⟨2, _⟩ => show win0_4.index t 2 * 352 + 1 * a.val = a.val; rw [e2]; omega
  | ⟨3, _⟩ => show win0_4.index t 3 * 1024 + 1 * b.val = b.val; rw [e3]; omega

section
variable {V} {L : Layer} {c : Dev nD} (hx : Rd (n := 4096) (m := 1024) (V c main_arg0) L.x) (hmp : Rd (n := 8) (m := 1024) (V c main_arg1) L.mp)
  (hw : W3 (V c main_arg2) L)

include hx hmp hw

/-- The layer's result. -/
theorem arr0_5 : Rd (n := 4096) (m := 1024) ((dat0 (F := Ideal) V c).arrAt 5 cfg0.N) L.y := by
  intro a b
  refine (dat0 (F := Ideal) V c).arrAt_forall_of_covers 5 (fun i v => v = ((L.y (i 0).val (i 1).val : ℝ) : EReal)) (by decide +kernel)
    (fun t _ y => ?_) (ix2 a b)
  have hB : Rd (n := 256) (m := 1024) _ _ := out5_rd L (blk0_x V hx t) (blk0_mp V hmp t) (blk0_wg V hw t) (blk0_wu V hw t) (blk0_wd V hw t)
  blk_simp
  rw [after0_5]
  obtain ⟨-, -, -, -, -, ⟨e0, e1⟩, -⟩ := pt0 t
  rw [e0, e1]
  have y0 : (y 0).val < 256 := (y 0).isLt
  have y1 : (y 1).val < 1024 := (y 1).isLt
  generalize out0_5 (iblk0 (F := Ideal) V c 0 t) (iblk0 (F := Ideal) V c 1 t) (iblk0 (F := Ideal) V c 2 t) (iblk0 (F := Ideal) V c 3 t) (iblk0 (F := Ideal) V c 4 t) = g at hB ⊢
  rw [zero_mul, zero_add]
  exact Eq.trans (congrArg g (eq_ix2 y)) (hB ⟨(y 0).val, y0⟩ ⟨(y 1).val, y1⟩)

/-- The layer's product. -/
theorem arr0_6 : Rd (n := 4096) (m := 1024) ((dat0 (F := Ideal) V c).arrAt 6 cfg0.N) L.f := by
  intro a b
  refine (dat0 (F := Ideal) V c).arrAt_forall_of_covers 6 (fun i v => v = ((L.f (i 0).val (i 1).val : ℝ) : EReal)) (by decide +kernel)
    (fun t _ y => ?_) (ix2 a b)
  have hB : Rd (n := 256) (m := 1024) _ _ := out6_rd L (blk0_x V hx t) (blk0_mp V hmp t) (blk0_wg V hw t) (blk0_wu V hw t) (blk0_wd V hw t)
  blk_simp
  rw [after0_6]
  obtain ⟨-, -, -, -, -, -, ⟨e0, e1⟩, -⟩ := pt0 t
  rw [e0, e1]
  have y0 : (y 0).val < 256 := (y 0).isLt
  have y1 : (y 1).val < 1024 := (y 1).isLt
  generalize out0_6 (iblk0 (F := Ideal) V c 0 t) (iblk0 (F := Ideal) V c 1 t) (iblk0 (F := Ideal) V c 2 t) (iblk0 (F := Ideal) V c 3 t) (iblk0 (F := Ideal) V c 4 t) = g at hB ⊢
  rw [zero_mul, zero_add]
  exact Eq.trans (congrArg g (eq_ix2 y)) (hB ⟨(y 0).val, y0⟩ ⟨(y 1).val, y1⟩)

/-- The gate and what is gated. -/
theorem arr0_7 : Rd (n := 4096) (m := 5632) ((dat0 (F := Ideal) V c).arrAt 7 cfg0.N) L.ab := by
  intro a b
  refine (dat0 (F := Ideal) V c).arrAt_forall_of_covers 7 (fun i v => v = ((L.ab (i 0).val (i 1).val : ℝ) : EReal)) (by decide +kernel)
    (fun t _ y => ?_) (ix2 a b)
  have hB : Rd (n := 256) (m := 5632) _ _ := out7_rd (x4 := iblk0 (F := Ideal) V c 4 t) L (blk0_x V hx t) (blk0_mp V hmp t) (blk0_wg V hw t) (blk0_wu V hw t)
  blk_simp
  rw [after0_7]
  obtain ⟨-, -, -, -, -, -, -, ⟨e0, e1⟩⟩ := pt0 t
  rw [e0, e1]
  have y0 : (y 0).val < 256 := (y 0).isLt
  have y1 : (y 1).val < 5632 := (y 1).isLt
  generalize out0_7 (iblk0 (F := Ideal) V c 0 t) (iblk0 (F := Ideal) V c 1 t) (iblk0 (F := Ideal) V c 2 t) (iblk0 (F := Ideal) V c 3 t) (iblk0 (F := Ideal) V c 4 t) = g at hB ⊢
  rw [zero_mul, zero_add]
  exact Eq.trans (congrArg g (eq_ix2 y)) (hB ⟨(y 0).val, y0⟩ ⟨(y 1).val, y1⟩)

end

/-- Where each window of call 1 stands at point `t` of its grid. -/
theorem pt1 : ∀ t : Fin cfg1.N,
    (win1_0.index t 0 = t.val ∧ win1_0.index t 1 = 0)
    ∧ (win1_1.index t 0 = t.val ∧ win1_1.index t 1 = 0)
    ∧ (win1_2.index t 0 = t.val ∧ win1_2.index t 1 = 0)
    ∧ (win1_3.index t 0 = t.val ∧ win1_3.index t 1 = 0)
    ∧ (win1_4.index t 0 = 0 ∧ win1_4.index t 1 = 0)
    ∧ (win1_5.index t 0 = 0 ∧ win1_5.index t 1 = 0 ∧ win1_5.index t 2 = 0 ∧ win1_5.index t 3 = 0)
    ∧ (win1_6.index t 0 = 0 ∧ win1_6.index t 1 = 1 ∧ win1_6.index t 2 = 0 ∧ win1_6.index t 3 = 0)
    ∧ (win1_7.index t 0 = 0 ∧ win1_7.index t 1 = 2 ∧ win1_7.index t 2 = 0 ∧ win1_7.index t 3 = 0)
    ∧ (win1_8.index t 0 = t.val ∧ win1_8.index t 1 = 0)
    ∧ (win1_9.index t 0 = t.val ∧ win1_9.index t 1 = 0)
    ∧ (win1_10.index t 0 = t.val ∧ win1_10.index t 1 = 0)
    ∧ (win1_11.index t 0 = t.val ∧ win1_11.index t 1 = 0)
    ∧ (win1_12.index t 0 = t.val ∧ win1_12.index t 1 = 0)
    ∧ (win1_13.index t 0 = 0 ∧ win1_13.index t 1 = 0) :=
  (by decide +kernel : ∀ t : Fin grid1.N, _)

theorem blk1_x {L : Layer} {c : Dev nD} (h : Rd (n := 4096) (m := 1024) (V c main_arg0) L.x) (t : Fin cfg1.N) :
    Rd (n := 256) (m := 1024) (iblk1 (F := Ideal) V c 0 t) (fun a b => L.x (t.val * 256 + a) b) := by
  intro a b
  obtain ⟨⟨e0, e1⟩, -⟩ := pt1 t
  have ha := a.isLt
  have ht : t.val < 16 := t.isLt
  refine Eq.trans ?_ (h ⟨t.val * 256 + a.val, by omega⟩ b)
  unfold iblk1
  rw [View.read_apply]
  show V c main_arg0 _ = V c main_arg0 _
  congr 1
  funext i
  apply Fin.ext
  match i with
  | ⟨0, _⟩ => show win1_0.index t 0 * 256 + 1 * a.val = t.val * 256 + a.val; rw [e0]; omega
  | ⟨1, _⟩ => show win1_0.index t 1 * 1024 + 1 * b.val = b.val; rw [e1]; omega

theorem blk1_f {L : Layer} {c : Dev nD} (h : Rd (n := 4096) (m := 1024) (V c main_v0_1) L.f) (t : Fin cfg1.N) :
    Rd (n := 256) (m := 1024) (iblk1 (F := Ideal) V c 1 t) (fun a b => L.f (t.val * 256 + a) b) := by
  intro a b
  obtain ⟨-, ⟨e0, e1⟩, -⟩ := pt1 t
  have ha := a.isLt
  have ht : t.val < 16 := t.isLt
  refine Eq.trans ?_ (h ⟨t.val * 256 + a.val, by omega⟩ b)
  unfold iblk1
  rw [View.read_apply]
  show V c main_v0_1 _ = V c main_v0_1 _
  congr 1
  funext i
  apply Fin.ext
  match i with
  | ⟨0, _⟩ => show win1_1.index t 0 * 256 + 1 * a.val = t.val * 256 + a.val; rw [e0]; omega
  | ⟨1, _⟩ => show win1_1.index t 1 * 1024 + 1 * b.val = b.val; rw [e1]; omega

theorem blk1_ab {L : Layer} {c : Dev nD} (h : Rd (n := 4096) (m := 5632) (V c main_v0_2) L.ab) (t : Fin cfg1.N) :
    Rd (n := 256) (m := 5632) (iblk1 (F := Ideal) V c 2 t) (fun a b => L.ab (t.val * 256 + a) b) := by
  intro a b
  obtain ⟨-, -, ⟨e0, e1⟩, -⟩ := pt1 t
  have ha := a.isLt
  have ht : t.val < 16 := t.isLt
  refine Eq.trans ?_ (h ⟨t.val * 256 + a.val, by omega⟩ b)
  unfold iblk1
  rw [View.read_apply]
  show V c main_v0_2 _ = V c main_v0_2 _
  congr 1
  funext i
  apply Fin.ext
  match i with
  | ⟨0, _⟩ => show win1_2.index t 0 * 256 + 1 * a.val = t.val * 256 + a.val; rw [e0]; omega
  | ⟨1, _⟩ => show win1_2.index t 1 * 5632 + 1 * b.val = b.val; rw [e1]; omega

theorem blk1_dy {L : Layer} {c : Dev nD} (h : Rd (n := 4096) (m := 1024) (V c main_arg3) L.dy) (t : Fin cfg1.N) :
    Rd (n := 256) (m := 1024) (iblk1 (F := Ideal) V c 3 t) (fun a b => L.dy (t.val * 256 + a) b) := by
  intro a b
  obtain ⟨-, -, -, ⟨e0, e1⟩, -⟩ := pt1 t
  have ha := a.isLt
  have ht : t.val < 16 := t.isLt
  refine Eq.trans ?_ (h ⟨t.val * 256 + a.val, by omega⟩ b)
  unfold iblk1
  rw [View.read_apply]
  show V c main_arg3 _ = V c main_arg3 _
  congr 1
  funext i
  apply Fin.ext
  match i with
  | ⟨0, _⟩ => show win1_3.index t 0 * 256 + 1 * a.val = t.val * 256 + a.val; rw [e0]; omega
  | ⟨1, _⟩ => show win1_3.index t 1 * 1024 + 1 * b.val = b.val; rw [e1]; omega

theorem blk1_mp {L : Layer} {c : Dev nD} (h : Rd (n := 8) (m := 1024) (V c main_arg1) L.mp) (t : Fin cfg1.N) :
    Rd (n := 8) (m := 1024) (iblk1 (F := Ideal) V c 4 t) L.mp := by
  intro a b
  obtain ⟨-, -, -, -, ⟨e0, e1⟩, -⟩ := pt1 t
  refine Eq.trans ?_ (h a b)
  unfold iblk1
  rw [View.read_apply]
  show V c main_arg1 _ = V c main_arg1 _
  congr 1
  funext i
  apply Fin.ext
  match i with
  | ⟨0, _⟩ => show win1_4.index t 0 * 8 + 1 * a.val = a.val; rw [e0]; omega
  | ⟨1, _⟩ => show win1_4.index t 1 * 1024 + 1 * b.val = b.val; rw [e1]; omega

theorem blk1_wg {L : Layer} {c : Dev nD} (h : W3 (V c main_arg2) L) (t : Fin cfg1.N) :
    RdW (n := 8) (r := 352) (m := 1024) (iblk1 (F := Ideal) V c 5 t) L.wg := by
  intro d a b
  obtain ⟨-, -, -, -, -, ⟨e0, e1, e2, e3⟩, -⟩ := pt1 t
  refine Eq.trans ?_ (h d a b).1
  unfold iblk1
  rw [View.read_apply]
  show V c main_arg2 _ = V c main_arg2 _
  congr 1
  funext i
  apply Fin.ext
  match i with
  | ⟨0, _⟩ => show win1_5.index t 0 * 8 + 1 * d.val = d.val; rw [e0]; omega
  | ⟨1, _⟩ => show win1_5.index t 1 * 1 + 1 * 0 = 0; rw [e1]
  | ⟨2, _⟩ => show win1_5.index t 2 * 352 + 1 * a.val = a.val; rw [e2]; omega
  | ⟨3, _⟩ => show win1_5.index t 3 * 1024 + 1 * b.val = b.val; rw [e3]; omega

theorem blk1_wu {L : Layer} {c : Dev nD} (h : W3 (V c main_arg2) L) (t : Fin cfg1.N) :
    RdW (n := 8) (r := 352) (m := 1024) (iblk1 (F := Ideal) V c 6 t) L.wu := by
  intro d a b
  obtain ⟨-, -, -, -, -, -, ⟨e0, e1, e2, e3⟩, -⟩ := pt1 t
  refine Eq.trans ?_ (h d a b).2.1
  unfold iblk1
  rw [View.read_apply]
  show V c main_arg2 _ = V c main_arg2 _
  congr 1
  funext i
  apply Fin.ext
  match i with
  | ⟨0, _⟩ => show win1_6.index t 0 * 8 + 1 * d.val = d.val; rw [e0]; omega
  | ⟨1, _⟩ => show win1_6.index t 1 * 1 + 1 * 0 = 1; rw [e1]
  | ⟨2, _⟩ => show win1_6.index t 2 * 352 + 1 * a.val = a.val; rw [e2]; omega
  | ⟨3, _⟩ => show win1_6.index t 3 * 1024 + 1 * b.val = b.val; rw [e3]; omega

theorem blk1_wd {L : Layer} {c : Dev nD} (h : W3 (V c main_arg2) L) (t : Fin cfg1.N) :
    RdW (n := 8) (r := 352) (m := 1024) (iblk1 (F := Ideal) V c 7 t) L.wd := by
  intro d a b
  obtain ⟨-, -, -, -, -, -, -, ⟨e0, e1, e2, e3⟩, -⟩ := pt1 t
  refine Eq.trans ?_ (h d a b).2.2
  unfold iblk1
  rw [View.read_apply]
  show V c main_arg2 _ = V c main_arg2 _
  congr 1
  funext i
  apply Fin.ext
  match i with
  | ⟨0, _⟩ => show win1_7.index t 0 * 8 + 1 * d.val = d.val; rw [e0]; omega
  | ⟨1, _⟩ => show win1_7.index t 1 * 1 + 1 * 0 = 2; rw [e1]
  | ⟨2, _⟩ => show win1_7.index t 2 * 352 + 1 * a.val = a.val; rw [e2]; omega
  | ⟨3, _⟩ => show win1_7.index t 3 * 1024 + 1 * b.val = b.val; rw [e3]; omega

section
variable {V} {L : Layer} {c : Dev nD} (hx : Rd (n := 4096) (m := 1024) (V c main_arg0) L.x) (hf : Rd (n := 4096) (m := 1024) (V c main_v0_1) L.f)
  (hab : Rd (n := 4096) (m := 5632) (V c main_v0_2) L.ab) (hdy : Rd (n := 4096) (m := 1024) (V c main_arg3) L.dy)
  (hmp : Rd (n := 8) (m := 1024) (V c main_arg1) L.mp) (hw : W3 (V c main_arg2) L)

include hx hf hab hdy hmp hw

theorem pnt8 (t : Fin cfg1.N) : Rd (n := 256) (m := 1024) (outsAt1 (F := Ideal) V c t.val t.isLt).1 (fun a b => L.dx (t.val * 256 + a) b) := by
  by_cases h0 : t.val % 16 = 0
  · have := outA8_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_x V hx t) (blk1_ab V hab t) (blk1_dy V hdy t) (blk1_mp V hmp t) (blk1_wg V hw t) (blk1_wu V hw t) (blk1_wd V hw t) ((hcond1_0 t).mpr h0)
    rw [outsAt1_A V c t h0]
    with_reducible exact this
  · have := outB8_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_x V hx t) (blk1_ab V hab t) (blk1_dy V hdy t) (blk1_mp V hmp t) (blk1_wg V hw t) (blk1_wu V hw t) (blk1_wd V hw t) (fun h => h0 ((hcond1_0 t).mp h))
      (outsAt1 (F := Ideal) V c (t.val - 1) (Nat.lt_of_le_of_lt (Nat.sub_le _ _) t.isLt)).2.2.2.2.2
    rw [outsAt1_B V c t h0]
    with_reducible exact this

theorem pnt9 (t : Fin cfg1.N) : Rd (n := 256) (m := 5632) (outsAt1 (F := Ideal) V c t.val t.isLt).2.1 (fun a b => L.dab (t.val * 256 + a) b) := by
  by_cases h0 : t.val % 16 = 0
  · have := outA9_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_ab V hab t) (blk1_dy V hdy t) (blk1_mp V hmp t) (blk1_wd V hw t) ((hcond1_0 t).mpr h0)
    rw [outsAt1_A V c t h0]
    with_reducible exact this
  · have := outB9_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_ab V hab t) (blk1_dy V hdy t) (blk1_mp V hmp t) (blk1_wd V hw t) (fun h => h0 ((hcond1_0 t).mp h))
      (outsAt1 (F := Ideal) V c (t.val - 1) (Nat.lt_of_le_of_lt (Nat.sub_le _ _) t.isLt)).2.2.2.2.2
    rw [outsAt1_B V c t h0]
    with_reducible exact this

theorem pnt10 (t : Fin cfg1.N) : Rd (n := 256) (m := 1024) (outsAt1 (F := Ideal) V c t.val t.isLt).2.2.1 (fun a b => L.h (t.val * 256 + a) b) := by
  by_cases h0 : t.val % 16 = 0
  · have := outA10_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_x V hx t) (blk1_mp V hmp t) ((hcond1_0 t).mpr h0)
    rw [outsAt1_A V c t h0]
    with_reducible exact this
  · have := outB10_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_x V hx t) (blk1_mp V hmp t) (fun h => h0 ((hcond1_0 t).mp h))
      (outsAt1 (F := Ideal) V c (t.val - 1) (Nat.lt_of_le_of_lt (Nat.sub_le _ _) t.isLt)).2.2.2.2.2
    rw [outsAt1_B V c t h0]
    with_reducible exact this

theorem pnt11 (t : Fin cfg1.N) : Rd (n := 256) (m := 2816) (outsAt1 (F := Ideal) V c t.val t.isLt).2.2.2.1 (fun a b => L.s (t.val * 256 + a) b) := by
  by_cases h0 : t.val % 16 = 0
  · have := outA11_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_ab V hab t) ((hcond1_0 t).mpr h0)
    rw [outsAt1_A V c t h0]
    with_reducible exact this
  · have := outB11_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_ab V hab t) (fun h => h0 ((hcond1_0 t).mp h))
      (outsAt1 (F := Ideal) V c (t.val - 1) (Nat.lt_of_le_of_lt (Nat.sub_le _ _) t.isLt)).2.2.2.2.2
    rw [outsAt1_B V c t h0]
    with_reducible exact this

theorem pnt12 (t : Fin cfg1.N) : Rd (n := 256) (m := 1024) (outsAt1 (F := Ideal) V c t.val t.isLt).2.2.2.2.1 (fun a b => L.df (t.val * 256 + a) b) := by
  by_cases h0 : t.val % 16 = 0
  · have := outA12_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_dy V hdy t) (blk1_mp V hmp t) ((hcond1_0 t).mpr h0)
    rw [outsAt1_A V c t h0]
    with_reducible exact this
  · have := outB12_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (x0 := iblk1 (F := Ideal) V c 0 t) (x1 := iblk1 (F := Ideal) V c 1 t) (x2 := iblk1 (F := Ideal) V c 2 t) (x3 := iblk1 (F := Ideal) V c 3 t) (x4 := iblk1 (F := Ideal) V c 4 t) (x5 := iblk1 (F := Ideal) V c 5 t) (x6 := iblk1 (F := Ideal) V c 6 t) (x7 := iblk1 (F := Ideal) V c 7 t) (blk1_dy V hdy t) (blk1_mp V hmp t) (fun h => h0 ((hcond1_0 t).mp h))
      (outsAt1 (F := Ideal) V c (t.val - 1) (Nat.lt_of_le_of_lt (Nat.sub_le _ _) t.isLt)).2.2.2.2.2
    rw [outsAt1_B V c t h0]
    with_reducible exact this

theorem pntA13 (t : Fin cfg1.N) (h0 : t.val % 16 = 0) :
    Rd (n := 8) (m := 1024) (outsAt1 (F := Ideal) V c t.val t.isLt).2.2.2.2.2 (fun i b => ∑ u ∈ range 256, L.q i (t.val * 256 + u) b) := by
  have := outA13_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (blk1_x V hx t) (blk1_f V hf t) (blk1_ab V hab t) (blk1_dy V hdy t) (blk1_mp V hmp t) (blk1_wg V hw t) (blk1_wu V hw t) (blk1_wd V hw t) ((hcond1_0 t).mpr h0)
  rw [outsAt1_A V c t h0]
  with_reducible exact this

theorem pntB13 (t : Fin cfg1.N) (h0 : ¬t.val % 16 = 0) {P : ℕ → ℕ → ℝ}
    (hP : Rd (n := 8) (m := 1024) (outsAt1 (F := Ideal) V c (t.val - 1) (Nat.lt_of_le_of_lt (Nat.sub_le _ _) t.isLt)).2.2.2.2.2 P) :
    Rd (n := 8) (m := 1024) (outsAt1 (F := Ideal) V c t.val t.isLt).2.2.2.2.2 (fun i b => P i b + ∑ u ∈ range 256, L.q i (t.val * 256 + u) b) := by
  have := outB13_rd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) L (R := t.val * 256) (blk1_x V hx t) (blk1_f V hf t) (blk1_ab V hab t) (blk1_dy V hdy t) (blk1_mp V hmp t) (blk1_wg V hw t) (blk1_wu V hw t) (blk1_wd V hw t) (fun h => h0 ((hcond1_0 t).mp h)) hP
  rw [outsAt1_B V c t h0]
  with_reducible exact this

/-- The sums over the rows so far. -/
theorem acc : ∀ (n : ℕ) (hn : n < cfg1.N), Rd (n := 8) (m := 1024) (outsAt1 (F := Ideal) V c n hn).2.2.2.2.2 (fun i b => ∑ t ∈ range (n * 256 + 256), L.q i t b)
  | 0, hn => (pntA13 hx hf hab hdy hmp hw ⟨0, hn⟩ rfl).congr fun i b _ _ => by simp only [Nat.zero_mul, Nat.zero_add]
  | n + 1, hn => by
    have hn' : n + 1 < 16 := hn
    refine (pntB13 hx hf hab hdy hmp hw ⟨n + 1, hn⟩ (by show ¬(n + 1) % 16 = 0; omega) (acc n (by omega))).congr fun i b _ _ => ?_
    show _ + ∑ u ∈ range 256, L.q i ((n + 1) * 256 + u) b = _
    rw [Nat.succ_mul, sum_range_add _ (n * 256 + 256) 256]

/-- The sums over all rows. -/
theorem arr1_13 : Rd (n := 8) (m := 1024) ((dat1 (F := Ideal) V c).arrAt 13 cfg1.N) (fun i b => ∑ t ∈ range 4096, L.q i t b) := by
  intro a b
  refine (dat1 (F := Ideal) V c).arrAt_forall_of_covers 13 (fun i v => v = ((∑ t ∈ range 4096, L.q (i 0).val t (i 1).val : ℝ) : EReal)) (by decide +kernel)
    (fun t hf' y => ?_) (ix2 a b)
  have hF : t.val % 16 = 15 := (flush1_13 t).mp hf'
  have ht : t.val < 16 := t.isLt
  have hB := acc hx hf hab hdy hmp hw t.val t.isLt
  rw [show t.val * 256 + 256 = 4096 by omega] at hB
  blk_simp
  rw [after1_13]
  obtain ⟨-, -, -, -, -, -, -, -, -, -, -, -, -, ⟨e0, e1⟩⟩ := pt1 t
  rw [e0, e1]
  have y0 : (y 0).val < 8 := (y 0).isLt
  have y1 : (y 1).val < 1024 := (y 1).isLt
  generalize (outsAt1 (F := Ideal) V c t.val t.isLt).2.2.2.2.2 = g at hB ⊢
  rw [zero_mul, zero_add, zero_mul, zero_add]
  exact Eq.trans (congrArg g (eq_ix2 y)) (hB ⟨(y 0).val, y0⟩ ⟨(y 1).val, y1⟩)

/-- The gradient of the layer's rows. -/
theorem arr1_8 : Rd (n := 4096) (m := 1024) ((dat1 (F := Ideal) V c).arrAt 8 cfg1.N) L.dx := by
  intro a b
  refine (dat1 (F := Ideal) V c).arrAt_forall_of_covers 8 (fun i v => v = ((L.dx (i 0).val (i 1).val : ℝ) : EReal)) (by decide +kernel)
    (fun t _ y => ?_) (ix2 a b)
  have hB : Rd (n := 256) (m := 1024) _ _ := pnt8 hx hf hab hdy hmp hw t
  blk_simp
  rw [after1_8]
  obtain ⟨-, -, -, -, -, -, -, -, ⟨e0, e1⟩, -⟩ := pt1 t
  rw [e0, e1]
  have y0 : (y 0).val < 256 := (y 0).isLt
  have y1 : (y 1).val < 1024 := (y 1).isLt
  generalize (outsAt1 (F := Ideal) V c t.val t.isLt).1 = g at hB ⊢
  rw [zero_mul, zero_add]
  exact Eq.trans (congrArg g (eq_ix2 y)) (hB ⟨(y 0).val, y0⟩ ⟨(y 1).val, y1⟩)

/-- The two gradients of the hidden units. -/
theorem arr1_9 : Rd (n := 4096) (m := 5632) ((dat1 (F := Ideal) V c).arrAt 9 cfg1.N) L.dab := by
  intro a b
  refine (dat1 (F := Ideal) V c).arrAt_forall_of_covers 9 (fun i v => v = ((L.dab (i 0).val (i 1).val : ℝ) : EReal)) (by decide +kernel)
    (fun t _ y => ?_) (ix2 a b)
  have hB : Rd (n := 256) (m := 5632) _ _ := pnt9 hx hf hab hdy hmp hw t
  blk_simp
  rw [after1_9]
  obtain ⟨-, -, -, -, -, -, -, -, -, ⟨e0, e1⟩, -⟩ := pt1 t
  rw [e0, e1]
  have y0 : (y 0).val < 256 := (y 0).isLt
  have y1 : (y 1).val < 5632 := (y 1).isLt
  generalize (outsAt1 (F := Ideal) V c t.val t.isLt).2.1 = g at hB ⊢
  rw [zero_mul, zero_add]
  exact Eq.trans (congrArg g (eq_ix2 y)) (hB ⟨(y 0).val, y0⟩ ⟨(y 1).val, y1⟩)

/-- The modulated rows. -/
theorem arr1_10 : Rd (n := 4096) (m := 1024) ((dat1 (F := Ideal) V c).arrAt 10 cfg1.N) L.h := by
  intro a b
  refine (dat1 (F := Ideal) V c).arrAt_forall_of_covers 10 (fun i v => v = ((L.h (i 0).val (i 1).val : ℝ) : EReal)) (by decide +kernel)
    (fun t _ y => ?_) (ix2 a b)
  have hB : Rd (n := 256) (m := 1024) _ _ := pnt10 hx hf hab hdy hmp hw t
  blk_simp
  rw [after1_10]
  obtain ⟨-, -, -, -, -, -, -, -, -, -, ⟨e0, e1⟩, -⟩ := pt1 t
  rw [e0, e1]
  have y0 : (y 0).val < 256 := (y 0).isLt
  have y1 : (y 1).val < 1024 := (y 1).isLt
  generalize (outsAt1 (F := Ideal) V c t.val t.isLt).2.2.1 = g at hB ⊢
  rw [zero_mul, zero_add]
  exact Eq.trans (congrArg g (eq_ix2 y)) (hB ⟨(y 0).val, y0⟩ ⟨(y 1).val, y1⟩)

/-- The hidden units. -/
theorem arr1_11 : Rd (n := 4096) (m := 2816) ((dat1 (F := Ideal) V c).arrAt 11 cfg1.N) L.s := by
  intro a b
  refine (dat1 (F := Ideal) V c).arrAt_forall_of_covers 11 (fun i v => v = ((L.s (i 0).val (i 1).val : ℝ) : EReal)) (by decide +kernel)
    (fun t _ y => ?_) (ix2 a b)
  have hB : Rd (n := 256) (m := 2816) _ _ := pnt11 hx hf hab hdy hmp hw t
  blk_simp
  rw [after1_11]
  obtain ⟨-, -, -, -, -, -, -, -, -, -, -, ⟨e0, e1⟩, -⟩ := pt1 t
  rw [e0, e1]
  have y0 : (y 0).val < 256 := (y 0).isLt
  have y1 : (y 1).val < 2816 := (y 1).isLt
  generalize (outsAt1 (F := Ideal) V c t.val t.isLt).2.2.2.1 = g at hB ⊢
  rw [zero_mul, zero_add]
  exact Eq.trans (congrArg g (eq_ix2 y)) (hB ⟨(y 0).val, y0⟩ ⟨(y 1).val, y1⟩)

/-- The gradient of the layer's product. -/
theorem arr1_12 : Rd (n := 4096) (m := 1024) ((dat1 (F := Ideal) V c).arrAt 12 cfg1.N) L.df := by
  intro a b
  refine (dat1 (F := Ideal) V c).arrAt_forall_of_covers 12 (fun i v => v = ((L.df (i 0).val (i 1).val : ℝ) : EReal)) (by decide +kernel)
    (fun t _ y => ?_) (ix2 a b)
  have hB : Rd (n := 256) (m := 1024) _ _ := pnt12 hx hf hab hdy hmp hw t
  blk_simp
  rw [after1_12]
  obtain ⟨-, -, -, -, -, -, -, -, -, -, -, -, ⟨e0, e1⟩, -⟩ := pt1 t
  rw [e0, e1]
  have y0 : (y 0).val < 256 := (y 0).isLt
  have y1 : (y 1).val < 1024 := (y 1).isLt
  generalize (outsAt1 (F := Ideal) V c t.val t.isLt).2.2.2.2.1 = g at hB ⊢
  rw [zero_mul, zero_add]
  exact Eq.trans (congrArg g (eq_ix2 y)) (hB ⟨(y 0).val, y0⟩ ⟨(y 1).val, y1⟩)

end

end Cert.Sb.Ffn

end
-- ==== Proof.FfnRun.lean ====
/- The feed-forward program's run from real arguments: what its seven results hold when it ends. -/
module

public import proofs.«01_k».proof.Proof.FfnArr
public import proofs.«01_k».proof.Proof.Gen.FfnIdeal.Frame

@[expose] public section

set_option maxRecDepth 16384

noncomputable section

namespace Cert.Sb.Ffn

open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.FfnIdeal Cert.FfnIdeal.Gen

variable (m : (l : Loc nD τ sig) → Buf (Elt Ideal) l) (ρ : Dev nD → PrngReg)

set_option backward.isDefEq.respectTransparency.types false in
/-- The run ends with every buffer that outlives the calls at its contents after the second call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact H
      · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]
      · iexact Hb
      isplitl [Hr]
      · iexists _; iexact Hr
      · iexists ∅; iexact Ho)
    (QY := fun c s => ∀ b ∈ Pipeline.ucRefs τ sig, s.mem (((c : Thread nD τ)).1, b) = W2 m ρ c b)
    (hfin := fun c s' => by
      iintro ⟨⟨Hb, -⟩, Hs⟩
      unfold StableHlo.held
      imodintro
      iapply (pointsTo_read_all (Pipeline.ucRefs τ sig) (fun b => (((c : Thread nD τ)).1, b)) (W2 m ρ c) s')
      isplitl [Hb]
      · iassumption
      · iassumption)
    (hQ := fun _ h _ => h)

/-- From real arguments the seven results are the layer's real matrices. -/
theorem run {L : Dev nD → Layer}
    (hx : ∀ c : Dev nD, Rd (n := 4096) (m := 1024) (m ((c : Thread nD τ).loc main_arg0)) (L c).x)
    (hmp : ∀ c : Dev nD, Rd (n := 8) (m := 1024) (m ((c : Thread nD τ).loc main_arg1)) (L c).mp)
    (hw : ∀ c : Dev nD, W3 (m ((c : Thread nD τ).loc main_arg2)) (L c))
    (hdy : ∀ c : Dev nD, Rd (n := 4096) (m := 1024) (m ((c : Thread nD τ).loc main_arg3)) (L c).dy) :
    θ_run defs (onTc (τ := τ) (main (F := Ideal))) ⟨m, fun _ => 0, ρ⟩ (fun r => ∀ c : Dev nD,
      Rd (n := 4096) (m := 1024) (r.2.mem ((c.tc : Thread nD τ).loc main_v0_0)) (L c).y
      ∧ Rd (n := 4096) (m := 1024) (r.2.mem ((c.tc : Thread nD τ).loc main_v1_0)) (L c).dx
      ∧ Rd (n := 4096) (m := 5632) (r.2.mem ((c.tc : Thread nD τ).loc main_v1_1)) (L c).dab
      ∧ Rd (n := 4096) (m := 1024) (r.2.mem ((c.tc : Thread nD τ).loc main_v1_2)) (L c).h
      ∧ Rd (n := 4096) (m := 2816) (r.2.mem ((c.tc : Thread nD τ).loc main_v1_3)) (L c).s
      ∧ Rd (n := 4096) (m := 1024) (r.2.mem ((c.tc : Thread nD τ).loc main_v1_4)) (L c).df
      ∧ Rd (n := 8) (m := 1024) (r.2.mem ((c.tc : Thread nD τ).loc main_v1_5)) (fun i b => ∑ t ∈ range 4096, (L c).q i t b)
      ∧ (∀ a ∈ argRefs, r.2.mem ((c.tc : Thread nD τ).loc a) = m ((c.tc : Thread nD τ).loc a))) := by
  refine (θ_run defs _ _).mono (fun r h c => ?_) (ends m ρ)
  have hx0 : Rd (n := 4096) (m := 1024) (V0 m ρ c main_arg0) (L c).x := hx c
  have hmp0 : Rd (n := 8) (m := 1024) (V0 m ρ c main_arg1) (L c).mp := hmp c
  have hw0 : W3 (V0 m ρ c main_arg2) (L c) := hw c
  have hx1 : Rd (n := 4096) (m := 1024) (V1 m ρ c main_arg0) (L c).x := by
    have e : V1 m ρ c main_arg0 = m ((c : Thread nD τ).loc main_arg0) := W1_args m ρ c main_arg0 (by decide)
    rw [e]; exact hx c
  have hmp1 : Rd (n := 8) (m := 1024) (V1 m ρ c main_arg1) (L c).mp := by
    have e : V1 m ρ c main_arg1 = m ((c : Thread nD τ).loc main_arg1) := W1_args m ρ c main_arg1 (by decide)
    rw [e]; exact hmp c
  have hw1 : W3 (V1 m ρ c main_arg2) (L c) := by
    have e : V1 m ρ c main_arg2 = m ((c : Thread nD τ).loc main_arg2) := W1_args m ρ c main_arg2 (by decide)
    rw [e]; exact hw c
  have hdy1 : Rd (n := 4096) (m := 1024) (V1 m ρ c main_arg3) (L c).dy := by
    have e : V1 m ρ c main_arg3 = m ((c : Thread nD τ).loc main_arg3) := W1_args m ρ c main_arg3 (by decide)
    rw [e]; exact hdy c
  have hf1 : Rd (n := 4096) (m := 1024) (V1 m ρ c main_v0_1) (L c).f := by
    have e : V1 m ρ c main_v0_1 = (dat0 (V0 m ρ) c).arrAt 6 cfg0.N := (hF0 m ρ c 6).symm
    rw [e]; exact arr0_6 hx0 hmp0 hw0
  have hab1 : Rd (n := 4096) (m := 5632) (V1 m ρ c main_v0_2) (L c).ab := by
    have e : V1 m ρ c main_v0_2 = (dat0 (V0 m ρ) c).arrAt 7 cfg0.N := (hF0 m ρ c 7).symm
    rw [e]; exact arr0_7 hx0 hmp0 hw0
  have e0 : r.2.mem ((c.tc : Thread nD τ).loc main_v0_0) = (dat0 (V0 m ρ) c).arrAt 5 cfg0.N :=
    (h c _ (mem_uc main_v0_0 (by decide))).trans ((W2_of_ne m ρ c main_v0_0 (by decide)).trans (hF0 m ρ c 5).symm)
  have e8 : r.2.mem ((c.tc : Thread nD τ).loc main_v1_0) = (dat1 (V1 m ρ) c).arrAt 8 cfg1.N :=
    (h c _ (mem_uc main_v1_0 (by decide))).trans (hF1 m ρ c 8).symm
  have e9 : r.2.mem ((c.tc : Thread nD τ).loc main_v1_1) = (dat1 (V1 m ρ) c).arrAt 9 cfg1.N :=
    (h c _ (mem_uc main_v1_1 (by decide))).trans (hF1 m ρ c 9).symm
  have e10 : r.2.mem ((c.tc : Thread nD τ).loc main_v1_2) = (dat1 (V1 m ρ) c).arrAt 10 cfg1.N :=
    (h c _ (mem_uc main_v1_2 (by decide))).trans (hF1 m ρ c 10).symm
  have e11 : r.2.mem ((c.tc : Thread nD τ).loc main_v1_3) = (dat1 (V1 m ρ) c).arrAt 11 cfg1.N :=
    (h c _ (mem_uc main_v1_3 (by decide))).trans (hF1 m ρ c 11).symm
  have e12 : r.2.mem ((c.tc : Thread nD τ).loc main_v1_4) = (dat1 (V1 m ρ) c).arrAt 12 cfg1.N :=
    (h c _ (mem_uc main_v1_4 (by decide))).trans (hF1 m ρ c 12).symm
  have e13 : r.2.mem ((c.tc : Thread nD τ).loc main_v1_5) = (dat1 (V1 m ρ) c).arrAt 13 cfg1.N :=
    (h c _ (mem_uc main_v1_5 (by decide))).trans (hF1 m ρ c 13).symm
  refine ⟨?_, ?_, ?_, ?_, ?_, ?_, ?_, fun a ha => ?_⟩
  · rw [e0]; exact arr0_5 hx0 hmp0 hw0
  · rw [e8]; exact arr1_8 hx1 hf1 hab1 hdy1 hmp1 hw1
  · rw [e9]; exact arr1_9 hx1 hf1 hab1 hdy1 hmp1 hw1
  · rw [e10]; exact arr1_10 hx1 hf1 hab1 hdy1 hmp1 hw1
  · rw [e11]; exact arr1_11 hx1 hf1 hab1 hdy1 hmp1 hw1
  · rw [e12]; exact arr1_12 hx1 hf1 hab1 hdy1 hmp1 hw1
  · rw [e13]; exact arr1_13 hx1 hf1 hab1 hdy1 hmp1 hw1
  · exact (h c _ (mem_uc a (by revert a; decide))).trans (W2_args m ρ c a ha)

end Cert.Sb.Ffn

end
-- ==== Proof.FfnRef.lean ====
/- What the plain feed-forward program computes, as real numbers: the layer's result and every gradient it returns. -/
module

public import proofs.«01_k».proof.Proof.FfnArr
public import proofs.«01_k».proof.Proof.Gen.FfnReferenceIdeal.Read

@[expose] public section

set_option maxRecDepth 16384

noncomputable section

namespace Cert.Sb.FfnRef

open Idealize.ShloMosaic hiding ix0 ix1 ix2 ix3 ix4 eq_ix1 eq_ix2 eq_ix3 eq_ix4
open Idealize.ShloMosaic.ValueIdx Finset
open Cert.FfnReferenceIdeal Cert.FfnReferenceIdeal.Gen Cert.FfnReferenceIdeal.Read

section
variable {φ : FTy} {a b : EReal} {p q : ℝ}

theorem mulc (ha : a = (p : EReal)) (hb : b = (q : EReal)) : (FloatOps.mulf (F := Ideal) (φ := φ) a b : EReal) = ((p * q : ℝ) : EReal) := by
  rw [ha, hb]; exact (EReal.coe_mul _ _).symm

theorem addc (ha : a = (p : EReal)) (hb : b = (q : EReal)) : (FloatOps.addf (F := Ideal) (φ := φ) a b : EReal) = ((p + q : ℝ) : EReal) := by
  rw [ha, hb]; exact (EReal.coe_add _ _).symm

theorem subc (ha : a = (p : EReal)) (hb : b = (q : EReal)) : (FloatOps.subf (F := Ideal) (φ := φ) a b : EReal) = ((p - q : ℝ) : EReal) := by
  rw [ha, hb]; exact (EReal.coe_sub _ _).symm

theorem divc (ha : a = (p : EReal)) (hb : b = (q : EReal)) (hq : q ≠ 0) :
    (FloatOps.hostDivf (F := Ideal) (φ := φ) a b : EReal) = ((p / q : ℝ) : EReal) := by
  rw [ha, hb]
  show Ideal.div _ _ = _
  rw [Ideal.div_coe hq, ← EReal.coe_mul, mul_one_div]

/-- A sum begun at zero. -/
theorem sumc {n : ℕ} {z : EReal} {g : Fin n → EReal} {f : ℕ → ℝ} (hz : z = ((0 : ℝ) : EReal)) (h : ∀ k : Fin n, g k = ((f k.val : ℝ) : EReal)) :
    z + ∑ k : Fin n, g k = ((∑ k ∈ range n, f k : ℝ) : EReal) := by
  rw [hz, EReal.coe_zero, zero_add, ← coe_sum]
  exact Finset.sum_congr rfl fun k _ => h k

/-- A sum of products. -/
theorem dotc {n : ℕ} {g h : Fin n → EReal} {f e : ℕ → ℝ} (hg : ∀ k : Fin n, g k = ((f k.val : ℝ) : EReal)) (hh : ∀ k : Fin n, h k = ((e k.val : ℝ) : EReal)) :
    ∑ k : Fin n, g k * h k = ((∑ k ∈ range n, f k * e k : ℝ) : EReal) := by
  rw [← coe_sum]
  exact Finset.sum_congr rfl fun k _ => by rw [hg, hh, ← EReal.coe_mul]

end

/-- Four rows, one under another. -/
theorem rows4 {α : Type} {m : ℕ} (y0 y1 y2 y3 : (⟨2, ![1, m]⟩ : Shape).Idx → α) (h) (j : Fin 4) (b : Fin m) :
    concatenate (⟨2, ![4, m]⟩ : Shape) 0 [⟨⟨2, ![1, m]⟩, y0⟩, ⟨⟨2, ![1, m]⟩, y1⟩, ⟨⟨2, ![1, m]⟩, y2⟩, ⟨⟨2, ![1, m]⟩, y3⟩] h (ix2 j b)
      = (if j.val = 0 then y0 else if j.val = 1 then y1 else if j.val = 2 then y2 else y3) (ix2 (0 : Fin 1) b) := by
  have hi : ∀ d : Fin 2, d ≠ 0 → ((ix2 (0 : Fin 1) b : (⟨2, ![1, m]⟩ : Shape).Idx) d).val = ((ix2 j b : (⟨2, ![4, m]⟩ : Shape).Idx) d).val := fun d hd => by
    match d with
    | ⟨0, _⟩ => exact absurd rfl hd
    | ⟨1, _⟩ => rfl
  match j with
  | ⟨0, _⟩ => exact concatenate_apply_piece (t := ⟨2, ![4, m]⟩) 0 _ h _ 0 (by simp) ⟨2, ![1, m]⟩ y0 rfl rfl 0 rfl (ix2 (0 : Fin 1) b) hi rfl
  | ⟨1, _⟩ => exact concatenate_apply_piece (t := ⟨2, ![4, m]⟩) 0 _ h _ 1 (by simp) ⟨2, ![1, m]⟩ y1 rfl rfl 1 rfl (ix2 (0 : Fin 1) b) hi rfl
  | ⟨2, _⟩ => exact concatenate_apply_piece (t := ⟨2, ![4, m]⟩) 0 _ h _ 2 (by simp) ⟨2, ![1, m]⟩ y2 rfl rfl 2 rfl (ix2 (0 : Fin 1) b) hi rfl
  | ⟨3, _⟩ => exact concatenate_apply_piece (t := ⟨2, ![4, m]⟩) 0 _ h _ 3 (by simp) ⟨2, ![1, m]⟩ y3 rfl rfl 3 rfl (ix2 (0 : Fin 1) b) hi rfl

/-- Four rows over four rows. -/
theorem rows8 {α : Type} {m : ℕ} (y0 y1 : (⟨2, ![4, m]⟩ : Shape).Idx → α) (h) (j : Fin 8) (b : Fin m) :
    concatenate (⟨2, ![8, m]⟩ : Shape) 0 [⟨⟨2, ![4, m]⟩, y0⟩, ⟨⟨2, ![4, m]⟩, y1⟩] h (ix2 j b)
      = if p : j.val < 4 then y0 (ix2 ⟨j.val, p⟩ b) else y1 (ix2 ⟨j.val - 4, by omega⟩ b) := by
  have hi : ∀ k : Fin 4, ∀ d : Fin 2, d ≠ 0 → ((ix2 k b : (⟨2, ![4, m]⟩ : Shape).Idx) d).val = ((ix2 j b : (⟨2, ![8, m]⟩ : Shape).Idx) d).val := fun k d hd => by
    match d with
    | ⟨0, _⟩ => exact absurd rfl hd
    | ⟨1, _⟩ => rfl
  have hj := j.isLt
  split
  · exact concatenate_apply_piece (t := ⟨2, ![8, m]⟩) 0 _ h _ 0 (by simp) ⟨2, ![4, m]⟩ y0 rfl rfl 0 rfl (ix2 ⟨j.val, _⟩ b) (hi _) (Nat.zero_add _)
  · exact concatenate_apply_piece (t := ⟨2, ![8, m]⟩) 0 _ h _ 1 (by simp) ⟨2, ![4, m]⟩ y1 rfl rfl 4 rfl (ix2 ⟨j.val - 4, _⟩ b) (hi _)
      (by show 4 + (j.val - 4) = j.val; omega)

theorem lit_neg_half : Ideal.ofBits .f32 0xBF000000#32 = ((-(1 / 2) : ℝ) : EReal) := by
  simp [Ideal.ofBits, Ideal.ieee, -EReal.coe_mul]
  norm_num

/-- The gradient through the norm, as the plain program arranges it. -/
theorem norm_grad (L : Layer) (t j : ℕ) : L.dx t j = L.dy t j + (L.dn t j * L.r t
      + L.x t j * ((∑ j ∈ range 1024, L.x t j * L.dn t j) * (-(1 / 2) * (L.r t / L.ms t)) / 1024)
      + (∑ j ∈ range 1024, L.x t j * L.dn t j) * (-(1 / 2) * (L.r t / L.ms t)) / 1024 * L.x t j) := by
  have hs : ∑ j ∈ range 1024, L.dn t j * L.n t j = (∑ j ∈ range 1024, L.x t j * L.dn t j) * L.r t := by
    rw [Finset.sum_mul]
    exact Finset.sum_congr rfl fun j _ => by unfold Layer.n; ring
  have hr : L.r t / L.ms t = L.r t * (L.r t * L.r t) := by
    have h := L.ms_pos t
    have e : L.r t * L.r t = (L.ms t)⁻¹ := by
      unfold Layer.r
      rw [← mul_inv, Real.mul_self_sqrt h.le]
    rw [e, div_eq_mul_inv]
  unfold Layer.dx
  rw [hs, hr]
  unfold Layer.n
  ring

variable {x0 : S4096x1024.Idx → EReal} {x1 : S8x1024.Idx → EReal} {x2 : S8x3x352x1024.Idx → EReal} {x3 : S4096x1024.Idx → EReal} {L : Layer}
  (hx : ∀ i, x0 i = ((L.x (i 0).val (i 1).val : ℝ) : EReal)) (hmp : ∀ i, x1 i = ((L.mp (i 0).val (i 1).val : ℝ) : EReal))
  (hw : Ffn.W3 x2 L) (hdy : ∀ i, x3 i = ((L.dy (i 0).val (i 1).val : ℝ) : EReal))

include hmp in
theorem v1 (i : S1024.Idx) : val_main_v1 (F := Ideal) x1 i = ((L.mp 3 (i 0).val : ℝ) : EReal) := by
  rw [val_main_v1_apply, val_main_v0_apply]
  refine (hmp _).trans (congrArg _ ?_)
  have h := (i 0).isLt
  show L.mp (3 + _) _ = _
  congr 1
  exact Nat.mod_eq_of_lt h

include hmp in
theorem v3 (i : S1024.Idx) : val_main_v3 (F := Ideal) x1 i = ((L.mp 4 (i 0).val : ℝ) : EReal) := by
  rw [val_main_v3_apply, val_main_v2_apply]
  refine (hmp _).trans (congrArg _ ?_)
  have h := (i 0).isLt
  show L.mp (4 + _) _ = _
  congr 1
  exact Nat.mod_eq_of_lt h

include hmp in
theorem v5 (i : S1024.Idx) : val_main_v5 (F := Ideal) x1 i = ((L.mp 5 (i 0).val : ℝ) : EReal) := by
  rw [val_main_v5_apply, val_main_v4_apply]
  refine (hmp _).trans (congrArg _ ?_)
  have h := (i 0).isLt
  show L.mp (5 + _) _ = _
  congr 1
  exact Nat.mod_eq_of_lt h

include hmp in
theorem v7 (i : S1024.Idx) : val_main_v7 (F := Ideal) x1 i = ((L.mp 7 (i 0).val : ℝ) : EReal) := by
  rw [val_main_v7_apply, val_main_v6_apply]
  refine (hmp _).trans (congrArg _ ?_)
  have h := (i 0).isLt
  show L.mp (7 + _) _ = _
  congr 1
  exact Nat.mod_eq_of_lt h

include hw in
theorem v11 (i : S2816x1024.Idx) : val_main_v11 (F := Ideal) x2 i = ((L.wg (i 0).val (i 1).val : ℝ) : EReal) := by
  rw [val_main_v11_apply, val_main_v10_apply]
  show val_main_v9 (F := Ideal) x2 _ = _
  rw [val_main_v9_apply, val_main_v8_apply]
  have h0 : (i 0).val < 2816 := (i 0).isLt
  have h1 : (i 1).val < 1024 := (i 1).isLt
  have := (hw ⟨(i 0).val / 352, by omega⟩ ⟨(i 0).val % 352, by omega⟩ ⟨(i 1).val, h1⟩).1
  dsimp only at this
  rw [show (i 0).val / 352 * 352 + (i 0).val % 352 = (i 0).val by omega] at this
  rw [← this]
  congr 1
  funext a
  apply Fin.ext
  match a with
  | ⟨0, _⟩ => show (((((i 0).val * 1024 + (i 1).val) / 360448) * 352 + ((i 0).val * 1024 + (i 1).val) / 1024 % 352) * 1024 + ((i 0).val * 1024 + (i 1).val) % 1024) / 360448 = (i 0).val / 352; omega
  | ⟨1, _⟩ => rfl
  | ⟨2, _⟩ => show (((((i 0).val * 1024 + (i 1).val) / 360448) * 352 + ((i 0).val * 1024 + (i 1).val) / 1024 % 352) * 1024 + ((i 0).val * 1024 + (i 1).val) % 1024) / 1024 % 352 = (i 0).val % 352; omega
  | ⟨3, _⟩ => show (((((i 0).val * 1024 + (i 1).val) / 360448) * 352 + ((i 0).val * 1024 + (i 1).val) / 1024 % 352) * 1024 + ((i 0).val * 1024 + (i 1).val) % 1024) % 1024 = (i 1).val; omega

include hw in
theorem v16 (i : S2816x1024.Idx) : val_main_v16 (F := Ideal) x2 i = ((L.wu (i 0).val (i 1).val : ℝ) : EReal) := by
  rw [val_main_v16_apply, val_main_v15_apply]
  show val_main_v14 (F := Ideal) x2 _ = _
  rw [val_main_v14_apply, val_main_v13_apply]
  have h0 : (i 0).val < 2816 := (i 0).isLt
  have h1 : (i 1).val < 1024 := (i 1).isLt
  have := (hw ⟨(i 0).val / 352, by omega⟩ ⟨(i 0).val % 352, by omega⟩ ⟨(i 1).val, h1⟩).2.1
  dsimp only at this
  rw [show (i 0).val / 352 * 352 + (i 0).val % 352 = (i 0).val by omega] at this
  rw [← this]
  congr 1
  funext a
  apply Fin.ext
  match a with
  | ⟨0, _⟩ => show (((((i 0).val * 1024 + (i 1).val) / 360448) * 352 + ((i 0).val * 1024 + (i 1).val) / 1024 % 352) * 1024 + ((i 0).val * 1024 + (i 1).val) % 1024) / 360448 = (i 0).val / 352; omega
  | ⟨1, _⟩ => rfl
  | ⟨2, _⟩ => show (((((i 0).val * 1024 + (i 1).val) / 360448) * 352 + ((i 0).val * 1024 + (i 1).val) / 1024 % 352) * 1024 + ((i 0).val * 1024 + (i 1).val) % 1024) / 1024 % 352 = (i 0).val % 352; omega
  | ⟨3, _⟩ => show (((((i 0).val * 1024 + (i 1).val) / 360448) * 352 + ((i 0).val * 1024 + (i 1).val) / 1024 % 352) * 1024 + ((i 0).val * 1024 + (i 1).val) % 1024) % 1024 = (i 1).val; omega

include hw in
theorem v21 (i : S2816x1024.Idx) : val_main_v21 (F := Ideal) x2 i = ((L.wd (i 0).val (i 1).val : ℝ) : EReal) := by
  rw [val_main_v21_apply, val_main_v20_apply]
  show val_main_v19 (F := Ideal) x2 _ = _
  rw [val_main_v19_apply, val_main_v18_apply]
  have h0 : (i 0).val < 2816 := (i 0).isLt
  have h1 : (i 1).val < 1024 := (i 1).isLt
  have := (hw ⟨(i 0).val / 352, by omega⟩ ⟨(i 0).val % 352, by omega⟩ ⟨(i 1).val, h1⟩).2.2
  dsimp only at this
  rw [show (i 0).val / 352 * 352 + (i 0).val % 352 = (i 0).val by omega] at this
  rw [← this]
  congr 1
  funext a
  apply Fin.ext
  match a with
  | ⟨0, _⟩ => show (((((i 0).val * 1024 + (i 1).val) / 360448) * 352 + ((i 0).val * 1024 + (i 1).val) / 1024 % 352) * 1024 + ((i 0).val * 1024 + (i 1).val) % 1024) / 360448 = (i 0).val / 352; omega
  | ⟨1, _⟩ => rfl
  | ⟨2, _⟩ => show (((((i 0).val * 1024 + (i 1).val) / 360448) * 352 + ((i 0).val * 1024 + (i 1).val) / 1024 % 352) * 1024 + ((i 0).val * 1024 + (i 1).val) % 1024) / 1024 % 352 = (i 0).val % 352; omega
  | ⟨3, _⟩ => show (((((i 0).val * 1024 + (i 1).val) / 360448) * 352 + ((i 0).val * 1024 + (i 1).val) / 1024 % 352) * 1024 + ((i 0).val * 1024 + (i 1).val) % 1024) % 1024 = (i 1).val; omega

include hw in
theorem v12 (i : S1024x2816.Idx) : val_main_v12 (F := Ideal) x2 i = ((L.wg (i 1).val (i 0).val : ℝ) : EReal) := by
  rw [val_main_v12_apply]
  exact (v11 hw (idx_main_v12 i))

include hw in
theorem v17 (i : S1024x2816.Idx) : val_main_v17 (F := Ideal) x2 i = ((L.wu (i 1).val (i 0).val : ℝ) : EReal) := by
  rw [val_main_v17_apply]
  exact (v16 hw (idx_main_v17 i))

include hx in
theorem v22 (i : S4096x1024.Idx) : val_main_v22 (F := Ideal) x0 i = ((L.x (i 0).val (i 1).val * L.x (i 0).val (i 1).val : ℝ) : EReal) := by
  rw [val_main_v22_apply]
  exact mulc (hx i) (hx i)

include hx in
theorem v23 (i : S4096.Idx) : val_main_v23 (F := Ideal) x0 i = ((∑ j ∈ range 1024, L.x (i 0).val j * L.x (i 0).val j : ℝ) : EReal) := by
  rw [val_main_v23_apply]
  exact sumc (n := 1024) (f := fun j => L.x (i 0).val j * L.x (i 0).val j) lit_zero fun k => v22 hx (idx_main_v23 i k)

include hx in
theorem v24 (i : S4096x1.Idx) : val_main_v24 (F := Ideal) x0 i = ((∑ j ∈ range 1024, L.x (i 0).val j * L.x (i 0).val j : ℝ) : EReal) := by
  rw [val_main_v24_apply]
  exact (v23 hx (idx_main_v24 i))

theorem v25 (i : S4096x1.Idx) : val_main_v25 (F := Ideal)  i = ((1024 : ℝ) : EReal) := by
  rw [val_main_v25_apply, val_main_cst_0_apply]
  exact lit_1024

include hx in
theorem v26 (i : S4096x1.Idx) : val_main_v26 (F := Ideal) x0 i = (((∑ j ∈ range 1024, L.x (i 0).val j * L.x (i 0).val j) / 1024 : ℝ) : EReal) := by
  rw [val_main_v26_apply]
  exact divc (v24 hx i) (v25 i) (by norm_num)

theorem v27 (i : S4096x1.Idx) : val_main_v27 (F := Ideal)  i = ((eps : ℝ) : EReal) := by
  rw [val_main_v27_apply, val_main_cst_1_apply]
  exact lit_eps

include hx in
theorem v28 (i : S4096x1.Idx) : val_main_v28 (F := Ideal) x0 i = ((L.ms (i 0).val : ℝ) : EReal) := by
  rw [val_main_v28_apply]
  exact addc (v26 hx i) (v27 i)

include hx in
theorem v29 (i : S4096x1.Idx) : val_main_v29 (F := Ideal) x0 i = ((L.r (i 0).val : ℝ) : EReal) := by
  rw [val_main_v29_apply, v28 hx i]
  refine (Ideal.hostUnary_rsqrt_def _).trans ?_
  show Ideal.rsqrt ((L.ms (i 0).val : ℝ) : EReal) = _
  rw [Ideal.rsqrt_coe, if_neg (not_lt.mpr (L.ms_pos _).le), if_neg (L.ms_pos _).ne']
  rfl

include hx in
theorem v30 (i : S4096x1.Idx) : val_main_v30 (F := Ideal) x0 i = ((L.r (i 0).val / L.ms (i 0).val : ℝ) : EReal) := by
  rw [val_main_v30_apply]
  exact divc (v29 hx i) (v28 hx i) (L.ms_pos _).ne'

theorem v31 (i : S4096x1.Idx) : val_main_v31 (F := Ideal)  i = ((-(1 / 2) : ℝ) : EReal) := by
  rw [val_main_v31_apply, val_main_cst_2_apply]
  exact lit_neg_half

include hx in
theorem v32 (i : S4096x1.Idx) : val_main_v32 (F := Ideal) x0 i = ((-(1 / 2) * (L.r (i 0).val / L.ms (i 0).val) : ℝ) : EReal) := by
  rw [val_main_v32_apply]
  exact mulc (v31 i) (v30 hx i)

include hx in
theorem v33 (i : S4096x1024.Idx) : val_main_v33 (F := Ideal) x0 i = ((L.r (i 0).val : ℝ) : EReal) := by
  rw [val_main_v33_apply]
  exact (v29 hx (idx_main_v33 i))

include hx in
theorem v34 (i : S4096x1024.Idx) : val_main_v34 (F := Ideal) x0 i = ((L.n (i 0).val (i 1).val : ℝ) : EReal) := by
  rw [val_main_v34_apply]
  exact mulc (hx i) (v33 hx i)

include hmp in
theorem v35 (i : S1x1024.Idx) : val_main_v35 (F := Ideal) x1 i = ((L.mp 7 (i 1).val : ℝ) : EReal) := by
  rw [val_main_v35_apply]
  exact (v7 hmp (idx_main_v35 i))

include hmp in
theorem v36 (i : S4096x1024.Idx) : val_main_v36 (F := Ideal) x1 i = ((L.mp 7 (i 1).val : ℝ) : EReal) := by
  rw [val_main_v36_apply]
  exact (v35 hmp (idx_main_v36 i))

include hx hmp in
theorem v37 (i : S4096x1024.Idx) : val_main_v37 (F := Ideal) x0 x1 i = ((L.n (i 0).val (i 1).val * L.mp 7 (i 1).val : ℝ) : EReal) := by
  rw [val_main_v37_apply]
  exact mulc (v34 hx i) (v36 hmp i)

theorem v38 (i : S1024.Idx) : val_main_v38 (F := Ideal)  i = ((1 : ℝ) : EReal) := by
  rw [val_main_v38_apply, val_main_cst_3_apply]
  exact lit_one

include hmp in
theorem v39 (i : S1024.Idx) : val_main_v39 (F := Ideal) x1 i = ((1 + L.mp 4 (i 0).val : ℝ) : EReal) := by
  rw [val_main_v39_apply]
  exact addc (v38 i) (v3 hmp i)

include hmp in
theorem v40 (i : S1x1024.Idx) : val_main_v40 (F := Ideal) x1 i = ((1 + L.mp 4 (i 1).val : ℝ) : EReal) := by
  rw [val_main_v40_apply]
  exact (v39 hmp (idx_main_v40 i))

include hmp in
theorem v41 (i : S4096x1024.Idx) : val_main_v41 (F := Ideal) x1 i = ((1 + L.mp 4 (i 1).val : ℝ) : EReal) := by
  rw [val_main_v41_apply]
  exact (v40 hmp (idx_main_v41 i))

include hx hmp in
theorem v42 (i : S4096x1024.Idx) : val_main_v42 (F := Ideal) x0 x1 i = ((L.n (i 0).val (i 1).val * L.mp 7 (i 1).val * (1 + L.mp 4 (i 1).val) : ℝ) : EReal) := by
  rw [val_main_v42_apply]
  exact mulc (v37 hx hmp i) (v41 hmp i)

include hmp in
theorem v43 (i : S1x1024.Idx) : val_main_v43 (F := Ideal) x1 i = ((L.mp 3 (i 1).val : ℝ) : EReal) := by
  rw [val_main_v43_apply]
  exact (v1 hmp (idx_main_v43 i))

include hmp in
theorem v44 (i : S4096x1024.Idx) : val_main_v44 (F := Ideal) x1 i = ((L.mp 3 (i 1).val : ℝ) : EReal) := by
  rw [val_main_v44_apply]
  exact (v43 hmp (idx_main_v44 i))

include hx hmp in
theorem v45 (i : S4096x1024.Idx) : val_main_v45 (F := Ideal) x0 x1 i = ((L.h (i 0).val (i 1).val : ℝ) : EReal) := by
  rw [val_main_v45_apply]
  exact addc (v42 hx hmp i) (v44 hmp i)

include hx hmp hw in
theorem v46 (i : S4096x2816.Idx) : val_main_v46 (F := Ideal) x0 x1 x2 i = ((L.a (i 0).val (i 1).val : ℝ) : EReal) := by
  rw [val_main_v46_apply]
  exact dotc (n := 1024) (f := fun k => L.h (i 0).val k) (e := fun k => L.wg (i 1).val k) (fun k => v45 hx hmp (lidx_main_v46 i k)) fun k => v12 hw (ridx_main_v46 i k)

include hx hmp hw in
theorem v47 (i : S4096x2816.Idx) : val_main_v47 (F := Ideal) x0 x1 x2 i = ((L.b (i 0).val (i 1).val : ℝ) : EReal) := by
  rw [val_main_v47_apply]
  exact dotc (n := 1024) (f := fun k => L.h (i 0).val k) (e := fun k => L.wu (i 1).val k) (fun k => v45 hx hmp (lidx_main_v47 i k)) fun k => v17 hw (ridx_main_v47 i k)

include hx hmp hw in
theorem vcall0_v1 (i : S4096x2816.Idx) : val_main_call0_v1 (F := Ideal) x0 x1 x2 i = ((Real.exp (-L.a (i 0).val (i 1).val) : ℝ) : EReal) := by
  rw [val_main_call0_v1_apply, val_main_call0_v0_apply, v46 hx hmp hw i]
  refine (Ideal.hostUnary_exp_def _).trans ?_
  show Ideal.exp (-((L.a (i 0).val (i 1).val : ℝ) : EReal)) = _
  rw [← EReal.coe_neg, Ideal.exp_coe]

theorem vcall0_v2 (i : S4096x2816.Idx) : val_main_call0_v2 (F := Ideal)  i = ((1 : ℝ) : EReal) := by
  rw [val_main_call0_v2_apply, val_main_call0_cst_apply]
  exact lit_one

include hx hmp hw in
theorem vcall0_v3 (i : S4096x2816.Idx) : val_main_call0_v3 (F := Ideal) x0 x1 x2 i = ((1 + Real.exp (-L.a (i 0).val (i 1).val) : ℝ) : EReal) := by
  rw [val_main_call0_v3_apply]
  exact addc (vcall0_v2 i) (vcall0_v1 hx hmp hw i)

theorem vcall0_v4 (i : S4096x2816.Idx) : val_main_call0_v4 (F := Ideal)  i = ((1 : ℝ) : EReal) := by
  rw [val_main_call0_v4_apply, val_main_call0_cst_0_apply]
  exact lit_one

include hx hmp hw in
theorem v48_2 (i : S4096x2816.Idx) : val_main_v48_2 (F := Ideal) x0 x1 x2 i = ((sgm (L.a (i 0).val (i 1).val) : ℝ) : EReal) := by
  rw [val_main_v48_2_apply]
  refine (divc (vcall0_v4 i) (vcall0_v3 hx hmp hw i) (by positivity)).trans (congrArg _ ?_)
  unfold sgm; rw [one_div]

theorem vcall0_v6 (i : S4096x2816.Idx) : val_main_call0_v6 (F := Ideal)  i = ((1 : ℝ) : EReal) := by
  rw [val_main_call0_v6_apply, val_main_call0_cst_1_apply]
  exact lit_one

include hx hmp hw in
theorem vcall0_v7 (i : S4096x2816.Idx) : val_main_call0_v7 (F := Ideal) x0 x1 x2 i = ((1 - sgm (L.a (i 0).val (i 1).val) : ℝ) : EReal) := by
  rw [val_main_call0_v7_apply]
  exact subc (vcall0_v6 i) (v48_2 hx hmp hw i)

include hx hmp hw in
theorem v48_1 (i : S4096x2816.Idx) : val_main_v48_1 (F := Ideal) x0 x1 x2 i = ((sgm (L.a (i 0).val (i 1).val) * (1 - sgm (L.a (i 0).val (i 1).val)) : ℝ) : EReal) := by
  rw [val_main_v48_1_apply]
  exact mulc (v48_2 hx hmp hw i) (vcall0_v7 hx hmp hw i)

include hx hmp hw in
theorem v48_0 (i : S4096x2816.Idx) : val_main_v48_0 (F := Ideal) x0 x1 x2 i = ((L.a (i 0).val (i 1).val * sgm (L.a (i 0).val (i 1).val) : ℝ) : EReal) := by
  rw [val_main_v48_0_apply]
  exact mulc (v46 hx hmp hw i) (v48_2 hx hmp hw i)

include hx hmp hw in
theorem v49 (i : S4096x2816.Idx) : val_main_v49 (F := Ideal) x0 x1 x2 i = ((L.s (i 0).val (i 1).val : ℝ) : EReal) := by
  rw [val_main_v49_apply]
  exact mulc (v48_0 hx hmp hw i) (v47 hx hmp hw i)

include hx hmp hw in
theorem v50 (i : S4096x1024.Idx) : val_main_v50 (F := Ideal) x0 x1 x2 i = ((L.f (i 0).val (i 1).val : ℝ) : EReal) := by
  rw [val_main_v50_apply]
  exact dotc (n := 2816) (f := fun k => L.s (i 0).val k) (e := fun k => L.wd k (i 1).val) (fun k => v49 hx hmp hw (lidx_main_v50 i k)) fun k => v21 hw (ridx_main_v50 i k)

include hmp in
theorem v51 (i : S1x1024.Idx) : val_main_v51 (F := Ideal) x1 i = ((L.mp 5 (i 1).val : ℝ) : EReal) := by
  rw [val_main_v51_apply]
  exact (v5 hmp (idx_main_v51 i))

include hmp in
theorem v52 (i : S4096x1024.Idx) : val_main_v52 (F := Ideal) x1 i = ((L.mp 5 (i 1).val : ℝ) : EReal) := by
  rw [val_main_v52_apply]
  exact (v51 hmp (idx_main_v52 i))

include hx hmp hw in
theorem v53 (i : S4096x1024.Idx) : val_main_v53 (F := Ideal) x0 x1 x2 i = ((L.mp 5 (i 1).val * L.f (i 0).val (i 1).val : ℝ) : EReal) := by
  rw [val_main_v53_apply]
  exact mulc (v52 hmp i) (v50 hx hmp hw i)

include hx hmp hw in
theorem v54 (i : S4096x1024.Idx) : val_main_v54 (F := Ideal) x0 x1 x2 i = ((L.y (i 0).val (i 1).val : ℝ) : EReal) := by
  rw [val_main_v54_apply]
  exact addc (hx i) (v53 hx hmp hw i)

include hdy in
theorem v55 (i : S4096x1024.Idx) : val_main_v55 (F := Ideal) x3 i = ((L.dy (i 0).val (i 1).val : ℝ) : EReal) := by
  rw [val_main_v55_apply]
  refine (hdy _).trans (congrArg _ ?_)
  have h1 : (i 1).val < 1024 := (i 1).isLt
  show L.dy (((i 0).val * 1024 + (i 1).val) / 1024) (((i 0).val * 1024 + (i 1).val) % 1024) = _
  rw [show ((i 0).val * 1024 + (i 1).val) / 1024 = (i 0).val by omega, show ((i 0).val * 1024 + (i 1).val) % 1024 = (i 1).val by omega]

include hmp in
theorem v56 (i : S4096x1024.Idx) : val_main_v56 (F := Ideal) x1 i = ((L.mp 5 (i 1).val : ℝ) : EReal) := by
  rw [val_main_v56_apply]
  exact (v51 hmp (idx_main_v56 i))

include hmp hdy in
theorem v57 (i : S4096x1024.Idx) : val_main_v57 (F := Ideal) x1 x3 i = ((L.df (i 0).val (i 1).val : ℝ) : EReal) := by
  rw [val_main_v57_apply]
  exact mulc (v56 hmp i) (v55 hdy i)

include hx hmp hw hdy in
theorem v58 (i : S4096x1024.Idx) : val_main_v58 (F := Ideal) x0 x1 x2 x3 i = ((L.q 2 (i 0).val (i 1).val : ℝ) : EReal) := by
  rw [val_main_v58_apply]
  exact mulc (v55 hdy i) (v50 hx hmp hw i)

include hx hmp hw hdy in
theorem v59 (i : S1024.Idx) : val_main_v59 (F := Ideal) x0 x1 x2 x3 i = ((∑ t ∈ range 4096, L.q 2 t (i 0).val : ℝ) : EReal) := by
  rw [val_main_v59_apply]
  exact sumc (n := 4096) (f := fun t => L.q 2 t (i 0).val) lit_zero fun k => v58 hx hmp hw hdy (idx_main_v59 i k)

include hx hmp hw hdy in
theorem v60 (i : S1x1024.Idx) : val_main_v60 (F := Ideal) x0 x1 x2 x3 i = ((∑ t ∈ range 4096, L.q 2 t (i 1).val : ℝ) : EReal) := by
  rw [val_main_v60_apply]
  refine v59 hx hmp hw hdy (idx_main_v60 i) |>.trans (congrArg _ (Finset.sum_congr rfl fun t _ => ?_))
  have h0 : (i 0).val < 1 := (i 0).isLt
  show _ = L.q 2 t (i 1).val
  rw [show (i 1).val = (i 0).val * 1024 + (i 1).val by omega]

include hx hmp hw hdy in
theorem v61 (i : S1024.Idx) : val_main_v61 (F := Ideal) x0 x1 x2 x3 i = ((∑ t ∈ range 4096, L.q 2 t (i 0).val : ℝ) : EReal) := by
  rw [val_main_v61_apply]
  refine (sumc (n := 1) (f := fun _ => ∑ t ∈ range 4096, L.q 2 t (i 0).val) lit_zero fun k => v60 hx hmp hw hdy (idx_main_v61 i k)).trans (congrArg _ ?_)
  rw [Finset.sum_range_one]

include hw in
theorem v62 (i : S1024x2816.Idx) : val_main_v62 (F := Ideal) x2 i = ((L.wd (i 1).val (i 0).val : ℝ) : EReal) := by
  rw [val_main_v62_apply]
  exact (v21 hw (idx_main_v62 i))

include hmp hw hdy in
theorem v63 (i : S4096x2816.Idx) : val_main_v63 (F := Ideal) x1 x2 x3 i = ((L.ds (i 0).val (i 1).val : ℝ) : EReal) := by
  rw [val_main_v63_apply]
  exact dotc (n := 1024) (f := fun k => L.df (i 0).val k) (e := fun k => L.wd (i 1).val k) (fun k => v57 hmp hdy (lidx_main_v63 i k)) fun k => v62 hw (ridx_main_v63 i k)

include hx hmp hw hdy in
theorem v64 (i : S4096x2816.Idx) : val_main_v64 (F := Ideal) x0 x1 x2 x3 i = ((L.db (i 0).val (i 1).val : ℝ) : EReal) := by
  rw [val_main_v64_apply]
  refine (mulc (v48_0 hx hmp hw i) (v63 hmp hw hdy i)).trans (congrArg _ ?_)
  unfold Layer.db; ring

include hx hmp hw hdy in
theorem v65 (i : S4096x2816.Idx) : val_main_v65 (F := Ideal) x0 x1 x2 x3 i = ((L.ds (i 0).val (i 1).val * L.b (i 0).val (i 1).val : ℝ) : EReal) := by
  rw [val_main_v65_apply]
  exact mulc (v63 hmp hw hdy i) (v47 hx hmp hw i)

include hx hmp hw hdy in
theorem vcall1_v0 (i : S4096x2816.Idx) : val_main_call1_v0 (F := Ideal) x0 x1 x2 x3 i = ((L.a (i 0).val (i 1).val * (L.ds (i 0).val (i 1).val * L.b (i 0).val (i 1).val) : ℝ) : EReal) := by
  rw [val_main_call1_v0_apply]
  exact mulc (v46 hx hmp hw i) (v65 hx hmp hw hdy i)

include hx hmp hw hdy in
theorem vcall1_v1 (i : S4096x2816.Idx) : val_main_call1_v1 (F := Ideal) x0 x1 x2 x3 i = ((L.ds (i 0).val (i 1).val * L.b (i 0).val (i 1).val * sgm (L.a (i 0).val (i 1).val) : ℝ) : EReal) := by
  rw [val_main_call1_v1_apply]
  exact mulc (v65 hx hmp hw hdy i) (v48_2 hx hmp hw i)

include hx hmp hw hdy in
theorem vcall1_v2 (i : S4096x2816.Idx) : val_main_call1_v2 (F := Ideal) x0 x1 x2 x3 i = ((L.a (i 0).val (i 1).val * (L.ds (i 0).val (i 1).val * L.b (i 0).val (i 1).val) * (sgm (L.a (i 0).val (i 1).val) * (1 - sgm (L.a (i 0).val (i 1).val))) : ℝ) : EReal) := by
  rw [val_main_call1_v2_apply]
  exact mulc (vcall1_v0 hx hmp hw hdy i) (v48_1 hx hmp hw i)

include hx hmp hw hdy in
theorem v66 (i : S4096x2816.Idx) : val_main_v66 (F := Ideal) x0 x1 x2 x3 i = ((L.da (i 0).val (i 1).val : ℝ) : EReal) := by
  rw [val_main_v66_apply]
  refine (addc (vcall1_v1 hx hmp hw hdy i) (vcall1_v2 hx hmp hw hdy i)).trans (congrArg _ ?_)
  unfold Layer.da; ring

include hw in
theorem v67 (i : S2816x1024.Idx) : val_main_v67 (F := Ideal) x2 i = ((L.wg (i 0).val (i 1).val : ℝ) : EReal) := by
  rw [val_main_v67_apply]
  exact (v12 hw (idx_main_v67 i))

include hx hmp hw hdy in
theorem v68 (i : S4096x1024.Idx) : val_main_v68 (F := Ideal) x0 x1 x2 x3 i = ((∑ k ∈ range 2816, L.da (i 0).val k * L.wg k (i 1).val : ℝ) : EReal) := by
  rw [val_main_v68_apply]
  exact dotc (n := 2816) (f := fun k => L.da (i 0).val k) (e := fun k => L.wg k (i 1).val) (fun k => v66 hx hmp hw hdy (lidx_main_v68 i k)) fun k => v67 hw (ridx_main_v68 i k)

include hw in
theorem v69 (i : S2816x1024.Idx) : val_main_v69 (F := Ideal) x2 i = ((L.wu (i 0).val (i 1).val : ℝ) : EReal) := by
  rw [val_main_v69_apply]
  exact (v17 hw (idx_main_v69 i))

include hx hmp hw hdy in
theorem v70 (i : S4096x1024.Idx) : val_main_v70 (F := Ideal) x0 x1 x2 x3 i = ((∑ k ∈ range 2816, L.db (i 0).val k * L.wu k (i 1).val : ℝ) : EReal) := by
  rw [val_main_v70_apply]
  exact dotc (n := 2816) (f := fun k => L.db (i 0).val k) (e := fun k => L.wu k (i 1).val) (fun k => v64 hx hmp hw hdy (lidx_main_v70 i k)) fun k => v69 hw (ridx_main_v70 i k)

include hx hmp hw hdy in
theorem v71 (i : S4096x1024.Idx) : val_main_v71 (F := Ideal) x0 x1 x2 x3 i = ((L.dh (i 0).val (i 1).val : ℝ) : EReal) := by
  rw [val_main_v71_apply]
  exact addc (v68 hx hmp hw hdy i) (v70 hx hmp hw hdy i)

include hx hmp hw hdy in
theorem v72 (i : S1024.Idx) : val_main_v72 (F := Ideal) x0 x1 x2 x3 i = ((∑ t ∈ range 4096, L.q 0 t (i 0).val : ℝ) : EReal) := by
  rw [val_main_v72_apply]
  exact sumc (n := 4096) (f := fun t => L.q 0 t (i 0).val) lit_zero fun k => v71 hx hmp hw hdy (idx_main_v72 i k)

include hx hmp hw hdy in
theorem v73 (i : S1x1024.Idx) : val_main_v73 (F := Ideal) x0 x1 x2 x3 i = ((∑ t ∈ range 4096, L.q 0 t (i 1).val : ℝ) : EReal) := by
  rw [val_main_v73_apply]
  refine v72 hx hmp hw hdy (idx_main_v73 i) |>.trans (congrArg _ (Finset.sum_congr rfl fun t _ => ?_))
  have h0 : (i 0).val < 1 := (i 0).isLt
  show _ = L.q 0 t (i 1).val
  rw [show (i 1).val = (i 0).val * 1024 + (i 1).val by omega]

include hx hmp hw hdy in
theorem v74 (i : S1024.Idx) : val_main_v74 (F := Ideal) x0 x1 x2 x3 i = ((∑ t ∈ range 4096, L.q 0 t (i 0).val : ℝ) : EReal) := by
  rw [val_main_v74_apply]
  refine (sumc (n := 1) (f := fun _ => ∑ t ∈ range 4096, L.q 0 t (i 0).val) lit_zero fun k => v73 hx hmp hw hdy (idx_main_v74 i k)).trans (congrArg _ ?_)
  rw [Finset.sum_range_one]

include hx hmp hw hdy in
theorem v75 (i : S4096x1024.Idx) : val_main_v75 (F := Ideal) x0 x1 x2 x3 i = ((L.q 1 (i 0).val (i 1).val : ℝ) : EReal) := by
  rw [val_main_v75_apply]
  refine (mulc (v37 hx hmp i) (v71 hx hmp hw hdy i)).trans (congrArg _ ?_)
  show _ = L.dh (i 0).val (i 1).val * (L.n (i 0).val (i 1).val * L.mp 7 (i 1).val); ring

include hx hmp hw hdy in
theorem v76 (i : S1024.Idx) : val_main_v76 (F := Ideal) x0 x1 x2 x3 i = ((∑ t ∈ range 4096, L.q 1 t (i 0).val : ℝ) : EReal) := by
  rw [val_main_v76_apply]
  exact sumc (n := 4096) (f := fun t => L.q 1 t (i 0).val) lit_zero fun k => v75 hx hmp hw hdy (idx_main_v76 i k)

include hx hmp hw hdy in
theorem v77 (i : S1x1024.Idx) : val_main_v77 (F := Ideal) x0 x1 x2 x3 i = ((∑ t ∈ range 4096, L.q 1 t (i 1).val : ℝ) : EReal) := by
  rw [val_main_v77_apply]
  refine v76 hx hmp hw hdy (idx_main_v77 i) |>.trans (congrArg _ (Finset.sum_congr rfl fun t _ => ?_))
  have h0 : (i 0).val < 1 := (i 0).isLt
  show _ = L.q 1 t (i 1).val
  rw [show (i 1).val = (i 0).val * 1024 + (i 1).val by omega]

include hx hmp hw hdy in
theorem v80 (i : S1024.Idx) : val_main_v80 (F := Ideal) x0 x1 x2 x3 i = ((∑ t ∈ range 4096, L.q 1 t (i 0).val : ℝ) : EReal) := by
  rw [val_main_v80_apply]
  refine (sumc (n := 1) (f := fun _ => ∑ t ∈ range 4096, L.q 1 t (i 0).val) lit_zero fun k => v77 hx hmp hw hdy (idx_main_v80 i k)).trans (congrArg _ ?_)
  rw [Finset.sum_range_one]

include hmp in
theorem v78 (i : S4096x1024.Idx) : val_main_v78 (F := Ideal) x1 i = ((1 + L.mp 4 (i 1).val : ℝ) : EReal) := by
  rw [val_main_v78_apply]
  exact (v40 hmp (idx_main_v78 i))

include hx hmp hw hdy in
theorem v79 (i : S4096x1024.Idx) : val_main_v79 (F := Ideal) x0 x1 x2 x3 i = ((L.dh (i 0).val (i 1).val * (1 + L.mp 4 (i 1).val) : ℝ) : EReal) := by
  rw [val_main_v79_apply]
  exact mulc (v71 hx hmp hw hdy i) (v78 hmp i)

include hx hmp hw hdy in
theorem v81 (i : S4096x1024.Idx) : val_main_v81 (F := Ideal) x0 x1 x2 x3 i = ((L.q 3 (i 0).val (i 1).val : ℝ) : EReal) := by
  rw [val_main_v81_apply]
  refine (mulc (v34 hx i) (v79 hx hmp hw hdy i)).trans (congrArg _ ?_)
  show _ = L.dh (i 0).val (i 1).val * L.n (i 0).val (i 1).val * (1 + L.mp 4 (i 1).val); ring

include hx hmp hw hdy in
theorem v82 (i : S1024.Idx) : val_main_v82 (F := Ideal) x0 x1 x2 x3 i = ((∑ t ∈ range 4096, L.q 3 t (i 0).val : ℝ) : EReal) := by
  rw [val_main_v82_apply]
  exact sumc (n := 4096) (f := fun t => L.q 3 t (i 0).val) lit_zero fun k => v81 hx hmp hw hdy (idx_main_v82 i k)

include hx hmp hw hdy in
theorem v83 (i : S1x1024.Idx) : val_main_v83 (F := Ideal) x0 x1 x2 x3 i = ((∑ t ∈ range 4096, L.q 3 t (i 1).val : ℝ) : EReal) := by
  rw [val_main_v83_apply]
  refine v82 hx hmp hw hdy (idx_main_v83 i) |>.trans (congrArg _ (Finset.sum_congr rfl fun t _ => ?_))
  have h0 : (i 0).val < 1 := (i 0).isLt
  show _ = L.q 3 t (i 1).val
  rw [show (i 1).val = (i 0).val * 1024 + (i 1).val by omega]

include hx hmp hw hdy in
theorem v86 (i : S1024.Idx) : val_main_v86 (F := Ideal) x0 x1 x2 x3 i = ((∑ t ∈ range 4096, L.q 3 t (i 0).val : ℝ) : EReal) := by
  rw [val_main_v86_apply]
  refine (sumc (n := 1) (f := fun _ => ∑ t ∈ range 4096, L.q 3 t (i 0).val) lit_zero fun k => v83 hx hmp hw hdy (idx_main_v86 i k)).trans (congrArg _ ?_)
  rw [Finset.sum_range_one]

include hmp in
theorem v84 (i : S4096x1024.Idx) : val_main_v84 (F := Ideal) x1 i = ((L.mp 7 (i 1).val : ℝ) : EReal) := by
  rw [val_main_v84_apply]
  exact (v35 hmp (idx_main_v84 i))

include hx hmp hw hdy in
theorem v85 (i : S4096x1024.Idx) : val_main_v85 (F := Ideal) x0 x1 x2 x3 i = ((L.dn (i 0).val (i 1).val : ℝ) : EReal) := by
  rw [val_main_v85_apply]
  refine (mulc (v79 hx hmp hw hdy i) (v84 hmp i)).trans (congrArg _ ?_)
  unfold Layer.dn; ring

include hx hmp hw hdy in
theorem v87 (i : S4096x1024.Idx) : val_main_v87 (F := Ideal) x0 x1 x2 x3 i = ((L.x (i 0).val (i 1).val * L.dn (i 0).val (i 1).val : ℝ) : EReal) := by
  rw [val_main_v87_apply]
  exact mulc (hx i) (v85 hx hmp hw hdy i)

include hx hmp hw hdy in
theorem v88 (i : S4096.Idx) : val_main_v88 (F := Ideal) x0 x1 x2 x3 i = ((∑ j ∈ range 1024, L.x (i 0).val j * L.dn (i 0).val j : ℝ) : EReal) := by
  rw [val_main_v88_apply]
  exact sumc (n := 1024) (f := fun j => L.x (i 0).val j * L.dn (i 0).val j) lit_zero fun k => v87 hx hmp hw hdy (idx_main_v88 i k)

include hx hmp hw hdy in
theorem v89 (i : S4096x1.Idx) : val_main_v89 (F := Ideal) x0 x1 x2 x3 i = ((∑ j ∈ range 1024, L.x (i 0).val j * L.dn (i 0).val j : ℝ) : EReal) := by
  rw [val_main_v89_apply]
  refine v88 hx hmp hw hdy (idx_main_v89 i) |>.trans (congrArg _ ?_)
  have h1 : (i 1).val < 1 := (i 1).isLt
  have e : (idx_main_v89 i 0).val = (i 0).val := by show (i 0).val * 1 + (i 1).val = _; omega
  rw [e]

include hx in
theorem v90 (i : S4096x1024.Idx) : val_main_v90 (F := Ideal) x0 i = ((L.r (i 0).val : ℝ) : EReal) := by
  rw [val_main_v90_apply]
  exact (v29 hx (idx_main_v90 i))

include hx hmp hw hdy in
theorem v91 (i : S4096x1024.Idx) : val_main_v91 (F := Ideal) x0 x1 x2 x3 i = ((L.dn (i 0).val (i 1).val * L.r (i 0).val : ℝ) : EReal) := by
  rw [val_main_v91_apply]
  exact mulc (v85 hx hmp hw hdy i) (v90 hx i)

include hx hmp hw hdy in
theorem v92 (i : S4096x1.Idx) : val_main_v92 (F := Ideal) x0 x1 x2 x3 i = (((∑ j ∈ range 1024, L.x (i 0).val j * L.dn (i 0).val j) * (-(1 / 2) * (L.r (i 0).val / L.ms (i 0).val)) : ℝ) : EReal) := by
  rw [val_main_v92_apply]
  exact mulc (v89 hx hmp hw hdy i) (v32 hx i)

theorem v93 (i : S4096x1.Idx) : val_main_v93 (F := Ideal)  i = ((1024 : ℝ) : EReal) := by
  rw [val_main_v93_apply, val_main_cst_13_apply]
  exact lit_1024

include hx hmp hw hdy in
theorem v94 (i : S4096x1.Idx) : val_main_v94 (F := Ideal) x0 x1 x2 x3 i = (((∑ j ∈ range 1024, L.x (i 0).val j * L.dn (i 0).val j) * (-(1 / 2) * (L.r (i 0).val / L.ms (i 0).val)) / 1024 : ℝ) : EReal) := by
  rw [val_main_v94_apply]
  exact divc (v92 hx hmp hw hdy i) (v93 i) (by norm_num)

include hx hmp hw hdy in
theorem v95 (i : S4096.Idx) : val_main_v95 (F := Ideal) x0 x1 x2 x3 i = (((∑ j ∈ range 1024, L.x (i 0).val j * L.dn (i 0).val j) * (-(1 / 2) * (L.r (i 0).val / L.ms (i 0).val)) / 1024 : ℝ) : EReal) := by
  rw [val_main_v95_apply]
  refine (sumc (n := 1) (f := fun _ => (∑ j ∈ range 1024, L.x (i 0).val j * L.dn (i 0).val j) * (-(1 / 2) * (L.r (i 0).val / L.ms (i 0).val)) / 1024) lit_zero fun k => v94 hx hmp hw hdy (idx_main_v95 i k)).trans (congrArg _ ?_)
  rw [Finset.sum_range_one]

include hx hmp hw hdy in
theorem v96 (i : S4096x1024.Idx) : val_main_v96 (F := Ideal) x0 x1 x2 x3 i = (((∑ j ∈ range 1024, L.x (i 0).val j * L.dn (i 0).val j) * (-(1 / 2) * (L.r (i 0).val / L.ms (i 0).val)) / 1024 : ℝ) : EReal) := by
  rw [val_main_v96_apply]
  exact (v95 hx hmp hw hdy (idx_main_v96 i))

include hx hmp hw hdy in
theorem v97 (i : S4096x1024.Idx) : val_main_v97 (F := Ideal) x0 x1 x2 x3 i = ((L.x (i 0).val (i 1).val * ((∑ j ∈ range 1024, L.x (i 0).val j * L.dn (i 0).val j) * (-(1 / 2) * (L.r (i 0).val / L.ms (i 0).val)) / 1024) : ℝ) : EReal) := by
  rw [val_main_v97_apply]
  exact mulc (hx i) (v96 hx hmp hw hdy i)

include hx hmp hw hdy in
theorem v98 (i : S4096x1024.Idx) : val_main_v98 (F := Ideal) x0 x1 x2 x3 i = ((L.dn (i 0).val (i 1).val * L.r (i 0).val + L.x (i 0).val (i 1).val * ((∑ j ∈ range 1024, L.x (i 0).val j * L.dn (i 0).val j) * (-(1 / 2) * (L.r (i 0).val / L.ms (i 0).val)) / 1024) : ℝ) : EReal) := by
  rw [val_main_v98_apply]
  exact addc (v91 hx hmp hw hdy i) (v97 hx hmp hw hdy i)

include hx hmp hw hdy in
theorem v99 (i : S4096x1024.Idx) : val_main_v99 (F := Ideal) x0 x1 x2 x3 i = (((∑ j ∈ range 1024, L.x (i 0).val j * L.dn (i 0).val j) * (-(1 / 2) * (L.r (i 0).val / L.ms (i 0).val)) / 1024 * L.x (i 0).val (i 1).val : ℝ) : EReal) := by
  rw [val_main_v99_apply]
  exact mulc (v96 hx hmp hw hdy i) (hx i)

include hx hmp hw hdy in
theorem v100 (i : S4096x1024.Idx) : val_main_v100 (F := Ideal) x0 x1 x2 x3 i = ((L.dn (i 0).val (i 1).val * L.r (i 0).val + L.x (i 0).val (i 1).val * ((∑ j ∈ range 1024, L.x (i 0).val j * L.dn (i 0).val j) * (-(1 / 2) * (L.r (i 0).val / L.ms (i 0).val)) / 1024) + (∑ j ∈ range 1024, L.x (i 0).val j * L.dn (i 0).val j) * (-(1 / 2) * (L.r (i 0).val / L.ms (i 0).val)) / 1024 * L.x (i 0).val (i 1).val : ℝ) : EReal) := by
  rw [val_main_v100_apply]
  exact addc (v98 hx hmp hw hdy i) (v99 hx hmp hw hdy i)

include hx hmp hw hdy in
theorem v108 (i : S4096x1024.Idx) : val_main_v108 (F := Ideal) x0 x1 x2 x3 i = ((L.dx (i 0).val (i 1).val : ℝ) : EReal) := by
  rw [val_main_v108_apply]
  refine (addc (hdy i) (v100 hx hmp hw hdy i)).trans (congrArg _ ?_)
  exact (norm_grad L (i 0).val (i 1).val).symm

include hx hmp hw hdy in
theorem v101 (i : S1x1024.Idx) : val_main_v101 (F := Ideal) x0 x1 x2 x3 i = ((∑ t ∈ range 4096, L.q 0 t (i 1).val : ℝ) : EReal) := by
  rw [val_main_v101_apply]
  exact (v74 hx hmp hw hdy (idx_main_v101 i))

include hx hmp hw hdy in
theorem v102 (i : S1x1024.Idx) : val_main_v102 (F := Ideal) x0 x1 x2 x3 i = ((∑ t ∈ range 4096, L.q 1 t (i 1).val : ℝ) : EReal) := by
  rw [val_main_v102_apply]
  exact (v80 hx hmp hw hdy (idx_main_v102 i))

include hx hmp hw hdy in
theorem v103 (i : S1x1024.Idx) : val_main_v103 (F := Ideal) x0 x1 x2 x3 i = ((∑ t ∈ range 4096, L.q 2 t (i 1).val : ℝ) : EReal) := by
  rw [val_main_v103_apply]
  exact (v61 hx hmp hw hdy (idx_main_v103 i))

include hx hmp hw hdy in
theorem v104 (i : S1x1024.Idx) : val_main_v104 (F := Ideal) x0 x1 x2 x3 i = ((∑ t ∈ range 4096, L.q 3 t (i 1).val : ℝ) : EReal) := by
  rw [val_main_v104_apply]
  exact (v86 hx hmp hw hdy (idx_main_v104 i))

include hx hmp hw hdy in
/-- The four sums, one under another. -/
theorem v105 (j : Fin 4) (b : Fin 1024) : val_main_v105 (F := Ideal) x0 x1 x2 x3 (ix2 j b) = ((∑ t ∈ range 4096, L.q j.val t b.val : ℝ) : EReal) := by
  unfold val_main_v105
  rw [rows4]
  match j with
  | ⟨0, _⟩ => exact v101 hx hmp hw hdy (ix2 (0 : Fin 1) b)
  | ⟨1, _⟩ => exact v102 hx hmp hw hdy (ix2 (0 : Fin 1) b)
  | ⟨2, _⟩ => exact v103 hx hmp hw hdy (ix2 (0 : Fin 1) b)
  | ⟨3, _⟩ => exact v104 hx hmp hw hdy (ix2 (0 : Fin 1) b)

include hx hmp hw hdy in
/-- The eight rows of sums. -/
theorem v107 : Rd (n := 8) (m := 1024) (val_main_v107 (F := Ideal) x0 x1 x2 x3) (fun i b => ∑ t ∈ range 4096, L.q i t b) := by
  intro a b
  unfold val_main_v107
  rw [rows8]
  split
  · exact v105 hx hmp hw hdy _ _
  · rw [val_main_v106_apply, val_main_cst_15_apply]
    refine lit_zero.trans (congrArg _ (Finset.sum_eq_zero fun t _ => ?_).symm)
    unfold Layer.q
    rw [if_neg (by omega), if_neg (by omega), if_neg (by omega), if_neg (by omega)]

include hx hmp hw in
theorem y_rd : Rd (n := 4096) (m := 1024) (val_main_v54 (F := Ideal) x0 x1 x2) L.y := fun a b => v54 hx hmp hw (ix2 a b)

include hx hmp hw hdy in
theorem dx_rd : Rd (n := 4096) (m := 1024) (val_main_v108 (F := Ideal) x0 x1 x2 x3) L.dx := fun a b => v108 hx hmp hw hdy (ix2 a b)

include hx hmp in
theorem h_rd : Rd (n := 4096) (m := 1024) (val_main_v111 (F := Ideal) x0 x1) L.h := fun a b => (val_main_v111_apply _ _ _).trans (v45 hx hmp (ix2 a b))

include hx hmp hw in
theorem s_rd : Rd (n := 4096) (m := 2816) (val_main_v112 (F := Ideal) x0 x1 x2) L.s := fun a b => (val_main_v112_apply _ _ _ _).trans (v49 hx hmp hw (ix2 a b))

include hmp hdy in
theorem df_rd : Rd (n := 4096) (m := 1024) (val_main_v113 (F := Ideal) x1 x3) L.df := fun a b => (val_main_v113_apply _ _ _).trans (v57 hmp hdy (ix2 a b))

include hx hmp hw hdy in
theorem dab_rd : Rd (n := 4096) (m := 5632) (val_main_v110 (F := Ideal) x0 x1 x2 x3) L.dab := by
  have hc : Rd (n := 4096) (m := 5632) (val_main_v109 (F := Ideal) x0 x1 x2 x3) L.dab := by
    unfold val_main_v109
    exact Rd.cat (n := 4096) (k := 2816) (l := 2816) (fun a b => v66 hx hmp hw hdy (ix2 a b)) (fun a b => v64 hx hmp hw hdy (ix2 a b)) _
  exact fun a b => (val_main_v110_apply _ _ _ _ _).trans (hc a b)

end Cert.Sb.FfnRef

end
-- ==== Proof.Pre.lean ====
/- The condition on the arguments: where it holds, every entry of both arrays is a real number. -/
module

public import proofs.«01_k».proof.Pre_finite
public import proofs.«01_k».proof.Proof.Lift
public import Idealize.ShloMosaic.Lib.ReduceAll

@[expose] public section

set_option maxRecDepth 16384

noncomputable section

namespace Cert.Sb.Pre

open Idealize.ShloMosaic hiding ix0 ix1 ix2 ix3 eq_ix1 eq_ix2 eq_ix3
open Idealize.ShloMosaic.ValueIdx Cert.Pre_finite

instance facts : Cert.Pre_finite.Facts where
  bcast_S_S4096x3072 := by decide
  reducesTo_S4096x3072_S_d0_1 := by decide
  h_S_ := by decide
  bcast_S_S4096x1024 := by decide
  reducesTo_S4096x1024_S_d0_1 := by decide

instance : Subsingleton S_.Idx := ⟨fun a b => funext fun i => i.elim0⟩

theorem top_bits : Ideal.ofBits .bf16 0x7F80#16 = ⊤ := by
  simp [Ideal.ofBits, Ideal.ieee]

/-- A number whose distance from zero is less than infinity is real. -/
theorem real_of_lt {x : EReal} (h : Ideal.cmp .olt (max x (-x)) (Ideal.ofBits .bf16 0x7F80#16) = 1#1) : x = ((x.toReal : ℝ) : EReal) := by
  rw [top_bits] at h
  have h' : max x (-x) < ⊤ := by
    by_contra c
    simp [Ideal.cmp, c] at h
  rw [max_lt_iff] at h'
  refine (EReal.coe_toReal h'.1.ne fun e => ?_).symm
  rw [e] at h'
  exact absurd h'.2 (by simp)

theorem reads {n m : ℕ} {x : (⟨2, ![n, m]⟩ : Shape).Idx → EReal} (h : ∀ i, x i = ((x i).toReal : EReal)) :
    Rd x (fun a b => if p : a < n ∧ b < m then (x (ix2 ⟨a, p.1⟩ ⟨b, p.2⟩)).toReal else 0) := fun a b => by
  dsimp only
  rw [dif_pos ⟨a.isLt, b.isLt⟩]
  exact h _

theorem and_bits {a b : BitVec 1} (h : IntOp.andi a b = 1#1) : a = 1#1 ∧ b = 1#1 := by
  revert a b
  decide

theorem finite {x0 : FVec Ideal S4096x3072 .bf16} {x1 : FVec Ideal S4096x1024 .bf16}
    (h : Cert.Pre_finite.fn (F := Ideal) x0 x1 = fun _ => 1#1) :
    ∃ X Y : ℕ → ℕ → ℝ, Rd (n := 4096) (m := 3072) x0 X ∧ Rd (n := 4096) (m := 1024) x1 Y := by
  obtain ⟨h0, h1⟩ := and_bits (congrFun h (Shape.Idx.first Facts.h_S_))
  refine ⟨_, _, reads fun i => ?_, reads fun i => ?_⟩
  · exact real_of_lt (Host.reduce_andi_all _ _ _ _ _ h0 i)
  · exact real_of_lt (Host.reduce_andi_all _ _ _ _ _ h1 i)

end Cert.Sb.Pre
-- ==== Proof.FfnPre.lean ====
/- The condition on the layer's arguments: where it holds, every entry is a real number, so the arrays are those of a layer. -/
module

public import proofs.«01_k».proof.Pre_finite_layer
public import proofs.«01_k».proof.Proof.Pre
public import proofs.«01_k».proof.Proof.FfnArr

@[expose] public section

set_option maxRecDepth 16384

noncomputable section

namespace Cert.Sb.FfnPre

open Idealize.ShloMosaic hiding ix0 ix1 ix2 ix3 ix4 eq_ix1 eq_ix2 eq_ix3 eq_ix4
open Idealize.ShloMosaic.ValueIdx Cert.Pre_finite_layer

instance facts : Cert.Pre_finite_layer.Facts where
  bcast_S_S4096x1024 := by decide
  reducesTo_S4096x1024_S_d0_1 := by decide
  h_S_ := by decide
  bcast_S_S8x1024 := by decide
  reducesTo_S8x1024_S_d0_1 := by decide
  bcast_S_S8x3x352x1024 := by decide
  reducesTo_S8x3x352x1024_S_d0_1_2_3 := by decide

theorem top_bits : Ideal.ofBits .f32 0x7F800000#32 = Ideal.ofBits .bf16 0x7F80#16 := by
  rw [Pre.top_bits]
  simp [Ideal.ofBits, Ideal.ieee]

theorem real_of_lt {x : EReal} (h : Ideal.cmp .olt (max x (-x)) (Ideal.ofBits .f32 0x7F800000#32) = 1#1) : x = ((x.toReal : ℝ) : EReal) :=
  Pre.real_of_lt (top_bits ▸ h)

/-- Row `k` of part `p` of the eight shards' weights. -/
def part (w : S8x3x352x1024.Idx → EReal) (p : Fin 3) (k j : ℕ) : ℝ :=
  if h : k < 2816 ∧ j < 1024 then (w (ix4 (⟨k / 352, by omega⟩ : Fin 8) p (⟨k % 352, by omega⟩ : Fin 352) (⟨j, h.2⟩ : Fin 1024))).toReal else 0

theorem part_apply {w : S8x3x352x1024.Idx → EReal} (h : ∀ i, w i = ((w i).toReal : EReal)) (p : Fin 3) (d : Fin 8) (a : Fin 352) (b : Fin 1024) :
    w (ix4 d p a b) = ((part w p (d.val * 352 + a.val) b.val : ℝ) : EReal) := by
  have h1 := d.isLt
  have h2 := a.isLt
  have e1 : (⟨(d.val * 352 + a.val) / 352, by omega⟩ : Fin 8) = d := Fin.ext (by show (d.val * 352 + a.val) / 352 = _; omega)
  have e2 : (⟨(d.val * 352 + a.val) % 352, by omega⟩ : Fin 352) = a := Fin.ext (by show (d.val * 352 + a.val) % 352 = _; omega)
  unfold part
  rw [dif_pos ⟨by omega, b.isLt⟩, e1, e2]
  exact h _

theorem finite {x0 x3 : FVec Ideal S4096x1024 .f32} {x1 : FVec Ideal S8x1024 .f32} {x2 : FVec Ideal S8x3x352x1024 .bf16}
    (h : Cert.Pre_finite_layer.fn (F := Ideal) x0 x1 x2 x3 = fun _ => 1#1) :
    ∃ L : Layer, Rd (n := 4096) (m := 1024) x0 L.x ∧ Rd (n := 8) (m := 1024) x1 L.mp ∧ Ffn.W3 x2 L ∧ Rd (n := 4096) (m := 1024) x3 L.dy := by
  obtain ⟨h', h3⟩ := Pre.and_bits (congrFun h (Shape.Idx.first Facts.h_S_))
  obtain ⟨h'', h2⟩ := Pre.and_bits h'
  obtain ⟨h0, h1⟩ := Pre.and_bits h''
  have hw : ∀ i, x2 i = ((x2 i).toReal : EReal) := fun i => Pre.real_of_lt (Host.reduce_andi_all _ _ _ _ _ h2 i)
  exact ⟨⟨_, _, part x2 0, part x2 1, part x2 2, _⟩, Pre.reads fun i => real_of_lt (Host.reduce_andi_all _ _ _ _ _ h0 i),
    Pre.reads fun i => real_of_lt (Host.reduce_andi_all _ _ _ _ _ h1 i),
    fun d a b => ⟨part_apply hw 0 d a b, part_apply hw 1 d a b, part_apply hw 2 d a b⟩,
    Pre.reads fun i => real_of_lt (Host.reduce_andi_all _ _ _ _ _ h3 i)⟩

end Cert.Sb.FfnPre

end
-- ==== Proof.FwdPay.lean ====
/- The stored values of the forward kernel, over matrices that hold real numbers. -/
module

public import proofs.«01_k».proof.Proof.Lift
public import proofs.«01_k».proof.Proof.Gen.KernelIdeal.Skeleton

@[expose] public section

noncomputable section

namespace Cert.Sb.Fwd

open Idealize.ShloMosaic hiding ix0 ix1 ix2 ix3 eq_ix1 eq_ix2 eq_ix3
open Idealize.ShloMosaic.ValueIdx Finset
open Cert.KernelIdeal Cert.KernelIdeal.Gen

/-- The matrix with ones strictly below the diagonal. -/
theorem tri : Rd (k0_pay29 (F := Ideal)) (fun a b => if b < a then 1 else 0) :=
  (Rd.bit (Nt.sgt (Nt.rows _) (Nt.cols _) (fun a b ha hb => by omega) (fun a b ha hb => by omega)) _).trunc _

section Trip

variable (H : Head) (hc : H.c = scale) {R C : ℕ}
  {q : Vec Ideal S512x128 .bf16} {k v : Vec Ideal S512x128 .bf16}

include hc

theorem z_rd (hq : Rd q (fun a d => H.q (R + a) d)) (hk : Rd k (fun a d => H.k (C + a) d)) :
    Rd (k0_pay9 q k) (fun a b => H.z (R + a) (C + b)) := by
  refine ((hq.mmT rfl hk none).mul (Rd.splat lit_scale)).congr fun a b _ _ => ?_
  rw [← hc]; rfl

theorem lb_rd (hq : Rd q (fun a d => H.q (R + a) d)) (hk : Rd k (fun a d => H.k (C + a) d)) :
    Rd (k0_pay10 q k) (fun a b => H.lb (R + a) (C + b)) := (z_rd H hc hq hk).lsOp

theorem lk_rd (hRC : C + 512 ≤ R) (hq : Rd q (fun a d => H.q (R + a) d)) (hk : Rd k (fun a d => H.k (C + a) d)) :
    Rd (k0_pay11 q k) (fun a b => H.lk (R + a) (C + b)) :=
  ((lb_rd H hc hq hk).sub (z_rd H hc hq hk)).congr fun a b _ hb => by
    rw [H.lk_of_lt (by omega)]; rfl

theorem lkL_rd (hRC : C + 512 ≤ R) (hq : Rd q (fun a d => H.q (R + a) d)) (hk : Rd k (fun a d => H.k (C + a) d)) :
    Rd (k0_pay12 q k) (fun a b => H.lk (R + a) (C + b)) :=
  ((lk_rd H hc hRC hq hk).slice 0 0 slices_S512x512_o0_0_S512x256).congr fun a b _ _ => by simp only [zero_add]

theorem lkR_rd (hRC : C + 512 ≤ R) (hq : Rd q (fun a d => H.q (R + a) d)) (hk : Rd k (fun a d => H.k (C + a) d)) :
    Rd (k0_pay13 q k) (fun a b => H.lk (R + a) (C + 256 + b)) :=
  ((lk_rd H hc hRC hq hk).slice 0 256 slices_S512x512_o0_256_S512x256).congr fun a b _ _ => by simp only [zero_add, add_assoc]

/-- After the right half of a block: the sum of everything to the right of a column in that half. -/
theorem sufR_rd (hRC : C + 512 ≤ R) (hq : Rd q (fun a d => H.q (R + a) d)) (hk : Rd k (fun a d => H.k (C + a) d))
    {r : Vec Ideal S512x1 .f32} (hr : Rd r (fun a _ => ∑ j ∈ Ico (C + 512) (R + 512), H.lk (R + a) j)) :
    Rd (k0_pay14 k0_pay29 q k r) (fun a b => ∑ j ∈ Ico (C + 256 + b + 1) (R + 512), H.lk (R + a) j) :=
  ((Rd.splitDot rfl (lkR_rd H hc hRC hq hk) tri none _ _ _).add (hr.bcol _)).congr fun a b _ hb => by
    rw [sum_block_right (fun j => H.lk (R + a) j) (C + 256) 256 b hb, show C + 256 + 256 = C + 512 by omega,
      sum_Ico_consecutive _ (by omega) (by omega)]

theorem runR_rd (hRC : C + 512 ≤ R) (hq : Rd q (fun a d => H.q (R + a) d)) (hk : Rd k (fun a d => H.k (C + a) d))
    {r : Vec Ideal S512x1 .f32} (hr : Rd r (fun a _ => ∑ j ∈ Ico (C + 512) (R + 512), H.lk (R + a) j)) :
    Rd (k0_pay15 q k r) (fun a _ => ∑ j ∈ Ico (C + 256) (R + 512), H.lk (R + a) j) :=
  (hr.add ((lkR_rd H hc hRC hq hk).rowsum _ _ _ _)).congr fun a b _ hb => by
    rw [sum_block (fun j => H.lk (R + a) j) (C + 256) 256, add_comm, show C + 256 + 256 = C + 512 by omega,
      sum_Ico_consecutive _ (by omega) (by omega)]

/-- What a block leaves in the accumulator of the output. -/
theorem acc_rd (hR : R + 512 ≤ 4096) (hRC : C + 512 ≤ R) (hq : Rd q (fun a d => H.q (R + a) d)) (hk : Rd k (fun a d => H.k (C + a) d))
    (hv : Rd v (fun a d => H.v (C + a) d))
    {r : Vec Ideal S512x1 .f32} (hr : Rd r (fun a _ => ∑ j ∈ Ico (C + 512) (R + 512), H.lk (R + a) j))
    {o : Vec Ideal S512x128 .f32} {f : ℕ → ℕ → ℝ} (ho : Rd o f) :
    Rd (k0_pay3 (k0_pay10 q k) (k0_pay14 k0_pay29 q k r) (k0_pay15 q k r) (k0_pay17 k0_pay29 q k) (k0_pay18 k0_pay29 q k) o v)
      (fun a d => f a d + ∑ s ∈ Ico C (C + 512), H.W (R + a) s * H.v s d) := by
  have h1 := Rd.splitDot (d := dot_S512x256_S256x256_S512x256_1_0_0_1_n_n) rfl (lkL_rd H hc hRC hq hk) tri none
    bitsLt_bf16_f32 bitsLt_bf16_f32 bitsLt_bf16_f32
  have h2 := (h1.add ((runR_rd H hc hRC hq hk hr).bcol broadcasts_S512x1_S512x256)).cat (sufR_rd H hc hRC hq hk hr)
    concatenates_S512x256_S512x256_S512x512_d1
  have h3 := ((lb_rd H hc hq hk).add h2).exp
  have h4 := ho.add ((h3.trunc bitsLt_bf16_f32).mm (ψ := .bf16) (d := dot_S512x512_S512x128_S512x128_1_0_0_1_n_n) rfl hv none)
  refine (h4.same shapeCasts_S512x128_S512x128).congr fun a d ha hd => ?_
  rw [← sum_block (fun s => H.W (R + a) s * H.v s d) C 512]
  refine congrArg (f a d + ·) (sum_congr rfl fun b hb => ?_)
  have hb := mem_range.1 hb
  rw [H.W_top (m := R + 512) (by omega) hR, if_pos (show C + b < R + a by omega)]
  refine congrArg (fun x => Real.exp (H.lb (R + a) (C + b) + x) * H.v (C + b) d) ?_
  by_cases h : b < 256
  · rw [if_pos h, sum_block_right (fun j => H.lk (R + a) j) C 256 b h, sum_Ico_consecutive _ (by omega) (by omega)]
  · rw [if_neg h, show C + 256 + (b - 256) + 1 = C + b + 1 by omega]

/-- What a block leaves in the running sum. -/
theorem run_rd (hRC : C + 512 ≤ R) (hq : Rd q (fun a d => H.q (R + a) d)) (hk : Rd k (fun a d => H.k (C + a) d))
    {r : Vec Ideal S512x1 .f32} (hr : Rd r (fun a _ => ∑ j ∈ Ico (C + 512) (R + 512), H.lk (R + a) j)) :
    Rd (k0_pay4 (k0_pay12 q k) (k0_pay15 q k r)) (fun a _ => ∑ j ∈ Ico C (R + 512), H.lk (R + a) j) :=
  (((runR_rd H hc hRC hq hk hr).add ((lkL_rd H hc hRC hq hk).rowsum _ _ _ _)).same _).congr fun a b _ hb => by
    rw [sum_block (fun j => H.lk (R + a) j) C 256, add_comm, sum_Ico_consecutive _ (by omega) (by omega)]

end Trip

/-! The two blocks of columns on the diagonal: the right one first, for the lower half of the rows only. -/

section Diag

theorem mask1 (i : grid0.Coords) : Mk (k0_pay32 i) (fun a b => (i 1).val * 512 + 256 + b < (i 1).val * 512 + 256 + a) := by
  have hi : (i 1).val < 8 := (i 1).isLt
  have e : Scalar.addi (Scalar.muli (BitVec.ofNat 32 (i 1).val) 512#32) 256#32 = BitVec.ofNat 32 ((i 1).val * 512 + 256) := by
    show BitVec.ofNat 32 (i 1).val * BitVec.ofNat 32 512 + BitVec.ofNat 32 256 = _
    rw [← BitVec.ofNat_mul, ← BitVec.ofNat_add]
  unfold k0_pay32
  dsimp only
  rw [e]
  exact Nt.sgt ((Nt.splat _).add (Nt.rows _)) ((Nt.splat _).add (Nt.cols _)) (fun a b ha hb => by omega) (fun a b ha hb => by omega)

theorem mask0 (R : ℕ) (hR : R ≤ 4096) :
    Mk (k0_pay41 (Scalar.addi (BitVec.ofNat 32 R) 0#32) (k0_pay40 (BitVec.ofNat 32 R)) (iota .tc S512x256 32 [1] iota_S512x256_d1_w32))
      (fun a b => R + b < R + a) := by
  have e : Scalar.addi (BitVec.ofNat 32 R) 0#32 = BitVec.ofNat 32 R := by
    show BitVec.ofNat 32 R + 0#32 = _
    rw [BitVec.add_zero]
  unfold k0_pay41 k0_pay40
  dsimp only
  rw [e]
  exact Nt.sgt ((Nt.splat _).add (Nt.rows _)) ((Nt.splat _).add (Nt.cols _)) (fun a b ha hb => by omega) (fun a b ha hb => by omega)

variable (H : Head) (hc : H.c = scale)

section Part1

variable {D : ℕ} {q k v : Vec Ideal S256x128 .bf16} {M : IVec S256x256 1}

include hc

theorem z1_rd (hq : Rd q (fun a d => H.q (D + a) d)) (hk : Rd k (fun a d => H.k (D + a) d)) :
    Rd (k0_pay33 q k) (fun a b => H.z (D + a) (D + b)) := by
  refine ((hq.mmT rfl hk none).mul (Rd.splat lit_scale)).congr fun a b _ _ => ?_
  rw [← hc]; rfl

theorem lb1_rd (hq : Rd q (fun a d => H.q (D + a) d)) (hk : Rd k (fun a d => H.k (D + a) d)) :
    Rd (k0_pay36 (k0_pay34 q k) (k0_pay35 q k)) (fun a b => H.lb (D + a) (D + b)) := (z1_rd H hc hq hk).lsOp

theorem lk1_rd (hM : Mk M (fun a b => D + b < D + a)) (hq : Rd q (fun a d => H.q (D + a) d)) (hk : Rd k (fun a d => H.k (D + a) d)) :
    Rd (k0_pay37 M (k0_pay33 q k) (k0_pay34 q k) (k0_pay35 q k)) (fun a b => H.lk (D + a) (D + b)) :=
  Rd.sel hM ((lb1_rd H hc hq hk).sub (z1_rd H hc hq hk)) (Rd.splat lit_zero)

theorem acc1_rd (hD : D + 256 ≤ 4096) (hM : Mk M (fun a b => D + b < D + a)) (hq : Rd q (fun a d => H.q (D + a) d))
    (hk : Rd k (fun a d => H.k (D + a) d)) (hv : Rd v (fun a d => H.v (D + a) d))
    {r : Vec Ideal S256x1 .f32} (hr : Rd r (fun _ _ => 0)) {o : Vec Ideal S256x128 .f32} (ho : Rd o (fun _ _ => 0)) :
    Rd (k0_pay38 k0_pay29 M (k0_pay33 q k) (k0_pay34 q k) (k0_pay35 q k) r o v)
      (fun a d => ∑ s ∈ Ico D (D + 256), H.W (D + a) s * H.v s d) := by
  have h1 := (Rd.splitDot (d := dot_S256x256_S256x256_S256x256_1_0_0_1_n_n) rfl (lk1_rd H hc hM hq hk) tri none
    bitsLt_bf16_f32 bitsLt_bf16_f32 bitsLt_bf16_f32).add (hr.bcol broadcasts_S256x1_S256x256)
  have h2 := Rd.sel (φ := .f32) hM ((lb1_rd H hc hq hk).add h1).exp (Rd.splat lit_zero)
  have h3 := ho.add ((h2.trunc (ψ := .bf16) bitsLt_bf16_f32).mm (ψ := .bf16) (d := dot_S256x256_S256x128_S256x128_1_0_0_1_n_n) rfl hv none)
  refine (h3.same shapeCasts_S256x128_S256x128).congr fun a d ha hd => ?_
  rw [← sum_block (fun s => H.W (D + a) s * H.v s d) D 256, zero_add]
  refine sum_congr rfl fun b hb => ?_
  have hb := mem_range.1 hb
  rw [H.W_top (m := D + 256) (by omega) hD, sum_block_right (fun j => H.lk (D + a) j) D 256 b hb, add_zero]

theorem run1_rd (hM : Mk M (fun a b => D + b < D + a)) (hq : Rd q (fun a d => H.q (D + a) d))
    (hk : Rd k (fun a d => H.k (D + a) d)) {r : Vec Ideal S256x1 .f32} (hr : Rd r (fun _ _ => 0)) :
    Rd (k0_pay39 M (k0_pay33 q k) (k0_pay34 q k) (k0_pay35 q k) r) (fun a _ => ∑ j ∈ Ico D (D + 256), H.lk (D + a) j) :=
  ((hr.add ((lk1_rd H hc hM hq hk).rowsum _ _ _ _)).same _).congr fun a b _ hb => by
    rw [sum_block (fun j => H.lk (D + a) j) D 256, zero_add]

end Part1

section Part0

variable {R : ℕ} {q : Vec Ideal S512x128 .bf16} {k v : Vec Ideal S256x128 .bf16} {v74 : BitVec 32} {v78 v79 : IVec S512x256 32}

include hc

theorem z0_rd (hq : Rd q (fun a d => H.q (R + a) d)) (hk : Rd k (fun a d => H.k (R + a) d)) :
    Rd (k0_pay42 q k) (fun a b => H.z (R + a) (R + b)) := by
  refine ((hq.mmT rfl hk none).mul (Rd.splat lit_scale)).congr fun a b _ _ => ?_
  rw [← hc]; rfl

theorem lb0_rd (hq : Rd q (fun a d => H.q (R + a) d)) (hk : Rd k (fun a d => H.k (R + a) d)) :
    Rd (k0_pay43 q k) (fun a b => H.lb (R + a) (R + b)) := (z0_rd H hc hq hk).lsOp

theorem lk0_rd (hM : Mk (k0_pay41 v74 v78 v79) (fun a b => R + b < R + a)) (hq : Rd q (fun a d => H.q (R + a) d))
    (hk : Rd k (fun a d => H.k (R + a) d)) :
    Rd (k0_pay44 v74 v78 v79 q k) (fun a b => H.lk (R + a) (R + b)) :=
  Rd.sel hM ((lb0_rd H hc hq hk).sub (z0_rd H hc hq hk)) (Rd.splat lit_zero)

theorem w0_rd (hR : R + 512 ≤ 4096) (hM : Mk (k0_pay41 v74 v78 v79) (fun a b => R + b < R + a)) (hq : Rd q (fun a d => H.q (R + a) d))
    (hk : Rd k (fun a d => H.k (R + a) d))
    {r : Vec Ideal S512x1 .f32} (hr : Rd r (fun a _ => ∑ j ∈ Ico (R + 256) (R + 512), H.lk (R + a) j)) :
    Rd (k0_pay46 k0_pay29 v74 v78 v79 q k r) (fun a b => H.W (R + a) (R + b)) := by
  have h1 := (Rd.splitDot (d := dot_S512x256_S256x256_S512x256_1_0_0_1_n_n) rfl (lk0_rd H hc hM hq hk) tri none
    bitsLt_bf16_f32 bitsLt_bf16_f32 bitsLt_bf16_f32).add (hr.bcol broadcasts_S512x1_S512x256)
  have h2 := Rd.sel (φ := .f32) hM ((lb0_rd H hc hq hk).add h1).exp (Rd.splat lit_zero)
  refine (h2.trunc (ψ := .bf16) bitsLt_bf16_f32).congr fun a b ha hb => ?_
  rw [H.W_top (m := R + 512) (by omega) hR, sum_block_right (fun j => H.lk (R + a) j) R 256 b hb, sum_Ico_consecutive _ (by omega) (by omega)]

theorem acc0_rd (hR : R + 512 ≤ 4096) (hM : Mk (k0_pay41 v74 v78 v79) (fun a b => R + b < R + a)) (hq : Rd q (fun a d => H.q (R + a) d))
    (hk : Rd k (fun a d => H.k (R + a) d)) (hv : Rd v (fun a d => H.v (R + a) d))
    {r : Vec Ideal S512x1 .f32} (hr : Rd r (fun a _ => ∑ j ∈ Ico (R + 256) (R + 512), H.lk (R + a) j))
    {o : Vec Ideal S512x128 .f32} (ho : Rd o (fun a d => ∑ s ∈ Ico (R + 256) (R + 512), H.W (R + a) s * H.v s d)) :
    Rd (k0_pay1 o (k0_pay46 k0_pay29 v74 v78 v79 q k r) v) (fun a d => ∑ s ∈ Ico R (R + 512), H.W (R + a) s * H.v s d) :=
  ((ho.add ((w0_rd H hc hR hM hq hk hr).mm (φ := .bf16) (ψ := .bf16) (d := dot_S512x256_S256x128_S512x128_1_0_0_1_n_n) rfl hv none)).same
    shapeCasts_S512x128_S512x128).congr fun a d ha hd => by
    rw [sum_block (fun s => H.W (R + a) s * H.v s d) R 256, add_comm, sum_Ico_consecutive _ (by omega) (by omega)]

theorem run0_rd (hM : Mk (k0_pay41 v74 v78 v79) (fun a b => R + b < R + a)) (hq : Rd q (fun a d => H.q (R + a) d))
    (hk : Rd k (fun a d => H.k (R + a) d))
    {r : Vec Ideal S512x1 .f32} (hr : Rd r (fun a _ => ∑ j ∈ Ico (R + 256) (R + 512), H.lk (R + a) j)) :
    Rd (k0_pay2 (k0_pay45 v74 v78 v79 q k r)) (fun a _ => ∑ j ∈ Ico R (R + 512), H.lk (R + a) j) :=
  ((hr.add ((lk0_rd H hc hM hq hk).rowsum _ _ _ _)).same _).congr fun a b _ hb => by
    rw [sum_block (fun j => H.lk (R + a) j) R 256, add_comm, sum_Ico_consecutive _ (by omega) (by omega)]

end Part0

theorem zeroO : Rd (k0_pay30 (F := Ideal)) (fun _ _ => 0) := (Rd.splat lit_zero).same _
theorem zeroR : Rd (k0_pay31 (F := Ideal)) (fun _ _ => 0) := (Rd.splat lit_zero).same _

end Diag

end Cert.Sb.Fwd

end
-- ==== Proof.Stack.lean ====
/- A stack of one matrix, as the block of the row sums is kept. -/
module

public import proofs.«01_k».proof.Proof.Store
public import Idealize.ShloMosaic.Lib.ValueLayout

@[expose] public section

noncomputable section

namespace Cert.Sb

open Idealize.ShloMosaic hiding ix0 ix1 ix2 ix3 eq_ix1 eq_ix2 eq_ix3
open Idealize.ShloMosaic.ValueIdx Finset

/-- The stack of one matrix `x` holds the real number `f a b` at row `a` and column `b`. -/
def Rd1 {n m : ℕ} (x : (⟨3, ![1, n, m]⟩ : Shape).Idx → EReal) (f : ℕ → ℕ → ℝ) : Prop :=
  ∀ (a : Fin n) (b : Fin m), x (ix3 (0 : Fin 1) a b) = ((f a.val b.val : ℝ) : EReal)

variable {n m k : ℕ} {sig : RefSig} {κ : Kind} {sp : Space}

theorem Rd1.congr {x : (⟨3, ![1, n, m]⟩ : Shape).Idx → EReal} {f g : ℕ → ℕ → ℝ} (h : Rd1 x f)
    (e : ∀ a b, a < n → b < m → f a b = g a b) : Rd1 x g := fun a b => by rw [h a b, e a b a.isLt b.isLt]

/-- The matrix of a stack of one. -/
theorem Rd1.flat {x : (⟨3, ![1, n, m]⟩ : Shape).Idx → EReal} {f : ℕ → ℕ → ℝ} (h : Rd1 x f) (hc) :
    Rd (shapeCast ⟨2, ![n, m]⟩ x hc) f := fun a b => (shapeCast_1ab_ab_apply x hc a b).trans (h a b)

/-- The stack of a matrix. -/
theorem Rd.stack {x : (⟨2, ![n, m]⟩ : Shape).Idx → EReal} {f : ℕ → ℕ → ℝ} (h : Rd x f) (hc) :
    Rd1 (shapeCast ⟨3, ![1, n, m]⟩ x hc) f := fun a b => (shapeCast_ab_1ab_apply x hc 0 a b).trans (h a b)

/-- The contents that read `x`. -/
theorem Rd1.un {x : (⟨3, ![1, n, m]⟩ : Shape).Idx → EReal} {f : ℕ → ℕ → ℝ} (h : Rd1 x f) {r : Memref sig κ sp ⟨3, ![1, n, m]⟩ .f32}
    (hr : r.IsWhole) : Rd1 (r.view.read (Elt Ideal) (hr.unread (Val := Elt Ideal) x)) f := by
  rw [hr.read_unread]; exact h

/-- A load of the rows from `o` on. -/
theorem Rd1.rows {v : View sig κ sp ⟨3, ![1, n, m]⟩ .f32} {G : v.ty.Contents (Elt Ideal)} {f : ℕ → ℕ → ℝ} (h : Rd1 (v.read (Elt Ideal) G) f)
    {o : ℕ} {inb} :
    Rd1 (n := k) (m := m) (v.readAt (Elt Ideal) (Rect.unit (s := ⟨3, ![1, n, m]⟩) ![0, o, 0] ![1, k, m] inb).toLoadRect G) (fun a b => f (o + a) b) := by
  intro a b
  have hk : o + k ≤ n := inb 1
  refine Eq.trans (congrArg (v.read (Elt Ideal) G) ?_) (h ⟨o + a.val, by omega⟩ b)
  funext i; apply Fin.ext
  match i with
  | ⟨0, _⟩ => rfl
  | ⟨1, _⟩ => show o + 1 * a.val = _; simp
  | ⟨2, _⟩ => show 0 + 1 * b.val = _; simp

/-- A load of the whole. -/
theorem Rd1.all {v : View sig κ sp ⟨3, ![1, n, m]⟩ .f32} {G : v.ty.Contents (Elt Ideal)} {f : ℕ → ℕ → ℝ} (h : Rd1 (v.read (Elt Ideal) G) f)
    {inb} :
    Rd1 (n := n) (m := m) (v.readAt (Elt Ideal) (Rect.unit (s := ⟨3, ![1, n, m]⟩) ![0, 0, 0] ![1, n, m] inb).toLoadRect G) f :=
  h.rows.congr fun a b _ _ => by rw [Nat.zero_add]

/-- A store of the whole. -/
theorem Rd1.putAll {v : View sig κ sp ⟨3, ![1, n, m]⟩ .f32} {G : v.ty.Contents (Elt Ideal)} {x : (⟨3, ![1, n, m]⟩ : Shape).Idx → EReal} {f : ℕ → ℕ → ℝ}
    (h : Rd1 x f) {inb} {L : List (View.Piece (Elt Ideal) ⟨3, ![1, n, m]⟩ .f32)} :
    Rd1 (v.read (Elt Ideal) (v.writes (Elt Ideal) G ((⟨Rect.unit (s := ⟨3, ![1, n, m]⟩) ![0, 0, 0] ![1, n, m] inb, x⟩ : View.Piece (Elt Ideal) ⟨3, ![1, n, m]⟩ .f32) :: L))) f := by
  have e := View.read_writes_full (Val := Elt Ideal) (s := ⟨3, ![1, n, m]⟩) v G (off := ![0, 0, 0]) inb x L
  exact fun a b => (congrFun e (ix3 (0 : Fin 1) a b)).trans (h a b)

end Cert.Sb

end
-- ==== Proof.FwdVal.lean ====
/- What the forward kernel leaves in its two output blocks at a point of its grid. -/
module

public import proofs.«01_k».proof.Proof.FwdPay
public import proofs.«01_k».proof.Proof.Stack
public import proofs.«01_k».proof.Proof.Gen.KernelIdeal.Frame
public import Idealize.ShloMosaic.Lib.LoopRemainder

@[expose] public section

set_option maxRecDepth 16384

noncomputable section

namespace Cert.Sb.Fwd

open Idealize.ShloMosaic hiding ix0 ix1 ix2 ix3 eq_ix1 eq_ix2 eq_ix3
open Idealize.ShloMosaic.ValueIdx Finset
open Cert.KernelIdeal Cert.KernelIdeal.Gen

theorem off1_0 (i : grid0.Coords) : k0_off1 i 0#32 = ![(i 1).val * 512, 0] := by
  have h : ∀ x : Fin 8, (Scalar.addi (Scalar.muli (BitVec.ofNat 32 x.val) 512#32) 0#32).toNat = x.val * 512 := by decide
  exact congrArg (fun x => ![x, 0]) (h (i 1))

theorem off1_256 (i : grid0.Coords) : k0_off1 i 256#32 = ![(i 1).val * 512 + 256, 0] := by
  have h : ∀ x : Fin 8, (Scalar.addi (Scalar.muli (BitVec.ofNat 32 x.val) 512#32) 256#32).toNat = x.val * 512 + 256 := by decide
  exact congrArg (fun x => ![x, 0]) (h (i 1))

theorem trips1 (i : grid0.Coords) : (k0_t1_loop i).trips = (i 1).val := by
  have h : ∀ x : Fin 8, Scf.trips 0#32 (Scalar.addi 0#32 (Scalar.muli (Scalar.divsi (Scalar.subi (Scalar.muli (BitVec.ofNat 32 x.val) 1#32) 0#32) 1#32) 1#32))
      1#32 = x.val := by decide
  exact h (i 1)

theorem off2 (i : grid0.Coords) (k : Fin (k0_t1_loop i).trips) : k0_off2 i k = ![((i 1).val - 1 - k.val) * 512, 0] := by
  have h : ∀ (x y : Fin 8), y.val < x.val → (Scalar.muli (Scalar.subi (Scalar.subi (Scalar.muli (BitVec.ofNat 32 x.val) 1#32) 1#32)
      (Scf.iv 0#32 1#32 y.val)) 512#32).toNat = (x.val - 1 - y.val) * 512 := by decide
  have hk : k.val < (i 1).val := lt_of_lt_of_eq k.isLt (trips1 i)
  have hi : (i 1).val < 8 := (i 1).isLt
  exact congrArg (fun x => ![x, 0]) (h (i 1) ⟨k.val, by omega⟩ hk)

section

variable (𝒱 : Variants) (c : Dev nD) (bd : Option 𝒱.V)
  (i : grid0.Coords) (arg2 : Memref sig .tc .vmem S512x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S512x128 .bf16) (harg5 : arg5.IsWhole) (arg6 : Memref sig .tc .vmem S1x512x1 .f32) (harg6 : arg6.IsWhole)
  (arg7 : Memref sig .tc .vmem S512x128 .f32) (harg7 : arg7.IsWhole) (arg8 : Memref sig .tc .vmem S512x1 .f32) (harg8 : arg8.IsWhole)
  (H : Head) (hc : H.c = scale)

include hc

/-- The two scratch buffers before trip `n` of the loop over the blocks to the left of the diagonal. -/
theorem loop_rd {x0 : Vec Ideal S512x128 .bf16} {x1 x2 : Vec Ideal S4096x128 .bf16} (hq : Rd x0 (fun a d => H.q ((i 1).val * 512 + a) d))
    (hk : Rd x1 H.k) (hv : Rd x2 H.v) (w : BitVec 32) (G7 : arg7.view.ty.Contents (Elt Ideal)) (G8 : arg8.view.ty.Contents (Elt Ideal))
    (h7 : Rd (arg7.view.read (Elt Ideal) G7)
      (fun a d => ∑ s ∈ Ico ((i 1).val * 512) ((i 1).val * 512 + 512), H.W ((i 1).val * 512 + a) s * H.v s d))
    (h8 : Rd (arg8.view.read (Elt Ideal) G8)
      (fun a _ => ∑ j ∈ Ico ((i 1).val * 512) ((i 1).val * 512 + 512), H.lk ((i 1).val * 512 + a) j)) (n : ℕ) (hn : n ≤ (i 1).val) :
    Rd (arg7.view.read (Elt Ideal) (arg7.view.writes (Elt Ideal) G7 (pb_k0_t1 (F := Ideal) 𝒱 c bd i arg2 harg2 arg3 harg3 arg4 harg4 arg5 harg5 arg6 harg6 arg7 harg7 arg8 harg8 k0_pay29 w
        (harg2.unread x0) (harg3.unread x1) (harg4.unread x2) G7 G8 n).1))
      (fun a d => ∑ s ∈ Ico (((i 1).val - n) * 512) ((i 1).val * 512 + 512), H.W ((i 1).val * 512 + a) s * H.v s d) ∧
    Rd (arg8.view.read (Elt Ideal) (arg8.view.writes (Elt Ideal) G8 (pb_k0_t1 (F := Ideal) 𝒱 c bd i arg2 harg2 arg3 harg3 arg4 harg4 arg5 harg5 arg6 harg6 arg7 harg7 arg8 harg8 k0_pay29 w
        (harg2.unread x0) (harg3.unread x1) (harg4.unread x2) G7 G8 n).2))
      (fun a _ => ∑ j ∈ Ico (((i 1).val - n) * 512) ((i 1).val * 512 + 512), H.lk ((i 1).val * 512 + a) j) := by
  have hi : (i 1).val < 8 := (i 1).isLt
  induction n with
  | zero => exact ⟨h7, h8⟩
  | succ n ih =>
    obtain ⟨i7, i8⟩ := ih (by omega)
    have hn' : n < (k0_t1_loop i).trips := by rw [trips1]; omega
    have e := pb_k0_t1_succ (F := Ideal) 𝒱 c bd i arg2 harg2 arg3 harg3 arg4 harg4 arg5 harg5 arg6 harg6 arg7 harg7 arg8 harg8 k0_pay29 w
      (harg2.unread x0) (harg3.unread x1) (harg4.unread x2) G7 G8 ⟨n, hn'⟩
    dsimp only at e
    rw [e]
    dsimp only
    rw [View.writes_append, View.writes_append]
    generalize arg7.view.writes (Elt Ideal) G7 _ = F7 at i7 ⊢
    generalize arg8.view.writes (Elt Ideal) G8 _ = F8 at i8 ⊢
    have hC : ((i 1).val - 1 - n) * 512 + 512 = ((i 1).val - n) * 512 := by omega
    have hC' : ((i 1).val - (n + 1)) * 512 = ((i 1).val - 1 - n) * 512 := by omega
    rw [← hC] at i7 i8
    rw [hC']
    have kb := Rd.rowsB (k := 512) (l := 128) (hk.unB harg3) (off2 i ⟨n, hn'⟩) (inb := k0_off2_inb i ⟨n, hn'⟩)
    have vb := Rd.rowsB (k := 512) (l := 128) (hv.unB harg4) (off2 i ⟨n, hn'⟩) (inb := k0_off2_inb i ⟨n, hn'⟩)
    constructor
    · unfold trip_k0_t1
      dsimp only
      sl_unfold_words
      refine Rd.putAll ((acc_rd H hc (by omega) (by omega) (Rd.allB (hq.unB harg2)) kb vb (Rd.all i8) (Rd.all i7)).congr fun a d _ _ => ?_)
      rw [add_comm, sum_Ico_consecutive _ (by omega) (by omega)]
    · unfold trip_k0_t1
      dsimp only
      sl_unfold_words
      exact Rd.putAll (run_rd H hc (by omega) (Rd.allB (hq.unB harg2)) kb (Rd.all i8))

end

section

variable {R : ℕ} {x0 : Vec Ideal S512x128 .bf16} (H : Head)

theorem rdq1 {arg2 : Memref sig .tc .vmem S512x128 .bf16} (harg2 : arg2.IsWhole) (hq : Rd x0 (fun a d => H.q (R + a) d)) {inb} :
    Rd (n := 256) (m := 128) (arg2.view.readAt (Elt Ideal) (Rect.unit (s := S512x128) ![256, 0] ![256, 128] inb).toLoadRect (harg2.unread x0))
      (fun a d => H.q (R + 256 + a) d) :=
  (Rd.rowsB (hq.unB harg2) rfl).congr fun a d _ _ => by rw [Nat.add_assoc]

theorem tot_eq (R a : ℕ) (ha : a < 512) (hR : R + 512 ≤ 4096) : ∑ j ∈ Ico 0 (R + 512), H.lk (R + a) j = H.tot (R + a) := by
  unfold Head.tot
  rw [range_eq_Ico]
  exact (H.sum_lk_top (by omega) hR).symm

theorem O_eq (R a d : ℕ) (ha : a < 512) (hR : R + 512 ≤ 4096) : ∑ s ∈ Ico 0 (R + 512), H.W (R + a) s * H.v s d = H.O (R + a) d := by
  unfold Head.O
  rw [range_eq_Ico]
  exact (Head.sum_mul_top (w := fun s => H.W (R + a) s) (fun s hs => H.W_of_le hs) (by omega) hR).symm

theorem put_lk (R a : ℕ) (ha : a < 512) : put 256 256 (fun a _ => ∑ j ∈ Ico (R + 256) (R + 256 + 256), H.lk (R + 256 + a) j) (fun _ _ => 0) a 0
    = ∑ j ∈ Ico (R + 256) (R + 512), H.lk (R + a) j := by
  unfold put
  by_cases h : 256 ≤ a ∧ a < 256 + 256
  · rw [if_pos h]
    dsimp only
    rw [show R + 256 + (a - 256) = R + a by omega]
  · rw [if_neg h]
    refine (sum_eq_zero fun j hj => H.lk_of_le ?_).symm
    simp only [mem_Ico] at hj; omega

theorem put_o (R a d : ℕ) (ha : a < 512) : put 256 256 (fun a d => ∑ s ∈ Ico (R + 256) (R + 256 + 256), H.W (R + 256 + a) s * H.v s d) (fun _ _ => 0) a d
    = ∑ s ∈ Ico (R + 256) (R + 512), H.W (R + a) s * H.v s d := by
  unfold put
  by_cases h : 256 ≤ a ∧ a < 256 + 256
  · rw [if_pos h]
    dsimp only
    rw [show R + 256 + (a - 256) = R + a by omega]
  · rw [if_neg h]
    refine (sum_eq_zero fun j hj => ?_).symm
    simp only [mem_Ico] at hj
    rw [H.W_of_le (by omega), zero_mul]

end

section

variable (c : Dev nD) (i : grid0.Coords) (arg2 : Memref sig .tc .vmem S512x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S512x128 .bf16) (harg5 : arg5.IsWhole) (arg6 : Memref sig .tc .vmem S1x512x1 .f32) (harg6 : arg6.IsWhole)
  (arg7 : Memref sig .tc .vmem S512x128 .f32) (harg7 : arg7.IsWhole) (arg8 : Memref sig .tc .vmem S512x1 .f32) (harg8 : arg8.IsWhole)
  (H : Head) (hc : H.c = scale)

include hc

/-- The block of the output. -/
theorem out3_rd {x0 : Vec Ideal S512x128 .bf16} {x1 x2 : Vec Ideal S4096x128 .bf16} (hq : Rd x0 (fun a d => H.q ((i 1).val * 512 + a) d))
    (hk : Rd x1 H.k) (hv : Rd x2 H.v) : Rd (out0_A_3 c i arg2 harg2 arg3 harg3 arg4 harg4 arg5 harg5 arg6 harg6 arg7 harg7 arg8 harg8 x0 x1 x2) (fun a d => H.O ((i 1).val * 512 + a) d) := by
  have hi : (i 1).val < 8 := (i 1).isLt
  have hR : (i 1).val * 512 + 512 ≤ 4096 := by omega
  have hM0 := mask0 ((i 1).val * 512) (by omega)
  rw [show BitVec.ofNat 32 ((i 1).val * 512) = Scalar.muli (BitVec.ofNat 32 (i 1).val) 512#32 from BitVec.ofNat_mul _ _] at hM0
  unfold out0_A_3 kernelRun0_A
  dsimp only
  sl_unfold_words
  refine Rd.putAllB (Rd.trunc (φ := .f32) (ψ := .bf16) (Rd.cov ?_) _)
  rw [show Scf.trips (k0_t2_loop i).lb (k0_t2_loop i).ub (k0_t2_loop i).st = 0 from Scf.rem_trips _ _]
  rw [show Scf.trips (k0_t1_loop i).lb (k0_t1_loop i).ub (k0_t1_loop i).st = (i 1).val from trips1 i]
  rw [View.writes_append, View.writes_append]
  refine ((loop_rd _ c _ i arg2 harg2 arg3 harg3 arg4 harg4 arg5 harg5 arg6 harg6 arg7 harg7 arg8 harg8 H hc hq hk hv _ _ _ ?_ ?_ _ le_rfl).1).congr fun a d ha _ => ?_
  rotate_left 2
  · rw [Nat.sub_self, Nat.zero_mul]
    exact O_eq H _ _ _ ha hR
  -- the accumulator after the two blocks on the diagonal
  · refine Rd.putAll (acc0_rd H hc hR hM0 (Rd.allB (hq.unB harg2)) (Rd.rowsB (hk.unB harg3) (off1_0 i)) (Rd.rowsB (hv.unB harg4) (off1_0 i))
      (Rd.cov ?_) (Rd.cov ?_))
    · refine (Rd.putRows (run1_rd H hc (mask1 i) (rdq1 H harg2 hq) (Rd.rowsB (hk.unB harg3) (off1_256 i))
        ((Rd.covRows (Rd.putAll zeroR) rfl).congr fun _ _ _ _ => rfl)) (Rd.putAll zeroR) rfl).congr fun a b ha hb => ?_
      exact put_lk H _ a ha
    · refine (Rd.putRows (acc1_rd H hc (by omega) (mask1 i) (rdq1 H harg2 hq) (Rd.rowsB (hk.unB harg3) (off1_256 i))
        (Rd.rowsB (hv.unB harg4) (off1_256 i)) ((Rd.covRows (Rd.putAll zeroR) rfl).congr fun _ _ _ _ => rfl)
        ((Rd.covRows (Rd.putAll zeroO) rfl).congr fun _ _ _ _ => rfl)) (Rd.putAll zeroO) rfl).congr fun a d ha hd => ?_
      exact put_o H _ a d ha
  -- the running sum after the two blocks on the diagonal
  · refine Rd.putAll (run0_rd H hc hM0 (Rd.allB (hq.unB harg2)) (Rd.rowsB (hk.unB harg3) (off1_0 i)) (Rd.cov ?_))
    refine (Rd.putRows (run1_rd H hc (mask1 i) (rdq1 H harg2 hq) (Rd.rowsB (hk.unB harg3) (off1_256 i))
      ((Rd.covRows (Rd.putAll zeroR) rfl).congr fun _ _ _ _ => rfl)) (Rd.putAll zeroR) rfl).congr fun a b ha hb => ?_
    exact put_lk H _ a ha

/-- The block of the row sums. -/
theorem out4_rd {x0 : Vec Ideal S512x128 .bf16} {x1 x2 : Vec Ideal S4096x128 .bf16} (hq : Rd x0 (fun a d => H.q ((i 1).val * 512 + a) d))
    (hk : Rd x1 H.k) (hv : Rd x2 H.v) : Rd1 (out0_A_4 c i arg2 harg2 arg3 harg3 arg4 harg4 arg5 harg5 arg6 harg6 arg7 harg7 arg8 harg8 x0 x1 x2) (fun a _ => H.tot ((i 1).val * 512 + a)) := by
  have hi : (i 1).val < 8 := (i 1).isLt
  have hR : (i 1).val * 512 + 512 ≤ 4096 := by omega
  have hM0 := mask0 ((i 1).val * 512) (by omega)
  rw [show BitVec.ofNat 32 ((i 1).val * 512) = Scalar.muli (BitVec.ofNat 32 (i 1).val) 512#32 from BitVec.ofNat_mul _ _] at hM0
  unfold out0_A_4 kernelRun0_A
  dsimp only
  sl_unfold_words
  refine Rd1.putAll (Rd.stack (Rd.cov ?_) _)
  rw [show Scf.trips (k0_t2_loop i).lb (k0_t2_loop i).ub (k0_t2_loop i).st = 0 from Scf.rem_trips _ _]
  rw [show Scf.trips (k0_t1_loop i).lb (k0_t1_loop i).ub (k0_t1_loop i).st = (i 1).val from trips1 i]
  rw [View.writes_append, View.writes_append]
  refine ((loop_rd _ c _ i arg2 harg2 arg3 harg3 arg4 harg4 arg5 harg5 arg6 harg6 arg7 harg7 arg8 harg8 H hc hq hk hv _ _ _ ?_ ?_ _ le_rfl).2).congr fun a d ha _ => ?_
  rotate_left 2
  · rw [Nat.sub_self, Nat.zero_mul]
    exact tot_eq H _ _ ha hR
  -- the accumulator after the two blocks on the diagonal
  · refine Rd.putAll (acc0_rd H hc hR hM0 (Rd.allB (hq.unB harg2)) (Rd.rowsB (hk.unB harg3) (off1_0 i)) (Rd.rowsB (hv.unB harg4) (off1_0 i))
      (Rd.cov ?_) (Rd.cov ?_))
    · refine (Rd.putRows (run1_rd H hc (mask1 i) (rdq1 H harg2 hq) (Rd.rowsB (hk.unB harg3) (off1_256 i))
        ((Rd.covRows (Rd.putAll zeroR) rfl).congr fun _ _ _ _ => rfl)) (Rd.putAll zeroR) rfl).congr fun a b ha hb => ?_
      exact put_lk H _ a ha
    · refine (Rd.putRows (acc1_rd H hc (by omega) (mask1 i) (rdq1 H harg2 hq) (Rd.rowsB (hk.unB harg3) (off1_256 i))
        (Rd.rowsB (hv.unB harg4) (off1_256 i)) ((Rd.covRows (Rd.putAll zeroR) rfl).congr fun _ _ _ _ => rfl)
        ((Rd.covRows (Rd.putAll zeroO) rfl).congr fun _ _ _ _ => rfl)) (Rd.putAll zeroO) rfl).congr fun a d ha hd => ?_
      exact put_o H _ a d ha
  -- the running sum after the two blocks on the diagonal
  · refine Rd.putAll (run0_rd H hc hM0 (Rd.allB (hq.unB harg2)) (Rd.rowsB (hk.unB harg3) (off1_0 i)) (Rd.cov ?_))
    refine (Rd.putRows (run1_rd H hc (mask1 i) (rdq1 H harg2 hq) (Rd.rowsB (hk.unB harg3) (off1_256 i))
      ((Rd.covRows (Rd.putAll zeroR) rfl).congr fun _ _ _ _ => rfl)) (Rd.putAll zeroR) rfl).congr fun a b ha hb => ?_
    exact put_lk H _ a ha

end

end Cert.Sb.Fwd

end
-- ==== Proof.BwdPay.lean ====
/- The stored values of the backward kernel, over matrices that hold real numbers. -/
module

public import proofs.«01_k».proof.Proof.Lift
public import proofs.«01_k».proof.Proof.Gen.KernelIdeal.Skeleton

@[expose] public section

noncomputable section

namespace Cert.Sb.Bwd

open Idealize.ShloMosaic hiding ix0 ix1 ix2 ix3 eq_ix1 eq_ix2 eq_ix3
open Idealize.ShloMosaic.ValueIdx Finset
open Cert.KernelIdeal Cert.KernelIdeal.Gen

/-- The matrix with ones strictly below the diagonal. -/
theorem tri : Rd (k1_pay50 (F := Ideal)) (fun a b => if b < a then 1 else 0) :=
  (Rd.bit (Nt.sgt (Nt.rows _) (Nt.cols _) (fun a b ha hb => by omega) (fun a b ha hb => by omega)) _).trunc _

/-- The matrix with ones strictly above the diagonal. -/
theorem triU : Rd (k1_pay51 (F := Ideal)) (fun a b => if a < b then 1 else 0) :=
  (Rd.bit (Nt.slt (Nt.rows _) (Nt.cols _) (fun a b ha hb => by omega) (fun a b ha hb => by omega)) _).trunc _

/-- What is left of a row's sum beyond a column. -/
theorem tot_sub (H : Head) (t m : ℕ) (hm : m ≤ 4096) : H.tot t - ∑ j ∈ Ico 0 m, H.lk t j = ∑ j ∈ Ico m 4096, H.lk t j := by
  unfold Head.tot
  rw [range_eq_Ico, ← sum_Ico_consecutive _ (Nat.zero_le m) hm]
  ring

section Trip

variable (H : Head) (hc : H.c = scale) {R C : ℕ}
  {kb q v g : Vec Ideal S512x128 .bf16} {pk pd : Vec Ideal S512x1 .f32} {t : Vec Ideal S1x512x1 .f32}

include hc

theorem z_rd (hk : Rd kb (fun a d => H.k (C + a) d)) (hq : Rd q (fun a d => H.q (R + a) d)) :
    Rd (k1_pay2 kb q) (fun a b => H.z (R + a) (C + b)) := by
  refine ((hq.mmT rfl hk none).mul (Rd.splat lit_scale)).congr fun a b _ _ => ?_
  rw [← hc]; rfl

theorem lb_rd (hk : Rd kb (fun a d => H.k (C + a) d)) (hq : Rd q (fun a d => H.q (R + a) d)) :
    Rd (k1_pay3 kb q) (fun a b => H.lb (R + a) (C + b)) := (z_rd H hc hk hq).lsOp

theorem lk_rd (hRC : C + 512 ≤ R) (hk : Rd kb (fun a d => H.k (C + a) d)) (hq : Rd q (fun a d => H.q (R + a) d)) :
    Rd (k1_pay4 kb q) (fun a b => H.lk (R + a) (C + b)) :=
  ((lb_rd H hc hk hq).sub (z_rd H hc hk hq)).congr fun a b _ hb => by
    rw [H.lk_of_lt (by omega)]; rfl

theorem lkL_rd (hRC : C + 512 ≤ R) (hk : Rd kb (fun a d => H.k (C + a) d)) (hq : Rd q (fun a d => H.q (R + a) d)) :
    Rd (k1_pay6 kb q) (fun a b => H.lk (R + a) (C + b)) :=
  ((lk_rd H hc hRC hk hq).slice 0 0 slices_S512x512_o0_0_S512x256).congr fun a b _ _ => by simp only [zero_add]

theorem lkR_rd (hRC : C + 512 ≤ R) (hk : Rd kb (fun a d => H.k (C + a) d)) (hq : Rd q (fun a d => H.q (R + a) d)) :
    Rd (k1_pay7 kb q) (fun a b => H.lk (R + a) (C + 256 + b)) :=
  ((lk_rd H hc hRC hk hq).slice 0 256 slices_S512x512_o0_256_S512x256).congr fun a b _ _ => by simp only [zero_add, add_assoc]

theorem pkL_rd (hRC : C + 512 ≤ R) (hk : Rd kb (fun a d => H.k (C + a) d)) (hq : Rd q (fun a d => H.q (R + a) d))
    (hp : Rd pk (fun a _ => ∑ j ∈ Ico 0 C, H.lk (R + a) j)) :
    Rd (k1_pay8 kb q pk) (fun a _ => ∑ j ∈ Ico 0 (C + 256), H.lk (R + a) j) :=
  (hp.add ((lkL_rd H hc hRC hk hq).rowsum _ _ _ _)).congr fun a b _ hb => by
    rw [sum_block (fun j => H.lk (R + a) j) C 256, sum_Ico_consecutive _ (by omega) (by omega)]

theorem pkR_rd (hRC : C + 512 ≤ R) (hk : Rd kb (fun a d => H.k (C + a) d)) (hq : Rd q (fun a d => H.q (R + a) d))
    (hp : Rd pk (fun a _ => ∑ j ∈ Ico 0 C, H.lk (R + a) j)) :
    Rd (k1_pay10 kb q pk) (fun a _ => ∑ j ∈ Ico 0 (C + 512), H.lk (R + a) j) :=
  ((pkL_rd H hc hRC hk hq hp).add ((lkR_rd H hc hRC hk hq).rowsum _ _ _ _)).congr fun a b _ hb => by
    rw [sum_block (fun j => H.lk (R + a) j) (C + 256) 256, sum_Ico_consecutive _ (by omega) (by omega)]

/-- The running sum of `lk` after a block. -/
theorem pk_rd (hRC : C + 512 ≤ R) (hk : Rd kb (fun a d => H.k (C + a) d)) (hq : Rd q (fun a d => H.q (R + a) d))
    (hp : Rd pk (fun a _ => ∑ j ∈ Ico 0 C, H.lk (R + a) j)) :
    Rd (k1_pay12 (k1_pay10 kb q pk)) (fun a _ => ∑ j ∈ Ico 0 (C + 512), H.lk (R + a) j) :=
  (pkR_rd H hc hRC hk hq hp).same _

theorem sufL_rd (hR : R + 512 ≤ 4096) (hRC : C + 512 ≤ R) (hk : Rd kb (fun a d => H.k (C + a) d)) (hq : Rd q (fun a d => H.q (R + a) d))
    (hp : Rd pk (fun a _ => ∑ j ∈ Ico 0 C, H.lk (R + a) j)) (ht : Rd (k1_pay5 t) (fun a _ => H.tot (R + a))) :
    Rd (k1_pay9 k1_pay50 kb q pk t) (fun a b => ∑ j ∈ Ico (C + b + 1) 4096, H.lk (R + a) j) :=
  ((Rd.splitDot rfl (lkL_rd H hc hRC hk hq) tri none _ _ _).add ((ht.sub (pkL_rd H hc hRC hk hq hp)).bcol _)).congr fun a b _ hb => by
    rw [sum_block_right (fun j => H.lk (R + a) j) C 256 b hb, tot_sub H _ _ (by omega), sum_Ico_consecutive _ (by omega) (by omega)]

/-- The weights of a block. -/
theorem w_rd (hR : R + 512 ≤ 4096) (hRC : C + 512 ≤ R) (hk : Rd kb (fun a d => H.k (C + a) d)) (hq : Rd q (fun a d => H.q (R + a) d))
    (hp : Rd pk (fun a _ => ∑ j ∈ Ico 0 C, H.lk (R + a) j)) (ht : Rd (k1_pay5 t) (fun a _ => H.tot (R + a))) :
    Rd (k1_pay13 k1_pay50 (k1_pay3 kb q) (k1_pay5 t) (k1_pay7 kb q) (k1_pay9 k1_pay50 kb q pk t) (k1_pay10 kb q pk) (k1_pay11 kb q))
      (fun a b => H.W (R + a) (C + b)) := by
  have h1 := (Rd.splitDot (d := dot_S512x256_S256x256_S512x256_1_0_0_1_n_n) rfl (lkR_rd H hc hRC hk hq) tri none
    bitsLt_bf16_f32 bitsLt_bf16_f32 bitsLt_bf16_f32).add ((ht.sub (pkR_rd H hc hRC hk hq hp)).bcol broadcasts_S512x1_S512x256)
  have h2 := (sufL_rd H hc hR hRC hk hq hp ht).cat h1 concatenates_S512x256_S512x256_S512x512_d1
  refine ((lb_rd H hc hk hq).add h2).exp.congr fun a b ha hb => ?_
  unfold Head.W
  rw [if_pos (show C + b < R + a by omega)]
  refine congrArg (fun x => Real.exp (H.lb (R + a) (C + b) + x)) ?_
  by_cases h : b < 256
  · rw [if_pos h]
  · rw [if_neg h, sum_block_right (fun j => H.lk (R + a) j) (C + 256) 256 (b - 256) (by omega), tot_sub H _ _ (by omega),
      show C + 256 + 256 = C + 512 by omega, sum_Ico_consecutive _ (by omega) (by omega), show C + 256 + (b - 256) + 1 = C + b + 1 by omega]

/-- The gradient of the weights of a block, times the weights. -/
theorem de_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a))) :
    Rd (k1_pay14 k1_pay50 (k1_pay3 kb q) (k1_pay5 t) (k1_pay7 kb q) (k1_pay9 k1_pay50 kb q pk t) (k1_pay10 kb q pk) (k1_pay11 kb q) g v)
      (fun a b => H.de (R + a) (C + b)) :=
  (hg.mmT (φ := .bf16) (ψ := .bf16) (d := dot_S512x128_S512x128_S512x512_1_1_0_0_n_n) rfl hv none).mul (w_rd H hc hR hRC hk hq hp ht)

theorem deL_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a))) :
    Rd (k1_pay15 k1_pay50 (k1_pay3 kb q) (k1_pay5 t) (k1_pay7 kb q) (k1_pay9 k1_pay50 kb q pk t) (k1_pay10 kb q pk) (k1_pay11 kb q) g v)
      (fun a b => H.de (R + a) (C + b)) :=
  ((de_rd H hc hR hRC hk hq hv hg hp ht).slice 0 0 slices_S512x512_o0_0_S512x256).congr fun a b _ _ => by simp only [zero_add]

theorem deR_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a))) :
    Rd (k1_pay16 k1_pay50 (k1_pay3 kb q) (k1_pay5 t) (k1_pay7 kb q) (k1_pay9 k1_pay50 kb q pk t) (k1_pay10 kb q pk) (k1_pay11 kb q) g v)
      (fun a b => H.de (R + a) (C + 256 + b)) :=
  ((de_rd H hc hR hRC hk hq hv hg hp ht).slice 0 256 slices_S512x512_o0_256_S512x256).congr fun a b _ _ => by
    simp only [zero_add, add_assoc]

theorem preL_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a)))
    (hd : Rd pd (fun a _ => ∑ j ∈ Ico 0 C, H.de (R + a) j)) :
    Rd (k1_pay17 k1_pay50 k1_pay51 (k1_pay3 kb q) (k1_pay5 t) (k1_pay7 kb q) (k1_pay9 k1_pay50 kb q pk t) (k1_pay10 kb q pk)
      (k1_pay11 kb q) g v pd) (fun a b => ∑ j ∈ Ico 0 (C + b), H.de (R + a) j) :=
  ((Rd.splitDot rfl (deL_rd H hc hR hRC hk hq hv hg hp ht) triU none _ _ _).add (hd.bcol _)).congr fun a b _ hb => by
    rw [sum_block_left (fun j => H.de (R + a) j) C 256 b hb, add_comm, sum_Ico_consecutive _ (by omega) (by omega)]

theorem pdL_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a)))
    (hd : Rd pd (fun a _ => ∑ j ∈ Ico 0 C, H.de (R + a) j)) :
    Rd (k1_pay18 k1_pay50 (k1_pay3 kb q) (k1_pay5 t) (k1_pay7 kb q) (k1_pay9 k1_pay50 kb q pk t) (k1_pay10 kb q pk)
      (k1_pay11 kb q) g v pd) (fun a _ => ∑ j ∈ Ico 0 (C + 256), H.de (R + a) j) :=
  (hd.add ((deL_rd H hc hR hRC hk hq hv hg hp ht).rowsum _ _ _ _)).congr fun a b _ hb => by
    rw [sum_block (fun j => H.de (R + a) j) C 256, sum_Ico_consecutive _ (by omega) (by omega)]

theorem preR_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a)))
    (hd : Rd pd (fun a _ => ∑ j ∈ Ico 0 C, H.de (R + a) j)) :
    Rd (k1_pay19 k1_pay50 k1_pay51 (k1_pay3 kb q) (k1_pay5 t) (k1_pay7 kb q) (k1_pay9 k1_pay50 kb q pk t) (k1_pay10 kb q pk)
      (k1_pay11 kb q) g v pd) (fun a b => ∑ j ∈ Ico 0 (C + 256 + b), H.de (R + a) j) :=
  ((Rd.splitDot rfl (deR_rd H hc hR hRC hk hq hv hg hp ht) triU none _ _ _).add ((pdL_rd H hc hR hRC hk hq hv hg hp ht hd).bcol _)).congr
    fun a b _ hb => by
    rw [sum_block_left (fun j => H.de (R + a) j) (C + 256) 256 b hb, add_comm, sum_Ico_consecutive _ (by omega) (by omega)]

/-- The running sum of `de` after a block. -/
theorem pd_rd (hR : R + 512 ≤ 4096) (hRC : C + 512 ≤ R) (hk : Rd kb (fun a d => H.k (C + a) d)) (hq : Rd q (fun a d => H.q (R + a) d))
    (hv : Rd v (fun a d => H.v (C + a) d)) (hg : Rd g (fun a d => H.g (R + a) d))
    (hp : Rd pk (fun a _ => ∑ j ∈ Ico 0 C, H.lk (R + a) j)) (ht : Rd (k1_pay5 t) (fun a _ => H.tot (R + a)))
    (hd : Rd pd (fun a _ => ∑ j ∈ Ico 0 C, H.de (R + a) j)) :
    Rd (k1_pay20
      (k1_pay16 k1_pay50 (k1_pay3 kb q) (k1_pay5 t) (k1_pay7 kb q) (k1_pay9 k1_pay50 kb q pk t) (k1_pay10 kb q pk) (k1_pay11 kb q) g v)
      (k1_pay18 k1_pay50 (k1_pay3 kb q) (k1_pay5 t) (k1_pay7 kb q) (k1_pay9 k1_pay50 kb q pk t) (k1_pay10 kb q pk) (k1_pay11 kb q) g v pd))
      (fun a _ => ∑ j ∈ Ico 0 (C + 512), H.de (R + a) j) :=
  (((pdL_rd H hc hR hRC hk hq hv hg hp ht hd).add ((deR_rd H hc hR hRC hk hq hv hg hp ht).rowsum _ _ _ _)).same _).congr fun a b _ hb => by
    rw [sum_block (fun j => H.de (R + a) j) (C + 256) 256, sum_Ico_consecutive _ (by omega) (by omega)]

/-- The gradient of the scores of a block. -/
theorem dz_rd {lb de : Vec Ideal S512x512 .f32} {pl pr : Vec Ideal S512x256 .f32} (hRC : C + 512 ≤ R)
    (hb : Rd lb (fun a b => H.lb (R + a) (C + b))) (he : Rd de (fun a b => H.de (R + a) (C + b)))
    (hl : Rd pl (fun a b => ∑ j ∈ Ico 0 (C + b), H.de (R + a) j)) (hr : Rd pr (fun a b => ∑ j ∈ Ico 0 (C + 256 + b), H.de (R + a) j)) :
    Rd (k1_pay21 (F := Ideal) lb de pl pr) (fun a b => H.dz (R + a) (C + b)) := by
  have h1 := hl.cat hr concatenates_S512x256_S512x256_S512x512_d1
  refine (((he.sub (hb.exp.mul (he.add h1))).mul (Rd.splat lit_scale)).trunc bitsLt_bf16_f32).congr fun a b ha hb => ?_
  unfold Head.dz
  rw [if_pos (show C + b < R + a by omega), hc, range_eq_Ico]
  by_cases h : b < 256
  · rw [if_pos h]
  · rw [if_neg h, show C + 256 + (b - 256) = C + b by omega]

omit hc in
/-- A block's part of the gradient of the queries. -/
theorem dq_rd {lb de : Vec Ideal S512x512 .f32} {pl pr : Vec Ideal S512x256 .f32} {x : Vec Ideal S512x128 .f32} {f : ℕ → ℕ → ℝ}
    (hz : Rd (k1_pay21 (F := Ideal) lb de pl pr) (fun a b => H.dz (R + a) (C + b))) (hk : Rd kb (fun a d => H.k (C + a) d)) (hx : Rd x f) :
    Rd (k1_pay22 (F := Ideal) kb lb de pl pr x) (fun a d => f a d + ∑ s ∈ Ico C (C + 512), H.dz (R + a) s * H.k s d) :=
  ((hx.same shapeCasts_S512x128_S512x128).add
    (hz.mm (φ := .bf16) (ψ := .bf16) (d := dot_S512x512_S512x128_S512x128_1_0_0_1_n_n) rfl hk none)).congr fun a d _ _ => by
    rw [sum_block (fun s => H.dz (R + a) s * H.k s d) C 512]

omit hc in
/-- A block's part of the gradient of the values. -/
theorem dv_rd {w : Vec Ideal S512x512 .f32} {x : Vec Ideal S512x128 .f32} {f : ℕ → ℕ → ℝ}
    (hw : Rd w (fun a b => H.W (R + a) (C + b))) (hg : Rd g (fun a d => H.g (R + a) d)) (hx : Rd x f) :
    Rd (k1_pay23 (F := Ideal) w x g) (fun b d => f b d + ∑ t ∈ Ico R (R + 512), H.W t (C + b) * H.g t d) :=
  ((hx.same shapeCasts_S512x128_S512x128).add
    ((hw.trunc (ψ := .bf16) bitsLt_bf16_f32).Tmm (φ := .bf16) (ψ := .bf16) (d := dot_S512x512_S512x128_S512x128_0_0_1_1_n_n)
      rfl rfl rfl rfl rfl rfl hg none)).congr fun b d _ _ => by
    rw [sum_block (fun t => H.W t (C + b) * H.g t d) R 512]

omit hc in
/-- A block's part of the gradient of the keys. -/
theorem dk_rd {lb de : Vec Ideal S512x512 .f32} {pl pr : Vec Ideal S512x256 .f32} {x : Vec Ideal S512x128 .f32} {f : ℕ → ℕ → ℝ}
    (hz : Rd (k1_pay21 (F := Ideal) lb de pl pr) (fun a b => H.dz (R + a) (C + b))) (hq : Rd q (fun a d => H.q (R + a) d)) (hx : Rd x f) :
    Rd (k1_pay24 (F := Ideal) lb de pl pr x q) (fun b d => f b d + ∑ t ∈ Ico R (R + 512), H.dz t (C + b) * H.q t d) :=
  ((hx.same shapeCasts_S512x128_S512x128).add
    (hz.Tmm (φ := .bf16) (ψ := .bf16) (d := dot_S512x512_S512x128_S512x128_0_0_1_1_n_n) rfl rfl rfl rfl rfl rfl hq none)).congr
    fun b d _ _ => by
    rw [sum_block (fun t => H.dz t (C + b) * H.q t d) R 512]

end Trip

section Diag

/-- The mask of the first diagonal part. -/
theorem mask0 (R : ℕ) (hR : R ≤ 4096) : Mk (k1_pay55 (BitVec.ofNat 32 R) (Scalar.addi (BitVec.ofNat 32 R) 0#32)) (fun a b => R + b < R + a) := by
  have e : Scalar.addi (BitVec.ofNat 32 R) 0#32 = BitVec.ofNat 32 R := by
    show BitVec.ofNat 32 R + 0#32 = _
    rw [BitVec.add_zero]
  unfold k1_pay55
  dsimp only
  rw [e]
  exact Nt.sgt ((Nt.splat _).add (Nt.rows _)) ((Nt.splat _).add (Nt.cols _)) (fun a b ha hb => by omega) (fun a b ha hb => by omega)

/-- The mask of the second diagonal part. -/
theorem mask1 (R : ℕ) (hR : R ≤ 4096) : Mk (k1_pay70 (BitVec.ofNat 32 R)) (fun a b => R + 256 + b < R + 256 + a) := by
  have e : Scalar.addi (BitVec.ofNat 32 R) 256#32 = BitVec.ofNat 32 (R + 256) := by
    show BitVec.ofNat 32 R + BitVec.ofNat 32 256 = _
    rw [← BitVec.ofNat_add]
  unfold k1_pay70
  dsimp only
  rw [e]
  exact Nt.sgt ((Nt.splat _).add (Nt.rows _)) ((Nt.splat _).add (Nt.cols _)) (fun a b ha hb => by omega) (fun a b ha hb => by omega)

variable (H : Head) (hc : H.c = scale)

section Part0

variable {R : ℕ} {q g : Vec Ideal S512x128 .bf16} {k v : Vec Ideal S256x128 .bf16} {pk pd : Vec Ideal S512x1 .f32} {t : Vec Ideal S1x512x1 .f32}
  {M : IVec S512x256 1} {lb s : Vec Ideal S512x256 .f32} {u : Vec Ideal S512x1 .f32} {v3 v32 : BitVec 32}

include hc

theorem z0_rd (hk : Rd k (fun a d => H.k (R + a) d)) (hq : Rd q (fun a d => H.q (R + a) d)) :
    Rd (k1_pay56 k q) (fun a b => H.z (R + a) (R + b)) := by
  refine ((hq.mmT rfl hk none).mul (Rd.splat lit_scale)).congr fun a b _ _ => ?_
  rw [← hc]; rfl

theorem lb0_rd (hk : Rd k (fun a d => H.k (R + a) d)) (hq : Rd q (fun a d => H.q (R + a) d)) :
    Rd (k1_pay57 k q) (fun a b => H.lb (R + a) (R + b)) := (z0_rd H hc hk hq).lsOp

theorem lk0_rd (hM : Mk (k1_pay55 v3 v32) (fun a b => R + b < R + a)) (hk : Rd k (fun a d => H.k (R + a) d))
    (hq : Rd q (fun a d => H.q (R + a) d)) : Rd (k1_pay58 v3 v32 k q) (fun a b => H.lk (R + a) (R + b)) :=
  Rd.sel (φ := .f32) hM ((lb0_rd H hc hk hq).sub (z0_rd H hc hk hq)) (Rd.splat lit_zero)

theorem pkn0_rd (hM : Mk (k1_pay55 v3 v32) (fun a b => R + b < R + a)) (hk : Rd k (fun a d => H.k (R + a) d))
    (hq : Rd q (fun a d => H.q (R + a) d)) (hp : Rd pk (fun a _ => ∑ j ∈ Ico 0 R, H.lk (R + a) j)) :
    Rd (k1_pay59 v3 v32 k q pk) (fun a _ => ∑ j ∈ Ico 0 (R + 256), H.lk (R + a) j) :=
  (hp.add ((lk0_rd H hc hM hk hq).rowsum _ _ _ _)).congr fun a b _ hb => by
    rw [sum_block (fun j => H.lk (R + a) j) R 256, sum_Ico_consecutive _ (by omega) (by omega)]

theorem pk0_rd (hM : Mk (k1_pay55 v3 v32) (fun a b => R + b < R + a)) (hk : Rd k (fun a d => H.k (R + a) d))
    (hq : Rd q (fun a d => H.q (R + a) d)) (hp : Rd pk (fun a _ => ∑ j ∈ Ico 0 R, H.lk (R + a) j)) :
    Rd (k1_pay62 (k1_pay59 v3 v32 k q pk)) (fun a _ => ∑ j ∈ Ico 0 (R + 256), H.lk (R + a) j) := (pkn0_rd H hc hM hk hq hp).same _

theorem w0_rd (hR : R + 256 ≤ 4096) (hM : Mk (k1_pay55 v3 v32) (fun a b => R + b < R + a)) (hk : Rd k (fun a d => H.k (R + a) d))
    (hq : Rd q (fun a d => H.q (R + a) d)) (hp : Rd pk (fun a _ => ∑ j ∈ Ico 0 R, H.lk (R + a) j))
    (ht : Rd (shapeCast S512x1 t shapeCasts_S1x512x1_S512x1) (fun a _ => H.tot (R + a))) :
    Rd (k1_pay63 (k1_pay55 v3 v32) (k1_pay57 k q) (k1_pay60 v3 k1_pay50 v32 k q) (k1_pay61 v3 v32 k q pk t)) (fun a b => H.W (R + a) (R + b)) := by
  have h1 := (Rd.splitDot (d := dot_S512x256_S256x256_S512x256_1_0_0_1_n_n) rfl (lk0_rd H hc hM hk hq) tri none
    bitsLt_bf16_f32 bitsLt_bf16_f32 bitsLt_bf16_f32).add ((ht.sub (pkn0_rd H hc hM hk hq hp)).bcol broadcasts_S512x1_S512x256)
  refine (Rd.sel (φ := .f32) hM ((lb0_rd H hc hk hq).add h1).exp (Rd.splat lit_zero)).congr fun a b _ hb => ?_
  unfold Head.W
  refine congrArg (fun x => if R + b < R + a then Real.exp (H.lb (R + a) (R + b) + x) else 0) ?_
  rw [sum_block_right (fun j => H.lk (R + a) j) R 256 b hb, tot_sub H _ _ (by omega), sum_Ico_consecutive _ (by omega) (by omega)]

omit hc in
theorem de0_rd (hw : Rd (k1_pay63 (F := Ideal) M lb s u) (fun a b => H.W (R + a) (R + b)))
    (hg : Rd g (fun a d => H.g (R + a) d)) (hv : Rd v (fun a d => H.v (R + a) d)) :
    Rd (k1_pay64 M lb s u g v) (fun a b => H.de (R + a) (R + b)) :=
  (hg.mmT (φ := .bf16) (ψ := .bf16) (d := dot_S512x128_S256x128_S512x256_1_1_0_0_n_n) rfl hv none).mul hw

omit hc in
theorem pd0_rd (hw : Rd (k1_pay63 (F := Ideal) M lb s u) (fun a b => H.W (R + a) (R + b)))
    (hg : Rd g (fun a d => H.g (R + a) d)) (hv : Rd v (fun a d => H.v (R + a) d))
    (hd : Rd pd (fun a _ => ∑ j ∈ Ico 0 R, H.de (R + a) j)) :
    Rd (k1_pay65 M lb s u g v pd) (fun a _ => ∑ j ∈ Ico 0 (R + 256), H.de (R + a) j) :=
  ((hd.add ((de0_rd H hw hg hv).rowsum _ _ _ _)).same _).congr fun a b _ hb => by
    rw [sum_block (fun j => H.de (R + a) j) R 256, sum_Ico_consecutive _ (by omega) (by omega)]

theorem dz0_rd (hM : Mk M (fun a b => R + b < R + a))
    (hb : Rd lb (fun a b => H.lb (R + a) (R + b))) (hw : Rd (k1_pay63 (F := Ideal) M lb s u) (fun a b => H.W (R + a) (R + b)))
    (hg : Rd g (fun a d => H.g (R + a) d)) (hv : Rd v (fun a d => H.v (R + a) d))
    (hd : Rd pd (fun a _ => ∑ j ∈ Ico 0 R, H.de (R + a) j)) :
    Rd (k1_pay66 k1_pay51 M lb s u g v pd) (fun a b => H.dz (R + a) (R + b)) := by
  have he := de0_rd H hw hg hv
  have h1 := (Rd.splitDot (d := dot_S512x256_S256x256_S512x256_1_0_0_1_n_n) rfl he triU none bitsLt_bf16_f32 bitsLt_bf16_f32 bitsLt_bf16_f32).add (hd.bcol broadcasts_S512x1_S512x256)
  refine ((Rd.sel (φ := .f32) hM ((he.sub (hb.exp.mul (he.add h1))).mul (Rd.splat lit_scale)) (Rd.splat lit_zero)).trunc
    bitsLt_bf16_f32).congr fun a b _ hb => ?_
  unfold Head.dz
  rw [hc, sum_block_left (fun j => H.de (R + a) j) R 256 b hb, range_eq_Ico, add_comm (∑ j ∈ Ico R (R + b), _),
    sum_Ico_consecutive _ (by omega) (by omega)]

omit hc in
theorem dq0_rd {z : Vec Ideal S512x256 .bf16} {x : Vec Ideal S512x128 .f32} {f : ℕ → ℕ → ℝ}
    (hz : Rd z (fun a b => H.dz (R + a) (R + b))) (hk : Rd k (fun a d => H.k (R + a) d)) (hx : Rd x f) :
    Rd (k1_pay67 k z x) (fun a d => f a d + ∑ s ∈ Ico R (R + 256), H.dz (R + a) s * H.k s d) :=
  ((hx.same shapeCasts_S512x128_S512x128).add
    (hz.mm (φ := .bf16) (ψ := .bf16) (d := dot_S512x256_S256x128_S512x128_1_0_0_1_n_n) rfl hk none)).congr fun a d _ _ => by
    rw [sum_block (fun s => H.dz (R + a) s * H.k s d) R 256]

omit hc in
theorem dv0_rd {w : Vec Ideal S512x256 .f32} {x : Vec Ideal S256x128 .f32} {f : ℕ → ℕ → ℝ}
    (hw : Rd w (fun a b => H.W (R + a) (R + b))) (hg : Rd g (fun a d => H.g (R + a) d)) (hx : Rd x f) :
    Rd (k1_pay68 w x g) (fun b d => f b d + ∑ t ∈ Ico R (R + 512), H.W t (R + b) * H.g t d) :=
  ((hx.same shapeCasts_S256x128_S256x128).add
    ((hw.trunc (ψ := .bf16) bitsLt_bf16_f32).Tmm (φ := .bf16) (ψ := .bf16) (d := dot_S512x256_S512x128_S256x128_0_0_1_1_n_n)
      rfl rfl rfl rfl rfl rfl hg none)).congr fun b d _ _ => by
    rw [sum_block (fun t => H.W t (R + b) * H.g t d) R 512]

omit hc in
theorem dk0_rd {z : Vec Ideal S512x256 .bf16} {x : Vec Ideal S256x128 .f32} {f : ℕ → ℕ → ℝ}
    (hz : Rd z (fun a b => H.dz (R + a) (R + b))) (hq : Rd q (fun a d => H.q (R + a) d)) (hx : Rd x f) :
    Rd (k1_pay69 z x q) (fun b d => f b d + ∑ t ∈ Ico R (R + 512), H.dz t (R + b) * H.q t d) :=
  ((hx.same shapeCasts_S256x128_S256x128).add
    (hz.Tmm (φ := .bf16) (ψ := .bf16) (d := dot_S512x256_S512x128_S256x128_0_0_1_1_n_n) rfl rfl rfl rfl rfl rfl hq none)).congr
    fun b d _ _ => by
    rw [sum_block (fun t => H.dz t (R + b) * H.q t d) R 512]

end Part0

section Part1

variable {R : ℕ} {q g : Vec Ideal S256x128 .bf16} {k v : Vec Ideal S256x128 .bf16} {pk pd : Vec Ideal S256x1 .f32} {t : Vec Ideal S1x256x1 .f32}
  {M : IVec S256x256 1} {w : Vec Ideal S256x256 .f32}

include hc

theorem z1_rd (hk : Rd k (fun a d => H.k (R + a) d)) (hq : Rd q (fun a d => H.q (R + a) d)) :
    Rd (k1_pay71 k q) (fun a b => H.z (R + a) (R + b)) := by
  refine ((hq.mmT rfl hk none).mul (Rd.splat lit_scale)).congr fun a b _ _ => ?_
  rw [← hc]; rfl

theorem lb1_rd (hk : Rd k (fun a d => H.k (R + a) d)) (hq : Rd q (fun a d => H.q (R + a) d)) :
    Rd (k1_pay72 (k1_pay71 k q)) (fun a b => H.lb (R + a) (R + b)) := (z1_rd H hc hk hq).lsOp

theorem lk1_rd (hM : Mk M (fun a b => R + b < R + a)) (hk : Rd k (fun a d => H.k (R + a) d))
    (hq : Rd q (fun a d => H.q (R + a) d)) : Rd (k1_pay73 M (k1_pay71 k q)) (fun a b => H.lk (R + a) (R + b)) :=
  Rd.sel (φ := .f32) hM ((lb1_rd H hc hk hq).sub (z1_rd H hc hk hq)) (Rd.splat lit_zero)

theorem pkn1_rd (hM : Mk M (fun a b => R + b < R + a)) (hk : Rd k (fun a d => H.k (R + a) d))
    (hq : Rd q (fun a d => H.q (R + a) d)) (hp : Rd pk (fun a _ => ∑ j ∈ Ico 0 R, H.lk (R + a) j)) :
    Rd (k1_pay74 M (k1_pay71 k q) pk) (fun a _ => ∑ j ∈ Ico 0 (R + 256), H.lk (R + a) j) :=
  (hp.add ((lk1_rd H hc hM hk hq).rowsum _ _ _ _)).congr fun a b _ hb => by
    rw [sum_block (fun j => H.lk (R + a) j) R 256, sum_Ico_consecutive _ (by omega) (by omega)]

theorem pk1_rd (hM : Mk M (fun a b => R + b < R + a)) (hk : Rd k (fun a d => H.k (R + a) d))
    (hq : Rd q (fun a d => H.q (R + a) d)) (hp : Rd pk (fun a _ => ∑ j ∈ Ico 0 R, H.lk (R + a) j)) :
    Rd (k1_pay75 M (k1_pay71 k q) pk) (fun a _ => ∑ j ∈ Ico 0 (R + 256), H.lk (R + a) j) := (pkn1_rd H hc hM hk hq hp).same _

theorem w1_rd (hR : R + 256 ≤ 4096) (hM : Mk M (fun a b => R + b < R + a)) (hk : Rd k (fun a d => H.k (R + a) d))
    (hq : Rd q (fun a d => H.q (R + a) d)) (hp : Rd pk (fun a _ => ∑ j ∈ Ico 0 R, H.lk (R + a) j))
    (ht : Rd (shapeCast S256x1 t shapeCasts_S1x256x1_S256x1) (fun a _ => H.tot (R + a))) :
    Rd (k1_pay76 k1_pay50 M (k1_pay71 k q) pk t) (fun a b => H.W (R + a) (R + b)) := by
  have h1 := (Rd.splitDot (d := dot_S256x256_S256x256_S256x256_1_0_0_1_n_n) rfl (lk1_rd H hc hM hk hq) tri none
    bitsLt_bf16_f32 bitsLt_bf16_f32 bitsLt_bf16_f32).add ((ht.sub (pkn1_rd H hc hM hk hq hp)).bcol broadcasts_S256x1_S256x256)
  refine (Rd.sel (φ := .f32) hM ((lb1_rd H hc hk hq).add h1).exp (Rd.splat lit_zero)).congr fun a b _ hb => ?_
  unfold Head.W
  refine congrArg (fun x => if R + b < R + a then Real.exp (H.lb (R + a) (R + b) + x) else 0) ?_
  rw [sum_block_right (fun j => H.lk (R + a) j) R 256 b hb, tot_sub H _ _ (by omega), sum_Ico_consecutive _ (by omega) (by omega)]

omit hc in
theorem de1_rd (hw : Rd w (fun a b => H.W (R + a) (R + b)))
    (hg : Rd g (fun a d => H.g (R + a) d)) (hv : Rd v (fun a d => H.v (R + a) d)) :
    Rd (k1_pay78 w (k1_pay77 g v)) (fun a b => H.de (R + a) (R + b)) :=
  (hg.mmT (φ := .bf16) (ψ := .bf16) (d := dot_S256x128_S256x128_S256x256_1_1_0_0_n_n) rfl hv none).mul hw

omit hc in
theorem pd1_rd (hw : Rd w (fun a b => H.W (R + a) (R + b)))
    (hg : Rd g (fun a d => H.g (R + a) d)) (hv : Rd v (fun a d => H.v (R + a) d))
    (hd : Rd pd (fun a _ => ∑ j ∈ Ico 0 R, H.de (R + a) j)) :
    Rd (k1_pay79 w (k1_pay77 g v) pd) (fun a _ => ∑ j ∈ Ico 0 (R + 256), H.de (R + a) j) :=
  ((hd.add ((de1_rd H hw hg hv).rowsum _ _ _ _)).same _).congr fun a b _ hb => by
    rw [sum_block (fun j => H.de (R + a) j) R 256, sum_Ico_consecutive _ (by omega) (by omega)]

theorem dz1_rd (hM : Mk M (fun a b => R + b < R + a)) {lb : Vec Ideal S256x256 .f32}
    (hb : Rd lb (fun a b => H.lb (R + a) (R + b))) (hw : Rd w (fun a b => H.W (R + a) (R + b)))
    (hg : Rd g (fun a d => H.g (R + a) d)) (hv : Rd v (fun a d => H.v (R + a) d))
    (hd : Rd pd (fun a _ => ∑ j ∈ Ico 0 R, H.de (R + a) j)) :
    Rd (k1_pay80 k1_pay51 M lb w (k1_pay77 g v) pd) (fun a b => H.dz (R + a) (R + b)) := by
  have he := de1_rd H hw hg hv
  have h1 := (Rd.splitDot (d := dot_S256x256_S256x256_S256x256_1_0_0_1_n_n) rfl he triU none bitsLt_bf16_f32 bitsLt_bf16_f32 bitsLt_bf16_f32).add (hd.bcol broadcasts_S256x1_S256x256)
  refine ((Rd.sel (φ := .f32) hM ((he.sub (hb.exp.mul (he.add h1))).mul (Rd.splat lit_scale)) (Rd.splat lit_zero)).trunc
    bitsLt_bf16_f32).congr fun a b _ hb => ?_
  unfold Head.dz
  rw [hc, sum_block_left (fun j => H.de (R + a) j) R 256 b hb, range_eq_Ico, add_comm (∑ j ∈ Ico R (R + b), _),
    sum_Ico_consecutive _ (by omega) (by omega)]

omit hc in
theorem dq1_rd {gv lb : Vec Ideal S256x256 .f32} {x : Vec Ideal S256x128 .f32} {f : ℕ → ℕ → ℝ}
    (hz : Rd (k1_pay80 k1_pay51 M lb w gv pd) (fun a b => H.dz (R + a) (R + b))) (hk : Rd k (fun a d => H.k (R + a) d)) (hx : Rd x f) :
    Rd (k1_pay81 k1_pay51 M k lb w gv pd x) (fun a d => f a d + ∑ s ∈ Ico R (R + 256), H.dz (R + a) s * H.k s d) :=
  ((hx.same shapeCasts_S256x128_S256x128).add
    (hz.mm (φ := .bf16) (ψ := .bf16) (d := dot_S256x256_S256x128_S256x128_1_0_0_1_n_n) rfl hk none)).congr fun a d _ _ => by
    rw [sum_block (fun s => H.dz (R + a) s * H.k s d) R 256]

omit hc in
theorem dv1_rd {w : Vec Ideal S256x256 .f32} {x : Vec Ideal S256x128 .f32} {f : ℕ → ℕ → ℝ}
    (hw : Rd w (fun a b => H.W (R + a) (R + b))) (hg : Rd g (fun a d => H.g (R + a) d)) (hx : Rd x f) :
    Rd (k1_pay82 w x g) (fun b d => f b d + ∑ t ∈ Ico R (R + 256), H.W t (R + b) * H.g t d) :=
  ((hx.same shapeCasts_S256x128_S256x128).add
    ((hw.trunc (ψ := .bf16) bitsLt_bf16_f32).Tmm (φ := .bf16) (ψ := .bf16) (d := dot_S256x256_S256x128_S256x128_0_0_1_1_n_n)
      rfl rfl rfl rfl rfl rfl hg none)).congr fun b d _ _ => by
    rw [sum_block (fun t => H.W t (R + b) * H.g t d) R 256]

omit hc in
theorem dk1_rd {z : Vec Ideal S256x256 .bf16} {x : Vec Ideal S256x128 .f32} {f : ℕ → ℕ → ℝ}
    (hz : Rd z (fun a b => H.dz (R + a) (R + b))) (hq : Rd q (fun a d => H.q (R + a) d)) (hx : Rd x f) :
    Rd (k1_pay1 z x q) (fun b d => f b d + ∑ t ∈ Ico R (R + 256), H.dz t (R + b) * H.q t d) :=
  ((hx.same shapeCasts_S256x128_S256x128).add
    (hz.Tmm (φ := .bf16) (ψ := .bf16) (d := dot_S256x256_S256x128_S256x128_0_0_1_1_n_n) rfl rfl rfl rfl rfl rfl hq none)).congr
    fun b d _ _ => by
    rw [sum_block (fun t => H.dz t (R + b) * H.q t d) R 256]

end Part1

end Diag

end Cert.Sb.Bwd

end
-- ==== Proof.BwdVal.lean ====
/- What the backward kernel's loop leaves at a point of its grid. -/
module

public import proofs.«01_k».proof.Proof.BwdPay
public import proofs.«01_k».proof.Proof.FwdVal

@[expose] public section

set_option maxRecDepth 16384

noncomputable section

namespace Cert.Sb.Bwd

open Idealize.ShloMosaic hiding ix0 ix1 ix2 ix3 eq_ix1 eq_ix2 eq_ix3
open Idealize.ShloMosaic.ValueIdx Finset
open Cert.KernelIdeal Cert.KernelIdeal.Gen

theorem off3_0 (i : grid1.Coords) : k1_off3 i 0#32 = ![(i 1).val * 512, 0] := by
  have h : ∀ x : Fin 8, (Scalar.addi (Scalar.muli (BitVec.ofNat 32 x.val) 512#32) 0#32).toNat = x.val * 512 := by decide
  exact congrArg (fun x => ![x, 0]) (h (i 1))

theorem off3_256 (i : grid1.Coords) : k1_off3 i 256#32 = ![(i 1).val * 512 + 256, 0] := by
  have h : ∀ x : Fin 8, (Scalar.addi (Scalar.muli (BitVec.ofNat 32 x.val) 512#32) 256#32).toNat = x.val * 512 + 256 := by decide
  exact congrArg (fun x => ![x, 0]) (h (i 1))

theorem trips1 (i : grid1.Coords) : (k1_t1_loop i).trips = (i 1).val := by
  have h : ∀ x : Fin 8, Scf.trips 0#32 (Scalar.addi 0#32 (Scalar.muli (Scalar.divsi (Scalar.subi (Scalar.muli (BitVec.ofNat 32 x.val) 1#32) 0#32) 1#32) 1#32))
      1#32 = x.val := by decide
  exact h (i 1)

theorem off1 (i : grid1.Coords) (k : Fin (k1_t1_loop i).trips) : k1_off1 i k = ![k.val * 512, 0] := by
  have h : ∀ (y : Fin 8), (Scalar.muli (Scf.iv 0#32 1#32 y.val) 512#32).toNat = y.val * 512 := by decide
  have hk : k.val < (i 1).val := lt_of_lt_of_eq k.isLt (trips1 i)
  have hi : (i 1).val < 8 := (i 1).isLt
  exact congrArg (fun x => ![x, 0]) (h ⟨k.val, by omega⟩)

/-- The real matrix `f` with `e` added to its first `n` rows. -/
def upd (n : ℕ) (f e : ℕ → ℕ → ℝ) : ℕ → ℕ → ℝ := fun s d => f s d + if s < n then e s d else 0

theorem put_upd (n k : ℕ) (f e : ℕ → ℕ → ℝ) (s d : ℕ) :
    put n k (fun b d => upd n f e (n + b) d + e (n + b) d) (upd n f e) s d = upd (n + k) f e s d := by
  unfold put upd
  by_cases h : n ≤ s ∧ s < n + k
  · rw [if_pos h]
    dsimp only
    rw [show n + (s - n) = s by omega, if_neg (by omega), if_pos (by omega), add_zero]
  · rw [if_neg h]
    by_cases h' : s < n
    · rw [if_pos h', if_pos (by omega)]
    · rw [if_neg h', if_neg (by omega)]

/-- The rows of the diagonal, put in two parts, complete the sum over a block of rows. -/
theorem put_end (w x : ℕ → ℕ → ℝ) (R : ℕ) (f : ℕ → ℕ → ℝ) (s d : ℕ) (hw : ∀ t s, t ≤ s → w t s = 0) :
    put (R + 256) 256 (fun b d => put R 256 (fun b d => upd R f (fun s d => ∑ t ∈ Ico R (R + 512), w t s * x t d) (R + b) d
          + ∑ t ∈ Ico R (R + 512), w t (R + b) * x t d) (upd R f fun s d => ∑ t ∈ Ico R (R + 512), w t s * x t d) (R + 256 + b) d
        + ∑ t ∈ Ico (R + 256) (R + 256 + 256), w t (R + 256 + b) * x t d)
      (put R 256 (fun b d => upd R f (fun s d => ∑ t ∈ Ico R (R + 512), w t s * x t d) (R + b) d
        + ∑ t ∈ Ico R (R + 512), w t (R + b) * x t d) (upd R f fun s d => ∑ t ∈ Ico R (R + 512), w t s * x t d)) s d
      = f s d + ∑ t ∈ Ico R (R + 512), w t s * x t d := by
  have e : put R 256 (fun b d => upd R f (fun s d => ∑ t ∈ Ico R (R + 512), w t s * x t d) (R + b) d
        + ∑ t ∈ Ico R (R + 512), w t (R + b) * x t d) (upd R f fun s d => ∑ t ∈ Ico R (R + 512), w t s * x t d)
      = upd (R + 256) f fun s d => ∑ t ∈ Ico R (R + 512), w t s * x t d :=
    funext fun s => funext fun d => put_upd R 256 f (fun s d => ∑ t ∈ Ico R (R + 512), w t s * x t d) s d
  rw [e]
  unfold put upd
  by_cases h : R + 256 ≤ s ∧ s < R + 256 + 256
  · rw [if_pos h]
    dsimp only
    rw [show R + 256 + (s - (R + 256)) = s by omega, if_neg (by omega), add_zero]
    refine congrArg (f s d + ·) (sum_subset ?_ ?_)
    · intro t h; simp only [mem_Ico] at *; omega
    · intro t h h'; simp only [mem_Ico] at *; rw [hw t s (by omega), zero_mul]
  · rw [if_neg h]
    by_cases h' : s < R + 256
    · rw [if_pos h']
    · rw [if_neg h', sum_eq_zero fun t ht => ?_]
      simp only [mem_Ico] at ht
      rw [hw t s (by omega), zero_mul]

/-- The rows of the gradient of q after the diagonal. -/
theorem dq_end (H : Head) (R a d : ℕ) (ha : a < 512) (hR : R + 512 ≤ 4096) :
    put 256 256 (fun a d => (∑ s ∈ Ico 0 R, H.dz (R + (256 + a)) s * H.k s d + ∑ s ∈ Ico R (R + 256), H.dz (R + (256 + a)) s * H.k s d)
        + ∑ s ∈ Ico (R + 256) (R + 256 + 256), H.dz (R + 256 + a) s * H.k s d)
      (fun a d => ∑ s ∈ Ico 0 R, H.dz (R + a) s * H.k s d + ∑ s ∈ Ico R (R + 256), H.dz (R + a) s * H.k s d) a d = H.dq (R + a) d := by
  have e : H.dq (R + a) d = ∑ s ∈ Ico 0 (R + 512), H.dz (R + a) s * H.k s d := by
    unfold Head.dq
    rw [range_eq_Ico]
    exact Head.sum_mul_top (w := fun s => H.dz (R + a) s) (fun s hs => H.dz_of_le hs) (by omega) hR
  rw [e]
  unfold put
  by_cases h : 256 ≤ a ∧ a < 256 + 256
  · rw [if_pos h]
    dsimp only
    rw [show R + (256 + (a - 256)) = R + a by omega, show R + 256 + (a - 256) = R + a by omega,
      sum_Ico_consecutive _ (by omega) (by omega), sum_Ico_consecutive _ (by omega) (by omega)]
  · rw [if_neg h]
    dsimp only
    rw [sum_Ico_consecutive _ (by omega) (by omega)]
    exact (Head.sum_mul_top (w := fun s => H.dz (R + a) s) (fun s hs => H.dz_of_le hs) (by omega) (by omega)).symm

theorem zero48 : Rd (k1_pay48 (F := Ideal)) (fun _ _ => 0) := Rd.splat lit_zero
theorem zero49 : Rd (k1_pay49 (F := Ideal)) (fun _ _ => 0) := Rd.splat lit_zero
theorem zero52 : Rd (k1_pay52 (F := Ideal)) (fun _ _ => 0) := Rd.splat lit_zero
theorem zero53 : Rd (k1_pay53 (F := Ideal)) (fun _ _ => 0) := (Rd.splat lit_zero).same _
theorem zero54 : Rd (k1_pay54 (F := Ideal)) (fun _ _ => 0) := (Rd.splat lit_zero).same _

theorem rdq1 (f : ℕ → ℕ → ℝ) {R : ℕ} {x0 : Vec Ideal S512x128 .bf16} {arg2 : Memref sig .tc .vmem S512x128 .bf16} (harg2 : arg2.IsWhole)
    (hq : Rd x0 (fun a d => f (R + a) d)) {inb} :
    Rd (n := 256) (m := 128) (arg2.view.readAt (Elt Ideal) (Rect.unit (s := S512x128) ![256, 0] ![256, 128] inb).toLoadRect (harg2.unread x0))
      (fun a d => f (R + 256 + a) d) :=
  (Rd.rowsB (hq.unB harg2) rfl).congr fun a d _ _ => by rw [Nat.add_assoc]

section

variable (𝒱 : Variants) (c : Dev nD) (bd : Option 𝒱.V)
  (i : grid1.Coords) (arg2 : Memref sig .tc .vmem S512x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S512x128 .bf16) (harg5 : arg5.IsWhole) (arg6 : Memref sig .tc .vmem S1x512x1 .f32) (harg6 : arg6.IsWhole)
  (arg7 : Memref sig .tc .vmem S512x128 .f32) (harg7 : arg7.IsWhole) (arg8 : Memref sig .tc .vmem S4096x128 .f32) (harg8 : arg8.IsWhole)
  (arg9 : Memref sig .tc .vmem S4096x128 .f32) (harg9 : arg9.IsWhole) (arg10 : Memref sig .tc .vmem S512x1 .f32) (harg10 : arg10.IsWhole)
  (arg11 : Memref sig .tc .vmem S512x1 .f32) (harg11 : arg11.IsWhole)
  (H : Head) (hc : H.c = scale)

include hc

/-- What a trip leaves in the block of the gradient of q. -/
theorem step7_rd {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    (k : Fin (k1_t1_loop i).trips) {f8 f9 : ℕ → ℕ → ℝ}
    {F7 : arg7.view.ty.Contents (Elt Ideal)} {F8 : arg8.view.ty.Contents (Elt Ideal)} {F9 : arg9.view.ty.Contents (Elt Ideal)}
    {F10 : arg10.view.ty.Contents (Elt Ideal)} {F11 : arg11.view.ty.Contents (Elt Ideal)}
    (i7 : Rd (arg7.view.read (Elt Ideal) F7) (fun a d => ∑ s ∈ Ico 0 (k.val * 512), H.dz ((i 1).val * 512 + a) s * H.k s d))
    (i8 : Rd (arg8.view.read (Elt Ideal) F8) (upd (k.val * 512) f8 fun s d => ∑ t ∈ Ico ((i 1).val * 512) ((i 1).val * 512 + 512), H.dz t s * H.q t d))
    (i9 : Rd (arg9.view.read (Elt Ideal) F9) (upd (k.val * 512) f9 fun s d => ∑ t ∈ Ico ((i 1).val * 512) ((i 1).val * 512 + 512), H.W t s * H.g t d))
    (i10 : Rd (arg10.view.read (Elt Ideal) F10) (fun a _ => ∑ j ∈ Ico 0 (k.val * 512), H.lk ((i 1).val * 512 + a) j))
    (i11 : Rd (arg11.view.read (Elt Ideal) F11) (fun a _ => ∑ j ∈ Ico 0 (k.val * 512), H.de ((i 1).val * 512 + a) j)) :
    Rd (arg7.view.read (Elt Ideal) (arg7.view.writes (Elt Ideal) F7 ((trip_k1_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k).1 F7 F8 F9 F10 F11)))
      (fun a d => ∑ s ∈ Ico 0 (k.val * 512 + 512), H.dz ((i 1).val * 512 + a) s * H.k s d) := by
  have hi : (i 1).val < 8 := (i 1).isLt
  have hk' : k.val < (i 1).val := lt_of_lt_of_eq k.isLt (trips1 i)
  have hR : (i 1).val * 512 + 512 ≤ 4096 := by omega
  have hRC : k.val * 512 + 512 ≤ (i 1).val * 512 := by omega
  have kb := Rd.rowsB (k := 512) (l := 128) (hk.unB harg3) (off1 i k) (inb := k1_off1_inb i k)
  have vb := Rd.rowsB (k := 512) (l := 128) (hv.unB harg4) (off1 i k) (inb := k1_off1_inb i k)
  have qb := Rd.allB (hq.unB harg2) (inb := inb_S512x128_S512x128_0_0)
  have gb := Rd.allB (hg.unB harg5) (inb := inb_S512x128_S512x128_0_0)
  have tb : Rd (k1_pay5 (F := Ideal) (arg6.view.readAt (Elt Ideal) (Rect.unit (s := S1x512x1) ![0, 0, 0] ![1, 512, 1] inb_S1x512x1_S1x512x1_0_0_0).toLoadRect
    (harg6.unread x4))) (fun a _ => H.tot ((i 1).val * 512 + a)) := ((ht.un harg6).all (inb := inb_S1x512x1_S1x512x1_0_0_0)).flat shapeCasts_S1x512x1_S512x1
  have pb := Rd.all i10 (inb := inb_S512x1_S512x1_0_0)
  have db := Rd.all i11 (inb := inb_S512x1_S512x1_0_0)
  have zb := dz_rd H hc hRC (lb_rd H hc kb qb) (de_rd H hc hR hRC kb qb vb gb pb tb) (preL_rd H hc hR hRC kb qb vb gb pb tb db)
    (preR_rd H hc hR hRC kb qb vb gb pb tb db)
  unfold trip_k1_t1
  dsimp only
  sl_unfold_words
  refine Rd.putAll ((dq_rd H zb kb (Rd.all i7)).congr fun a d _ _ => ?_)
  rw [sum_Ico_consecutive _ (by omega) (by omega)]

/-- What a trip leaves in the block of the gradient of k. -/
theorem step8_rd {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    (k : Fin (k1_t1_loop i).trips) {f8 f9 : ℕ → ℕ → ℝ}
    {F7 : arg7.view.ty.Contents (Elt Ideal)} {F8 : arg8.view.ty.Contents (Elt Ideal)} {F9 : arg9.view.ty.Contents (Elt Ideal)}
    {F10 : arg10.view.ty.Contents (Elt Ideal)} {F11 : arg11.view.ty.Contents (Elt Ideal)}
    (i7 : Rd (arg7.view.read (Elt Ideal) F7) (fun a d => ∑ s ∈ Ico 0 (k.val * 512), H.dz ((i 1).val * 512 + a) s * H.k s d))
    (i8 : Rd (arg8.view.read (Elt Ideal) F8) (upd (k.val * 512) f8 fun s d => ∑ t ∈ Ico ((i 1).val * 512) ((i 1).val * 512 + 512), H.dz t s * H.q t d))
    (i9 : Rd (arg9.view.read (Elt Ideal) F9) (upd (k.val * 512) f9 fun s d => ∑ t ∈ Ico ((i 1).val * 512) ((i 1).val * 512 + 512), H.W t s * H.g t d))
    (i10 : Rd (arg10.view.read (Elt Ideal) F10) (fun a _ => ∑ j ∈ Ico 0 (k.val * 512), H.lk ((i 1).val * 512 + a) j))
    (i11 : Rd (arg11.view.read (Elt Ideal) F11) (fun a _ => ∑ j ∈ Ico 0 (k.val * 512), H.de ((i 1).val * 512 + a) j)) :
    Rd (arg8.view.read (Elt Ideal) (arg8.view.writes (Elt Ideal) F8 ((trip_k1_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k).2.1 F7 F8 F9 F10 F11)))
      (upd (k.val * 512 + 512) f8 fun s d => ∑ t ∈ Ico ((i 1).val * 512) ((i 1).val * 512 + 512), H.dz t s * H.q t d) := by
  have hi : (i 1).val < 8 := (i 1).isLt
  have hk' : k.val < (i 1).val := lt_of_lt_of_eq k.isLt (trips1 i)
  have hR : (i 1).val * 512 + 512 ≤ 4096 := by omega
  have hRC : k.val * 512 + 512 ≤ (i 1).val * 512 := by omega
  have kb := Rd.rowsB (k := 512) (l := 128) (hk.unB harg3) (off1 i k) (inb := k1_off1_inb i k)
  have vb := Rd.rowsB (k := 512) (l := 128) (hv.unB harg4) (off1 i k) (inb := k1_off1_inb i k)
  have qb := Rd.allB (hq.unB harg2) (inb := inb_S512x128_S512x128_0_0)
  have gb := Rd.allB (hg.unB harg5) (inb := inb_S512x128_S512x128_0_0)
  have tb : Rd (k1_pay5 (F := Ideal) (arg6.view.readAt (Elt Ideal) (Rect.unit (s := S1x512x1) ![0, 0, 0] ![1, 512, 1] inb_S1x512x1_S1x512x1_0_0_0).toLoadRect
    (harg6.unread x4))) (fun a _ => H.tot ((i 1).val * 512 + a)) := ((ht.un harg6).all (inb := inb_S1x512x1_S1x512x1_0_0_0)).flat shapeCasts_S1x512x1_S512x1
  have pb := Rd.all i10 (inb := inb_S512x1_S512x1_0_0)
  have db := Rd.all i11 (inb := inb_S512x1_S512x1_0_0)
  have zb := dz_rd H hc hRC (lb_rd H hc kb qb) (de_rd H hc hR hRC kb qb vb gb pb tb) (preL_rd H hc hR hRC kb qb vb gb pb tb db)
    (preR_rd H hc hR hRC kb qb vb gb pb tb db)
  unfold trip_k1_t1
  dsimp only
  sl_unfold_words
  refine (Rd.putRows (dk_rd H zb qb (Rd.rows i8 (off1 i k))) i8 (off1 i k)).congr fun s d _ _ => ?_
  exact put_upd _ _ _ _ _ _

/-- What a trip leaves in the block of the gradient of v. -/
theorem step9_rd {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    (k : Fin (k1_t1_loop i).trips) {f8 f9 : ℕ → ℕ → ℝ}
    {F7 : arg7.view.ty.Contents (Elt Ideal)} {F8 : arg8.view.ty.Contents (Elt Ideal)} {F9 : arg9.view.ty.Contents (Elt Ideal)}
    {F10 : arg10.view.ty.Contents (Elt Ideal)} {F11 : arg11.view.ty.Contents (Elt Ideal)}
    (i7 : Rd (arg7.view.read (Elt Ideal) F7) (fun a d => ∑ s ∈ Ico 0 (k.val * 512), H.dz ((i 1).val * 512 + a) s * H.k s d))
    (i8 : Rd (arg8.view.read (Elt Ideal) F8) (upd (k.val * 512) f8 fun s d => ∑ t ∈ Ico ((i 1).val * 512) ((i 1).val * 512 + 512), H.dz t s * H.q t d))
    (i9 : Rd (arg9.view.read (Elt Ideal) F9) (upd (k.val * 512) f9 fun s d => ∑ t ∈ Ico ((i 1).val * 512) ((i 1).val * 512 + 512), H.W t s * H.g t d))
    (i10 : Rd (arg10.view.read (Elt Ideal) F10) (fun a _ => ∑ j ∈ Ico 0 (k.val * 512), H.lk ((i 1).val * 512 + a) j))
    (i11 : Rd (arg11.view.read (Elt Ideal) F11) (fun a _ => ∑ j ∈ Ico 0 (k.val * 512), H.de ((i 1).val * 512 + a) j)) :
    Rd (arg9.view.read (Elt Ideal) (arg9.view.writes (Elt Ideal) F9 ((trip_k1_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k).2.2.1 F7 F8 F9 F10 F11)))
      (upd (k.val * 512 + 512) f9 fun s d => ∑ t ∈ Ico ((i 1).val * 512) ((i 1).val * 512 + 512), H.W t s * H.g t d) := by
  have hi : (i 1).val < 8 := (i 1).isLt
  have hk' : k.val < (i 1).val := lt_of_lt_of_eq k.isLt (trips1 i)
  have hR : (i 1).val * 512 + 512 ≤ 4096 := by omega
  have hRC : k.val * 512 + 512 ≤ (i 1).val * 512 := by omega
  have kb := Rd.rowsB (k := 512) (l := 128) (hk.unB harg3) (off1 i k) (inb := k1_off1_inb i k)
  have vb := Rd.rowsB (k := 512) (l := 128) (hv.unB harg4) (off1 i k) (inb := k1_off1_inb i k)
  have qb := Rd.allB (hq.unB harg2) (inb := inb_S512x128_S512x128_0_0)
  have gb := Rd.allB (hg.unB harg5) (inb := inb_S512x128_S512x128_0_0)
  have tb : Rd (k1_pay5 (F := Ideal) (arg6.view.readAt (Elt Ideal) (Rect.unit (s := S1x512x1) ![0, 0, 0] ![1, 512, 1] inb_S1x512x1_S1x512x1_0_0_0).toLoadRect
    (harg6.unread x4))) (fun a _ => H.tot ((i 1).val * 512 + a)) := ((ht.un harg6).all (inb := inb_S1x512x1_S1x512x1_0_0_0)).flat shapeCasts_S1x512x1_S512x1
  have pb := Rd.all i10 (inb := inb_S512x1_S512x1_0_0)
  have db := Rd.all i11 (inb := inb_S512x1_S512x1_0_0)
  unfold trip_k1_t1
  dsimp only
  sl_unfold_words
  refine (Rd.putRows (dv_rd H (w_rd H hc hR hRC kb qb pb tb) gb (Rd.rows i9 (off1 i k))) i9 (off1 i k)).congr fun s d _ _ => ?_
  exact put_upd _ _ _ _ _ _

/-- What a trip leaves in the block of the first running sum. -/
theorem step10_rd {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    (k : Fin (k1_t1_loop i).trips) {f8 f9 : ℕ → ℕ → ℝ}
    {F7 : arg7.view.ty.Contents (Elt Ideal)} {F8 : arg8.view.ty.Contents (Elt Ideal)} {F9 : arg9.view.ty.Contents (Elt Ideal)}
    {F10 : arg10.view.ty.Contents (Elt Ideal)} {F11 : arg11.view.ty.Contents (Elt Ideal)}
    (i7 : Rd (arg7.view.read (Elt Ideal) F7) (fun a d => ∑ s ∈ Ico 0 (k.val * 512), H.dz ((i 1).val * 512 + a) s * H.k s d))
    (i8 : Rd (arg8.view.read (Elt Ideal) F8) (upd (k.val * 512) f8 fun s d => ∑ t ∈ Ico ((i 1).val * 512) ((i 1).val * 512 + 512), H.dz t s * H.q t d))
    (i9 : Rd (arg9.view.read (Elt Ideal) F9) (upd (k.val * 512) f9 fun s d => ∑ t ∈ Ico ((i 1).val * 512) ((i 1).val * 512 + 512), H.W t s * H.g t d))
    (i10 : Rd (arg10.view.read (Elt Ideal) F10) (fun a _ => ∑ j ∈ Ico 0 (k.val * 512), H.lk ((i 1).val * 512 + a) j))
    (i11 : Rd (arg11.view.read (Elt Ideal) F11) (fun a _ => ∑ j ∈ Ico 0 (k.val * 512), H.de ((i 1).val * 512 + a) j)) :
    Rd (arg10.view.read (Elt Ideal) (arg10.view.writes (Elt Ideal) F10 ((trip_k1_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k).2.2.2.1 F7 F8 F9 F10 F11)))
      (fun a _ => ∑ j ∈ Ico 0 (k.val * 512 + 512), H.lk ((i 1).val * 512 + a) j) := by
  have hi : (i 1).val < 8 := (i 1).isLt
  have hk' : k.val < (i 1).val := lt_of_lt_of_eq k.isLt (trips1 i)
  have hR : (i 1).val * 512 + 512 ≤ 4096 := by omega
  have hRC : k.val * 512 + 512 ≤ (i 1).val * 512 := by omega
  have kb := Rd.rowsB (k := 512) (l := 128) (hk.unB harg3) (off1 i k) (inb := k1_off1_inb i k)
  have vb := Rd.rowsB (k := 512) (l := 128) (hv.unB harg4) (off1 i k) (inb := k1_off1_inb i k)
  have qb := Rd.allB (hq.unB harg2) (inb := inb_S512x128_S512x128_0_0)
  have gb := Rd.allB (hg.unB harg5) (inb := inb_S512x128_S512x128_0_0)
  have tb : Rd (k1_pay5 (F := Ideal) (arg6.view.readAt (Elt Ideal) (Rect.unit (s := S1x512x1) ![0, 0, 0] ![1, 512, 1] inb_S1x512x1_S1x512x1_0_0_0).toLoadRect
    (harg6.unread x4))) (fun a _ => H.tot ((i 1).val * 512 + a)) := ((ht.un harg6).all (inb := inb_S1x512x1_S1x512x1_0_0_0)).flat shapeCasts_S1x512x1_S512x1
  have pb := Rd.all i10 (inb := inb_S512x1_S512x1_0_0)
  have db := Rd.all i11 (inb := inb_S512x1_S512x1_0_0)
  unfold trip_k1_t1
  dsimp only
  sl_unfold_words
  exact Rd.putAll (pk_rd H hc hRC kb qb pb)

/-- What a trip leaves in the block of the second running sum. -/
theorem step11_rd {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    (k : Fin (k1_t1_loop i).trips) {f8 f9 : ℕ → ℕ → ℝ}
    {F7 : arg7.view.ty.Contents (Elt Ideal)} {F8 : arg8.view.ty.Contents (Elt Ideal)} {F9 : arg9.view.ty.Contents (Elt Ideal)}
    {F10 : arg10.view.ty.Contents (Elt Ideal)} {F11 : arg11.view.ty.Contents (Elt Ideal)}
    (i7 : Rd (arg7.view.read (Elt Ideal) F7) (fun a d => ∑ s ∈ Ico 0 (k.val * 512), H.dz ((i 1).val * 512 + a) s * H.k s d))
    (i8 : Rd (arg8.view.read (Elt Ideal) F8) (upd (k.val * 512) f8 fun s d => ∑ t ∈ Ico ((i 1).val * 512) ((i 1).val * 512 + 512), H.dz t s * H.q t d))
    (i9 : Rd (arg9.view.read (Elt Ideal) F9) (upd (k.val * 512) f9 fun s d => ∑ t ∈ Ico ((i 1).val * 512) ((i 1).val * 512 + 512), H.W t s * H.g t d))
    (i10 : Rd (arg10.view.read (Elt Ideal) F10) (fun a _ => ∑ j ∈ Ico 0 (k.val * 512), H.lk ((i 1).val * 512 + a) j))
    (i11 : Rd (arg11.view.read (Elt Ideal) F11) (fun a _ => ∑ j ∈ Ico 0 (k.val * 512), H.de ((i 1).val * 512 + a) j)) :
    Rd (arg11.view.read (Elt Ideal) (arg11.view.writes (Elt Ideal) F11 ((trip_k1_t1 (F := Ideal) 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k).2.2.2.2.1 F7 F8 F9 F10 F11)))
      (fun a _ => ∑ j ∈ Ico 0 (k.val * 512 + 512), H.de ((i 1).val * 512 + a) j) := by
  have hi : (i 1).val < 8 := (i 1).isLt
  have hk' : k.val < (i 1).val := lt_of_lt_of_eq k.isLt (trips1 i)
  have hR : (i 1).val * 512 + 512 ≤ 4096 := by omega
  have hRC : k.val * 512 + 512 ≤ (i 1).val * 512 := by omega
  have kb := Rd.rowsB (k := 512) (l := 128) (hk.unB harg3) (off1 i k) (inb := k1_off1_inb i k)
  have vb := Rd.rowsB (k := 512) (l := 128) (hv.unB harg4) (off1 i k) (inb := k1_off1_inb i k)
  have qb := Rd.allB (hq.unB harg2) (inb := inb_S512x128_S512x128_0_0)
  have gb := Rd.allB (hg.unB harg5) (inb := inb_S512x128_S512x128_0_0)
  have tb : Rd (k1_pay5 (F := Ideal) (arg6.view.readAt (Elt Ideal) (Rect.unit (s := S1x512x1) ![0, 0, 0] ![1, 512, 1] inb_S1x512x1_S1x512x1_0_0_0).toLoadRect
    (harg6.unread x4))) (fun a _ => H.tot ((i 1).val * 512 + a)) := ((ht.un harg6).all (inb := inb_S1x512x1_S1x512x1_0_0_0)).flat shapeCasts_S1x512x1_S512x1
  have pb := Rd.all i10 (inb := inb_S512x1_S512x1_0_0)
  have db := Rd.all i11 (inb := inb_S512x1_S512x1_0_0)
  unfold trip_k1_t1
  dsimp only
  sl_unfold_words
  exact Rd.putAll (pd_rd H hc hR hRC kb qb vb gb pb tb db)

/-- The three output blocks and the two scratch buffers before trip `n` of the loop over the blocks to the left of the diagonal. -/
theorem loop_rd {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    (G7 : arg7.view.ty.Contents (Elt Ideal)) (G8 : arg8.view.ty.Contents (Elt Ideal)) (G9 : arg9.view.ty.Contents (Elt Ideal))
    (G10 : arg10.view.ty.Contents (Elt Ideal)) (G11 : arg11.view.ty.Contents (Elt Ideal)) {f8 f9 : ℕ → ℕ → ℝ}
    (h7 : Rd (arg7.view.read (Elt Ideal) G7) (fun _ _ => 0)) (h8 : Rd (arg8.view.read (Elt Ideal) G8) f8)
    (h9 : Rd (arg9.view.read (Elt Ideal) G9) f9) (h10 : Rd (arg10.view.read (Elt Ideal) G10) (fun _ _ => 0))
    (h11 : Rd (arg11.view.read (Elt Ideal) G11) (fun _ _ => 0)) (n : ℕ) (hn : n ≤ (i 1).val) :
    Rd (arg7.view.read (Elt Ideal) (arg7.view.writes (Elt Ideal) G7 (pb_k1_t1 (F := Ideal) 𝒱 c bd i arg2 harg2 arg3 harg3 arg4 harg4 arg5 harg5 arg6 harg6 arg7 harg7 arg8 harg8 arg9 harg9 arg10 harg10 arg11 harg11
        (harg2.unread x0) (harg3.unread x1) (harg4.unread x2) (harg5.unread x3) (harg6.unread x4) G7 G8 G9 G10 G11 n).1))
      (fun a d => ∑ s ∈ Ico 0 (n * 512), H.dz ((i 1).val * 512 + a) s * H.k s d) ∧
    Rd (arg8.view.read (Elt Ideal) (arg8.view.writes (Elt Ideal) G8 (pb_k1_t1 (F := Ideal) 𝒱 c bd i arg2 harg2 arg3 harg3 arg4 harg4 arg5 harg5 arg6 harg6 arg7 harg7 arg8 harg8 arg9 harg9 arg10 harg10 arg11 harg11
        (harg2.unread x0) (harg3.unread x1) (harg4.unread x2) (harg5.unread x3) (harg6.unread x4) G7 G8 G9 G10 G11 n).2.1))
      (upd (n * 512) f8 fun s d => ∑ t ∈ Ico ((i 1).val * 512) ((i 1).val * 512 + 512), H.dz t s * H.q t d) ∧
    Rd (arg9.view.read (Elt Ideal) (arg9.view.writes (Elt Ideal) G9 (pb_k1_t1 (F := Ideal) 𝒱 c bd i arg2 harg2 arg3 harg3 arg4 harg4 arg5 harg5 arg6 harg6 arg7 harg7 arg8 harg8 arg9 harg9 arg10 harg10 arg11 harg11
        (harg2.unread x0) (harg3.unread x1) (harg4.unread x2) (harg5.unread x3) (harg6.unread x4) G7 G8 G9 G10 G11 n).2.2.1))
      (upd (n * 512) f9 fun s d => ∑ t ∈ Ico ((i 1).val * 512) ((i 1).val * 512 + 512), H.W t s * H.g t d) ∧
    Rd (arg10.view.read (Elt Ideal) (arg10.view.writes (Elt Ideal) G10 (pb_k1_t1 (F := Ideal) 𝒱 c bd i arg2 harg2 arg3 harg3 arg4 harg4 arg5 harg5 arg6 harg6 arg7 harg7 arg8 harg8 arg9 harg9 arg10 harg10 arg11 harg11
        (harg2.unread x0) (harg3.unread x1) (harg4.unread x2) (harg5.unread x3) (harg6.unread x4) G7 G8 G9 G10 G11 n).2.2.2.1))
      (fun a _ => ∑ j ∈ Ico 0 (n * 512), H.lk ((i 1).val * 512 + a) j) ∧
    Rd (arg11.view.read (Elt Ideal) (arg11.view.writes (Elt Ideal) G11 (pb_k1_t1 (F := Ideal) 𝒱 c bd i arg2 harg2 arg3 harg3 arg4 harg4 arg5 harg5 arg6 harg6 arg7 harg7 arg8 harg8 arg9 harg9 arg10 harg10 arg11 harg11
        (harg2.unread x0) (harg3.unread x1) (harg4.unread x2) (harg5.unread x3) (harg6.unread x4) G7 G8 G9 G10 G11 n).2.2.2.2))
      (fun a _ => ∑ j ∈ Ico 0 (n * 512), H.de ((i 1).val * 512 + a) j) := by
  have hi : (i 1).val < 8 := (i 1).isLt
  induction n with
  | zero =>
    refine ⟨h7.congr fun a d _ _ => ?_, h8.congr fun a d _ _ => ?_, h9.congr fun a d _ _ => ?_, h10.congr fun a d _ _ => ?_, h11.congr fun a d _ _ => ?_⟩
    · simp
    · simp [upd]
    · simp [upd]
    · simp
    · simp
  | succ n ih =>
    obtain ⟨i7, i8, i9, i10, i11⟩ := ih (by omega)
    have hn' : n < (k1_t1_loop i).trips := by rw [trips1]; omega
    have e := pb_k1_t1_succ (F := Ideal) 𝒱 c bd i arg2 harg2 arg3 harg3 arg4 harg4 arg5 harg5 arg6 harg6 arg7 harg7 arg8 harg8 arg9 harg9 arg10 harg10 arg11 harg11
      (harg2.unread x0) (harg3.unread x1) (harg4.unread x2) (harg5.unread x3) (harg6.unread x4) G7 G8 G9 G10 G11 ⟨n, hn'⟩
    dsimp only at e
    rw [e]
    dsimp only
    rw [View.writes_append, View.writes_append, View.writes_append, View.writes_append, View.writes_append]
    rw [show (n + 1) * 512 = n * 512 + 512 by omega]
    exact ⟨step7_rd 𝒱 c bd i arg2 harg2 arg3 harg3 arg4 harg4 arg5 harg5 arg6 harg6 arg7 harg7 arg8 harg8 arg9 harg9 arg10 harg10 arg11 harg11 H hc hq hk hv hg ht ⟨n, hn'⟩ i7 i8 i9 i10 i11,
      step8_rd 𝒱 c bd i arg2 harg2 arg3 harg3 arg4 harg4 arg5 harg5 arg6 harg6 arg7 harg7 arg8 harg8 arg9 harg9 arg10 harg10 arg11 harg11 H hc hq hk hv hg ht ⟨n, hn'⟩ i7 i8 i9 i10 i11,
      step9_rd 𝒱 c bd i arg2 harg2 arg3 harg3 arg4 harg4 arg5 harg5 arg6 harg6 arg7 harg7 arg8 harg8 arg9 harg9 arg10 harg10 arg11 harg11 H hc hq hk hv hg ht ⟨n, hn'⟩ i7 i8 i9 i10 i11,
      step10_rd 𝒱 c bd i arg2 harg2 arg3 harg3 arg4 harg4 arg5 harg5 arg6 harg6 arg7 harg7 arg8 harg8 arg9 harg9 arg10 harg10 arg11 harg11 H hc hq hk hv hg ht ⟨n, hn'⟩ i7 i8 i9 i10 i11,
      step11_rd 𝒱 c bd i arg2 harg2 arg3 harg3 arg4 harg4 arg5 harg5 arg6 harg6 arg7 harg7 arg8 harg8 arg9 harg9 arg10 harg10 arg11 harg11 H hc hq hk hv hg ht ⟨n, hn'⟩ i7 i8 i9 i10 i11⟩

end

end Cert.Sb.Bwd

end
-- ==== Proof.BwdOut.lean ====
/- What the backward kernel leaves in its three output blocks at a point of its grid. -/
module

public import proofs.«01_k».proof.Proof.BwdVal

@[expose] public section

set_option maxRecDepth 16384

noncomputable section

namespace Cert.Sb.Bwd

open Idealize.ShloMosaic hiding ix0 ix1 ix2 ix3 eq_ix1 eq_ix2 eq_ix3
open Idealize.ShloMosaic.ValueIdx Finset
open Cert.KernelIdeal Cert.KernelIdeal.Gen

/-- A store of the whole over stores. -/
theorem over {n m : ℕ} {κ : Kind} {sp : Space} {v : View sig κ sp ⟨2, ![n, m]⟩ .f32} {G : v.ty.Contents (Elt Ideal)}
    {L : List (View.Piece (Elt Ideal) ⟨2, ![n, m]⟩ .f32)} {f g : ℕ → ℕ → ℝ} (_h : Rd (v.read (Elt Ideal) (v.writes (Elt Ideal) G L)) g)
    {x : (⟨2, ![n, m]⟩ : Shape).Idx → EReal} (hx : Rd x f) (inb) :
    Rd (v.read (Elt Ideal) (v.writes (Elt Ideal) G ((⟨Rect.unit (s := ⟨2, ![n, m]⟩) ![0, 0] ![n, m] inb, x⟩ : View.Piece (Elt Ideal) ⟨2, ![n, m]⟩ .f32) :: L))) f :=
  Rd.putAll hx

/-- Stores over nothing read alike through any view. -/
theorem move {n m : ℕ} {κ κ' : Kind} {sp sp' : Space} {v : View sig κ sp ⟨2, ![n, m]⟩ .f32} {v' : View sig κ' sp' ⟨2, ![n, m]⟩ .f32}
    {L : List (View.Piece (Elt Ideal) ⟨2, ![n, m]⟩ .f32)} {f : ℕ → ℕ → ℝ} (h : Rd (v.read (Elt Ideal) (v.writes (Elt Ideal) v.junk L)) f) :
    Rd (v'.read (Elt Ideal) (v'.writes (Elt Ideal) v'.junk L)) f := by
  have e := View.read_writes_junk_eq_canon (Val := Elt Ideal) v L
  have e' := View.read_writes_junk_eq_canon (Val := Elt Ideal) v' L
  exact h.cast (e'.trans e.symm)

section

variable (c : Dev nD) (i : grid1.Coords) (arg2 : Memref sig .tc .vmem S512x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S512x128 .bf16) (harg5 : arg5.IsWhole) (arg6 : Memref sig .tc .vmem S1x512x1 .f32) (harg6 : arg6.IsWhole)
  (arg7 : Memref sig .tc .vmem S512x128 .f32) (harg7 : arg7.IsWhole) (arg8 : Memref sig .tc .vmem S4096x128 .f32) (harg8 : arg8.IsWhole)
  (arg9 : Memref sig .tc .vmem S4096x128 .f32) (harg9 : arg9.IsWhole) (arg10 : Memref sig .tc .vmem S512x1 .f32) (harg10 : arg10.IsWhole)
  (arg11 : Memref sig .tc .vmem S512x1 .f32) (harg11 : arg11.IsWhole)
  (H : Head) (hc : H.c = scale)

include hc

/-- The block of the gradient of q at the first block of rows of a head. -/
theorem outA5_rd (hc0 : cond1_0 i) {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a))) :
    Rd (out1_A_5 c i arg2 harg2 arg3 harg3 arg4 harg4 arg5 harg5 arg6 harg6 arg7 harg7 arg8 harg8 arg9 harg9 arg10 harg10 arg11 harg11 hc0 x0 x1 x2 x3 x4)
      (fun a d => H.dq ((i 1).val * 512 + a) d) := by
  have hi : (i 1).val < 8 := (i 1).isLt
  have hR : (i 1).val * 512 + 256 ≤ 4096 := by omega
  have hR' : (i 1).val * 512 + 256 + 256 ≤ 4096 := by omega
  have hM0 := mask0 ((i 1).val * 512) (by omega)
  have hM1 := mask1 ((i 1).val * 512) (by omega)
  rw [show BitVec.ofNat 32 ((i 1).val * 512) = Scalar.muli (BitVec.ofNat 32 (i 1).val) 512#32 from BitVec.ofNat_mul _ _] at hM0 hM1
  have hL := loop_rd Variants.none c none i arg2 harg2 arg3 harg3 arg4 harg4 arg5 harg5 arg6 harg6 arg7 harg7 arg8 harg8 arg9 harg9 arg10 harg10 arg11 harg11 H hc hq hk hv hg ht
    (arg7.view.writes (Elt Ideal) arg7.view.junk [⟨Rect.unit (s := S512x128) ![0, 0] S512x128.size inb_S512x128_S512x128_0_0, k1_pay52 (F := Ideal)⟩])
    (arg8.view.writes (Elt Ideal) arg8.view.junk [⟨Rect.unit (s := S4096x128) ![0, 0] S4096x128.size inb_S4096x128_S4096x128_0_0, k1_pay48 (F := Ideal)⟩])
    (arg9.view.writes (Elt Ideal) arg9.view.junk [⟨Rect.unit (s := S4096x128) ![0, 0] S4096x128.size inb_S4096x128_S4096x128_0_0, k1_pay49 (F := Ideal)⟩])
    (arg10.view.writes (Elt Ideal) arg10.view.junk [⟨Rect.unit (s := S512x1) ![0, 0] S512x1.size inb_S512x1_S512x1_0_0, k1_pay53 (F := Ideal)⟩])
    (arg11.view.writes (Elt Ideal) arg11.view.junk [⟨Rect.unit (s := S512x1) ![0, 0] S512x1.size inb_S512x1_S512x1_0_0, k1_pay54 (F := Ideal)⟩])
    (Rd.putAll zero52) (Rd.putAll zero48) (Rd.putAll zero49) (Rd.putAll zero53) (Rd.putAll zero54) (i 1).val le_rfl
  have h10 := hL.2.2.2.1
  have h11 := hL.2.2.2.2
  rw [← View.writes_append] at h10 h11
  have kb0 := Rd.rowsB (k := 256) (l := 128) (hk.unB harg3) (off3_0 i) (inb := k1_off3_inb i 0)
  have vb0 := Rd.rowsB (k := 256) (l := 128) (hv.unB harg4) (off3_0 i) (inb := k1_off3_inb i 0)
  have kb1 := Rd.rowsB (k := 256) (l := 128) (hk.unB harg3) (off3_256 i) (inb := k1_off3_inb i 1)
  have vb1 := Rd.rowsB (k := 256) (l := 128) (hv.unB harg4) (off3_256 i) (inb := k1_off3_inb i 1)
  have qb := Rd.allB (hq.unB harg2) (inb := inb_S512x128_S512x128_0_0)
  have gb := Rd.allB (hg.unB harg5) (inb := inb_S512x128_S512x128_0_0)
  have qb1 := rdq1 H.q harg2 hq (inb := inb_S512x128_S256x128_256_0)
  have gb1 := rdq1 H.g harg5 hg (inb := inb_S512x128_S256x128_256_0)
  have tb := ((ht.un harg6).all (inb := inb_S1x512x1_S1x512x1_0_0_0)).flat shapeCasts_S1x512x1_S512x1
  have tb1 := (((ht.un harg6).rows (k := 256) (o := 256) (inb := inb_S1x512x1_S1x256x1_0_256_0)).flat shapeCasts_S1x256x1_S256x1).congr
    fun a _ _ _ => show H.tot ((i 1).val * 512 + (256 + a)) = H.tot ((i 1).val * 512 + 256 + a) by rw [Nat.add_assoc]
  have pk0 := Rd.cov h10 (inb := inb_S512x1_S512x1_0_0)
  have pd0 := Rd.cov h11 (inb := inb_S512x1_S512x1_0_0)
  have W0 := w0_rd H hc hR hM0 kb0 qb pk0 tb
  have z0 := dz0_rd H hc hM0 (lb0_rd H hc kb0 qb) W0 gb vb0 pd0
  have pk1 := (Rd.covRows (k := 256) (over h10 (pk0_rd H hc hM0 kb0 qb pk0) inb_S512x1_S512x1_0_0) rfl (inb := inb_S512x1_S256x1_256_0)).congr
    fun a _ _ _ => show ∑ j ∈ Ico 0 ((i 1).val * 512 + 256), H.lk ((i 1).val * 512 + (256 + a)) j
      = ∑ j ∈ Ico 0 ((i 1).val * 512 + 256), H.lk ((i 1).val * 512 + 256 + a) j by rw [Nat.add_assoc]
  have pd1 := (Rd.covRows (k := 256) (over h11 (pd0_rd H W0 gb vb0 pd0) inb_S512x1_S512x1_0_0) rfl (inb := inb_S512x1_S256x1_256_0)).congr
    fun a _ _ _ => show ∑ j ∈ Ico 0 ((i 1).val * 512 + 256), H.de ((i 1).val * 512 + (256 + a)) j
      = ∑ j ∈ Ico 0 ((i 1).val * 512 + 256), H.de ((i 1).val * 512 + 256 + a) j by rw [Nat.add_assoc]
  have W1 := w1_rd H hc hR' hM1 kb1 qb1 pk1 tb1
  have z1 := dz1_rd H hc hM1 (lb1_rd H hc kb1 qb1) W1 gb1 vb1 pd1
  unfold out1_A_5 kernelRun1_A
  dsimp only
  sl_unfold_words
  rw [show Scf.trips (k1_t2_loop i).lb (k1_t2_loop i).ub (k1_t2_loop i).st = 0 from Scf.rem_trips _ _]
  rw [show Scf.trips (k1_t1_loop i).lb (k1_t1_loop i).ub (k1_t1_loop i).st = (i 1).val from trips1 i]
  have h := hL.1
  rw [← View.writes_append] at h
  have a0 := over h (dq0_rd H z0 kb0 (Rd.cov h (inb := inb_S512x128_S512x128_0_0))) inb_S512x128_S512x128_0_0
  have a1 := Rd.putRows (dq1_rd H z1 kb1 (Rd.covRows (k := 256) a0 rfl (inb := inb_S512x128_S256x128_256_0))) a0 rfl (inb := inb_S512x128_S256x128_256_0)
  refine Rd.congr (move a1) fun a d ha _ => ?_
  exact dq_end H _ _ _ ha (by omega)

/-- The block of the gradient of k at the first block of rows of a head. -/
theorem outA6_rd (hc0 : cond1_0 i) {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a))) :
    Rd (out1_A_6 c i arg2 harg2 arg3 harg3 arg4 harg4 arg5 harg5 arg6 harg6 arg7 harg7 arg8 harg8 arg9 harg9 arg10 harg10 arg11 harg11 hc0 x0 x1 x2 x3 x4)
      (fun s d => 0 + ∑ t ∈ Ico ((i 1).val * 512) ((i 1).val * 512 + 512), H.dz t s * H.q t d) := by
  have hi : (i 1).val < 8 := (i 1).isLt
  have hR : (i 1).val * 512 + 256 ≤ 4096 := by omega
  have hR' : (i 1).val * 512 + 256 + 256 ≤ 4096 := by omega
  have hM0 := mask0 ((i 1).val * 512) (by omega)
  have hM1 := mask1 ((i 1).val * 512) (by omega)
  rw [show BitVec.ofNat 32 ((i 1).val * 512) = Scalar.muli (BitVec.ofNat 32 (i 1).val) 512#32 from BitVec.ofNat_mul _ _] at hM0 hM1
  have hL := loop_rd Variants.none c none i arg2 harg2 arg3 harg3 arg4 harg4 arg5 harg5 arg6 harg6 arg7 harg7 arg8 harg8 arg9 harg9 arg10 harg10 arg11 harg11 H hc hq hk hv hg ht
    (arg7.view.writes (Elt Ideal) arg7.view.junk [⟨Rect.unit (s := S512x128) ![0, 0] S512x128.size inb_S512x128_S512x128_0_0, k1_pay52 (F := Ideal)⟩])
    (arg8.view.writes (Elt Ideal) arg8.view.junk [⟨Rect.unit (s := S4096x128) ![0, 0] S4096x128.size inb_S4096x128_S4096x128_0_0, k1_pay48 (F := Ideal)⟩])
    (arg9.view.writes (Elt Ideal) arg9.view.junk [⟨Rect.unit (s := S4096x128) ![0, 0] S4096x128.size inb_S4096x128_S4096x128_0_0, k1_pay49 (F := Ideal)⟩])
    (arg10.view.writes (Elt Ideal) arg10.view.junk [⟨Rect.unit (s := S512x1) ![0, 0] S512x1.size inb_S512x1_S512x1_0_0, k1_pay53 (F := Ideal)⟩])
    (arg11.view.writes (Elt Ideal) arg11.view.junk [⟨Rect.unit (s := S512x1) ![0, 0] S512x1.size inb_S512x1_S512x1_0_0, k1_pay54 (F := Ideal)⟩])
    (Rd.putAll zero52) (Rd.putAll zero48) (Rd.putAll zero49) (Rd.putAll zero53) (Rd.putAll zero54) (i 1).val le_rfl
  have h10 := hL.2.2.2.1
  have h11 := hL.2.2.2.2
  rw [← View.writes_append] at h10 h11
  have kb0 := Rd.rowsB (k := 256) (l := 128) (hk.unB harg3) (off3_0 i) (inb := k1_off3_inb i 0)
  have vb0 := Rd.rowsB (k := 256) (l := 128) (hv.unB harg4) (off3_0 i) (inb := k1_off3_inb i 0)
  have kb1 := Rd.rowsB (k := 256) (l := 128) (hk.unB harg3) (off3_256 i) (inb := k1_off3_inb i 1)
  have vb1 := Rd.rowsB (k := 256) (l := 128) (hv.unB harg4) (off3_256 i) (inb := k1_off3_inb i 1)
  have qb := Rd.allB (hq.unB harg2) (inb := inb_S512x128_S512x128_0_0)
  have gb := Rd.allB (hg.unB harg5) (inb := inb_S512x128_S512x128_0_0)
  have qb1 := rdq1 H.q harg2 hq (inb := inb_S512x128_S256x128_256_0)
  have gb1 := rdq1 H.g harg5 hg (inb := inb_S512x128_S256x128_256_0)
  have tb := ((ht.un harg6).all (inb := inb_S1x512x1_S1x512x1_0_0_0)).flat shapeCasts_S1x512x1_S512x1
  have tb1 := (((ht.un harg6).rows (k := 256) (o := 256) (inb := inb_S1x512x1_S1x256x1_0_256_0)).flat shapeCasts_S1x256x1_S256x1).congr
    fun a _ _ _ => show H.tot ((i 1).val * 512 + (256 + a)) = H.tot ((i 1).val * 512 + 256 + a) by rw [Nat.add_assoc]
  have pk0 := Rd.cov h10 (inb := inb_S512x1_S512x1_0_0)
  have pd0 := Rd.cov h11 (inb := inb_S512x1_S512x1_0_0)
  have W0 := w0_rd H hc hR hM0 kb0 qb pk0 tb
  have z0 := dz0_rd H hc hM0 (lb0_rd H hc kb0 qb) W0 gb vb0 pd0
  have pk1 := (Rd.covRows (k := 256) (over h10 (pk0_rd H hc hM0 kb0 qb pk0) inb_S512x1_S512x1_0_0) rfl (inb := inb_S512x1_S256x1_256_0)).congr
    fun a _ _ _ => show ∑ j ∈ Ico 0 ((i 1).val * 512 + 256), H.lk ((i 1).val * 512 + (256 + a)) j
      = ∑ j ∈ Ico 0 ((i 1).val * 512 + 256), H.lk ((i 1).val * 512 + 256 + a) j by rw [Nat.add_assoc]
  have pd1 := (Rd.covRows (k := 256) (over h11 (pd0_rd H W0 gb vb0 pd0) inb_S512x1_S512x1_0_0) rfl (inb := inb_S512x1_S256x1_256_0)).congr
    fun a _ _ _ => show ∑ j ∈ Ico 0 ((i 1).val * 512 + 256), H.de ((i 1).val * 512 + (256 + a)) j
      = ∑ j ∈ Ico 0 ((i 1).val * 512 + 256), H.de ((i 1).val * 512 + 256 + a) j by rw [Nat.add_assoc]
  have W1 := w1_rd H hc hR' hM1 kb1 qb1 pk1 tb1
  have z1 := dz1_rd H hc hM1 (lb1_rd H hc kb1 qb1) W1 gb1 vb1 pd1
  unfold out1_A_6 kernelRun1_A
  dsimp only
  sl_unfold_words
  rw [show Scf.trips (k1_t2_loop i).lb (k1_t2_loop i).ub (k1_t2_loop i).st = 0 from Scf.rem_trips _ _]
  rw [show Scf.trips (k1_t1_loop i).lb (k1_t1_loop i).ub (k1_t1_loop i).st = (i 1).val from trips1 i]
  have h := hL.2.1
  rw [← View.writes_append] at h
  have a0 := Rd.putRows (dk0_rd H z0 qb (Rd.covRows h (off3_0 i) (inb := k1_off3_inb i 0))) h (off3_0 i) (inb := k1_off3_inb i 0)
  have a1 := Rd.putRows (dk1_rd H z1 qb1 (Rd.covRows a0 (off3_256 i) (inb := k1_off3_inb i 1))) a0 (off3_256 i) (inb := k1_off3_inb i 1)
  refine Rd.congr (move a1) fun s d hs _ => ?_
  exact put_end H.dz H.q _ _ _ _ (fun t s h => H.dz_of_le h)

/-- The block of the gradient of v at the first block of rows of a head. -/
theorem outA7_rd (hc0 : cond1_0 i) {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a))) :
    Rd (out1_A_7 c i arg2 harg2 arg3 harg3 arg4 harg4 arg5 harg5 arg6 harg6 arg7 harg7 arg8 harg8 arg9 harg9 arg10 harg10 arg11 harg11 hc0 x0 x1 x2 x3 x4)
      (fun s d => 0 + ∑ t ∈ Ico ((i 1).val * 512) ((i 1).val * 512 + 512), H.W t s * H.g t d) := by
  have hi : (i 1).val < 8 := (i 1).isLt
  have hR : (i 1).val * 512 + 256 ≤ 4096 := by omega
  have hR' : (i 1).val * 512 + 256 + 256 ≤ 4096 := by omega
  have hM0 := mask0 ((i 1).val * 512) (by omega)
  have hM1 := mask1 ((i 1).val * 512) (by omega)
  rw [show BitVec.ofNat 32 ((i 1).val * 512) = Scalar.muli (BitVec.ofNat 32 (i 1).val) 512#32 from BitVec.ofNat_mul _ _] at hM0 hM1
  have hL := loop_rd Variants.none c none i arg2 harg2 arg3 harg3 arg4 harg4 arg5 harg5 arg6 harg6 arg7 harg7 arg8 harg8 arg9 harg9 arg10 harg10 arg11 harg11 H hc hq hk hv hg ht
    (arg7.view.writes (Elt Ideal) arg7.view.junk [⟨Rect.unit (s := S512x128) ![0, 0] S512x128.size inb_S512x128_S512x128_0_0, k1_pay52 (F := Ideal)⟩])
    (arg8.view.writes (Elt Ideal) arg8.view.junk [⟨Rect.unit (s := S4096x128) ![0, 0] S4096x128.size inb_S4096x128_S4096x128_0_0, k1_pay48 (F := Ideal)⟩])
    (arg9.view.writes (Elt Ideal) arg9.view.junk [⟨Rect.unit (s := S4096x128) ![0, 0] S4096x128.size inb_S4096x128_S4096x128_0_0, k1_pay49 (F := Ideal)⟩])
    (arg10.view.writes (Elt Ideal) arg10.view.junk [⟨Rect.unit (s := S512x1) ![0, 0] S512x1.size inb_S512x1_S512x1_0_0, k1_pay53 (F := Ideal)⟩])
    (arg11.view.writes (Elt Ideal) arg11.view.junk [⟨Rect.unit (s := S512x1) ![0, 0] S512x1.size inb_S512x1_S512x1_0_0, k1_pay54 (F := Ideal)⟩])
    (Rd.putAll zero52) (Rd.putAll zero48) (Rd.putAll zero49) (Rd.putAll zero53) (Rd.putAll zero54) (i 1).val le_rfl
  have h10 := hL.2.2.2.1
  have h11 := hL.2.2.2.2
  rw [← View.writes_append] at h10 h11
  have kb0 := Rd.rowsB (k := 256) (l := 128) (hk.unB harg3) (off3_0 i) (inb := k1_off3_inb i 0)
  have vb0 := Rd.rowsB (k := 256) (l := 128) (hv.unB harg4) (off3_0 i) (inb := k1_off3_inb i 0)
  have kb1 := Rd.rowsB (k := 256) (l := 128) (hk.unB harg3) (off3_256 i) (inb := k1_off3_inb i 1)
  have vb1 := Rd.rowsB (k := 256) (l := 128) (hv.unB harg4) (off3_256 i) (inb := k1_off3_inb i 1)
  have qb := Rd.allB (hq.unB harg2) (inb := inb_S512x128_S512x128_0_0)
  have gb := Rd.allB (hg.unB harg5) (inb := inb_S512x128_S512x128_0_0)
  have qb1 := rdq1 H.q harg2 hq (inb := inb_S512x128_S256x128_256_0)
  have gb1 := rdq1 H.g harg5 hg (inb := inb_S512x128_S256x128_256_0)
  have tb := ((ht.un harg6).all (inb := inb_S1x512x1_S1x512x1_0_0_0)).flat shapeCasts_S1x512x1_S512x1
  have tb1 := (((ht.un harg6).rows (k := 256) (o := 256) (inb := inb_S1x512x1_S1x256x1_0_256_0)).flat shapeCasts_S1x256x1_S256x1).congr
    fun a _ _ _ => show H.tot ((i 1).val * 512 + (256 + a)) = H.tot ((i 1).val * 512 + 256 + a) by rw [Nat.add_assoc]
  have pk0 := Rd.cov h10 (inb := inb_S512x1_S512x1_0_0)
  have pd0 := Rd.cov h11 (inb := inb_S512x1_S512x1_0_0)
  have W0 := w0_rd H hc hR hM0 kb0 qb pk0 tb
  have pk1 := (Rd.covRows (k := 256) (over h10 (pk0_rd H hc hM0 kb0 qb pk0) inb_S512x1_S512x1_0_0) rfl (inb := inb_S512x1_S256x1_256_0)).congr
    fun a _ _ _ => show ∑ j ∈ Ico 0 ((i 1).val * 512 + 256), H.lk ((i 1).val * 512 + (256 + a)) j
      = ∑ j ∈ Ico 0 ((i 1).val * 512 + 256), H.lk ((i 1).val * 512 + 256 + a) j by rw [Nat.add_assoc]
  have pd1 := (Rd.covRows (k := 256) (over h11 (pd0_rd H W0 gb vb0 pd0) inb_S512x1_S512x1_0_0) rfl (inb := inb_S512x1_S256x1_256_0)).congr
    fun a _ _ _ => show ∑ j ∈ Ico 0 ((i 1).val * 512 + 256), H.de ((i 1).val * 512 + (256 + a)) j
      = ∑ j ∈ Ico 0 ((i 1).val * 512 + 256), H.de ((i 1).val * 512 + 256 + a) j by rw [Nat.add_assoc]
  have W1 := w1_rd H hc hR' hM1 kb1 qb1 pk1 tb1
  unfold out1_A_7 kernelRun1_A
  dsimp only
  sl_unfold_words
  rw [show Scf.trips (k1_t2_loop i).lb (k1_t2_loop i).ub (k1_t2_loop i).st = 0 from Scf.rem_trips _ _]
  rw [show Scf.trips (k1_t1_loop i).lb (k1_t1_loop i).ub (k1_t1_loop i).st = (i 1).val from trips1 i]
  have h := hL.2.2.1
  rw [← View.writes_append] at h
  have a0 := Rd.putRows (dv0_rd H W0 gb (Rd.covRows h (off3_0 i) (inb := k1_off3_inb i 0))) h (off3_0 i) (inb := k1_off3_inb i 0)
  have a1 := Rd.putRows (dv1_rd H W1 gb1 (Rd.covRows a0 (off3_256 i) (inb := k1_off3_inb i 1))) a0 (off3_256 i) (inb := k1_off3_inb i 1)
  refine Rd.congr (move a1) fun s d hs _ => ?_
  exact put_end H.W H.g _ _ _ _ (fun t s h => H.W_of_le h)

/-- The block of the gradient of q at a later block of rows, over what the block of rows before left. -/
theorem outB5_rd (hc0 : ¬cond1_0 i) {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    {x6 x7 : Vec Ideal S4096x128 .f32} {f8 f9 : ℕ → ℕ → ℝ} (h8 : Rd x6 f8) (h9 : Rd x7 f9) :
    Rd (out1_B_5 c i arg2 harg2 arg3 harg3 arg4 harg4 arg5 harg5 arg6 harg6 arg7 harg7 arg8 harg8 arg9 harg9 arg10 harg10 arg11 harg11 hc0 x0 x1 x2 x3 x4 x6 x7)
      (fun a d => H.dq ((i 1).val * 512 + a) d) := by
  have hi : (i 1).val < 8 := (i 1).isLt
  have hR : (i 1).val * 512 + 256 ≤ 4096 := by omega
  have hR' : (i 1).val * 512 + 256 + 256 ≤ 4096 := by omega
  have hM0 := mask0 ((i 1).val * 512) (by omega)
  have hM1 := mask1 ((i 1).val * 512) (by omega)
  rw [show BitVec.ofNat 32 ((i 1).val * 512) = Scalar.muli (BitVec.ofNat 32 (i 1).val) 512#32 from BitVec.ofNat_mul _ _] at hM0 hM1
  have hL := loop_rd Variants.none c none i arg2 harg2 arg3 harg3 arg4 harg4 arg5 harg5 arg6 harg6 arg7 harg7 arg8 harg8 arg9 harg9 arg10 harg10 arg11 harg11 H hc hq hk hv hg ht
    (arg7.view.writes (Elt Ideal) arg7.view.junk [⟨Rect.unit (s := S512x128) ![0, 0] S512x128.size inb_S512x128_S512x128_0_0, k1_pay52 (F := Ideal)⟩])
    (harg8.unread x6)
    (harg9.unread x7)
    (arg10.view.writes (Elt Ideal) arg10.view.junk [⟨Rect.unit (s := S512x1) ![0, 0] S512x1.size inb_S512x1_S512x1_0_0, k1_pay53 (F := Ideal)⟩])
    (arg11.view.writes (Elt Ideal) arg11.view.junk [⟨Rect.unit (s := S512x1) ![0, 0] S512x1.size inb_S512x1_S512x1_0_0, k1_pay54 (F := Ideal)⟩])
    (Rd.putAll zero52) (h8.un harg8) (h9.un harg9) (Rd.putAll zero53) (Rd.putAll zero54) (i 1).val le_rfl
  have h10 := hL.2.2.2.1
  have h11 := hL.2.2.2.2
  rw [← View.writes_append] at h10 h11
  have kb0 := Rd.rowsB (k := 256) (l := 128) (hk.unB harg3) (off3_0 i) (inb := k1_off3_inb i 0)
  have vb0 := Rd.rowsB (k := 256) (l := 128) (hv.unB harg4) (off3_0 i) (inb := k1_off3_inb i 0)
  have kb1 := Rd.rowsB (k := 256) (l := 128) (hk.unB harg3) (off3_256 i) (inb := k1_off3_inb i 1)
  have vb1 := Rd.rowsB (k := 256) (l := 128) (hv.unB harg4) (off3_256 i) (inb := k1_off3_inb i 1)
  have qb := Rd.allB (hq.unB harg2) (inb := inb_S512x128_S512x128_0_0)
  have gb := Rd.allB (hg.unB harg5) (inb := inb_S512x128_S512x128_0_0)
  have qb1 := rdq1 H.q harg2 hq (inb := inb_S512x128_S256x128_256_0)
  have gb1 := rdq1 H.g harg5 hg (inb := inb_S512x128_S256x128_256_0)
  have tb := ((ht.un harg6).all (inb := inb_S1x512x1_S1x512x1_0_0_0)).flat shapeCasts_S1x512x1_S512x1
  have tb1 := (((ht.un harg6).rows (k := 256) (o := 256) (inb := inb_S1x512x1_S1x256x1_0_256_0)).flat shapeCasts_S1x256x1_S256x1).congr
    fun a _ _ _ => show H.tot ((i 1).val * 512 + (256 + a)) = H.tot ((i 1).val * 512 + 256 + a) by rw [Nat.add_assoc]
  have pk0 := Rd.cov h10 (inb := inb_S512x1_S512x1_0_0)
  have pd0 := Rd.cov h11 (inb := inb_S512x1_S512x1_0_0)
  have W0 := w0_rd H hc hR hM0 kb0 qb pk0 tb
  have z0 := dz0_rd H hc hM0 (lb0_rd H hc kb0 qb) W0 gb vb0 pd0
  have pk1 := (Rd.covRows (k := 256) (over h10 (pk0_rd H hc hM0 kb0 qb pk0) inb_S512x1_S512x1_0_0) rfl (inb := inb_S512x1_S256x1_256_0)).congr
    fun a _ _ _ => show ∑ j ∈ Ico 0 ((i 1).val * 512 + 256), H.lk ((i 1).val * 512 + (256 + a)) j
      = ∑ j ∈ Ico 0 ((i 1).val * 512 + 256), H.lk ((i 1).val * 512 + 256 + a) j by rw [Nat.add_assoc]
  have pd1 := (Rd.covRows (k := 256) (over h11 (pd0_rd H W0 gb vb0 pd0) inb_S512x1_S512x1_0_0) rfl (inb := inb_S512x1_S256x1_256_0)).congr
    fun a _ _ _ => show ∑ j ∈ Ico 0 ((i 1).val * 512 + 256), H.de ((i 1).val * 512 + (256 + a)) j
      = ∑ j ∈ Ico 0 ((i 1).val * 512 + 256), H.de ((i 1).val * 512 + 256 + a) j by rw [Nat.add_assoc]
  have W1 := w1_rd H hc hR' hM1 kb1 qb1 pk1 tb1
  have z1 := dz1_rd H hc hM1 (lb1_rd H hc kb1 qb1) W1 gb1 vb1 pd1
  unfold out1_B_5 kernelRun1_B
  dsimp only
  sl_unfold_words
  rw [show Scf.trips (k1_t2_loop i).lb (k1_t2_loop i).ub (k1_t2_loop i).st = 0 from Scf.rem_trips _ _]
  rw [show Scf.trips (k1_t1_loop i).lb (k1_t1_loop i).ub (k1_t1_loop i).st = (i 1).val from trips1 i]
  have h := hL.1
  rw [← View.writes_append] at h
  have a0 := over h (dq0_rd H z0 kb0 (Rd.cov h (inb := inb_S512x128_S512x128_0_0))) inb_S512x128_S512x128_0_0
  have a1 := Rd.putRows (dq1_rd H z1 kb1 (Rd.covRows (k := 256) a0 rfl (inb := inb_S512x128_S256x128_256_0))) a0 rfl (inb := inb_S512x128_S256x128_256_0)
  refine Rd.congr (move a1) fun a d ha _ => ?_
  exact dq_end H _ _ _ ha (by omega)

/-- The block of the gradient of k at a later block of rows, over what the block of rows before left. -/
theorem outB6_rd (hc0 : ¬cond1_0 i) {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    {x6 x7 : Vec Ideal S4096x128 .f32} {f8 f9 : ℕ → ℕ → ℝ} (h8 : Rd x6 f8) (h9 : Rd x7 f9) :
    Rd (out1_B_6 c i arg2 harg2 arg3 harg3 arg4 harg4 arg5 harg5 arg6 harg6 arg7 harg7 arg8 harg8 arg9 harg9 arg10 harg10 arg11 harg11 hc0 x0 x1 x2 x3 x4 x6 x7)
      (fun s d => f8 s d + ∑ t ∈ Ico ((i 1).val * 512) ((i 1).val * 512 + 512), H.dz t s * H.q t d) := by
  have hi : (i 1).val < 8 := (i 1).isLt
  have hR : (i 1).val * 512 + 256 ≤ 4096 := by omega
  have hR' : (i 1).val * 512 + 256 + 256 ≤ 4096 := by omega
  have hM0 := mask0 ((i 1).val * 512) (by omega)
  have hM1 := mask1 ((i 1).val * 512) (by omega)
  rw [show BitVec.ofNat 32 ((i 1).val * 512) = Scalar.muli (BitVec.ofNat 32 (i 1).val) 512#32 from BitVec.ofNat_mul _ _] at hM0 hM1
  have hL := loop_rd Variants.none c none i arg2 harg2 arg3 harg3 arg4 harg4 arg5 harg5 arg6 harg6 arg7 harg7 arg8 harg8 arg9 harg9 arg10 harg10 arg11 harg11 H hc hq hk hv hg ht
    (arg7.view.writes (Elt Ideal) arg7.view.junk [⟨Rect.unit (s := S512x128) ![0, 0] S512x128.size inb_S512x128_S512x128_0_0, k1_pay52 (F := Ideal)⟩])
    (harg8.unread x6)
    (harg9.unread x7)
    (arg10.view.writes (Elt Ideal) arg10.view.junk [⟨Rect.unit (s := S512x1) ![0, 0] S512x1.size inb_S512x1_S512x1_0_0, k1_pay53 (F := Ideal)⟩])
    (arg11.view.writes (Elt Ideal) arg11.view.junk [⟨Rect.unit (s := S512x1) ![0, 0] S512x1.size inb_S512x1_S512x1_0_0, k1_pay54 (F := Ideal)⟩])
    (Rd.putAll zero52) (h8.un harg8) (h9.un harg9) (Rd.putAll zero53) (Rd.putAll zero54) (i 1).val le_rfl
  have h10 := hL.2.2.2.1
  have h11 := hL.2.2.2.2
  rw [← View.writes_append] at h10 h11
  have kb0 := Rd.rowsB (k := 256) (l := 128) (hk.unB harg3) (off3_0 i) (inb := k1_off3_inb i 0)
  have vb0 := Rd.rowsB (k := 256) (l := 128) (hv.unB harg4) (off3_0 i) (inb := k1_off3_inb i 0)
  have kb1 := Rd.rowsB (k := 256) (l := 128) (hk.unB harg3) (off3_256 i) (inb := k1_off3_inb i 1)
  have vb1 := Rd.rowsB (k := 256) (l := 128) (hv.unB harg4) (off3_256 i) (inb := k1_off3_inb i 1)
  have qb := Rd.allB (hq.unB harg2) (inb := inb_S512x128_S512x128_0_0)
  have gb := Rd.allB (hg.unB harg5) (inb := inb_S512x128_S512x128_0_0)
  have qb1 := rdq1 H.q harg2 hq (inb := inb_S512x128_S256x128_256_0)
  have gb1 := rdq1 H.g harg5 hg (inb := inb_S512x128_S256x128_256_0)
  have tb := ((ht.un harg6).all (inb := inb_S1x512x1_S1x512x1_0_0_0)).flat shapeCasts_S1x512x1_S512x1
  have tb1 := (((ht.un harg6).rows (k := 256) (o := 256) (inb := inb_S1x512x1_S1x256x1_0_256_0)).flat shapeCasts_S1x256x1_S256x1).congr
    fun a _ _ _ => show H.tot ((i 1).val * 512 + (256 + a)) = H.tot ((i 1).val * 512 + 256 + a) by rw [Nat.add_assoc]
  have pk0 := Rd.cov h10 (inb := inb_S512x1_S512x1_0_0)
  have pd0 := Rd.cov h11 (inb := inb_S512x1_S512x1_0_0)
  have W0 := w0_rd H hc hR hM0 kb0 qb pk0 tb
  have z0 := dz0_rd H hc hM0 (lb0_rd H hc kb0 qb) W0 gb vb0 pd0
  have pk1 := (Rd.covRows (k := 256) (over h10 (pk0_rd H hc hM0 kb0 qb pk0) inb_S512x1_S512x1_0_0) rfl (inb := inb_S512x1_S256x1_256_0)).congr
    fun a _ _ _ => show ∑ j ∈ Ico 0 ((i 1).val * 512 + 256), H.lk ((i 1).val * 512 + (256 + a)) j
      = ∑ j ∈ Ico 0 ((i 1).val * 512 + 256), H.lk ((i 1).val * 512 + 256 + a) j by rw [Nat.add_assoc]
  have pd1 := (Rd.covRows (k := 256) (over h11 (pd0_rd H W0 gb vb0 pd0) inb_S512x1_S512x1_0_0) rfl (inb := inb_S512x1_S256x1_256_0)).congr
    fun a _ _ _ => show ∑ j ∈ Ico 0 ((i 1).val * 512 + 256), H.de ((i 1).val * 512 + (256 + a)) j
      = ∑ j ∈ Ico 0 ((i 1).val * 512 + 256), H.de ((i 1).val * 512 + 256 + a) j by rw [Nat.add_assoc]
  have W1 := w1_rd H hc hR' hM1 kb1 qb1 pk1 tb1
  have z1 := dz1_rd H hc hM1 (lb1_rd H hc kb1 qb1) W1 gb1 vb1 pd1
  unfold out1_B_6 kernelRun1_B
  dsimp only
  sl_unfold_words
  rw [show Scf.trips (k1_t2_loop i).lb (k1_t2_loop i).ub (k1_t2_loop i).st = 0 from Scf.rem_trips _ _]
  rw [show Scf.trips (k1_t1_loop i).lb (k1_t1_loop i).ub (k1_t1_loop i).st = (i 1).val from trips1 i]
  have h := hL.2.1
  have a0 := Rd.putRows (dk0_rd H z0 qb (Rd.rows h (off3_0 i) (inb := k1_off3_inb i 0))) h (off3_0 i) (inb := k1_off3_inb i 0)
  have a1 := Rd.putRows (dk1_rd H z1 qb1 (Rd.rows a0 (off3_256 i) (inb := k1_off3_inb i 1))) a0 (off3_256 i) (inb := k1_off3_inb i 1)
  refine Rd.congr (show Rd _ _ from a1) fun s d hs _ => ?_
  exact put_end H.dz H.q _ _ _ _ (fun t s h => H.dz_of_le h)

/-- The block of the gradient of v at a later block of rows, over what the block of rows before left. -/
theorem outB7_rd (hc0 : ¬cond1_0 i) {x0 x3 : Vec Ideal S512x128 .bf16} {x1 x2 : Vec Ideal S4096x128 .bf16} {x4 : Vec Ideal S1x512x1 .f32}
    (hq : Rd x0 (fun a d => H.q ((i 1).val * 512 + a) d)) (hk : Rd x1 H.k) (hv : Rd x2 H.v)
    (hg : Rd x3 (fun a d => H.g ((i 1).val * 512 + a) d)) (ht : Rd1 x4 (fun a _ => H.tot ((i 1).val * 512 + a)))
    {x6 x7 : Vec Ideal S4096x128 .f32} {f8 f9 : ℕ → ℕ → ℝ} (h8 : Rd x6 f8) (h9 : Rd x7 f9) :
    Rd (out1_B_7 c i arg2 harg2 arg3 harg3 arg4 harg4 arg5 harg5 arg6 harg6 arg7 harg7 arg8 harg8 arg9 harg9 arg10 harg10 arg11 harg11 hc0 x0 x1 x2 x3 x4 x6 x7)
      (fun s d => f9 s d + ∑ t ∈ Ico ((i 1).val * 512) ((i 1).val * 512 + 512), H.W t s * H.g t d) := by
  have hi : (i 1).val < 8 := (i 1).isLt
  have hR : (i 1).val * 512 + 256 ≤ 4096 := by omega
  have hR' : (i 1).val * 512 + 256 + 256 ≤ 4096 := by omega
  have hM0 := mask0 ((i 1).val * 512) (by omega)
  have hM1 := mask1 ((i 1).val * 512) (by omega)
  rw [show BitVec.ofNat 32 ((i 1).val * 512) = Scalar.muli (BitVec.ofNat 32 (i 1).val) 512#32 from BitVec.ofNat_mul _ _] at hM0 hM1
  have hL := loop_rd Variants.none c none i arg2 harg2 arg3 harg3 arg4 harg4 arg5 harg5 arg6 harg6 arg7 harg7 arg8 harg8 arg9 harg9 arg10 harg10 arg11 harg11 H hc hq hk hv hg ht
    (arg7.view.writes (Elt Ideal) arg7.view.junk [⟨Rect.unit (s := S512x128) ![0, 0] S512x128.size inb_S512x128_S512x128_0_0, k1_pay52 (F := Ideal)⟩])
    (harg8.unread x6)
    (harg9.unread x7)
    (arg10.view.writes (Elt Ideal) arg10.view.junk [⟨Rect.unit (s := S512x1) ![0, 0] S512x1.size inb_S512x1_S512x1_0_0, k1_pay53 (F := Ideal)⟩])
    (arg11.view.writes (Elt Ideal) arg11.view.junk [⟨Rect.unit (s := S512x1) ![0, 0] S512x1.size inb_S512x1_S512x1_0_0, k1_pay54 (F := Ideal)⟩])
    (Rd.putAll zero52) (h8.un harg8) (h9.un harg9) (Rd.putAll zero53) (Rd.putAll zero54) (i 1).val le_rfl
  have h10 := hL.2.2.2.1
  have h11 := hL.2.2.2.2
  rw [← View.writes_append] at h10 h11
  have kb0 := Rd.rowsB (k := 256) (l := 128) (hk.unB harg3) (off3_0 i) (inb := k1_off3_inb i 0)
  have vb0 := Rd.rowsB (k := 256) (l := 128) (hv.unB harg4) (off3_0 i) (inb := k1_off3_inb i 0)
  have kb1 := Rd.rowsB (k := 256) (l := 128) (hk.unB harg3) (off3_256 i) (inb := k1_off3_inb i 1)
  have vb1 := Rd.rowsB (k := 256) (l := 128) (hv.unB harg4) (off3_256 i) (inb := k1_off3_inb i 1)
  have qb := Rd.allB (hq.unB harg2) (inb := inb_S512x128_S512x128_0_0)
  have gb := Rd.allB (hg.unB harg5) (inb := inb_S512x128_S512x128_0_0)
  have qb1 := rdq1 H.q harg2 hq (inb := inb_S512x128_S256x128_256_0)
  have gb1 := rdq1 H.g harg5 hg (inb := inb_S512x128_S256x128_256_0)
  have tb := ((ht.un harg6).all (inb := inb_S1x512x1_S1x512x1_0_0_0)).flat shapeCasts_S1x512x1_S512x1
  have tb1 := (((ht.un harg6).rows (k := 256) (o := 256) (inb := inb_S1x512x1_S1x256x1_0_256_0)).flat shapeCasts_S1x256x1_S256x1).congr
    fun a _ _ _ => show H.tot ((i 1).val * 512 + (256 + a)) = H.tot ((i 1).val * 512 + 256 + a) by rw [Nat.add_assoc]
  have pk0 := Rd.cov h10 (inb := inb_S512x1_S512x1_0_0)
  have pd0 := Rd.cov h11 (inb := inb_S512x1_S512x1_0_0)
  have W0 := w0_rd H hc hR hM0 kb0 qb pk0 tb
  have pk1 := (Rd.covRows (k := 256) (over h10 (pk0_rd H hc hM0 kb0 qb pk0) inb_S512x1_S512x1_0_0) rfl (inb := inb_S512x1_S256x1_256_0)).congr
    fun a _ _ _ => show ∑ j ∈ Ico 0 ((i 1).val * 512 + 256), H.lk ((i 1).val * 512 + (256 + a)) j
      = ∑ j ∈ Ico 0 ((i 1).val * 512 + 256), H.lk ((i 1).val * 512 + 256 + a) j by rw [Nat.add_assoc]
  have pd1 := (Rd.covRows (k := 256) (over h11 (pd0_rd H W0 gb vb0 pd0) inb_S512x1_S512x1_0_0) rfl (inb := inb_S512x1_S256x1_256_0)).congr
    fun a _ _ _ => show ∑ j ∈ Ico 0 ((i 1).val * 512 + 256), H.de ((i 1).val * 512 + (256 + a)) j
      = ∑ j ∈ Ico 0 ((i 1).val * 512 + 256), H.de ((i 1).val * 512 + 256 + a) j by rw [Nat.add_assoc]
  have W1 := w1_rd H hc hR' hM1 kb1 qb1 pk1 tb1
  unfold out1_B_7 kernelRun1_B
  dsimp only
  sl_unfold_words
  rw [show Scf.trips (k1_t2_loop i).lb (k1_t2_loop i).ub (k1_t2_loop i).st = 0 from Scf.rem_trips _ _]
  rw [show Scf.trips (k1_t1_loop i).lb (k1_t1_loop i).ub (k1_t1_loop i).st = (i 1).val from trips1 i]
  have h := hL.2.2.1
  have a0 := Rd.putRows (dv0_rd H W0 gb (Rd.rows h (off3_0 i) (inb := k1_off3_inb i 0))) h (off3_0 i) (inb := k1_off3_inb i 0)
  have a1 := Rd.putRows (dv1_rd H W1 gb1 (Rd.rows a0 (off3_256 i) (inb := k1_off3_inb i 1))) a0 (off3_256 i) (inb := k1_off3_inb i 1)
  refine Rd.congr (show Rd _ _ from a1) fun s d hs _ => ?_
  exact put_end H.W H.g _ _ _ _ (fun t s h => H.W_of_le h)

end

end Cert.Sb.Bwd

end
-- ==== Proof.Arr.lean ====
/- What the arrays hold after the two calls: each block's contents placed in its array, and the backward call's two
   accumulated outputs followed over the eight row blocks of a head. -/
module

public import proofs.«01_k».proof.Proof.FwdVal
public import proofs.«01_k».proof.Proof.BwdOut
public import Idealize.ShloMosaic.Lib.Pipeline.ValueKit.Geometry

@[expose] public section

set_option maxRecDepth 16384

noncomputable section

namespace Cert.Sb.Arr

open Idealize.ShloMosaic hiding ix0 ix1 ix2 ix3 eq_ix1 eq_ix2 eq_ix3
open Idealize.ShloMosaic.ValueIdx Finset
open Idealize.ShloMosaic.TcCoe Idealize.ShloMosaic.Tactic
open Idealize.ShloMosaic.Pipeline (Dat Cfg Window)
open Cert.KernelIdeal Cert.KernelIdeal.Gen

/-- Head `h` of the arguments: columns `128 h …` of each third of `X`, and of `Y`. -/
def hd (X Y : ℕ → ℕ → ℝ) (h : ℕ) : Head where
  c := scale
  q t d := X t (h * 128 + d)
  k s d := X s (1024 + (h * 128 + d))
  v s d := X s (2048 + (h * 128 + d))
  g t d := Y t (h * 128 + d)

variable (V : (c : Dev nD) → (b : Ref sig .tc) → Buf (Elt Ideal) ((c : Thread nD τ).loc b))

/-- Where point `t` of the forward call's grid stands, and the block each window takes there. -/
theorem pt0 : ∀ t : Fin cfg0.N, (grid0.coords t 0).val = t.val / 8 ∧ (grid0.coords t 1).val = t.val % 8
    ∧ (win0_0.index t 0 = t.val % 8 ∧ win0_0.index t 1 = t.val / 8)
    ∧ (win0_1.index t 0 = 0 ∧ win0_1.index t 1 = 8 + t.val / 8)
    ∧ (win0_2.index t 0 = 0 ∧ win0_2.index t 1 = 16 + t.val / 8)
    ∧ (win0_3.index t 0 = t.val % 8 ∧ win0_3.index t 1 = t.val / 8)
    ∧ (win0_4.index t 0 = t.val / 8 ∧ win0_4.index t 1 = t.val % 8 ∧ win0_4.index t 2 = 0) :=
  (by decide +kernel : ∀ t : Fin grid0.N, _)

theorem blk0_q {X Y : ℕ → ℕ → ℝ} {c : Dev nD} (h : Rd (n := 4096) (m := 3072) (V c main_arg0) X) (t : Fin cfg0.N) :
    Rd (n := 512) (m := 128) (iblk0 (F := Ideal) V c 0 t) (fun a d => (hd X Y (t.val / 8)).q (t.val % 8 * 512 + a) d) := by
  intro a d
  obtain ⟨-, -, ⟨h0, h1⟩, -⟩ := pt0 t
  have ha := a.isLt
  have hdd := d.isLt
  have ht : t.val < 64 := t.isLt
  refine Eq.trans ?_ (h ⟨t.val % 8 * 512 + a.val, by omega⟩ ⟨t.val / 8 * 128 + d.val, by omega⟩)
  unfold iblk0
  rw [View.read_apply]
  show V c main_arg0 _ = V c main_arg0 _
  congr 1
  funext b
  apply Fin.ext
  match b with
  | ⟨0, _⟩ => show win0_0.index t 0 * 512 + 1 * a.val = t.val % 8 * 512 + a.val; rw [h0]; omega
  | ⟨1, _⟩ => show win0_0.index t 1 * 128 + 1 * d.val = t.val / 8 * 128 + d.val; rw [h1]; omega

theorem blk0_k {X Y : ℕ → ℕ → ℝ} {c : Dev nD} (h : Rd (n := 4096) (m := 3072) (V c main_arg0) X) (t : Fin cfg0.N) :
    Rd (n := 4096) (m := 128) (iblk0 (F := Ideal) V c 1 t) ((hd X Y (t.val / 8)).k) := by
  intro a d
  obtain ⟨-, -, -, ⟨h0, h1⟩, -⟩ := pt0 t
  have ha := a.isLt
  have hdd := d.isLt
  have ht : t.val < 64 := t.isLt
  refine Eq.trans ?_ (h ⟨a.val, by omega⟩ ⟨1024 + (t.val / 8 * 128 + d.val), by omega⟩)
  unfold iblk0
  rw [View.read_apply]
  show V c main_arg0 _ = V c main_arg0 _
  congr 1
  funext b
  apply Fin.ext
  match b with
  | ⟨0, _⟩ => show win0_1.index t 0 * 4096 + 1 * a.val = a.val; rw [h0]; omega
  | ⟨1, _⟩ => show win0_1.index t 1 * 128 + 1 * d.val = 1024 + (t.val / 8 * 128 + d.val); rw [h1]; omega

theorem blk0_v {X Y : ℕ → ℕ → ℝ} {c : Dev nD} (h : Rd (n := 4096) (m := 3072) (V c main_arg0) X) (t : Fin cfg0.N) :
    Rd (n := 4096) (m := 128) (iblk0 (F := Ideal) V c 2 t) ((hd X Y (t.val / 8)).v) := by
  intro a d
  obtain ⟨-, -, -, -, ⟨h0, h1⟩, -⟩ := pt0 t
  have ha := a.isLt
  have hdd := d.isLt
  have ht : t.val < 64 := t.isLt
  refine Eq.trans ?_ (h ⟨a.val, by omega⟩ ⟨2048 + (t.val / 8 * 128 + d.val), by omega⟩)
  unfold iblk0
  rw [View.read_apply]
  show V c main_arg0 _ = V c main_arg0 _
  congr 1
  funext b
  apply Fin.ext
  match b with
  | ⟨0, _⟩ => show win0_2.index t 0 * 4096 + 1 * a.val = a.val; rw [h0]; omega
  | ⟨1, _⟩ => show win0_2.index t 1 * 128 + 1 * d.val = 2048 + (t.val / 8 * 128 + d.val); rw [h1]; omega

section
variable {V} {X Y : ℕ → ℕ → ℝ} {c : Dev nD}

/-- The output block of the forward call at a point. -/
theorem outs0_o (h : Rd (n := 4096) (m := 3072) (V c main_arg0) X) (t : Fin cfg0.N) :
    Rd (n := 512) (m := 128) (outsAt0 (F := Ideal) V c t).1 (fun a d => (hd X Y (t.val / 8)).O (t.val % 8 * 512 + a) d) := by
  obtain ⟨-, g1, -⟩ := pt0 t
  have := Fwd.out3_rd c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (hd X Y (t.val / 8)) rfl
    (by rw [g1]; exact blk0_q V h t) (blk0_k V h t) (blk0_v V h t)
  rw [g1] at this
  have e : (outsAt0 (F := Ideal) V c t).1 = out0_A_3 c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) (iblk0 (F := Ideal) V c 0 t) (iblk0 (F := Ideal) V c 1 t) (iblk0 (F := Ideal) V c 2 t) := by
    unfold outsAt0
    with_reducible rfl
  rw [e]
  exact this

/-- The block of row totals at a point. -/
theorem outs0_tot (h : Rd (n := 4096) (m := 3072) (V c main_arg0) X) (t : Fin cfg0.N) :
    Rd1 (n := 512) (m := 1) (outsAt0 (F := Ideal) V c t).2 (fun a _ => (hd X Y (t.val / 8)).tot (t.val % 8 * 512 + a)) := by
  obtain ⟨-, g1, -⟩ := pt0 t
  have := Fwd.out4_rd c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (hd X Y (t.val / 8)) rfl
    (by rw [g1]; exact blk0_q V h t) (blk0_k V h t) (blk0_v V h t)
  rw [g1] at this
  have e : (outsAt0 (F := Ideal) V c t).2 = out0_A_4 c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) (iblk0 (F := Ideal) V c 0 t) (iblk0 (F := Ideal) V c 1 t) (iblk0 (F := Ideal) V c 2 t) := by
    unfold outsAt0
    with_reducible rfl
  rw [e]
  exact this

/-- The forward call's output. -/
theorem o_rd (h : Rd (n := 4096) (m := 3072) (V c main_arg0) X) :
    Rd (n := 4096) (m := 1024) ((dat0 (F := Ideal) V c).arrAt 3 cfg0.N) (fun a e => (hd X Y (e / 128)).O a (e % 128)) := by
  intro a e
  refine (dat0 (F := Ideal) V c).arrAt_forall_of_covers 3
    (fun i v => v = (((hd X Y ((i 1).val / 128)).O (i 0).val ((i 1).val % 128) : ℝ) : EReal)) (by decide +kernel)
    (fun t hf y => ?_) (ix2 a e)
  have hB := outs0_o (Y := Y) h t
  blk_simp
  rw [after0_3]
  obtain ⟨-, -, -, -, -, ⟨h0, h1⟩, -⟩ := pt0 t
  rw [h0, h1]
  have y0 : (y 0).val < 512 := (y 0).isLt
  have y1 : (y 1).val < 128 := (y 1).isLt
  generalize (outsAt0 (F := Ideal) V c t).1 = f at hB ⊢
  rw [show (t.val / 8 * 128 + (y 1).val) / 128 = t.val / 8 by omega,
    show (t.val / 8 * 128 + (y 1).val) % 128 = (y 1).val by omega]
  exact Eq.trans (congrArg f (eq_ix2 y)) (hB ⟨(y 0).val, y0⟩ ⟨(y 1).val, y1⟩)

/-- The row totals it leaves for the backward call. -/
theorem tot_rd (h : Rd (n := 4096) (m := 3072) (V c main_arg0) X) :
    ∀ (b : Fin 8) (a : Fin 4096) (z : Fin 1), (dat0 (F := Ideal) V c).arrAt 4 cfg0.N (ix3 b a z) = (((hd X Y b.val).tot a.val : ℝ) : EReal) := by
  intro b a z
  refine (dat0 (F := Ideal) V c).arrAt_forall_of_covers 4
    (fun i v => v = (((hd X Y (i 0).val).tot (i 1).val : ℝ) : EReal)) (by decide +kernel)
    (fun t hf y => ?_) (ix3 b a z)
  have hB := outs0_tot (Y := Y) h t
  blk_simp
  rw [after0_4]
  obtain ⟨-, -, -, -, -, -, ⟨h0, h1, h2⟩⟩ := pt0 t
  rw [h0, h1]
  have y0 : (y 0).val < 1 := (y 0).isLt
  have y1 : (y 1).val < 512 := (y 1).isLt
  have y2 : (y 2).val < 1 := (y 2).isLt
  generalize (outsAt0 (F := Ideal) V c t).2 = f at hB ⊢
  refine Eq.trans (congrArg f ((eq_ix3 y).trans ?_)) (hB ⟨(y 1).val, y1⟩ ⟨(y 2).val, y2⟩)
  exact congrArg (fun w : Fin 1 => ix3 w (⟨(y 1).val, y1⟩ : Fin 512) (⟨(y 2).val, y2⟩ : Fin 1)) (Fin.ext (by show (y 0).val = 0; omega) : (⟨(y 0).val, y0⟩ : Fin 1) = 0)

end

/-- Where point `t` of the backward call's grid stands, and the block each window takes there. -/
theorem pt1 : ∀ t : Fin cfg1.N, (grid1.coords t 0).val = t.val / 8 ∧ (grid1.coords t 1).val = t.val % 8
    ∧ (win1_0.index t 0 = t.val % 8 ∧ win1_0.index t 1 = t.val / 8)
    ∧ (win1_1.index t 0 = 0 ∧ win1_1.index t 1 = 8 + t.val / 8)
    ∧ (win1_2.index t 0 = 0 ∧ win1_2.index t 1 = 16 + t.val / 8)
    ∧ (win1_3.index t 0 = t.val % 8 ∧ win1_3.index t 1 = t.val / 8)
    ∧ (win1_4.index t 0 = t.val / 8 ∧ win1_4.index t 1 = t.val % 8 ∧ win1_4.index t 2 = 0)
    ∧ (win1_5.index t 0 = t.val % 8 ∧ win1_5.index t 1 = t.val / 8)
    ∧ (win1_6.index t 0 = 0 ∧ win1_6.index t 1 = t.val / 8)
    ∧ (win1_7.index t 0 = 0 ∧ win1_7.index t 1 = t.val / 8) :=
  (by decide +kernel : ∀ t : Fin grid1.N, _)

theorem blk1_q {X Y : ℕ → ℕ → ℝ} {c : Dev nD} (h : Rd (n := 4096) (m := 3072) (V c main_arg0) X) (t : Fin cfg1.N) :
    Rd (n := 512) (m := 128) (iblk1 (F := Ideal) V c 0 t) (fun a d => (hd X Y (t.val / 8)).q (t.val % 8 * 512 + a) d) := by
  intro a d
  obtain ⟨-, -, ⟨h0, h1⟩, -⟩ := pt1 t
  have ha := a.isLt
  have hdd := d.isLt
  have ht : t.val < 64 := t.isLt
  refine Eq.trans ?_ (h ⟨t.val % 8 * 512 + a.val, by omega⟩ ⟨t.val / 8 * 128 + d.val, by omega⟩)
  unfold iblk1
  rw [View.read_apply]
  show V c main_arg0 _ = V c main_arg0 _
  congr 1
  funext b
  apply Fin.ext
  match b with
  | ⟨0, _⟩ => show win1_0.index t 0 * 512 + 1 * a.val = t.val % 8 * 512 + a.val; rw [h0]; omega
  | ⟨1, _⟩ => show win1_0.index t 1 * 128 + 1 * d.val = t.val / 8 * 128 + d.val; rw [h1]; omega

theorem blk1_k {X Y : ℕ → ℕ → ℝ} {c : Dev nD} (h : Rd (n := 4096) (m := 3072) (V c main_arg0) X) (t : Fin cfg1.N) :
    Rd (n := 4096) (m := 128) (iblk1 (F := Ideal) V c 1 t) ((hd X Y (t.val / 8)).k) := by
  intro a d
  obtain ⟨-, -, -, ⟨h0, h1⟩, -⟩ := pt1 t
  have ha := a.isLt
  have hdd := d.isLt
  have ht : t.val < 64 := t.isLt
  refine Eq.trans ?_ (h ⟨a.val, by omega⟩ ⟨1024 + (t.val / 8 * 128 + d.val), by omega⟩)
  unfold iblk1
  rw [View.read_apply]
  show V c main_arg0 _ = V c main_arg0 _
  congr 1
  funext b
  apply Fin.ext
  match b with
  | ⟨0, _⟩ => show win1_1.index t 0 * 4096 + 1 * a.val = a.val; rw [h0]; omega
  | ⟨1, _⟩ => show win1_1.index t 1 * 128 + 1 * d.val = 1024 + (t.val / 8 * 128 + d.val); rw [h1]; omega

theorem blk1_v {X Y : ℕ → ℕ → ℝ} {c : Dev nD} (h : Rd (n := 4096) (m := 3072) (V c main_arg0) X) (t : Fin cfg1.N) :
    Rd (n := 4096) (m := 128) (iblk1 (F := Ideal) V c 2 t) ((hd X Y (t.val / 8)).v) := by
  intro a d
  obtain ⟨-, -, -, -, ⟨h0, h1⟩, -⟩ := pt1 t
  have ha := a.isLt
  have hdd := d.isLt
  have ht : t.val < 64 := t.isLt
  refine Eq.trans ?_ (h ⟨a.val, by omega⟩ ⟨2048 + (t.val / 8 * 128 + d.val), by omega⟩)
  unfold iblk1
  rw [View.read_apply]
  show V c main_arg0 _ = V c main_arg0 _
  congr 1
  funext b
  apply Fin.ext
  match b with
  | ⟨0, _⟩ => show win1_2.index t 0 * 4096 + 1 * a.val = a.val; rw [h0]; omega
  | ⟨1, _⟩ => show win1_2.index t 1 * 128 + 1 * d.val = 2048 + (t.val / 8 * 128 + d.val); rw [h1]; omega

theorem blk1_g {X Y : ℕ → ℕ → ℝ} {c : Dev nD} (h : Rd (n := 4096) (m := 1024) (V c main_arg1) Y) (t : Fin cfg1.N) :
    Rd (n := 512) (m := 128) (iblk1 (F := Ideal) V c 3 t) (fun a d => (hd X Y (t.val / 8)).g (t.val % 8 * 512 + a) d) := by
  intro a d
  obtain ⟨-, -, -, -, -, ⟨h0, h1⟩, -⟩ := pt1 t
  have ha := a.isLt
  have hdd := d.isLt
  have ht : t.val < 64 := t.isLt
  refine Eq.trans ?_ (h ⟨t.val % 8 * 512 + a.val, by omega⟩ ⟨t.val / 8 * 128 + d.val, by omega⟩)
  unfold iblk1
  rw [View.read_apply]
  show V c main_arg1 _ = V c main_arg1 _
  congr 1
  funext b
  apply Fin.ext
  match b with
  | ⟨0, _⟩ => show win1_3.index t 0 * 512 + 1 * a.val = t.val % 8 * 512 + a.val; rw [h0]; omega
  | ⟨1, _⟩ => show win1_3.index t 1 * 128 + 1 * d.val = t.val / 8 * 128 + d.val; rw [h1]; omega

theorem blk1_tot {X Y : ℕ → ℕ → ℝ} {c : Dev nD}
    (h : ∀ (b : Fin 8) (a : Fin 4096) (z : Fin 1), V c main_v0_1 (ix3 b a z) = (((hd X Y b.val).tot a.val : ℝ) : EReal))
    (t : Fin cfg1.N) :
    Rd1 (n := 512) (m := 1) (iblk1 (F := Ideal) V c 4 t) (fun a _ => (hd X Y (t.val / 8)).tot (t.val % 8 * 512 + a)) := by
  intro a d
  obtain ⟨-, -, -, -, -, -, ⟨h0, h1, h2⟩, -⟩ := pt1 t
  have ha := a.isLt
  have hdd := d.isLt
  have ht : t.val < 64 := t.isLt
  refine Eq.trans ?_ (h ⟨t.val / 8, by omega⟩ ⟨t.val % 8 * 512 + a.val, by omega⟩ d)
  unfold iblk1
  rw [View.read_apply]
  show V c main_v0_1 _ = V c main_v0_1 _
  congr 1
  funext b
  apply Fin.ext
  match b with
  | ⟨0, _⟩ => show win1_4.index t 0 * 1 + 1 * 0 = t.val / 8; rw [h0]; omega
  | ⟨1, _⟩ => show win1_4.index t 1 * 512 + 1 * a.val = t.val % 8 * 512 + a.val; rw [h1]; omega
  | ⟨2, _⟩ => show win1_4.index t 2 * 1 + 1 * d.val = d.val; rw [h2]; omega

section
variable {V} {X Y : ℕ → ℕ → ℝ} {c : Dev nD} (hX : Rd (n := 4096) (m := 3072) (V c main_arg0) X)
  (hY : Rd (n := 4096) (m := 1024) (V c main_arg1) Y)
  (hT : ∀ (b : Fin 8) (a : Fin 4096) (z : Fin 1), V c main_v0_1 (ix3 b a z) = (((hd X Y b.val).tot a.val : ℝ) : EReal))

include hX hY hT

theorem ptA5 (t : Fin cfg1.N) (h0 : t.val % 8 = 0) :
    Rd (n := 512) (m := 128) (outsAt1 (F := Ideal) V c t.val t.isLt).1
      (fun a d => (hd X Y (t.val / 8)).dq (t.val % 8 * 512 + a) d) := by
  obtain ⟨-, g1, -⟩ := pt1 t
  have := Bwd.outA5_rd c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1_0 (Memref.isWhole_whole _) scM1_1 (Memref.isWhole_whole _)
    (hd X Y (t.val / 8)) rfl ((hcond1_0 t).mpr h0) (by rw [g1]; exact blk1_q V hX t) (blk1_k V hX t) (blk1_v V hX t) (by rw [g1]; exact blk1_g V hY t) (by rw [g1]; exact blk1_tot V hT t)
  rw [g1] at this
  rw [outsAt1_A V c t h0]
  exact this

theorem ptA6 (t : Fin cfg1.N) (h0 : t.val % 8 = 0) :
    Rd (n := 4096) (m := 128) (outsAt1 (F := Ideal) V c t.val t.isLt).2.1
      (fun s d => 0 + ∑ t' ∈ Ico (t.val % 8 * 512) (t.val % 8 * 512 + 512), (hd X Y (t.val / 8)).dz t' s * (hd X Y (t.val / 8)).q t' d) := by
  obtain ⟨-, g1, -⟩ := pt1 t
  have := Bwd.outA6_rd c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1_0 (Memref.isWhole_whole _) scM1_1 (Memref.isWhole_whole _)
    (hd X Y (t.val / 8)) rfl ((hcond1_0 t).mpr h0) (by rw [g1]; exact blk1_q V hX t) (blk1_k V hX t) (blk1_v V hX t) (by rw [g1]; exact blk1_g V hY t) (by rw [g1]; exact blk1_tot V hT t)
  rw [g1] at this
  rw [outsAt1_A V c t h0]
  exact this

theorem ptA7 (t : Fin cfg1.N) (h0 : t.val % 8 = 0) :
    Rd (n := 4096) (m := 128) (outsAt1 (F := Ideal) V c t.val t.isLt).2.2
      (fun s d => 0 + ∑ t' ∈ Ico (t.val % 8 * 512) (t.val % 8 * 512 + 512), (hd X Y (t.val / 8)).W t' s * (hd X Y (t.val / 8)).g t' d) := by
  obtain ⟨-, g1, -⟩ := pt1 t
  have := Bwd.outA7_rd c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1_0 (Memref.isWhole_whole _) scM1_1 (Memref.isWhole_whole _)
    (hd X Y (t.val / 8)) rfl ((hcond1_0 t).mpr h0) (by rw [g1]; exact blk1_q V hX t) (blk1_k V hX t) (blk1_v V hX t) (by rw [g1]; exact blk1_g V hY t) (by rw [g1]; exact blk1_tot V hT t)
  rw [g1] at this
  rw [outsAt1_A V c t h0]
  exact this

theorem ptB5 (t : Fin cfg1.N) (h0 : ¬t.val % 8 = 0)
    {f8 f9 : ℕ → ℕ → ℝ}
    (h8 : Rd (n := 4096) (m := 128) (outsAt1 (F := Ideal) V c (t.val - 1) (Nat.lt_of_le_of_lt (Nat.sub_le _ _) t.isLt)).2.1 f8)
    (h9 : Rd (n := 4096) (m := 128) (outsAt1 (F := Ideal) V c (t.val - 1) (Nat.lt_of_le_of_lt (Nat.sub_le _ _) t.isLt)).2.2 f9) :
    Rd (n := 512) (m := 128) (outsAt1 (F := Ideal) V c t.val t.isLt).1
      (fun a d => (hd X Y (t.val / 8)).dq (t.val % 8 * 512 + a) d) := by
  obtain ⟨-, g1, -⟩ := pt1 t
  have := Bwd.outB5_rd c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1_0 (Memref.isWhole_whole _) scM1_1 (Memref.isWhole_whole _)
    (hd X Y (t.val / 8)) rfl (fun h => h0 ((hcond1_0 t).mp h)) (by rw [g1]; exact blk1_q V hX t) (blk1_k V hX t) (blk1_v V hX t) (by rw [g1]; exact blk1_g V hY t) (by rw [g1]; exact blk1_tot V hT t) h8 h9
  rw [g1] at this
  rw [outsAt1_B V c t h0]
  exact this

theorem ptB6 (t : Fin cfg1.N) (h0 : ¬t.val % 8 = 0)
    {f8 f9 : ℕ → ℕ → ℝ}
    (h8 : Rd (n := 4096) (m := 128) (outsAt1 (F := Ideal) V c (t.val - 1) (Nat.lt_of_le_of_lt (Nat.sub_le _ _) t.isLt)).2.1 f8)
    (h9 : Rd (n := 4096) (m := 128) (outsAt1 (F := Ideal) V c (t.val - 1) (Nat.lt_of_le_of_lt (Nat.sub_le _ _) t.isLt)).2.2 f9) :
    Rd (n := 4096) (m := 128) (outsAt1 (F := Ideal) V c t.val t.isLt).2.1
      (fun s d => f8 s d + ∑ t' ∈ Ico (t.val % 8 * 512) (t.val % 8 * 512 + 512), (hd X Y (t.val / 8)).dz t' s * (hd X Y (t.val / 8)).q t' d) := by
  obtain ⟨-, g1, -⟩ := pt1 t
  have := Bwd.outB6_rd c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1_0 (Memref.isWhole_whole _) scM1_1 (Memref.isWhole_whole _)
    (hd X Y (t.val / 8)) rfl (fun h => h0 ((hcond1_0 t).mp h)) (by rw [g1]; exact blk1_q V hX t) (blk1_k V hX t) (blk1_v V hX t) (by rw [g1]; exact blk1_g V hY t) (by rw [g1]; exact blk1_tot V hT t) h8 h9
  rw [g1] at this
  rw [outsAt1_B V c t h0]
  exact this

theorem ptB7 (t : Fin cfg1.N) (h0 : ¬t.val % 8 = 0)
    {f8 f9 : ℕ → ℕ → ℝ}
    (h8 : Rd (n := 4096) (m := 128) (outsAt1 (F := Ideal) V c (t.val - 1) (Nat.lt_of_le_of_lt (Nat.sub_le _ _) t.isLt)).2.1 f8)
    (h9 : Rd (n := 4096) (m := 128) (outsAt1 (F := Ideal) V c (t.val - 1) (Nat.lt_of_le_of_lt (Nat.sub_le _ _) t.isLt)).2.2 f9) :
    Rd (n := 4096) (m := 128) (outsAt1 (F := Ideal) V c t.val t.isLt).2.2
      (fun s d => f9 s d + ∑ t' ∈ Ico (t.val % 8 * 512) (t.val % 8 * 512 + 512), (hd X Y (t.val / 8)).W t' s * (hd X Y (t.val / 8)).g t' d) := by
  obtain ⟨-, g1, -⟩ := pt1 t
  have := Bwd.outB7_rd c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1_0 (Memref.isWhole_whole _) scM1_1 (Memref.isWhole_whole _)
    (hd X Y (t.val / 8)) rfl (fun h => h0 ((hcond1_0 t).mp h)) (by rw [g1]; exact blk1_q V hX t) (blk1_k V hX t) (blk1_v V hX t) (by rw [g1]; exact blk1_g V hY t) (by rw [g1]; exact blk1_tot V hT t) h8 h9
  rw [g1] at this
  rw [outsAt1_B V c t h0]
  exact this

/-- The two accumulated blocks after row block `r` of head `b`: the sums over the rows so far. -/
theorem acc (b : ℕ) (hb : b < 8) : ∀ (r : ℕ) (hr : r < 8) (n : ℕ) (hn : n < cfg1.N), n = b * 8 + r →
    Rd (n := 4096) (m := 128) (outsAt1 (F := Ideal) V c n hn).2.1
        (fun s d => ∑ t ∈ range (r * 512 + 512), (hd X Y b).dz t s * (hd X Y b).q t d) ∧
      Rd (n := 4096) (m := 128) (outsAt1 (F := Ideal) V c n hn).2.2
        (fun s d => ∑ t ∈ range (r * 512 + 512), (hd X Y b).W t s * (hd X Y b).g t d)
  | 0, _, n, hn, e => by
    have e8 : n / 8 = b := by omega
    have em : n % 8 = 0 := by omega
    have h6 := ptA6 hX hY hT ⟨n, hn⟩ em
    have h7 := ptA7 hX hY hT ⟨n, hn⟩ em
    simp only [e8, em] at h6 h7
    exact ⟨h6.congr fun s d _ _ => by rw [zero_add, range_eq_Ico, zero_mul], h7.congr fun s d _ _ => by rw [zero_add, range_eq_Ico, zero_mul]⟩
  | r + 1, hr, n, hn, e => by
    have e8 : n / 8 = b := by omega
    have em : n % 8 = r + 1 := by omega
    have h0 : ¬n % 8 = 0 := by omega
    have ih := acc b hb r (by omega) (n - 1) (Nat.lt_of_le_of_lt (Nat.sub_le _ _) hn) (by omega)
    have h6 := ptB6 hX hY hT ⟨n, hn⟩ h0 ih.1 ih.2
    have h7 := ptB7 hX hY hT ⟨n, hn⟩ h0 ih.1 ih.2
    simp only [e8, em] at h6 h7
    have hs : (r + 1) * 512 = r * 512 + 512 := by omega
    exact ⟨h6.congr fun s d _ _ => by rw [range_eq_Ico, range_eq_Ico, hs]; exact sum_Ico_consecutive _ (Nat.zero_le (r * 512 + 512)) (Nat.le_add_right (r * 512 + 512) 512),
      h7.congr fun s d _ _ => by rw [range_eq_Ico, range_eq_Ico, hs]; exact sum_Ico_consecutive _ (Nat.zero_le (r * 512 + 512)) (Nat.le_add_right (r * 512 + 512) 512)⟩

/-- The gradient of q. -/
theorem dq_rd : Rd (n := 4096) (m := 1024) ((dat1 (F := Ideal) V c).arrAt 5 cfg1.N) (fun a e => (hd X Y (e / 128)).dq a (e % 128)) := by
  intro a e
  refine (dat1 (F := Ideal) V c).arrAt_forall_of_covers 5
    (fun i v => v = (((hd X Y ((i 1).val / 128)).dq (i 0).val ((i 1).val % 128) : ℝ) : EReal)) (by decide +kernel)
    (fun t hf y => ?_) (ix2 a e)
  have hB : Rd (n := 512) (m := 128) (outsAt1 (F := Ideal) V c t.val t.isLt).1
      (fun a d => (hd X Y (t.val / 8)).dq (t.val % 8 * 512 + a) d) := by
    by_cases h0 : t.val % 8 = 0
    · exact ptA5 hX hY hT t h0
    · have ih := acc hX hY hT (t.val / 8) (by have : t.val < 64 := t.isLt; omega) (t.val % 8 - 1) (by omega) (t.val - 1)
        (Nat.lt_of_le_of_lt (Nat.sub_le _ _) t.isLt) (by omega)
      exact ptB5 hX hY hT t h0 ih.1 ih.2
  blk_simp
  rw [after1_5]
  obtain ⟨-, -, -, -, -, -, -, ⟨h0, h1⟩, -⟩ := pt1 t
  rw [h0, h1]
  have y0 : (y 0).val < 512 := (y 0).isLt
  have y1 : (y 1).val < 128 := (y 1).isLt
  generalize (outsAt1 (F := Ideal) V c t.val t.isLt).1 = f at hB ⊢
  rw [show (t.val / 8 * 128 + (y 1).val) / 128 = t.val / 8 by omega,
    show (t.val / 8 * 128 + (y 1).val) % 128 = (y 1).val by omega]
  exact Eq.trans (congrArg f (eq_ix2 y)) (hB ⟨(y 0).val, y0⟩ ⟨(y 1).val, y1⟩)

/-- The gradient of k. -/
theorem dk_rd : Rd (n := 4096) (m := 1024) ((dat1 (F := Ideal) V c).arrAt 6 cfg1.N) (fun a e => (hd X Y (e / 128)).dk a (e % 128)) := by
  intro a e
  refine (dat1 (F := Ideal) V c).arrAt_forall_of_covers 6
    (fun i v => v = (((hd X Y ((i 1).val / 128)).dk (i 0).val ((i 1).val % 128) : ℝ) : EReal)) (by decide +kernel)
    (fun t hf y => ?_) (ix2 a e)
  have hf7 : t.val % 8 = 7 := (flush1_6 t).mp hf
  have ih := acc hX hY hT (t.val / 8) (by have : t.val < 64 := t.isLt; omega) (t.val % 8) (by omega) t.val t.isLt (by omega)
  have hB : Rd (n := 4096) (m := 128) (outsAt1 (F := Ideal) V c t.val t.isLt).2.1 (hd X Y (t.val / 8)).dk := by
    have := ih.1
    rw [hf7] at this
    exact this
  blk_simp
  rw [after1_6]
  obtain ⟨-, -, -, -, -, -, -, -, ⟨h0, h1⟩, -⟩ := pt1 t
  rw [h0, h1]
  have y0 : (y 0).val < 4096 := (y 0).isLt
  have y1 : (y 1).val < 128 := (y 1).isLt
  generalize (outsAt1 (F := Ideal) V c t.val t.isLt).2.1 = f at hB ⊢
  rw [show (t.val / 8 * 128 + (y 1).val) / 128 = t.val / 8 by omega,
    show (t.val / 8 * 128 + (y 1).val) % 128 = (y 1).val by omega, zero_mul, zero_add]
  exact Eq.trans (congrArg f (eq_ix2 y)) (hB ⟨(y 0).val, y0⟩ ⟨(y 1).val, y1⟩)

/-- The gradient of v. -/
theorem dv_rd : Rd (n := 4096) (m := 1024) ((dat1 (F := Ideal) V c).arrAt 7 cfg1.N) (fun a e => (hd X Y (e / 128)).dv a (e % 128)) := by
  intro a e
  refine (dat1 (F := Ideal) V c).arrAt_forall_of_covers 7
    (fun i v => v = (((hd X Y ((i 1).val / 128)).dv (i 0).val ((i 1).val % 128) : ℝ) : EReal)) (by decide +kernel)
    (fun t hf y => ?_) (ix2 a e)
  have hf7 : t.val % 8 = 7 := (flush1_7 t).mp hf
  have ih := acc hX hY hT (t.val / 8) (by have : t.val < 64 := t.isLt; omega) (t.val % 8) (by omega) t.val t.isLt (by omega)
  have hB : Rd (n := 4096) (m := 128) (outsAt1 (F := Ideal) V c t.val t.isLt).2.2 (hd X Y (t.val / 8)).dv := by
    have := ih.2
    rw [hf7] at this
    exact this
  blk_simp
  rw [after1_7]
  obtain ⟨-, -, -, -, -, -, -, -, -, ⟨h0, h1⟩⟩ := pt1 t
  rw [h0, h1]
  have y0 : (y 0).val < 4096 := (y 0).isLt
  have y1 : (y 1).val < 128 := (y 1).isLt
  generalize (outsAt1 (F := Ideal) V c t.val t.isLt).2.2 = f at hB ⊢
  rw [show (t.val / 8 * 128 + (y 1).val) / 128 = t.val / 8 by omega,
    show (t.val / 8 * 128 + (y 1).val) % 128 = (y 1).val by omega, zero_mul, zero_add]
  exact Eq.trans (congrArg f (eq_ix2 y)) (hB ⟨(y 0).val, y0⟩ ⟨(y 1).val, y1⟩)

end

end Cert.Sb.Arr
-- ==== Proof.Run.lean ====
/- The kernel's run from real arguments: what its four results hold when it ends. -/
module

public import proofs.«01_k».proof.Proof.Arr
public import proofs.«01_k».proof.Proof.Gen.KernelIdeal.Frame

@[expose] public section

set_option maxRecDepth 16384

noncomputable section

namespace Cert.Sb.Run

open Idealize.ShloMosaic hiding ix0 ix1 ix2 ix3 eq_ix1 eq_ix2 eq_ix3
open Idealize.ShloMosaic.ValueIdx Finset
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen Cert.Sb.Arr

variable (m : (l : Loc nD τ sig) → Buf (Elt Ideal) l) (ρ : Dev nD → PrngReg)

set_option backward.isDefEq.respectTransparency.types false in
/-- The run ends with every buffer that outlives the calls at its contents after the second call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact H
      · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]
      · iexact Hb
      isplitl [Hr]
      · iexists _; iexact Hr
      · iexists ∅; iexact Ho)
    (QY := fun c s => ∀ b ∈ Pipeline.ucRefs τ sig, s.mem (((c : Thread nD τ)).1, b) = W2 m ρ c b)
    (hfin := fun c s' => by
      iintro ⟨⟨Hb, -⟩, Hs⟩
      unfold StableHlo.held
      imodintro
      iapply (pointsTo_read_all (Pipeline.ucRefs τ sig) (fun b => (((c : Thread nD τ)).1, b)) (W2 m ρ c) s')
      isplitl [Hb]
      · iassumption
      · iassumption)
    (hQ := fun _ h _ => h)

/-- From real arguments the four results are the four real matrices of the heads. -/
theorem run {X Y : Dev nD → ℕ → ℕ → ℝ}
    (hX : ∀ c : Dev nD, Rd (n := 4096) (m := 3072) (m ((c : Thread nD τ).loc main_arg0)) (X c))
    (hY : ∀ c : Dev nD, Rd (n := 4096) (m := 1024) (m ((c : Thread nD τ).loc main_arg1)) (Y c)) :
    θ_run defs (onTc (τ := τ) (main (F := Ideal))) ⟨m, fun _ => 0, ρ⟩ (fun r => ∀ c : Dev nD,
      Rd (n := 4096) (m := 1024) (r.2.mem ((c.tc : Thread nD τ).loc main_v0_0)) (fun a e => (hd (X c) (Y c) (e / 128)).O a (e % 128))
      ∧ Rd (n := 4096) (m := 1024) (r.2.mem ((c.tc : Thread nD τ).loc main_v1_0)) (fun a e => (hd (X c) (Y c) (e / 128)).dq a (e % 128))
      ∧ Rd (n := 4096) (m := 1024) (r.2.mem ((c.tc : Thread nD τ).loc main_v1_1)) (fun a e => (hd (X c) (Y c) (e / 128)).dk a (e % 128))
      ∧ Rd (n := 4096) (m := 1024) (r.2.mem ((c.tc : Thread nD τ).loc main_v1_2)) (fun a e => (hd (X c) (Y c) (e / 128)).dv a (e % 128))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (ends m ρ)
  have hX0 : Rd (n := 4096) (m := 3072) (V0 m ρ c main_arg0) (X c) := hX c
  have hX1 : Rd (n := 4096) (m := 3072) (V1 m ρ c main_arg0) (X c) := by
    have e : V1 m ρ c main_arg0 = m ((c : Thread nD τ).loc main_arg0) := W1_args m ρ c main_arg0 (by decide)
    rw [e]; exact hX c
  have hY1 : Rd (n := 4096) (m := 1024) (V1 m ρ c main_arg1) (Y c) := by
    have e : V1 m ρ c main_arg1 = m ((c : Thread nD τ).loc main_arg1) := W1_args m ρ c main_arg1 (by decide)
    rw [e]; exact hY c
  have hT1 : ∀ (b : Fin 8) (a : Fin 4096) (z : Fin 1), V1 m ρ c main_v0_1 (ix3 b a z) = (((hd (X c) (Y c) b.val).tot a.val : ℝ) : EReal) := by
    have e := hF0 m ρ c 4
    intro b a z
    refine Eq.trans ?_ (tot_rd (Y := Y c) hX0 b a z)
    rw [e]
  have eo : r.2.mem ((c.tc : Thread nD τ).loc main_v0_0) = (dat0 (V0 m ρ) c).arrAt 3 cfg0.N :=
    (h c _ (mem_uc main_v0_0 (by decide))).trans ((W2_of_ne m ρ c main_v0_0 (by decide)).trans (hF0 m ρ c 3).symm)
  have e5 : r.2.mem ((c.tc : Thread nD τ).loc main_v1_0) = (dat1 (V1 m ρ) c).arrAt 5 cfg1.N :=
    (h c _ (mem_uc main_v1_0 (by decide))).trans (hF1 m ρ c 5).symm
  have e6 : r.2.mem ((c.tc : Thread nD τ).loc main_v1_1) = (dat1 (V1 m ρ) c).arrAt 6 cfg1.N :=
    (h c _ (mem_uc main_v1_1 (by decide))).trans (hF1 m ρ c 6).symm
  have e7 : r.2.mem ((c.tc : Thread nD τ).loc main_v1_2) = (dat1 (V1 m ρ) c).arrAt 7 cfg1.N :=
    (h c _ (mem_uc main_v1_2 (by decide))).trans (hF1 m ρ c 7).symm
  refine ⟨?_, ?_, ?_, ?_, (h c _ (mem_uc main_arg0 (by decide))).trans (W2_main_arg0 m ρ c),
    (h c _ (mem_uc main_arg1 (by decide))).trans (W2_main_arg1 m ρ c)⟩
  · rw [eo]; exact o_rd hX0
  · rw [e5]; exact dq_rd hX1 hY1 hT1
  · rw [e6]; exact dk_rd hX1 hY1 hT1
  · rw [e7]; exact dv_rd hX1 hY1 hT1

end Cert.Sb.Run
-- ==== Proof.RefOps.lean ====
/- The operations of the plain program on arrays of extended reals that hold real numbers: products of matrices, the logarithm of the
   logistic function with its derivative as it is written there, and running sums in both directions. -/
module

public import proofs.«01_k».proof.Proof.Arr

@[expose] public section

set_option maxRecDepth 16384

noncomputable section

namespace Cert.Sb.RefOps

open Idealize.ShloMosaic hiding ix0 ix1 ix2 ix3 eq_ix1 eq_ix2 eq_ix3
open Idealize.ShloMosaic.ValueIdx Finset

/-- A sum of products of real numbers, taken among the extended reals. -/
theorem coe_dot {n : ℕ} (f g : ℕ → ℝ) :
    ∑ k : Fin n, ((f k.val : ℝ) : EReal) * ((g k.val : ℝ) : EReal) = ((∑ k ∈ range n, f k * g k : ℝ) : EReal) := by
  rw [← coe_sum]
  exact Finset.sum_congr rfl fun k _ => (EReal.coe_mul _ _).symm

theorem log1p_coe {x : ℝ} (h : 0 < 1 + x) : Ideal.log1p (x : EReal) = ((Real.log (1 + x) : ℝ) : EReal) := by
  unfold Ideal.log1p
  rw [← EReal.coe_one, ← EReal.coe_add, Ideal.log_coe, if_neg (not_le.mpr h)]

theorem inf_bits : Ideal.ofBits .f32 0x7F800000#32 = ⊤ := by
  simp [Ideal.ofBits, Ideal.ieee]

theorem coe_max (a b : ℝ) : ((max a b : ℝ) : EReal) = max (a : EReal) (b : EReal) :=
  (EReal.coe_strictMono.monotone).map_max

/-- The soft maximum of a real number and zero. -/
theorem softplus (x : ℝ) :
    Scalar.select (Ideal.cmp .une ((x : EReal) - Ideal.ofBits .f32 0x00000000#32) ((x : EReal) - Ideal.ofBits .f32 0x00000000#32))
      ((x : EReal) + Ideal.ofBits .f32 0x00000000#32)
      (max (x : EReal) (Ideal.ofBits .f32 0x00000000#32) + Ideal.log1p (Ideal.exp (-max ((x : EReal) - Ideal.ofBits .f32 0x00000000#32) (-((x : EReal) - Ideal.ofBits .f32 0x00000000#32)))))
      = ((-ls (-x) : ℝ) : EReal) := by
  rw [Ideal.ofBits_zero_f32, sub_zero, ← EReal.coe_neg, ← coe_max, ← EReal.coe_neg, Ideal.exp_coe,
    log1p_coe (by have := Real.exp_pos (-max x (-x)); linarith), ← EReal.coe_zero, ← coe_max, ← EReal.coe_add,
    ← softplus_eq]
  simp [Scalar.select, Ideal.cmp, abs]

/-- The derivative of the soft maximum, as the difference of two numbers under the exponential. -/
theorem softplus_exp (x s : ℝ) :
    Ideal.exp (Scalar.select (Ideal.cmp .oeq (x : EReal) (Ideal.ofBits .f32 0x7F800000#32)) (Ideal.ofBits .f32 0x00000000#32) (x : EReal)
      - Scalar.select (Ideal.cmp .oeq (s : EReal) (Ideal.ofBits .f32 0x7F800000#32)) (Ideal.ofBits .f32 0x00000000#32) (s : EReal))
      = ((Real.exp (x - s) : ℝ) : EReal) := by
  rw [inf_bits]
  have h : ∀ y : ℝ, Scalar.select (Ideal.cmp .oeq (y : EReal) ⊤) (Ideal.ofBits .f32 0x00000000#32) (y : EReal) = (y : EReal) := by
    intro y
    simp [Scalar.select, Ideal.cmp, EReal.coe_ne_top]
  rw [h, h, ← EReal.coe_sub, Ideal.exp_coe]

theorem foldl_add {α : Type} (g : α → EReal) : ∀ (l : List α) (r : EReal), l.foldl (fun r n => r + g n) r = r + (l.map g).sum
  | [], r => by simp
  | a :: l, r => by
    rw [List.foldl_cons, foldl_add g l, List.map_cons, List.sum_cons, add_assoc]

/-- The last coordinate of an index of the window. -/
def lastOf (n : ℕ) (i : (⟨3, ![1, 1, n]⟩ : Shape).Idx) : Fin n := i 2

theorem lastOf_bij (n : ℕ) : Function.Bijective (lastOf n) := by
  constructor
  · intro i j h
    funext a
    match a with
    | ⟨0, _⟩ => exact Subsingleton.elim (α := Fin 1) _ _
    | ⟨1, _⟩ => exact Subsingleton.elim (α := Fin 1) _ _
    | ⟨2, _⟩ => exact h
  · intro k
    refine ⟨fun a => match a with
      | ⟨0, _⟩ => (0 : Fin 1)
      | ⟨1, _⟩ => (0 : Fin 1)
      | ⟨2, _⟩ => k, rfl⟩

/-- A sum over the indices of the window, in the order they are visited, of numbers that depend on the last coordinate. -/
theorem window_sum (n : ℕ) (F : ℕ → ℝ) (g : Fin (⟨3, ![1, 1, n]⟩ : Shape).numel → EReal)
    (hg : ∀ k, g k = ((F (lastOf n ((⟨3, ![1, 1, n]⟩ : Shape).rowMajor.symm k)).val : ℝ) : EReal)) :
    (List.finRange (⟨3, ![1, 1, n]⟩ : Shape).numel).foldl (fun r k => r + g k) 0 = ((∑ k ∈ range n, F k : ℝ) : EReal) := by
  rw [foldl_add, zero_add, ← coe_sum, ← Function.Bijective.sum_comp (lastOf_bij n) (fun k => ((F k.val : ℝ) : EReal)),
    ← Equiv.sum_comp (⟨3, ![1, 1, n]⟩ : Shape).rowMajor.symm, Fin.sum_univ_def]
  exact congrArg List.sum (List.map_congr_left fun k _ => hg k)

/-- The terms of a running sum over the last of three coordinates, by the place in the window. -/
theorem window_term {A B n : ℕ} (lo : ℕ) (x : (⟨3, ![A, B, n]⟩ : Shape).Idx → EReal) (f : ℕ → ℕ → ℕ → ℝ)
    (hx : ∀ i, x i = ((f (i 0).val (i 1).val (i 2).val : ℝ) : EReal)) (i : (⟨3, ![A, B, n]⟩ : Shape).Idx)
    (w : (⟨3, ![1, 1, n]⟩ : Shape).Idx) (p : Fin 3 → ℕ) (hp : ∀ a, p a = (i a).val * (![1, 1, 1] : Fin 3 → ℕ) a + (w a).val)
    {_ : Decidable (∀ a, (![0, 0, lo] : Fin 3 → ℕ) a ≤ p a ∧ p a - (![0, 0, lo] : Fin 3 → ℕ) a < (⟨3, ![A, B, n]⟩ : Shape).size a)} :
    (if hin : ∀ a, (![0, 0, lo] : Fin 3 → ℕ) a ≤ p a ∧ p a - (![0, 0, lo] : Fin 3 → ℕ) a < (⟨3, ![A, B, n]⟩ : Shape).size a then
        x (fun a => ⟨p a - (![0, 0, lo] : Fin 3 → ℕ) a, (hin a).2⟩) else (0 : EReal))
      = (((if lo ≤ (i 2).val + (lastOf n w).val ∧ (i 2).val + (lastOf n w).val - lo < n then
          f (i 0).val (i 1).val ((i 2).val + (lastOf n w).val - lo) else 0 : ℝ)) : EReal) := by
  have w0 : (w 0).val = 0 := Nat.lt_one_iff.mp (w 0).isLt
  have w1 : (w 1).val = 0 := Nat.lt_one_iff.mp (w 1).isLt
  have h0 : p 0 = (i 0).val := by rw [hp]; simp [w0]
  have h1 : p 1 = (i 1).val := by rw [hp]; simp [w1]
  have h2 : p 2 = (i 2).val + (lastOf n w).val := by rw [hp]; simp [lastOf]
  by_cases c : lo ≤ (i 2).val + (lastOf n w).val ∧ (i 2).val + (lastOf n w).val - lo < n
  · have hin : ∀ a, (![0, 0, lo] : Fin 3 → ℕ) a ≤ p a ∧ p a - (![0, 0, lo] : Fin 3 → ℕ) a < (⟨3, ![A, B, n]⟩ : Shape).size a := by
      intro a
      match a with
      | ⟨0, _⟩ => exact ⟨Nat.zero_le _, by have := (i 0).isLt; exact h0 ▸ this⟩
      | ⟨1, _⟩ => exact ⟨Nat.zero_le _, by have := (i 1).isLt; exact h1 ▸ this⟩
      | ⟨2, _⟩ => exact h2 ▸ c
    rw [dif_pos hin, if_pos c, hx]
    show ((f (p 0) (p 1) (p 2 - lo) : ℝ) : EReal) = _
    rw [h0, h1, h2]
  · rw [dif_neg, if_neg c, EReal.coe_zero]
    intro hin
    exact c (h2 ▸ hin 2)

/-- A running sum over the last of three coordinates, as the sum over the places of the window that lie in the row. -/
theorem cum {A B n lo hi : ℕ} (x : (⟨3, ![A, B, n]⟩ : Shape).Idx → EReal) (f : ℕ → ℕ → ℕ → ℝ)
    (hx : ∀ i, x i = ((f (i 0).val (i 1).val (i 2).val : ℝ) : EReal)) (init : (⟨0, ![]⟩ : Shape).Idx → EReal) (h0 : ∀ j, init j = 0)
    (h : (⟨3, ![A, B, n]⟩ : Shape).ReduceWindows ![1, 1, n] ![1, 1, 1] ![0, 0, lo] ![0, 0, hi] ⟨3, ![A, B, n]⟩)
    (hu : 0 < (⟨0, ![]⟩ : Shape).numel) (i : (⟨3, ![A, B, n]⟩ : Shape).Idx) :
    Host.reduceWindow (· + ·) ![1, 1, n] ![1, 1, 1] ![0, 0, lo] ![0, 0, hi] x init h hu i
      = ((∑ k ∈ range n, (if lo ≤ (i 2).val + k ∧ (i 2).val + k - lo < n then
          f (i 0).val (i 1).val ((i 2).val + k - lo) else 0) : ℝ) : EReal) := by
  unfold Host.reduceWindow
  rw [h0]
  exact window_sum n (fun k => if lo ≤ (i 2).val + k ∧ (i 2).val + k - lo < n then
    f (i 0).val (i 1).val ((i 2).val + k - lo) else 0) _ fun k =>
      window_term lo x f hx i ((⟨3, ![1, 1, n]⟩ : Shape).rowMajor.symm k)
        (fun a => (i (a.cast h.1.symm)).val * (![1, 1, 1] : Fin 3 → ℕ) a + ((⟨3, ![1, 1, n]⟩ : Shape).rowMajor.symm k a).val) fun a => rfl

theorem cum_add {A B n lo hi : ℕ} {x : FVec Ideal ⟨3, ![A, B, n]⟩ .f32} {f : ℕ → ℕ → ℕ → ℝ}
    (hx : ∀ i, x i = ((f (i 0).val (i 1).val (i 2).val : ℝ) : EReal)) {init : FVec Ideal ⟨0, ![]⟩ .f32} (h0 : ∀ j, init j = (0 : EReal))
    (h : (⟨3, ![A, B, n]⟩ : Shape).ReduceWindows ![1, 1, n] ![1, 1, 1] ![0, 0, lo] ![0, 0, hi] ⟨3, ![A, B, n]⟩)
    (hu : 0 < (⟨0, ![]⟩ : Shape).numel) (i : (⟨3, ![A, B, n]⟩ : Shape).Idx) :
    Host.reduceWindowAdd ![1, 1, n] ![1, 1, 1] ![0, 0, lo] ![0, 0, hi] x init h hu i
      = ((∑ k ∈ range n, (if lo ≤ (i 2).val + k ∧ (i 2).val + k - lo < n then
          f (i 0).val (i 1).val ((i 2).val + k - lo) else 0) : ℝ) : EReal) := by
  unfold Host.reduceWindowAdd
  rw [Ideal.hostReduceWindowAdd_def]
  unfold Ideal.hostReduceWindowAdd
  exact cum x f hx (fun _ => init (Shape.Idx.first hu)) (fun _ => h0 _) h _ i

/-- Sums from the place on to the end of the row. -/
theorem sum_rev {n p : ℕ} (hp : p < n) (f : ℕ → ℝ) :
    (∑ k ∈ range n, (if 0 ≤ p + k ∧ p + k - 0 < n then f (p + k - 0) else 0)) = ∑ j ∈ Ico p n, f j := by
  rw [Finset.sum_Ico_eq_sum_range, ← Finset.sum_subset (Finset.range_subset_range.mpr (Nat.sub_le n p))]
  · refine Finset.sum_congr rfl fun k hk => ?_
    rw [Finset.mem_range] at hk
    rw [if_pos ⟨Nat.zero_le _, by omega⟩]; rfl
  · intro k hk hk'
    rw [Finset.mem_range] at hk hk'
    rw [if_neg (by omega)]

/-- Sums from the beginning of the row up to the place. -/
theorem sum_fwd {n p : ℕ} (hp : p < n) (f : ℕ → ℝ) :
    (∑ k ∈ range n, (if n - 1 ≤ p + k ∧ p + k - (n - 1) < n then f (p + k - (n - 1)) else 0)) = ∑ j ∈ range (p + 1), f j := by
  rw [← Finset.sum_range_add_sum_Ico _ (show n - 1 - p ≤ n by omega), Finset.sum_eq_zero, zero_add,
    Finset.sum_Ico_eq_sum_range, show n - (n - 1 - p) = p + 1 by omega]
  · refine Finset.sum_congr rfl fun k hk => ?_
    rw [Finset.mem_range] at hk
    rw [if_pos ⟨by omega, by omega⟩, show p + (n - 1 - p + k) - (n - 1) = k by omega]
  · intro k hk
    rw [Finset.mem_range] at hk
    rw [if_neg (by omega)]

end Cert.Sb.RefOps
-- ==== Proof.Ref.lean ====
/- What the plain program computes, as real numbers: the output of the attention and the gradients of its queries, keys and values. -/
module

public import proofs.«01_k».proof.Proof.RefOps
public import proofs.«01_k».proof.Proof.Gen.ReferenceIdeal.Read
public import Idealize.ShloMosaic.Lib.WordCmp

@[expose] public section

set_option maxRecDepth 16384

noncomputable section

namespace Cert.Sb.Ref

open Idealize.ShloMosaic hiding ix0 ix1 ix2 ix3 eq_ix1 eq_ix2 eq_ix3
open Idealize.ShloMosaic.ValueIdx Finset
open Cert.ReferenceIdeal Cert.ReferenceIdeal.Gen Cert.ReferenceIdeal.Read
open Cert.Sb.Arr Cert.Sb.RefOps

theorem at_idx {n m : ℕ} {x : (⟨2, ![n, m]⟩ : Shape).Idx → EReal} {X : ℕ → ℕ → ℝ} (h : Rd x X) (i : (⟨2, ![n, m]⟩ : Shape).Idx) :
    x i = ((X (i 0).val (i 1).val : ℝ) : EReal) := by
  conv_lhs => rw [eq_ix2 i]
  exact h _ _

theorem sel {c : BitVec 1} {P : Prop} [Decidable P] (h : c = BitVec.ofBool (decide P)) (a b : ℝ) :
    Scalar.select c (a : EReal) (b : EReal) = ((if P then a else b : ℝ) : EReal) := by
  rw [h]
  by_cases p : P <;> simp [Scalar.select, p]

variable {x0 : S4096x3072.Idx → EReal} {x1 : S4096x1024.Idx → EReal} {X Y : ℕ → ℕ → ℝ}

section
variable (hX : Rd (n := 4096) (m := 3072) x0 X)
include hX

theorem q_eq (i : S8x4096x128.Idx) : val_main_v5 (F := Ideal) x0 i = (((hd X Y (i 0).val).q (i 1).val (i 2).val : ℝ) : EReal) := by
  rw [val_main_v5_apply, val_main_v4_apply, val_main_v1_apply, val_main_v0_apply]
  refine (at_idx hX _).trans ?_
  have h0 : (i 0).val < 8 := (i 0).isLt
  have h2 : (i 2).val < 128 := (i 2).isLt
  show ((X ((((i 1).val * 8 + (i 0).val) * 128 + (i 2).val) / 1024) ((((i 1).val * 8 + (i 0).val) * 128 + (i 2).val) % 1024) : ℝ) : EReal)
    = ((X (i 1).val ((i 0).val * 128 + (i 2).val) : ℝ) : EReal)
  rw [show (((i 1).val * 8 + (i 0).val) * 128 + (i 2).val) / 1024 = (i 1).val by omega,
    show (((i 1).val * 8 + (i 0).val) * 128 + (i 2).val) % 1024 = (i 0).val * 128 + (i 2).val by omega]

theorem k_eq (i : S8x4096x128.Idx) : val_main_v7 (F := Ideal) x0 i = (((hd X Y (i 0).val).k (i 1).val (i 2).val : ℝ) : EReal) := by
  rw [val_main_v7_apply, val_main_v6_apply, val_main_v2_apply, val_main_v0_apply]
  refine (at_idx hX _).trans ?_
  have h0 : (i 0).val < 8 := (i 0).isLt
  have h2 : (i 2).val < 128 := (i 2).isLt
  show ((X ((((i 1).val * 8 + (i 0).val) * 128 + (i 2).val) / 1024) (1024 + (((i 1).val * 8 + (i 0).val) * 128 + (i 2).val) % 1024) : ℝ) : EReal)
    = ((X (i 1).val (1024 + ((i 0).val * 128 + (i 2).val)) : ℝ) : EReal)
  rw [show (((i 1).val * 8 + (i 0).val) * 128 + (i 2).val) / 1024 = (i 1).val by omega,
    show (((i 1).val * 8 + (i 0).val) * 128 + (i 2).val) % 1024 = (i 0).val * 128 + (i 2).val by omega]

theorem v_eq (i : S8x4096x128.Idx) : val_main_v9 (F := Ideal) x0 i = (((hd X Y (i 0).val).v (i 1).val (i 2).val : ℝ) : EReal) := by
  rw [val_main_v9_apply, val_main_v8_apply, val_main_v3_apply, val_main_v0_apply]
  refine (at_idx hX _).trans ?_
  have h0 : (i 0).val < 8 := (i 0).isLt
  have h2 : (i 2).val < 128 := (i 2).isLt
  show ((X ((((i 1).val * 8 + (i 0).val) * 128 + (i 2).val) / 1024) (2048 + (((i 1).val * 8 + (i 0).val) * 128 + (i 2).val) % 1024) : ℝ) : EReal)
    = ((X (i 1).val (2048 + ((i 0).val * 128 + (i 2).val)) : ℝ) : EReal)
  rw [show (((i 1).val * 8 + (i 0).val) * 128 + (i 2).val) / 1024 = (i 1).val by omega,
    show (((i 1).val * 8 + (i 0).val) * 128 + (i 2).val) % 1024 = (i 0).val * 128 + (i 2).val by omega]

theorem z_eq (i : S8x4096x4096.Idx) : val_main_v12 (F := Ideal) x0 i = (((hd X Y (i 0).val).z (i 1).val (i 2).val : ℝ) : EReal) := by
  rw [val_main_v12_apply, val_main_v10_apply, val_main_v11_apply, val_main_cst_apply]
  show (∑ k : Fin 128, _) * Ideal.ofBits .f32 0x3DB504F3#32 = _
  rw [ofBits_scale, Finset.sum_congr rfl fun k _ => congrArg₂ (· * ·) (q_eq (Y := Y) hX (lidx_main_v10 i k)) (k_eq (Y := Y) hX (ridx_main_v10 i k))]
  refine (congrArg (· * ((scale : ℝ) : EReal)) (coe_dot (n := 128) (fun d => (hd X Y (i 0).val).q (i 1).val d) fun d => (hd X Y (i 0).val).k (i 2).val d)).trans ?_
  exact (EReal.coe_mul _ _).symm
end

theorem mask (i : S4096x4096.Idx) : val_main_v18 (F := Ideal) i = BitVec.ofBool (decide ((i 1).val < (i 0).val)) := by
  rw [val_main_v18_apply, val_main_v16_apply, val_main_v14_apply, val_main_v13_apply, val_main_v17_apply, val_main_v15_apply, val_main_v13_apply]
  have h0 : (i 0).val < 4096 := (i 0).isLt
  have h1 : (i 1).val < 4096 := (i 1).isLt
  exact WordCmp.cmpi_slt_ofNat (show (i 1).val < 2 ^ 31 by omega) (show (i 0).val < 2 ^ 31 by omega)

theorem mask1 (i : S8x4096x4096.Idx) : val_main_v22_1 (F := Ideal) i = BitVec.ofBool (decide ((i 2).val < (i 1).val)) := by
  rw [val_main_v22_1_apply, mask]
theorem mask2 (i : S8x4096x4096.Idx) : val_main_v27_1 (F := Ideal) i = BitVec.ofBool (decide ((i 2).val < (i 1).val)) := by
  rw [val_main_v27_1_apply, mask]

section
variable (hX : Rd (n := 4096) (m := 3072) x0 X)
include hX

theorem sp0 (i : S8x4096x4096.Idx) : val_main_call0_v1_0 (F := Ideal) x0 i = ((-ls ((hd X Y (i 0).val).z (i 1).val (i 2).val) : ℝ) : EReal) := by
  have e : val_main_call0_v0 (F := Ideal) x0 i = ((-(hd X Y (i 0).val).z (i 1).val (i 2).val : ℝ) : EReal) := by
    rw [val_main_call0_v0_apply, z_eq (Y := Y) hX, EReal.coe_neg]; rfl
  have := softplus (-(hd X Y (i 0).val).z (i 1).val (i 2).val)
  rw [neg_neg] at this
  rw [← this]
  simp only [val_main_call0_v1_0_apply, val_main_call0_call0_v4_apply, val_main_call0_call0_v6_apply, val_main_call0_call0_v11_apply,
    val_main_call0_call0_v3_apply, val_main_call0_call0_v2_apply, val_main_call0_call0_v5_apply, val_main_call0_call0_v1_apply,
    val_main_call0_call0_v0_apply, val_main_call0_call0_v10_apply, val_main_call0_call0_v9_apply, val_main_call0_call0_v8_apply,
    val_main_call0_call0_v7_apply, val_main_call0_call0_cst_apply, e]
  rfl

theorem lb_eq (i : S8x4096x4096.Idx) : val_main_v19_0 (F := Ideal) x0 i = (((hd X Y (i 0).val).lb (i 1).val (i 2).val : ℝ) : EReal) := by
  rw [val_main_v19_0_apply, sp0 (Y := Y) hX]
  show -((-_ : ℝ) : EReal) = _
  rw [← EReal.coe_neg, neg_neg]; rfl

theorem sp1 (i : S8x4096x4096.Idx) : val_main_call1_v1_0 (F := Ideal) x0 i = ((-lr ((hd X Y (i 0).val).z (i 1).val (i 2).val) : ℝ) : EReal) := by
  have e : val_main_call1_v0 (F := Ideal) x0 i = (((hd X Y (i 0).val).z (i 1).val (i 2).val : ℝ) : EReal) := by
    rw [val_main_call1_v0_apply, val_main_v20_apply, z_eq (Y := Y) hX]
    show -(-_ : EReal) = _
    rw [neg_neg]
  have := softplus ((hd X Y (i 0).val).z (i 1).val (i 2).val)
  rw [← lr_eq] at this
  rw [← this]
  simp only [val_main_call1_v1_0_apply, val_main_call1_call0_v4_apply, val_main_call1_call0_v6_apply, val_main_call1_call0_v11_apply,
    val_main_call1_call0_v3_apply, val_main_call1_call0_v2_apply, val_main_call1_call0_v5_apply, val_main_call1_call0_v1_apply,
    val_main_call1_call0_v0_apply, val_main_call1_call0_v10_apply, val_main_call1_call0_v9_apply, val_main_call1_call0_v8_apply,
    val_main_call1_call0_v7_apply, val_main_call1_call0_cst_apply, e]
  rfl

theorem lr_eq' (i : S8x4096x4096.Idx) : val_main_v21_0 (F := Ideal) x0 i = ((lr ((hd X Y (i 0).val).z (i 1).val (i 2).val) : ℝ) : EReal) := by
  rw [val_main_v21_0_apply, sp1 (Y := Y) hX]
  show -((-_ : ℝ) : EReal) = _
  rw [← EReal.coe_neg, neg_neg]

theorem lk_eq (i : S8x4096x4096.Idx) : val_main_v22_0 (F := Ideal) x0 i = (((hd X Y (i 0).val).lk (i 1).val (i 2).val : ℝ) : EReal) := by
  rw [val_main_v22_0_apply, lr_eq' (Y := Y) hX, val_main_call2_v2_apply, val_main_call2_v0_apply, val_main_cst_0_apply]
  show Scalar.select _ _ (Ideal.ofBits .f32 0x00000000#32) = _
  rw [Ideal.ofBits_zero_f32, ← EReal.coe_zero, sel (mask1 i)]; rfl

theorem cum_eq (i : S8x4096x4096.Idx) : val_main_v23 (F := Ideal) x0 i
    = ((∑ j ∈ Ico (i 2).val 4096, (hd X Y (i 0).val).lk (i 1).val j : ℝ) : EReal) := by
  unfold val_main_v23
  refine (cum_add (f := fun h t s => (hd X Y h).lk t s) (lk_eq (Y := Y) hX) (fun j => ?_) _ _ i).trans ?_
  · rw [val_main_call3_v0_apply, val_main_call3_cst_apply]; exact Ideal.ofBits_zero_f32
  · exact congrArg _ (sum_rev (i 2).isLt fun j => (hd X Y (i 0).val).lk (i 1).val j)

theorem w_eq (i : S8x4096x4096.Idx) : val_main_v26 (F := Ideal) x0 i
    = ((Real.exp ((hd X Y (i 0).val).lb (i 1).val (i 2).val + ∑ j ∈ Ico ((i 2).val + 1) 4096, (hd X Y (i 0).val).lk (i 1).val j) : ℝ) : EReal) := by
  have h : (i 2).val < 4096 := (i 2).isLt
  rw [val_main_v26_apply, val_main_v25_apply, val_main_v24_apply, lb_eq (Y := Y) hX, cum_eq (Y := Y) hX, lk_eq (Y := Y) hX]
  refine (Ideal.hostUnary_exp_def _).trans ?_
  show Ideal.exp (((_ : ℝ) : EReal) + (((_ : ℝ) : EReal) - ((_ : ℝ) : EReal))) = _
  rw [← EReal.coe_sub, ← EReal.coe_add, Ideal.exp_coe, Finset.sum_eq_sum_Ico_succ_bot h, add_sub_cancel_left]

theorem W_eq (i : S8x4096x4096.Idx) : val_main_v27_0 (F := Ideal) x0 i = (((hd X Y (i 0).val).W (i 1).val (i 2).val : ℝ) : EReal) := by
  rw [val_main_v27_0_apply, w_eq (Y := Y) hX, val_main_call4_v2_apply, val_main_call4_v0_apply, val_main_cst_1_apply]
  show Scalar.select _ _ (Ideal.ofBits .f32 0x00000000#32) = _
  rw [Ideal.ofBits_zero_f32, ← EReal.coe_zero, sel (mask2 i)]; rfl

theorem O_eq (i : S8x4096x128.Idx) : val_main_v28 (F := Ideal) x0 i = (((hd X Y (i 0).val).O (i 1).val (i 2).val : ℝ) : EReal) := by
  rw [val_main_v28_apply, Finset.sum_congr rfl fun k _ => congrArg₂ (· * ·) (W_eq (Y := Y) hX (lidx_main_v28 i k)) (v_eq (Y := Y) hX (ridx_main_v28 i k))]
  exact coe_dot (n := 4096) (fun s => (hd X Y (i 0).val).W (i 1).val s) fun s => (hd X Y (i 0).val).v s (i 2).val

theorem sg0 (i : S8x4096x4096.Idx) : val_main_v19_1 (F := Ideal) x0 i = ((Real.exp (lr ((hd X Y (i 0).val).z (i 1).val (i 2).val)) : ℝ) : EReal) := by
  have e : val_main_call0_v0 (F := Ideal) x0 i = ((-(hd X Y (i 0).val).z (i 1).val (i 2).val : ℝ) : EReal) := by
    rw [val_main_call0_v0_apply, z_eq (Y := Y) hX, EReal.coe_neg]; rfl
  have := softplus_exp (-(hd X Y (i 0).val).z (i 1).val (i 2).val) (-ls ((hd X Y (i 0).val).z (i 1).val (i 2).val))
  rw [show -(hd X Y (i 0).val).z (i 1).val (i 2).val - -ls ((hd X Y (i 0).val).z (i 1).val (i 2).val)
    = lr ((hd X Y (i 0).val).z (i 1).val (i 2).val) by unfold lr; ring] at this
  rw [← this, ← e, ← sp0 (Y := Y) hX]
  simp only [val_main_v19_1_apply, val_main_call0_call0_v21_apply, val_main_call0_call0_v16_apply, val_main_call0_call0_v20_apply, val_main_call0_call0_v14_apply, val_main_call0_call0_v13_apply, val_main_call0_call0_cst_0_apply, val_main_call0_call0_v15_apply, val_main_call0_call0_cst_1_apply, val_main_call0_call0_v18_apply, val_main_call0_call0_v17_apply, val_main_call0_call0_cst_2_apply, val_main_call0_call0_v19_apply, val_main_call0_call0_cst_3_apply]
  rfl

theorem sg1 (i : S8x4096x4096.Idx) : val_main_v21_1 (F := Ideal) x0 i = ((Real.exp ((hd X Y (i 0).val).lb (i 1).val (i 2).val) : ℝ) : EReal) := by
  have e : val_main_call1_v0 (F := Ideal) x0 i = (((hd X Y (i 0).val).z (i 1).val (i 2).val : ℝ) : EReal) := by
    rw [val_main_call1_v0_apply, val_main_v20_apply, z_eq (Y := Y) hX]
    show -(-_ : EReal) = _
    rw [neg_neg]
  have := softplus_exp ((hd X Y (i 0).val).z (i 1).val (i 2).val) (-lr ((hd X Y (i 0).val).z (i 1).val (i 2).val))
  rw [show (hd X Y (i 0).val).z (i 1).val (i 2).val - -lr ((hd X Y (i 0).val).z (i 1).val (i 2).val)
    = (hd X Y (i 0).val).lb (i 1).val (i 2).val by unfold Head.lb lr; ring] at this
  rw [← this, ← e, ← sp1 (Y := Y) hX]
  simp only [val_main_v21_1_apply, val_main_call1_call0_v21_apply, val_main_call1_call0_v16_apply, val_main_call1_call0_v20_apply, val_main_call1_call0_v14_apply, val_main_call1_call0_v13_apply, val_main_call1_call0_cst_0_apply, val_main_call1_call0_v15_apply, val_main_call1_call0_cst_1_apply, val_main_call1_call0_v18_apply, val_main_call1_call0_v17_apply, val_main_call1_call0_cst_2_apply, val_main_call1_call0_v19_apply, val_main_call1_call0_cst_3_apply]
  rfl

variable (hY : Rd (n := 4096) (m := 1024) x1 Y)
omit hX in
include hY in
theorem g_eq (i : S8x4096x128.Idx) : val_main_v34 (F := Ideal) x1 i = (((hd X Y (i 0).val).g (i 1).val (i 2).val : ℝ) : EReal) := by
  rw [val_main_v34_apply, val_main_v33_apply, val_main_v32_apply]
  refine (at_idx hY _).trans ?_
  have h0 : (i 0).val < 8 := (i 0).isLt
  have h2 : (i 2).val < 128 := (i 2).isLt
  show ((Y ((((i 1).val * 8 + (i 0).val) * 128 + (i 2).val) / 1024) ((((i 1).val * 8 + (i 0).val) * 128 + (i 2).val) % 1024) : ℝ) : EReal)
    = ((Y (i 1).val ((i 0).val * 128 + (i 2).val) : ℝ) : EReal)
  rw [show (((i 1).val * 8 + (i 0).val) * 128 + (i 2).val) / 1024 = (i 1).val by omega,
    show (((i 1).val * 8 + (i 0).val) * 128 + (i 2).val) % 1024 = (i 0).val * 128 + (i 2).val by omega]

include hY

theorem dv_eq (i : S8x128x4096.Idx) : val_main_v35 (F := Ideal) x0 x1 i = (((hd X Y (i 0).val).dv (i 2).val (i 1).val : ℝ) : EReal) := by
  rw [val_main_v35_apply, Finset.sum_congr rfl fun k _ => congrArg₂ (· * ·) (g_eq (X := X) hY (lidx_main_v35 i k)) (W_eq (Y := Y) hX (ridx_main_v35 i k))]
  refine (coe_dot (n := 4096) (fun t => (hd X Y (i 0).val).g t (i 1).val) fun t => (hd X Y (i 0).val).W t (i 2).val).trans ?_
  exact congrArg _ (Finset.sum_congr rfl fun t _ => mul_comm _ _)

theorem gv_eq (i : S8x4096x4096.Idx) : val_main_v37 (F := Ideal) x0 x1 i = (((hd X Y (i 0).val).gv (i 1).val (i 2).val : ℝ) : EReal) := by
  rw [val_main_v37_apply, Finset.sum_congr rfl fun k _ => congrArg₂ (· * ·) (g_eq (X := X) hY (lidx_main_v37 i k)) (v_eq (Y := Y) hX (ridx_main_v37 i k))]
  exact coe_dot (n := 128) (fun d => (hd X Y (i 0).val).g (i 1).val d) fun d => (hd X Y (i 0).val).v (i 2).val d

theorem de_eq (i : S8x4096x4096.Idx) : val_main_v39 (F := Ideal) x0 x1 i = (((hd X Y (i 0).val).de (i 1).val (i 2).val : ℝ) : EReal) := by
  rw [val_main_v39_apply, val_main_v38_apply, gv_eq hX hY, w_eq (Y := Y) hX, val_main_call5_v0_apply, val_main_call5_cst_apply]
  show Scalar.select _ _ (Ideal.ofBits .f32 0x00000000#32) * _ = _
  rw [Ideal.ofBits_zero_f32, ← EReal.coe_zero, sel (mask2 i), ← EReal.coe_mul]
  congr 1
  unfold Head.de Head.W
  split_ifs <;> simp

theorem pre_eq (i : S8x4096x4096.Idx) : val_main_v41 (F := Ideal) x0 x1 i
    = ((∑ j ∈ range ((i 2).val + 1), (hd X Y (i 0).val).de (i 1).val j : ℝ) : EReal) := by
  unfold val_main_v41
  refine (cum_add (f := fun h t s => (hd X Y h).de t s) (de_eq hX hY) (fun j => ?_) _ _ i).trans ?_
  · rw [val_main_call6_v0_apply, val_main_call6_cst_apply]; exact Ideal.ofBits_zero_f32
  · exact congrArg _ (sum_fwd (i 2).isLt fun j => (hd X Y (i 0).val).de (i 1).val j)

theorem ds_eq (i : S8x4096x4096.Idx) : val_main_v43 (F := Ideal) x0 x1 i
    = (((if (i 2).val < (i 1).val then ∑ j ∈ range (i 2).val, (hd X Y (i 0).val).de (i 1).val j else 0 : ℝ)) : EReal) := by
  have e : val_main_v42 (F := Ideal) x0 x1 i = ((∑ j ∈ range (i 2).val, (hd X Y (i 0).val).de (i 1).val j : ℝ) : EReal) := by
    rw [val_main_v42_apply, val_main_v40_apply, de_eq hX hY, pre_eq hX hY]
    show -_ + _ = _
    rw [← EReal.coe_neg, ← EReal.coe_add, Finset.sum_range_succ]
    congr 1
    ring
  rw [val_main_v43_apply, e, val_main_call7_v0_apply, val_main_call7_cst_apply]
  show Scalar.select _ _ (Ideal.ofBits .f32 0x00000000#32) = _
  rw [Ideal.ofBits_zero_f32, ← EReal.coe_zero, sel (mask1 i)]

theorem dz_eq (i : S8x4096x4096.Idx) : val_main_v49 (F := Ideal) x0 x1 i = (((hd X Y (i 0).val).dz (i 1).val (i 2).val : ℝ) : EReal) := by
  rw [val_main_v49_apply, val_main_v47_apply, val_main_v45_apply, val_main_v44_apply, val_main_call8_v1_apply, val_main_call8_v0_apply,
    val_main_v46_apply, val_main_call9_v1_apply, val_main_call9_v0_apply, val_main_v48_apply, val_main_cst_2_apply,
    ds_eq hX hY, de_eq hX hY, sg1 (Y := Y) hX, sg0 (Y := Y) hX]
  show (-(-(-_ * _)) + -(-_ * _)) * Ideal.ofBits .f32 0x3DB504F3#32 = _
  rw [ofBits_scale]
  simp only [← EReal.coe_neg, ← EReal.coe_mul, ← EReal.coe_add]
  congr 1
  unfold Head.dz
  by_cases c : (i 2).val < (i 1).val
  · rw [if_pos c, if_pos c, show lr ((hd X Y (i 0).val).z (i 1).val (i 2).val) = lr ((hd X Y (i 0).val).z (i 1).val (i 2).val) from rfl,
      eq_sub_of_add_eq' (exp_ls_add_exp_lr ((hd X Y (i 0).val).z (i 1).val (i 2).val))]
    show _ = (_ - Real.exp (ls _) * _) * scale
    unfold Head.lb
    ring
  · rw [if_neg c, if_neg c, Head.de_of_le _ (not_lt.mp c)]
    ring

theorem dk_eq (i : S8x4096x128.Idx) : val_main_v50 (F := Ideal) x0 x1 i = (((hd X Y (i 0).val).dk (i 1).val (i 2).val : ℝ) : EReal) := by
  rw [val_main_v50_apply, Finset.sum_congr rfl fun k _ => congrArg₂ (· * ·) (dz_eq hX hY (lidx_main_v50 i k)) (q_eq (Y := Y) hX (ridx_main_v50 i k))]
  exact coe_dot (n := 4096) (fun t => (hd X Y (i 0).val).dz t (i 1).val) fun t => (hd X Y (i 0).val).q t (i 2).val

theorem dq_eq (i : S8x4096x128.Idx) : val_main_v51 (F := Ideal) x0 x1 i = (((hd X Y (i 0).val).dq (i 1).val (i 2).val : ℝ) : EReal) := by
  rw [val_main_v51_apply, Finset.sum_congr rfl fun k _ => congrArg₂ (· * ·) (dz_eq hX hY (lidx_main_v51 i k)) (k_eq (Y := Y) hX (ridx_main_v51 i k))]
  exact coe_dot (n := 4096) (fun s => (hd X Y (i 0).val).dz (i 1).val s) fun s => (hd X Y (i 0).val).k s (i 2).val
end

/-- The place of column `b` of a row among the heads and their columns. -/
theorem split_row {a b : ℕ} (hb : b < 1024) :
    (a * 1024 + b) / 1024 = a ∧ (a * 1024 + b) / 128 % 8 = b / 128 ∧ (a * 1024 + b) % 128 = b % 128 := by
  omega

section
variable (hX : Rd (n := 4096) (m := 3072) x0 X)
include hX

theorem o_rd : Rd (n := 4096) (m := 1024) (val_main_v31 (F := Ideal) x0) (fun a e => (hd X Y (e / 128)).O a (e % 128)) := fun a b => by
  rw [val_main_v31_apply, val_main_v30_apply, val_main_v29_apply]
  refine (O_eq (Y := Y) hX _).trans ?_
  obtain ⟨e0, e1, e2⟩ := split_row (a := a.val) b.isLt
  show (((hd X Y ((a.val * 1024 + b.val) / 128 % 8)).O ((a.val * 1024 + b.val) / 1024) ((a.val * 1024 + b.val) % 128) : ℝ) : EReal) = _
  rw [e0, e1, e2]

variable (hY : Rd (n := 4096) (m := 1024) x1 Y)
include hY

theorem dq_rd : Rd (n := 4096) (m := 1024) (val_main_v57 (F := Ideal) x0 x1) (fun a e => (hd X Y (e / 128)).dq a (e % 128)) := fun a b => by
  rw [val_main_v57_apply, val_main_v56_apply]
  refine (dq_eq hX hY _).trans ?_
  obtain ⟨e0, e1, e2⟩ := split_row (a := a.val) b.isLt
  show (((hd X Y ((a.val * 1024 + b.val) / 128 % 8)).dq ((a.val * 1024 + b.val) / 1024) ((a.val * 1024 + b.val) % 128) : ℝ) : EReal) = _
  rw [e0, e1, e2]

theorem dk_rd : Rd (n := 4096) (m := 1024) (val_main_v55 (F := Ideal) x0 x1) (fun a e => (hd X Y (e / 128)).dk a (e % 128)) := fun a b => by
  rw [val_main_v55_apply, val_main_v54_apply]
  refine (dk_eq hX hY _).trans ?_
  obtain ⟨e0, e1, e2⟩ := split_row (a := a.val) b.isLt
  show (((hd X Y ((a.val * 1024 + b.val) / 128 % 8)).dk ((a.val * 1024 + b.val) / 1024) ((a.val * 1024 + b.val) % 128) : ℝ) : EReal) = _
  rw [e0, e1, e2]

theorem dv_rd : Rd (n := 4096) (m := 1024) (val_main_v53 (F := Ideal) x0 x1) (fun a e => (hd X Y (e / 128)).dv a (e % 128)) := fun a b => by
  rw [val_main_v53_apply, val_main_v52_apply, val_main_v36_apply]
  refine (dv_eq hX hY _).trans ?_
  obtain ⟨e0, e1, e2⟩ := split_row (a := a.val) b.isLt
  show (((hd X Y ((a.val * 1024 + b.val) / 128 % 8)).dv ((a.val * 1024 + b.val) / 1024) ((a.val * 1024 + b.val) % 128) : ℝ) : EReal) = _
  rw [e0, e1, e2]
end

end Cert.Sb.Ref
-- ==== Proof.TnLib.lean ====
/- Products of a transposed matrix and a matrix, summed block of rows by block of rows, among the extended reals: what the weight-gradient kernels
   compute, and the array they leave. No entry need be finite: an extended real sum may be taken in any order. -/
module

public import proofs.«01_k».proof.Proof.Lift
@[expose] public section
set_option maxRecDepth 16384
noncomputable section
namespace Cert.Sb.Tn
open Idealize.ShloMosaic hiding ix0 ix1 ix2 ix3 ix4 eq_ix1 eq_ix2 eq_ix3 eq_ix4
open Idealize.ShloMosaic.ValueIdx Finset

variable {n m k r q : ℕ}

/-- The entries of `x` are those of `f`. -/
def Rx (x : (⟨2, ![n, m]⟩ : Shape).Idx → EReal) (f : ℕ → ℕ → EReal) : Prop := ∀ (a : Fin n) (b : Fin m), x (ix2 a b) = f a.val b.val

/-- The entries of a matrix, by their numbers. -/
def ent (x : (⟨2, ![n, m]⟩ : Shape).Idx → EReal) (a b : ℕ) : EReal := if h : a < n ∧ b < m then x (ix2 ⟨a, h.1⟩ ⟨b, h.2⟩) else 0

theorem ent_rx (x : (⟨2, ![n, m]⟩ : Shape).Idx → EReal) : Rx x (ent x) := fun a b => by
  unfold ent; rw [dif_pos ⟨a.isLt, b.isLt⟩]

theorem Rx.at {x : (⟨2, ![n, m]⟩ : Shape).Idx → EReal} {f : ℕ → ℕ → EReal} (h : Rx x f) (i : (⟨2, ![n, m]⟩ : Shape).Idx) :
    x i = f (i 0).val (i 1).val := by
  rw [eq_ix2 i]; exact h _ _

theorem Rx.congr {x : (⟨2, ![n, m]⟩ : Shape).Idx → EReal} {f g : ℕ → ℕ → EReal} (h : Rx x f) (e : ∀ a b, f a b = g a b) : Rx x g := fun a b =>
  (h a b).trans (e _ _)

/-- A matrix of zeros. -/
theorem zeros {h} : Rx (shapeCast ⟨2, ![n, m]⟩ (broadcast ⟨2, ![n, m]⟩ (Scalar.ofBits (F := Ideal) .f32 0x00000000#32)) h) (fun _ _ => 0) := fun a b => by
  rw [shapeCast_self]; exact Ideal.ofBits_zero_f32

/-- The product of a transposed matrix and a matrix. -/
theorem mul {d : DotDims ⟨2, ![k, n]⟩ ⟨2, ![k, m]⟩ ⟨2, ![n, m]⟩} (h1 : d.lhsContracting = [0]) (h2 : d.rhsContracting = [0])
    (h3 : d.lhsNonContracting = [1]) (h4 : d.rhsNonContracting = [1]) (h5 : d.lhsBatch = []) (h6 : d.rhsBatch = [])
    {x : FVec Ideal ⟨2, ![k, n]⟩ .bf16} {y : FVec Ideal ⟨2, ![k, m]⟩ .bf16} {f g : ℕ → ℕ → EReal} (h : Rx x f) (h' : Rx y g) :
    Rx (matmul d none x y (constant ⟨2, ![n, m]⟩ .f32 0x00000000#32)) (fun a b => ∑ j ∈ range k, f j a * g j b) := fun a b => by
  obtain ⟨_, _, _, _, _, _, wf⟩ := d
  subst h1 h2 h3 h4 h5 h6
  show Ideal.matmul _ x y _ (ix2 a b) = _
  have hz : (constant ⟨2, ![n, m]⟩ .f32 0x00000000#32 : FVec Ideal ⟨2, ![n, m]⟩ .f32) (ix2 a b) = (0 : EReal) := Ideal.ofBits_zero_f32
  rw [Ideal.matmul_apply₁ _ (a := 0) rfl (K := k) rfl, hz, zero_add]
  refine Eq.trans ?_ (Fin.sum_univ_eq_sum_range (fun j => f j a.val * g j b.val) k)
  refine Finset.sum_congr rfl fun j _ => ?_
  rw [← h j a, ← h' j b]
  congr 1
  · refine congrArg x ?_
    funext i; apply Fin.ext; match i with | ⟨0, _⟩ => rfl | ⟨1, _⟩ => rfl
  · refine congrArg y ?_
    funext i; apply Fin.ext; match i with | ⟨0, _⟩ => rfl | ⟨1, _⟩ => rfl

/-- The product added to what was there. -/
theorem acc {d : DotDims ⟨2, ![k, n]⟩ ⟨2, ![k, m]⟩ ⟨2, ![n, m]⟩} (h1 : d.lhsContracting = [0]) (h2 : d.rhsContracting = [0])
    (h3 : d.lhsNonContracting = [1]) (h4 : d.rhsNonContracting = [1]) (h5 : d.lhsBatch = []) (h6 : d.rhsBatch = [])
    {s : FVec Ideal ⟨2, ![n, m]⟩ .f32} {x : FVec Ideal ⟨2, ![k, n]⟩ .bf16} {y : FVec Ideal ⟨2, ![k, m]⟩ .bf16} {p f g : ℕ → ℕ → EReal}
    (hs : Rx s p) (h : Rx x f) (h' : Rx y g) {hc} :
    Rx (shapeCast ⟨2, ![n, m]⟩ (addf s (matmul d none x y (constant ⟨2, ![n, m]⟩ .f32 0x00000000#32))) hc)
      (fun a b => p a b + ∑ j ∈ range k, f j a * g j b) := fun a b => by
  rw [shapeCast_self]
  show s (ix2 a b) + _ = _
  rw [hs a b, mul h1 h2 h3 h4 h5 h6 h h' a b]

/-- A matrix laid out as stacked blocks of rows. -/
theorem stack {N : ℕ} (hN : N = q * r) {s : FVec Ideal ⟨2, ![N, m]⟩ .f32} {p : ℕ → ℕ → EReal} (hs : Rx s p) {h1 h2 h3} (i : (⟨4, ![q, 1, r, m]⟩ : Shape).Idx) :
    shapeCast ⟨4, ![q, 1, r, m]⟩ (truncf (F := Ideal) .bf16 (shapeCast ⟨3, ![q, r, m]⟩ s h1) h2) h3 i = p ((i 0).val * r + (i 2).val) (i 3).val := by
  subst hN
  have i0 : (i 0).val < q := (i 0).isLt
  have i1 : (i 1).val < 1 := (i 1).isLt
  have i2 : (i 2).val < r := (i 2).isLt
  have i3 : (i 3).val < m := (i 3).isLt
  have hlt : (i 0).val * r + (i 2).val < q * r := by
    have := Nat.mul_le_mul_right r (show (i 0).val + 1 ≤ q from i0)
    rw [Nat.add_mul, Nat.one_mul] at this
    omega
  rw [shapeCast_apply _ h3 i (ix3 ⟨_, i0⟩ ⟨_, i2⟩ ⟨_, i3⟩) (by
    rw [Shape.rowMajor_val_three, Shape.rowMajor_val_four]
    show (_ * r + _) * m + _ = ((_ * 1 + (i 1).val) * r + _) * m + _
    rw [show (i 1).val = 0 by omega, Nat.mul_one, Nat.add_zero]; rfl)]
  show shapeCast ⟨3, ![q, r, m]⟩ s h1 _ = _
  rw [shapeCast_apply _ h1 _ (ix2 ⟨_, hlt⟩ ⟨_, i3⟩) (by
    rw [Shape.rowMajor_val_two, Shape.rowMajor_val_three]
    rfl)]
  exact hs _ _

/-- A matrix of `4` blocks of rows: the sum over the rows so far, one block more. -/
theorem more (f : ℕ → EReal) (k t : ℕ) : (∑ j ∈ range (t * k + k), f j) + ∑ j ∈ range k, f ((t + 1) * k + j) = ∑ j ∈ range ((t + 1) * k + k), f j := by
  rw [Nat.succ_mul, Finset.sum_range_add f (t * k + k) k]

/-- The product of `a` transposed and `b`, laid out as stacked blocks of rows, whatever the slot. -/
def prod4 (k : ℕ) (a b : ℕ → ℕ → EReal) : (⟨4, ![n, q, r, m]⟩ : Shape).Idx → EReal := fun i =>
  ∑ t ∈ range k, a t ((i 0).val * r + (i 2).val) * b t (i 3).val

/-- The array with its slot `s` replaced by the product of `a` transposed and `b`. -/
def upd (k s : ℕ) (a b : ℕ → ℕ → EReal) (g : (⟨4, ![n, q, r, m]⟩ : Shape).Idx → EReal) : (⟨4, ![n, q, r, m]⟩ : Shape).Idx → EReal := fun i =>
  if (i 1).val = s then prod4 k a b i else g i

/-- The product laid out, in the plain program's order of operations. -/
theorem lay {N : ℕ} (hN : N = q * r) {y : FVec Ideal ⟨2, ![N, m]⟩ .f32} {p : ℕ → ℕ → EReal} (hs : Rx y p) {h1 h2} (i : (⟨4, ![q, 1, r, m]⟩ : Shape).Idx) :
    truncf (F := Ideal) .bf16 (shapeCast ⟨4, ![q, 1, r, m]⟩ y h1) h2 i = p ((i 0).val * r + (i 2).val) (i 3).val := by
  subst hN
  have i0 : (i 0).val < q := (i 0).isLt
  have i1 : (i 1).val < 1 := (i 1).isLt
  have i2 : (i 2).val < r := (i 2).isLt
  have i3 : (i 3).val < m := (i 3).isLt
  have hlt : (i 0).val * r + (i 2).val < q * r := by
    have := Nat.mul_le_mul_right r (show (i 0).val + 1 ≤ q from i0)
    rw [Nat.add_mul, Nat.one_mul] at this
    omega
  show shapeCast ⟨4, ![q, 1, r, m]⟩ y h1 i = _
  rw [shapeCast_apply _ h1 _ (ix2 ⟨_, hlt⟩ ⟨_, i3⟩) (by
    rw [Shape.rowMajor_val_two, Shape.rowMajor_val_four]
    show _ = ((_ * 1 + (i 1).val) * r + _) * m + _
    rw [show (i 1).val = 0 by omega, Nat.mul_one, Nat.add_zero]; rfl)]
  exact hs _ _

end Cert.Sb.Tn
end
-- ==== Proof.RowLib.lean ====
/- The operations of a matrix product with a scaled row, among the extended reals: what the kernels of the output projection compute. No entry need be
   finite. -/
module

public import proofs.«01_k».proof.Proof.TnLib
public import proofs.«01_k».proof.Proof.Store
@[expose] public section
set_option maxRecDepth 16384
noncomputable section
namespace Cert.Sb.Tn
open Idealize.ShloMosaic hiding ix0 ix1 ix2 ix3 ix4 eq_ix1 eq_ix2 eq_ix3 eq_ix4
open Idealize.ShloMosaic.ValueIdx Finset

/-- The matrix with its row `r` replaced by `g`. -/
def row (r : ℕ) (g : ℕ → EReal) (f : ℕ → ℕ → EReal) : ℕ → ℕ → EReal := fun a b => if a = r then g b else f a b

namespace Rx

variable {n m k l : ℕ} {φ ψ : FTy} {sig : RefSig} {κ : Kind} {sp : Space}

theorem zero : Rx (constant (F := Ideal) ⟨2, ![n, m]⟩ .f32 0x00000000#32) (fun _ _ => 0) := fun _ _ => Ideal.ofBits_zero_f32

theorem add {x y : FVec Ideal ⟨2, ![n, m]⟩ φ} {f g : ℕ → ℕ → EReal} (h : Rx x f) (h' : Rx y g) : Rx (addf x y) (fun a b => f a b + g a b) := fun a b => by
  show x _ + y _ = _
  rw [h a b, h' a b]

theorem mul {x y : FVec Ideal ⟨2, ![n, m]⟩ φ} {f g : ℕ → ℕ → EReal} (h : Rx x f) (h' : Rx y g) : Rx (mulf x y) (fun a b => f a b * g a b) := fun a b => by
  show x _ * y _ = _
  rw [h a b, h' a b]

theorem same {x : (⟨2, ![n, m]⟩ : Shape).Idx → EReal} {f : ℕ → ℕ → EReal} (h : Rx x f) (hs : (⟨2, ![n, m]⟩ : Shape).ShapeCasts ⟨2, ![n, m]⟩) :
    Rx (shapeCast ⟨2, ![n, m]⟩ x hs) f := by
  rw [shapeCast_self]; exact h

/-- A row repeated. -/
theorem brow {x : (⟨2, ![1, m]⟩ : Shape).Idx → EReal} {f : ℕ → ℕ → EReal} (h : Rx x f) (hs : (⟨2, ![1, m]⟩ : Shape).Broadcasts ⟨2, ![n, m]⟩) :
    Rx (broadcastTo ⟨2, ![n, m]⟩ x hs) (fun _ b => f 0 b) := fun a b => by
  have e : broadcastTo ⟨2, ![n, m]⟩ x hs (ix2 a b) = x (ix2 0 b) := by
    rw [Pointwise.broadcastTo_apply]
    refine congrArg x ?_
    funext i; apply Fin.ext
    match i with
    | ⟨0, _⟩ => rfl
    | ⟨1, _⟩ =>
      by_cases h1 : m = 1
      · refine (congrArg Fin.val (dif_pos h1)).trans ?_
        have := b.isLt
        show 0 = b.val
        omega
      · exact congrArg Fin.val (dif_neg h1)
  rw [e, h]; rfl

/-- The sums of the columns. -/
theorem colsum {x : FVec Ideal ⟨2, ![n, m]⟩ .f32} {f : ℕ → ℕ → EReal} (h : Rx x f) (hr : (⟨2, ![n, m]⟩ : Shape).Reduces [0] ⟨1, ![m]⟩) (hφ hacc)
    (hs : (⟨1, ![m]⟩ : Shape).ShapeCasts ⟨2, ![1, m]⟩) :
    Rx (shapeCast ⟨2, ![1, m]⟩ (multiReduction .add [0] ⟨1, ![m]⟩ x 0x00000000#32 hr hφ hacc) hs) (fun _ b => ∑ j ∈ range n, f j b) := fun a b => by
  rw [shapeCast_a_1a_apply]
  show Ideal.reduceAdd hr x (ix1 b) = _
  rw [Ideal.reduceAdd_r2_a0]
  refine Eq.trans ?_ (Fin.sum_univ_eq_sum_range (fun j => f j b) n)
  exact Finset.sum_congr rfl fun j _ => h j b

/-- The product of two matrices. -/
theorem mm {d : DotDims ⟨2, ![n, k]⟩ ⟨2, ![k, m]⟩ ⟨2, ![n, m]⟩} (hd : d = DotDims.plain n k m)
    {x : FVec Ideal ⟨2, ![n, k]⟩ φ} {y : FVec Ideal ⟨2, ![k, m]⟩ ψ} {f g : ℕ → ℕ → EReal} (h : Rx x f) (h' : Rx y g) (prec) :
    Rx (matmul d prec x y (constant ⟨2, ![n, m]⟩ .f32 0x00000000#32)) (fun a b => ∑ j ∈ range k, f a j * g j b) := fun a b => by
  subst hd
  show FloatOps.matmul (DotDims.plain n k m) prec x y _ (ix2 a b) = _
  rw [Ideal.matmul_plain_apply, zero a b, zero_add]
  refine Eq.trans ?_ (Fin.sum_univ_eq_sum_range (fun j => f a j * g j b) k)
  exact Finset.sum_congr rfl fun j _ => by rw [h a j, h' j b]

/-- The product of a matrix and a transposed matrix. -/
theorem mmT {d : DotDims ⟨2, ![n, k]⟩ ⟨2, ![m, k]⟩ ⟨2, ![n, m]⟩} (hd : d = DotDims.transposedRhs n k m)
    {x : FVec Ideal ⟨2, ![n, k]⟩ φ} {y : FVec Ideal ⟨2, ![m, k]⟩ ψ} {f g : ℕ → ℕ → EReal} (h : Rx x f) (h' : Rx y g) (prec) :
    Rx (matmul d prec x y (constant ⟨2, ![n, m]⟩ .f32 0x00000000#32)) (fun a b => ∑ j ∈ range k, f a j * g b j) := fun a b => by
  subst hd
  show FloatOps.matmul (DotDims.transposedRhs n k m) prec x y _ (ix2 a b) = _
  rw [Ideal.matmul_transposedRhs_apply, zero a b, zero_add]
  refine Eq.trans ?_ (Fin.sum_univ_eq_sum_range (fun j => f a j * g b j) k)
  exact Finset.sum_congr rfl fun j _ => by rw [h a j, h' b j]

/-- A row of a matrix. -/
theorem ldRow {x : (⟨2, ![n, m]⟩ : Shape).Idx → EReal} {f : ℕ → ℕ → EReal} (h : Rx x f) {o : ℕ} {inb} :
    Rx (n := 1) (m := m) (View.ld (Val := Elt Ideal) (S := ⟨2, ![n, m]⟩) (e' := .f32) x (Rect.unit (s := ⟨2, ![n, m]⟩) ![o, 0] ![1, m] inb))
      (fun _ b => f o b) := fun a b => by
  have ho : o + 1 ≤ n := inb 0
  refine Eq.trans (congrArg x ?_) (h ⟨o, by omega⟩ b)
  funext i; apply Fin.ext
  match i with
  | ⟨0, _⟩ => show o + 1 * a.val = o; omega
  | ⟨1, _⟩ => show 0 + 1 * b.val = b.val; omega

/-- A load of a row, of contents that hold a matrix. -/
theorem rdRow {v : View sig κ sp ⟨2, ![n, m]⟩ .f32} {G : v.ty.Contents (Elt Ideal)} {f : ℕ → ℕ → EReal} (h : Rx (v.read (Elt Ideal) G) f) {o : ℕ} {inb} :
    Rx (n := 1) (m := m) (v.readAt (Elt Ideal) (Rect.unit (s := ⟨2, ![n, m]⟩) ![o, 0] ![1, m] inb).toLoadRect G) (fun _ b => f o b) := h.ldRow

/-- A load of a row, out of stores. -/
theorem covRow {v : View sig κ sp ⟨2, ![n, m]⟩ .f32} {L : List (View.Piece (Elt Ideal) ⟨2, ![n, m]⟩ .f32)} {f : ℕ → ℕ → EReal}
    (h : Rx (v.read (Elt Ideal) (v.writes (Elt Ideal) v.junk L)) f) {o : ℕ} {inb} :
    Rx (n := 1) (m := m) (v.readCov (Val := Elt Ideal) L (Rect.unit (s := ⟨2, ![n, m]⟩) ![o, 0] ![1, m] inb).toLoadRect) (fun _ b => f o b) := h.ldRow

/-- A store of a row. -/
theorem putRow {v : View sig κ sp ⟨2, ![n, m]⟩ .f32} {G : v.ty.Contents (Elt Ideal)} {x : (⟨2, ![1, m]⟩ : Shape).Idx → EReal} {f : ℕ → ℕ → EReal}
    {g : ℕ → EReal} {L : List (View.Piece (Elt Ideal) ⟨2, ![n, m]⟩ .f32)} (h : Rx x (fun _ b => g b))
    (hL : Rx (v.read (Elt Ideal) (v.writes (Elt Ideal) G L)) f) {o : ℕ} {inb} :
    Rx (v.read (Elt Ideal) (v.writes (Elt Ideal) G ((⟨Rect.unit (s := ⟨2, ![n, m]⟩) ![o, 0] ![1, m] inb, x⟩ : View.Piece (Elt Ideal) ⟨2, ![n, m]⟩ .f32) :: L)))
      (row o g f) := fun a b => by
  unfold row
  by_cases hab : a.val = o
  · rw [if_pos hab]
    refine (View.read_writes_cons_unit_of_mem (Val := Elt Ideal) v G inb x L (ix2 a b) (ix2 (n0 := 1) (n1 := m) 0 b) rfl ?_).trans (h 0 b)
    intro i
    match i with
    | ⟨0, _⟩ => show a.val = o + 0; omega
    | ⟨1, _⟩ => show b.val = 0 + b.val; omega
  · rw [if_neg hab]
    refine (View.read_writes_cons_unit_of_not_mem (Val := Elt Ideal) v G inb x L (ix2 a b) rfl 0 ?_).trans (hL a b)
    show a.val < o ∨ o + 1 ≤ a.val
    omega

/-- A store of the whole. -/
theorem putAll {v : View sig κ sp ⟨2, ![n, m]⟩ .f32} {G : v.ty.Contents (Elt Ideal)} {x : (⟨2, ![n, m]⟩ : Shape).Idx → EReal} {f : ℕ → ℕ → EReal}
    (h : Rx x f) {inb} {L : List (View.Piece (Elt Ideal) ⟨2, ![n, m]⟩ .f32)} :
    Rx (v.read (Elt Ideal) (v.writes (Elt Ideal) G ((⟨Rect.unit (s := ⟨2, ![n, m]⟩) ![0, 0] ![n, m] inb, x⟩ : View.Piece (Elt Ideal) ⟨2, ![n, m]⟩ .f32) :: L))) f := by
  have e := View.read_writes_full (Val := Elt Ideal) (s := ⟨2, ![n, m]⟩) v G (off := ![0, 0]) inb x L
  exact fun a b => (congrFun e (ix2 a b)).trans (h a b)

end Rx

section
variable {n m r : ℕ}

/-- A load of a whole matrix. -/
theorem ldAll {e : EltTy} (x : (⟨2, ![n, m]⟩ : Shape).Idx → Elt Ideal e) {inb} :
    View.ld (Val := Elt Ideal) (S := ⟨2, ![n, m]⟩) (e' := e) x (Rect.unit (s := ⟨2, ![n, m]⟩) ![0, 0] ![n, m] inb) = x := by
  funext j
  refine congrArg x ?_
  funext i; apply Fin.ext
  match i with
  | ⟨0, _⟩ => show 0 + 1 * (j 0).val = (j 0).val; omega
  | ⟨1, _⟩ => show 0 + 1 * (j 1).val = (j 1).val; omega

/-- A load of a whole stack of blocks of rows. -/
theorem ldStack {e : EltTy} (x : (⟨4, ![n, 1, r, m]⟩ : Shape).Idx → Elt Ideal e) {inb} :
    View.ld (Val := Elt Ideal) (S := ⟨4, ![n, 1, r, m]⟩) (e' := e) x (Rect.unit (s := ⟨4, ![n, 1, r, m]⟩) ![0, 0, 0, 0] ![n, 1, r, m] inb) = x := by
  funext j
  refine congrArg x ?_
  funext i; apply Fin.ext
  match i with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

end

/-- The stacked blocks of rows as one matrix. -/
def flat (w : (⟨4, ![8, 1, 128, 1024]⟩ : Shape).Idx → EReal) : ℕ → ℕ → EReal :=
  ent (n := 1024) (m := 1024) (shapeCast ⟨2, ![1024, 1024]⟩ (shapeCast ⟨3, ![8, 128, 1024]⟩ w (by decide)) (by decide))

/-- Two rows, then one, then five. -/
theorem join215 {m : ℕ} (y0 : (⟨2, ![2, m]⟩ : Shape).Idx → EReal) (y1 : (⟨2, ![1, m]⟩ : Shape).Idx → EReal) (y2 : (⟨2, ![5, m]⟩ : Shape).Idx → EReal) (h)
    {f : ℕ → EReal} (h0 : Rx y0 (fun _ _ => 0)) (h1 : Rx y1 (fun _ b => f b)) (h2 : Rx y2 (fun _ _ => 0)) :
    Rx (concatenate (⟨2, ![8, m]⟩ : Shape) 0 [⟨⟨2, ![2, m]⟩, y0⟩, ⟨⟨2, ![1, m]⟩, y1⟩, ⟨⟨2, ![5, m]⟩, y2⟩] h) (row 2 f (fun _ _ => 0)) := fun a b => by
  have ha := a.isLt
  unfold row
  have off : ∀ {p : ℕ} (j : Fin p) (d : Fin 2), d ≠ 0 → ((ix2 j b : (⟨2, ![p, m]⟩ : Shape).Idx) d).val = ((ix2 a b : (⟨2, ![8, m]⟩ : Shape).Idx) d).val :=
    fun j d hd => match d with
    | ⟨0, _⟩ => absurd rfl hd
    | ⟨1, _⟩ => rfl
  by_cases p : a.val = 2
  · rw [if_pos p]
    exact (concatenate_apply_piece (t := ⟨2, ![8, m]⟩) 0 _ h (ix2 a b) 1 (by simp) ⟨2, ![1, m]⟩ y1 rfl rfl 2 rfl (ix2 0 b) (off _) (by show 2 + 0 = a.val; omega)).trans (h1 0 b)
  · rw [if_neg p]
    by_cases q : a.val < 2
    · exact (concatenate_apply_piece (t := ⟨2, ![8, m]⟩) 0 _ h (ix2 a b) 0 (by simp) ⟨2, ![2, m]⟩ y0 rfl rfl 0 rfl (ix2 ⟨a.val, q⟩ b) (off _) (Nat.zero_add _)).trans (h0 _ b)
    · exact (concatenate_apply_piece (t := ⟨2, ![8, m]⟩) 0 _ h (ix2 a b) 2 (by simp) ⟨2, ![5, m]⟩ y2 rfl rfl 3 rfl (ix2 ⟨a.val - 3, by omega⟩ b) (off _) (by show 3 + (a.val - 3) = a.val; omega)).trans (h2 _ b)

end Cert.Sb.Tn

end
-- ==== Proof.OdOutRun.lean ====
/- The output projection's kernel: what its blocks of rows leave, and the arrays it leaves. -/
module

public import proofs.«01_k».proof.Proof.RowLib
public import Idealize.ShloMosaic.Lib.Pipeline.ValueKit.Partial
public import Idealize.ShloMosaic.Lib.Pipeline.ValueKit.Geometry
public import proofs.«01_k».proof.Proof.Gen.OdOutIdeal.Value
@[expose] public section
set_option maxRecDepth 16384
noncomputable section
namespace Cert.Sb.OdOutRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.OdOutIdeal Cert.OdOutIdeal.Gen Cert.Sb.Tn

section
variable {x0 : Vec Ideal S256x1024 .bf16} {x1 : Vec Ideal S256x1024 .f32} {x2 : Vec Ideal S8x1024 .f32} {x3 : Vec Ideal S8x1x128x1024 .bf16}
  {o x g : ℕ → ℕ → EReal}

/-- The product. -/
theorem pay1 (ho : Rx (n := 256) (m := 1024) x0 o) : Rx (n := 256) (m := 1024) (k0_pay1 (F := Ideal) x0 x3) (fun a b => ∑ k ∈ range 1024, o a k * flat x3 k b) := by
  unfold k0_pay1
  exact Rx.mm rfl ho (ent_rx _) none

/-- The row times the product, added. -/
theorem pay2 (ho : Rx (n := 256) (m := 1024) x0 o) (hx : Rx (n := 256) (m := 1024) x1 x) {w : Vec Ideal S1x1024 .f32} {r : ℕ → EReal}
    (hw : Rx (n := 1) (m := 1024) w (fun _ b => r b)) :
    Rx (n := 256) (m := 1024) (k0_pay2 (F := Ideal) x0 x3 x1 w) (fun a b => x a b + r b * ∑ k ∈ range 1024, o a k * flat x3 k b) := by
  unfold k0_pay2
  exact hx.add ((hw.brow _).mul (pay1 ho))

theorem out4 (ho : Rx (n := 256) (m := 1024) x0 o) (hx : Rx (n := 256) (m := 1024) x1 x) (hg : Rx (n := 8) (m := 1024) x2 g) :
    Rx (n := 256) (m := 1024) (out0_4 (F := Ideal) x0 x1 x2 x3) (fun a b => x a b + g 2 b * ∑ k ∈ range 1024, o a k * flat x3 k b) := by
  unfold out0_4
  rw [← View.read_writes_junk_eq_canon (Val := Elt Ideal) (Memref.whole cc0_stg4_0 : Memref sig .tc .vmem S256x1024 .f32).view]
  refine Rx.putAll ?_
  have e0 : View.ld (Val := Elt Ideal) x0 r0_0 = x0 := ldAll (n := 256) (m := 1024) (e := .bf16) x0
  have e1 : View.ld (Val := Elt Ideal) x1 r0_0 = x1 := ldAll (n := 256) (m := 1024) (e := .f32) x1
  have e3 : View.ld (Val := Elt Ideal) x3 r0_1 = x3 := ldStack (n := 8) (r := 128) (m := 1024) (e := .bf16) x3
  rw [e0, e1, e3]
  exact pay2 ho hx (Rx.ldRow hg)

theorem out5 (ho : Rx (n := 256) (m := 1024) x0 o) :
    Rx (n := 256) (m := 1024) (out0_5 (F := Ideal) x0 x1 x2 x3) (fun a b => ∑ k ∈ range 1024, o a k * flat x3 k b) := by
  unfold out0_5
  rw [← View.read_writes_junk_eq_canon (Val := Elt Ideal) (Memref.whole cc0_stg5_0 : Memref sig .tc .vmem S256x1024 .f32).view]
  refine Rx.putAll ?_
  have e0 : View.ld (Val := Elt Ideal) x0 r0_0 = x0 := ldAll (n := 256) (m := 1024) (e := .bf16) x0
  have e3 : View.ld (Val := Elt Ideal) x3 r0_1 = x3 := ldStack (n := 8) (r := 128) (m := 1024) (e := .bf16) x3
  rw [e0, e3]
  exact pay1 ho

end

section
variable (m : (ℓ : Loc nD τ sig) → Buf (Elt Ideal) ℓ) (c : Dev nD)

/-- The entries of the operands, by their numbers. -/
def A0 : ℕ → ℕ → EReal := ent (n := 4096) (m := 1024) (m ((c : Thread nD τ).loc main_arg0))
def A1 : ℕ → ℕ → EReal := ent (n := 4096) (m := 1024) (m ((c : Thread nD τ).loc main_arg1))
def A2 : ℕ → ℕ → EReal := ent (n := 8) (m := 1024) (m ((c : Thread nD τ).loc main_arg2))
def A3 : ℕ → ℕ → EReal := flat (m ((c : Thread nD τ).loc main_arg3))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0 ∧ win0_3.index t 2 = 0 ∧ win0_3.index t 3 = 0)
    ∧ (win0_4.index t 0 = t.val ∧ win0_4.index t 1 = 0) ∧ (win0_5.index t 0 = t.val ∧ win0_5.index t 1 = 0) :=
  (by decide +kernel : ∀ t : Fin grid0.N, _)

theorem blk0 (t : Fin cfg0.N) : Rx (n := 256) (m := 1024) (iblk (F := Ideal) m c 0 t) (fun a b => A0 m c (t.val * 256 + a) b) := by
  intro a b
  obtain ⟨⟨e0, e1⟩, -⟩ := pt t
  have ha := a.isLt
  have ht : t.val < 16 := t.isLt
  refine Eq.trans ?_ (ent_rx (n := 4096) (m := 1024) (m ((c : Thread nD τ).loc main_arg0)) ⟨t.val * 256 + a.val, by omega⟩ b)
  rw [← V_main_arg0 m c]
  unfold iblk
  rw [View.read_apply]
  show V m c main_arg0 _ = V m c main_arg0 _
  congr 1
  funext i
  apply Fin.ext
  match i with
  | ⟨0, _⟩ => show win0_0.index t 0 * 256 + 1 * a.val = t.val * 256 + a.val; rw [e0]; omega
  | ⟨1, _⟩ => show win0_0.index t 1 * 1024 + 1 * b.val = b.val; rw [e1]; omega

theorem blk1 (t : Fin cfg0.N) : Rx (n := 256) (m := 1024) (iblk (F := Ideal) m c 1 t) (fun a b => A1 m c (t.val * 256 + a) b) := by
  intro a b
  obtain ⟨-, ⟨e0, e1⟩, -⟩ := pt t
  have ha := a.isLt
  have ht : t.val < 16 := t.isLt
  refine Eq.trans ?_ (ent_rx (n := 4096) (m := 1024) (m ((c : Thread nD τ).loc main_arg1)) ⟨t.val * 256 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 256 + 1 * a.val = t.val * 256 + a.val; rw [e0]; omega
  | ⟨1, _⟩ => show win0_1.index t 1 * 1024 + 1 * b.val = b.val; rw [e1]; omega

theorem blk2 (t : Fin cfg0.N) : Rx (n := 8) (m := 1024) (iblk (F := Ideal) m c 2 t) (A2 m c) := by
  intro a b
  obtain ⟨-, -, ⟨e0, e1⟩, -⟩ := pt t
  refine Eq.trans ?_ (ent_rx (n := 8) (m := 1024) (m ((c : Thread nD τ).loc main_arg2)) a b)
  rw [← V_main_arg2 m c]
  unfold iblk
  rw [View.read_apply]
  show V m c main_arg2 _ = V m c main_arg2 _
  congr 1
  funext i
  apply Fin.ext
  match i with
  | ⟨0, _⟩ => show win0_2.index t 0 * 8 + 1 * a.val = a.val; rw [e0]; omega
  | ⟨1, _⟩ => show win0_2.index t 1 * 1024 + 1 * b.val = b.val; rw [e1]; omega

theorem blk3 (t : Fin cfg0.N) : iblk (F := Ideal) m c 3 t = m ((c : Thread nD τ).loc main_arg3) := by
  obtain ⟨-, -, -, ⟨e0, e1, e2, e3⟩, -⟩ := pt t
  rw [← V_main_arg3 m c]
  funext j
  unfold iblk
  rw [View.read_apply]
  show V m c main_arg3 _ = V m c main_arg3 _
  congr 1
  funext i
  apply Fin.ext
  match i with
  | ⟨0, _⟩ => show win0_3.index t 0 * 8 + 1 * (j 0).val = (j 0).val; rw [e0]; omega
  | ⟨1, _⟩ => show win0_3.index t 1 * 1 + 1 * (j 1).val = (j 1).val; rw [e1]; omega
  | ⟨2, _⟩ => show win0_3.index t 2 * 128 + 1 * (j 2).val = (j 2).val; rw [e2]; omega
  | ⟨3, _⟩ => show win0_3.index t 3 * 1024 + 1 * (j 3).val = (j 3).val; rw [e3]; omega

/-- The product. -/
def Y (a b : ℕ) : EReal := ∑ k ∈ range 1024, A0 m c a k * A3 m c k b
/-- The rows the block passes on. -/
def X1 (a b : ℕ) : EReal := A1 m c a b + A2 m c 2 b * Y m c a b

theorem pnt4 (t : Fin cfg0.N) : Rx (n := 256) (m := 1024) (out0_4 (F := Ideal) (iblk m c 0 t) (iblk m c 1 t) (iblk m c 2 t) (iblk m c 3 t))
    (fun a b => X1 m c (t.val * 256 + a) b) := by
  have h := out4 (x3 := iblk (F := Ideal) m c 3 t) (blk0 m c t) (blk1 m c t) (blk2 m c t)
  rw [blk3] at h ⊢
  exact h

theorem pnt5 (t : Fin cfg0.N) : Rx (n := 256) (m := 1024) (out0_5 (F := Ideal) (iblk m c 0 t) (iblk m c 1 t) (iblk m c 2 t) (iblk m c 3 t))
    (fun a b => Y m c (t.val * 256 + a) b) := by
  have h := out5 (x1 := iblk (F := Ideal) m c 1 t) (x2 := iblk (F := Ideal) m c 2 t) (x3 := iblk (F := Ideal) m c 3 t) (blk0 m c t)
  rw [blk3] at h ⊢
  exact h

/-- The arrays it leaves. -/
theorem arr4 : (dats (F := Ideal) m 0 c).arrAt 4 cfg0.N = fun i : (⟨2, ![4096, 1024]⟩ : Shape).Idx => X1 m c (i 0).val (i 1).val := by
  funext i
  refine (dats (F := Ideal) m 0 c).arrAt_forall_of_covers 4 (fun i v => v = X1 m c (i 0).val (i 1).val) (by decide +kernel) (fun t _ y => ?_) i
  have hB := pnt4 m c t
  blk_simp
  rw [after0_4]
  obtain ⟨-, -, -, -, ⟨e0, e1⟩, -⟩ := pt t
  rw [e0, e1]
  have y0 : (y 0).val < 256 := (y 0).isLt
  have y1 : (y 1).val < 1024 := (y 1).isLt
  generalize out0_4 (F := Ideal) (iblk m c 0 t) (iblk m c 1 t) (iblk m c 2 t) (iblk m c 3 t) = g at hB ⊢
  rw [zero_mul, zero_add]
  exact Eq.trans (congrArg g (eq_ix2 y)) (hB ⟨(y 0).val, y0⟩ ⟨(y 1).val, y1⟩)

theorem arr5 : (dats (F := Ideal) m 0 c).arrAt 5 cfg0.N = fun i : (⟨2, ![4096, 1024]⟩ : Shape).Idx => Y m c (i 0).val (i 1).val := by
  funext i
  refine (dats (F := Ideal) m 0 c).arrAt_forall_of_covers 5 (fun i v => v = Y m c (i 0).val (i 1).val) (by decide +kernel) (fun t _ y => ?_) i
  have hB := pnt5 m c t
  blk_simp
  rw [after0_5]
  obtain ⟨-, -, -, -, -, ⟨e0, e1⟩⟩ := pt t
  rw [e0, e1]
  have y0 : (y 0).val < 256 := (y 0).isLt
  have y1 : (y 1).val < 1024 := (y 1).isLt
  generalize out0_5 (F := Ideal) (iblk m c 0 t) (iblk m c 1 t) (iblk m c 2 t) (iblk m c 3 t) = g at hB ⊢
  rw [zero_mul, zero_add]
  exact Eq.trans (congrArg g (eq_ix2 y)) (hB ⟨(y 0).val, y0⟩ ⟨(y 1).val, y1⟩)

end

end Cert.Sb.OdOutRun
end
-- ==== Proof.OdOutRef.lean ====
/- The output projection, stated plainly: its values. -/
module

public import proofs.«01_k».proof.Proof.RowLib
public import proofs.«01_k».proof.Proof.Gen.OdOutReferenceIdeal.Read
@[expose] public section
set_option maxRecDepth 16384
noncomputable section
namespace Cert.Sb.OdOutRef
open Idealize.ShloMosaic hiding ix0 ix1 ix2 ix3 ix4 eq_ix1 eq_ix2 eq_ix3 eq_ix4
open Idealize.ShloMosaic.ValueIdx Finset
open Cert.OdOutReferenceIdeal Cert.OdOutReferenceIdeal.Gen Cert.OdOutReferenceIdeal.Read Cert.Sb.Tn

variable (x0 : (⟨S4096x1024, .bf16⟩ : BufTy).Contents (Elt Ideal)) (x1 : (⟨S4096x1024, .f32⟩ : BufTy).Contents (Elt Ideal))
variable (x2 : (⟨S8x1024, .f32⟩ : BufTy).Contents (Elt Ideal)) (x3 : (⟨S8x1x128x1024, .bf16⟩ : BufTy).Contents (Elt Ideal))

/-- The stacked blocks of rows as one matrix. -/
theorem rows : Rx (n := 1024) (m := 1024) (val_main_v3 (F := Ideal) x3) (flat x3) := ent_rx _

/-- The product. -/
theorem prod : Rx (n := 4096) (m := 1024) (val_main_v4 (F := Ideal) x0 x3)
    (fun a b => ∑ k ∈ range 1024, ent (n := 4096) (m := 1024) x0 a k * flat x3 k b) := fun a b => by
  rw [val_main_v4_apply]
  refine Eq.trans ?_ (Fin.sum_univ_eq_sum_range (fun k => ent (n := 4096) (m := 1024) x0 a.val k * flat x3 k b.val) 1024)
  refine Finset.sum_congr rfl fun k _ => ?_
  have e0 : val_main_v0 (F := Ideal) x0 (lidx_main_v4 (ix2 a b) k) = ent (n := 4096) (m := 1024) x0 a.val k.val := (ent_rx (n := 4096) (m := 1024) x0).at _
  have e1 : val_main_v3 (F := Ideal) x3 (ridx_main_v4 (ix2 a b) k) = flat x3 k.val b.val := (rows x3).at _
  rw [e0, e1]

theorem result4 : val_main_v4 (F := Ideal) x0 x3
    = fun i : (⟨2, ![4096, 1024]⟩ : Shape).Idx => ∑ k ∈ range 1024, ent (n := 4096) (m := 1024) x0 (i 0).val k * flat x3 k (i 1).val := by
  funext i
  exact (prod x0 x3).at i

theorem result10 : val_main_v10 (F := Ideal) x0 x1 x2 x3
    = fun i : (⟨2, ![4096, 1024]⟩ : Shape).Idx => ent (n := 4096) (m := 1024) x1 (i 0).val (i 1).val
      + ent (n := 8) (m := 1024) x2 2 (i 1).val * ∑ k ∈ range 1024, ent (n := 4096) (m := 1024) x0 (i 0).val k * flat x3 k (i 1).val := by
  funext i
  have e8 : val_main_v8 (F := Ideal) x2 i = ent (n := 8) (m := 1024) x2 2 (i 1).val := by
    rw [val_main_v8_apply, val_main_v7_apply, val_main_v6_apply, val_main_v5_apply]
    refine ((ent_rx (n := 8) (m := 1024) x2).at _).trans ?_
    have i1 : (i 1).val < 1024 := (i 1).isLt
    show ent (n := 8) (m := 1024) x2 (2 + 0) ((i 1).val % 1024) = _
    rw [Nat.mod_eq_of_lt i1]
  rw [val_main_v10_apply, val_main_v9_apply, e8]
  exact congrArg₂ (fun u v : EReal => u + ent (n := 8) (m := 1024) x2 2 (i 1).val * v) ((ent_rx (n := 4096) (m := 1024) x1).at i) ((prod x0 x3).at i)

end Cert.Sb.OdOutRef
end
-- ==== Proof.OdOutBRun.lean ====
/- The output projection's backward kernel: what its blocks of rows leave, and the arrays it leaves. -/
module

public import proofs.«01_k».proof.Proof.RowLib
public import Idealize.ShloMosaic.Lib.Pipeline.ValueKit.Partial
public import Idealize.ShloMosaic.Lib.Pipeline.ValueKit.Geometry
public import proofs.«01_k».proof.Proof.Gen.OdOutBIdeal.Value
@[expose] public section
set_option maxRecDepth 16384
noncomputable section
namespace Cert.Sb.OdOutBRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.OdOutBIdeal Cert.OdOutBIdeal.Gen Cert.Sb.Tn

/-- The gradient of the product, block by block. -/
theorem pay2 {x : Vec Ideal S256x1024 .f32} {w : Vec Ideal S1x1024 .f32} {f : ℕ → ℕ → EReal} {r : ℕ → EReal} (hx : Rx (n := 256) (m := 1024) x f)
    (hw : Rx (n := 1) (m := 1024) w (fun _ b => r b)) : Rx (n := 256) (m := 1024) (k0_pay2 (F := Ideal) x w) (fun a b => r b * f a b) := by
  unfold k0_pay2
  exact (hw.brow _).mul hx

/-- The gradient of the rows the product was of. -/
theorem pay3 {x : Vec Ideal S256x1024 .f32} {w : Vec Ideal S1x1024 .f32} {v : Vec Ideal S8x1x128x1024 .bf16} {f : ℕ → ℕ → EReal} {r : ℕ → EReal}
    (hx : Rx (n := 256) (m := 1024) x f) (hw : Rx (n := 1) (m := 1024) w (fun _ b => r b)) :
    Rx (n := 256) (m := 1024) (k0_pay3 (F := Ideal) x w v) (fun a b => ∑ k ∈ range 1024, r k * f a k * flat v b k) := by
  unfold k0_pay3
  exact Rx.mmT (φ := .bf16) (ψ := .bf16) rfl (pay2 hx hw) (ent_rx _) none

/-- The gradient of the row, one block more. -/
theorem pay4 {x y : Vec Ideal S256x1024 .f32} {w : Vec Ideal S1x1024 .f32} {f g : ℕ → ℕ → EReal} {r : ℕ → EReal} (hx : Rx (n := 256) (m := 1024) x f)
    (hw : Rx (n := 1) (m := 1024) w (fun _ b => r b)) (hy : Rx (n := 256) (m := 1024) y g) :
    Rx (n := 1) (m := 1024) (k0_pay4 (F := Ideal) x w y) (fun _ b => r b + ∑ t ∈ range 256, f t b * g t b) := by
  unfold k0_pay4
  exact (hw.same _).add ((hx.mul hy).colsum _ _ _ _)

section
variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S8x1024 .f32) (harg3 : arg3.IsWhole) (arg4 : Memref sig .tc .vmem S8x1x128x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S8x1024 .f32) (harg7 : arg7.IsWhole)
  {x0 x1 : Vec Ideal S256x1024 .f32} {x2 : Vec Ideal S8x1024 .f32} {x3 : Vec Ideal S8x1x128x1024 .bf16} {f y g : ℕ → ℕ → EReal}

/-- What the first and the later blocks of rows leave: the gradient of the rows. -/
theorem doA (hc0 : cond0_0 i) (hx : Rx (n := 256) (m := 1024) x0 f) (hg : Rx (n := 8) (m := 1024) x2 g) :
    Rx (n := 256) (m := 1024) (out0_A_4 c i arg1 harg1 arg2 harg2 arg3 harg3 arg4 harg4 arg5 harg5 arg6 harg6 arg7 harg7 hc0 x0 x1 x2 x3)
      (fun a b => ∑ k ∈ range 1024, g 2 k * f a k * flat x3 b k) := by
  unfold out0_A_4 kernelRun0_A
  dsimp only
  sl_unfold_words
  have g2 : Rx (n := 8) (m := 1024) (arg3.view.read (Elt Ideal) (harg3.unread (Val := Elt Ideal) x2)) g := by rw [harg3.read_unread]; exact hg
  have e0 := (View.readAt_full arg1.view (harg1.unread (Val := Elt Ideal) x0) inb_S256x1024_S256x1024_0_0).trans (harg1.read_unread _)
  have e3 := (View.readAt_full arg4.view (harg4.unread (Val := Elt Ideal) x3) inb_S8x1x128x1024_S8x1x128x1024_0_0_0_0).trans (harg4.read_unread _)
  have h := pay3 (v := x3) hx (g2.rdRow (o := 2) (inb := inb_S8x1024_S1x1024_2_0))
  refine fun a b => (congrFun (View.read_writes_full _ _ _ _ _) (ix2 a b)).trans ?_
  rw [e0, e3]
  exact h a b

theorem dyA (hc0 : cond0_0 i) (hx : Rx (n := 256) (m := 1024) x0 f) (hg : Rx (n := 8) (m := 1024) x2 g) :
    Rx (n := 256) (m := 1024) (out0_A_5 c i arg1 harg1 arg2 harg2 arg3 harg3 arg4 harg4 arg5 harg5 arg6 harg6 arg7 harg7 hc0 x0 x1 x2 x3)
      (fun a b => g 2 b * f a b) := by
  unfold out0_A_5 kernelRun0_A
  dsimp only
  sl_unfold_words
  have g2 : Rx (n := 8) (m := 1024) (arg3.view.read (Elt Ideal) (harg3.unread (Val := Elt Ideal) x2)) g := by rw [harg3.read_unread]; exact hg
  have e0 := (View.readAt_full arg1.view (harg1.unread (Val := Elt Ideal) x0) inb_S256x1024_S256x1024_0_0).trans (harg1.read_unread _)
  have h := pay2 hx (g2.rdRow (o := 2) (inb := inb_S8x1024_S1x1024_2_0))
  refine fun a b => (congrFun (View.read_writes_full _ _ _ _ _) (ix2 a b)).trans ?_
  rw [e0]
  exact h a b

theorem doB (hc0 : ¬cond0_0 i) {xo : Vec Ideal S8x1024 .f32} (hx : Rx (n := 256) (m := 1024) x0 f) (hg : Rx (n := 8) (m := 1024) x2 g) :
    Rx (n := 256) (m := 1024) (out0_B_4 c i arg1 harg1 arg2 harg2 arg3 harg3 arg4 harg4 arg5 harg5 arg6 harg6 arg7 harg7 hc0 x0 x1 x2 x3 xo)
      (fun a b => ∑ k ∈ range 1024, g 2 k * f a k * flat x3 b k) := by
  unfold out0_B_4 kernelRun0_B
  dsimp only
  sl_unfold_words
  have g2 : Rx (n := 8) (m := 1024) (arg3.view.read (Elt Ideal) (harg3.unread (Val := Elt Ideal) x2)) g := by rw [harg3.read_unread]; exact hg
  have e0 := (View.readAt_full arg1.view (harg1.unread (Val := Elt Ideal) x0) inb_S256x1024_S256x1024_0_0).trans (harg1.read_unread _)
  have e3 := (View.readAt_full arg4.view (harg4.unread (Val := Elt Ideal) x3) inb_S8x1x128x1024_S8x1x128x1024_0_0_0_0).trans (harg4.read_unread _)
  have h := pay3 (v := x3) hx (g2.rdRow (o := 2) (inb := inb_S8x1024_S1x1024_2_0))
  refine fun a b => (congrFun (View.read_writes_full _ _ _ _ _) (ix2 a b)).trans ?_
  rw [e0, e3]
  exact h a b

theorem dyB (hc0 : ¬cond0_0 i) {xo : Vec Ideal S8x1024 .f32} (hx : Rx (n := 256) (m := 1024) x0 f) (hg : Rx (n := 8) (m := 1024) x2 g) :
    Rx (n := 256) (m := 1024) (out0_B_5 c i arg1 harg1 arg2 harg2 arg3 harg3 arg4 harg4 arg5 harg5 arg6 harg6 arg7 harg7 hc0 x0 x1 x2 x3 xo)
      (fun a b => g 2 b * f a b) := by
  unfold out0_B_5 kernelRun0_B
  dsimp only
  sl_unfold_words
  have g2 : Rx (n := 8) (m := 1024) (arg3.view.read (Elt Ideal) (harg3.unread (Val := Elt Ideal) x2)) g := by rw [harg3.read_unread]; exact hg
  have e0 := (View.readAt_full arg1.view (harg1.unread (Val := Elt Ideal) x0) inb_S256x1024_S256x1024_0_0).trans (harg1.read_unread _)
  have h := pay2 hx (g2.rdRow (o := 2) (inb := inb_S8x1024_S1x1024_2_0))
  refine fun a b => (congrFun (View.read_writes_full _ _ _ _ _) (ix2 a b)).trans ?_
  rw [e0]
  exact h a b

theorem sgA (hc0 : cond0_0 i) (hx : Rx (n := 256) (m := 1024) x0 f) (hy : Rx (n := 256) (m := 1024) x1 y) :
    Rx (n := 8) (m := 1024) (out0_A_6 c i arg1 harg1 arg2 harg2 arg3 harg3 arg4 harg4 arg5 harg5 arg6 harg6 arg7 harg7 hc0 x0 x1 x2 x3)
      (row 2 (fun b => 0 + ∑ t ∈ range 256, f t b * y t b) (fun _ _ => 0)) := by
  unfold out0_A_6 kernelRun0_A
  dsimp only
  sl_unfold_words
  have e0 := (View.readAt_full arg1.view (harg1.unread (Val := Elt Ideal) x0) inb_S256x1024_S256x1024_0_0).trans (harg1.read_unread _)
  have e1 := (View.readAt_full arg2.view (harg2.unread (Val := Elt Ideal) x1) inb_S256x1024_S256x1024_0_0).trans (harg2.read_unread _)
  rw [e0, e1]
  have z : Rx (n := 8) (m := 1024) (k0_pay1 (F := Ideal)) (fun _ _ => 0) := fun _ _ => Ideal.ofBits_zero_f32
  exact Rx.putRow (pay4 hx (Rx.covRow (Rx.putAll z)) hy) (Rx.putAll z)

theorem sgB (hc0 : ¬cond0_0 i) {xo : Vec Ideal S8x1024 .f32} {p : ℕ → ℕ → EReal} (hp : Rx (n := 8) (m := 1024) xo p) (hx : Rx (n := 256) (m := 1024) x0 f) (hy : Rx (n := 256) (m := 1024) x1 y) :
    Rx (n := 8) (m := 1024) (out0_B_6 c i arg1 harg1 arg2 harg2 arg3 harg3 arg4 harg4 arg5 harg5 arg6 harg6 arg7 harg7 hc0 x0 x1 x2 x3 xo)
      (row 2 (fun b => p 2 b + ∑ t ∈ range 256, f t b * y t b) p) := by
  unfold out0_B_6 kernelRun0_B
  dsimp only
  sl_unfold_words
  have e0 := (View.readAt_full arg1.view (harg1.unread (Val := Elt Ideal) x0) inb_S256x1024_S256x1024_0_0).trans (harg1.read_unread _)
  have e1 := (View.readAt_full arg2.view (harg2.unread (Val := Elt Ideal) x1) inb_S256x1024_S256x1024_0_0).trans (harg2.read_unread _)
  rw [e0, e1]
  have q : Rx (n := 8) (m := 1024) (arg7.view.read (Elt Ideal) (harg7.unread (Val := Elt Ideal) xo)) p := by rw [harg7.read_unread]; exact hp
  exact Rx.putRow (L := []) (pay4 hx (Rx.rdRow q) hy) q

end

section
variable (m : (ℓ : Loc nD τ sig) → Buf (Elt Ideal) ℓ) (c : Dev nD)

/-- The entries of the operands, by their numbers. -/
def A0 : ℕ → ℕ → EReal := ent (n := 4096) (m := 1024) (m ((c : Thread nD τ).loc main_arg0))
def A1 : ℕ → ℕ → EReal := ent (n := 4096) (m := 1024) (m ((c : Thread nD τ).loc main_arg1))
def A2 : ℕ → ℕ → EReal := ent (n := 8) (m := 1024) (m ((c : Thread nD τ).loc main_arg2))
def A3 : ℕ → ℕ → EReal := flat (m ((c : Thread nD τ).loc main_arg3))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0 ∧ win0_3.index t 2 = 0 ∧ win0_3.index t 3 = 0)
    ∧ (win0_4.index t 0 = t.val ∧ win0_4.index t 1 = 0) ∧ (win0_5.index t 0 = t.val ∧ win0_5.index t 1 = 0) ∧ (win0_6.index t 0 = 0 ∧ win0_6.index t 1 = 0) :=
  (by decide +kernel : ∀ t : Fin grid0.N, _)

theorem blk0 (t : Fin cfg0.N) : Rx (n := 256) (m := 1024) (iblk (F := Ideal) m c 0 t) (fun a b => A0 m c (t.val * 256 + a) b) := by
  intro a b
  obtain ⟨⟨e0, e1⟩, -⟩ := pt t
  have ha := a.isLt
  have ht : t.val < 16 := t.isLt
  refine Eq.trans ?_ (ent_rx (n := 4096) (m := 1024) (m ((c : Thread nD τ).loc main_arg0)) ⟨t.val * 256 + a.val, by omega⟩ b)
  rw [← V_main_arg0 m c]
  unfold iblk
  rw [View.read_apply]
  show V m c main_arg0 _ = V m c main_arg0 _
  congr 1
  funext i
  apply Fin.ext
  match i with
  | ⟨0, _⟩ => show win0_0.index t 0 * 256 + 1 * a.val = t.val * 256 + a.val; rw [e0]; omega
  | ⟨1, _⟩ => show win0_0.index t 1 * 1024 + 1 * b.val = b.val; rw [e1]; omega

theorem blk1 (t : Fin cfg0.N) : Rx (n := 256) (m := 1024) (iblk (F := Ideal) m c 1 t) (fun a b => A1 m c (t.val * 256 + a) b) := by
  intro a b
  obtain ⟨-, ⟨e0, e1⟩, -⟩ := pt t
  have ha := a.isLt
  have ht : t.val < 16 := t.isLt
  refine Eq.trans ?_ (ent_rx (n := 4096) (m := 1024) (m ((c : Thread nD τ).loc main_arg1)) ⟨t.val * 256 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 256 + 1 * a.val = t.val * 256 + a.val; rw [e0]; omega
  | ⟨1, _⟩ => show win0_1.index t 1 * 1024 + 1 * b.val = b.val; rw [e1]; omega

theorem blk2 (t : Fin cfg0.N) : Rx (n := 8) (m := 1024) (iblk (F := Ideal) m c 2 t) (A2 m c) := by
  intro a b
  obtain ⟨-, -, ⟨e0, e1⟩, -⟩ := pt t
  refine Eq.trans ?_ (ent_rx (n := 8) (m := 1024) (m ((c : Thread nD τ).loc main_arg2)) a b)
  rw [← V_main_arg2 m c]
  unfold iblk
  rw [View.read_apply]
  show V m c main_arg2 _ = V m c main_arg2 _
  congr 1
  funext i
  apply Fin.ext
  match i with
  | ⟨0, _⟩ => show win0_2.index t 0 * 8 + 1 * a.val = a.val; rw [e0]; omega
  | ⟨1, _⟩ => show win0_2.index t 1 * 1024 + 1 * b.val = b.val; rw [e1]; omega

theorem blk3 (t : Fin cfg0.N) : iblk (F := Ideal) m c 3 t = m ((c : Thread nD τ).loc main_arg3) := by
  obtain ⟨-, -, -, ⟨e0, e1, e2, e3⟩, -⟩ := pt t
  rw [← V_main_arg3 m c]
  funext j
  unfold iblk
  rw [View.read_apply]
  show V m c main_arg3 _ = V m c main_arg3 _
  congr 1
  funext i
  apply Fin.ext
  match i with
  | ⟨0, _⟩ => show win0_3.index t 0 * 8 + 1 * (j 0).val = (j 0).val; rw [e0]; omega
  | ⟨1, _⟩ => show win0_3.index t 1 * 1 + 1 * (j 1).val = (j 1).val; rw [e1]; omega
  | ⟨2, _⟩ => show win0_3.index t 2 * 128 + 1 * (j 2).val = (j 2).val; rw [e2]; omega
  | ⟨3, _⟩ => show win0_3.index t 3 * 1024 + 1 * (j 3).val = (j 3).val; rw [e3]; omega

/-- The gradient of the product. -/
def DY (a b : ℕ) : EReal := A2 m c 2 b * A0 m c a b
/-- The gradient of the rows the product was of. -/
def DO (a b : ℕ) : EReal := ∑ k ∈ range 1024, A2 m c 2 k * A0 m c a k * A3 m c b k
/-- The gradient of the row. -/
def DG (n : ℕ) (b : ℕ) : EReal := ∑ t ∈ range n, A0 m c t b * A1 m c t b

theorem pnt4 (t : Fin cfg0.N) : Rx (n := 256) (m := 1024) (outsAt0 (F := Ideal) m c t.val t.isLt).1 (fun a b => DO m c (t.val * 256 + a) b) := by
  have h3 := blk3 m c t
  by_cases h0 : t.val % 16 = 0
  · have h := doA (x0 := iblk (F := Ideal) m c 0 t) (x1 := iblk (F := Ideal) m c 1 t) (x2 := iblk (F := Ideal) m c 2 t) (x3 := iblk (F := Ideal) m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk2 m c t)
    rw [outsAt0_A m c t h0]
    rw [show flat (iblk (F := Ideal) m c 3 t) = A3 m c from congrArg flat h3] at h
    have h := h.congr (g := fun a b => DO m c (t.val * 256 + a) b) (fun _ _ => rfl)
    with_reducible exact h
  · have h := doB (x0 := iblk (F := Ideal) m c 0 t) (x1 := iblk (F := Ideal) m c 1 t) (x2 := iblk (F := Ideal) m c 2 t) (x3 := iblk (F := Ideal) m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xo := (outsAt0 (F := Ideal) m c (t.val - 1) (Nat.lt_of_le_of_lt (Nat.sub_le _ _) t.isLt)).2.2) (blk0 m c t) (blk2 m c t)
    rw [outsAt0_B m c t h0]
    rw [show flat (iblk (F := Ideal) m c 3 t) = A3 m c from congrArg flat h3] at h
    have h := h.congr (g := fun a b => DO m c (t.val * 256 + a) b) (fun _ _ => rfl)
    with_reducible exact h

theorem pnt5 (t : Fin cfg0.N) : Rx (n := 256) (m := 1024) (outsAt0 (F := Ideal) m c t.val t.isLt).2.1 (fun a b => DY m c (t.val * 256 + a) b) := by
  have h3 := blk3 m c t
  by_cases h0 : t.val % 16 = 0
  · have h := dyA (x0 := iblk (F := Ideal) m c 0 t) (x1 := iblk (F := Ideal) m c 1 t) (x2 := iblk (F := Ideal) m c 2 t) (x3 := iblk (F := Ideal) m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk2 m c t)
    rw [outsAt0_A m c t h0]
    have h := h.congr (g := fun a b => DY m c (t.val * 256 + a) b) (fun _ _ => rfl)
    with_reducible exact h
  · have h := dyB (x0 := iblk (F := Ideal) m c 0 t) (x1 := iblk (F := Ideal) m c 1 t) (x2 := iblk (F := Ideal) m c 2 t) (x3 := iblk (F := Ideal) m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xo := (outsAt0 (F := Ideal) m c (t.val - 1) (Nat.lt_of_le_of_lt (Nat.sub_le _ _) t.isLt)).2.2) (blk0 m c t) (blk2 m c t)
    rw [outsAt0_B m c t h0]
    have h := h.congr (g := fun a b => DY m c (t.val * 256 + a) b) (fun _ _ => rfl)
    with_reducible exact h

theorem first (t : Fin cfg0.N) (h0 : t.val % 16 = 0) (ht : t.val = 0) :
    Rx (n := 8) (m := 1024) (outsAt0 (F := Ideal) m c t.val t.isLt).2.2 (row 2 (DG m c (0 * 256 + 256)) (fun _ _ => 0)) := by
  have h := sgA (x0 := iblk (F := Ideal) m c 0 t) (x1 := iblk (F := Ideal) m c 1 t) (x2 := iblk (F := Ideal) m c 2 t) (x3 := iblk (F := Ideal) m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t)
  have h := h.congr (g := row 2 (DG m c (0 * 256 + 256)) (fun _ _ => 0)) (fun a b => by
    unfold row DG
    dsimp only
    rw [ht, zero_add]
    simp only [Nat.zero_mul, Nat.zero_add])
  rw [outsAt0_A m c t h0]
  with_reducible exact h

theorem later (t : Fin cfg0.N) (h0 : ¬t.val % 16 = 0) {u : ℕ} (hu : t.val = u + 1)
    (hp : Rx (n := 8) (m := 1024) (outsAt0 (F := Ideal) m c (t.val - 1) (Nat.lt_of_le_of_lt (Nat.sub_le _ _) t.isLt)).2.2 (row 2 (DG m c (u * 256 + 256)) (fun _ _ => 0))) :
    Rx (n := 8) (m := 1024) (outsAt0 (F := Ideal) m c t.val t.isLt).2.2 (row 2 (DG m c ((u + 1) * 256 + 256)) (fun _ _ => 0)) := by
  have h := sgB (x0 := iblk (F := Ideal) m c 0 t) (x1 := iblk (F := Ideal) m c 1 t) (x2 := iblk (F := Ideal) m c 2 t) (x3 := iblk (F := Ideal) m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) hp (blk0 m c t) (blk1 m c t)
  have h := h.congr (g := row 2 (DG m c ((u + 1) * 256 + 256)) (fun _ _ => 0)) (fun a b => by
    unfold row DG
    dsimp only
    by_cases e : a = 2
    · rw [if_pos e, if_pos e, if_pos rfl, hu]
      exact more (fun t => A0 m c t b * A1 m c t b) 256 u
    · rw [if_neg e, if_neg e, if_neg e])
  rw [outsAt0_B m c t h0]
  with_reducible exact h

theorem upTo : ∀ (n : ℕ) (hn : n < cfg0.N), Rx (n := 8) (m := 1024) (outsAt0 (F := Ideal) m c n hn).2.2 (row 2 (DG m c (n * 256 + 256)) (fun _ _ => 0))
  | 0, hn => first m c ⟨0, hn⟩ rfl rfl
  | n + 1, hn => later m c ⟨n + 1, hn⟩ (by have h : n + 1 < 16 := hn; show ¬(n + 1) % 16 = 0; omega) rfl (upTo n (Nat.lt_of_succ_lt hn))

/-- The arrays it leaves. -/
theorem arr4 : (dats (F := Ideal) m 0 c).arrAt 4 cfg0.N = fun i : (⟨2, ![4096, 1024]⟩ : Shape).Idx => DO m c (i 0).val (i 1).val := by
  funext i
  refine (dats (F := Ideal) m 0 c).arrAt_forall_of_covers 4 (fun i v => v = DO m c (i 0).val (i 1).val) (by decide +kernel) (fun t _ y => ?_) i
  have hB := pnt4 m c t
  blk_simp
  rw [after0_4]
  obtain ⟨-, -, -, -, ⟨e0, e1⟩, -⟩ := pt t
  rw [e0, e1]
  have y0 : (y 0).val < 256 := (y 0).isLt
  have y1 : (y 1).val < 1024 := (y 1).isLt
  generalize (outsAt0 (F := Ideal) m c t.val t.isLt).1 = g at hB ⊢
  rw [zero_mul, zero_add]
  exact Eq.trans (congrArg g (eq_ix2 y)) (hB ⟨(y 0).val, y0⟩ ⟨(y 1).val, y1⟩)

theorem arr5 : (dats (F := Ideal) m 0 c).arrAt 5 cfg0.N = fun i : (⟨2, ![4096, 1024]⟩ : Shape).Idx => DY m c (i 0).val (i 1).val := by
  funext i
  refine (dats (F := Ideal) m 0 c).arrAt_forall_of_covers 5 (fun i v => v = DY m c (i 0).val (i 1).val) (by decide +kernel) (fun t _ y => ?_) i
  have hB := pnt5 m c t
  blk_simp
  rw [after0_5]
  obtain ⟨-, -, -, -, -, ⟨e0, e1⟩, -⟩ := pt t
  rw [e0, e1]
  have y0 : (y 0).val < 256 := (y 0).isLt
  have y1 : (y 1).val < 1024 := (y 1).isLt
  generalize (outsAt0 (F := Ideal) m c t.val t.isLt).2.1 = g at hB ⊢
  rw [zero_mul, zero_add]
  exact Eq.trans (congrArg g (eq_ix2 y)) (hB ⟨(y 0).val, y0⟩ ⟨(y 1).val, y1⟩)

theorem arr6 : (dats (F := Ideal) m 0 c).arrAt 6 cfg0.N = fun i : (⟨2, ![8, 1024]⟩ : Shape).Idx => row 2 (DG m c 4096) (fun _ _ => 0) (i 0).val (i 1).val := by
  funext i
  refine (dats (F := Ideal) m 0 c).arrAt_forall_of_covers 6 (fun i v => v = row 2 (DG m c 4096) (fun _ _ => 0) (i 0).val (i 1).val) (by decide +kernel)
    (fun t hf y => ?_) i
  have hF : t.val % 16 = 15 := (flush0_6 t).mp hf
  have ht : t.val < 16 := t.isLt
  have hB := upTo m c t.val t.isLt
  rw [show t.val * 256 + 256 = 4096 by omega] at hB
  blk_simp
  rw [after0_6]
  obtain ⟨-, -, -, -, -, -, ⟨e0, e1⟩⟩ := pt t
  rw [e0, e1]
  have y0 : (y 0).val < 8 := (y 0).isLt
  have y1 : (y 1).val < 1024 := (y 1).isLt
  generalize (outsAt0 (F := Ideal) m c t.val t.isLt).2.2 = g at hB ⊢
  rw [zero_mul, zero_add, zero_mul, zero_add]
  exact Eq.trans (congrArg g (eq_ix2 y)) (hB ⟨(y 0).val, y0⟩ ⟨(y 1).val, y1⟩)

end

end Cert.Sb.OdOutBRun
end
-- ==== Proof.OdOutBRef.lean ====
/- The output projection's gradients, stated plainly: their values. -/
module

public import proofs.«01_k».proof.Proof.RowLib
public import proofs.«01_k».proof.Proof.Gen.OdOutBReferenceIdeal.Read
@[expose] public section
set_option maxRecDepth 16384
noncomputable section
namespace Cert.Sb.OdOutBRef
open Idealize.ShloMosaic hiding ix0 ix1 ix2 ix3 ix4 eq_ix1 eq_ix2 eq_ix3 eq_ix4
open Idealize.ShloMosaic.ValueIdx Finset
open Cert.OdOutBReferenceIdeal Cert.OdOutBReferenceIdeal.Gen Cert.OdOutBReferenceIdeal.Read Cert.Sb.Tn

variable (x0 x1 : (⟨S4096x1024, .f32⟩ : BufTy).Contents (Elt Ideal))
variable (x2 : (⟨S8x1024, .f32⟩ : BufTy).Contents (Elt Ideal)) (x3 : (⟨S8x1x128x1024, .bf16⟩ : BufTy).Contents (Elt Ideal))

/-- The stacked blocks of rows as one matrix. -/
theorem rows : Rx (n := 1024) (m := 1024) (val_main_v17 (F := Ideal) x3) (flat x3) := ent_rx _

/-- The gradient handed in. -/
theorem given : Rx (n := 4096) (m := 1024) (val_main_v8 (F := Ideal) x0) (ent (n := 4096) (m := 1024) x0) := by
  unfold val_main_v8
  exact (ent_rx (n := 4096) (m := 1024) x0).same _

/-- The gradient of the product. -/
theorem dy : Rx (n := 4096) (m := 1024) (val_main_v10 (F := Ideal) x0 x2) (fun a b => ent (n := 8) (m := 1024) x2 2 b * ent (n := 4096) (m := 1024) x0 a b) := fun a b => by
  have e9 : val_main_v9 (F := Ideal) x2 (ix2 a b) = ent (n := 8) (m := 1024) x2 2 b.val := by
    rw [val_main_v9_apply, val_main_v3_apply, val_main_v2_apply, val_main_v1_apply]
    refine ((ent_rx (n := 8) (m := 1024) x2).at _).trans ?_
    have b1 : b.val < 1024 := b.isLt
    show ent (n := 8) (m := 1024) x2 (2 + 0) (b.val % 1024) = _
    rw [Nat.mod_eq_of_lt b1]
  rw [val_main_v10_apply, e9, given x0 a b]
  rfl

theorem result21 : val_main_v21 (F := Ideal) x0 x2
    = fun i : (⟨2, ![4096, 1024]⟩ : Shape).Idx => ent (n := 8) (m := 1024) x2 2 (i 1).val * ent (n := 4096) (m := 1024) x0 (i 0).val (i 1).val := by
  funext i
  rw [val_main_v21_apply]
  exact (dy x0 x2).at i

theorem result20 : val_main_v20 (F := Ideal) x0 x2 x3
    = fun i : (⟨2, ![4096, 1024]⟩ : Shape).Idx =>
      ∑ k ∈ range 1024, ent (n := 8) (m := 1024) x2 2 k * ent (n := 4096) (m := 1024) x0 (i 0).val k * flat x3 (i 1).val k := by
  funext i
  rw [val_main_v20_apply]
  show val_main_v19 (F := Ideal) x0 x2 x3 i = _
  rw [val_main_v19_apply]
  refine Eq.trans ?_ (Fin.sum_univ_eq_sum_range (fun k => ent (n := 8) (m := 1024) x2 2 k * ent (n := 4096) (m := 1024) x0 (i 0).val k * flat x3 (i 1).val k) 1024)
  refine Finset.sum_congr rfl fun k _ => ?_
  have e0 : val_main_v10 (F := Ideal) x0 x2 (lidx_main_v19 i k) = ent (n := 8) (m := 1024) x2 2 k.val * ent (n := 4096) (m := 1024) x0 (i 0).val k.val := (dy x0 x2).at _
  have e1 : val_main_v17 (F := Ideal) x3 (ridx_main_v19 i k) = flat x3 (i 1).val k.val := (rows x3).at _
  rw [e0, e1]

/-- The gradient of the row. -/
theorem dg (i : S1024.Idx) : val_main_v14 (F := Ideal) x0 x1 i
    = ∑ t ∈ range 4096, ent (n := 4096) (m := 1024) x0 t (i 0).val * ent (n := 4096) (m := 1024) x1 t (i 0).val := by
  have z0 : (val_main_cst_0 (F := Ideal)) (Shape.Idx.first h_S_) = (0 : EReal) := Ideal.ofBits_zero_f32
  have z1 : (val_main_cst_1 (F := Ideal)) (Shape.Idx.first h_S_) = (0 : EReal) := Ideal.ofBits_zero_f32
  rw [val_main_v14_apply, z1, zero_add, Fin.sum_univ_one, val_main_v13_apply, val_main_v12_apply, z0, zero_add]
  refine Eq.trans ?_ (Fin.sum_univ_eq_sum_range (fun t => ent (n := 4096) (m := 1024) x0 t (i 0).val * ent (n := 4096) (m := 1024) x1 t (i 0).val) 4096)
  refine Finset.sum_congr rfl fun k _ => ?_
  rw [val_main_v11_apply]
  have i0 : (i 0).val < 1024 := (i 0).isLt
  refine congrArg₂ (fun u v : EReal => u * v) (((given x0).at _).trans ?_) (((ent_rx (n := 4096) (m := 1024) x1).at _).trans ?_)
  · show ent (n := 4096) (m := 1024) x0 k.val (0 * 1024 + (i 0).val) = _
    rw [Nat.zero_mul, Nat.zero_add]
  · show ent (n := 4096) (m := 1024) x1 k.val (0 * 1024 + (i 0).val) = _
    rw [Nat.zero_mul, Nat.zero_add]

theorem zeros0 (i : S4096x1024.Idx) : val_main_v0 (F := Ideal) i = (0 : EReal) := by
  rw [val_main_v0_apply, val_main_cst_apply]
  exact Ideal.ofBits_zero_f32

theorem result25 : val_main_v25 (F := Ideal) x0 x1
    = fun i : (⟨2, ![8, 1024]⟩ : Shape).Idx =>
      row 2 (fun b => ∑ t ∈ range 4096, ent (n := 4096) (m := 1024) x0 t b * ent (n := 4096) (m := 1024) x1 t b) (fun _ _ => 0) (i 0).val (i 1).val := by
  funext i
  have h0 : Rx (n := 2) (m := 1024) (val_main_v22 (F := Ideal)) (fun _ _ => 0) := fun a b => by rw [val_main_v22_apply]; exact zeros0 _
  have h2 : Rx (n := 5) (m := 1024) (val_main_v24 (F := Ideal)) (fun _ _ => 0) := fun a b => by rw [val_main_v24_apply]; exact zeros0 _
  have h1 : Rx (n := 1) (m := 1024) (val_main_v23 (F := Ideal) x0 x1)
      (fun _ b => ∑ t ∈ range 4096, ent (n := 4096) (m := 1024) x0 t b * ent (n := 4096) (m := 1024) x1 t b) := fun a b => by
    rw [val_main_v23_apply]; exact dg x0 x1 _
  unfold val_main_v25
  exact (join215 _ _ _ _ h0 h1 h2).at i

end Cert.Sb.OdOutBRef
end
-- ==== Proof.QkvLib.lean ====
/- Norms of rows and of the heads of rows, among the extended reals: what the kernel of the projection into the attention computes. No entry need be
   finite. -/
module

public import proofs.«01_k».proof.Proof.RowLib
@[expose] public section
set_option maxRecDepth 16384
noncomputable section
namespace Cert.Sb.Tn
open Idealize.ShloMosaic hiding ix0 ix1 ix2 ix3 ix4 eq_ix1 eq_ix2 eq_ix3 eq_ix4
open Idealize.ShloMosaic.ValueIdx Finset

/-- The reciprocal of the root of the mean square of a list of `m` entries, `d` being `m` as the programs write it. -/
def rootMean (m : ℕ) (d : BitVec 32) (f : ℕ → EReal) : EReal :=
  Ideal.rsqrt (Ideal.div (∑ j ∈ range m, f j * f j) (Ideal.ofBits .f32 d) + Ideal.ofBits .f32 0x358637BD#32)

/-- The modulated norm of the rows of `f`; the modulation's rows are those of `g`. -/
def modNorm (f g : ℕ → ℕ → EReal) (a b : ℕ) : EReal :=
  f a b * rootMean 1024 0x44800000#32 (f a) * g 6 b * (Ideal.ofBits .f32 0x3F800000#32 + g 1 b) + g 0 b

/-- The rows of `h` times the columns whose entries are the rows of `w`. -/
def proj (h w : ℕ → ℕ → EReal) (a b : ℕ) : EReal := ∑ k ∈ range 1024, h a k * w b k

/-- The first two thirds of a row, head by head over the root of its mean square and times the gain; the last third as it is. -/
def heads (z g : ℕ → ℕ → EReal) (a b : ℕ) : EReal :=
  if b < 2048 then z a b * rootMean 128 0x43000000#32 (fun j => z a (b / 128 * 128 + j)) * g (b / 1024) (b % 128) else z a b

theorem heads_lt (z g : ℕ → ℕ → EReal) {o r : ℕ} (ho : o / 128 * 128 = o ∧ o + 128 ≤ 2048 ∧ r * 1024 ≤ o ∧ o + 128 ≤ r * 1024 + 1024) (a : ℕ) {b : ℕ} (hb : b < 128) :
    z a (o + b) * rootMean 128 0x43000000#32 (fun j => z a (o + j)) * g r b = heads z g a (o + b) := by
  unfold heads
  rw [if_pos (by omega), show (o + b) / 128 * 128 = o by omega, show (o + b) / 1024 = r by omega, show (o + b) % 128 = b by omega]

/-- The stacked blocks of 384 rows as one matrix. -/
def flat3 (w : (⟨4, ![8, 1, 384, 1024]⟩ : Shape).Idx → EReal) : ℕ → ℕ → EReal :=
  ent (n := 3072) (m := 1024) (shapeCast ⟨2, ![3072, 1024]⟩ (shapeCast ⟨3, ![8, 384, 1024]⟩ w (by decide)) (by decide))

/-- Three blocks of columns. -/
theorem join3 {n k N : ℕ} (hN : N = 3 * k) {y0 y1 y2 : (⟨2, ![n, k]⟩ : Shape).Idx → EReal} {f0 f1 f2 f : ℕ → ℕ → EReal} (h0 : Rx y0 f0) (h1 : Rx y1 f1) (h2 : Rx y2 f2)
    (e0 : ∀ a b, b < k → f0 a b = f a b) (e1 : ∀ a b, b < k → f1 a b = f a (k + b)) (e2 : ∀ a b, b < k → f2 a b = f a (2 * k + b)) (h) :
    Rx (concatenate (⟨2, ![n, N]⟩ : Shape) 1 [⟨⟨2, ![n, k]⟩, y0⟩, ⟨⟨2, ![n, k]⟩, y1⟩, ⟨⟨2, ![n, k]⟩, y2⟩] h) f := fun a b => by
  have hb := b.isLt
  have off : ∀ (j : Fin k) (d : Fin 2), d ≠ 1 → ((ix2 a j : (⟨2, ![n, k]⟩ : Shape).Idx) d).val = ((ix2 a b : (⟨2, ![n, N]⟩ : Shape).Idx) d).val :=
    fun j d hd => match d with
    | ⟨0, _⟩ => rfl
    | ⟨1, _⟩ => absurd rfl hd
  by_cases p : b.val < k
  · exact ((concatenate_apply_piece (t := ⟨2, ![n, N]⟩) 1 _ h (ix2 a b) 0 (by simp) ⟨2, ![n, k]⟩ y0 rfl rfl 0 rfl (ix2 a ⟨b.val, p⟩) (off _)
      (Nat.zero_add _)).trans (h0 _ _)).trans (e0 _ _ p)
  · by_cases q : b.val < 2 * k
    · have hk : b.val - k < k := by omega
      refine ((concatenate_apply_piece (t := ⟨2, ![n, N]⟩) 1 _ h (ix2 a b) 1 (by simp) ⟨2, ![n, k]⟩ y1 rfl rfl k (by simp) (ix2 a ⟨b.val - k, hk⟩) (off _)
        (by show k + (b.val - k) = b.val; omega)).trans (h1 _ _)).trans ((e1 _ _ hk).trans ?_)
      rw [show k + (b.val - k) = b.val by omega]
    · have hk : b.val - 2 * k < k := by omega
      refine ((concatenate_apply_piece (t := ⟨2, ![n, N]⟩) 1 _ h (ix2 a b) 2 (by simp) ⟨2, ![n, k]⟩ y2 rfl rfl (2 * k) (by simp [Nat.two_mul])
        (ix2 a ⟨b.val - 2 * k, hk⟩) (off _) (by show 2 * k + (b.val - 2 * k) = b.val; omega)).trans (h2 _ _)).trans ((e2 _ _ hk).trans ?_)
      rw [show 2 * k + (b.val - 2 * k) = b.val by omega]

namespace Rx

variable {n m k : ℕ} {φ ψ : FTy} {sig : RefSig} {κ : Kind} {sp : Space}

/-- Sums of rows. -/
theorem rowsum {x : FVec Ideal ⟨2, ![n, m]⟩ .f32} {f : ℕ → ℕ → EReal} (h : Rx x f) (hr : (⟨2, ![n, m]⟩ : Shape).Reduces [1] ⟨1, ![n]⟩) (hφ hacc)
    (hs : (⟨1, ![n]⟩ : Shape).ShapeCasts ⟨2, ![n, 1]⟩) :
    Rx (shapeCast ⟨2, ![n, 1]⟩ (multiReduction .add [1] ⟨1, ![n]⟩ x 0x00000000#32 hr hφ hacc) hs) (fun a _ => ∑ j ∈ range m, f a j) := fun a b => by
  rw [shapeCast_a_a1_apply]
  show Ideal.reduceAdd hr x (ix1 a) = _
  rw [Ideal.reduceAdd_r2_a1]
  refine Eq.trans ?_ (Fin.sum_univ_eq_sum_range (fun j => f a j) m)
  exact Finset.sum_congr rfl fun j _ => h a j

/-- A column repeated. -/
theorem bcol {x : (⟨2, ![n, 1]⟩ : Shape).Idx → EReal} {f : ℕ → ℕ → EReal} (h : Rx x f) (hs : (⟨2, ![n, 1]⟩ : Shape).Broadcasts ⟨2, ![n, m]⟩) :
    Rx (broadcastTo ⟨2, ![n, m]⟩ x hs) (fun a _ => f a 0) := fun a b => by
  have e : broadcastTo ⟨2, ![n, m]⟩ x hs (ix2 a b) = x (ix2 a 0) := by
    rw [Pointwise.broadcastTo_apply]
    refine congrArg x ?_
    funext i; apply Fin.ext
    match i with
    | ⟨0, _⟩ =>
      by_cases h1 : n = 1
      · refine (congrArg Fin.val (dif_pos h1)).trans ?_
        have := a.isLt
        show 0 = a.val
        omega
      · exact congrArg Fin.val (dif_neg h1)
    | ⟨1, _⟩ => rfl
  rw [e, h]; rfl

/-- Some columns of a matrix. -/
theorem cols {x : (⟨2, ![n, m]⟩ : Shape).Idx → EReal} {f : ℕ → ℕ → EReal} (h : Rx x f) (p : ℕ) (hs : (⟨2, ![n, m]⟩ : Shape).Slices ![0, p] ⟨2, ![n, k]⟩) :
    Rx (extractStridedSlice ⟨2, ![n, k]⟩ ![0, p] x hs) (fun a b => f a (p + b)) := fun a b => by
  have hb : p + k ≤ m := hs.2 1
  refine Eq.trans (congrArg x ?_) (h a ⟨p + b.val, by omega⟩)
  funext i; apply Fin.ext
  match i with
  | ⟨0, _⟩ => show 0 + a.val = a.val; omega
  | ⟨1, _⟩ => rfl

/-- The rows over the roots of their mean squares. -/
theorem unit {x : FVec Ideal ⟨2, ![n, m]⟩ .f32} {f : ℕ → ℕ → EReal} (h : Rx x f) (d : BitVec 32) (hr : (⟨2, ![n, m]⟩ : Shape).Reduces [1] ⟨1, ![n]⟩) (hφ hacc)
    (hs : (⟨1, ![n]⟩ : Shape).ShapeCasts ⟨2, ![n, 1]⟩) (hb : (⟨2, ![n, 1]⟩ : Shape).Broadcasts ⟨2, ![n, m]⟩) :
    Rx (mulf x (broadcastTo ⟨2, ![n, m]⟩ (rsqrt (addf (divf (shapeCast ⟨2, ![n, 1]⟩ (multiReduction .add [1] ⟨1, ![n]⟩ (mulf x x) 0x00000000#32 hr hφ hacc) hs)
        (broadcast ⟨2, ![n, 1]⟩ (Scalar.ofBits (F := Ideal) .f32 d))) (broadcast ⟨2, ![n, 1]⟩ (Scalar.ofBits (F := Ideal) .f32 0x358637BD#32)))) hb))
      (fun a b => f a b * rootMean m d (f a)) := by
  have s := (h.mul h).rowsum hr hφ hacc hs
  refine h.mul (Rx.bcol (f := fun a _ => rootMean m d (f a)) (fun a b => ?_) hb)
  exact congrArg (fun u : EReal => Ideal.rsqrt (Ideal.div u (Ideal.ofBits .f32 d) + Ideal.ofBits .f32 0x358637BD#32)) (s a b)

/-- What stores of columns leave, where they reach. -/
def On (v : View sig κ sp ⟨2, ![n, m]⟩ .bf16) (G : v.ty.Contents (Elt Ideal)) (L : List (View.Piece (Elt Ideal) ⟨2, ![n, m]⟩ .bf16)) (f : ℕ → ℕ → EReal)
    (S : ℕ → Prop) : Prop :=
  ∀ (a : Fin n) (b : Fin m), S b.val → v.read (Elt Ideal) (v.writes (Elt Ideal) G L) (ix2 a b) = f a.val b.val

theorem On.none {v : View sig κ sp ⟨2, ![n, m]⟩ .bf16} {G : v.ty.Contents (Elt Ideal)} {f : ℕ → ℕ → EReal} : On v G [] f (fun _ => False) :=
  fun _ _ h => h.elim

/-- A store of columns. -/
theorem On.put {v : View sig κ sp ⟨2, ![n, m]⟩ .bf16} {G : v.ty.Contents (Elt Ideal)} {L : List (View.Piece (Elt Ideal) ⟨2, ![n, m]⟩ .bf16)} {f p : ℕ → ℕ → EReal}
    {S : ℕ → Prop} {x : (⟨2, ![n, k]⟩ : Shape).Idx → EReal} (o : ℕ) (h : Rx x p) (hL : On v G L f S) (e : ∀ a b, b < k → p a b = f a (o + b)) {inb} :
    On v G ((⟨Rect.unit (s := ⟨2, ![n, m]⟩) ![0, o] ![n, k] inb, x⟩ : View.Piece (Elt Ideal) ⟨2, ![n, m]⟩ .bf16) :: L) f (fun b => S b ∨ (o ≤ b ∧ b < o + k)) :=
  fun a b hS => by
  by_cases hb : o ≤ b.val ∧ b.val < o + k
  · have hk : b.val - o < k := by omega
    refine (View.read_writes_cons_unit_of_mem (Val := Elt Ideal) v G inb x L (ix2 a b) (ix2 (n0 := n) (n1 := k) a ⟨b.val - o, hk⟩) rfl ?_).trans ?_
    · intro i
      match i with
      | ⟨0, _⟩ => show a.val = 0 + a.val; omega
      | ⟨1, _⟩ => show b.val = o + (b.val - o); omega
    · refine (h a ⟨b.val - o, hk⟩).trans ((e a.val (b.val - o) hk).trans ?_)
      rw [show o + (b.val - o) = b.val by omega]
  · refine (View.read_writes_cons_unit_of_not_mem (Val := Elt Ideal) v G inb x L (ix2 a b) rfl 1 ?_).trans (hL a b (hS.resolve_right hb))
    show b.val < o ∨ o + k ≤ b.val
    omega

end Rx

end Cert.Sb.Tn

end
-- ==== Proof.LossRun.lean ====
/- The loss kernel: what its blocks of rows leave, and the arrays it leaves. -/
module

public import proofs.«01_k».proof.Proof.QkvLib
public import Idealize.ShloMosaic.Lib.Pipeline.ValueKit.Partial
public import Idealize.ShloMosaic.Lib.Pipeline.ValueKit.Geometry
public import proofs.«01_k».proof.Proof.Gen.LossIdeal.Value
@[expose] public section
set_option maxRecDepth 16384
noncomputable section
namespace Cert.Sb.LossRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.LossIdeal Cert.LossIdeal.Gen Cert.Sb.Tn

/-- A real factor that is not negative goes into any sum. -/
theorem scale {r : ℝ} (hr : 0 ≤ r) (f : ℕ → EReal) (n : ℕ) : (r : EReal) * ∑ t ∈ range n, f t = ∑ t ∈ range n, (r : EReal) * f t := by
  induction n with
  | zero => simp
  | succ n ih =>
    rw [Finset.sum_range_succ, Finset.sum_range_succ, ← ih]
    exact EReal.left_distrib_of_nonneg_of_ne_top (EReal.coe_nonneg.mpr hr) (EReal.coe_ne_top r) _ _

theorem lit_mean : Ideal.ofBits .f32 0x3A800000#32 = ((1 / 1024 : ℝ) : EReal) := by
  simp [Ideal.ofBits, Ideal.ieee, -EReal.coe_mul]
  norm_num

theorem lit_half_mean : Ideal.ofBits .f32 0x3A000000#32 = ((1 / 2048 : ℝ) : EReal) := by
  simp [Ideal.ofBits, Ideal.ieee, -EReal.coe_mul]
  norm_num

/-- The squares of a row's differences, added up. -/
def sq (x y : ℕ → ℕ → EReal) (t : ℕ) : EReal := ∑ j ∈ range 1024, (x t j - y t j) * (x t j - y t j)

theorem pay2 {x y : Vec Ideal S256x1024 .f32} {f g : ℕ → ℕ → EReal} (hx : Rx (n := 256) (m := 1024) x f) (hy : Rx (n := 256) (m := 1024) y g) :
    Rx (n := 256) (m := 1024) (k0_pay2 (F := Ideal) x y) (fun a b => f a b - g a b) := fun a b => by
  show x _ - y _ = _
  rw [hx a b, hy a b]

/-- The gradient, block by block. -/
theorem pay3 {x y : Vec Ideal S256x1024 .f32} {f g : ℕ → ℕ → EReal} (hx : Rx (n := 256) (m := 1024) x f) (hy : Rx (n := 256) (m := 1024) y g) :
    Rx (n := 256) (m := 1024) (k0_pay3 (F := Ideal) x y) (fun a b => (f a b - g a b) * ((1 / 1024 : ℝ) : EReal)) := by
  unfold k0_pay3
  exact (pay2 hx hy).mul (φ := .f32) (g := fun _ _ => ((1 / 1024 : ℝ) : EReal)) fun _ _ => lit_mean

/-- The loss, one block more. -/
theorem pay4 {x y : Vec Ideal S256x1024 .f32} {z : Vec Ideal S1x1 .f32} {f g p : ℕ → ℕ → EReal} (hx : Rx (n := 256) (m := 1024) x f)
    (hy : Rx (n := 256) (m := 1024) y g) (hz : Rx (n := 1) (m := 1) z p) :
    Rx (n := 1) (m := 1) (k0_pay4 (F := Ideal) x y z) (fun a b => p a b + ∑ t ∈ range 256, ((1 / 2048 : ℝ) : EReal) * sq f g t) := by
  have e := pay2 hx hy
  have s := ((e.mul (φ := .f32) e).rowsum reduces_S256x1024_S256 (.inl rfl) rfl shapeCasts_S256_S256x1).colsum reduces_S256x1_S1 (.inl rfl) rfl shapeCasts_S1_S1x1
  have c : Rx (n := 1) (m := 1) (broadcast S1x1 (Scalar.ofBits (F := Ideal) .f32 0x3A000000#32)) (fun _ _ => ((1 / 2048 : ℝ) : EReal)) := fun _ _ => lit_half_mean
  unfold k0_pay4
  refine ((hz.same _).add (φ := .f32) (c.mul (φ := .f32) s)).congr fun a b => ?_
  rw [← scale (by norm_num)]
  rfl

section
variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1 .f32) (harg4 : arg4.IsWhole)
  {x0 x1 : Vec Ideal S256x1024 .f32} {f g : ℕ → ℕ → EReal}

/-- What the first and the later blocks of rows leave. -/
theorem dxA (hc0 : cond0_0 i) (hx : Rx (n := 256) (m := 1024) x0 f) (hy : Rx (n := 256) (m := 1024) x1 g) :
    Rx (n := 256) (m := 1024) (out0_A_2 c i arg1 harg1 arg2 harg2 arg3 harg3 arg4 harg4 hc0 x0 x1) (fun a b => (f a b - g a b) * ((1 / 1024 : ℝ) : EReal)) := by
  unfold out0_A_2 kernelRun0_A
  dsimp only
  sl_unfold_words
  have e0 := (View.readAt_full arg1.view (harg1.unread (Val := Elt Ideal) x0) inb_S256x1024_S256x1024_0_0).trans (harg1.read_unread _)
  have e1 := (View.readAt_full arg2.view (harg2.unread (Val := Elt Ideal) x1) inb_S256x1024_S256x1024_0_0).trans (harg2.read_unread _)
  rw [e0, e1]
  exact Rx.putAll (pay3 hx hy)

theorem dxB (hc0 : ¬cond0_0 i) {xo : Vec Ideal S1x1 .f32} (hx : Rx (n := 256) (m := 1024) x0 f) (hy : Rx (n := 256) (m := 1024) x1 g) :
    Rx (n := 256) (m := 1024) (out0_B_2 c i arg1 harg1 arg2 harg2 arg3 harg3 arg4 harg4 hc0 x0 x1 xo) (fun a b => (f a b - g a b) * ((1 / 1024 : ℝ) : EReal)) := by
  unfold out0_B_2 kernelRun0_B
  dsimp only
  sl_unfold_words
  have e0 := (View.readAt_full arg1.view (harg1.unread (Val := Elt Ideal) x0) inb_S256x1024_S256x1024_0_0).trans (harg1.read_unread _)
  have e1 := (View.readAt_full arg2.view (harg2.unread (Val := Elt Ideal) x1) inb_S256x1024_S256x1024_0_0).trans (harg2.read_unread _)
  rw [e0, e1]
  exact Rx.putAll (pay3 hx hy)

theorem lossA (hc0 : cond0_0 i) (hx : Rx (n := 256) (m := 1024) x0 f) (hy : Rx (n := 256) (m := 1024) x1 g) :
    Rx (n := 1) (m := 1) (out0_A_3 c i arg1 harg1 arg2 harg2 arg3 harg3 arg4 harg4 hc0 x0 x1)
      (fun _ _ => 0 + ∑ t ∈ range 256, ((1 / 2048 : ℝ) : EReal) * sq f g t) := by
  unfold out0_A_3 kernelRun0_A
  dsimp only
  sl_unfold_words
  have e0 := (View.readAt_full arg1.view (harg1.unread (Val := Elt Ideal) x0) inb_S256x1024_S256x1024_0_0).trans (harg1.read_unread _)
  have e1 := (View.readAt_full arg2.view (harg2.unread (Val := Elt Ideal) x1) inb_S256x1024_S256x1024_0_0).trans (harg2.read_unread _)
  rw [e0, e1]
  have z : Rx (n := 1) (m := 1) (k0_pay1 (F := Ideal)) (fun _ _ => 0) := fun _ _ => Ideal.ofBits_zero_f32
  exact Rx.putAll (pay4 hx hy (Rx.covRow (Rx.putAll z)))

theorem lossB (hc0 : ¬cond0_0 i) {xo : Vec Ideal S1x1 .f32} {p : EReal} (hp : Rx (n := 1) (m := 1) xo (fun _ _ => p)) (hx : Rx (n := 256) (m := 1024) x0 f)
    (hy : Rx (n := 256) (m := 1024) x1 g) :
    Rx (n := 1) (m := 1) (out0_B_3 c i arg1 harg1 arg2 harg2 arg3 harg3 arg4 harg4 hc0 x0 x1 xo)
      (fun _ _ => p + ∑ t ∈ range 256, ((1 / 2048 : ℝ) : EReal) * sq f g t) := by
  unfold out0_B_3 kernelRun0_B
  dsimp only
  sl_unfold_words
  have e0 := (View.readAt_full arg1.view (harg1.unread (Val := Elt Ideal) x0) inb_S256x1024_S256x1024_0_0).trans (harg1.read_unread _)
  have e1 := (View.readAt_full arg2.view (harg2.unread (Val := Elt Ideal) x1) inb_S256x1024_S256x1024_0_0).trans (harg2.read_unread _)
  rw [e0, e1]
  have q : Rx (n := 1) (m := 1) (arg4.view.read (Elt Ideal) (harg4.unread (Val := Elt Ideal) xo)) (fun _ _ => p) := by rw [harg4.read_unread]; exact hp
  exact Rx.putAll (pay4 hx hy (Rx.rdRow q))

end

section
variable (m : (ℓ : Loc nD τ sig) → Buf (Elt Ideal) ℓ) (c : Dev nD)

/-- The entries of the operands, by their numbers. -/
def A0 : ℕ → ℕ → EReal := ent (n := 4096) (m := 1024) (m ((c : Thread nD τ).loc main_arg0))
def A1 : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) :=
  (by decide +kernel : ∀ t : Fin grid0.N, _)

theorem blk0 (t : Fin cfg0.N) : Rx (n := 256) (m := 1024) (iblk (F := Ideal) m c 0 t) (fun a b => A0 m c (t.val * 256 + a) b) := by
  intro a b
  obtain ⟨⟨e0, e1⟩, -⟩ := pt t
  have ha := a.isLt
  have ht : t.val < 16 := t.isLt
  refine Eq.trans ?_ (ent_rx (n := 4096) (m := 1024) (m ((c : Thread nD τ).loc main_arg0)) ⟨t.val * 256 + a.val, by omega⟩ b)
  rw [← V_main_arg0 m c]
  unfold iblk
  rw [View.read_apply]
  show V m c main_arg0 _ = V m c main_arg0 _
  congr 1
  funext i
  apply Fin.ext
  match i with
  | ⟨0, _⟩ => show win0_0.index t 0 * 256 + 1 * a.val = t.val * 256 + a.val; rw [e0]; omega
  | ⟨1, _⟩ => show win0_0.index t 1 * 1024 + 1 * b.val = b.val; rw [e1]; omega

theorem blk1 (t : Fin cfg0.N) : Rx (n := 256) (m := 1024) (iblk (F := Ideal) m c 1 t) (fun a b => A1 m c (t.val * 256 + a) b) := by
  intro a b
  obtain ⟨-, ⟨e0, e1⟩, -⟩ := pt t
  have ha := a.isLt
  have ht : t.val < 16 := t.isLt
  refine Eq.trans ?_ (ent_rx (n := 4096) (m := 1024) (m ((c : Thread nD τ).loc main_arg1)) ⟨t.val * 256 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 256 + 1 * a.val = t.val * 256 + a.val; rw [e0]; omega
  | ⟨1, _⟩ => show win0_1.index t 1 * 1024 + 1 * b.val = b.val; rw [e1]; omega

/-- The gradient. -/
def DX (a b : ℕ) : EReal := (A0 m c a b - A1 m c a b) * ((1 / 1024 : ℝ) : EReal)
/-- The loss of the first rows. -/
def LS (n : ℕ) : EReal := ∑ t ∈ range n, ((1 / 2048 : ℝ) : EReal) * sq (A0 m c) (A1 m c) t

theorem pnt2 (t : Fin cfg0.N) : Rx (n := 256) (m := 1024) (outsAt0 (F := Ideal) m c t.val t.isLt).1 (fun a b => DX m c (t.val * 256 + a) b) := by
  by_cases h0 : t.val % 16 = 0
  · have h := dxA c (grid0.coords t) (ms0_0 t) (hs0_0 t) (ms0_1 t) (hs0_1 t) (ms0_2 t) (hs0_2 t) (ms0_3 t) (hs0_3 t) ((hcond0_0 t).mpr h0) (blk0 m c t) (blk1 m c t)
    have h := h.congr (g := fun a b => DX m c (t.val * 256 + a) b) (fun _ _ => rfl)
    rw [outsAt0_A m c t h0]
    with_reducible exact h
  · have h := dxB c (grid0.coords t) (ms0_0 t) (hs0_0 t) (ms0_1 t) (hs0_1 t) (ms0_2 t) (hs0_2 t) (ms0_3 t) (hs0_3 t) (fun h => h0 ((hcond0_0 t).mp h)) (xo := (outsAt0 (F := Ideal) m c (t.val - 1) (Nat.lt_of_le_of_lt (Nat.sub_le _ _) t.isLt)).2) (blk0 m c t) (blk1 m c t)
    have h := h.congr (g := fun a b => DX m c (t.val * 256 + a) b) (fun _ _ => rfl)
    rw [outsAt0_B m c t h0]
    with_reducible exact h

theorem first (t : Fin cfg0.N) (h0 : t.val % 16 = 0) (ht : t.val = 0) :
    Rx (n := 1) (m := 1) (outsAt0 (F := Ideal) m c t.val t.isLt).2 (fun _ _ => LS m c (0 * 256 + 256)) := by
  have h := lossA c (grid0.coords t) (ms0_0 t) (hs0_0 t) (ms0_1 t) (hs0_1 t) (ms0_2 t) (hs0_2 t) (ms0_3 t) (hs0_3 t) ((hcond0_0 t).mpr h0) (blk0 m c t) (blk1 m c t)
  have h := h.congr (g := fun _ _ => LS m c (0 * 256 + 256)) (fun a b => by
    unfold LS sq
    dsimp only
    rw [ht, zero_add]
    simp only [Nat.zero_mul, Nat.zero_add])
  rw [outsAt0_A m c t h0]
  with_reducible exact h

theorem later (t : Fin cfg0.N) (h0 : ¬t.val % 16 = 0) {u : ℕ} (hu : t.val = u + 1)
    (hp : Rx (n := 1) (m := 1) (outsAt0 (F := Ideal) m c (t.val - 1) (Nat.lt_of_le_of_lt (Nat.sub_le _ _) t.isLt)).2 (fun _ _ => LS m c (u * 256 + 256))) :
    Rx (n := 1) (m := 1) (outsAt0 (F := Ideal) m c t.val t.isLt).2 (fun _ _ => LS m c ((u + 1) * 256 + 256)) := by
  have h := lossB c (grid0.coords t) (ms0_0 t) (hs0_0 t) (ms0_1 t) (hs0_1 t) (ms0_2 t) (hs0_2 t) (ms0_3 t) (hs0_3 t) (fun h => h0 ((hcond0_0 t).mp h)) hp (blk0 m c t) (blk1 m c t)
  have h := h.congr (g := fun _ _ => LS m c ((u + 1) * 256 + 256)) (fun a b => by
    unfold LS
    rw [hu]
    exact more (fun t => ((1 / 2048 : ℝ) : EReal) * sq (A0 m c) (A1 m c) t) 256 u)
  rw [outsAt0_B m c t h0]
  with_reducible exact h

theorem upTo : ∀ (n : ℕ) (hn : n < cfg0.N), Rx (n := 1) (m := 1) (outsAt0 (F := Ideal) m c n hn).2 (fun _ _ => LS m c (n * 256 + 256))
  | 0, hn => first m c ⟨0, hn⟩ rfl rfl
  | n + 1, hn => later m c ⟨n + 1, hn⟩ (by have h : n + 1 < 16 := hn; show ¬(n + 1) % 16 = 0; omega) rfl (upTo n (Nat.lt_of_succ_lt hn))

/-- The arrays it leaves. -/
theorem arr2 : (dats (F := Ideal) m 0 c).arrAt 2 cfg0.N = fun i : (⟨2, ![4096, 1024]⟩ : Shape).Idx => DX m c (i 0).val (i 1).val := by
  funext i
  refine (dats (F := Ideal) m 0 c).arrAt_forall_of_covers 2 (fun i v => v = DX m c (i 0).val (i 1).val) (by decide +kernel) (fun t _ y => ?_) i
  have hB := pnt2 m c t
  blk_simp
  rw [after0_2]
  obtain ⟨-, -, ⟨e0, e1⟩, -⟩ := pt t
  rw [e0, e1]
  have y0 : (y 0).val < 256 := (y 0).isLt
  have y1 : (y 1).val < 1024 := (y 1).isLt
  generalize (outsAt0 (F := Ideal) m c t.val t.isLt).1 = g at hB ⊢
  rw [zero_mul, zero_add]
  exact Eq.trans (congrArg g (eq_ix2 y)) (hB ⟨(y 0).val, y0⟩ ⟨(y 1).val, y1⟩)

theorem arr3 : (dats (F := Ideal) m 0 c).arrAt 3 cfg0.N = fun _ : (⟨2, ![1, 1]⟩ : Shape).Idx => LS m c 4096 := by
  funext i
  refine (dats (F := Ideal) m 0 c).arrAt_forall_of_covers 3 (fun _ v => v = LS m c 4096) (by decide +kernel) (fun t hf y => ?_) i
  have hF : t.val % 16 = 15 := (flush0_3 t).mp hf
  have ht : t.val < 16 := t.isLt
  have hB := upTo m c t.val t.isLt
  rw [show t.val * 256 + 256 = 4096 by omega] at hB
  blk_simp
  rw [after0_3]
  have y0 : (y 0).val < 1 := (y 0).isLt
  have y1 : (y 1).val < 1 := (y 1).isLt
  generalize (outsAt0 (F := Ideal) m c t.val t.isLt).2 = g at hB ⊢
  exact Eq.trans (congrArg g (eq_ix2 y)) (hB ⟨(y 0).val, y0⟩ ⟨(y 1).val, y1⟩)

end

end Cert.Sb.LossRun
end
-- ==== Proof.LossRef.lean ====
/- The loss and its gradient, stated plainly: their values. -/
module

public import proofs.«01_k».proof.Proof.LossRun
public import proofs.«01_k».proof.Proof.FfnRef
public import Idealize.ShloMosaic.Lib.Pointwise.Index
public import proofs.«01_k».proof.Proof.Gen.LossReferenceIdeal.Read
@[expose] public section
set_option maxRecDepth 16384
noncomputable section
namespace Cert.Sb.LossRef
open Idealize.ShloMosaic hiding ix0 ix1 ix2 ix3 ix4 eq_ix1 eq_ix2 eq_ix3 eq_ix4
open Idealize.ShloMosaic.ValueIdx Finset
open Cert.LossReferenceIdeal Cert.LossReferenceIdeal.Gen Cert.LossReferenceIdeal.Read Cert.Sb.Tn Cert.Sb.LossRun

theorem lit_half : Ideal.ofBits .f32 0x3F000000#32 = ((1 / 2 : ℝ) : EReal) := by
  simp [Ideal.ofBits, Ideal.ieee, -EReal.coe_mul]
  norm_num

theorem lit_two : Ideal.ofBits .f32 0x40000000#32 = ((2 : ℝ) : EReal) := by
  simp [Ideal.ofBits, Ideal.ieee, -EReal.coe_mul]
  norm_num

variable (x0 x1 : (⟨S4096x1024, .f32⟩ : BufTy).Contents (Elt Ideal))

/-- The differences. -/
theorem dif : Rx (n := 4096) (m := 1024) (val_main_v0 (F := Ideal) x0 x1) (fun a b => ent (n := 4096) (m := 1024) x0 a b - ent (n := 4096) (m := 1024) x1 a b) := fun a b => by
  show x0 _ - x1 _ = _
  rw [ent_rx (n := 4096) (m := 1024) x0 a b, ent_rx (n := 4096) (m := 1024) x1 a b]

theorem factor (i : S4096x1024.Idx) : val_main_v13 (F := Ideal) i = ((1 / 2048 : ℝ) : EReal) := by
  rw [val_main_v13_apply, val_main_v12_apply, val_main_v10_apply, val_main_v9_apply, val_main_v11_apply, val_main_cst_6_apply, val_main_cst_4_apply, val_main_cst_5_apply]
  refine (FfnRef.divc (FfnRef.mulc lit_half lit_one) lit_1024 (by norm_num)).trans ?_
  norm_num

theorem result14 : val_main_v14 (F := Ideal) x0 x1
    = fun i : (⟨2, ![4096, 1024]⟩ : Shape).Idx =>
      (ent (n := 4096) (m := 1024) x0 (i 0).val (i 1).val - ent (n := 4096) (m := 1024) x1 (i 0).val (i 1).val) * ((1 / 1024 : ℝ) : EReal) := by
  funext i
  have e2 : val_main_v2 (F := Ideal) i = ((2 : ℝ) : EReal) := by rw [val_main_v2_apply]; exact lit_two
  rw [val_main_v14_apply, val_main_v3_apply, factor, e2, (dif x0 x1).at i]
  refine (mul_assoc _ _ _).symm.trans ?_
  rw [← EReal.coe_mul, mul_comm]
  norm_num

/-- The mean square of a row's differences. -/
theorem mean (i : S4096.Idx) : val_main_v6 (F := Ideal) x0 x1 i
    = sq (ent (n := 4096) (m := 1024) x0) (ent (n := 4096) (m := 1024) x1) (i 0).val * ((1 / 1024 : ℝ) : EReal) := by
  have z : (val_main_cst_0 (F := Ideal)) (Shape.Idx.first h_S_) = (0 : EReal) := Ideal.ofBits_zero_f32
  have e4 : val_main_v4 (F := Ideal) x0 x1 i = sq (ent (n := 4096) (m := 1024) x0) (ent (n := 4096) (m := 1024) x1) (i 0).val := by
    rw [val_main_v4_apply, z, zero_add]
    unfold LossRun.sq
    refine Eq.trans ?_ (Fin.sum_univ_eq_sum_range (fun k => (ent (n := 4096) (m := 1024) x0 (i 0).val k - ent (n := 4096) (m := 1024) x1 (i 0).val k) * (ent (n := 4096) (m := 1024) x0 (i 0).val k - ent (n := 4096) (m := 1024) x1 (i 0).val k)) 1024)
    refine Finset.sum_congr rfl fun k _ => ?_
    rw [val_main_v1_apply, (dif x0 x1).at (idx_main_v4 i k)]
    rfl
  have e5 : val_main_v5 (F := Ideal) i = ((1024 : ℝ) : EReal) := by rw [val_main_v5_apply]; exact lit_1024
  rw [val_main_v6_apply, e4, e5]
  exact Ideal.div_coe (by norm_num : (1024 : ℝ) ≠ 0) _

theorem result15 : val_main_v15 (F := Ideal) x0 x1
    = fun _ : (⟨2, ![1, 1]⟩ : Shape).Idx => ∑ t ∈ range 4096, ((1 / 2048 : ℝ) : EReal) * sq (ent (n := 4096) (m := 1024) x0) (ent (n := 4096) (m := 1024) x1) t := by
  have z : (val_main_cst_2 (F := Ideal)) (Shape.Idx.first h_S_) = (0 : EReal) := Ideal.ofBits_zero_f32
  have e (i : S_.Idx) : val_main_v8 (F := Ideal) x0 x1 i
      = ∑ t ∈ range 4096, ((1 / 2048 : ℝ) : EReal) * sq (ent (n := 4096) (m := 1024) x0) (ent (n := 4096) (m := 1024) x1) t := by
    have s : (∑ j : S4096.Idx, val_main_v6 (F := Ideal) x0 x1 j : EReal)
        = ∑ t ∈ range 4096, sq (ent (n := 4096) (m := 1024) x0) (ent (n := 4096) (m := 1024) x1) t * ((1 / 1024 : ℝ) : EReal) := by
      refine (Finset.sum_congr rfl fun j _ => mean x0 x1 j).trans ?_
      refine (Idealize.ShloMosaic.sum_idx1 (n0 := 4096) (fun j => sq (ent (n := 4096) (m := 1024) x0) (ent (n := 4096) (m := 1024) x1) (j 0).val * ((1 / 1024 : ℝ) : EReal))).trans ?_
      exact Fin.sum_univ_eq_sum_range (fun t => sq (ent (n := 4096) (m := 1024) x0) (ent (n := 4096) (m := 1024) x1) t * ((1 / 1024 : ℝ) : EReal)) 4096
    rw [val_main_v8_apply, val_main_v7_apply, z, zero_add, s, val_main_cst_3_apply]
    refine (congrArg (fun u : EReal => u * _) lit_half).trans ?_
    rw [LossRun.scale (by norm_num)]
    refine Finset.sum_congr rfl fun t _ => ?_
    rw [mul_comm (LossRun.sq _ _ t), ← mul_assoc, ← EReal.coe_mul]
    norm_num
  funext i
  exact e _

end Cert.Sb.LossRef
end
-- ==== Proof.ModRun.lean ====
/- The modulation's backward kernel: the array it leaves. -/
module

public import proofs.«01_k».proof.Proof.RowLib
public import Idealize.ShloMosaic.Lib.Pipeline.ValueKit.Partial
public import Idealize.ShloMosaic.Lib.Pipeline.ValueKit.Geometry
public import proofs.«01_k».proof.Proof.Gen.ModIdeal.Value
@[expose] public section
set_option maxRecDepth 16384
noncomputable section
namespace Cert.Sb.ModRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.ModIdeal Cert.ModIdeal.Gen Cert.Sb.Tn

/-- A conditioning entry through the gate. -/
def act (u : EReal) : EReal := u * Ideal.div (Ideal.ofBits .f32 0x3F800000#32) (Ideal.ofBits .f32 0x3F800000#32 + Ideal.exp (Ideal.ofBits .f32 0x00000000#32 - u))

/-- The gradient of a layer's weight: over the devices, the gated conditioning times the gradient of the modulation. -/
def grad (f g : ℕ → ℕ → EReal) (a j : ℕ) : EReal := ∑ b ∈ range 8, act (f a b) * g b j

/-- The entries of a stack of matrices, by their numbers. -/
def slab {n p q : ℕ} (x : (⟨3, ![n, p, q]⟩ : Shape).Idx → EReal) (l b j : ℕ) : EReal :=
  if h : (l < n ∧ b < p) ∧ j < q then x (ix3 ⟨l, h.1.1⟩ ⟨b, h.1.2⟩ ⟨j, h.2⟩) else 0

theorem slab_at {n p q : ℕ} (x : (⟨3, ![n, p, q]⟩ : Shape).Idx → EReal) (i : (⟨3, ![n, p, q]⟩ : Shape).Idx) :
    x i = slab x (i 0).val (i 1).val (i 2).val := by
  unfold slab
  rw [dif_pos ⟨⟨(i 0).isLt, (i 1).isLt⟩, (i 2).isLt⟩]
  exact congrArg x (eq_ix3 i)

/-- What a block leaves. -/
theorem out2 {x : Vec Ideal S1024x8 .f32} {d : Vec Ideal S1x8x768 .f32} {f g : ℕ → ℕ → EReal} (hx : Rx (n := 1024) (m := 8) x f)
    (hd : ∀ j : S1x8x768.Idx, d j = g (j 1).val (j 2).val) (y : S1x1024x768.Idx) : out0_2 (F := Ideal) x d y = grad f g (y 1).val (y 2).val := by
  unfold out0_2
  have e0 : View.ld (Val := Elt Ideal) x r0_0 = x := ldAll (n := 1024) (m := 8) (e := .f32) x
  have e1 : View.ld (Val := Elt Ideal) d r0_1 = d := by
    funext j
    refine congrArg d ?_
    funext i; apply Fin.ext
    match i with
    | ⟨0, _⟩ => show 0 + 1 * (j 0).val = (j 0).val; omega
    | ⟨1, _⟩ => show 0 + 1 * (j 1).val = (j 1).val; omega
    | ⟨2, _⟩ => show 0 + 1 * (j 2).val = (j 2).val; omega
  rw [e0, e1, Cert.ModIdeal.Value.canon2_eq]
  have ex : x = fun j : S1024x8.Idx => f (j 0).val (j 1).val := funext fun j => hx.at j
  have ed : d = fun j : S1x8x768.Idx => g (j 1).val (j 2).val := funext hd
  rw [ex, ed]
  unfold grad
  simp only [Finset.sum_range_succ, Finset.sum_range_zero, zero_add]
  rfl

section
variable (m : (ℓ : Loc nD τ sig) → Buf (Elt Ideal) ℓ) (c : Dev nD)

/-- The entries of the operands, by their numbers. -/
def A0 : ℕ → ℕ → EReal := ent (n := 1024) (m := 8) (m ((c : Thread nD τ).loc main_arg0))
def A1 : ℕ → ℕ → ℕ → EReal := slab (n := 4) (p := 8) (q := 768) (m ((c : Thread nD τ).loc main_arg1))

/-- Where each window stands at point `t` of the grid. -/
theorem pt : ∀ t : Fin cfg0.N,
    (win0_0.index t 0 = 0 ∧ win0_0.index t 1 = 0) ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, _)

theorem blk0 (t : Fin cfg0.N) : Rx (n := 1024) (m := 8) (iblk (F := Ideal) m c 0 t) (A0 m c) := by
  intro a b
  obtain ⟨⟨e0, e1⟩, -⟩ := pt t
  refine Eq.trans ?_ (ent_rx (n := 1024) (m := 8) (m ((c : Thread nD τ).loc main_arg0)) a b)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = a.val; rw [e0]; omega
  | ⟨1, _⟩ => show win0_0.index t 1 * 8 + 1 * b.val = b.val; rw [e1]; omega

theorem blk1 (t : Fin cfg0.N) (j : S1x8x768.Idx) : iblk (F := Ideal) m c 1 t j = A1 m c t.val (j 1).val (j 2).val := by
  obtain ⟨-, ⟨e0, e1, e2⟩, -⟩ := pt t
  have ht : t.val < 4 := t.isLt
  have j0 : (j 0).val < 1 := (j 0).isLt
  have j1 : (j 1).val < 8 := (j 1).isLt
  have j2 : (j 2).val < 768 := (j 2).isLt
  refine Eq.trans ?_ (slab_at (n := 4) (p := 8) (q := 768) (m ((c : Thread nD τ).loc main_arg1)) (ix3 ⟨t.val, ht⟩ ⟨(j 1).val, j1⟩ ⟨(j 2).val, j2⟩))
  rw [← V_main_arg1 m c]
  unfold iblk
  rw [View.read_apply]
  show V m c main_arg1 _ = V m c main_arg1 _
  congr 1
  funext i
  apply Fin.ext
  match i with
  | ⟨0, _⟩ => show win0_1.index t 0 * 1 + 1 * (j 0).val = t.val; rw [e0]; omega
  | ⟨1, _⟩ => show win0_1.index t 1 * 8 + 1 * (j 1).val = (j 1).val; rw [e1]; omega
  | ⟨2, _⟩ => show win0_1.index t 2 * 768 + 1 * (j 2).val = (j 2).val; rw [e2]; omega

/-- The array it leaves. -/
theorem arr2 : (dats (F := Ideal) m 0 c).arrAt 2 cfg0.N
    = fun i : (⟨3, ![4, 1024, 768]⟩ : Shape).Idx => grad (A0 m c) (A1 m c (i 0).val) (i 1).val (i 2).val := by
  funext i
  refine (dats (F := Ideal) m 0 c).arrAt_forall_of_covers 2 (fun i v => v = grad (A0 m c) (A1 m c (i 0).val) (i 1).val (i 2).val) (by decide +kernel) (fun t _ y => ?_) i
  have hB := out2 (blk0 m c t) (blk1 m c t)
  blk_simp
  rw [after0_2]
  obtain ⟨-, -, ⟨e0, e1, e2⟩⟩ := pt t
  rw [e0, e1, e2]
  generalize out0_2 (F := Ideal) (iblk m c 0 t) (iblk m c 1 t) = g at hB ⊢
  rw [zero_mul, zero_add, zero_mul, zero_add]
  exact hB y

end

end Cert.Sb.ModRun
end
-- ==== Proof.ModRef.lean ====
/- The modulation weight's gradient, stated plainly: its value. -/
module

public import proofs.«01_k».proof.Proof.ModRun
public import proofs.«01_k».proof.Proof.Gen.ModReferenceIdeal.Read
@[expose] public section
set_option maxRecDepth 16384
noncomputable section
namespace Cert.Sb.ModRef
open Idealize.ShloMosaic hiding ix0 ix1 ix2 ix3 ix4 eq_ix1 eq_ix2 eq_ix3 eq_ix4
open Idealize.ShloMosaic.ValueIdx Finset
open Cert.ModReferenceIdeal Cert.ModReferenceIdeal.Gen Cert.ModReferenceIdeal.Read Cert.Sb.Tn Cert.Sb.ModRun

variable (x0 : (⟨S1024x8, .f32⟩ : BufTy).Contents (Elt Ideal)) (x1 : (⟨S4x8x768, .f32⟩ : BufTy).Contents (Elt Ideal))

/-- The conditioning through the gate. -/
theorem gated (i : S8x1024.Idx) : val_main_v2 (F := Ideal) x0 i = act (ent (n := 1024) (m := 8) x0 (i 1).val (i 0).val) := by
  have e : val_main_v1 (F := Ideal) x0 i = ent (n := 1024) (m := 8) x0 (i 1).val (i 0).val := by
    rw [val_main_v1_apply]
    exact (ent_rx (n := 1024) (m := 8) x0).at _
  have n (u : EReal) : -u = Ideal.ofBits .f32 0x00000000#32 - u := by rw [Ideal.ofBits_zero_f32]; exact (zero_sub u).symm
  rw [val_main_v2_apply, val_main_call0_v5_apply, val_main_call0_v4_apply, val_main_call0_v3_apply, val_main_call0_v2_apply, val_main_call0_v1_apply,
    val_main_call0_v0_apply, e]
  unfold act
  rw [← n]
  rfl

theorem result7 : val_main_v7 (F := Ideal) x0 x1 = fun i : (⟨3, ![4, 1024, 768]⟩ : Shape).Idx =>
    grad (ent (n := 1024) (m := 8) x0) (slab (n := 4) (p := 8) (q := 768) x1 (i 0).val) (i 1).val (i 2).val := by
  funext i
  rw [val_main_v7_apply, val_main_v6_apply]
  unfold grad
  refine Eq.trans ?_ (Fin.sum_univ_eq_sum_range (fun b => act (ent (n := 1024) (m := 8) x0 (i 1).val b) * slab (n := 4) (p := 8) (q := 768) x1 (i 0).val b (i 2).val) 8)
  refine Finset.sum_congr rfl fun k _ => ?_
  rw [gated, val_main_v5_apply, mul_comm]
  exact congrArg (fun u : EReal => _ * u) (slab_at (n := 4) (p := 8) (q := 768) x1 _)

end Cert.Sb.ModRef
end
-- ==== Proof.AdaRun.lean ====
/- The modulation's forward kernel: the array it leaves. -/
module

public import proofs.«01_k».proof.Proof.ModRun
public import proofs.«01_k».proof.Proof.Gen.AdaIdeal.Value
@[expose] public section
set_option maxRecDepth 16384
noncomputable section
namespace Cert.Sb.AdaRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.AdaIdeal Cert.AdaIdeal.Gen Cert.Sb.Tn Cert.Sb.ModRun

/-- The modulation of a layer: the gated conditioning times the weight, and the bias. -/
def modu (f w : ℕ → ℕ → EReal) (b : ℕ → EReal) (a j : ℕ) : EReal := (∑ k ∈ range 1024, act (f a k) * w k j) + b j

/-- The conditioning through the gate, as the kernel writes it. -/
theorem gated {x : FVec Ideal S8x1024 .f32} {f : ℕ → ℕ → EReal} (hx : Rx (n := 8) (m := 1024) x f) :
    Rx (n := 8) (m := 1024) (mulf x (divf (broadcast S8x1024 (Scalar.ofBits (F := Ideal) .f32 0x3F800000#32)) (addf (broadcast S8x1024 (Scalar.ofBits (F := Ideal) .f32 0x3F800000#32))
      (exp (subf (broadcast S8x1024 (Scalar.ofBits (F := Ideal) .f32 0x00000000#32)) x))))) (fun a k => act (f a k)) :=
  fun a b => congrArg act (hx a b)

/-- What a block leaves. -/
theorem out3 {x : Vec Ideal S8x1024 .f32} {w : Vec Ideal S1x1024x768 .f32} {b : Vec Ideal S1x1x768 .f32} {f g : ℕ → ℕ → EReal} {h : ℕ → EReal}
    (hx : Rx (n := 8) (m := 1024) x f) (hw : ∀ j : S1x1024x768.Idx, w j = g (j 1).val (j 2).val) (hb : ∀ j : S1x1x768.Idx, b j = h (j 2).val)
    (y : S1x8x768.Idx) : out0_3 (F := Ideal) x w b y = modu f g h (y 1).val (y 2).val := by
  have z3 : (![0, 0, 0] : Fin 3 → ℕ) = fun _ => 0 := by decide
  have e1 : View.ld (Val := Elt Ideal) w r0_1 = w := View.ld_unit_zero z3 _ w
  have e2 : View.ld (Val := Elt Ideal) b r0_2 = b := View.ld_unit_zero z3 _ b
  have e0 : View.ld (Val := Elt Ideal) x r0_0 = x := ldAll (n := 8) (m := 1024) (e := .f32) x
  have sw : Rx (n := 1024) (m := 768) (shapeCast S1024x768 w shapeCasts_S1x1024x768_S1024x768) g := fun i j =>
    (shapeCast_1ab_ab_apply (a := 1024) (b := 768) w _ i j).trans (hw _)
  have sb : Rx (n := 1) (m := 768) (shapeCast S1x768 b shapeCasts_S1x1x768_S1x768) (fun _ j => h j) := fun i j =>
    (shapeCast_1ab_ab_apply (a := 1) (b := 768) b _ i j).trans (hb _)
  have r := (Rx.mm (φ := .bf16) (ψ := .bf16) (d := dot_S8x1024_S1024x768_S8x768_1_0_0_1_n_n) rfl (gated hx) sw none).add
    (Rx.brow sb broadcasts_S1x768_S8x768)
  unfold out0_3
  rw [e0, e1, e2, View.canon_unit_zero z3, eq_ix3 y]
  exact (shapeCast_ab_1ab_apply (a := 8) (b := 768) _ shapeCasts_S8x768_S1x8x768 (y 0) (y 1) (y 2)).trans (r (y 1) (y 2))

section
variable (m : (ℓ : Loc nD τ sig) → Buf (Elt Ideal) ℓ) (c : Dev nD)

/-- The entries of the operands, by their numbers. -/
def A0 : ℕ → ℕ → EReal := ent (n := 8) (m := 1024) (m ((c : Thread nD τ).loc main_arg0))
def A1 : ℕ → ℕ → ℕ → EReal := slab (n := 4) (p := 1024) (q := 768) (m ((c : Thread nD τ).loc main_arg1))
def A2 : ℕ → ℕ → EReal := ent (n := 4) (m := 768) (m ((c : Thread nD τ).loc main_arg2))

/-- Where each window stands at point `t` of the grid. -/
theorem pt : ∀ t : Fin cfg0.N,
    (win0_0.index t 0 = 0 ∧ win0_0.index t 1 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0) :=
  (by decide +kernel : ∀ t : Fin grid0.N, _)

theorem blk0 (t : Fin cfg0.N) : Rx (n := 8) (m := 1024) (iblk (F := Ideal) m c 0 t) (A0 m c) := by
  intro a b
  obtain ⟨⟨e0, e1⟩, -⟩ := pt t
  refine Eq.trans ?_ (ent_rx (n := 8) (m := 1024) (m ((c : Thread nD τ).loc main_arg0)) a b)
  rw [← V_main_arg0 m c]
  unfold iblk
  rw [View.read_apply]
  show V m c main_arg0 _ = V m c main_arg0 _
  congr 1
  funext i
  apply Fin.ext
  match i with
  | ⟨0, _⟩ => show win0_0.index t 0 * 8 + 1 * a.val = a.val; rw [e0]; omega
  | ⟨1, _⟩ => show win0_0.index t 1 * 1024 + 1 * b.val = b.val; rw [e1]; omega

theorem blk1 (t : Fin cfg0.N) (j : S1x1024x768.Idx) : iblk (F := Ideal) m c 1 t j = A1 m c t.val (j 1).val (j 2).val := by
  obtain ⟨-, ⟨e0, e1, e2⟩, -⟩ := pt t
  have ht : t.val < 4 := t.isLt
  have j0 : (j 0).val < 1 := (j 0).isLt
  refine Eq.trans ?_ (slab_at (n := 4) (p := 1024) (q := 768) (m ((c : Thread nD τ).loc main_arg1)) (ix3 ⟨t.val, ht⟩ (j 1) (j 2)))
  rw [← V_main_arg1 m c]
  unfold iblk
  rw [View.read_apply]
  show V m c main_arg1 _ = V m c main_arg1 _
  congr 1
  funext i
  apply Fin.ext
  match i with
  | ⟨0, _⟩ => show win0_1.index t 0 * 1 + 1 * (j 0).val = t.val; rw [e0]; omega
  | ⟨1, _⟩ => show win0_1.index t 1 * 1024 + 1 * (j 1).val = (j 1).val; rw [e1]; omega
  | ⟨2, _⟩ => show win0_1.index t 2 * 768 + 1 * (j 2).val = (j 2).val; rw [e2]; omega

/-- The bias as the region finds it. -/
theorem bias : V (F := Ideal) m c main_v0 = shapeCast (α := EReal) S4x1x768 (m ((c : Thread nD τ).loc main_arg2)) shapeCasts_S4x768_S4x1x768 := by
  rfl

theorem blk2 (t : Fin cfg0.N) (j : S1x1x768.Idx) : iblk (F := Ideal) m c 2 t j = A2 m c t.val (j 2).val := by
  obtain ⟨-, -, ⟨e0, e1, e2⟩, -⟩ := pt t
  have ht : t.val < 4 := t.isLt
  have j0 : (j 0).val < 1 := (j 0).isLt
  have j1 : (j 1).val < 1 := (j 1).isLt
  refine Eq.trans ?_ (ent_rx (n := 4) (m := 768) (m ((c : Thread nD τ).loc main_arg2)) ⟨t.val, ht⟩ (j 2))
  refine Eq.trans ?_ (shapeCast_apply (α := EReal) (s := ⟨2, ![4, 768]⟩) (t := ⟨3, ![4, 1, 768]⟩) (m ((c : Thread nD τ).loc main_arg2)) shapeCasts_S4x768_S4x1x768 (ix3 ⟨t.val, ht⟩ 0 (j 2))
    (ix2 ⟨t.val, ht⟩ (j 2)) ?_)
  · rw [← bias m c]
    unfold iblk
    rw [View.read_apply]
    show V m c main_v0 _ = V m c main_v0 _
    congr 1
    funext i
    apply Fin.ext
    match i with
    | ⟨0, _⟩ => show win0_2.index t 0 * 1 + 1 * (j 0).val = t.val; rw [e0]; omega
    | ⟨1, _⟩ => show win0_2.index t 1 * 1 + 1 * (j 1).val = 0; rw [e1]; omega
    | ⟨2, _⟩ => show win0_2.index t 2 * 768 + 1 * (j 2).val = (j 2).val; rw [e2]; omega
  · refine (Shape.rowMajor_val_two _).trans (Eq.trans ?_ (Shape.rowMajor_val_three _).symm)
    show t.val * 768 + (j 2).val = (t.val * 1 + 0) * 768 + (j 2).val
    omega

/-- The array it leaves. -/
theorem arr3 : (dats (F := Ideal) m 0 c).arrAt 3 cfg0.N
    = fun i : (⟨3, ![4, 8, 768]⟩ : Shape).Idx => modu (A0 m c) (A1 m c (i 0).val) (A2 m c (i 0).val) (i 1).val (i 2).val := by
  funext i
  refine (dats (F := Ideal) m 0 c).arrAt_forall_of_covers 3 (fun i v => v = modu (A0 m c) (A1 m c (i 0).val) (A2 m c (i 0).val) (i 1).val (i 2).val)
    (by decide +kernel) (fun t _ y => ?_) i
  have hB := out3 (blk0 m c t) (blk1 m c t) (blk2 m c t)
  blk_simp
  rw [after0_3]
  obtain ⟨-, -, -, ⟨e0, e1, e2⟩⟩ := pt t
  rw [e0, e1, e2]
  generalize out0_3 (F := Ideal) (iblk m c 0 t) (iblk m c 1 t) (iblk m c 2 t) = g at hB ⊢
  rw [zero_mul, zero_add, zero_mul, zero_add]
  exact hB y

end

end Cert.Sb.AdaRun
end
-- ==== Proof.AdaRef.lean ====
/- The modulation, stated plainly: its value. -/
module

public import proofs.«01_k».proof.Proof.AdaRun
public import proofs.«01_k».proof.Proof.Gen.AdaReferenceIdeal.Read
@[expose] public section
set_option maxRecDepth 16384
noncomputable section
namespace Cert.Sb.AdaRef
open Idealize.ShloMosaic hiding ix0 ix1 ix2 ix3 ix4 eq_ix1 eq_ix2 eq_ix3 eq_ix4
open Idealize.ShloMosaic.ValueIdx Finset
open Cert.AdaReferenceIdeal Cert.AdaReferenceIdeal.Gen Cert.AdaReferenceIdeal.Read Cert.Sb.Tn Cert.Sb.ModRun Cert.Sb.AdaRun

variable (x0 : (⟨S8x1024, .f32⟩ : BufTy).Contents (Elt Ideal)) (x1 : (⟨S4x1024x768, .f32⟩ : BufTy).Contents (Elt Ideal))
  (x2 : (⟨S4x768, .f32⟩ : BufTy).Contents (Elt Ideal))

/-- The conditioning through the gate. -/
theorem gated (i : S8x1024.Idx) : val_main_v0 (F := Ideal) x0 i = act (ent (n := 8) (m := 1024) x0 (i 0).val (i 1).val) := by
  have n (u : EReal) : -u = Ideal.ofBits .f32 0x00000000#32 - u := by rw [Ideal.ofBits_zero_f32]; exact (zero_sub u).symm
  rw [val_main_v0_apply, val_main_call0_v5_apply, val_main_call0_v4_apply, val_main_call0_v3_apply, val_main_call0_v2_apply, val_main_call0_v1_apply,
    val_main_call0_v0_apply, (ent_rx (n := 8) (m := 1024) x0).at i]
  unfold act
  rw [← n]
  rfl

theorem result5 : val_main_v5 (F := Ideal) x0 x1 x2 = fun i : (⟨3, ![4, 8, 768]⟩ : Shape).Idx =>
    modu (ent (n := 8) (m := 1024) x0) (slab (n := 4) (p := 1024) (q := 768) x1 (i 0).val) (ent (n := 4) (m := 768) x2 (i 0).val) (i 1).val (i 2).val := by
  funext i
  rw [val_main_v5_apply, val_main_v2_apply, val_main_v1_apply, val_main_v4_apply, val_main_v3_apply]
  unfold modu
  refine congrArg₂ (fun u v : EReal => u + v) ?_ ((ent_rx (n := 4) (m := 768) x2).at _)
  refine Eq.trans ?_ (Fin.sum_univ_eq_sum_range (fun k => act (ent (n := 8) (m := 1024) x0 (i 1).val k) * slab (n := 4) (p := 1024) (q := 768) x1 (i 0).val k (i 2).val) 1024)
  refine Finset.sum_congr rfl fun k _ => ?_
  rw [gated, mul_comm]
  exact congrArg (fun u : EReal => _ * u) (slab_at (n := 4) (p := 1024) (q := 768) x1 _)

end Cert.Sb.AdaRef
end
-- ==== Proof.TnRun.lean ====
/- The weight-gradient kernel of `Tn`: what its blocks of rows leave, and the array it leaves. -/
module

public import proofs.«01_k».proof.Proof.TnLib
public import proofs.«01_k».proof.Proof.Store
public import Idealize.ShloMosaic.Lib.Pipeline.ValueKit.Partial
public import proofs.«01_k».proof.Proof.Gen.TnIdeal.Value
@[expose] public section
set_option maxRecDepth 16384
noncomputable section
namespace Cert.Sb.TnRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.TnIdeal Cert.TnIdeal.Gen Cert.Sb.Tn

section
variable (c : Dev nD) (i : grid0.Coords)
  (arg1 : Memref sig .tc .vmem S1024x2816 .bf16) (harg1 : arg1.IsWhole) (arg2 : Memref sig .tc .vmem S1024x1024 .bf16) (harg2 : arg2.IsWhole)
  (arg4 : Memref sig .tc .vmem S8x1x352x1024 .bf16) (harg4 : arg4.IsWhole) (arg5 : Memref sig .tc .vmem S2816x1024 .f32) (harg5 : arg5.IsWhole)
  (x0 : Vec Ideal S1024x2816 .bf16) (x1 : Vec Ideal S1024x1024 .bf16) (xs0 : Vec Ideal S2816x1024 .f32)

/-- The scratch after the first block of rows. -/
theorem sA (hc0 : cond0_0 i) (hc1 : ¬cond0_1 i) :
    sout0_A_0 c i arg1 harg1 arg2 harg2 arg4 harg4 arg5 harg5 hc0 hc1 x0 x1 = k0_pay2 (F := Ideal) (k0_pay1 (F := Ideal)) x0 x1 := by
  unfold sout0_A_0 kernelRun0_A
  dsimp only
  sl_unfold_words
  refine (View.read_writes_full _ _ _ _ _).trans ?_
  exact congr (congr (congrArg _ (View.readCov_full _ _ _ _ _)) ((View.readAt_full _ _ _).trans (harg1.read_unread _))) ((View.readAt_full _ _ _).trans (harg2.read_unread _))

/-- The scratch after a later block of rows. -/
theorem sB (hc0 : ¬cond0_0 i) (hc1 : ¬cond0_1 i) :
    sout0_B_0 c i arg1 harg1 arg2 harg2 arg4 harg4 arg5 harg5 hc0 hc1 x0 x1 xs0 = k0_pay2 (F := Ideal) xs0 x0 x1 := by
  unfold sout0_B_0 kernelRun0_B
  dsimp only
  sl_unfold_words
  refine (View.read_writes_full _ _ _ _ _).trans ?_
  exact congr (congr (congrArg _ ((View.readAt_full _ _ _).trans (harg5.read_unread _))) ((View.readAt_full _ _ _).trans (harg1.read_unread _)))
    ((View.readAt_full _ _ _).trans (harg2.read_unread _))

/-- The block written back after the last block of rows. -/
theorem oC (hc0 : ¬cond0_0 i) (hc1 : cond0_1 i) :
    out0_C_2 c i arg1 harg1 arg2 harg2 arg4 harg4 arg5 harg5 hc0 hc1 x0 x1 xs0 = k0_pay3 (F := Ideal) (k0_pay2 (F := Ideal) xs0 x0 x1) := by
  unfold out0_C_2 kernelRun0_C
  dsimp only
  sl_unfold_words
  refine (View.read_writes_full _ _ _ _ _).trans (congrArg _ ((View.readCov_full _ _ _ _ _).trans ?_))
  exact congr (congr (congrArg _ ((View.readAt_full _ _ _).trans (harg5.read_unread _))) ((View.readAt_full _ _ _).trans (harg1.read_unread _)))
    ((View.readAt_full _ _ _).trans (harg2.read_unread _))
end

/-- One block of rows more. -/
theorem step {s : Vec Ideal S2816x1024 .f32} {x : Vec Ideal S1024x2816 .bf16} {y : Vec Ideal S1024x1024 .bf16} {p f g : ℕ → ℕ → EReal}
    (hs : Rx (n := 2816) (m := 1024) s p) (hx : Rx (n := 1024) (m := 2816) x f) (hy : Rx (n := 1024) (m := 1024) y g) :
    Rx (n := 2816) (m := 1024) (k0_pay2 (F := Ideal) s x y) (fun a b => p a b + ∑ j ∈ range 1024, f j a * g j b) := by
  unfold k0_pay2
  exact acc rfl rfl rfl rfl rfl rfl hs hx hy

/-- The block written back. -/
theorem out {s : Vec Ideal S2816x1024 .f32} {p : ℕ → ℕ → EReal} (hs : Rx (n := 2816) (m := 1024) s p) (y : (⟨4, ![8, 1, 352, 1024]⟩ : Shape).Idx) :
    k0_pay3 (F := Ideal) s y = p ((y 0).val * 352 + (y 2).val) (y 3).val := by
  unfold k0_pay3
  exact stack (q := 8) (r := 352) (m := 1024) rfl hs y

section
variable (m : (ℓ : Loc nD τ sig) → Buf (Elt Ideal) ℓ) (c : Dev nD)

/-- The entries of the first operand, by their numbers. -/
def A : ℕ → ℕ → EReal := ent (n := 4096) (m := 2816) (m ((c : Thread nD τ).loc main_arg0))
/-- The entries of the second operand, by their numbers. -/
def B : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 2 ∧ win0_2.index t 2 = 0 ∧ win0_2.index t 3 = 0) :=
  (by decide +kernel : ∀ t : Fin grid0.N, _)

theorem blk0 (t : Fin cfg0.N) : Rx (n := 1024) (m := 2816) (iblk (F := Ideal) m c 0 t) (fun a b => A m c (t.val * 1024 + a) (0 * 2816 + b)) := by
  intro a b
  obtain ⟨⟨e0, e1⟩, -⟩ := pt t
  have ha := a.isLt
  have hb := b.isLt
  have ht : t.val < 4 := t.isLt
  refine Eq.trans ?_ (ent_rx (n := 4096) (m := 2816) (m ((c : Thread nD τ).loc main_arg0)) ⟨t.val * 1024 + a.val, by omega⟩ ⟨0 * 2816 + b.val, by omega⟩)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = t.val * 1024 + a.val; rw [e0]; omega
  | ⟨1, _⟩ => show win0_0.index t 1 * 2816 + 1 * b.val = 0 * 2816 + b.val; rw [e1]; omega

theorem blk1 (t : Fin cfg0.N) : Rx (n := 1024) (m := 1024) (iblk (F := Ideal) m c 1 t) (fun a b => B m c (t.val * 1024 + a) b) := by
  intro a b
  obtain ⟨-, ⟨e0, e1⟩, -⟩ := pt t
  have ha := a.isLt
  have ht : t.val < 4 := t.isLt
  refine Eq.trans ?_ (ent_rx (n := 4096) (m := 1024) (m ((c : Thread nD τ).loc main_arg1)) ⟨t.val * 1024 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 1024 + 1 * a.val = t.val * 1024 + a.val; rw [e0]; omega
  | ⟨1, _⟩ => show win0_1.index t 1 * 1024 + 1 * b.val = b.val; rw [e1]; omega

/-- The products of the rows at and below block `t`. -/
def part (t : ℕ) (a b : ℕ) : EReal := ∑ j ∈ range (t * 1024 + 1024), A m c j (0 * 2816 + a) * B m c j b

theorem sum_first (a b : ℕ) :
    (0 : EReal) + ∑ j ∈ range 1024, A m c (0 * 1024 + j) (0 * 2816 + a) * B m c (0 * 1024 + j) b = part m c 0 a b := by
  unfold part
  rw [zero_add]
  simp only [Nat.zero_mul, Nat.zero_add]

theorem sum_more (t a b : ℕ) :
    part m c t a b + ∑ j ∈ range 1024, A m c ((t + 1) * 1024 + j) (0 * 2816 + a) * B m c ((t + 1) * 1024 + j) b = part m c (t + 1) a b :=
  more (fun j => A m c j (0 * 2816 + a) * B m c j b) 1024 t

/-- The scratch after the first block of rows. -/
theorem first (t : Fin cfg0.N) (h0 : t.val % 4 = 0) (h1 : ¬t.val % 4 = 3) (ht : t.val = 0) :
    Rx (n := 2816) (m := 1024) (outsAt0 (F := Ideal) m c t.val t.isLt).2 (part m c 0) := by
  have hz : Rx (n := 2816) (m := 1024) (k0_pay1 (F := Ideal)) (fun _ _ => 0) := by unfold k0_pay1; exact zeros
  have hs := (step hz (blk0 m c t) (blk1 m c t)).congr (g := part m c 0) (fun a b => by rw [ht]; exact sum_first m c a b)
  have e := sA c (grid0.coords t) (ms0_0 t) (hs0_0 t) (ms0_1 t) (hs0_1 t) (ms0_2 t) (hs0_2 t) scM0_0 (Memref.isWhole_whole _) (iblk (F := Ideal) m c 0 t) (iblk (F := Ideal) m c 1 t)
    ((hcond0_0 t).mpr h0) (fun h => h1 ((hcond0_1 t).mp h))
  rw [← e] at hs
  rw [outsAt0_A m c t h0 h1]
  with_reducible exact hs

/-- The scratch after a later block of rows. -/
theorem later (t : Fin cfg0.N) (h0 : ¬t.val % 4 = 0) (h1 : ¬t.val % 4 = 3) {u : ℕ} (hu : t.val = u + 1)
    (h : Rx (n := 2816) (m := 1024) (outsAt0 (F := Ideal) m c (t.val - 1) (Nat.lt_of_le_of_lt (Nat.sub_le _ _) t.isLt)).2 (part m c u)) :
    Rx (n := 2816) (m := 1024) (outsAt0 (F := Ideal) m c t.val t.isLt).2 (part m c (u + 1)) := by
  have hs := (step h (blk0 m c t) (blk1 m c t)).congr (g := part m c (u + 1)) (fun a b => by rw [hu]; exact sum_more m c u a b)
  have e := sB c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) (fun h => h1 ((hcond0_1 t).mp h))
  rw [← e] at hs
  rw [outsAt0_B m c t h0 h1]
  with_reducible exact hs

theorem upTo : ∀ (n : ℕ) (hn : n < cfg0.N), n < 3 → Rx (n := 2816) (m := 1024) (outsAt0 (F := Ideal) m c n hn).2 (part m c n)
  | 0, hn, _ => first m c ⟨0, hn⟩ rfl (by show ¬0 % 4 = 3; omega) rfl
  | n + 1, hn, h3 => later m c ⟨n + 1, hn⟩ (by show ¬(n + 1) % 4 = 0; omega) (by show ¬(n + 1) % 4 = 3; omega) rfl
      (upTo n (Nat.lt_of_succ_lt hn) (Nat.lt_of_succ_lt h3))

/-- The block written back. -/
theorem last (t : Fin cfg0.N) (h0 : ¬t.val % 4 = 0) (h3 : t.val % 4 = 3) (ht : t.val = 2 + 1)
    (h : Rx (n := 2816) (m := 1024) (outsAt0 (F := Ideal) m c (t.val - 1) (Nat.lt_of_le_of_lt (Nat.sub_le _ _) t.isLt)).2 (part m c 2))
    (y : (⟨4, ![8, 1, 352, 1024]⟩ : Shape).Idx) :
    (outsAt0 (F := Ideal) m c t.val t.isLt).1 y = part m c 3 ((y 0).val * 352 + (y 2).val) (y 3).val := by
  have hs := (step h (blk0 m c t) (blk1 m c t)).congr (g := part m c 3) (fun a b => by rw [ht]; exact sum_more m c 2 a b)
  have e := oC c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) ((hcond0_1 t).mpr h3)
  have hy : k0_pay3 (F := Ideal) (k0_pay2 (F := Ideal) (outsAt0 (F := Ideal) m c (t.val - 1) (Nat.lt_of_le_of_lt (Nat.sub_le _ _) t.isLt)).2
      (iblk (F := Ideal) m c 0 t) (iblk (F := Ideal) m c 1 t)) y = part m c 3 ((y 0).val * 352 + (y 2).val) (y 3).val :=
    out hs y
  rw [← e] at hy
  rw [outsAt0_C m c t h0 h3]
  with_reducible exact hy

/-- The product, laid out. -/
def G : (⟨4, ![8, 3, 352, 1024]⟩ : Shape).Idx → EReal := prod4 4096 (fun t a => A m c t (0 * 2816 + a)) (B m c)

/-- The array the result goes into is the operand's. -/
theorem entry : V (F := Ideal) m c main_v0 = m ((c : Thread nD τ).loc main_arg2) := by
  rfl

/-- The array after the run. -/
theorem result : (dats (F := Ideal) m 0 c).arrAt 2 cfg0.N
    = upd (n := 8) (q := 3) (r := 352) (m := 1024) 4096 2 (fun t a => A m c t (0 * 2816 + a)) (B m c) (m ((c : Thread nD τ).loc main_arg2)) := by
  funext i
  refine ((dats (F := Ideal) m 0 c).arrAt_apply_of_coversWhere 2
    (G m c)
    (P := fun i : (⟨4, ![8, 3, 352, 1024]⟩ : Shape).Idx => (i 1).val = 2) (fun β => β (1 : Fin 4) = 2) (by decide +kernel) (fun t hf y => ?_) (fun j => ?_) i).trans ?_
  · have h3 : t.val = 3 := (by decide +kernel : ∀ t : Fin cfg0.N, (cfg0.win 2).flush t = true → t.val = 3) t hf
    have hB := last m c t (by omega) (by omega) (by omega) (by simp only [h3]; exact upTo m c 2 _ (by omega))
    blk_simp
    rw [after0_2]
    obtain ⟨-, -, ⟨e0, e1, e2, e3⟩⟩ := pt t
    refine (hB y).trans ?_
    have q0 : ((win0_2.blk t).view.emb y 0).val = (y 0).val := by show win0_2.index t 0 * 8 + 1 * (y 0).val = _; rw [e0]; omega
    have q2 : ((win0_2.blk t).view.emb y 2).val = (y 2).val := by show win0_2.index t 2 * 352 + 1 * (y 2).val = _; rw [e2]; omega
    have q3 : ((win0_2.blk t).view.emb y 3).val = (y 3).val := by show win0_2.index t 3 * 1024 + 1 * (y 3).val = _; rw [e3]; omega
    unfold G prod4 part
    rw [q0, q2, q3]
  · show (j 1).val = 2 ↔ (j 1).val / 1 = 2
    rw [Nat.div_one]
  · exact if_congr Iff.rfl rfl (congrFun ((A_eq m c 2).trans (entry m c)) i)
end

end Cert.Sb.TnRun
end
-- ==== Proof.TnJoin.lean ====
/- Slots of weight gradients joined along their axis: what one slot of the joined array is. -/
module

public import proofs.«01_k».proof.Proof.TnLib
@[expose] public section
set_option maxRecDepth 16384
noncomputable section
namespace Cert.Sb.Tn
open Idealize.ShloMosaic hiding ix0 ix1 ix2 ix3 ix4 eq_ix1 eq_ix2 eq_ix3 eq_ix4
open Idealize.ShloMosaic.ValueIdx Finset

variable {α : Type} {n m r q : ℕ}

/-- The same place in another slot. -/
def slot {p : ℕ} (i : (⟨4, ![n, q, r, m]⟩ : Shape).Idx) (j : Fin p) : (⟨4, ![n, p, r, m]⟩ : Shape).Idx :=
  ix4 (⟨(i 0).val, (i 0).isLt⟩ : Fin n) j (⟨(i 2).val, (i 2).isLt⟩ : Fin r) (⟨(i 3).val, (i 3).isLt⟩ : Fin m)

theorem slot_off {p : ℕ} (i : (⟨4, ![n, q, r, m]⟩ : Shape).Idx) (j : Fin p) : ∀ d : Fin 4, d ≠ 1 → ((slot i j) d).val = (i d).val := fun d hd =>
  match d with
  | ⟨0, _⟩ => rfl
  | ⟨1, _⟩ => absurd rfl hd
  | ⟨2, _⟩ => rfl
  | ⟨3, _⟩ => rfl

/-- Two slots, then one. -/
theorem join21 (y0 : (⟨4, ![n, 2, r, m]⟩ : Shape).Idx → α) (y1 : (⟨4, ![n, 1, r, m]⟩ : Shape).Idx → α) (h) (i : (⟨4, ![n, 3, r, m]⟩ : Shape).Idx) :
    concatenate (⟨4, ![n, 3, r, m]⟩ : Shape) 1 [⟨⟨4, ![n, 2, r, m]⟩, y0⟩, ⟨⟨4, ![n, 1, r, m]⟩, y1⟩] h i
      = if p : (i 1).val < 2 then y0 (slot i ⟨(i 1).val, p⟩) else y1 (slot i 0) := by
  have i1 : (i 1).val < 3 := (i 1).isLt
  split
  · exact concatenate_apply_piece (t := ⟨4, ![n, 3, r, m]⟩) 1 _ h i 0 (by simp) ⟨4, ![n, 2, r, m]⟩ y0 rfl rfl 0 rfl (slot i ⟨(i 1).val, _⟩) (slot_off i _) (Nat.zero_add _)
  · exact concatenate_apply_piece (t := ⟨4, ![n, 3, r, m]⟩) 1 _ h i 1 (by simp) ⟨4, ![n, 1, r, m]⟩ y1 rfl rfl 2 rfl (slot i 0) (slot_off i _) (by show 2 + 0 = (i 1).val; omega)

/-- One slot, then two. -/
theorem join12 (y0 : (⟨4, ![n, 1, r, m]⟩ : Shape).Idx → α) (y1 : (⟨4, ![n, 2, r, m]⟩ : Shape).Idx → α) (h) (i : (⟨4, ![n, 3, r, m]⟩ : Shape).Idx) :
    concatenate (⟨4, ![n, 3, r, m]⟩ : Shape) 1 [⟨⟨4, ![n, 1, r, m]⟩, y0⟩, ⟨⟨4, ![n, 2, r, m]⟩, y1⟩] h i
      = if (i 1).val = 0 then y0 (slot i 0) else y1 (slot i ⟨(i 1).val - 1, by have i1 : (i 1).val < 3 := (i 1).isLt; omega⟩) := by
  split
  case isTrue p => exact concatenate_apply_piece (t := ⟨4, ![n, 3, r, m]⟩) 1 _ h i 0 (by simp) ⟨4, ![n, 1, r, m]⟩ y0 rfl rfl 0 rfl (slot i 0) (slot_off i _) p.symm
  case isFalse p => exact concatenate_apply_piece (t := ⟨4, ![n, 3, r, m]⟩) 1 _ h i 1 (by simp) ⟨4, ![n, 2, r, m]⟩ y1 rfl rfl 1 rfl (slot i ⟨(i 1).val - 1, _⟩) (slot_off i _) (by show 1 + ((i 1).val - 1) = (i 1).val; omega)

/-- Three slots of one. -/
theorem join111 (y0 y1 y2 : (⟨4, ![n, 1, r, m]⟩ : Shape).Idx → α) (h) (i : (⟨4, ![n, 3, r, m]⟩ : Shape).Idx) :
    concatenate (⟨4, ![n, 3, r, m]⟩ : Shape) 1 [⟨⟨4, ![n, 1, r, m]⟩, y0⟩, ⟨⟨4, ![n, 1, r, m]⟩, y1⟩, ⟨⟨4, ![n, 1, r, m]⟩, y2⟩] h i
      = if (i 1).val = 1 then y1 (slot i 0) else if (i 1).val = 0 then y0 (slot i 0) else y2 (slot i 0) := by
  have i1 : (i 1).val < 3 := (i 1).isLt
  split
  case isTrue p => exact concatenate_apply_piece (t := ⟨4, ![n, 3, r, m]⟩) 1 _ h i 1 (by simp) ⟨4, ![n, 1, r, m]⟩ y1 rfl rfl 1 rfl (slot i 0) (slot_off i _) p.symm
  case isFalse p =>
    split
    case isTrue p' => exact concatenate_apply_piece (t := ⟨4, ![n, 3, r, m]⟩) 1 _ h i 0 (by simp) ⟨4, ![n, 1, r, m]⟩ y0 rfl rfl 0 rfl (slot i 0) (slot_off i _) p'.symm
    case isFalse p' => exact concatenate_apply_piece (t := ⟨4, ![n, 3, r, m]⟩) 1 _ h i 2 (by simp) ⟨4, ![n, 1, r, m]⟩ y2 rfl rfl 2 rfl (slot i 0) (slot_off i _) (by show 2 + 0 = (i 1).val; omega)

/-- An index moved to its own slot is itself. -/
theorem slot_self {p : ℕ} (g : (⟨4, ![n, q, r, m]⟩ : Shape).Idx → α) (i : (⟨4, ![n, q, r, m]⟩ : Shape).Idx) (k : (⟨4, ![n, q, r, m]⟩ : Shape).Idx) (j : Fin p)
    (h0 : (k 0).val = (slot i j 0).val) (h1 : (k 1).val = (i 1).val) (h2 : (k 2).val = (slot i j 2).val) (h3 : (k 3).val = (slot i j 3).val) :
    g k = g i := by
  refine congrArg g ?_
  funext d; apply Fin.ext
  match d with
  | ⟨0, _⟩ => exact h0
  | ⟨1, _⟩ => exact h1
  | ⟨2, _⟩ => exact h2
  | ⟨3, _⟩ => exact h3

end Cert.Sb.Tn
end
-- ==== Proof.TnRef.lean ====
/- The weight gradient of `Tn`, stated plainly: its values. -/
module

public import proofs.«01_k».proof.Proof.TnJoin
public import proofs.«01_k».proof.Proof.Gen.TnReferenceIdeal.Read
@[expose] public section
set_option maxRecDepth 16384
noncomputable section
namespace Cert.Sb.TnRef
open Idealize.ShloMosaic hiding ix0 ix1 ix2 ix3 ix4 eq_ix1 eq_ix2 eq_ix3 eq_ix4
open Idealize.ShloMosaic.ValueIdx Finset
open Cert.TnReferenceIdeal Cert.TnReferenceIdeal.Gen Cert.TnReferenceIdeal.Read Cert.Sb.Tn

variable (x0 : (⟨S4096x2816, .bf16⟩ : BufTy).Contents (Elt Ideal)) (x1 : (⟨S4096x1024, .bf16⟩ : BufTy).Contents (Elt Ideal))
variable (x2 : (⟨S8x3x352x1024, .bf16⟩ : BufTy).Contents (Elt Ideal))

/-- The product. -/
theorem prod : Rx (n := 2816) (m := 1024) (val_main_v5 (F := Ideal) x0 x1)
    (fun a b => ∑ t ∈ range 4096, ent (n := 4096) (m := 2816) x0 t (0 * 2816 + a) * ent (n := 4096) (m := 1024) x1 t b) := fun a b => by
  rw [val_main_v5_apply, val_main_v4_apply]
  refine Eq.trans ?_ (Fin.sum_univ_eq_sum_range (fun t => ent (n := 4096) (m := 2816) x0 t (0 * 2816 + a.val) * ent (n := 4096) (m := 1024) x1 t b.val) 4096)
  refine Finset.sum_congr rfl fun k _ => ?_
  have e1 : val_main_v3 (F := Ideal) x1 (lidx_main_v4 (idx_main_v5 (ix2 a b)) k) = ent (n := 4096) (m := 1024) x1 k.val b.val := by
    rw [val_main_v3_apply]
    exact (ent_rx (n := 4096) (m := 1024) x1).at _
  have e0 : val_main_v1 (F := Ideal) x0 (ridx_main_v4 (idx_main_v5 (ix2 a b)) k) = ent (n := 4096) (m := 2816) x0 k.val (0 * 2816 + a.val) := by
    rw [val_main_v1_apply]
    refine ((ent_rx (n := 4096) (m := 2816) x0).at _).trans (congrArg (ent (n := 4096) (m := 2816) x0 k.val) ?_)
    show a.val = 0 * 2816 + a.val
    omega
  rw [e1, e0, mul_comm]

/-- The product laid out, one slot. -/
theorem block (i : (⟨4, ![8, 1, 352, 1024]⟩ : Shape).Idx) : val_main_v8 (F := Ideal) x0 x1 i
    = ∑ t ∈ range 4096, ent (n := 4096) (m := 2816) x0 t (0 * 2816 + ((i 0).val * 352 + (i 2).val)) * ent (n := 4096) (m := 1024) x1 t (i 3).val := by
  unfold val_main_v8 val_main_v6
  exact lay (q := 8) (r := 352) (m := 1024) (N := 2816) rfl (prod x0 x1) i

/-- The array it leaves. -/
theorem result : val_main_v9 (F := Ideal) x0 x1 x2
    = upd (n := 8) (q := 3) (r := 352) (m := 1024) 4096 2 (fun t a => ent (n := 4096) (m := 2816) x0 t (0 * 2816 + a)) (ent (n := 4096) (m := 1024) x1) x2 := by
  funext i
  unfold upd prod4
  unfold val_main_v9
  have i1 : (i 1).val < 3 := (i 1).isLt
  refine (join21 (n := 8) (r := 352) (m := 1024) _ _ _ i).trans ?_
  by_cases p : (i 1).val < 2
  · rw [dif_pos p, if_neg (by omega), val_main_v7_apply]
    exact slot_self (n := 8) (q := 3) (r := 352) (m := 1024) x2 i _ (⟨(i 1).val, p⟩ : Fin 2) rfl rfl rfl rfl
  · rw [dif_neg p, if_pos (by omega), block]
    rfl

end Cert.Sb.TnRef
end
-- ==== Proof.GateRun.lean ====
/- The weight-gradient kernel of `Gate`: what its blocks of rows leave, and the array it leaves. -/
module

public import proofs.«01_k».proof.Proof.TnLib
public import proofs.«01_k».proof.Proof.Store
public import Idealize.ShloMosaic.Lib.Pipeline.ValueKit.Partial
public import proofs.«01_k».proof.Proof.Gen.GateIdeal.Value
@[expose] public section
set_option maxRecDepth 16384
noncomputable section
namespace Cert.Sb.GateRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.GateIdeal Cert.GateIdeal.Gen Cert.Sb.Tn

section
variable (c : Dev nD) (i : grid0.Coords)
  (arg1 : Memref sig .tc .vmem S1024x2816 .bf16) (harg1 : arg1.IsWhole) (arg2 : Memref sig .tc .vmem S1024x1024 .bf16) (harg2 : arg2.IsWhole)
  (arg4 : Memref sig .tc .vmem S8x1x352x1024 .bf16) (harg4 : arg4.IsWhole) (arg5 : Memref sig .tc .vmem S2816x1024 .f32) (harg5 : arg5.IsWhole)
  (x0 : Vec Ideal S1024x2816 .bf16) (x1 : Vec Ideal S1024x1024 .bf16) (xs0 : Vec Ideal S2816x1024 .f32)

/-- The scratch after the first block of rows. -/
theorem sA (hc0 : cond0_0 i) (hc1 : ¬cond0_1 i) :
    sout0_A_0 c i arg1 harg1 arg2 harg2 arg4 harg4 arg5 harg5 hc0 hc1 x0 x1 = k0_pay2 (F := Ideal) (k0_pay1 (F := Ideal)) x0 x1 := by
  unfold sout0_A_0 kernelRun0_A
  dsimp only
  sl_unfold_words
  refine (View.read_writes_full _ _ _ _ _).trans ?_
  exact congr (congr (congrArg _ (View.readCov_full _ _ _ _ _)) ((View.readAt_full _ _ _).trans (harg1.read_unread _))) ((View.readAt_full _ _ _).trans (harg2.read_unread _))

/-- The scratch after a later block of rows. -/
theorem sB (hc0 : ¬cond0_0 i) (hc1 : ¬cond0_1 i) :
    sout0_B_0 c i arg1 harg1 arg2 harg2 arg4 harg4 arg5 harg5 hc0 hc1 x0 x1 xs0 = k0_pay2 (F := Ideal) xs0 x0 x1 := by
  unfold sout0_B_0 kernelRun0_B
  dsimp only
  sl_unfold_words
  refine (View.read_writes_full _ _ _ _ _).trans ?_
  exact congr (congr (congrArg _ ((View.readAt_full _ _ _).trans (harg5.read_unread _))) ((View.readAt_full _ _ _).trans (harg1.read_unread _)))
    ((View.readAt_full _ _ _).trans (harg2.read_unread _))

/-- The block written back after the last block of rows. -/
theorem oC (hc0 : ¬cond0_0 i) (hc1 : cond0_1 i) :
    out0_C_2 c i arg1 harg1 arg2 harg2 arg4 harg4 arg5 harg5 hc0 hc1 x0 x1 xs0 = k0_pay3 (F := Ideal) (k0_pay2 (F := Ideal) xs0 x0 x1) := by
  unfold out0_C_2 kernelRun0_C
  dsimp only
  sl_unfold_words
  refine (View.read_writes_full _ _ _ _ _).trans (congrArg _ ((View.readCov_full _ _ _ _ _).trans ?_))
  exact congr (congr (congrArg _ ((View.readAt_full _ _ _).trans (harg5.read_unread _))) ((View.readAt_full _ _ _).trans (harg1.read_unread _)))
    ((View.readAt_full _ _ _).trans (harg2.read_unread _))
end

/-- One block of rows more. -/
theorem step {s : Vec Ideal S2816x1024 .f32} {x : Vec Ideal S1024x2816 .bf16} {y : Vec Ideal S1024x1024 .bf16} {p f g : ℕ → ℕ → EReal}
    (hs : Rx (n := 2816) (m := 1024) s p) (hx : Rx (n := 1024) (m := 2816) x f) (hy : Rx (n := 1024) (m := 1024) y g) :
    Rx (n := 2816) (m := 1024) (k0_pay2 (F := Ideal) s x y) (fun a b => p a b + ∑ j ∈ range 1024, f j a * g j b) := by
  unfold k0_pay2
  exact acc rfl rfl rfl rfl rfl rfl hs hx hy

/-- The block written back. -/
theorem out {s : Vec Ideal S2816x1024 .f32} {p : ℕ → ℕ → EReal} (hs : Rx (n := 2816) (m := 1024) s p) (y : (⟨4, ![8, 1, 352, 1024]⟩ : Shape).Idx) :
    k0_pay3 (F := Ideal) s y = p ((y 0).val * 352 + (y 2).val) (y 3).val := by
  unfold k0_pay3
  exact stack (q := 8) (r := 352) (m := 1024) rfl hs y

section
variable (m : (ℓ : Loc nD τ sig) → Buf (Elt Ideal) ℓ) (c : Dev nD)

/-- The entries of the first operand, by their numbers. -/
def A : ℕ → ℕ → EReal := ent (n := 4096) (m := 5632) (m ((c : Thread nD τ).loc main_arg0))
/-- The entries of the second operand, by their numbers. -/
def B : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0 ∧ win0_2.index t 3 = 0) :=
  (by decide +kernel : ∀ t : Fin grid0.N, _)

theorem blk0 (t : Fin cfg0.N) : Rx (n := 1024) (m := 2816) (iblk (F := Ideal) m c 0 t) (fun a b => A m c (t.val * 1024 + a) (0 * 2816 + b)) := by
  intro a b
  obtain ⟨⟨e0, e1⟩, -⟩ := pt t
  have ha := a.isLt
  have hb := b.isLt
  have ht : t.val < 4 := t.isLt
  refine Eq.trans ?_ (ent_rx (n := 4096) (m := 5632) (m ((c : Thread nD τ).loc main_arg0)) ⟨t.val * 1024 + a.val, by omega⟩ ⟨0 * 2816 + b.val, by omega⟩)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = t.val * 1024 + a.val; rw [e0]; omega
  | ⟨1, _⟩ => show win0_0.index t 1 * 2816 + 1 * b.val = 0 * 2816 + b.val; rw [e1]; omega

theorem blk1 (t : Fin cfg0.N) : Rx (n := 1024) (m := 1024) (iblk (F := Ideal) m c 1 t) (fun a b => B m c (t.val * 1024 + a) b) := by
  intro a b
  obtain ⟨-, ⟨e0, e1⟩, -⟩ := pt t
  have ha := a.isLt
  have ht : t.val < 4 := t.isLt
  refine Eq.trans ?_ (ent_rx (n := 4096) (m := 1024) (m ((c : Thread nD τ).loc main_arg1)) ⟨t.val * 1024 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 1024 + 1 * a.val = t.val * 1024 + a.val; rw [e0]; omega
  | ⟨1, _⟩ => show win0_1.index t 1 * 1024 + 1 * b.val = b.val; rw [e1]; omega

/-- The products of the rows at and below block `t`. -/
def part (t : ℕ) (a b : ℕ) : EReal := ∑ j ∈ range (t * 1024 + 1024), A m c j (0 * 2816 + a) * B m c j b

theorem sum_first (a b : ℕ) :
    (0 : EReal) + ∑ j ∈ range 1024, A m c (0 * 1024 + j) (0 * 2816 + a) * B m c (0 * 1024 + j) b = part m c 0 a b := by
  unfold part
  rw [zero_add]
  simp only [Nat.zero_mul, Nat.zero_add]

theorem sum_more (t a b : ℕ) :
    part m c t a b + ∑ j ∈ range 1024, A m c ((t + 1) * 1024 + j) (0 * 2816 + a) * B m c ((t + 1) * 1024 + j) b = part m c (t + 1) a b :=
  more (fun j => A m c j (0 * 2816 + a) * B m c j b) 1024 t

/-- The scratch after the first block of rows. -/
theorem first (t : Fin cfg0.N) (h0 : t.val % 4 = 0) (h1 : ¬t.val % 4 = 3) (ht : t.val = 0) :
    Rx (n := 2816) (m := 1024) (outsAt0 (F := Ideal) m c t.val t.isLt).2 (part m c 0) := by
  have hz : Rx (n := 2816) (m := 1024) (k0_pay1 (F := Ideal)) (fun _ _ => 0) := by unfold k0_pay1; exact zeros
  have hs := (step hz (blk0 m c t) (blk1 m c t)).congr (g := part m c 0) (fun a b => by rw [ht]; exact sum_first m c a b)
  have e := sA c (grid0.coords t) (ms0_0 t) (hs0_0 t) (ms0_1 t) (hs0_1 t) (ms0_2 t) (hs0_2 t) scM0_0 (Memref.isWhole_whole _) (iblk (F := Ideal) m c 0 t) (iblk (F := Ideal) m c 1 t)
    ((hcond0_0 t).mpr h0) (fun h => h1 ((hcond0_1 t).mp h))
  rw [← e] at hs
  rw [outsAt0_A m c t h0 h1]
  with_reducible exact hs

/-- The scratch after a later block of rows. -/
theorem later (t : Fin cfg0.N) (h0 : ¬t.val % 4 = 0) (h1 : ¬t.val % 4 = 3) {u : ℕ} (hu : t.val = u + 1)
    (h : Rx (n := 2816) (m := 1024) (outsAt0 (F := Ideal) m c (t.val - 1) (Nat.lt_of_le_of_lt (Nat.sub_le _ _) t.isLt)).2 (part m c u)) :
    Rx (n := 2816) (m := 1024) (outsAt0 (F := Ideal) m c t.val t.isLt).2 (part m c (u + 1)) := by
  have hs := (step h (blk0 m c t) (blk1 m c t)).congr (g := part m c (u + 1)) (fun a b => by rw [hu]; exact sum_more m c u a b)
  have e := sB c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) (fun h => h1 ((hcond0_1 t).mp h))
  rw [← e] at hs
  rw [outsAt0_B m c t h0 h1]
  with_reducible exact hs

theorem upTo : ∀ (n : ℕ) (hn : n < cfg0.N), n < 3 → Rx (n := 2816) (m := 1024) (outsAt0 (F := Ideal) m c n hn).2 (part m c n)
  | 0, hn, _ => first m c ⟨0, hn⟩ rfl (by show ¬0 % 4 = 3; omega) rfl
  | n + 1, hn, h3 => later m c ⟨n + 1, hn⟩ (by show ¬(n + 1) % 4 = 0; omega) (by show ¬(n + 1) % 4 = 3; omega) rfl
      (upTo n (Nat.lt_of_succ_lt hn) (Nat.lt_of_succ_lt h3))

/-- The block written back. -/
theorem last (t : Fin cfg0.N) (h0 : ¬t.val % 4 = 0) (h3 : t.val % 4 = 3) (ht : t.val = 2 + 1)
    (h : Rx (n := 2816) (m := 1024) (outsAt0 (F := Ideal) m c (t.val - 1) (Nat.lt_of_le_of_lt (Nat.sub_le _ _) t.isLt)).2 (part m c 2))
    (y : (⟨4, ![8, 1, 352, 1024]⟩ : Shape).Idx) :
    (outsAt0 (F := Ideal) m c t.val t.isLt).1 y = part m c 3 ((y 0).val * 352 + (y 2).val) (y 3).val := by
  have hs := (step h (blk0 m c t) (blk1 m c t)).congr (g := part m c 3) (fun a b => by rw [ht]; exact sum_more m c 2 a b)
  have e := oC c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) ((hcond0_1 t).mpr h3)
  have hy : k0_pay3 (F := Ideal) (k0_pay2 (F := Ideal) (outsAt0 (F := Ideal) m c (t.val - 1) (Nat.lt_of_le_of_lt (Nat.sub_le _ _) t.isLt)).2
      (iblk (F := Ideal) m c 0 t) (iblk (F := Ideal) m c 1 t)) y = part m c 3 ((y 0).val * 352 + (y 2).val) (y 3).val :=
    out hs y
  rw [← e] at hy
  rw [outsAt0_C m c t h0 h3]
  with_reducible exact hy

/-- The product, laid out. -/
def G : (⟨4, ![8, 3, 352, 1024]⟩ : Shape).Idx → EReal := prod4 4096 (fun t a => A m c t (0 * 2816 + a)) (B m c)

/-- The array the result goes into is the operand's. -/
theorem entry : V (F := Ideal) m c main_v0 = m ((c : Thread nD τ).loc main_arg2) := by
  rfl

/-- The array after the run. -/
theorem result : (dats (F := Ideal) m 0 c).arrAt 2 cfg0.N
    = upd (n := 8) (q := 3) (r := 352) (m := 1024) 4096 0 (fun t a => A m c t (0 * 2816 + a)) (B m c) (m ((c : Thread nD τ).loc main_arg2)) := by
  funext i
  refine ((dats (F := Ideal) m 0 c).arrAt_apply_of_coversWhere 2
    (G m c)
    (P := fun i : (⟨4, ![8, 3, 352, 1024]⟩ : Shape).Idx => (i 1).val = 0) (fun β => β (1 : Fin 4) = 0) (by decide +kernel) (fun t hf y => ?_) (fun j => ?_) i).trans ?_
  · have h3 : t.val = 3 := (by decide +kernel : ∀ t : Fin cfg0.N, (cfg0.win 2).flush t = true → t.val = 3) t hf
    have hB := last m c t (by omega) (by omega) (by omega) (by simp only [h3]; exact upTo m c 2 _ (by omega))
    blk_simp
    rw [after0_2]
    obtain ⟨-, -, ⟨e0, e1, e2, e3⟩⟩ := pt t
    refine (hB y).trans ?_
    have q0 : ((win0_2.blk t).view.emb y 0).val = (y 0).val := by show win0_2.index t 0 * 8 + 1 * (y 0).val = _; rw [e0]; omega
    have q2 : ((win0_2.blk t).view.emb y 2).val = (y 2).val := by show win0_2.index t 2 * 352 + 1 * (y 2).val = _; rw [e2]; omega
    have q3 : ((win0_2.blk t).view.emb y 3).val = (y 3).val := by show win0_2.index t 3 * 1024 + 1 * (y 3).val = _; rw [e3]; omega
    unfold G prod4 part
    rw [q0, q2, q3]
  · show (j 1).val = 0 ↔ (j 1).val / 1 = 0
    rw [Nat.div_one]
  · exact if_congr Iff.rfl rfl (congrFun ((A_eq m c 2).trans (entry m c)) i)
end

end Cert.Sb.GateRun
end
-- ==== Proof.GateRef.lean ====
/- The weight gradient of `Gate`, stated plainly: its values. -/
module

public import proofs.«01_k».proof.Proof.TnJoin
public import proofs.«01_k».proof.Proof.Gen.GateReferenceIdeal.Read
@[expose] public section
set_option maxRecDepth 16384
noncomputable section
namespace Cert.Sb.GateRef
open Idealize.ShloMosaic hiding ix0 ix1 ix2 ix3 ix4 eq_ix1 eq_ix2 eq_ix3 eq_ix4
open Idealize.ShloMosaic.ValueIdx Finset
open Cert.GateReferenceIdeal Cert.GateReferenceIdeal.Gen Cert.GateReferenceIdeal.Read Cert.Sb.Tn

variable (x0 : (⟨S4096x5632, .bf16⟩ : BufTy).Contents (Elt Ideal)) (x1 : (⟨S4096x1024, .bf16⟩ : BufTy).Contents (Elt Ideal))
variable (x2 : (⟨S8x3x352x1024, .bf16⟩ : BufTy).Contents (Elt Ideal))

/-- The product. -/
theorem prod : Rx (n := 2816) (m := 1024) (val_main_v7 (F := Ideal) x0 x1)
    (fun a b => ∑ t ∈ range 4096, ent (n := 4096) (m := 5632) x0 t (0 * 2816 + a) * ent (n := 4096) (m := 1024) x1 t b) := fun a b => by
  rw [val_main_v7_apply, val_main_v6_apply, val_main_v5_apply]
  refine Eq.trans ?_ (Fin.sum_univ_eq_sum_range (fun t => ent (n := 4096) (m := 5632) x0 t (0 * 2816 + a.val) * ent (n := 4096) (m := 1024) x1 t b.val) 4096)
  refine Finset.sum_congr rfl fun k _ => ?_
  have e1 : val_main_v2 (F := Ideal) x1 (ridx_main_v5 (idx_main_v6 (idx_main_v7 (ix2 a b))) k) = ent (n := 4096) (m := 1024) x1 k.val b.val := by
    rw [val_main_v2_apply]
    exact (ent_rx (n := 4096) (m := 1024) x1).at _
  have e0 : val_main_v4 (F := Ideal) x0 (lidx_main_v5 (idx_main_v6 (idx_main_v7 (ix2 a b))) k) = ent (n := 4096) (m := 5632) x0 k.val (0 * 2816 + a.val) := by
    rw [val_main_v4_apply, val_main_v0_apply]
    refine ((ent_rx (n := 4096) (m := 5632) x0).at _).trans (congrArg (ent (n := 4096) (m := 5632) x0 k.val) ?_)
    show a.val = 0 * 2816 + a.val
    omega
  rw [e0, e1]

/-- The product laid out, one slot. -/
theorem block (i : (⟨4, ![8, 1, 352, 1024]⟩ : Shape).Idx) : val_main_v9 (F := Ideal) x0 x1 i
    = ∑ t ∈ range 4096, ent (n := 4096) (m := 5632) x0 t (0 * 2816 + ((i 0).val * 352 + (i 2).val)) * ent (n := 4096) (m := 1024) x1 t (i 3).val := by
  unfold val_main_v9 val_main_v8
  exact lay (q := 8) (r := 352) (m := 1024) (N := 2816) rfl (prod x0 x1) i

/-- The array it leaves. -/
theorem result : val_main_v11 (F := Ideal) x0 x1 x2
    = upd (n := 8) (q := 3) (r := 352) (m := 1024) 4096 0 (fun t a => ent (n := 4096) (m := 5632) x0 t (0 * 2816 + a)) (ent (n := 4096) (m := 1024) x1) x2 := by
  funext i
  unfold upd prod4
  unfold val_main_v11
  have i1 : (i 1).val < 3 := (i 1).isLt
  refine (join12 (n := 8) (r := 352) (m := 1024) _ _ _ i).trans ?_
  by_cases p : (i 1).val = 0
  · rw [if_pos p, if_pos p, block]
    rfl
  · rw [if_neg p, if_neg p, val_main_v10_apply]
    exact slot_self (n := 8) (q := 3) (r := 352) (m := 1024) x2 i _ (⟨(i 1).val - 1, by omega⟩ : Fin 2) rfl
      (by show 1 + ((i 1).val - 1) = (i 1).val; omega) rfl rfl

end Cert.Sb.GateRef
end
-- ==== Proof.UpRun.lean ====
/- The weight-gradient kernel of `Up`: what its blocks of rows leave, and the array it leaves. -/
module

public import proofs.«01_k».proof.Proof.TnLib
public import proofs.«01_k».proof.Proof.Store
public import Idealize.ShloMosaic.Lib.Pipeline.ValueKit.Partial
public import proofs.«01_k».proof.Proof.Gen.UpIdeal.Value
@[expose] public section
set_option maxRecDepth 16384
noncomputable section
namespace Cert.Sb.UpRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.UpIdeal Cert.UpIdeal.Gen Cert.Sb.Tn

section
variable (c : Dev nD) (i : grid0.Coords)
  (arg1 : Memref sig .tc .vmem S1024x2816 .bf16) (harg1 : arg1.IsWhole) (arg2 : Memref sig .tc .vmem S1024x1024 .bf16) (harg2 : arg2.IsWhole)
  (arg4 : Memref sig .tc .vmem S8x1x352x1024 .bf16) (harg4 : arg4.IsWhole) (arg5 : Memref sig .tc .vmem S2816x1024 .f32) (harg5 : arg5.IsWhole)
  (x0 : Vec Ideal S1024x2816 .bf16) (x1 : Vec Ideal S1024x1024 .bf16) (xs0 : Vec Ideal S2816x1024 .f32)

/-- The scratch after the first block of rows. -/
theorem sA (hc0 : cond0_0 i) (hc1 : ¬cond0_1 i) :
    sout0_A_0 c i arg1 harg1 arg2 harg2 arg4 harg4 arg5 harg5 hc0 hc1 x0 x1 = k0_pay2 (F := Ideal) (k0_pay1 (F := Ideal)) x0 x1 := by
  unfold sout0_A_0 kernelRun0_A
  dsimp only
  sl_unfold_words
  refine (View.read_writes_full _ _ _ _ _).trans ?_
  exact congr (congr (congrArg _ (View.readCov_full _ _ _ _ _)) ((View.readAt_full _ _ _).trans (harg1.read_unread _))) ((View.readAt_full _ _ _).trans (harg2.read_unread _))

/-- The scratch after a later block of rows. -/
theorem sB (hc0 : ¬cond0_0 i) (hc1 : ¬cond0_1 i) :
    sout0_B_0 c i arg1 harg1 arg2 harg2 arg4 harg4 arg5 harg5 hc0 hc1 x0 x1 xs0 = k0_pay2 (F := Ideal) xs0 x0 x1 := by
  unfold sout0_B_0 kernelRun0_B
  dsimp only
  sl_unfold_words
  refine (View.read_writes_full _ _ _ _ _).trans ?_
  exact congr (congr (congrArg _ ((View.readAt_full _ _ _).trans (harg5.read_unread _))) ((View.readAt_full _ _ _).trans (harg1.read_unread _)))
    ((View.readAt_full _ _ _).trans (harg2.read_unread _))

/-- The block written back after the last block of rows. -/
theorem oC (hc0 : ¬cond0_0 i) (hc1 : cond0_1 i) :
    out0_C_2 c i arg1 harg1 arg2 harg2 arg4 harg4 arg5 harg5 hc0 hc1 x0 x1 xs0 = k0_pay3 (F := Ideal) (k0_pay2 (F := Ideal) xs0 x0 x1) := by
  unfold out0_C_2 kernelRun0_C
  dsimp only
  sl_unfold_words
  refine (View.read_writes_full _ _ _ _ _).trans (congrArg _ ((View.readCov_full _ _ _ _ _).trans ?_))
  exact congr (congr (congrArg _ ((View.readAt_full _ _ _).trans (harg5.read_unread _))) ((View.readAt_full _ _ _).trans (harg1.read_unread _)))
    ((View.readAt_full _ _ _).trans (harg2.read_unread _))
end

/-- One block of rows more. -/
theorem step {s : Vec Ideal S2816x1024 .f32} {x : Vec Ideal S1024x2816 .bf16} {y : Vec Ideal S1024x1024 .bf16} {p f g : ℕ → ℕ → EReal}
    (hs : Rx (n := 2816) (m := 1024) s p) (hx : Rx (n := 1024) (m := 2816) x f) (hy : Rx (n := 1024) (m := 1024) y g) :
    Rx (n := 2816) (m := 1024) (k0_pay2 (F := Ideal) s x y) (fun a b => p a b + ∑ j ∈ range 1024, f j a * g j b) := by
  unfold k0_pay2
  exact acc rfl rfl rfl rfl rfl rfl hs hx hy

/-- The block written back. -/
theorem out {s : Vec Ideal S2816x1024 .f32} {p : ℕ → ℕ → EReal} (hs : Rx (n := 2816) (m := 1024) s p) (y : (⟨4, ![8, 1, 352, 1024]⟩ : Shape).Idx) :
    k0_pay3 (F := Ideal) s y = p ((y 0).val * 352 + (y 2).val) (y 3).val := by
  unfold k0_pay3
  exact stack (q := 8) (r := 352) (m := 1024) rfl hs y

section
variable (m : (ℓ : Loc nD τ sig) → Buf (Elt Ideal) ℓ) (c : Dev nD)

/-- The entries of the first operand, by their numbers. -/
def A : ℕ → ℕ → EReal := ent (n := 4096) (m := 5632) (m ((c : Thread nD τ).loc main_arg0))
/-- The entries of the second operand, by their numbers. -/
def B : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 1) ∧ (win0_1.index t 0 = t.val ∧ win0_1.index t 1 = 0)
    ∧ (win0_2.index t 0 = 0 ∧ win0_2.index t 1 = 1 ∧ win0_2.index t 2 = 0 ∧ win0_2.index t 3 = 0) :=
  (by decide +kernel : ∀ t : Fin grid0.N, _)

theorem blk0 (t : Fin cfg0.N) : Rx (n := 1024) (m := 2816) (iblk (F := Ideal) m c 0 t) (fun a b => A m c (t.val * 1024 + a) (1 * 2816 + b)) := by
  intro a b
  obtain ⟨⟨e0, e1⟩, -⟩ := pt t
  have ha := a.isLt
  have hb := b.isLt
  have ht : t.val < 4 := t.isLt
  refine Eq.trans ?_ (ent_rx (n := 4096) (m := 5632) (m ((c : Thread nD τ).loc main_arg0)) ⟨t.val * 1024 + a.val, by omega⟩ ⟨1 * 2816 + b.val, by omega⟩)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = t.val * 1024 + a.val; rw [e0]; omega
  | ⟨1, _⟩ => show win0_0.index t 1 * 2816 + 1 * b.val = 1 * 2816 + b.val; rw [e1]; omega

theorem blk1 (t : Fin cfg0.N) : Rx (n := 1024) (m := 1024) (iblk (F := Ideal) m c 1 t) (fun a b => B m c (t.val * 1024 + a) b) := by
  intro a b
  obtain ⟨-, ⟨e0, e1⟩, -⟩ := pt t
  have ha := a.isLt
  have ht : t.val < 4 := t.isLt
  refine Eq.trans ?_ (ent_rx (n := 4096) (m := 1024) (m ((c : Thread nD τ).loc main_arg1)) ⟨t.val * 1024 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 1024 + 1 * a.val = t.val * 1024 + a.val; rw [e0]; omega
  | ⟨1, _⟩ => show win0_1.index t 1 * 1024 + 1 * b.val = b.val; rw [e1]; omega

/-- The products of the rows at and below block `t`. -/
def part (t : ℕ) (a b : ℕ) : EReal := ∑ j ∈ range (t * 1024 + 1024), A m c j (1 * 2816 + a) * B m c j b

theorem sum_first (a b : ℕ) :
    (0 : EReal) + ∑ j ∈ range 1024, A m c (0 * 1024 + j) (1 * 2816 + a) * B m c (0 * 1024 + j) b = part m c 0 a b := by
  unfold part
  rw [zero_add]
  simp only [Nat.zero_mul, Nat.zero_add]

theorem sum_more (t a b : ℕ) :
    part m c t a b + ∑ j ∈ range 1024, A m c ((t + 1) * 1024 + j) (1 * 2816 + a) * B m c ((t + 1) * 1024 + j) b = part m c (t + 1) a b :=
  more (fun j => A m c j (1 * 2816 + a) * B m c j b) 1024 t

/-- The scratch after the first block of rows. -/
theorem first (t : Fin cfg0.N) (h0 : t.val % 4 = 0) (h1 : ¬t.val % 4 = 3) (ht : t.val = 0) :
    Rx (n := 2816) (m := 1024) (outsAt0 (F := Ideal) m c t.val t.isLt).2 (part m c 0) := by
  have hz : Rx (n := 2816) (m := 1024) (k0_pay1 (F := Ideal)) (fun _ _ => 0) := by unfold k0_pay1; exact zeros
  have hs := (step hz (blk0 m c t) (blk1 m c t)).congr (g := part m c 0) (fun a b => by rw [ht]; exact sum_first m c a b)
  have e := sA c (grid0.coords t) (ms0_0 t) (hs0_0 t) (ms0_1 t) (hs0_1 t) (ms0_2 t) (hs0_2 t) scM0_0 (Memref.isWhole_whole _) (iblk (F := Ideal) m c 0 t) (iblk (F := Ideal) m c 1 t)
    ((hcond0_0 t).mpr h0) (fun h => h1 ((hcond0_1 t).mp h))
  rw [← e] at hs
  rw [outsAt0_A m c t h0 h1]
  with_reducible exact hs

/-- The scratch after a later block of rows. -/
theorem later (t : Fin cfg0.N) (h0 : ¬t.val % 4 = 0) (h1 : ¬t.val % 4 = 3) {u : ℕ} (hu : t.val = u + 1)
    (h : Rx (n := 2816) (m := 1024) (outsAt0 (F := Ideal) m c (t.val - 1) (Nat.lt_of_le_of_lt (Nat.sub_le _ _) t.isLt)).2 (part m c u)) :
    Rx (n := 2816) (m := 1024) (outsAt0 (F := Ideal) m c t.val t.isLt).2 (part m c (u + 1)) := by
  have hs := (step h (blk0 m c t) (blk1 m c t)).congr (g := part m c (u + 1)) (fun a b => by rw [hu]; exact sum_more m c u a b)
  have e := sB c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) (fun h => h1 ((hcond0_1 t).mp h))
  rw [← e] at hs
  rw [outsAt0_B m c t h0 h1]
  with_reducible exact hs

theorem upTo : ∀ (n : ℕ) (hn : n < cfg0.N), n < 3 → Rx (n := 2816) (m := 1024) (outsAt0 (F := Ideal) m c n hn).2 (part m c n)
  | 0, hn, _ => first m c ⟨0, hn⟩ rfl (by show ¬0 % 4 = 3; omega) rfl
  | n + 1, hn, h3 => later m c ⟨n + 1, hn⟩ (by show ¬(n + 1) % 4 = 0; omega) (by show ¬(n + 1) % 4 = 3; omega) rfl
      (upTo n (Nat.lt_of_succ_lt hn) (Nat.lt_of_succ_lt h3))

/-- The block written back. -/
theorem last (t : Fin cfg0.N) (h0 : ¬t.val % 4 = 0) (h3 : t.val % 4 = 3) (ht : t.val = 2 + 1)
    (h : Rx (n := 2816) (m := 1024) (outsAt0 (F := Ideal) m c (t.val - 1) (Nat.lt_of_le_of_lt (Nat.sub_le _ _) t.isLt)).2 (part m c 2))
    (y : (⟨4, ![8, 1, 352, 1024]⟩ : Shape).Idx) :
    (outsAt0 (F := Ideal) m c t.val t.isLt).1 y = part m c 3 ((y 0).val * 352 + (y 2).val) (y 3).val := by
  have hs := (step h (blk0 m c t) (blk1 m c t)).congr (g := part m c 3) (fun a b => by rw [ht]; exact sum_more m c 2 a b)
  have e := oC c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) ((hcond0_1 t).mpr h3)
  have hy : k0_pay3 (F := Ideal) (k0_pay2 (F := Ideal) (outsAt0 (F := Ideal) m c (t.val - 1) (Nat.lt_of_le_of_lt (Nat.sub_le _ _) t.isLt)).2
      (iblk (F := Ideal) m c 0 t) (iblk (F := Ideal) m c 1 t)) y = part m c 3 ((y 0).val * 352 + (y 2).val) (y 3).val :=
    out hs y
  rw [← e] at hy
  rw [outsAt0_C m c t h0 h3]
  with_reducible exact hy

/-- The product, laid out. -/
def G : (⟨4, ![8, 3, 352, 1024]⟩ : Shape).Idx → EReal := prod4 4096 (fun t a => A m c t (1 * 2816 + a)) (B m c)

/-- The array the result goes into is the operand's. -/
theorem entry : V (F := Ideal) m c main_v0 = m ((c : Thread nD τ).loc main_arg2) := by
  rfl

/-- The array after the run. -/
theorem result : (dats (F := Ideal) m 0 c).arrAt 2 cfg0.N
    = upd (n := 8) (q := 3) (r := 352) (m := 1024) 4096 1 (fun t a => A m c t (1 * 2816 + a)) (B m c) (m ((c : Thread nD τ).loc main_arg2)) := by
  funext i
  refine ((dats (F := Ideal) m 0 c).arrAt_apply_of_coversWhere 2
    (G m c)
    (P := fun i : (⟨4, ![8, 3, 352, 1024]⟩ : Shape).Idx => (i 1).val = 1) (fun β => β (1 : Fin 4) = 1) (by decide +kernel) (fun t hf y => ?_) (fun j => ?_) i).trans ?_
  · have h3 : t.val = 3 := (by decide +kernel : ∀ t : Fin cfg0.N, (cfg0.win 2).flush t = true → t.val = 3) t hf
    have hB := last m c t (by omega) (by omega) (by omega) (by simp only [h3]; exact upTo m c 2 _ (by omega))
    blk_simp
    rw [after0_2]
    obtain ⟨-, -, ⟨e0, e1, e2, e3⟩⟩ := pt t
    refine (hB y).trans ?_
    have q0 : ((win0_2.blk t).view.emb y 0).val = (y 0).val := by show win0_2.index t 0 * 8 + 1 * (y 0).val = _; rw [e0]; omega
    have q2 : ((win0_2.blk t).view.emb y 2).val = (y 2).val := by show win0_2.index t 2 * 352 + 1 * (y 2).val = _; rw [e2]; omega
    have q3 : ((win0_2.blk t).view.emb y 3).val = (y 3).val := by show win0_2.index t 3 * 1024 + 1 * (y 3).val = _; rw [e3]; omega
    unfold G prod4 part
    rw [q0, q2, q3]
  · show (j 1).val = 1 ↔ (j 1).val / 1 = 1
    rw [Nat.div_one]
  · exact if_congr Iff.rfl rfl (congrFun ((A_eq m c 2).trans (entry m c)) i)
end

end Cert.Sb.UpRun
end
-- ==== Proof.UpRef.lean ====
/- The weight gradient of `Up`, stated plainly: its values. -/
module

public import proofs.«01_k».proof.Proof.TnJoin
public import proofs.«01_k».proof.Proof.Gen.UpReferenceIdeal.Read
@[expose] public section
set_option maxRecDepth 16384
noncomputable section
namespace Cert.Sb.UpRef
open Idealize.ShloMosaic hiding ix0 ix1 ix2 ix3 ix4 eq_ix1 eq_ix2 eq_ix3 eq_ix4
open Idealize.ShloMosaic.ValueIdx Finset
open Cert.UpReferenceIdeal Cert.UpReferenceIdeal.Gen Cert.UpReferenceIdeal.Read Cert.Sb.Tn

variable (x0 : (⟨S4096x5632, .bf16⟩ : BufTy).Contents (Elt Ideal)) (x1 : (⟨S4096x1024, .bf16⟩ : BufTy).Contents (Elt Ideal))
variable (x2 : (⟨S8x3x352x1024, .bf16⟩ : BufTy).Contents (Elt Ideal))

/-- The product. -/
theorem prod : Rx (n := 2816) (m := 1024) (val_main_v7 (F := Ideal) x0 x1)
    (fun a b => ∑ t ∈ range 4096, ent (n := 4096) (m := 5632) x0 t (1 * 2816 + a) * ent (n := 4096) (m := 1024) x1 t b) := fun a b => by
  rw [val_main_v7_apply, val_main_v6_apply, val_main_v5_apply]
  refine Eq.trans ?_ (Fin.sum_univ_eq_sum_range (fun t => ent (n := 4096) (m := 5632) x0 t (1 * 2816 + a.val) * ent (n := 4096) (m := 1024) x1 t b.val) 4096)
  refine Finset.sum_congr rfl fun k _ => ?_
  have e1 : val_main_v2 (F := Ideal) x1 (ridx_main_v5 (idx_main_v6 (idx_main_v7 (ix2 a b))) k) = ent (n := 4096) (m := 1024) x1 k.val b.val := by
    rw [val_main_v2_apply]
    exact (ent_rx (n := 4096) (m := 1024) x1).at _
  have e0 : val_main_v4 (F := Ideal) x0 (lidx_main_v5 (idx_main_v6 (idx_main_v7 (ix2 a b))) k) = ent (n := 4096) (m := 5632) x0 k.val (1 * 2816 + a.val) := by
    rw [val_main_v4_apply, val_main_v0_apply]
    refine ((ent_rx (n := 4096) (m := 5632) x0).at _).trans (congrArg (ent (n := 4096) (m := 5632) x0 k.val) ?_)
    show 2816 + a.val = 1 * 2816 + a.val
    omega
  rw [e0, e1]

/-- The product laid out, one slot. -/
theorem block (i : (⟨4, ![8, 1, 352, 1024]⟩ : Shape).Idx) : val_main_v10 (F := Ideal) x0 x1 i
    = ∑ t ∈ range 4096, ent (n := 4096) (m := 5632) x0 t (1 * 2816 + ((i 0).val * 352 + (i 2).val)) * ent (n := 4096) (m := 1024) x1 t (i 3).val := by
  unfold val_main_v10 val_main_v8
  exact lay (q := 8) (r := 352) (m := 1024) (N := 2816) rfl (prod x0 x1) i

/-- The array it leaves. -/
theorem result : val_main_v12 (F := Ideal) x0 x1 x2
    = upd (n := 8) (q := 3) (r := 352) (m := 1024) 4096 1 (fun t a => ent (n := 4096) (m := 5632) x0 t (1 * 2816 + a)) (ent (n := 4096) (m := 1024) x1) x2 := by
  funext i
  unfold upd prod4
  unfold val_main_v12
  have i1 : (i 1).val < 3 := (i 1).isLt
  refine (join111 (n := 8) (r := 352) (m := 1024) _ _ _ _ i).trans ?_
  by_cases p : (i 1).val = 1
  · rw [if_pos p, if_pos p, block]
    rfl
  · rw [if_neg p, if_neg p]
    by_cases p' : (i 1).val = 0
    · rw [if_pos p', val_main_v9_apply]
      exact slot_self (n := 8) (q := 3) (r := 352) (m := 1024) x2 i _ (0 : Fin 1) rfl (by show 0 = (i 1).val; omega) rfl rfl
    · rw [if_neg p', val_main_v11_apply]
      exact slot_self (n := 8) (q := 3) (r := 352) (m := 1024) x2 i _ (0 : Fin 1) rfl (by show 2 + 0 = (i 1).val; omega) rfl rfl

end Cert.Sb.UpRef
end
-- ==== Proof.EvInRun.lean ====
/- The weight-gradient kernel of `EvIn`: what its blocks of rows leave, and the array it leaves. -/
module

public import proofs.«01_k».proof.Proof.TnLib
public import proofs.«01_k».proof.Proof.Store
public import Idealize.ShloMosaic.Lib.Pipeline.ValueKit.Partial
public import proofs.«01_k».proof.Proof.Gen.EvInIdeal.Value
@[expose] public section
set_option maxRecDepth 16384
noncomputable section
namespace Cert.Sb.EvInRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.EvInIdeal Cert.EvInIdeal.Gen Cert.Sb.Tn

section
variable (c : Dev nD) (i : grid0.Coords)
  (arg1 : Memref sig .tc .vmem S1024x3584 .bf16) (harg1 : arg1.IsWhole) (arg2 : Memref sig .tc .vmem S1024x1024 .bf16) (harg2 : arg2.IsWhole)
  (arg4 : Memref sig .tc .vmem S8x1x448x1024 .bf16) (harg4 : arg4.IsWhole) (arg5 : Memref sig .tc .vmem S3584x1024 .f32) (harg5 : arg5.IsWhole)
  (x0 : Vec Ideal S1024x3584 .bf16) (x1 : Vec Ideal S1024x1024 .bf16) (xs0 : Vec Ideal S3584x1024 .f32)

/-- The scratch after the first block of rows. -/
theorem sA (hc0 : cond0_0 i) (hc1 : ¬cond0_1 i) :
    sout0_A_0 c i arg1 harg1 arg2 harg2 arg4 harg4 arg5 harg5 hc0 hc1 x0 x1 = k0_pay2 (F := Ideal) (k0_pay1 (F := Ideal)) x0 x1 := by
  unfold sout0_A_0 kernelRun0_A
  dsimp only
  sl_unfold_words
  refine (View.read_writes_full _ _ _ _ _).trans ?_
  exact congr (congr (congrArg _ (View.readCov_full _ _ _ _ _)) ((View.readAt_full _ _ _).trans (harg1.read_unread _))) ((View.readAt_full _ _ _).trans (harg2.read_unread _))

/-- The scratch after a later block of rows. -/
theorem sB (hc0 : ¬cond0_0 i) (hc1 : ¬cond0_1 i) :
    sout0_B_0 c i arg1 harg1 arg2 harg2 arg4 harg4 arg5 harg5 hc0 hc1 x0 x1 xs0 = k0_pay2 (F := Ideal) xs0 x0 x1 := by
  unfold sout0_B_0 kernelRun0_B
  dsimp only
  sl_unfold_words
  refine (View.read_writes_full _ _ _ _ _).trans ?_
  exact congr (congr (congrArg _ ((View.readAt_full _ _ _).trans (harg5.read_unread _))) ((View.readAt_full _ _ _).trans (harg1.read_unread _)))
    ((View.readAt_full _ _ _).trans (harg2.read_unread _))

/-- The block written back after the last block of rows. -/
theorem oC (hc0 : ¬cond0_0 i) (hc1 : cond0_1 i) :
    out0_C_2 c i arg1 harg1 arg2 harg2 arg4 harg4 arg5 harg5 hc0 hc1 x0 x1 xs0 = k0_pay3 (F := Ideal) (k0_pay2 (F := Ideal) xs0 x0 x1) := by
  unfold out0_C_2 kernelRun0_C
  dsimp only
  sl_unfold_words
  refine (View.read_writes_full _ _ _ _ _).trans (congrArg _ ((View.readCov_full _ _ _ _ _).trans ?_))
  exact congr (congr (congrArg _ ((View.readAt_full _ _ _).trans (harg5.read_unread _))) ((View.readAt_full _ _ _).trans (harg1.read_unread _)))
    ((View.readAt_full _ _ _).trans (harg2.read_unread _))
end

/-- One block of rows more. -/
theorem step {s : Vec Ideal S3584x1024 .f32} {x : Vec Ideal S1024x3584 .bf16} {y : Vec Ideal S1024x1024 .bf16} {p f g : ℕ → ℕ → EReal}
    (hs : Rx (n := 3584) (m := 1024) s p) (hx : Rx (n := 1024) (m := 3584) x f) (hy : Rx (n := 1024) (m := 1024) y g) :
    Rx (n := 3584) (m := 1024) (k0_pay2 (F := Ideal) s x y) (fun a b => p a b + ∑ j ∈ range 1024, f j a * g j b) := by
  unfold k0_pay2
  exact acc rfl rfl rfl rfl rfl rfl hs hx hy

/-- The block written back. -/
theorem out {s : Vec Ideal S3584x1024 .f32} {p : ℕ → ℕ → EReal} (hs : Rx (n := 3584) (m := 1024) s p) (y : (⟨4, ![8, 1, 448, 1024]⟩ : Shape).Idx) :
    k0_pay3 (F := Ideal) s y = p ((y 0).val * 448 + (y 2).val) (y 3).val := by
  unfold k0_pay3
  exact stack (q := 8) (r := 448) (m := 1024) rfl hs y

section
variable (m : (ℓ : Loc nD τ sig) → Buf (Elt Ideal) ℓ) (c : Dev nD)

/-- The entries of the first operand, by their numbers. -/
def A : ℕ → ℕ → EReal := ent (n := 4096) (m := 3584) (m ((c : Thread nD τ).loc main_arg0))
/-- The entries of the second operand, by their numbers. -/
def B : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0 ∧ win0_2.index t 3 = 0) :=
  (by decide +kernel : ∀ t : Fin grid0.N, _)

theorem blk0 (t : Fin cfg0.N) : Rx (n := 1024) (m := 3584) (iblk (F := Ideal) m c 0 t) (fun a b => A m c (t.val * 1024 + a) (0 * 3584 + b)) := by
  intro a b
  obtain ⟨⟨e0, e1⟩, -⟩ := pt t
  have ha := a.isLt
  have hb := b.isLt
  have ht : t.val < 4 := t.isLt
  refine Eq.trans ?_ (ent_rx (n := 4096) (m := 3584) (m ((c : Thread nD τ).loc main_arg0)) ⟨t.val * 1024 + a.val, by omega⟩ ⟨0 * 3584 + b.val, by omega⟩)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = t.val * 1024 + a.val; rw [e0]; omega
  | ⟨1, _⟩ => show win0_0.index t 1 * 3584 + 1 * b.val = 0 * 3584 + b.val; rw [e1]; omega

theorem blk1 (t : Fin cfg0.N) : Rx (n := 1024) (m := 1024) (iblk (F := Ideal) m c 1 t) (fun a b => B m c (t.val * 1024 + a) b) := by
  intro a b
  obtain ⟨-, ⟨e0, e1⟩, -⟩ := pt t
  have ha := a.isLt
  have ht : t.val < 4 := t.isLt
  refine Eq.trans ?_ (ent_rx (n := 4096) (m := 1024) (m ((c : Thread nD τ).loc main_arg1)) ⟨t.val * 1024 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 1024 + 1 * a.val = t.val * 1024 + a.val; rw [e0]; omega
  | ⟨1, _⟩ => show win0_1.index t 1 * 1024 + 1 * b.val = b.val; rw [e1]; omega

/-- The products of the rows at and below block `t`. -/
def part (t : ℕ) (a b : ℕ) : EReal := ∑ j ∈ range (t * 1024 + 1024), A m c j (0 * 3584 + a) * B m c j b

theorem sum_first (a b : ℕ) :
    (0 : EReal) + ∑ j ∈ range 1024, A m c (0 * 1024 + j) (0 * 3584 + a) * B m c (0 * 1024 + j) b = part m c 0 a b := by
  unfold part
  rw [zero_add]
  simp only [Nat.zero_mul, Nat.zero_add]

theorem sum_more (t a b : ℕ) :
    part m c t a b + ∑ j ∈ range 1024, A m c ((t + 1) * 1024 + j) (0 * 3584 + a) * B m c ((t + 1) * 1024 + j) b = part m c (t + 1) a b :=
  more (fun j => A m c j (0 * 3584 + a) * B m c j b) 1024 t

/-- The scratch after the first block of rows. -/
theorem first (t : Fin cfg0.N) (h0 : t.val % 4 = 0) (h1 : ¬t.val % 4 = 3) (ht : t.val = 0) :
    Rx (n := 3584) (m := 1024) (outsAt0 (F := Ideal) m c t.val t.isLt).2 (part m c 0) := by
  have hz : Rx (n := 3584) (m := 1024) (k0_pay1 (F := Ideal)) (fun _ _ => 0) := by unfold k0_pay1; exact zeros
  have hs := (step hz (blk0 m c t) (blk1 m c t)).congr (g := part m c 0) (fun a b => by rw [ht]; exact sum_first m c a b)
  have e := sA c (grid0.coords t) (ms0_0 t) (hs0_0 t) (ms0_1 t) (hs0_1 t) (ms0_2 t) (hs0_2 t) scM0_0 (Memref.isWhole_whole _) (iblk (F := Ideal) m c 0 t) (iblk (F := Ideal) m c 1 t)
    ((hcond0_0 t).mpr h0) (fun h => h1 ((hcond0_1 t).mp h))
  rw [← e] at hs
  rw [outsAt0_A m c t h0 h1]
  with_reducible exact hs

/-- The scratch after a later block of rows. -/
theorem later (t : Fin cfg0.N) (h0 : ¬t.val % 4 = 0) (h1 : ¬t.val % 4 = 3) {u : ℕ} (hu : t.val = u + 1)
    (h : Rx (n := 3584) (m := 1024) (outsAt0 (F := Ideal) m c (t.val - 1) (Nat.lt_of_le_of_lt (Nat.sub_le _ _) t.isLt)).2 (part m c u)) :
    Rx (n := 3584) (m := 1024) (outsAt0 (F := Ideal) m c t.val t.isLt).2 (part m c (u + 1)) := by
  have hs := (step h (blk0 m c t) (blk1 m c t)).congr (g := part m c (u + 1)) (fun a b => by rw [hu]; exact sum_more m c u a b)
  have e := sB c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) (fun h => h1 ((hcond0_1 t).mp h))
  rw [← e] at hs
  rw [outsAt0_B m c t h0 h1]
  with_reducible exact hs

theorem upTo : ∀ (n : ℕ) (hn : n < cfg0.N), n < 3 → Rx (n := 3584) (m := 1024) (outsAt0 (F := Ideal) m c n hn).2 (part m c n)
  | 0, hn, _ => first m c ⟨0, hn⟩ rfl (by show ¬0 % 4 = 3; omega) rfl
  | n + 1, hn, h3 => later m c ⟨n + 1, hn⟩ (by show ¬(n + 1) % 4 = 0; omega) (by show ¬(n + 1) % 4 = 3; omega) rfl
      (upTo n (Nat.lt_of_succ_lt hn) (Nat.lt_of_succ_lt h3))

/-- The block written back. -/
theorem last (t : Fin cfg0.N) (h0 : ¬t.val % 4 = 0) (h3 : t.val % 4 = 3) (ht : t.val = 2 + 1)
    (h : Rx (n := 3584) (m := 1024) (outsAt0 (F := Ideal) m c (t.val - 1) (Nat.lt_of_le_of_lt (Nat.sub_le _ _) t.isLt)).2 (part m c 2))
    (y : (⟨4, ![8, 1, 448, 1024]⟩ : Shape).Idx) :
    (outsAt0 (F := Ideal) m c t.val t.isLt).1 y = part m c 3 ((y 0).val * 448 + (y 2).val) (y 3).val := by
  have hs := (step h (blk0 m c t) (blk1 m c t)).congr (g := part m c 3) (fun a b => by rw [ht]; exact sum_more m c 2 a b)
  have e := oC c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) ((hcond0_1 t).mpr h3)
  have hy : k0_pay3 (F := Ideal) (k0_pay2 (F := Ideal) (outsAt0 (F := Ideal) m c (t.val - 1) (Nat.lt_of_le_of_lt (Nat.sub_le _ _) t.isLt)).2
      (iblk (F := Ideal) m c 0 t) (iblk (F := Ideal) m c 1 t)) y = part m c 3 ((y 0).val * 448 + (y 2).val) (y 3).val :=
    out hs y
  rw [← e] at hy
  rw [outsAt0_C m c t h0 h3]
  with_reducible exact hy

/-- The product, laid out. -/
def G : (⟨4, ![8, 1, 448, 1024]⟩ : Shape).Idx → EReal := prod4 4096 (fun t a => A m c t (0 * 3584 + a)) (B m c)

/-- The array the result goes into is the operand's. -/
theorem entry : V (F := Ideal) m c main_v0 = m ((c : Thread nD τ).loc main_arg2) := by
  rfl

/-- The array after the run. -/
theorem result : (dats (F := Ideal) m 0 c).arrAt 2 cfg0.N
    = upd (n := 8) (q := 1) (r := 448) (m := 1024) 4096 0 (fun t a => A m c t (0 * 3584 + a)) (B m c) (m ((c : Thread nD τ).loc main_arg2)) := by
  funext i
  refine ((dats (F := Ideal) m 0 c).arrAt_apply_of_coversWhere 2
    (G m c)
    (P := fun i : (⟨4, ![8, 1, 448, 1024]⟩ : Shape).Idx => (i 1).val = 0) (fun β => β (1 : Fin 4) = 0) (by decide +kernel) (fun t hf y => ?_) (fun j => ?_) i).trans ?_
  · have h3 : t.val = 3 := (by decide +kernel : ∀ t : Fin cfg0.N, (cfg0.win 2).flush t = true → t.val = 3) t hf
    have hB := last m c t (by omega) (by omega) (by omega) (by simp only [h3]; exact upTo m c 2 _ (by omega))
    blk_simp
    rw [after0_2]
    obtain ⟨-, -, ⟨e0, e1, e2, e3⟩⟩ := pt t
    refine (hB y).trans ?_
    have q0 : ((win0_2.blk t).view.emb y 0).val = (y 0).val := by show win0_2.index t 0 * 8 + 1 * (y 0).val = _; rw [e0]; omega
    have q2 : ((win0_2.blk t).view.emb y 2).val = (y 2).val := by show win0_2.index t 2 * 448 + 1 * (y 2).val = _; rw [e2]; omega
    have q3 : ((win0_2.blk t).view.emb y 3).val = (y 3).val := by show win0_2.index t 3 * 1024 + 1 * (y 3).val = _; rw [e3]; omega
    unfold G prod4 part
    rw [q0, q2, q3]
  · show (j 1).val = 0 ↔ (j 1).val / 1 = 0
    rw [Nat.div_one]
  · exact if_congr Iff.rfl rfl (congrFun ((A_eq m c 2).trans (entry m c)) i)
end

end Cert.Sb.EvInRun
end
-- ==== Proof.EvInRef.lean ====
/- The weight gradient of `EvIn`, stated plainly: its values. -/
module

public import proofs.«01_k».proof.Proof.TnJoin
public import proofs.«01_k».proof.Proof.Gen.EvInReferenceIdeal.Read
@[expose] public section
set_option maxRecDepth 16384
noncomputable section
namespace Cert.Sb.EvInRef
open Idealize.ShloMosaic hiding ix0 ix1 ix2 ix3 ix4 eq_ix1 eq_ix2 eq_ix3 eq_ix4
open Idealize.ShloMosaic.ValueIdx Finset
open Cert.EvInReferenceIdeal Cert.EvInReferenceIdeal.Gen Cert.EvInReferenceIdeal.Read Cert.Sb.Tn

variable (x0 : (⟨S4096x3584, .bf16⟩ : BufTy).Contents (Elt Ideal)) (x1 : (⟨S4096x1024, .bf16⟩ : BufTy).Contents (Elt Ideal))

/-- The product. -/
theorem prod : Rx (n := 3584) (m := 1024) (val_main_v6 (F := Ideal) x0 x1)
    (fun a b => ∑ t ∈ range 4096, ent (n := 4096) (m := 3584) x0 t (0 * 3584 + a) * ent (n := 4096) (m := 1024) x1 t b) := fun a b => by
  rw [val_main_v6_apply, val_main_v5_apply, val_main_v4_apply]
  refine Eq.trans ?_ (Fin.sum_univ_eq_sum_range (fun t => ent (n := 4096) (m := 3584) x0 t (0 * 3584 + a.val) * ent (n := 4096) (m := 1024) x1 t b.val) 4096)
  refine Finset.sum_congr rfl fun k _ => ?_
  have e1 : val_main_v1 (F := Ideal) x1 (ridx_main_v4 (idx_main_v5 (idx_main_v6 (ix2 a b))) k) = ent (n := 4096) (m := 1024) x1 k.val b.val := by
    rw [val_main_v1_apply]
    exact (ent_rx (n := 4096) (m := 1024) x1).at _
  have e0 : val_main_v3 (F := Ideal) x0 (lidx_main_v4 (idx_main_v5 (idx_main_v6 (ix2 a b))) k) = ent (n := 4096) (m := 3584) x0 k.val (0 * 3584 + a.val) := by
    rw [val_main_v3_apply]
    refine ((ent_rx (n := 4096) (m := 3584) x0).at _).trans (congrArg (ent (n := 4096) (m := 3584) x0 k.val) ?_)
    show a.val = 0 * 3584 + a.val
    omega
  rw [e0, e1]

/-- The product laid out, one slot. -/
theorem block (i : (⟨4, ![8, 1, 448, 1024]⟩ : Shape).Idx) : val_main_v8 (F := Ideal) x0 x1 i
    = ∑ t ∈ range 4096, ent (n := 4096) (m := 3584) x0 t (0 * 3584 + ((i 0).val * 448 + (i 2).val)) * ent (n := 4096) (m := 1024) x1 t (i 3).val := by
  unfold val_main_v8 val_main_v7
  exact lay (q := 8) (r := 448) (m := 1024) (N := 3584) rfl (prod x0 x1) i

/-- The array it leaves. -/
theorem result (x2 : (⟨4, ![8, 1, 448, 1024]⟩ : Shape).Idx → EReal) : val_main_v8 (F := Ideal) x0 x1
    = upd (n := 8) (q := 1) (r := 448) (m := 1024) 4096 0 (fun t a => ent (n := 4096) (m := 3584) x0 t (0 * 3584 + a)) (ent (n := 4096) (m := 1024) x1) x2 := by
  funext i
  unfold upd prod4
  have i1 : (i 1).val < 1 := (i 1).isLt
  rw [if_pos (by omega), block]

end Cert.Sb.EvInRef
end
-- ==== Proof.OdInRun.lean ====
/- The weight-gradient kernel of `OdIn`: what its blocks of rows leave, and the array it leaves. -/
module

public import proofs.«01_k».proof.Proof.TnLib
public import proofs.«01_k».proof.Proof.Store
public import Idealize.ShloMosaic.Lib.Pipeline.ValueKit.Partial
public import proofs.«01_k».proof.Proof.Gen.OdInIdeal.Value
@[expose] public section
set_option maxRecDepth 16384
noncomputable section
namespace Cert.Sb.OdInRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.OdInIdeal Cert.OdInIdeal.Gen Cert.Sb.Tn

section
variable (c : Dev nD) (i : grid0.Coords)
  (arg1 : Memref sig .tc .vmem S1024x3072 .bf16) (harg1 : arg1.IsWhole) (arg2 : Memref sig .tc .vmem S1024x1024 .bf16) (harg2 : arg2.IsWhole)
  (arg4 : Memref sig .tc .vmem S8x1x384x1024 .bf16) (harg4 : arg4.IsWhole) (arg5 : Memref sig .tc .vmem S3072x1024 .f32) (harg5 : arg5.IsWhole)
  (x0 : Vec Ideal S1024x3072 .bf16) (x1 : Vec Ideal S1024x1024 .bf16) (xs0 : Vec Ideal S3072x1024 .f32)

/-- The scratch after the first block of rows. -/
theorem sA (hc0 : cond0_0 i) (hc1 : ¬cond0_1 i) :
    sout0_A_0 c i arg1 harg1 arg2 harg2 arg4 harg4 arg5 harg5 hc0 hc1 x0 x1 = k0_pay2 (F := Ideal) (k0_pay1 (F := Ideal)) x0 x1 := by
  unfold sout0_A_0 kernelRun0_A
  dsimp only
  sl_unfold_words
  refine (View.read_writes_full _ _ _ _ _).trans ?_
  exact congr (congr (congrArg _ (View.readCov_full _ _ _ _ _)) ((View.readAt_full _ _ _).trans (harg1.read_unread _))) ((View.readAt_full _ _ _).trans (harg2.read_unread _))

/-- The scratch after a later block of rows. -/
theorem sB (hc0 : ¬cond0_0 i) (hc1 : ¬cond0_1 i) :
    sout0_B_0 c i arg1 harg1 arg2 harg2 arg4 harg4 arg5 harg5 hc0 hc1 x0 x1 xs0 = k0_pay2 (F := Ideal) xs0 x0 x1 := by
  unfold sout0_B_0 kernelRun0_B
  dsimp only
  sl_unfold_words
  refine (View.read_writes_full _ _ _ _ _).trans ?_
  exact congr (congr (congrArg _ ((View.readAt_full _ _ _).trans (harg5.read_unread _))) ((View.readAt_full _ _ _).trans (harg1.read_unread _)))
    ((View.readAt_full _ _ _).trans (harg2.read_unread _))

/-- The block written back after the last block of rows. -/
theorem oC (hc0 : ¬cond0_0 i) (hc1 : cond0_1 i) :
    out0_C_2 c i arg1 harg1 arg2 harg2 arg4 harg4 arg5 harg5 hc0 hc1 x0 x1 xs0 = k0_pay3 (F := Ideal) (k0_pay2 (F := Ideal) xs0 x0 x1) := by
  unfold out0_C_2 kernelRun0_C
  dsimp only
  sl_unfold_words
  refine (View.read_writes_full _ _ _ _ _).trans (congrArg _ ((View.readCov_full _ _ _ _ _).trans ?_))
  exact congr (congr (congrArg _ ((View.readAt_full _ _ _).trans (harg5.read_unread _))) ((View.readAt_full _ _ _).trans (harg1.read_unread _)))
    ((View.readAt_full _ _ _).trans (harg2.read_unread _))
end

/-- One block of rows more. -/
theorem step {s : Vec Ideal S3072x1024 .f32} {x : Vec Ideal S1024x3072 .bf16} {y : Vec Ideal S1024x1024 .bf16} {p f g : ℕ → ℕ → EReal}
    (hs : Rx (n := 3072) (m := 1024) s p) (hx : Rx (n := 1024) (m := 3072) x f) (hy : Rx (n := 1024) (m := 1024) y g) :
    Rx (n := 3072) (m := 1024) (k0_pay2 (F := Ideal) s x y) (fun a b => p a b + ∑ j ∈ range 1024, f j a * g j b) := by
  unfold k0_pay2
  exact acc rfl rfl rfl rfl rfl rfl hs hx hy

/-- The block written back. -/
theorem out {s : Vec Ideal S3072x1024 .f32} {p : ℕ → ℕ → EReal} (hs : Rx (n := 3072) (m := 1024) s p) (y : (⟨4, ![8, 1, 384, 1024]⟩ : Shape).Idx) :
    k0_pay3 (F := Ideal) s y = p ((y 0).val * 384 + (y 2).val) (y 3).val := by
  unfold k0_pay3
  exact stack (q := 8) (r := 384) (m := 1024) rfl hs y

section
variable (m : (ℓ : Loc nD τ sig) → Buf (Elt Ideal) ℓ) (c : Dev nD)

/-- The entries of the first operand, by their numbers. -/
def A : ℕ → ℕ → EReal := ent (n := 4096) (m := 3072) (m ((c : Thread nD τ).loc main_arg0))
/-- The entries of the second operand, by their numbers. -/
def B : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0 ∧ win0_2.index t 3 = 0) :=
  (by decide +kernel : ∀ t : Fin grid0.N, _)

theorem blk0 (t : Fin cfg0.N) : Rx (n := 1024) (m := 3072) (iblk (F := Ideal) m c 0 t) (fun a b => A m c (t.val * 1024 + a) (0 * 3072 + b)) := by
  intro a b
  obtain ⟨⟨e0, e1⟩, -⟩ := pt t
  have ha := a.isLt
  have hb := b.isLt
  have ht : t.val < 4 := t.isLt
  refine Eq.trans ?_ (ent_rx (n := 4096) (m := 3072) (m ((c : Thread nD τ).loc main_arg0)) ⟨t.val * 1024 + a.val, by omega⟩ ⟨0 * 3072 + b.val, by omega⟩)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = t.val * 1024 + a.val; rw [e0]; omega
  | ⟨1, _⟩ => show win0_0.index t 1 * 3072 + 1 * b.val = 0 * 3072 + b.val; rw [e1]; omega

theorem blk1 (t : Fin cfg0.N) : Rx (n := 1024) (m := 1024) (iblk (F := Ideal) m c 1 t) (fun a b => B m c (t.val * 1024 + a) b) := by
  intro a b
  obtain ⟨-, ⟨e0, e1⟩, -⟩ := pt t
  have ha := a.isLt
  have ht : t.val < 4 := t.isLt
  refine Eq.trans ?_ (ent_rx (n := 4096) (m := 1024) (m ((c : Thread nD τ).loc main_arg1)) ⟨t.val * 1024 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 1024 + 1 * a.val = t.val * 1024 + a.val; rw [e0]; omega
  | ⟨1, _⟩ => show win0_1.index t 1 * 1024 + 1 * b.val = b.val; rw [e1]; omega

/-- The products of the rows at and below block `t`. -/
def part (t : ℕ) (a b : ℕ) : EReal := ∑ j ∈ range (t * 1024 + 1024), A m c j (0 * 3072 + a) * B m c j b

theorem sum_first (a b : ℕ) :
    (0 : EReal) + ∑ j ∈ range 1024, A m c (0 * 1024 + j) (0 * 3072 + a) * B m c (0 * 1024 + j) b = part m c 0 a b := by
  unfold part
  rw [zero_add]
  simp only [Nat.zero_mul, Nat.zero_add]

theorem sum_more (t a b : ℕ) :
    part m c t a b + ∑ j ∈ range 1024, A m c ((t + 1) * 1024 + j) (0 * 3072 + a) * B m c ((t + 1) * 1024 + j) b = part m c (t + 1) a b :=
  more (fun j => A m c j (0 * 3072 + a) * B m c j b) 1024 t

/-- The scratch after the first block of rows. -/
theorem first (t : Fin cfg0.N) (h0 : t.val % 4 = 0) (h1 : ¬t.val % 4 = 3) (ht : t.val = 0) :
    Rx (n := 3072) (m := 1024) (outsAt0 (F := Ideal) m c t.val t.isLt).2 (part m c 0) := by
  have hz : Rx (n := 3072) (m := 1024) (k0_pay1 (F := Ideal)) (fun _ _ => 0) := by unfold k0_pay1; exact zeros
  have hs := (step hz (blk0 m c t) (blk1 m c t)).congr (g := part m c 0) (fun a b => by rw [ht]; exact sum_first m c a b)
  have e := sA c (grid0.coords t) (ms0_0 t) (hs0_0 t) (ms0_1 t) (hs0_1 t) (ms0_2 t) (hs0_2 t) scM0_0 (Memref.isWhole_whole _) (iblk (F := Ideal) m c 0 t) (iblk (F := Ideal) m c 1 t)
    ((hcond0_0 t).mpr h0) (fun h => h1 ((hcond0_1 t).mp h))
  rw [← e] at hs
  rw [outsAt0_A m c t h0 h1]
  with_reducible exact hs

/-- The scratch after a later block of rows. -/
theorem later (t : Fin cfg0.N) (h0 : ¬t.val % 4 = 0) (h1 : ¬t.val % 4 = 3) {u : ℕ} (hu : t.val = u + 1)
    (h : Rx (n := 3072) (m := 1024) (outsAt0 (F := Ideal) m c (t.val - 1) (Nat.lt_of_le_of_lt (Nat.sub_le _ _) t.isLt)).2 (part m c u)) :
    Rx (n := 3072) (m := 1024) (outsAt0 (F := Ideal) m c t.val t.isLt).2 (part m c (u + 1)) := by
  have hs := (step h (blk0 m c t) (blk1 m c t)).congr (g := part m c (u + 1)) (fun a b => by rw [hu]; exact sum_more m c u a b)
  have e := sB c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) (fun h => h1 ((hcond0_1 t).mp h))
  rw [← e] at hs
  rw [outsAt0_B m c t h0 h1]
  with_reducible exact hs

theorem upTo : ∀ (n : ℕ) (hn : n < cfg0.N), n < 3 → Rx (n := 3072) (m := 1024) (outsAt0 (F := Ideal) m c n hn).2 (part m c n)
  | 0, hn, _ => first m c ⟨0, hn⟩ rfl (by show ¬0 % 4 = 3; omega) rfl
  | n + 1, hn, h3 => later m c ⟨n + 1, hn⟩ (by show ¬(n + 1) % 4 = 0; omega) (by show ¬(n + 1) % 4 = 3; omega) rfl
      (upTo n (Nat.lt_of_succ_lt hn) (Nat.lt_of_succ_lt h3))

/-- The block written back. -/
theorem last (t : Fin cfg0.N) (h0 : ¬t.val % 4 = 0) (h3 : t.val % 4 = 3) (ht : t.val = 2 + 1)
    (h : Rx (n := 3072) (m := 1024) (outsAt0 (F := Ideal) m c (t.val - 1) (Nat.lt_of_le_of_lt (Nat.sub_le _ _) t.isLt)).2 (part m c 2))
    (y : (⟨4, ![8, 1, 384, 1024]⟩ : Shape).Idx) :
    (outsAt0 (F := Ideal) m c t.val t.isLt).1 y = part m c 3 ((y 0).val * 384 + (y 2).val) (y 3).val := by
  have hs := (step h (blk0 m c t) (blk1 m c t)).congr (g := part m c 3) (fun a b => by rw [ht]; exact sum_more m c 2 a b)
  have e := oC c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) ((hcond0_1 t).mpr h3)
  have hy : k0_pay3 (F := Ideal) (k0_pay2 (F := Ideal) (outsAt0 (F := Ideal) m c (t.val - 1) (Nat.lt_of_le_of_lt (Nat.sub_le _ _) t.isLt)).2
      (iblk (F := Ideal) m c 0 t) (iblk (F := Ideal) m c 1 t)) y = part m c 3 ((y 0).val * 384 + (y 2).val) (y 3).val :=
    out hs y
  rw [← e] at hy
  rw [outsAt0_C m c t h0 h3]
  with_reducible exact hy

/-- The product, laid out. -/
def G : (⟨4, ![8, 1, 384, 1024]⟩ : Shape).Idx → EReal := prod4 4096 (fun t a => A m c t (0 * 3072 + a)) (B m c)

/-- The array the result goes into is the operand's. -/
theorem entry : V (F := Ideal) m c main_v0 = m ((c : Thread nD τ).loc main_arg2) := by
  rfl

/-- The array after the run. -/
theorem result : (dats (F := Ideal) m 0 c).arrAt 2 cfg0.N
    = upd (n := 8) (q := 1) (r := 384) (m := 1024) 4096 0 (fun t a => A m c t (0 * 3072 + a)) (B m c) (m ((c : Thread nD τ).loc main_arg2)) := by
  funext i
  refine ((dats (F := Ideal) m 0 c).arrAt_apply_of_coversWhere 2
    (G m c)
    (P := fun i : (⟨4, ![8, 1, 384, 1024]⟩ : Shape).Idx => (i 1).val = 0) (fun β => β (1 : Fin 4) = 0) (by decide +kernel) (fun t hf y => ?_) (fun j => ?_) i).trans ?_
  · have h3 : t.val = 3 := (by decide +kernel : ∀ t : Fin cfg0.N, (cfg0.win 2).flush t = true → t.val = 3) t hf
    have hB := last m c t (by omega) (by omega) (by omega) (by simp only [h3]; exact upTo m c 2 _ (by omega))
    blk_simp
    rw [after0_2]
    obtain ⟨-, -, ⟨e0, e1, e2, e3⟩⟩ := pt t
    refine (hB y).trans ?_
    have q0 : ((win0_2.blk t).view.emb y 0).val = (y 0).val := by show win0_2.index t 0 * 8 + 1 * (y 0).val = _; rw [e0]; omega
    have q2 : ((win0_2.blk t).view.emb y 2).val = (y 2).val := by show win0_2.index t 2 * 384 + 1 * (y 2).val = _; rw [e2]; omega
    have q3 : ((win0_2.blk t).view.emb y 3).val = (y 3).val := by show win0_2.index t 3 * 1024 + 1 * (y 3).val = _; rw [e3]; omega
    unfold G prod4 part
    rw [q0, q2, q3]
  · show (j 1).val = 0 ↔ (j 1).val / 1 = 0
    rw [Nat.div_one]
  · exact if_congr Iff.rfl rfl (congrFun ((A_eq m c 2).trans (entry m c)) i)
end

end Cert.Sb.OdInRun
end
-- ==== Proof.OdInRef.lean ====
/- The weight gradient of `OdIn`, stated plainly: its values. -/
module

public import proofs.«01_k».proof.Proof.TnJoin
public import proofs.«01_k».proof.Proof.Gen.OdInReferenceIdeal.Read
@[expose] public section
set_option maxRecDepth 16384
noncomputable section
namespace Cert.Sb.OdInRef
open Idealize.ShloMosaic hiding ix0 ix1 ix2 ix3 ix4 eq_ix1 eq_ix2 eq_ix3 eq_ix4
open Idealize.ShloMosaic.ValueIdx Finset
open Cert.OdInReferenceIdeal Cert.OdInReferenceIdeal.Gen Cert.OdInReferenceIdeal.Read Cert.Sb.Tn

variable (x0 : (⟨S4096x3072, .bf16⟩ : BufTy).Contents (Elt Ideal)) (x1 : (⟨S4096x1024, .bf16⟩ : BufTy).Contents (Elt Ideal))

/-- The product. -/
theorem prod : Rx (n := 3072) (m := 1024) (val_main_v6 (F := Ideal) x0 x1)
    (fun a b => ∑ t ∈ range 4096, ent (n := 4096) (m := 3072) x0 t (0 * 3072 + a) * ent (n := 4096) (m := 1024) x1 t b) := fun a b => by
  rw [val_main_v6_apply, val_main_v5_apply, val_main_v4_apply]
  refine Eq.trans ?_ (Fin.sum_univ_eq_sum_range (fun t => ent (n := 4096) (m := 3072) x0 t (0 * 3072 + a.val) * ent (n := 4096) (m := 1024) x1 t b.val) 4096)
  refine Finset.sum_congr rfl fun k _ => ?_
  have e1 : val_main_v1 (F := Ideal) x1 (ridx_main_v4 (idx_main_v5 (idx_main_v6 (ix2 a b))) k) = ent (n := 4096) (m := 1024) x1 k.val b.val := by
    rw [val_main_v1_apply]
    exact (ent_rx (n := 4096) (m := 1024) x1).at _
  have e0 : val_main_v3 (F := Ideal) x0 (lidx_main_v4 (idx_main_v5 (idx_main_v6 (ix2 a b))) k) = ent (n := 4096) (m := 3072) x0 k.val (0 * 3072 + a.val) := by
    rw [val_main_v3_apply]
    refine ((ent_rx (n := 4096) (m := 3072) x0).at _).trans (congrArg (ent (n := 4096) (m := 3072) x0 k.val) ?_)
    show a.val = 0 * 3072 + a.val
    omega
  rw [e0, e1]

/-- The product laid out, one slot. -/
theorem block (i : (⟨4, ![8, 1, 384, 1024]⟩ : Shape).Idx) : val_main_v8 (F := Ideal) x0 x1 i
    = ∑ t ∈ range 4096, ent (n := 4096) (m := 3072) x0 t (0 * 3072 + ((i 0).val * 384 + (i 2).val)) * ent (n := 4096) (m := 1024) x1 t (i 3).val := by
  unfold val_main_v8 val_main_v7
  exact lay (q := 8) (r := 384) (m := 1024) (N := 3072) rfl (prod x0 x1) i

/-- The array it leaves. -/
theorem result (x2 : (⟨4, ![8, 1, 384, 1024]⟩ : Shape).Idx → EReal) : val_main_v8 (F := Ideal) x0 x1
    = upd (n := 8) (q := 1) (r := 384) (m := 1024) 4096 0 (fun t a => ent (n := 4096) (m := 3072) x0 t (0 * 3072 + a)) (ent (n := 4096) (m := 1024) x1) x2 := by
  funext i
  unfold upd prod4
  have i1 : (i 1).val < 1 := (i 1).isLt
  rw [if_pos (by omega), block]

end Cert.Sb.OdInRef
end
-- ==== Proof.OutRun.lean ====
/- The weight-gradient kernel of `Out`: what its blocks of rows leave, and the array it leaves. -/
module

public import proofs.«01_k».proof.Proof.TnLib
public import proofs.«01_k».proof.Proof.Store
public import Idealize.ShloMosaic.Lib.Pipeline.ValueKit.Partial
public import proofs.«01_k».proof.Proof.Gen.OutIdeal.Value
@[expose] public section
set_option maxRecDepth 16384
noncomputable section
namespace Cert.Sb.OutRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.OutIdeal Cert.OutIdeal.Gen Cert.Sb.Tn

section
variable (c : Dev nD) (i : grid0.Coords)
  (arg1 : Memref sig .tc .vmem S1024x1024 .bf16) (harg1 : arg1.IsWhole) (arg2 : Memref sig .tc .vmem S1024x1024 .bf16) (harg2 : arg2.IsWhole)
  (arg4 : Memref sig .tc .vmem S8x1x128x1024 .bf16) (harg4 : arg4.IsWhole) (arg5 : Memref sig .tc .vmem S1024x1024 .f32) (harg5 : arg5.IsWhole)
  (x0 : Vec Ideal S1024x1024 .bf16) (x1 : Vec Ideal S1024x1024 .bf16) (xs0 : Vec Ideal S1024x1024 .f32)

/-- The scratch after the first block of rows. -/
theorem sA (hc0 : cond0_0 i) (hc1 : ¬cond0_1 i) :
    sout0_A_0 c i arg1 harg1 arg2 harg2 arg4 harg4 arg5 harg5 hc0 hc1 x0 x1 = k0_pay2 (F := Ideal) (k0_pay1 (F := Ideal)) x0 x1 := by
  unfold sout0_A_0 kernelRun0_A
  dsimp only
  sl_unfold_words
  refine (View.read_writes_full _ _ _ _ _).trans ?_
  exact congr (congr (congrArg _ (View.readCov_full _ _ _ _ _)) ((View.readAt_full _ _ _).trans (harg1.read_unread _))) ((View.readAt_full _ _ _).trans (harg2.read_unread _))

/-- The scratch after a later block of rows. -/
theorem sB (hc0 : ¬cond0_0 i) (hc1 : ¬cond0_1 i) :
    sout0_B_0 c i arg1 harg1 arg2 harg2 arg4 harg4 arg5 harg5 hc0 hc1 x0 x1 xs0 = k0_pay2 (F := Ideal) xs0 x0 x1 := by
  unfold sout0_B_0 kernelRun0_B
  dsimp only
  sl_unfold_words
  refine (View.read_writes_full _ _ _ _ _).trans ?_
  exact congr (congr (congrArg _ ((View.readAt_full _ _ _).trans (harg5.read_unread _))) ((View.readAt_full _ _ _).trans (harg1.read_unread _)))
    ((View.readAt_full _ _ _).trans (harg2.read_unread _))

/-- The block written back after the last block of rows. -/
theorem oC (hc0 : ¬cond0_0 i) (hc1 : cond0_1 i) :
    out0_C_2 c i arg1 harg1 arg2 harg2 arg4 harg4 arg5 harg5 hc0 hc1 x0 x1 xs0 = k0_pay3 (F := Ideal) (k0_pay2 (F := Ideal) xs0 x0 x1) := by
  unfold out0_C_2 kernelRun0_C
  dsimp only
  sl_unfold_words
  refine (View.read_writes_full _ _ _ _ _).trans (congrArg _ ((View.readCov_full _ _ _ _ _).trans ?_))
  exact congr (congr (congrArg _ ((View.readAt_full _ _ _).trans (harg5.read_unread _))) ((View.readAt_full _ _ _).trans (harg1.read_unread _)))
    ((View.readAt_full _ _ _).trans (harg2.read_unread _))
end

/-- One block of rows more. -/
theorem step {s : Vec Ideal S1024x1024 .f32} {x : Vec Ideal S1024x1024 .bf16} {y : Vec Ideal S1024x1024 .bf16} {p f g : ℕ → ℕ → EReal}
    (hs : Rx (n := 1024) (m := 1024) s p) (hx : Rx (n := 1024) (m := 1024) x f) (hy : Rx (n := 1024) (m := 1024) y g) :
    Rx (n := 1024) (m := 1024) (k0_pay2 (F := Ideal) s x y) (fun a b => p a b + ∑ j ∈ range 1024, f j a * g j b) := by
  unfold k0_pay2
  exact acc rfl rfl rfl rfl rfl rfl hs hx hy

/-- The block written back. -/
theorem out {s : Vec Ideal S1024x1024 .f32} {p : ℕ → ℕ → EReal} (hs : Rx (n := 1024) (m := 1024) s p) (y : (⟨4, ![8, 1, 128, 1024]⟩ : Shape).Idx) :
    k0_pay3 (F := Ideal) s y = p ((y 0).val * 128 + (y 2).val) (y 3).val := by
  unfold k0_pay3
  exact stack (q := 8) (r := 128) (m := 1024) rfl hs y

section
variable (m : (ℓ : Loc nD τ sig) → Buf (Elt Ideal) ℓ) (c : Dev nD)

/-- The entries of the first operand, by their numbers. -/
def A : ℕ → ℕ → EReal := ent (n := 4096) (m := 1024) (m ((c : Thread nD τ).loc main_arg0))
/-- The entries of the second operand, by their numbers. -/
def B : ℕ → ℕ → EReal := ent (n := 4096) (m := 1024) (m ((c : Thread nD τ).loc main_arg1))

/-- Where each window stands at point `t` of the grid. -/
theorem pt : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0 ∧ win0_2.index t 3 = 0) :=
  (by decide +kernel : ∀ t : Fin grid0.N, _)

theorem blk0 (t : Fin cfg0.N) : Rx (n := 1024) (m := 1024) (iblk (F := Ideal) m c 0 t) (fun a b => A m c (t.val * 1024 + a) (0 * 1024 + b)) := by
  intro a b
  obtain ⟨⟨e0, e1⟩, -⟩ := pt t
  have ha := a.isLt
  have hb := b.isLt
  have ht : t.val < 4 := t.isLt
  refine Eq.trans ?_ (ent_rx (n := 4096) (m := 1024) (m ((c : Thread nD τ).loc main_arg0)) ⟨t.val * 1024 + a.val, by omega⟩ ⟨0 * 1024 + b.val, by omega⟩)
  rw [← V_main_arg0 m c]
  unfold iblk
  rw [View.read_apply]
  show V m c main_arg0 _ = V m c main_arg0 _
  congr 1
  funext i
  apply Fin.ext
  match i with
  | ⟨0, _⟩ => show win0_0.index t 0 * 1024 + 1 * a.val = t.val * 1024 + a.val; rw [e0]; omega
  | ⟨1, _⟩ => show win0_0.index t 1 * 1024 + 1 * b.val = 0 * 1024 + b.val; rw [e1]; omega

theorem blk1 (t : Fin cfg0.N) : Rx (n := 1024) (m := 1024) (iblk (F := Ideal) m c 1 t) (fun a b => B m c (t.val * 1024 + a) b) := by
  intro a b
  obtain ⟨-, ⟨e0, e1⟩, -⟩ := pt t
  have ha := a.isLt
  have ht : t.val < 4 := t.isLt
  refine Eq.trans ?_ (ent_rx (n := 4096) (m := 1024) (m ((c : Thread nD τ).loc main_arg1)) ⟨t.val * 1024 + a.val, by omega⟩ b)
  rw [← V_main_arg1 m c]
  unfold iblk
  rw [View.read_apply]
  show V m c main_arg1 _ = V m c main_arg1 _
  congr 1
  funext i
  apply Fin.ext
  match i with
  | ⟨0, _⟩ => show win0_1.index t 0 * 1024 + 1 * a.val = t.val * 1024 + a.val; rw [e0]; omega
  | ⟨1, _⟩ => show win0_1.index t 1 * 1024 + 1 * b.val = b.val; rw [e1]; omega

/-- The products of the rows at and below block `t`. -/
def part (t : ℕ) (a b : ℕ) : EReal := ∑ j ∈ range (t * 1024 + 1024), A m c j (0 * 1024 + a) * B m c j b

theorem sum_first (a b : ℕ) :
    (0 : EReal) + ∑ j ∈ range 1024, A m c (0 * 1024 + j) (0 * 1024 + a) * B m c (0 * 1024 + j) b = part m c 0 a b := by
  unfold part
  rw [zero_add]
  simp only [Nat.zero_mul, Nat.zero_add]

theorem sum_more (t a b : ℕ) :
    part m c t a b + ∑ j ∈ range 1024, A m c ((t + 1) * 1024 + j) (0 * 1024 + a) * B m c ((t + 1) * 1024 + j) b = part m c (t + 1) a b :=
  more (fun j => A m c j (0 * 1024 + a) * B m c j b) 1024 t

/-- The scratch after the first block of rows. -/
theorem first (t : Fin cfg0.N) (h0 : t.val % 4 = 0) (h1 : ¬t.val % 4 = 3) (ht : t.val = 0) :
    Rx (n := 1024) (m := 1024) (outsAt0 (F := Ideal) m c t.val t.isLt).2 (part m c 0) := by
  have hz : Rx (n := 1024) (m := 1024) (k0_pay1 (F := Ideal)) (fun _ _ => 0) := by unfold k0_pay1; exact zeros
  have hs := (step hz (blk0 m c t) (blk1 m c t)).congr (g := part m c 0) (fun a b => by rw [ht]; exact sum_first m c a b)
  have e := sA c (grid0.coords t) (ms0_0 t) (hs0_0 t) (ms0_1 t) (hs0_1 t) (ms0_2 t) (hs0_2 t) scM0_0 (Memref.isWhole_whole _) (iblk (F := Ideal) m c 0 t) (iblk (F := Ideal) m c 1 t)
    ((hcond0_0 t).mpr h0) (fun h => h1 ((hcond0_1 t).mp h))
  rw [← e] at hs
  rw [outsAt0_A m c t h0 h1]
  with_reducible exact hs

/-- The scratch after a later block of rows. -/
theorem later (t : Fin cfg0.N) (h0 : ¬t.val % 4 = 0) (h1 : ¬t.val % 4 = 3) {u : ℕ} (hu : t.val = u + 1)
    (h : Rx (n := 1024) (m := 1024) (outsAt0 (F := Ideal) m c (t.val - 1) (Nat.lt_of_le_of_lt (Nat.sub_le _ _) t.isLt)).2 (part m c u)) :
    Rx (n := 1024) (m := 1024) (outsAt0 (F := Ideal) m c t.val t.isLt).2 (part m c (u + 1)) := by
  have hs := (step h (blk0 m c t) (blk1 m c t)).congr (g := part m c (u + 1)) (fun a b => by rw [hu]; exact sum_more m c u a b)
  have e := sB c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) (fun h => h1 ((hcond0_1 t).mp h))
  rw [← e] at hs
  rw [outsAt0_B m c t h0 h1]
  with_reducible exact hs

theorem upTo : ∀ (n : ℕ) (hn : n < cfg0.N), n < 3 → Rx (n := 1024) (m := 1024) (outsAt0 (F := Ideal) m c n hn).2 (part m c n)
  | 0, hn, _ => first m c ⟨0, hn⟩ rfl (by show ¬0 % 4 = 3; omega) rfl
  | n + 1, hn, h3 => later m c ⟨n + 1, hn⟩ (by show ¬(n + 1) % 4 = 0; omega) (by show ¬(n + 1) % 4 = 3; omega) rfl
      (upTo n (Nat.lt_of_succ_lt hn) (Nat.lt_of_succ_lt h3))

/-- The block written back. -/
theorem last (t : Fin cfg0.N) (h0 : ¬t.val % 4 = 0) (h3 : t.val % 4 = 3) (ht : t.val = 2 + 1)
    (h : Rx (n := 1024) (m := 1024) (outsAt0 (F := Ideal) m c (t.val - 1) (Nat.lt_of_le_of_lt (Nat.sub_le _ _) t.isLt)).2 (part m c 2))
    (y : (⟨4, ![8, 1, 128, 1024]⟩ : Shape).Idx) :
    (outsAt0 (F := Ideal) m c t.val t.isLt).1 y = part m c 3 ((y 0).val * 128 + (y 2).val) (y 3).val := by
  have hs := (step h (blk0 m c t) (blk1 m c t)).congr (g := part m c 3) (fun a b => by rw [ht]; exact sum_more m c 2 a b)
  have e := oC c (grid0.coords t) (ms0_0 t) (hs0_0 t) (ms0_1 t) (hs0_1 t) (ms0_2 t) (hs0_2 t) scM0_0 (Memref.isWhole_whole _) (iblk (F := Ideal) m c 0 t) (iblk (F := Ideal) m c 1 t)
    (outsAt0 (F := Ideal) m c (t.val - 1) (Nat.lt_of_le_of_lt (Nat.sub_le _ _) t.isLt)).2 (fun h => h0 ((hcond0_0 t).mp h)) ((hcond0_1 t).mpr h3)
  have hy : k0_pay3 (F := Ideal) (k0_pay2 (F := Ideal) (outsAt0 (F := Ideal) m c (t.val - 1) (Nat.lt_of_le_of_lt (Nat.sub_le _ _) t.isLt)).2
      (iblk (F := Ideal) m c 0 t) (iblk (F := Ideal) m c 1 t)) y = part m c 3 ((y 0).val * 128 + (y 2).val) (y 3).val :=
    out hs y
  rw [← e] at hy
  rw [outsAt0_C m c t h0 h3]
  with_reducible exact hy

/-- The product, laid out. -/
def G : (⟨4, ![8, 1, 128, 1024]⟩ : Shape).Idx → EReal := prod4 4096 (fun t a => A m c t (0 * 1024 + a)) (B m c)

/-- The array the result goes into is the operand's. -/
theorem entry : V (F := Ideal) m c main_v0 = m ((c : Thread nD τ).loc main_arg2) := by
  rfl

/-- The array after the run. -/
theorem result : (dats (F := Ideal) m 0 c).arrAt 2 cfg0.N
    = upd (n := 8) (q := 1) (r := 128) (m := 1024) 4096 0 (fun t a => A m c t (0 * 1024 + a)) (B m c) (m ((c : Thread nD τ).loc main_arg2)) := by
  funext i
  refine ((dats (F := Ideal) m 0 c).arrAt_apply_of_coversWhere 2
    (G m c)
    (P := fun i : (⟨4, ![8, 1, 128, 1024]⟩ : Shape).Idx => (i 1).val = 0) (fun β => β (1 : Fin 4) = 0) (by decide +kernel) (fun t hf y => ?_) (fun j => ?_) i).trans ?_
  · have h3 : t.val = 3 := (by decide +kernel : ∀ t : Fin cfg0.N, (cfg0.win 2).flush t = true → t.val = 3) t hf
    have hB := last m c t (by omega) (by omega) (by omega) (by simp only [h3]; exact upTo m c 2 _ (by omega))
    blk_simp
    rw [after0_2]
    obtain ⟨-, -, ⟨e0, e1, e2, e3⟩⟩ := pt t
    refine (hB y).trans ?_
    have q0 : ((win0_2.blk t).view.emb y 0).val = (y 0).val := by show win0_2.index t 0 * 8 + 1 * (y 0).val = _; rw [e0]; omega
    have q2 : ((win0_2.blk t).view.emb y 2).val = (y 2).val := by show win0_2.index t 2 * 128 + 1 * (y 2).val = _; rw [e2]; omega
    have q3 : ((win0_2.blk t).view.emb y 3).val = (y 3).val := by show win0_2.index t 3 * 1024 + 1 * (y 3).val = _; rw [e3]; omega
    unfold G prod4 part
    rw [q0, q2, q3]
  · show (j 1).val = 0 ↔ (j 1).val / 1 = 0
    rw [Nat.div_one]
  · exact if_congr Iff.rfl rfl (congrFun ((A_eq m c 2).trans (entry m c)) i)
end

end Cert.Sb.OutRun
end
-- ==== Proof.OutRef.lean ====
/- The weight gradient of `Out`, stated plainly: its values. -/
module

public import proofs.«01_k».proof.Proof.TnJoin
public import proofs.«01_k».proof.Proof.Gen.OutReferenceIdeal.Read
@[expose] public section
set_option maxRecDepth 16384
noncomputable section
namespace Cert.Sb.OutRef
open Idealize.ShloMosaic hiding ix0 ix1 ix2 ix3 ix4 eq_ix1 eq_ix2 eq_ix3 eq_ix4
open Idealize.ShloMosaic.ValueIdx Finset
open Cert.OutReferenceIdeal Cert.OutReferenceIdeal.Gen Cert.OutReferenceIdeal.Read Cert.Sb.Tn

variable (x0 : (⟨S4096x1024, .bf16⟩ : BufTy).Contents (Elt Ideal)) (x1 : (⟨S4096x1024, .bf16⟩ : BufTy).Contents (Elt Ideal))

/-- The product. -/
theorem prod : Rx (n := 1024) (m := 1024) (val_main_v5 (F := Ideal) x0 x1)
    (fun a b => ∑ t ∈ range 4096, ent (n := 4096) (m := 1024) x0 t (0 * 1024 + a) * ent (n := 4096) (m := 1024) x1 t b) := fun a b => by
  rw [val_main_v5_apply, val_main_v4_apply]
  refine Eq.trans ?_ (Fin.sum_univ_eq_sum_range (fun t => ent (n := 4096) (m := 1024) x0 t (0 * 1024 + a.val) * ent (n := 4096) (m := 1024) x1 t b.val) 4096)
  refine Finset.sum_congr rfl fun k _ => ?_
  have e1 : val_main_v3 (F := Ideal) x1 (lidx_main_v4 (idx_main_v5 (ix2 a b)) k) = ent (n := 4096) (m := 1024) x1 k.val b.val := by
    rw [val_main_v3_apply]
    exact (ent_rx (n := 4096) (m := 1024) x1).at _
  have e0 : val_main_v1 (F := Ideal) x0 (ridx_main_v4 (idx_main_v5 (ix2 a b)) k) = ent (n := 4096) (m := 1024) x0 k.val (0 * 1024 + a.val) := by
    rw [val_main_v1_apply]
    refine ((ent_rx (n := 4096) (m := 1024) x0).at _).trans (congrArg (ent (n := 4096) (m := 1024) x0 k.val) ?_)
    show a.val = 0 * 1024 + a.val
    omega
  rw [e1, e0, mul_comm]

/-- The product laid out, one slot. -/
theorem block (i : (⟨4, ![8, 1, 128, 1024]⟩ : Shape).Idx) : val_main_v7 (F := Ideal) x0 x1 i
    = ∑ t ∈ range 4096, ent (n := 4096) (m := 1024) x0 t (0 * 1024 + ((i 0).val * 128 + (i 2).val)) * ent (n := 4096) (m := 1024) x1 t (i 3).val := by
  unfold val_main_v7 val_main_v6
  exact lay (q := 8) (r := 128) (m := 1024) (N := 1024) rfl (prod x0 x1) i

/-- The array it leaves. -/
theorem result (x2 : (⟨4, ![8, 1, 128, 1024]⟩ : Shape).Idx → EReal) : val_main_v7 (F := Ideal) x0 x1
    = upd (n := 8) (q := 1) (r := 128) (m := 1024) 4096 0 (fun t a => ent (n := 4096) (m := 1024) x0 t (0 * 1024 + a)) (ent (n := 4096) (m := 1024) x1) x2 := by
  funext i
  unfold upd prod4
  have i1 : (i 1).val < 1 := (i 1).isLt
  rw [if_pos (by omega), block]

end Cert.Sb.OutRef
end
-- ==== Proof.OdQkvRun.lean ====
/- The kernel of the projection into the attention: what its blocks of rows leave, and the arrays it leaves. -/
module

public import proofs.«01_k».proof.Proof.QkvLib
public import Idealize.ShloMosaic.Lib.Pipeline.ValueKit.Partial
public import Idealize.ShloMosaic.Lib.Pipeline.ValueKit.Geometry
public import proofs.«01_k».proof.Proof.Gen.OdQkvIdeal.Value
@[expose] public section
set_option maxRecDepth 16384
noncomputable section
namespace Cert.Sb.OdQkvRun
open Idealize.ShloMosaic hiding ix0 ix1 ix2 ix3 ix4 eq_ix1 eq_ix2 eq_ix3 eq_ix4
open Idealize.ShloMosaic.ValueIdx Finset
open Idealize.ShloMosaic.TcCoe Idealize.ShloMosaic.Tactic
open Cert.OdQkvIdeal Cert.OdQkvIdeal.Gen Cert.Sb.Tn

/-- The product of the modulated norm of a block of rows. -/
theorem pay3 {x : Vec Ideal S256x1024 .f32} {w6 w1 w0 : Vec Ideal S1x1024 .f32} {w : Vec Ideal S8x1x384x1024 .bf16} {f g : ℕ → ℕ → EReal}
    (hx : Rx (n := 256) (m := 1024) x f) (h6 : Rx (n := 1) (m := 1024) w6 (fun _ b => g 6 b)) (h1 : Rx (n := 1) (m := 1024) w1 (fun _ b => g 1 b))
    (h0 : Rx (n := 1) (m := 1024) w0 (fun _ b => g 0 b)) :
    Rx (n := 256) (m := 3072) (k0_pay3 (F := Ideal) x w6 w1 w0 w) (proj (modNorm f g) (flat3 w)) := by
  unfold k0_pay3
  have one : Rx (n := 1) (m := 1024) (broadcast S1x1024 (Scalar.ofBits (F := Ideal) .f32 0x3F800000#32)) (fun _ _ => Ideal.ofBits .f32 0x3F800000#32) :=
    fun _ _ => rfl
  have n0 := Rx.mul (φ := .f32) (hx.unit 0x44800000#32 reduces_S256x1024_S256 (.inl rfl) rfl shapeCasts_S256_S256x1 broadcasts_S256x1_S256x1024)
    (h6.brow broadcasts_S1x1024_S256x1024)
  have n1 := Rx.mul (φ := .f32) n0 ((Rx.add (φ := .f32) one h1).brow broadcasts_S1x1024_S256x1024)
  have n2 := Rx.add (φ := .f32) n1 (h0.brow broadcasts_S1x1024_S256x1024)
  exact Rx.mmT (φ := .bf16) (ψ := .bf16) rfl n2 (ent_rx _) none

section
variable {sp : Space} {v : View sig .tc sp S256x3072 .bf16} {G : v.ty.Contents (Elt Ideal)} {L : List (View.Piece (Elt Ideal) S256x3072 .bf16)} {z g : ℕ → ℕ → EReal}
  {S : ℕ → Prop} {y : Vec Ideal S256x3072 .f32} {w : Vec Ideal S1x128 .f32}

/-- One head more. -/
theorem head {s : Vec Ideal S256x128 .f32} (o r : ℕ) (ho : o / 128 * 128 = o ∧ o + 128 ≤ 2048 ∧ r * 1024 ≤ o ∧ o + 128 ≤ r * 1024 + 1024)
    (hs : Rx (n := 256) (m := 128) s (fun a b => z a (o + b))) (hw : Rx (n := 1) (m := 128) w (fun _ b => g r b))
    (hL : Rx.On (n := 256) (m := 3072) v G L (heads z g) S) {inb} :
    Rx.On (n := 256) (m := 3072) v G ((⟨Rect.unit (s := S256x3072) ![0, o] S256x128.size inb,
      truncf .bf16 (mulf (mulf s (broadcastTo S256x128 (rsqrt (addf (divf (shapeCast S256x1 (multiReduction .add [1] S256 (mulf s s) 0x00000000#32
        reduces_S256x128_S256 (.inl rfl) rfl) shapeCasts_S256_S256x1) (broadcast S256x1 (Scalar.ofBits (F := Ideal) .f32 0x43000000#32)))
        (broadcast S256x1 (Scalar.ofBits (F := Ideal) .f32 0x358637BD#32)))) broadcasts_S256x1_S256x128)) (broadcastTo S256x128 w broadcasts_S1x128_S256x128))
        bitsLt_bf16_f32⟩ : View.Piece (Elt Ideal) S256x3072 .bf16) :: L) (heads z g) (fun b => S b ∨ (o ≤ b ∧ b < o + 128)) :=
  Rx.On.put (n := 256) (m := 3072) (k := 128) o
    ((hs.unit 0x43000000#32 reduces_S256x128_S256 (.inl rfl) rfl shapeCasts_S256_S256x1 broadcasts_S256x1_S256x128).mul (hw.brow broadcasts_S1x128_S256x128)) hL
    (fun a _ hb => heads_lt z g ho a hb)

/-- The last third. -/
theorem tail (hs : Rx (n := 256) (m := 1024) (extractStridedSlice S256x1024 ![0, 2048] y slices_S256x3072_o0_2048_S256x1024) (fun a b => z a (2048 + b)))
    (hL : Rx.On (n := 256) (m := 3072) v G L (heads z g) S) {inb} :
    Rx.On (n := 256) (m := 3072) v G ((⟨Rect.unit (s := S256x3072) ![0, 2048] S256x1024.size inb,
      k0_pay2 (F := Ideal) y⟩ : View.Piece (Elt Ideal) S256x3072 .bf16) :: L) (heads z g) (fun b => S b ∨ (2048 ≤ b ∧ b < 2048 + 1024)) :=
  Rx.On.put (n := 256) (m := 3072) (k := 1024) 2048 hs hL (fun a b _ => by unfold heads; rw [if_neg (by omega)])

end

section
variable (c : Dev nD) (i : grid0.Coords)
  (arg1 : Memref sig .tc .vmem S256x1024 .f32) (harg1 : arg1.IsWhole) (arg2 : Memref sig .tc .vmem S8x1024 .f32) (harg2 : arg2.IsWhole)
  (arg3 : Memref sig .tc .vmem S8x1x384x1024 .bf16) (harg3 : arg3.IsWhole) (arg4 : Memref sig .tc .vmem S8x128 .f32) (harg4 : arg4.IsWhole)
  (arg5 : Memref sig .tc .vmem S256x3072 .bf16) (harg5 : arg5.IsWhole) (arg6 : Memref sig .tc .vmem S256x2048 .f32) (harg6 : arg6.IsWhole)
  {x0 : Vec Ideal S256x1024 .f32} {x1 : Vec Ideal S8x1024 .f32} {x2 : Vec Ideal S8x1x384x1024 .bf16} {x3 : Vec Ideal S8x128 .f32} {f g q : ℕ → ℕ → EReal}

theorem out5 (hx : Rx (n := 256) (m := 1024) x0 f) (hg : Rx (n := 8) (m := 1024) x1 g) :
    Rx (n := 256) (m := 2048) (out0_A_5 c i arg1 harg1 arg2 harg2 arg3 harg3 arg4 harg4 arg5 harg5 arg6 harg6 x0 x1 x2 x3) (proj (modNorm f g) (flat3 x2)) := by
  unfold out0_A_5 kernelRun0_A
  dsimp only
  sl_unfold_words
  have g2 : Rx (n := 8) (m := 1024) (arg2.view.read (Elt Ideal) (harg2.unread (Val := Elt Ideal) x1)) g := by rw [harg2.read_unread]; exact hg
  have e0 := (View.readAt_full arg1.view (harg1.unread (Val := Elt Ideal) x0) inb_S256x1024_S256x1024_0_0).trans (harg1.read_unread _)
  have e2 := (View.readAt_full arg3.view (harg3.unread (Val := Elt Ideal) x2) inb_S8x1x384x1024_S8x1x384x1024_0_0_0_0).trans (harg3.read_unread _)
  have hz := pay3 (w := x2) hx (g2.rdRow (o := 6) (inb := inb_S8x1024_S1x1024_6_0)) (g2.rdRow (o := 1) (inb := inb_S8x1024_S1x1024_1_0))
    (g2.rdRow (o := 0) (inb := inb_S8x1024_S1x1024_0_0))
  refine fun a b => (congrFun (View.read_writes_full _ _ _ _ _) (ix2 a b)).trans ?_
  rw [e0, e2]
  exact ((hz.cols (k := 2048) 0 slices_S256x3072_o0_0_S256x2048).congr (g := proj (modNorm f g) (flat3 x2)) (fun a b => by rw [zero_add])) a b

theorem out4 (hx : Rx (n := 256) (m := 1024) x0 f) (hg : Rx (n := 8) (m := 1024) x1 g) (hq : Rx (n := 8) (m := 128) x3 q) :
    Rx (n := 256) (m := 3072) (out0_A_4 c i arg1 harg1 arg2 harg2 arg3 harg3 arg4 harg4 arg5 harg5 arg6 harg6 x0 x1 x2 x3)
      (heads (proj (modNorm f g) (flat3 x2)) q) := by
  unfold out0_A_4 kernelRun0_A
  dsimp only
  sl_unfold_words
  have g2 : Rx (n := 8) (m := 1024) (arg2.view.read (Elt Ideal) (harg2.unread (Val := Elt Ideal) x1)) g := by rw [harg2.read_unread]; exact hg
  have g4 : Rx (n := 8) (m := 128) (arg4.view.read (Elt Ideal) (harg4.unread (Val := Elt Ideal) x3)) q := by rw [harg4.read_unread]; exact hq
  have e0 := (View.readAt_full arg1.view (harg1.unread (Val := Elt Ideal) x0) inb_S256x1024_S256x1024_0_0).trans (harg1.read_unread _)
  have e2 := (View.readAt_full arg3.view (harg3.unread (Val := Elt Ideal) x2) inb_S8x1x384x1024_S8x1x384x1024_0_0_0_0).trans (harg3.read_unread _)
  have hz := pay3 (w := x2) hx (g2.rdRow (o := 6) (inb := inb_S8x1024_S1x1024_6_0)) (g2.rdRow (o := 1) (inb := inb_S8x1024_S1x1024_1_0))
    (g2.rdRow (o := 0) (inb := inb_S8x1024_S1x1024_0_0))
  have q0 := g4.rdRow (o := 0) (inb := inb_S8x128_S1x128_0_0)
  have q1 := g4.rdRow (o := 1) (inb := inb_S8x128_S1x128_1_0)
  rw [e0, e2]
  have cover : ∀ b : ℕ, b < 3072 → ((((((((((((((((False ∨ (0 ≤ b ∧ b < 0 + 128)) ∨ (1024 ≤ b ∧ b < 1024 + 128)) ∨ (128 ≤ b ∧ b < 128 + 128)) ∨ (1152 ≤ b ∧ b < 1152 + 128))
      ∨ (256 ≤ b ∧ b < 256 + 128)) ∨ (1280 ≤ b ∧ b < 1280 + 128)) ∨ (384 ≤ b ∧ b < 384 + 128)) ∨ (1408 ≤ b ∧ b < 1408 + 128)) ∨ (512 ≤ b ∧ b < 512 + 128))
      ∨ (1536 ≤ b ∧ b < 1536 + 128)) ∨ (640 ≤ b ∧ b < 640 + 128)) ∨ (1664 ≤ b ∧ b < 1664 + 128)) ∨ (768 ≤ b ∧ b < 768 + 128)) ∨ (1792 ≤ b ∧ b < 1792 + 128))
      ∨ (896 ≤ b ∧ b < 896 + 128)) ∨ (1920 ≤ b ∧ b < 1920 + 128)) ∨ (2048 ≤ b ∧ b < 2048 + 1024) := fun b hb => by omega
  have on := tail (v := VO0_4) (G := VO0_4.junk) (inb := inb_S256x3072_S256x1024_0_2048) (hz.cols 2048 slices_S256x3072_o0_2048_S256x1024)
    (head (inb := inb_S256x3072_S256x128_0_1920) 1920 1 (by omega) (hz.cols 1920 slices_S256x3072_o0_1920_S256x128) q1
    (head (inb := inb_S256x3072_S256x128_0_896) 896 0 (by omega) (hz.cols 896 slices_S256x3072_o0_896_S256x128) q0
    (head (inb := inb_S256x3072_S256x128_0_1792) 1792 1 (by omega) (hz.cols 1792 slices_S256x3072_o0_1792_S256x128) q1
    (head (inb := inb_S256x3072_S256x128_0_768) 768 0 (by omega) (hz.cols 768 slices_S256x3072_o0_768_S256x128) q0
    (head (inb := inb_S256x3072_S256x128_0_1664) 1664 1 (by omega) (hz.cols 1664 slices_S256x3072_o0_1664_S256x128) q1
    (head (inb := inb_S256x3072_S256x128_0_640) 640 0 (by omega) (hz.cols 640 slices_S256x3072_o0_640_S256x128) q0
    (head (inb := inb_S256x3072_S256x128_0_1536) 1536 1 (by omega) (hz.cols 1536 slices_S256x3072_o0_1536_S256x128) q1
    (head (inb := inb_S256x3072_S256x128_0_512) 512 0 (by omega) (hz.cols 512 slices_S256x3072_o0_512_S256x128) q0
    (head (inb := inb_S256x3072_S256x128_0_1408) 1408 1 (by omega) (hz.cols 1408 slices_S256x3072_o0_1408_S256x128) q1
    (head (inb := inb_S256x3072_S256x128_0_384) 384 0 (by omega) (hz.cols 384 slices_S256x3072_o0_384_S256x128) q0
    (head (inb := inb_S256x3072_S256x128_0_1280) 1280 1 (by omega) (hz.cols 1280 slices_S256x3072_o0_1280_S256x128) q1
    (head (inb := inb_S256x3072_S256x128_0_256) 256 0 (by omega) (hz.cols 256 slices_S256x3072_o0_256_S256x128) q0
    (head (inb := inb_S256x3072_S256x128_0_1152) 1152 1 (by omega) (hz.cols 1152 slices_S256x3072_o0_1152_S256x128) q1
    (head (inb := inb_S256x3072_S256x128_0_128) 128 0 (by omega) (hz.cols 128 slices_S256x3072_o0_128_S256x128) q0
    (head (inb := inb_S256x3072_S256x128_0_1024) 1024 1 (by omega) (hz.cols 1024 slices_S256x3072_o0_1024_S256x128) q1
    (head (inb := inb_S256x3072_S256x128_0_0) 0 0 (by omega) (hz.cols 0 slices_S256x3072_o0_0_S256x128) q0 Rx.On.none))))))))))))))))
  intro a b
  exact on a b (cover b.val b.isLt)

end

section
variable (m : (ℓ : Loc nD τ sig) → Buf (Elt Ideal) ℓ) (c : Dev nD)

/-- The entries of the operands, by their numbers. -/
def A0 : ℕ → ℕ → EReal := ent (n := 4096) (m := 1024) (m ((c : Thread nD τ).loc main_arg0))
def A1 : ℕ → ℕ → EReal := ent (n := 8) (m := 1024) (m ((c : Thread nD τ).loc main_arg1))
def A2 : ℕ → ℕ → EReal := flat3 (m ((c : Thread nD τ).loc main_arg2))
def A3 : ℕ → ℕ → EReal := ent (n := 8) (m := 128) (m ((c : Thread nD τ).loc main_arg3))

/-- Where each window stands at point `t` of the grid. -/
theorem pt : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0 ∧ win0_2.index t 3 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem blk0 (t : Fin cfg0.N) : Rx (n := 256) (m := 1024) (iblk (F := Ideal) m c 0 t) (fun a b => A0 m c (t.val * 256 + a) b) := by
  intro a b
  obtain ⟨⟨e0, e1⟩, -⟩ := pt t
  have ha := a.isLt
  have ht : t.val < 16 := t.isLt
  refine Eq.trans ?_ (ent_rx (n := 4096) (m := 1024) (m ((c : Thread nD τ).loc main_arg0)) ⟨t.val * 256 + a.val, by omega⟩ b)
  rw [← V_main_arg0 m c]
  unfold iblk
  rw [View.read_apply]
  show V m c main_arg0 _ = V m c main_arg0 _
  congr 1
  funext i
  apply Fin.ext
  match i with
  | ⟨0, _⟩ => show win0_0.index t 0 * 256 + 1 * a.val = t.val * 256 + a.val; rw [e0]; omega
  | ⟨1, _⟩ => show win0_0.index t 1 * 1024 + 1 * b.val = b.val; rw [e1]; omega

theorem blk1 (t : Fin cfg0.N) : Rx (n := 8) (m := 1024) (iblk (F := Ideal) m c 1 t) (A1 m c) := by
  intro a b
  obtain ⟨-, ⟨e0, e1⟩, -⟩ := pt t
  refine Eq.trans ?_ (ent_rx (n := 8) (m := 1024) (m ((c : Thread nD τ).loc main_arg1)) a b)
  rw [← V_main_arg1 m c]
  unfold iblk
  rw [View.read_apply]
  show V m c main_arg1 _ = V m c main_arg1 _
  congr 1
  funext i
  apply Fin.ext
  match i with
  | ⟨0, _⟩ => show win0_1.index t 0 * 8 + 1 * a.val = a.val; rw [e0]; omega
  | ⟨1, _⟩ => show win0_1.index t 1 * 1024 + 1 * b.val = b.val; rw [e1]; omega

theorem blk2 (t : Fin cfg0.N) : iblk (F := Ideal) m c 2 t = m ((c : Thread nD τ).loc main_arg2) := by
  obtain ⟨-, -, ⟨e0, e1, e2, e3⟩, -⟩ := pt t
  rw [← V_main_arg2 m c]
  funext j
  unfold iblk
  rw [View.read_apply]
  show V m c main_arg2 _ = V m c main_arg2 _
  congr 1
  funext i
  apply Fin.ext
  match i with
  | ⟨0, _⟩ => show win0_2.index t 0 * 8 + 1 * (j 0).val = (j 0).val; rw [e0]; omega
  | ⟨1, _⟩ => show win0_2.index t 1 * 1 + 1 * (j 1).val = (j 1).val; rw [e1]; omega
  | ⟨2, _⟩ => show win0_2.index t 2 * 384 + 1 * (j 2).val = (j 2).val; rw [e2]; omega
  | ⟨3, _⟩ => show win0_2.index t 3 * 1024 + 1 * (j 3).val = (j 3).val; rw [e3]; omega

theorem blk3 (t : Fin cfg0.N) : Rx (n := 8) (m := 128) (iblk (F := Ideal) m c 3 t) (A3 m c) := by
  intro a b
  obtain ⟨-, -, -, ⟨e0, e1⟩, -⟩ := pt t
  refine Eq.trans ?_ (ent_rx (n := 8) (m := 128) (m ((c : Thread nD τ).loc main_arg3)) a b)
  rw [← V_main_arg3 m c]
  unfold iblk
  rw [View.read_apply]
  show V m c main_arg3 _ = V m c main_arg3 _
  congr 1
  funext i
  apply Fin.ext
  match i with
  | ⟨0, _⟩ => show win0_3.index t 0 * 8 + 1 * a.val = a.val; rw [e0]; omega
  | ⟨1, _⟩ => show win0_3.index t 1 * 128 + 1 * b.val = b.val; rw [e1]; omega

/-- The product of the modulated norm. -/
def Z : ℕ → ℕ → EReal := proj (modNorm (A0 m c) (A1 m c)) (A2 m c)
/-- What the attention is given. -/
def O : ℕ → ℕ → EReal := heads (Z m c) (A3 m c)

theorem pnt4 (t : Fin cfg0.N) : Rx (n := 256) (m := 3072) (outsAt0 (F := Ideal) m c t).1 (fun a b => O m c (t.val * 256 + a) b) := by
  have h := (out4 c (grid0.coords t) (ms0_0 t) (hs0_0 t) (ms0_1 t) (hs0_1 t) (ms0_2 t) (hs0_2 t) (ms0_3 t) (hs0_3 t) (ms0_4 t) (hs0_4 t) (ms0_5 t) (hs0_5 t)
    (x2 := iblk (F := Ideal) m c 2 t) (blk0 m c t) (blk1 m c t) (blk3 m c t)).congr (g := fun a b => O m c (t.val * 256 + a) b)
    (fun a b => by rw [blk2]; rfl)
  unfold outsAt0
  with_reducible exact h

theorem pnt5 (t : Fin cfg0.N) : Rx (n := 256) (m := 2048) (outsAt0 (F := Ideal) m c t).2 (fun a b => Z m c (t.val * 256 + a) b) := by
  have h := (out5 c (grid0.coords t) (ms0_0 t) (hs0_0 t) (ms0_1 t) (hs0_1 t) (ms0_2 t) (hs0_2 t) (ms0_3 t) (hs0_3 t) (ms0_4 t) (hs0_4 t) (ms0_5 t) (hs0_5 t)
    (x2 := iblk (F := Ideal) m c 2 t) (x3 := iblk (F := Ideal) m c 3 t) (blk0 m c t) (blk1 m c t)).congr (g := fun a b => Z m c (t.val * 256 + a) b)
    (fun a b => by rw [blk2]; rfl)
  unfold outsAt0
  with_reducible exact h

/-- The arrays it leaves. -/
theorem arr4 : (dats (F := Ideal) m 0 c).arrAt 4 cfg0.N = fun i : (⟨2, ![4096, 3072]⟩ : Shape).Idx => O m c (i 0).val (i 1).val := by
  funext i
  refine (dats (F := Ideal) m 0 c).arrAt_forall_of_covers 4 (fun i v => v = O m c (i 0).val (i 1).val) (by decide +kernel) (fun t _ y => ?_) i
  have hB := pnt4 m c t
  blk_simp
  rw [after0_4]
  obtain ⟨-, -, -, -, ⟨e0, e1⟩, -⟩ := pt t
  rw [e0, e1]
  have y0 : (y 0).val < 256 := (y 0).isLt
  have y1 : (y 1).val < 3072 := (y 1).isLt
  generalize (outsAt0 (F := Ideal) m c t).1 = g at hB ⊢
  rw [zero_mul, zero_add]
  exact Eq.trans (congrArg g (eq_ix2 y)) (hB ⟨(y 0).val, y0⟩ ⟨(y 1).val, y1⟩)

theorem arr5 : (dats (F := Ideal) m 0 c).arrAt 5 cfg0.N = fun i : (⟨2, ![4096, 2048]⟩ : Shape).Idx => Z m c (i 0).val (i 1).val := by
  funext i
  refine (dats (F := Ideal) m 0 c).arrAt_forall_of_covers 5 (fun i v => v = Z m c (i 0).val (i 1).val) (by decide +kernel) (fun t _ y => ?_) i
  have hB := pnt5 m c t
  blk_simp
  rw [after0_5]
  obtain ⟨-, -, -, -, -, ⟨e0, e1⟩⟩ := pt t
  rw [e0, e1]
  have y0 : (y 0).val < 256 := (y 0).isLt
  have y1 : (y 1).val < 2048 := (y 1).isLt
  generalize (outsAt0 (F := Ideal) m c t).2 = g at hB ⊢
  rw [zero_mul, zero_add]
  exact Eq.trans (congrArg g (eq_ix2 y)) (hB ⟨(y 0).val, y0⟩ ⟨(y 1).val, y1⟩)

end

end Cert.Sb.OdQkvRun
end
-- ==== Proof.OdQkvRef.lean ====
/- The projection into the attention, stated plainly: its values. -/
module

public import proofs.«01_k».proof.Proof.QkvLib
public import proofs.«01_k».proof.Proof.Gen.OdQkvReferenceIdeal.Read
@[expose] public section
set_option maxRecDepth 16384
noncomputable section
namespace Cert.Sb.OdQkvRef
open Idealize.ShloMosaic hiding ix0 ix1 ix2 ix3 ix4 eq_ix1 eq_ix2 eq_ix3 eq_ix4
open Idealize.ShloMosaic.ValueIdx Finset
open Cert.OdQkvReferenceIdeal Cert.OdQkvReferenceIdeal.Gen Cert.OdQkvReferenceIdeal.Read Cert.Sb.Tn

variable (x0 : (⟨S4096x1024, .f32⟩ : BufTy).Contents (Elt Ideal)) (x1 : (⟨S8x1024, .f32⟩ : BufTy).Contents (Elt Ideal))
variable (x2 : (⟨S8x1x384x1024, .bf16⟩ : BufTy).Contents (Elt Ideal)) (x3 : (⟨S8x128, .f32⟩ : BufTy).Contents (Elt Ideal))

/-- The entries of the rows. -/
abbrev f0 : ℕ → ℕ → EReal := ent (n := 4096) (m := 1024) x0
/-- The entries of the modulation. -/
abbrev f1 : ℕ → ℕ → EReal := ent (n := 8) (m := 1024) x1
/-- The entries of the gains. -/
abbrev f3 : ℕ → ℕ → EReal := ent (n := 8) (m := 128) x3

/-- The root of the mean square of a row. -/
theorem mean (i : S4096x1.Idx) : val_main_v13 (F := Ideal) x0 i = rootMean 1024 0x44800000#32 (f0 x0 (i 0).val) := by
  rw [val_main_v13_apply, val_main_v12_apply, val_main_v10_apply, val_main_v8_apply, val_main_v9_apply, val_main_v11_apply, val_main_v7_apply]
  have s : (∑ k : Fin 1024, (val_main_v6 (F := Ideal) x0) (idx_main_v7 (idx_main_v8 i) k)) = ∑ j ∈ range 1024, f0 x0 (i 0).val j * f0 x0 (i 0).val j := by
    refine Eq.trans ?_ (Fin.sum_univ_eq_sum_range (fun j => f0 x0 (i 0).val j * f0 x0 (i 0).val j) 1024)
    refine Finset.sum_congr rfl fun k _ => ?_
    have e : x0 (idx_main_v7 (idx_main_v8 i) k) = f0 x0 (i 0).val k.val := (ent_rx (n := 4096) (m := 1024) x0).at _
    exact congrArg₂ (fun u v : EReal => u * v) e e
  have e := (congrArg₂ (fun u v : EReal => u + v) Ideal.ofBits_zero_f32 s).trans (zero_add _)
  exact congrArg (fun u : EReal => Ideal.rsqrt (Ideal.div u (Ideal.ofBits .f32 0x44800000#32) + Ideal.ofBits .f32 0x358637BD#32)) e

/-- The modulated norm. -/
theorem norm : Rx (n := 4096) (m := 1024) (val_main_v26 (F := Ideal) x0 x1) (modNorm (f0 x0) (f1 x1)) := fun a b => by
  have hb := b.isLt
  have e14 : val_main_v14 (F := Ideal) x0 (ix2 a b) = rootMean 1024 0x44800000#32 (f0 x0 a.val) := by
    rw [val_main_v14_apply, mean]
  have e17 : val_main_v17 (F := Ideal) x1 (ix2 a b) = f1 x1 6 b.val := by
    rw [val_main_v17_apply, val_main_v16_apply, val_main_v5_apply, val_main_v4_apply]
    refine ((ent_rx (n := 8) (m := 1024) x1).at _).trans ?_
    show ent (n := 8) (m := 1024) x1 (6 + 0) (b.val % 1024) = _
    rw [Nat.mod_eq_of_lt hb]
  have e3 : val_main_v3 (F := Ideal) x1 (idx_main_v21 (idx_main_v22 (ix2 a b))) = f1 x1 1 b.val := by
    rw [val_main_v3_apply, val_main_v2_apply]
    refine ((ent_rx (n := 8) (m := 1024) x1).at _).trans ?_
    show ent (n := 8) (m := 1024) x1 (1 + 0) (b.val % 1024) = _
    rw [Nat.mod_eq_of_lt hb]
  have e25 : val_main_v25 (F := Ideal) x1 (ix2 a b) = f1 x1 0 b.val := by
    rw [val_main_v25_apply, val_main_v24_apply, val_main_v1_apply, val_main_v0_apply]
    refine ((ent_rx (n := 8) (m := 1024) x1).at _).trans ?_
    show ent (n := 8) (m := 1024) x1 0 (b.val % 1024) = _
    rw [Nat.mod_eq_of_lt hb]
  have e22 : val_main_v22 (F := Ideal) x1 (ix2 a b) = Ideal.ofBits .f32 0x3F800000#32 + f1 x1 1 b.val := by
    rw [val_main_v22_apply, val_main_v21_apply, val_main_v20_apply, val_main_v19_apply]
    exact congrArg (fun u : EReal => Ideal.ofBits .f32 0x3F800000#32 + u) e3
  rw [val_main_v26_apply, val_main_v23_apply, val_main_v18_apply, val_main_v15_apply, e14, e17, e22, e25]
  exact congrArg (fun u : EReal => u * rootMean 1024 0x44800000#32 (f0 x0 a.val) * f1 x1 6 b.val * (Ideal.ofBits .f32 0x3F800000#32 + f1 x1 1 b.val) + f1 x1 0 b.val)
    (ent_rx (n := 4096) (m := 1024) x0 a b)

/-- The product. -/
abbrev Z : ℕ → ℕ → EReal := proj (modNorm (f0 x0) (f1 x1)) (flat3 x2)

/-- The stacked blocks of rows as one matrix. -/
theorem rows : Rx (n := 3072) (m := 1024) (val_main_v29 (F := Ideal) x2) (flat3 x2) := ent_rx _

theorem prod : Rx (n := 4096) (m := 3072) (val_main_v31 (F := Ideal) x0 x1 x2) (Z x0 x1 x2) := fun a b => by
  rw [val_main_v31_apply]
  refine Eq.trans ?_ (Fin.sum_univ_eq_sum_range (fun k => modNorm (f0 x0) (f1 x1) a.val k * flat3 x2 b.val k) 1024)
  refine Finset.sum_congr rfl fun k _ => ?_
  have e0 : val_main_v26 (F := Ideal) x0 x1 (lidx_main_v31 (ix2 a b) k) = modNorm (f0 x0) (f1 x1) a.val k.val := (norm x0 x1).at _
  have e1 : val_main_v30 (F := Ideal) x2 (ridx_main_v31 (ix2 a b) k) = flat3 x2 b.val k.val := by
    rw [val_main_v30_apply]
    exact (rows x2).at _
  rw [e0, e1]

/-- The querys, before their norms. -/
theorem queryRaw (i : S4096x8x128.Idx) : val_main_v37 (F := Ideal) x0 x1 x2 i = Z x0 x1 x2 (i 0).val (0 + (i 1).val * 128 + (i 2).val) := by
  rw [val_main_v37_apply, val_main_v32_apply]
  refine ((prod x0 x1 x2).at _).trans ?_
  have i1 : (i 1).val < 8 := (i 1).isLt
  have i2 : (i 2).val < 128 := (i 2).isLt
  show Z x0 x1 x2 ((((i 0).val * 8 + (i 1).val) * 128 + (i 2).val) / 1024) ((((i 0).val * 8 + (i 1).val) * 128 + (i 2).val) % 1024) = _
  exact congrArg₂ (Z x0 x1 x2) (by omega) (by omega)

/-- The roots of the mean squares of the querys. -/
theorem queryMean (i : S4096x8x1.Idx) :
    val_main_v45 (F := Ideal) x0 x1 x2 i = rootMean 128 0x43000000#32 (fun j => Z x0 x1 x2 (i 0).val (0 + (i 1).val * 128 + j)) := by
  rw [val_main_v45_apply, val_main_v44_apply, val_main_v42_apply, val_main_v40_apply, val_main_v41_apply, val_main_v43_apply, val_main_v39_apply]
  have s : (∑ k : Fin 128, (val_main_v38 (F := Ideal) x0 x1 x2) (idx_main_v39 (idx_main_v40 i) k))
      = ∑ j ∈ range 128, Z x0 x1 x2 (i 0).val (0 + (i 1).val * 128 + j) * Z x0 x1 x2 (i 0).val (0 + (i 1).val * 128 + j) := by
    refine Eq.trans ?_ (Fin.sum_univ_eq_sum_range (fun j => Z x0 x1 x2 (i 0).val (0 + (i 1).val * 128 + j) * Z x0 x1 x2 (i 0).val (0 + (i 1).val * 128 + j)) 128)
    refine Finset.sum_congr rfl fun k _ => ?_
    have e := queryRaw x0 x1 x2 (idx_main_v39 (idx_main_v40 i) k)
    exact congrArg₂ (fun u v : EReal => u * v) e e
  have e := (congrArg₂ (fun u v : EReal => u + v) Ideal.ofBits_zero_f32 s).trans (zero_add _)
  exact congrArg (fun u : EReal => Ideal.rsqrt (Ideal.div u (Ideal.ofBits .f32 0x43000000#32) + Ideal.ofBits .f32 0x358637BD#32)) e

/-- The querys. -/
theorem query : Rx (n := 4096) (m := 1024) (val_main_v51 (F := Ideal) x0 x1 x2 x3) (fun a b => heads (Z x0 x1 x2) (f3 x3) a (0 + b)) := fun a b => by
  have hb := b.isLt
  show _ = heads (Z x0 x1 x2) (f3 x3) a.val (0 + b.val)
  have e0 : (a.val * 1024 + b.val) / 1024 = a.val := by omega
  have e1 : (a.val * 1024 + b.val) / 128 % 8 * 128 = b.val / 128 * 128 := by omega
  have e2 : (a.val * 1024 + b.val) % 128 = b.val % 128 := by omega
  have raw : val_main_v37 (F := Ideal) x0 x1 x2 (idx_main_v51 (ix2 a b)) = Z x0 x1 x2 a.val (0 + b.val / 128 * 128 + b.val % 128) := by
    refine (queryRaw x0 x1 x2 _).trans ?_
    show Z x0 x1 x2 ((a.val * 1024 + b.val) / 1024) (0 + (a.val * 1024 + b.val) / 128 % 8 * 128 + (a.val * 1024 + b.val) % 128) = _
    rw [e0, e1, e2]
  have root : val_main_v46 (F := Ideal) x0 x1 x2 (idx_main_v51 (ix2 a b)) = rootMean 128 0x43000000#32 (fun j => Z x0 x1 x2 a.val (0 + b.val / 128 * 128 + j)) := by
    rw [val_main_v46_apply]
    refine (queryMean x0 x1 x2 _).trans ?_
    show rootMean 128 0x43000000#32 (fun j => Z x0 x1 x2 ((a.val * 1024 + b.val) / 1024) (0 + (a.val * 1024 + b.val) / 128 % 8 * 128 + j)) = _
    rw [e0, e1]
  have gain : val_main_v49 (F := Ideal) x3 (idx_main_v51 (ix2 a b)) = f3 x3 0 (b.val % 128) := by
    rw [val_main_v49_apply, val_main_v48_apply, val_main_v36_apply, val_main_v35_apply]
    refine ((ent_rx (n := 8) (m := 128) x3).at _).trans ?_
    show ent (n := 8) (m := 128) x3 (0) ((a.val * 1024 + b.val) % 128 % 128) = _
    rw [e2, Nat.mod_mod]
  rw [val_main_v51_apply, val_main_v50_apply, val_main_v47_apply, raw, root, gain]
  have h := heads_lt (Z x0 x1 x2) (f3 x3) (o := 0 + b.val / 128 * 128) (r := 0) (by omega) a.val (b := b.val % 128) (by omega)
  rw [show 0 + b.val / 128 * 128 + b.val % 128 = 0 + b.val by omega] at h ⊢
  exact h

/-- The keys, before their norms. -/
theorem keyRaw (i : S4096x8x128.Idx) : val_main_v54 (F := Ideal) x0 x1 x2 i = Z x0 x1 x2 (i 0).val (1024 + (i 1).val * 128 + (i 2).val) := by
  rw [val_main_v54_apply, val_main_v33_apply]
  refine ((prod x0 x1 x2).at _).trans ?_
  have i1 : (i 1).val < 8 := (i 1).isLt
  have i2 : (i 2).val < 128 := (i 2).isLt
  show Z x0 x1 x2 ((((i 0).val * 8 + (i 1).val) * 128 + (i 2).val) / 1024) (1024 + (((i 0).val * 8 + (i 1).val) * 128 + (i 2).val) % 1024) = _
  exact congrArg₂ (Z x0 x1 x2) (by omega) (by omega)

/-- The roots of the mean squares of the keys. -/
theorem keyMean (i : S4096x8x1.Idx) :
    val_main_v62 (F := Ideal) x0 x1 x2 i = rootMean 128 0x43000000#32 (fun j => Z x0 x1 x2 (i 0).val (1024 + (i 1).val * 128 + j)) := by
  rw [val_main_v62_apply, val_main_v61_apply, val_main_v59_apply, val_main_v57_apply, val_main_v58_apply, val_main_v60_apply, val_main_v56_apply]
  have s : (∑ k : Fin 128, (val_main_v55 (F := Ideal) x0 x1 x2) (idx_main_v56 (idx_main_v57 i) k))
      = ∑ j ∈ range 128, Z x0 x1 x2 (i 0).val (1024 + (i 1).val * 128 + j) * Z x0 x1 x2 (i 0).val (1024 + (i 1).val * 128 + j) := by
    refine Eq.trans ?_ (Fin.sum_univ_eq_sum_range (fun j => Z x0 x1 x2 (i 0).val (1024 + (i 1).val * 128 + j) * Z x0 x1 x2 (i 0).val (1024 + (i 1).val * 128 + j)) 128)
    refine Finset.sum_congr rfl fun k _ => ?_
    have e := keyRaw x0 x1 x2 (idx_main_v56 (idx_main_v57 i) k)
    exact congrArg₂ (fun u v : EReal => u * v) e e
  have e := (congrArg₂ (fun u v : EReal => u + v) Ideal.ofBits_zero_f32 s).trans (zero_add _)
  exact congrArg (fun u : EReal => Ideal.rsqrt (Ideal.div u (Ideal.ofBits .f32 0x43000000#32) + Ideal.ofBits .f32 0x358637BD#32)) e

/-- The keys. -/
theorem key : Rx (n := 4096) (m := 1024) (val_main_v68 (F := Ideal) x0 x1 x2 x3) (fun a b => heads (Z x0 x1 x2) (f3 x3) a (1024 + b)) := fun a b => by
  have hb := b.isLt
  show _ = heads (Z x0 x1 x2) (f3 x3) a.val (1024 + b.val)
  have e0 : (a.val * 1024 + b.val) / 1024 = a.val := by omega
  have e1 : (a.val * 1024 + b.val) / 128 % 8 * 128 = b.val / 128 * 128 := by omega
  have e2 : (a.val * 1024 + b.val) % 128 = b.val % 128 := by omega
  have raw : val_main_v54 (F := Ideal) x0 x1 x2 (idx_main_v68 (ix2 a b)) = Z x0 x1 x2 a.val (1024 + b.val / 128 * 128 + b.val % 128) := by
    refine (keyRaw x0 x1 x2 _).trans ?_
    show Z x0 x1 x2 ((a.val * 1024 + b.val) / 1024) (1024 + (a.val * 1024 + b.val) / 128 % 8 * 128 + (a.val * 1024 + b.val) % 128) = _
    rw [e0, e1, e2]
  have root : val_main_v63 (F := Ideal) x0 x1 x2 (idx_main_v68 (ix2 a b)) = rootMean 128 0x43000000#32 (fun j => Z x0 x1 x2 a.val (1024 + b.val / 128 * 128 + j)) := by
    rw [val_main_v63_apply]
    refine (keyMean x0 x1 x2 _).trans ?_
    show rootMean 128 0x43000000#32 (fun j => Z x0 x1 x2 ((a.val * 1024 + b.val) / 1024) (1024 + (a.val * 1024 + b.val) / 128 % 8 * 128 + j)) = _
    rw [e0, e1]
  have gain : val_main_v66 (F := Ideal) x3 (idx_main_v68 (ix2 a b)) = f3 x3 1 (b.val % 128) := by
    rw [val_main_v66_apply, val_main_v65_apply, val_main_v53_apply, val_main_v52_apply]
    refine ((ent_rx (n := 8) (m := 128) x3).at _).trans ?_
    show ent (n := 8) (m := 128) x3 (1 + 0) ((a.val * 1024 + b.val) % 128 % 128) = _
    rw [e2, Nat.mod_mod]
  rw [val_main_v68_apply, val_main_v67_apply, val_main_v64_apply, raw, root, gain]
  have h := heads_lt (Z x0 x1 x2) (f3 x3) (o := 1024 + b.val / 128 * 128) (r := 1) (by omega) a.val (b := b.val % 128) (by omega)
  rw [show 1024 + b.val / 128 * 128 + b.val % 128 = 1024 + b.val by omega] at h ⊢
  exact h

/-- The values. -/
theorem value : Rx (n := 4096) (m := 1024) (val_main_v34 (F := Ideal) x0 x1 x2) (fun a b => heads (Z x0 x1 x2) (f3 x3) a (2048 + b)) := fun a b => by
  rw [val_main_v34_apply]
  show _ = heads (Z x0 x1 x2) (f3 x3) a.val (2048 + b.val)
  unfold heads
  rw [if_neg (by omega)]
  exact (prod x0 x1 x2).at _

theorem result0 : val_main_v70 (F := Ideal) x0 x1 x2 x3
    = fun i : (⟨2, ![4096, 3072]⟩ : Shape).Idx => heads (Z x0 x1 x2) (f3 x3) (i 0).val (i 1).val := by
  funext i
  have r : Rx (n := 4096) (m := 3072) (val_main_v69 (F := Ideal) x0 x1 x2 x3) (heads (Z x0 x1 x2) (f3 x3)) := by
    unfold val_main_v69
    refine join3 (n := 4096) (k := 1024) (N := 3072) rfl (query x0 x1 x2 x3) (key x0 x1 x2 x3) (value x0 x1 x2 x3) (fun a b hb => ?_) (fun a b hb => ?_) (fun a b hb => ?_) _
    · rw [Nat.zero_add]
    · rfl
    · rfl
  rw [val_main_v70_apply]
  exact r.at i

theorem result1 : val_main_v71 (F := Ideal) x0 x1 x2 = fun i : (⟨2, ![4096, 2048]⟩ : Shape).Idx => Z x0 x1 x2 (i 0).val (i 1).val := by
  funext i
  rw [val_main_v71_apply]
  exact (prod x0 x1 x2).at _

end Cert.Sb.OdQkvRef
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Tn
public import proofs.«01_k».proof.Proof.Gen.Tn.Frame
public import proofs.«01_k».proof.Proof.Gen.TnIdeal
public import proofs.«01_k».proof.Proof.Gen.TnIdeal.Frame
public import proofs.«01_k».proof.Proof.Gen.TnIdeal.Value
public import proofs.«01_k».proof.Proof.Gen.TnReferenceIdeal
public import proofs.«01_k».proof.Proof.Gen.TnReferenceIdeal.Run
public import proofs.«01_k».proof.Proof.Gen.TnReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.EvIn
public import proofs.«01_k».proof.Proof.Gen.EvIn.Frame
public import proofs.«01_k».proof.Proof.Gen.EvInIdeal
public import proofs.«01_k».proof.Proof.Gen.EvInIdeal.Frame
public import proofs.«01_k».proof.Proof.Gen.EvInIdeal.Value
public import proofs.«01_k».proof.Proof.Gen.EvInReferenceIdeal
public import proofs.«01_k».proof.Proof.Gen.EvInReferenceIdeal.Run
public import proofs.«01_k».proof.Proof.Gen.EvInReferenceIdeal.Read
public import proofs.«01_k».proof.Proof.Gen.OdIn
public import proofs.«01_k».proof.Proof.Gen.OdIn.Frame
public import proofs.«01_k».proof.Proof.Gen.OdInIdeal
public import proofs.«01_k».proof.Proof.Gen.OdInIdeal.Frame
public import proofs.«01_k».proof.Proof.Gen.OdInIdeal.Value
public import proofs.«01_k».proof.Proof.Gen.OdInReferenceIdeal
public import proofs.«01_k».proof.Proof.Gen.OdInReferenceIdeal.Run
public import proofs.«01_k».proof.Proof.Gen.OdInReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.OdOut
public import proofs.«01_k».proof.Proof.Gen.OdOut.Frame
public import proofs.«01_k».proof.Proof.Gen.OdOutIdeal
public import proofs.«01_k».proof.Proof.Gen.OdOutIdeal.Frame
public import proofs.«01_k».proof.Proof.Gen.OdOutIdeal.Value
public import proofs.«01_k».proof.Proof.Gen.OdOutReferenceIdeal
public import proofs.«01_k».proof.Proof.Gen.OdOutReferenceIdeal.Run
public import proofs.«01_k».proof.Proof.Gen.OdOutReferenceIdeal.Read
public import proofs.«01_k».proof.Proof.Gen.OdOutB
public import proofs.«01_k».proof.Proof.Gen.OdOutB.Frame
public import proofs.«01_k».proof.Proof.Gen.OdOutBIdeal
public import proofs.«01_k».proof.Proof.Gen.OdOutBIdeal.Frame
public import proofs.«01_k».proof.Proof.Gen.OdOutBIdeal.Value
public import proofs.«01_k».proof.Proof.Gen.OdOutBReferenceIdeal
public import proofs.«01_k».proof.Proof.Gen.OdOutBReferenceIdeal.Run
public import proofs.«01_k».proof.Proof.Gen.OdOutBReferenceIdeal.Read
public import proofs.«01_k».proof.Proof.FfnRun
public import proofs.«01_k».proof.Proof.FfnRef
public import proofs.«01_k».proof.Proof.FfnPre
public import proofs.«01_k».proof.Proof.Run
public import proofs.«01_k».proof.Proof.Ref
public import proofs.«01_k».proof.Proof.Pre
public import Idealize.ShloMosaic.Adequacy
public import Idealize.ShloMosaic.Init
public import Idealize.ShloMosaic.Lib.Quiescent
public import proofs.«01_k».proof.Proof.OdOutRun
public import proofs.«01_k».proof.Proof.OdOutRef
public import proofs.«01_k».proof.Proof.OdOutBRun
public import proofs.«01_k».proof.Proof.OdOutBRef
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.LossRun
public import proofs.«01_k».proof.Proof.LossRef
public import proofs.«01_k».proof.Proof.ModRun
public import proofs.«01_k».proof.Proof.ModRef
public import proofs.«01_k».proof.Proof.AdaRun
public import proofs.«01_k».proof.Proof.AdaRef
public import proofs.«01_k».proof.Proof.TnRun
public import proofs.«01_k».proof.Proof.TnRef
public import proofs.«01_k».proof.Proof.GateRun
public import proofs.«01_k».proof.Proof.GateRef
public import proofs.«01_k».proof.Proof.UpRun
public import proofs.«01_k».proof.Proof.UpRef
public import proofs.«01_k».proof.Proof.EvInRun
public import proofs.«01_k».proof.Proof.EvInRef
public import proofs.«01_k».proof.Proof.OdInRun
public import proofs.«01_k».proof.Proof.OdInRef
public import proofs.«01_k».proof.Proof.OutRun
public import proofs.«01_k».proof.Proof.OutRef
public import proofs.«01_k».proof.Proof.Gen.OdQkv
public import proofs.«01_k».proof.Proof.Gen.OdQkv.Frame
public import proofs.«01_k».proof.Proof.Gen.OdQkvIdeal
public import proofs.«01_k».proof.Proof.Gen.OdQkvIdeal.Frame
public import proofs.«01_k».proof.Proof.Gen.OdQkvIdeal.Value
public import proofs.«01_k».proof.Proof.Gen.OdQkvReferenceIdeal
public import proofs.«01_k».proof.Proof.Gen.OdQkvReferenceIdeal.Run
public import proofs.«01_k».proof.Proof.Gen.OdQkvReferenceIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.OdQkvRun
public import proofs.«01_k».proof.Proof.OdQkvRef

@[expose] public section

noncomputable section

namespace Cert.Proof

open Idealize.ShloMosaic Idealize.SL.Sem Cert.Kernel

theorem frame_reference (m : (l : Loc Cert.ReferenceIdeal.nD Cert.ReferenceIdeal.τ Cert.ReferenceIdeal.sig) → Buf (Elt Ideal) l)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.2.2.2.1, (h c).2.2.2.2.2⟩, sem_eq_zero_of_no_sems (by decide) r.2⟩)
    (Cert.ReferenceIdeal.Value.run m g)

/-- The matrix that holds given real numbers. -/
def mat {n m : ℕ} (f : ℕ → ℕ → ℝ) : (⟨2, ![n, m]⟩ : Shape).Idx → EReal := fun i => ((f (i 0).val (i 1).val : ℝ) : EReal)

theorem mat_rd {n m : ℕ} (f : ℕ → ℕ → ℝ) : Cert.Sb.Rd (n := n) (m := m) (mat f) f := fun _ _ => rfl

theorem algebraic : Cert.algebraic_KernelIdeal_ReferenceIdeal_pre_finite (hKernelIdeal := Cert.KernelIdeal.Gen.facts)
    (hReferenceIdeal := Cert.ReferenceIdeal.Gen.facts) (hPre_finite := Cert.Sb.Pre.facts) := by
  intro m g m' g' hpre hargs
  choose X Y hXY using fun c => Cert.Sb.Pre.finite (hpre c)
  refine ⟨fun c => mat (n := 4096) (m := 1024) fun a e => (Cert.Sb.Arr.hd (X c) (Y c) (e / 128)).O a (e % 128),
    fun c => mat (n := 4096) (m := 1024) fun a e => (Cert.Sb.Arr.hd (X c) (Y c) (e / 128)).dq a (e % 128),
    fun c => mat (n := 4096) (m := 1024) fun a e => (Cert.Sb.Arr.hd (X c) (Y c) (e / 128)).dk a (e % 128),
    fun c => mat (n := 4096) (m := 1024) fun a e => (Cert.Sb.Arr.hd (X c) (Y c) (e / 128)).dv a (e % 128), ?_, ?_⟩
  · refine (θ_run _ _ _).mono (fun r h c => ?_) (Cert.Sb.Run.run m g (fun c => (hXY c).1) fun c => (hXY c).2)
    obtain ⟨h0, h1, h2, h3, h4, h5⟩ := h c
    exact ⟨h0.ext (mat_rd _), h1.ext (mat_rd _), h2.ext (mat_rd _), h3.ext (mat_rd _), h4, h5⟩
  · refine (θ_run _ _ _).mono (fun r h c => ?_) (Cert.ReferenceIdeal.Value.run m' g')
    obtain ⟨h0, h1, h2, h3, h4, h5⟩ := h c
    have hX : Cert.Sb.Rd (n := 4096) (m := 3072) (m' ((c.tc : Thread Cert.ReferenceIdeal.nD Cert.ReferenceIdeal.τ).loc Cert.ReferenceIdeal.main_arg0)) (X c) := by
      rw [(hargs c).1]; exact (hXY c).1
    have hY : Cert.Sb.Rd (n := 4096) (m := 1024) (m' ((c.tc : Thread Cert.ReferenceIdeal.nD Cert.ReferenceIdeal.τ).loc Cert.ReferenceIdeal.main_arg1)) (Y c) := by
      rw [(hargs c).2]; exact (hXY c).2
    refine ⟨?_, ?_, ?_, ?_, h4, h5⟩
    · rw [h0, Cert.ReferenceIdeal.Read.val_main_v31_eq]; exact (Cert.Sb.Ref.o_rd hX).ext (mat_rd _)
    · rw [h1, Cert.ReferenceIdeal.Read.val_main_v57_eq]; exact (Cert.Sb.Ref.dq_rd hX hY).ext (mat_rd _)
    · rw [h2, Cert.ReferenceIdeal.Read.val_main_v55_eq]; exact (Cert.Sb.Ref.dk_rd hX hY).ext (mat_rd _)
    · rw [h3, Cert.ReferenceIdeal.Read.val_main_v53_eq]; exact (Cert.Sb.Ref.dv_rd hX hY).ext (mat_rd _)

theorem at_idx {n m : ℕ} {x : (⟨2, ![n, m]⟩ : Shape).Idx → EReal} {X : ℕ → ℕ → ℝ} (h : Cert.Sb.Rd x X) (i : (⟨2, ![n, m]⟩ : Shape).Idx) :
    x i = ((X (i 0).val (i 1).val : ℝ) : EReal) := by
  rw [ValueIdx.eq_ix2 i]; exact h _ _

theorem frame_ffn_reference (m : (l : Loc Cert.FfnReferenceIdeal.nD Cert.FfnReferenceIdeal.τ Cert.FfnReferenceIdeal.sig) → Buf (Elt Ideal) l)
    (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0) :=
  (θ_run _ _ _).mono (fun r h => ⟨fun c => (h c).2.2.2.2.2.2.2, sem_eq_zero_of_no_sems (by decide) r.2⟩)
    (Cert.FfnReferenceIdeal.Value.run m g)

theorem algebraic_ffn : Cert.algebraic_FfnIdeal_FfnReferenceIdeal_pre_finite_layer (hFfnIdeal := Cert.FfnIdeal.Gen.facts)
    (hFfnReferenceIdeal := Cert.FfnReferenceIdeal.Gen.facts) (hPre_finite_layer := Cert.Sb.FfnPre.facts) := by
  intro m g m' g' hpre hargs
  choose L hL using fun c => Cert.Sb.FfnPre.finite (hpre c)
  refine ⟨fun c => mat (n := 4096) (m := 1024) (L c).y, fun c => mat (n := 4096) (m := 1024) (L c).dx, fun c => mat (n := 4096) (m := 5632) (L c).dab,
    fun c => mat (n := 4096) (m := 1024) (L c).h, fun c => mat (n := 4096) (m := 2816) (L c).s, fun c => mat (n := 4096) (m := 1024) (L c).df,
    fun c => mat (n := 8) (m := 1024) fun i b => ∑ t ∈ Finset.range 4096, (L c).q i t b, ?_, ?_⟩
  · refine (θ_run _ _ _).mono (fun r h c => ?_)
      (Cert.Sb.Ffn.run m g (fun c => (hL c).1) (fun c => (hL c).2.1) (fun c => (hL c).2.2.1) fun c => (hL c).2.2.2)
    obtain ⟨h0, h1, h2, h3, h4, h5, h6, ha⟩ := h c
    exact ⟨h0.ext (mat_rd _), h1.ext (mat_rd _), h2.ext (mat_rd _), h3.ext (mat_rd _), h4.ext (mat_rd _), h5.ext (mat_rd _), h6.ext (mat_rd _),
      ha Cert.FfnIdeal.main_arg0 (by decide), ha Cert.FfnIdeal.main_arg1 (by decide), ha Cert.FfnIdeal.main_arg2 (by decide),
      ha Cert.FfnIdeal.main_arg3 (by decide)⟩
  · refine (θ_run _ _ _).mono (fun r h c => ?_) (Cert.FfnReferenceIdeal.Value.run m' g')
    obtain ⟨h0, h1, h2, h3, h4, h5, h6, ha⟩ := h c
    have hx : Cert.Sb.Rd (n := 4096) (m := 1024) (m' ((c.tc : Thread Cert.FfnReferenceIdeal.nD Cert.FfnReferenceIdeal.τ).loc Cert.FfnReferenceIdeal.main_arg0)) (L c).x := by
      rw [(hargs c).1]; exact (hL c).1
    have hmp : Cert.Sb.Rd (n := 8) (m := 1024) (m' ((c.tc : Thread Cert.FfnReferenceIdeal.nD Cert.FfnReferenceIdeal.τ).loc Cert.FfnReferenceIdeal.main_arg1)) (L c).mp := by
      rw [(hargs c).2.1]; exact (hL c).2.1
    have hw : Cert.Sb.Ffn.W3 (m' ((c.tc : Thread Cert.FfnReferenceIdeal.nD Cert.FfnReferenceIdeal.τ).loc Cert.FfnReferenceIdeal.main_arg2)) (L c) := by
      rw [(hargs c).2.2.1]; exact (hL c).2.2.1
    have hdy : Cert.Sb.Rd (n := 4096) (m := 1024) (m' ((c.tc : Thread Cert.FfnReferenceIdeal.nD Cert.FfnReferenceIdeal.τ).loc Cert.FfnReferenceIdeal.main_arg3)) (L c).dy := by
      rw [(hargs c).2.2.2]; exact (hL c).2.2.2
    refine ⟨?_, ?_, ?_, ?_, ?_, ?_, ?_, ha⟩
    · rw [h0, Cert.FfnReferenceIdeal.Read.val_main_v54_eq]; exact (Cert.Sb.FfnRef.y_rd (at_idx hx) (at_idx hmp) hw).ext (mat_rd _)
    · rw [h1, Cert.FfnReferenceIdeal.Read.val_main_v108_eq]; exact (Cert.Sb.FfnRef.dx_rd (at_idx hx) (at_idx hmp) hw (at_idx hdy)).ext (mat_rd _)
    · rw [h2, Cert.FfnReferenceIdeal.Read.val_main_v110_eq]; exact (Cert.Sb.FfnRef.dab_rd (at_idx hx) (at_idx hmp) hw (at_idx hdy)).ext (mat_rd _)
    · rw [h3, Cert.FfnReferenceIdeal.Read.val_main_v111_eq]; exact (Cert.Sb.FfnRef.h_rd (at_idx hx) (at_idx hmp)).ext (mat_rd _)
    · rw [h4, Cert.FfnReferenceIdeal.Read.val_main_v112_eq]; exact (Cert.Sb.FfnRef.s_rd (at_idx hx) (at_idx hmp) hw).ext (mat_rd _)
    · rw [h5, Cert.FfnReferenceIdeal.Read.val_main_v113_eq]; exact (Cert.Sb.FfnRef.df_rd (at_idx hmp) (at_idx hdy)).ext (mat_rd _)
    · rw [h6, Cert.FfnReferenceIdeal.Read.val_main_v107_eq]; exact (Cert.Sb.FfnRef.v107 (at_idx hx) (at_idx hmp) hw (at_idx hdy)).ext (mat_rd _)

theorem algebraic_tn : Cert.algebraic_TnIdeal_TnReferenceIdeal (hTnIdeal := Cert.TnIdeal.Gen.facts)
    (hTnReferenceIdeal := Cert.TnReferenceIdeal.Gen.facts) := by
  intro m g m' g' _ hargs
  refine ⟨fun c => Cert.Sb.Tn.upd (n := 8) (q := 3) (r := 352) (m := 1024) 4096 2 (fun t a => Cert.Sb.TnRun.A m c t (0 * 2816 + a)) (Cert.Sb.TnRun.B m c)
    (m ((c.tc : Thread Cert.TnIdeal.nD Cert.TnIdeal.τ).loc Cert.TnIdeal.main_arg2)), ?_, ?_⟩
  · refine (θ_run _ _ _).mono (fun r h c => ?_) (Cert.TnIdeal.Value.run_blocks m g)
    exact ⟨(h c).1.trans (Cert.Sb.TnRun.result m c), (h c).2⟩
  · refine (θ_run _ _ _).mono (fun r h c => ?_) (Cert.TnReferenceIdeal.Value.run m' g')
    refine ⟨?_, (h c).2⟩
    rw [(h c).1, Cert.TnReferenceIdeal.Read.val_main_v9_eq, (hargs c).1, (hargs c).2.1, (hargs c).2.2]
    exact Cert.Sb.TnRef.result _ _ _

theorem algebraic_gate : Cert.algebraic_GateIdeal_GateReferenceIdeal (hGateIdeal := Cert.GateIdeal.Gen.facts)
    (hGateReferenceIdeal := Cert.GateReferenceIdeal.Gen.facts) := by
  intro m g m' g' _ hargs
  refine ⟨fun c => Cert.Sb.Tn.upd (n := 8) (q := 3) (r := 352) (m := 1024) 4096 0 (fun t a => Cert.Sb.GateRun.A m c t (0 * 2816 + a)) (Cert.Sb.GateRun.B m c)
    (m ((c.tc : Thread Cert.GateIdeal.nD Cert.GateIdeal.τ).loc Cert.GateIdeal.main_arg2)), ?_, ?_⟩
  · refine (θ_run _ _ _).mono (fun r h c => ?_) (Cert.GateIdeal.Value.run_blocks m g)
    exact ⟨(h c).1.trans (Cert.Sb.GateRun.result m c), (h c).2⟩
  · refine (θ_run _ _ _).mono (fun r h c => ?_) (Cert.GateReferenceIdeal.Value.run m' g')
    refine ⟨?_, (h c).2⟩
    rw [(h c).1, Cert.GateReferenceIdeal.Read.val_main_v11_eq, (hargs c).1, (hargs c).2.1, (hargs c).2.2]
    exact Cert.Sb.GateRef.result _ _ _

theorem algebraic_up : Cert.algebraic_UpIdeal_UpReferenceIdeal (hUpIdeal := Cert.UpIdeal.Gen.facts)
    (hUpReferenceIdeal := Cert.UpReferenceIdeal.Gen.facts) := by
  intro m g m' g' _ hargs
  refine ⟨fun c => Cert.Sb.Tn.upd (n := 8) (q := 3) (r := 352) (m := 1024) 4096 1 (fun t a => Cert.Sb.UpRun.A m c t (1 * 2816 + a)) (Cert.Sb.UpRun.B m c)
    (m ((c.tc : Thread Cert.UpIdeal.nD Cert.UpIdeal.τ).loc Cert.UpIdeal.main_arg2)), ?_, ?_⟩
  · refine (θ_run _ _ _).mono (fun r h c => ?_) (Cert.UpIdeal.Value.run_blocks m g)
    exact ⟨(h c).1.trans (Cert.Sb.UpRun.result m c), (h c).2⟩
  · refine (θ_run _ _ _).mono (fun r h c => ?_) (Cert.UpReferenceIdeal.Value.run m' g')
    refine ⟨?_, (h c).2⟩
    rw [(h c).1, Cert.UpReferenceIdeal.Read.val_main_v12_eq, (hargs c).1, (hargs c).2.1, (hargs c).2.2]
    exact Cert.Sb.UpRef.result _ _ _

theorem algebraic_evin : Cert.algebraic_EvInIdeal_EvInReferenceIdeal (hEvInIdeal := Cert.EvInIdeal.Gen.facts)
    (hEvInReferenceIdeal := Cert.EvInReferenceIdeal.Gen.facts) := by
  intro m g m' g' _ hargs
  refine ⟨fun c => Cert.Sb.Tn.upd (n := 8) (q := 1) (r := 448) (m := 1024) 4096 0 (fun t a => Cert.Sb.EvInRun.A m c t (0 * 3584 + a)) (Cert.Sb.EvInRun.B m c)
    (m ((c.tc : Thread Cert.EvInIdeal.nD Cert.EvInIdeal.τ).loc Cert.EvInIdeal.main_arg2)), ?_, ?_⟩
  · refine (θ_run _ _ _).mono (fun r h c => ?_) (Cert.EvInIdeal.Value.run_blocks m g)
    exact ⟨(h c).1.trans (Cert.Sb.EvInRun.result m c), (h c).2⟩
  · refine (θ_run _ _ _).mono (fun r h c => ?_) (Cert.EvInReferenceIdeal.Value.run m' g')
    refine ⟨?_, (h c).2⟩
    rw [(h c).1, Cert.EvInReferenceIdeal.Read.val_main_v8_eq, (hargs c).1, (hargs c).2.1]
    exact Cert.Sb.EvInRef.result _ _ (m ((c.tc : Thread Cert.EvInIdeal.nD Cert.EvInIdeal.τ).loc Cert.EvInIdeal.main_arg2))

theorem algebraic_odin : Cert.algebraic_OdInIdeal_OdInReferenceIdeal (hOdInIdeal := Cert.OdInIdeal.Gen.facts)
    (hOdInReferenceIdeal := Cert.OdInReferenceIdeal.Gen.facts) := by
  intro m g m' g' _ hargs
  refine ⟨fun c => Cert.Sb.Tn.upd (n := 8) (q := 1) (r := 384) (m := 1024) 4096 0 (fun t a => Cert.Sb.OdInRun.A m c t (0 * 3072 + a)) (Cert.Sb.OdInRun.B m c)
    (m ((c.tc : Thread Cert.OdInIdeal.nD Cert.OdInIdeal.τ).loc Cert.OdInIdeal.main_arg2)), ?_, ?_⟩
  · refine (θ_run _ _ _).mono (fun r h c => ?_) (Cert.OdInIdeal.Value.run_blocks m g)
    exact ⟨(h c).1.trans (Cert.Sb.OdInRun.result m c), (h c).2⟩
  · refine (θ_run _ _ _).mono (fun r h c => ?_) (Cert.OdInReferenceIdeal.Value.run m' g')
    refine ⟨?_, (h c).2⟩
    rw [(h c).1, Cert.OdInReferenceIdeal.Read.val_main_v8_eq, (hargs c).1, (hargs c).2.1]
    exact Cert.Sb.OdInRef.result _ _ (m ((c.tc : Thread Cert.OdInIdeal.nD Cert.OdInIdeal.τ).loc Cert.OdInIdeal.main_arg2))

theorem algebraic_out : Cert.algebraic_OutIdeal_OutReferenceIdeal (hOutIdeal := Cert.OutIdeal.Gen.facts)
    (hOutReferenceIdeal := Cert.OutReferenceIdeal.Gen.facts) := by
  intro m g m' g' _ hargs
  refine ⟨fun c => Cert.Sb.Tn.upd (n := 8) (q := 1) (r := 128) (m := 1024) 4096 0 (fun t a => Cert.Sb.OutRun.A m c t (0 * 1024 + a)) (Cert.Sb.OutRun.B m c)
    (m ((c.tc : Thread Cert.OutIdeal.nD Cert.OutIdeal.τ).loc Cert.OutIdeal.main_arg2)), ?_, ?_⟩
  · refine (θ_run _ _ _).mono (fun r h c => ?_) (Cert.OutIdeal.Value.run_blocks m g)
    exact ⟨(h c).1.trans (Cert.Sb.OutRun.result m c), (h c).2⟩
  · refine (θ_run _ _ _).mono (fun r h c => ?_) (Cert.OutReferenceIdeal.Value.run m' g')
    refine ⟨?_, (h c).2⟩
    rw [(h c).1, Cert.OutReferenceIdeal.Read.val_main_v7_eq, (hargs c).1, (hargs c).2.1]
    exact Cert.Sb.OutRef.result _ _ (m ((c.tc : Thread Cert.OutIdeal.nD Cert.OutIdeal.τ).loc Cert.OutIdeal.main_arg2))

theorem algebraic_odout : Cert.algebraic_OdOutIdeal_OdOutReferenceIdeal (hOdOutIdeal := Cert.OdOutIdeal.Gen.facts)
    (hOdOutReferenceIdeal := Cert.OdOutReferenceIdeal.Gen.facts) := by
  intro m g m' g' _ hargs
  refine ⟨fun c => fun i : (⟨2, ![4096, 1024]⟩ : Shape).Idx => Cert.Sb.OdOutRun.X1 m c (i 0).val (i 1).val,
    fun c => fun i : (⟨2, ![4096, 1024]⟩ : Shape).Idx => Cert.Sb.OdOutRun.Y m c (i 0).val (i 1).val, ?_, ?_⟩
  · refine (θ_run _ _ _).mono (fun r h c => ?_) (Cert.OdOutIdeal.Value.run_blocks m g)
    exact ⟨(h c).1.trans (Cert.Sb.OdOutRun.arr4 m c), (h c).2.1.trans (Cert.Sb.OdOutRun.arr5 m c), (h c).2.2⟩
  · refine (θ_run _ _ _).mono (fun r h c => ?_) (Cert.OdOutReferenceIdeal.Value.run m' g')
    refine ⟨?_, ?_, (h c).2.2⟩
    · rw [(h c).1, Cert.OdOutReferenceIdeal.Read.val_main_v10_eq, (hargs c).1, (hargs c).2.1, (hargs c).2.2.1, (hargs c).2.2.2]
      exact Cert.Sb.OdOutRef.result10 _ _ _ _
    · rw [(h c).2.1, Cert.OdOutReferenceIdeal.Read.val_main_v4_eq, (hargs c).1, (hargs c).2.2.2]
      exact Cert.Sb.OdOutRef.result4 _ _

theorem algebraic_odoutb : Cert.algebraic_OdOutBIdeal_OdOutBReferenceIdeal (hOdOutBIdeal := Cert.OdOutBIdeal.Gen.facts)
    (hOdOutBReferenceIdeal := Cert.OdOutBReferenceIdeal.Gen.facts) := by
  intro m g m' g' _ hargs
  refine ⟨fun c => fun i : (⟨2, ![4096, 1024]⟩ : Shape).Idx => Cert.Sb.OdOutBRun.DO m c (i 0).val (i 1).val,
    fun c => fun i : (⟨2, ![4096, 1024]⟩ : Shape).Idx => Cert.Sb.OdOutBRun.DY m c (i 0).val (i 1).val,
    fun c => fun i : (⟨2, ![8, 1024]⟩ : Shape).Idx => Cert.Sb.Tn.row 2 (Cert.Sb.OdOutBRun.DG m c 4096) (fun _ _ => 0) (i 0).val (i 1).val, ?_, ?_⟩
  · refine (θ_run _ _ _).mono (fun r h c => ?_) (Cert.OdOutBIdeal.Value.run_blocks m g)
    exact ⟨(h c).1.trans (Cert.Sb.OdOutBRun.arr4 m c), (h c).2.1.trans (Cert.Sb.OdOutBRun.arr5 m c), (h c).2.2.1.trans (Cert.Sb.OdOutBRun.arr6 m c),
      (h c).2.2.2⟩
  · refine (θ_run _ _ _).mono (fun r h c => ?_) (Cert.OdOutBReferenceIdeal.Value.run m' g')
    refine ⟨?_, ?_, ?_, (h c).2.2.2⟩
    · rw [(h c).1, Cert.OdOutBReferenceIdeal.Read.val_main_v20_eq, (hargs c).1, (hargs c).2.2.1, (hargs c).2.2.2]
      exact Cert.Sb.OdOutBRef.result20 _ _ _
    · rw [(h c).2.1, Cert.OdOutBReferenceIdeal.Read.val_main_v21_eq, (hargs c).1, (hargs c).2.2.1]
      exact Cert.Sb.OdOutBRef.result21 _ _
    · rw [(h c).2.2.1, Cert.OdOutBReferenceIdeal.Read.val_main_v25_eq, (hargs c).1, (hargs c).2.1]
      exact Cert.Sb.OdOutBRef.result25 _ _

theorem algebraic_odqkv : Cert.algebraic_OdQkvIdeal_OdQkvReferenceIdeal (hOdQkvIdeal := Cert.OdQkvIdeal.Gen.facts)
    (hOdQkvReferenceIdeal := Cert.OdQkvReferenceIdeal.Gen.facts) := by
  intro m g m' g' _ hargs
  refine ⟨fun c => fun i : (⟨2, ![4096, 3072]⟩ : Shape).Idx => Cert.Sb.OdQkvRun.O m c (i 0).val (i 1).val,
    fun c => fun i : (⟨2, ![4096, 2048]⟩ : Shape).Idx => Cert.Sb.OdQkvRun.Z m c (i 0).val (i 1).val, ?_, ?_⟩
  · refine (θ_run _ _ _).mono (fun r h c => ?_) (Cert.OdQkvIdeal.Value.run_blocks m g)
    exact ⟨(h c).1.trans (Cert.Sb.OdQkvRun.arr4 m c), (h c).2.1.trans (Cert.Sb.OdQkvRun.arr5 m c), (h c).2.2⟩
  · refine (θ_run _ _ _).mono (fun r h c => ?_) (Cert.OdQkvReferenceIdeal.Value.run m' g')
    refine ⟨?_, ?_, (h c).2.2⟩
    · rw [(h c).1, Cert.OdQkvReferenceIdeal.Read.val_main_v70_eq, (hargs c).1, (hargs c).2.1, (hargs c).2.2.1, (hargs c).2.2.2]
      exact Cert.Sb.OdQkvRef.result0 _ _ _ _
    · rw [(h c).2.1, Cert.OdQkvReferenceIdeal.Read.val_main_v71_eq, (hargs c).1, (hargs c).2.1, (hargs c).2.2.1]
      exact Cert.Sb.OdQkvRef.result1 _ _ _

theorem algebraic_loss : Cert.algebraic_LossIdeal_LossReferenceIdeal (hLossIdeal := Cert.LossIdeal.Gen.facts)
    (hLossReferenceIdeal := Cert.LossReferenceIdeal.Gen.facts) := by
  intro m g m' g' _ hargs
  refine ⟨fun c => fun i : (⟨2, ![4096, 1024]⟩ : Shape).Idx => Cert.Sb.LossRun.DX m c (i 0).val (i 1).val,
    fun c => fun _ : (⟨2, ![1, 1]⟩ : Shape).Idx => Cert.Sb.LossRun.LS m c 4096, ?_, ?_⟩
  · refine (θ_run _ _ _).mono (fun r h c => ?_) (Cert.LossIdeal.Value.run_blocks m g)
    exact ⟨(h c).1.trans (Cert.Sb.LossRun.arr2 m c), (h c).2.1.trans (Cert.Sb.LossRun.arr3 m c), (h c).2.2⟩
  · refine (θ_run _ _ _).mono (fun r h c => ?_) (Cert.LossReferenceIdeal.Value.run m' g')
    refine ⟨?_, ?_, (h c).2.2⟩
    · rw [(h c).1, Cert.LossReferenceIdeal.Read.val_main_v14_eq, (hargs c).1, (hargs c).2]
      exact Cert.Sb.LossRef.result14 _ _
    · rw [(h c).2.1, Cert.LossReferenceIdeal.Read.val_main_v15_eq, (hargs c).1, (hargs c).2]
      exact Cert.Sb.LossRef.result15 _ _

theorem algebraic_mod : Cert.algebraic_ModIdeal_ModReferenceIdeal (hModIdeal := Cert.ModIdeal.Gen.facts)
    (hModReferenceIdeal := Cert.ModReferenceIdeal.Gen.facts) := by
  intro m g m' g' _ hargs
  refine ⟨fun c => fun i : (⟨3, ![4, 1024, 768]⟩ : Shape).Idx => Cert.Sb.ModRun.grad (Cert.Sb.ModRun.A0 m c) (Cert.Sb.ModRun.A1 m c (i 0).val) (i 1).val (i 2).val, ?_, ?_⟩
  · refine (θ_run _ _ _).mono (fun r h c => ?_) (Cert.ModIdeal.Value.run_blocks m g)
    exact ⟨(h c).1.trans (Cert.Sb.ModRun.arr2 m c), (h c).2⟩
  · refine (θ_run _ _ _).mono (fun r h c => ?_) (Cert.ModReferenceIdeal.Value.run m' g')
    refine ⟨?_, (h c).2⟩
    rw [(h c).1, Cert.ModReferenceIdeal.Read.val_main_v7_eq, (hargs c).1, (hargs c).2]
    exact Cert.Sb.ModRef.result7 _ _

theorem algebraic_ada : Cert.algebraic_AdaIdeal_AdaReferenceIdeal (hAdaIdeal := Cert.AdaIdeal.Gen.facts)
    (hAdaReferenceIdeal := Cert.AdaReferenceIdeal.Gen.facts) := by
  intro m g m' g' _ hargs
  refine ⟨fun c => fun i : (⟨3, ![4, 8, 768]⟩ : Shape).Idx => Cert.Sb.AdaRun.modu (Cert.Sb.AdaRun.A0 m c) (Cert.Sb.AdaRun.A1 m c (i 0).val)
    (Cert.Sb.AdaRun.A2 m c (i 0).val) (i 1).val (i 2).val, ?_, ?_⟩
  · refine (θ_run _ _ _).mono (fun r h c => ?_) (Cert.AdaIdeal.Value.run_blocks m g)
    exact ⟨(h c).1.trans (Cert.Sb.AdaRun.arr3 m c), (h c).2⟩
  · refine (θ_run _ _ _).mono (fun r h c => ?_) (Cert.AdaReferenceIdeal.Value.run m' g')
    refine ⟨?_, (h c).2⟩
    rw [(h c).1, Cert.AdaReferenceIdeal.Read.val_main_v5_eq, (hargs c).1, (hargs c).2.1, (hargs c).2.2]
    exact Cert.Sb.AdaRef.result5 _ _ _

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts, Cert.Tn.Gen.facts, Cert.TnIdeal.Gen.facts, Cert.TnReferenceIdeal.Gen.facts,
  Cert.Gate.Gen.facts, Cert.GateIdeal.Gen.facts, Cert.GateReferenceIdeal.Gen.facts,
  Cert.Up.Gen.facts, Cert.UpIdeal.Gen.facts, Cert.UpReferenceIdeal.Gen.facts,
  Cert.EvIn.Gen.facts, Cert.EvInIdeal.Gen.facts, Cert.EvInReferenceIdeal.Gen.facts,
  Cert.OdIn.Gen.facts, Cert.OdInIdeal.Gen.facts, Cert.OdInReferenceIdeal.Gen.facts,
  Cert.Out.Gen.facts, Cert.OutIdeal.Gen.facts, Cert.OutReferenceIdeal.Gen.facts,
  Cert.OdOut.Gen.facts, Cert.OdOutIdeal.Gen.facts, Cert.OdOutReferenceIdeal.Gen.facts,
  Cert.OdOutB.Gen.facts, Cert.OdOutBIdeal.Gen.facts, Cert.OdOutBReferenceIdeal.Gen.facts,
  Cert.OdQkv.Gen.facts, Cert.OdQkvIdeal.Gen.facts, Cert.OdQkvReferenceIdeal.Gen.facts,
  Cert.Loss.Gen.facts, Cert.LossIdeal.Gen.facts, Cert.LossReferenceIdeal.Gen.facts,
  Cert.Mod.Gen.facts, Cert.ModIdeal.Gen.facts, Cert.ModReferenceIdeal.Gen.facts,
  Cert.Ada.Gen.facts, Cert.AdaIdeal.Gen.facts, Cert.AdaReferenceIdeal.Gen.facts,
  Cert.Sb.Pre.facts, Cert.Sb.FfnPre.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Ffn.Gen.frame m ρ, fun m ρ _ => Cert.FfnIdeal.Gen.frame m ρ, fun m ρ _ => Cert.FfnIdeal.Gen.frame m ρ,
  fun m ρ _ => frame_ffn_reference m ρ, fun m ρ _ => frame_ffn_reference m ρ,
  fun m ρ _ => Cert.Tn.Gen.frame m ρ, fun m ρ _ => Cert.TnIdeal.Gen.frame m ρ,
  fun m ρ _ => (θ_run _ _ _).mono (fun r h => ⟨fun c => (h c).2, sem_eq_zero_of_no_sems (by decide) r.2⟩) (Cert.TnReferenceIdeal.Value.run m ρ),
  fun m ρ _ => Cert.Gate.Gen.frame m ρ, fun m ρ _ => Cert.GateIdeal.Gen.frame m ρ,
  fun m ρ _ => (θ_run _ _ _).mono (fun r h => ⟨fun c => (h c).2, sem_eq_zero_of_no_sems (by decide) r.2⟩) (Cert.GateReferenceIdeal.Value.run m ρ),
  fun m ρ _ => Cert.Up.Gen.frame m ρ, fun m ρ _ => Cert.UpIdeal.Gen.frame m ρ,
  fun m ρ _ => (θ_run _ _ _).mono (fun r h => ⟨fun c => (h c).2, sem_eq_zero_of_no_sems (by decide) r.2⟩) (Cert.UpReferenceIdeal.Value.run m ρ),
  fun m ρ _ => Cert.EvIn.Gen.frame m ρ, fun m ρ _ => Cert.EvInIdeal.Gen.frame m ρ,
  fun m ρ _ => (θ_run _ _ _).mono (fun r h => ⟨fun c => (h c).2, sem_eq_zero_of_no_sems (by decide) r.2⟩) (Cert.EvInReferenceIdeal.Value.run m ρ),
  fun m ρ _ => Cert.OdIn.Gen.frame m ρ, fun m ρ _ => Cert.OdInIdeal.Gen.frame m ρ,
  fun m ρ _ => (θ_run _ _ _).mono (fun r h => ⟨fun c => (h c).2, sem_eq_zero_of_no_sems (by decide) r.2⟩) (Cert.OdInReferenceIdeal.Value.run m ρ),
  fun m ρ _ => Cert.Out.Gen.frame m ρ, fun m ρ _ => Cert.OutIdeal.Gen.frame m ρ,
  fun m ρ _ => (θ_run _ _ _).mono (fun r h => ⟨fun c => (h c).2, sem_eq_zero_of_no_sems (by decide) r.2⟩) (Cert.OutReferenceIdeal.Value.run m ρ),
  fun m ρ _ => Cert.OdOut.Gen.frame m ρ, fun m ρ _ => Cert.OdOutIdeal.Gen.frame m ρ,
  fun m ρ _ => (θ_run _ _ _).mono (fun r h => ⟨fun c => (h c).2.2, sem_eq_zero_of_no_sems (by decide) r.2⟩) (Cert.OdOutReferenceIdeal.Value.run m ρ),
  fun m ρ _ => Cert.OdOutB.Gen.frame m ρ, fun m ρ _ => Cert.OdOutBIdeal.Gen.frame m ρ,
  fun m ρ _ => (θ_run _ _ _).mono (fun r h => ⟨fun c => (h c).2.2.2, sem_eq_zero_of_no_sems (by decide) r.2⟩) (Cert.OdOutBReferenceIdeal.Value.run m ρ),
  fun m ρ _ => Cert.OdQkv.Gen.frame m ρ, fun m ρ _ => Cert.OdQkvIdeal.Gen.frame m ρ,
  fun m ρ _ => (θ_run _ _ _).mono (fun r h => ⟨fun c => (h c).2.2, sem_eq_zero_of_no_sems (by decide) r.2⟩) (Cert.OdQkvReferenceIdeal.Value.run m ρ),
  fun m ρ _ => Cert.Loss.Gen.frame m ρ, fun m ρ _ => Cert.LossIdeal.Gen.frame m ρ,
  fun m ρ _ => (θ_run _ _ _).mono (fun r h => ⟨fun c => (h c).2.2, sem_eq_zero_of_no_sems (by decide) r.2⟩) (Cert.LossReferenceIdeal.Value.run m ρ),
  fun m ρ _ => Cert.Mod.Gen.frame m ρ, fun m ρ _ => Cert.ModIdeal.Gen.frame m ρ,
  fun m ρ _ => (θ_run _ _ _).mono (fun r h => ⟨fun c => (h c).2, sem_eq_zero_of_no_sems (by decide) r.2⟩) (Cert.ModReferenceIdeal.Value.run m ρ),
  fun m ρ _ => Cert.Ada.Gen.frame m ρ, fun m ρ _ => Cert.AdaIdeal.Gen.frame m ρ,
  fun m ρ _ => (θ_run _ _ _).mono (fun r h => ⟨fun c => (h c).2, sem_eq_zero_of_no_sems (by decide) r.2⟩) (Cert.AdaReferenceIdeal.Value.run m ρ),
  trivial, algebraic, trivial, algebraic_ffn,
  trivial, algebraic_tn, trivial, algebraic_gate, trivial, algebraic_up, trivial, algebraic_evin, trivial, algebraic_odin, trivial, algebraic_out,
  trivial, algebraic_odout, trivial, algebraic_odoutb, trivial, algebraic_odqkv, trivial, algebraic_loss, trivial, algebraic_mod, trivial, algebraic_ada⟩

end Cert.Proof

end
